-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpH (m : (ℓ : Loc Cert.UpH.nD Cert.UpH.τ Cert.UpH.sig) → Buf (Elt Bits) ℓ) : Prop :=
  True

def Pre_UpHIdeal (m : (ℓ : Loc Cert.UpHIdeal.nD Cert.UpHIdeal.τ Cert.UpHIdeal.sig) → Buf (Elt Ideal) ℓ) : Prop :=
  True

def Pre_UpHRefIdeal (m : (ℓ : Loc Cert.UpHRefIdeal.nD Cert.UpHRefIdeal.τ Cert.UpHRefIdeal.sig) → Buf (Elt Ideal) ℓ) : Prop :=
  True

def Pre_UpH1 (m : (ℓ : Loc Cert.UpH1.nD Cert.UpH1.τ Cert.UpH1.sig) → Buf (Elt Bits) ℓ) : Prop :=
  True

def Pre_UpH1Ideal (m : (ℓ : Loc Cert.UpH1Ideal.nD Cert.UpH1Ideal.τ Cert.UpH1Ideal.sig) → Buf (Elt Ideal) ℓ) : Prop :=
  True

def Pre_UpH1RefIdeal (m : (ℓ : Loc Cert.UpH1RefIdeal.nD Cert.UpH1RefIdeal.τ Cert.UpH1RefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_DownH (m : (ℓ : Loc Cert.DownH.nD Cert.DownH.τ Cert.DownH.sig) → Buf (Elt Bits) ℓ) : Prop :=
  True

def Pre_DownHIdeal (m : (ℓ : Loc Cert.DownHIdeal.nD Cert.DownHIdeal.τ Cert.DownHIdeal.sig) → Buf (Elt Ideal) ℓ) : Prop :=
  True

def Pre_DownHRefIdeal (m : (ℓ : Loc Cert.DownHRefIdeal.nD Cert.DownHRefIdeal.τ Cert.DownHRefIdeal.sig) → Buf (Elt Ideal) ℓ) : Prop :=
  True

def Pre_CInW (m : (ℓ : Loc Cert.CInW.nD Cert.CInW.τ Cert.CInW.sig) → Buf (Elt Bits) ℓ) : Prop :=
  True

def Pre_CInWIdeal (m : (ℓ : Loc Cert.CInWIdeal.nD Cert.CInWIdeal.τ Cert.CInWIdeal.sig) → Buf (Elt Ideal) ℓ) : Prop :=
  True

def Pre_CInWRefIdeal (m : (ℓ : Loc Cert.CInWRefIdeal.nD Cert.CInWRefIdeal.τ Cert.CInWRefIdeal.sig) → Buf (Elt Ideal) ℓ) : Prop :=
  True

def Pre_CInH (m : (ℓ : Loc Cert.CInH.nD Cert.CInH.τ Cert.CInH.sig) → Buf (Elt Bits) ℓ) : Prop :=
  True

def Pre_CInHIdeal (m : (ℓ : Loc Cert.CInHIdeal.nD Cert.CInHIdeal.τ Cert.CInHIdeal.sig) → Buf (Elt Ideal) ℓ) : Prop :=
  True

def Pre_CInHRefIdeal (m : (ℓ : Loc Cert.CInHRefIdeal.nD Cert.CInHRefIdeal.τ Cert.CInHRefIdeal.sig) → Buf (Elt Ideal) ℓ) : Prop :=
  True

def Pre_COutW (m : (ℓ : Loc Cert.COutW.nD Cert.COutW.τ Cert.COutW.sig) → Buf (Elt Bits) ℓ) : Prop :=
  True

def Pre_COutWIdeal (m : (ℓ : Loc Cert.COutWIdeal.nD Cert.COutWIdeal.τ Cert.COutWIdeal.sig) → Buf (Elt Ideal) ℓ) : Prop :=
  True

def Pre_COutWRefIdeal (m : (ℓ : Loc Cert.COutWRefIdeal.nD Cert.COutWRefIdeal.τ Cert.COutWRefIdeal.sig) → Buf (Elt Ideal) ℓ) : Prop :=
  True

def Pre_COutH (m : (ℓ : Loc Cert.COutH.nD Cert.COutH.τ Cert.COutH.sig) → Buf (Elt Bits) ℓ) : Prop :=
  True

def Pre_COutHIdeal (m : (ℓ : Loc Cert.COutHIdeal.nD Cert.COutHIdeal.τ Cert.COutHIdeal.sig) → Buf (Elt Ideal) ℓ) : Prop :=
  True

def Pre_COutHRefIdeal (m : (ℓ : Loc Cert.COutHRefIdeal.nD Cert.COutHRefIdeal.τ Cert.COutHRefIdeal.sig) → Buf (Elt Ideal) ℓ) : Prop :=
  True

def Pre_AbOutW (m : (ℓ : Loc Cert.AbOutW.nD Cert.AbOutW.τ Cert.AbOutW.sig) → Buf (Elt Bits) ℓ) : Prop :=
  True

def Pre_AbOutWIdeal (m : (ℓ : Loc Cert.AbOutWIdeal.nD Cert.AbOutWIdeal.τ Cert.AbOutWIdeal.sig) → Buf (Elt Ideal) ℓ) : Prop :=
  True

def Pre_AbOutWRefIdeal (m : (ℓ : Loc Cert.AbOutWRefIdeal.nD Cert.AbOutWRefIdeal.τ Cert.AbOutWRefIdeal.sig) → Buf (Elt Ideal) ℓ) : Prop :=
  True

def Pre_AbOutH (m : (ℓ : Loc Cert.AbOutH.nD Cert.AbOutH.τ Cert.AbOutH.sig) → Buf (Elt Bits) ℓ) : Prop :=
  True

def Pre_AbOutHIdeal (m : (ℓ : Loc Cert.AbOutHIdeal.nD Cert.AbOutHIdeal.τ Cert.AbOutHIdeal.sig) → Buf (Elt Ideal) ℓ) : Prop :=
  True

def Pre_AbOutHRefIdeal (m : (ℓ : Loc Cert.AbOutHRefIdeal.nD Cert.AbOutHRefIdeal.τ Cert.AbOutHRefIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def Pre_CIn (m : (ℓ : Loc Cert.CIn.nD Cert.CIn.τ Cert.CIn.sig) → Buf (Elt Bits) ℓ) : Prop :=
  True

def Pre_CInIdeal (m : (ℓ : Loc Cert.CInIdeal.nD Cert.CInIdeal.τ Cert.CInIdeal.sig) → Buf (Elt Ideal) ℓ) : Prop :=
  True

def Pre_CInRefIdeal (m : (ℓ : Loc Cert.CInRefIdeal.nD Cert.CInRefIdeal.τ Cert.CInRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_COut (m : (ℓ : Loc Cert.COut.nD Cert.COut.τ Cert.COut.sig) → Buf (Elt Bits) ℓ) : Prop :=
  True

def Pre_COutIdeal (m : (ℓ : Loc Cert.COutIdeal.nD Cert.COutIdeal.τ Cert.COutIdeal.sig) → Buf (Elt Ideal) ℓ) : Prop :=
  True

def Pre_COutRefIdeal (m : (ℓ : Loc Cert.COutRefIdeal.nD Cert.COutRefIdeal.τ Cert.COutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ConvGlu (m : (ℓ : Loc Cert.ConvGlu.nD Cert.ConvGlu.τ Cert.ConvGlu.sig) → Buf (Elt Bits) ℓ) : Prop :=
  True

def Pre_ConvGluIdeal (m : (ℓ : Loc Cert.ConvGluIdeal.nD Cert.ConvGluIdeal.τ Cert.ConvGluIdeal.sig) → Buf (Elt Ideal) ℓ) : Prop :=
  True

def Pre_ConvGluIdeal_finite_gate [hPre_finite_gate : Cert.Pre_finite_gate.Facts] (m : (ℓ : Loc Cert.ConvGluIdeal.nD Cert.ConvGluIdeal.τ Cert.ConvGluIdeal.sig) → Buf (Elt Ideal) ℓ) : Prop :=
  ∀ c : Dev Cert.ConvGluIdeal.nD,
    (Cert.Pre_finite_gate.fn (F := Ideal) (m ((c.tc : Thread Cert.ConvGluIdeal.nD Cert.ConvGluIdeal.τ).loc Cert.ConvGluIdeal.main_arg0)) (m ((c.tc : Thread Cert.ConvGluIdeal.nD Cert.ConvGluIdeal.τ).loc Cert.ConvGluIdeal.main_arg1)) (m ((c.tc : Thread Cert.ConvGluIdeal.nD Cert.ConvGluIdeal.τ).loc Cert.ConvGluIdeal.main_arg2)) (m ((c.tc : Thread Cert.ConvGluIdeal.nD Cert.ConvGluIdeal.τ).loc Cert.ConvGluIdeal.main_arg3)) (m ((c.tc : Thread Cert.ConvGluIdeal.nD Cert.ConvGluIdeal.τ).loc Cert.ConvGluIdeal.main_arg4))).1 = (fun _ => 1#1)
    ∧ (Cert.Pre_finite_gate.fn (F := Ideal) (m ((c.tc : Thread Cert.ConvGluIdeal.nD Cert.ConvGluIdeal.τ).loc Cert.ConvGluIdeal.main_arg0)) (m ((c.tc : Thread Cert.ConvGluIdeal.nD Cert.ConvGluIdeal.τ).loc Cert.ConvGluIdeal.main_arg1)) (m ((c.tc : Thread Cert.ConvGluIdeal.nD Cert.ConvGluIdeal.τ).loc Cert.ConvGluIdeal.main_arg2)) (m ((c.tc : Thread Cert.ConvGluIdeal.nD Cert.ConvGluIdeal.τ).loc Cert.ConvGluIdeal.main_arg3)) (m ((c.tc : Thread Cert.ConvGluIdeal.nD Cert.ConvGluIdeal.τ).loc Cert.ConvGluIdeal.main_arg4))).2 = (fun _ => 1#1)

def Pre_ConvGluRefIdeal (m : (ℓ : Loc Cert.ConvGluRefIdeal.nD Cert.ConvGluRefIdeal.τ Cert.ConvGluRefIdeal.sig) → Buf (Elt Ideal) ℓ) : Prop :=
  True

def Pre_ConvGluRefIdeal_finite_gate [hPre_finite_gate : Cert.Pre_finite_gate.Facts] (m : (ℓ : Loc Cert.ConvGluRefIdeal.nD Cert.ConvGluRefIdeal.τ Cert.ConvGluRefIdeal.sig) → Buf (Elt Ideal) ℓ) : Prop :=
  ∀ c : Dev Cert.ConvGluRefIdeal.nD,
    (Cert.Pre_finite_gate.fn (F := Ideal) (m ((c.tc : Thread Cert.ConvGluRefIdeal.nD Cert.ConvGluRefIdeal.τ).loc Cert.ConvGluRefIdeal.main_arg0)) (m ((c.tc : Thread Cert.ConvGluRefIdeal.nD Cert.ConvGluRefIdeal.τ).loc Cert.ConvGluRefIdeal.main_arg1)) (m ((c.tc : Thread Cert.ConvGluRefIdeal.nD Cert.ConvGluRefIdeal.τ).loc Cert.ConvGluRefIdeal.main_arg2)) (m ((c.tc : Thread Cert.ConvGluRefIdeal.nD Cert.ConvGluRefIdeal.τ).loc Cert.ConvGluRefIdeal.main_arg3)) (m ((c.tc : Thread Cert.ConvGluRefIdeal.nD Cert.ConvGluRefIdeal.τ).loc Cert.ConvGluRefIdeal.main_arg4))).1 = (fun _ => 1#1)
    ∧ (Cert.Pre_finite_gate.fn (F := Ideal) (m ((c.tc : Thread Cert.ConvGluRefIdeal.nD Cert.ConvGluRefIdeal.τ).loc Cert.ConvGluRefIdeal.main_arg0)) (m ((c.tc : Thread Cert.ConvGluRefIdeal.nD Cert.ConvGluRefIdeal.τ).loc Cert.ConvGluRefIdeal.main_arg1)) (m ((c.tc : Thread Cert.ConvGluRefIdeal.nD Cert.ConvGluRefIdeal.τ).loc Cert.ConvGluRefIdeal.main_arg2)) (m ((c.tc : Thread Cert.ConvGluRefIdeal.nD Cert.ConvGluRefIdeal.τ).loc Cert.ConvGluRefIdeal.main_arg3)) (m ((c.tc : Thread Cert.ConvGluRefIdeal.nD Cert.ConvGluRefIdeal.τ).loc Cert.ConvGluRefIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_UpH [hUpH : Cert.UpH.Facts] : Prop :=
  ∀ (m : (ℓ : Loc Cert.UpH.nD Cert.UpH.τ Cert.UpH.sig) → Buf (Elt Bits) ℓ) (g : Dev Cert.UpH.nD → PrngReg), Pre_UpH m →
    θ_run (Cert.UpH.defs (F := Bits)) (onTc (τ := Cert.UpH.τ) (Cert.UpH.main (F := Bits))) ⟨m, fun _ => 0, g⟩ (fun r => (∀ c : Dev Cert.UpH.nD,
      r.2.mem ((c.tc : Thread Cert.UpH.nD Cert.UpH.τ).loc Cert.UpH.main_arg0) = m ((c.tc : Thread Cert.UpH.nD Cert.UpH.τ).loc Cert.UpH.main_arg0)
      ∧ r.2.mem ((c.tc : Thread Cert.UpH.nD Cert.UpH.τ).loc Cert.UpH.main_arg1) = m ((c.tc : Thread Cert.UpH.nD Cert.UpH.τ).loc Cert.UpH.main_arg1)
      ∧ r.2.mem ((c.tc : Thread Cert.UpH.nD Cert.UpH.τ).loc Cert.UpH.main_arg2) = m ((c.tc : Thread Cert.UpH.nD Cert.UpH.τ).loc Cert.UpH.main_arg2))
      ∧ r.2.sem = fun _ => 0)

def quiescent_UpHIdeal [hUpHIdeal : Cert.UpHIdeal.Facts] : Prop :=
  ∀ (m : (ℓ : Loc Cert.UpHIdeal.nD Cert.UpHIdeal.τ Cert.UpHIdeal.sig) → Buf (Elt Ideal) ℓ) (g : Dev Cert.UpHIdeal.nD → PrngReg), Pre_UpHIdeal m →
    θ_run (Cert.UpHIdeal.defs (F := Ideal)) (onTc (τ := Cert.UpHIdeal.τ) (Cert.UpHIdeal.main (F := Ideal))) ⟨m, fun _ => 0, g⟩ (fun r => (∀ c : Dev Cert.UpHIdeal.nD,
      r.2.mem ((c.tc : Thread Cert.UpHIdeal.nD Cert.UpHIdeal.τ).loc Cert.UpHIdeal.main_arg0) = m ((c.tc : Thread Cert.UpHIdeal.nD Cert.UpHIdeal.τ).loc Cert.UpHIdeal.main_arg0)
      ∧ r.2.mem ((c.tc : Thread Cert.UpHIdeal.nD Cert.UpHIdeal.τ).loc Cert.UpHIdeal.main_arg1) = m ((c.tc : Thread Cert.UpHIdeal.nD Cert.UpHIdeal.τ).loc Cert.UpHIdeal.main_arg1)
      ∧ r.2.mem ((c.tc : Thread Cert.UpHIdeal.nD Cert.UpHIdeal.τ).loc Cert.UpHIdeal.main_arg2) = m ((c.tc : Thread Cert.UpHIdeal.nD Cert.UpHIdeal.τ).loc Cert.UpHIdeal.main_arg2))
      ∧ r.2.sem = fun _ => 0)

def quiescent_UpHRefIdeal [hUpHRefIdeal : Cert.UpHRefIdeal.Facts] : Prop :=
  ∀ (m : (ℓ : Loc Cert.UpHRefIdeal.nD Cert.UpHRefIdeal.τ Cert.UpHRefIdeal.sig) → Buf (Elt Ideal) ℓ) (g : Dev Cert.UpHRefIdeal.nD → PrngReg), Pre_UpHRefIdeal m →
    θ_run (Cert.UpHRefIdeal.defs (F := Ideal)) (onTc (τ := Cert.UpHRefIdeal.τ) (Cert.UpHRefIdeal.main (F := Ideal))) ⟨m, fun _ => 0, g⟩ (fun r => (∀ c : Dev Cert.UpHRefIdeal.nD,
      r.2.mem ((c.tc : Thread Cert.UpHRefIdeal.nD Cert.UpHRefIdeal.τ).loc Cert.UpHRefIdeal.main_arg0) = m ((c.tc : Thread Cert.UpHRefIdeal.nD Cert.UpHRefIdeal.τ).loc Cert.UpHRefIdeal.main_arg0)
      ∧ r.2.mem ((c.tc : Thread Cert.UpHRefIdeal.nD Cert.UpHRefIdeal.τ).loc Cert.UpHRefIdeal.main_arg1) = m ((c.tc : Thread Cert.UpHRefIdeal.nD Cert.UpHRefIdeal.τ).loc Cert.UpHRefIdeal.main_arg1)
      ∧ r.2.mem ((c.tc : Thread Cert.UpHRefIdeal.nD Cert.UpHRefIdeal.τ).loc Cert.UpHRefIdeal.main_arg2) = m ((c.tc : Thread Cert.UpHRefIdeal.nD Cert.UpHRefIdeal.τ).loc Cert.UpHRefIdeal.main_arg2))
      ∧ r.2.sem = fun _ => 0)

def quiescent_UpH1 [hUpH1 : Cert.UpH1.Facts] : Prop :=
  ∀ (m : (ℓ : Loc Cert.UpH1.nD Cert.UpH1.τ Cert.UpH1.sig) → Buf (Elt Bits) ℓ) (g : Dev Cert.UpH1.nD → PrngReg), Pre_UpH1 m →
    θ_run (Cert.UpH1.defs (F := Bits)) (onTc (τ := Cert.UpH1.τ) (Cert.UpH1.main (F := Bits))) ⟨m, fun _ => 0, g⟩ (fun r => (∀ c : Dev Cert.UpH1.nD,
      r.2.mem ((c.tc : Thread Cert.UpH1.nD Cert.UpH1.τ).loc Cert.UpH1.main_arg0) = m ((c.tc : Thread Cert.UpH1.nD Cert.UpH1.τ).loc Cert.UpH1.main_arg0)
      ∧ r.2.mem ((c.tc : Thread Cert.UpH1.nD Cert.UpH1.τ).loc Cert.UpH1.main_arg1) = m ((c.tc : Thread Cert.UpH1.nD Cert.UpH1.τ).loc Cert.UpH1.main_arg1)
      ∧ r.2.mem ((c.tc : Thread Cert.UpH1.nD Cert.UpH1.τ).loc Cert.UpH1.main_arg2) = m ((c.tc : Thread Cert.UpH1.nD Cert.UpH1.τ).loc Cert.UpH1.main_arg2))
      ∧ r.2.sem = fun _ => 0)

def quiescent_UpH1Ideal [hUpH1Ideal : Cert.UpH1Ideal.Facts] : Prop :=
  ∀ (m : (ℓ : Loc Cert.UpH1Ideal.nD Cert.UpH1Ideal.τ Cert.UpH1Ideal.sig) → Buf (Elt Ideal) ℓ) (g : Dev Cert.UpH1Ideal.nD → PrngReg), Pre_UpH1Ideal m →
    θ_run (Cert.UpH1Ideal.defs (F := Ideal)) (onTc (τ := Cert.UpH1Ideal.τ) (Cert.UpH1Ideal.main (F := Ideal))) ⟨m, fun _ => 0, g⟩ (fun r => (∀ c : Dev Cert.UpH1Ideal.nD,
      r.2.mem ((c.tc : Thread Cert.UpH1Ideal.nD Cert.UpH1Ideal.τ).loc Cert.UpH1Ideal.main_arg0) = m ((c.tc : Thread Cert.UpH1Ideal.nD Cert.UpH1Ideal.τ).loc Cert.UpH1Ideal.main_arg0)
      ∧ r.2.mem ((c.tc : Thread Cert.UpH1Ideal.nD Cert.UpH1Ideal.τ).loc Cert.UpH1Ideal.main_arg1) = m ((c.tc : Thread Cert.UpH1Ideal.nD Cert.UpH1Ideal.τ).loc Cert.UpH1Ideal.main_arg1)
      ∧ r.2.mem ((c.tc : Thread Cert.UpH1Ideal.nD Cert.UpH1Ideal.τ).loc Cert.UpH1Ideal.main_arg2) = m ((c.tc : Thread Cert.UpH1Ideal.nD Cert.UpH1Ideal.τ).loc Cert.UpH1Ideal.main_arg2))
      ∧ r.2.sem = fun _ => 0)

def quiescent_UpH1RefIdeal [hUpH1RefIdeal : Cert.UpH1RefIdeal.Facts] : Prop :=
  ∀ (m : (ℓ : Loc Cert.UpH1RefIdeal.nD Cert.UpH1RefIdeal.τ Cert.UpH1RefIdeal.sig) → Buf (Elt Ideal) ℓ) (g : Dev Cert.UpH1RefIdeal.nD → PrngReg), Pre_UpH1RefIdeal m →
    θ_run (Cert.UpH1RefIdeal.defs (F := Ideal)) (onTc (τ := Cert.UpH1RefIdeal.τ) (Cert.UpH1RefIdeal.main (F := Ideal))) ⟨m, fun _ => 0, g⟩ (fun r => (∀ c : Dev Cert.UpH1RefIdeal.nD,
      r.2.mem ((c.tc : Thread Cert.UpH1RefIdeal.nD Cert.UpH1RefIdeal.τ).loc Cert.UpH1RefIdeal.main_arg0) = m ((c.tc : Thread Cert.UpH1RefIdeal.nD Cert.UpH1RefIdeal.τ).loc Cert.UpH1RefIdeal.main_arg0)
      ∧ r.2.mem ((c.tc : Thread Cert.UpH1RefIdeal.nD Cert.UpH1RefIdeal.τ).loc Cert.UpH1RefIdeal.main_arg1) = m ((c.tc : Thread Cert.UpH1RefIdeal.nD Cert.UpH1RefIdeal.τ).loc Cert.UpH1RefIdeal.main_arg1)
      ∧ r.2.mem ((c.tc : Thread Cert.UpH1RefIdeal.nD Cert.UpH1RefIdeal.τ).loc Cert.UpH1RefIdeal.main_arg2) = m ((c.tc : Thread Cert.UpH1RefIdeal.nD Cert.UpH1RefIdeal.τ).loc Cert.UpH1RefIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_DownH [hDownH : Cert.DownH.Facts] : Prop :=
  ∀ (m : (ℓ : Loc Cert.DownH.nD Cert.DownH.τ Cert.DownH.sig) → Buf (Elt Bits) ℓ) (g : Dev Cert.DownH.nD → PrngReg), Pre_DownH m →
    θ_run (Cert.DownH.defs (F := Bits)) (onTc (τ := Cert.DownH.τ) (Cert.DownH.main (F := Bits))) ⟨m, fun _ => 0, g⟩ (fun r => (∀ c : Dev Cert.DownH.nD,
      r.2.mem ((c.tc : Thread Cert.DownH.nD Cert.DownH.τ).loc Cert.DownH.main_arg0) = m ((c.tc : Thread Cert.DownH.nD Cert.DownH.τ).loc Cert.DownH.main_arg0)
      ∧ r.2.mem ((c.tc : Thread Cert.DownH.nD Cert.DownH.τ).loc Cert.DownH.main_arg1) = m ((c.tc : Thread Cert.DownH.nD Cert.DownH.τ).loc Cert.DownH.main_arg1))
      ∧ r.2.sem = fun _ => 0)

def quiescent_DownHIdeal [hDownHIdeal : Cert.DownHIdeal.Facts] : Prop :=
  ∀ (m : (ℓ : Loc Cert.DownHIdeal.nD Cert.DownHIdeal.τ Cert.DownHIdeal.sig) → Buf (Elt Ideal) ℓ) (g : Dev Cert.DownHIdeal.nD → PrngReg), Pre_DownHIdeal m →
    θ_run (Cert.DownHIdeal.defs (F := Ideal)) (onTc (τ := Cert.DownHIdeal.τ) (Cert.DownHIdeal.main (F := Ideal))) ⟨m, fun _ => 0, g⟩ (fun r => (∀ c : Dev Cert.DownHIdeal.nD,
      r.2.mem ((c.tc : Thread Cert.DownHIdeal.nD Cert.DownHIdeal.τ).loc Cert.DownHIdeal.main_arg0) = m ((c.tc : Thread Cert.DownHIdeal.nD Cert.DownHIdeal.τ).loc Cert.DownHIdeal.main_arg0)
      ∧ r.2.mem ((c.tc : Thread Cert.DownHIdeal.nD Cert.DownHIdeal.τ).loc Cert.DownHIdeal.main_arg1) = m ((c.tc : Thread Cert.DownHIdeal.nD Cert.DownHIdeal.τ).loc Cert.DownHIdeal.main_arg1))
      ∧ r.2.sem = fun _ => 0)

def quiescent_DownHRefIdeal [hDownHRefIdeal : Cert.DownHRefIdeal.Facts] : Prop :=
  ∀ (m : (ℓ : Loc Cert.DownHRefIdeal.nD Cert.DownHRefIdeal.τ Cert.DownHRefIdeal.sig) → Buf (Elt Ideal) ℓ) (g : Dev Cert.DownHRefIdeal.nD → PrngReg), Pre_DownHRefIdeal m →
    θ_run (Cert.DownHRefIdeal.defs (F := Ideal)) (onTc (τ := Cert.DownHRefIdeal.τ) (Cert.DownHRefIdeal.main (F := Ideal))) ⟨m, fun _ => 0, g⟩ (fun r => (∀ c : Dev Cert.DownHRefIdeal.nD,
      r.2.mem ((c.tc : Thread Cert.DownHRefIdeal.nD Cert.DownHRefIdeal.τ).loc Cert.DownHRefIdeal.main_arg0) = m ((c.tc : Thread Cert.DownHRefIdeal.nD Cert.DownHRefIdeal.τ).loc Cert.DownHRefIdeal.main_arg0)
      ∧ r.2.mem ((c.tc : Thread Cert.DownHRefIdeal.nD Cert.DownHRefIdeal.τ).loc Cert.DownHRefIdeal.main_arg1) = m ((c.tc : Thread Cert.DownHRefIdeal.nD Cert.DownHRefIdeal.τ).loc Cert.DownHRefIdeal.main_arg1))
      ∧ r.2.sem = fun _ => 0)

def quiescent_CInW [hCInW : Cert.CInW.Facts] : Prop :=
  ∀ (m : (ℓ : Loc Cert.CInW.nD Cert.CInW.τ Cert.CInW.sig) → Buf (Elt Bits) ℓ) (g : Dev Cert.CInW.nD → PrngReg), Pre_CInW m →
    θ_run (Cert.CInW.defs (F := Bits)) (onTc (τ := Cert.CInW.τ) (Cert.CInW.main (F := Bits))) ⟨m, fun _ => 0, g⟩ (fun r => (∀ c : Dev Cert.CInW.nD,
      r.2.mem ((c.tc : Thread Cert.CInW.nD Cert.CInW.τ).loc Cert.CInW.main_arg0) = m ((c.tc : Thread Cert.CInW.nD Cert.CInW.τ).loc Cert.CInW.main_arg0)
      ∧ r.2.mem ((c.tc : Thread Cert.CInW.nD Cert.CInW.τ).loc Cert.CInW.main_arg1) = m ((c.tc : Thread Cert.CInW.nD Cert.CInW.τ).loc Cert.CInW.main_arg1))
      ∧ r.2.sem = fun _ => 0)

def quiescent_CInWIdeal [hCInWIdeal : Cert.CInWIdeal.Facts] : Prop :=
  ∀ (m : (ℓ : Loc Cert.CInWIdeal.nD Cert.CInWIdeal.τ Cert.CInWIdeal.sig) → Buf (Elt Ideal) ℓ) (g : Dev Cert.CInWIdeal.nD → PrngReg), Pre_CInWIdeal m →
    θ_run (Cert.CInWIdeal.defs (F := Ideal)) (onTc (τ := Cert.CInWIdeal.τ) (Cert.CInWIdeal.main (F := Ideal))) ⟨m, fun _ => 0, g⟩ (fun r => (∀ c : Dev Cert.CInWIdeal.nD,
      r.2.mem ((c.tc : Thread Cert.CInWIdeal.nD Cert.CInWIdeal.τ).loc Cert.CInWIdeal.main_arg0) = m ((c.tc : Thread Cert.CInWIdeal.nD Cert.CInWIdeal.τ).loc Cert.CInWIdeal.main_arg0)
      ∧ r.2.mem ((c.tc : Thread Cert.CInWIdeal.nD Cert.CInWIdeal.τ).loc Cert.CInWIdeal.main_arg1) = m ((c.tc : Thread Cert.CInWIdeal.nD Cert.CInWIdeal.τ).loc Cert.CInWIdeal.main_arg1))
      ∧ r.2.sem = fun _ => 0)

def quiescent_CInWRefIdeal [hCInWRefIdeal : Cert.CInWRefIdeal.Facts] : Prop :=
  ∀ (m : (ℓ : Loc Cert.CInWRefIdeal.nD Cert.CInWRefIdeal.τ Cert.CInWRefIdeal.sig) → Buf (Elt Ideal) ℓ) (g : Dev Cert.CInWRefIdeal.nD → PrngReg), Pre_CInWRefIdeal m →
    θ_run (Cert.CInWRefIdeal.defs (F := Ideal)) (onTc (τ := Cert.CInWRefIdeal.τ) (Cert.CInWRefIdeal.main (F := Ideal))) ⟨m, fun _ => 0, g⟩ (fun r => (∀ c : Dev Cert.CInWRefIdeal.nD,
      r.2.mem ((c.tc : Thread Cert.CInWRefIdeal.nD Cert.CInWRefIdeal.τ).loc Cert.CInWRefIdeal.main_arg0) = m ((c.tc : Thread Cert.CInWRefIdeal.nD Cert.CInWRefIdeal.τ).loc Cert.CInWRefIdeal.main_arg0)
      ∧ r.2.mem ((c.tc : Thread Cert.CInWRefIdeal.nD Cert.CInWRefIdeal.τ).loc Cert.CInWRefIdeal.main_arg1) = m ((c.tc : Thread Cert.CInWRefIdeal.nD Cert.CInWRefIdeal.τ).loc Cert.CInWRefIdeal.main_arg1))
      ∧ r.2.sem = fun _ => 0)

def quiescent_CInH [hCInH : Cert.CInH.Facts] : Prop :=
  ∀ (m : (ℓ : Loc Cert.CInH.nD Cert.CInH.τ Cert.CInH.sig) → Buf (Elt Bits) ℓ) (g : Dev Cert.CInH.nD → PrngReg), Pre_CInH m →
    θ_run (Cert.CInH.defs (F := Bits)) (onTc (τ := Cert.CInH.τ) (Cert.CInH.main (F := Bits))) ⟨m, fun _ => 0, g⟩ (fun r => (∀ c : Dev Cert.CInH.nD,
      r.2.mem ((c.tc : Thread Cert.CInH.nD Cert.CInH.τ).loc Cert.CInH.main_arg0) = m ((c.tc : Thread Cert.CInH.nD Cert.CInH.τ).loc Cert.CInH.main_arg0)
      ∧ r.2.mem ((c.tc : Thread Cert.CInH.nD Cert.CInH.τ).loc Cert.CInH.main_arg1) = m ((c.tc : Thread Cert.CInH.nD Cert.CInH.τ).loc Cert.CInH.main_arg1))
      ∧ r.2.sem = fun _ => 0)

def quiescent_CInHIdeal [hCInHIdeal : Cert.CInHIdeal.Facts] : Prop :=
  ∀ (m : (ℓ : Loc Cert.CInHIdeal.nD Cert.CInHIdeal.τ Cert.CInHIdeal.sig) → Buf (Elt Ideal) ℓ) (g : Dev Cert.CInHIdeal.nD → PrngReg), Pre_CInHIdeal m →
    θ_run (Cert.CInHIdeal.defs (F := Ideal)) (onTc (τ := Cert.CInHIdeal.τ) (Cert.CInHIdeal.main (F := Ideal))) ⟨m, fun _ => 0, g⟩ (fun r => (∀ c : Dev Cert.CInHIdeal.nD,
      r.2.mem ((c.tc : Thread Cert.CInHIdeal.nD Cert.CInHIdeal.τ).loc Cert.CInHIdeal.main_arg0) = m ((c.tc : Thread Cert.CInHIdeal.nD Cert.CInHIdeal.τ).loc Cert.CInHIdeal.main_arg0)
      ∧ r.2.mem ((c.tc : Thread Cert.CInHIdeal.nD Cert.CInHIdeal.τ).loc Cert.CInHIdeal.main_arg1) = m ((c.tc : Thread Cert.CInHIdeal.nD Cert.CInHIdeal.τ).loc Cert.CInHIdeal.main_arg1))
      ∧ r.2.sem = fun _ => 0)

def quiescent_CInHRefIdeal [hCInHRefIdeal : Cert.CInHRefIdeal.Facts] : Prop :=
  ∀ (m : (ℓ : Loc Cert.CInHRefIdeal.nD Cert.CInHRefIdeal.τ Cert.CInHRefIdeal.sig) → Buf (Elt Ideal) ℓ) (g : Dev Cert.CInHRefIdeal.nD → PrngReg), Pre_CInHRefIdeal m →
    θ_run (Cert.CInHRefIdeal.defs (F := Ideal)) (onTc (τ := Cert.CInHRefIdeal.τ) (Cert.CInHRefIdeal.main (F := Ideal))) ⟨m, fun _ => 0, g⟩ (fun r => (∀ c : Dev Cert.CInHRefIdeal.nD,
      r.2.mem ((c.tc : Thread Cert.CInHRefIdeal.nD Cert.CInHRefIdeal.τ).loc Cert.CInHRefIdeal.main_arg0) = m ((c.tc : Thread Cert.CInHRefIdeal.nD Cert.CInHRefIdeal.τ).loc Cert.CInHRefIdeal.main_arg0)
      ∧ r.2.mem ((c.tc : Thread Cert.CInHRefIdeal.nD Cert.CInHRefIdeal.τ).loc Cert.CInHRefIdeal.main_arg1) = m ((c.tc : Thread Cert.CInHRefIdeal.nD Cert.CInHRefIdeal.τ).loc Cert.CInHRefIdeal.main_arg1))
      ∧ r.2.sem = fun _ => 0)

def quiescent_COutW [hCOutW : Cert.COutW.Facts] : Prop :=
  ∀ (m : (ℓ : Loc Cert.COutW.nD Cert.COutW.τ Cert.COutW.sig) → Buf (Elt Bits) ℓ) (g : Dev Cert.COutW.nD → PrngReg), Pre_COutW m →
    θ_run (Cert.COutW.defs (F := Bits)) (onTc (τ := Cert.COutW.τ) (Cert.COutW.main (F := Bits))) ⟨m, fun _ => 0, g⟩ (fun r => (∀ c : Dev Cert.COutW.nD,
      r.2.mem ((c.tc : Thread Cert.COutW.nD Cert.COutW.τ).loc Cert.COutW.main_arg0) = m ((c.tc : Thread Cert.COutW.nD Cert.COutW.τ).loc Cert.COutW.main_arg0)
      ∧ r.2.mem ((c.tc : Thread Cert.COutW.nD Cert.COutW.τ).loc Cert.COutW.main_arg1) = m ((c.tc : Thread Cert.COutW.nD Cert.COutW.τ).loc Cert.COutW.main_arg1))
      ∧ r.2.sem = fun _ => 0)

def quiescent_COutWIdeal [hCOutWIdeal : Cert.COutWIdeal.Facts] : Prop :=
  ∀ (m : (ℓ : Loc Cert.COutWIdeal.nD Cert.COutWIdeal.τ Cert.COutWIdeal.sig) → Buf (Elt Ideal) ℓ) (g : Dev Cert.COutWIdeal.nD → PrngReg), Pre_COutWIdeal m →
    θ_run (Cert.COutWIdeal.defs (F := Ideal)) (onTc (τ := Cert.COutWIdeal.τ) (Cert.COutWIdeal.main (F := Ideal))) ⟨m, fun _ => 0, g⟩ (fun r => (∀ c : Dev Cert.COutWIdeal.nD,
      r.2.mem ((c.tc : Thread Cert.COutWIdeal.nD Cert.COutWIdeal.τ).loc Cert.COutWIdeal.main_arg0) = m ((c.tc : Thread Cert.COutWIdeal.nD Cert.COutWIdeal.τ).loc Cert.COutWIdeal.main_arg0)
      ∧ r.2.mem ((c.tc : Thread Cert.COutWIdeal.nD Cert.COutWIdeal.τ).loc Cert.COutWIdeal.main_arg1) = m ((c.tc : Thread Cert.COutWIdeal.nD Cert.COutWIdeal.τ).loc Cert.COutWIdeal.main_arg1))
      ∧ r.2.sem = fun _ => 0)

def quiescent_COutWRefIdeal [hCOutWRefIdeal : Cert.COutWRefIdeal.Facts] : Prop :=
  ∀ (m : (ℓ : Loc Cert.COutWRefIdeal.nD Cert.COutWRefIdeal.τ Cert.COutWRefIdeal.sig) → Buf (Elt Ideal) ℓ) (g : Dev Cert.COutWRefIdeal.nD → PrngReg), Pre_COutWRefIdeal m →
    θ_run (Cert.COutWRefIdeal.defs (F := Ideal)) (onTc (τ := Cert.COutWRefIdeal.τ) (Cert.COutWRefIdeal.main (F := Ideal))) ⟨m, fun _ => 0, g⟩ (fun r => (∀ c : Dev Cert.COutWRefIdeal.nD,
      r.2.mem ((c.tc : Thread Cert.COutWRefIdeal.nD Cert.COutWRefIdeal.τ).loc Cert.COutWRefIdeal.main_arg0) = m ((c.tc : Thread Cert.COutWRefIdeal.nD Cert.COutWRefIdeal.τ).loc Cert.COutWRefIdeal.main_arg0)
      ∧ r.2.mem ((c.tc : Thread Cert.COutWRefIdeal.nD Cert.COutWRefIdeal.τ).loc Cert.COutWRefIdeal.main_arg1) = m ((c.tc : Thread Cert.COutWRefIdeal.nD Cert.COutWRefIdeal.τ).loc Cert.COutWRefIdeal.main_arg1))
      ∧ r.2.sem = fun _ => 0)

def quiescent_COutH [hCOutH : Cert.COutH.Facts] : Prop :=
  ∀ (m : (ℓ : Loc Cert.COutH.nD Cert.COutH.τ Cert.COutH.sig) → Buf (Elt Bits) ℓ) (g : Dev Cert.COutH.nD → PrngReg), Pre_COutH m →
    θ_run (Cert.COutH.defs (F := Bits)) (onTc (τ := Cert.COutH.τ) (Cert.COutH.main (F := Bits))) ⟨m, fun _ => 0, g⟩ (fun r => (∀ c : Dev Cert.COutH.nD,
      r.2.mem ((c.tc : Thread Cert.COutH.nD Cert.COutH.τ).loc Cert.COutH.main_arg0) = m ((c.tc : Thread Cert.COutH.nD Cert.COutH.τ).loc Cert.COutH.main_arg0)
      ∧ r.2.mem ((c.tc : Thread Cert.COutH.nD Cert.COutH.τ).loc Cert.COutH.main_arg1) = m ((c.tc : Thread Cert.COutH.nD Cert.COutH.τ).loc Cert.COutH.main_arg1))
      ∧ r.2.sem = fun _ => 0)

def quiescent_COutHIdeal [hCOutHIdeal : Cert.COutHIdeal.Facts] : Prop :=
  ∀ (m : (ℓ : Loc Cert.COutHIdeal.nD Cert.COutHIdeal.τ Cert.COutHIdeal.sig) → Buf (Elt Ideal) ℓ) (g : Dev Cert.COutHIdeal.nD → PrngReg), Pre_COutHIdeal m →
    θ_run (Cert.COutHIdeal.defs (F := Ideal)) (onTc (τ := Cert.COutHIdeal.τ) (Cert.COutHIdeal.main (F := Ideal))) ⟨m, fun _ => 0, g⟩ (fun r => (∀ c : Dev Cert.COutHIdeal.nD,
      r.2.mem ((c.tc : Thread Cert.COutHIdeal.nD Cert.COutHIdeal.τ).loc Cert.COutHIdeal.main_arg0) = m ((c.tc : Thread Cert.COutHIdeal.nD Cert.COutHIdeal.τ).loc Cert.COutHIdeal.main_arg0)
      ∧ r.2.mem ((c.tc : Thread Cert.COutHIdeal.nD Cert.COutHIdeal.τ).loc Cert.COutHIdeal.main_arg1) = m ((c.tc : Thread Cert.COutHIdeal.nD Cert.COutHIdeal.τ).loc Cert.COutHIdeal.main_arg1))
      ∧ r.2.sem = fun _ => 0)

def quiescent_COutHRefIdeal [hCOutHRefIdeal : Cert.COutHRefIdeal.Facts] : Prop :=
  ∀ (m : (ℓ : Loc Cert.COutHRefIdeal.nD Cert.COutHRefIdeal.τ Cert.COutHRefIdeal.sig) → Buf (Elt Ideal) ℓ) (g : Dev Cert.COutHRefIdeal.nD → PrngReg), Pre_COutHRefIdeal m →
    θ_run (Cert.COutHRefIdeal.defs (F := Ideal)) (onTc (τ := Cert.COutHRefIdeal.τ) (Cert.COutHRefIdeal.main (F := Ideal))) ⟨m, fun _ => 0, g⟩ (fun r => (∀ c : Dev Cert.COutHRefIdeal.nD,
      r.2.mem ((c.tc : Thread Cert.COutHRefIdeal.nD Cert.COutHRefIdeal.τ).loc Cert.COutHRefIdeal.main_arg0) = m ((c.tc : Thread Cert.COutHRefIdeal.nD Cert.COutHRefIdeal.τ).loc Cert.COutHRefIdeal.main_arg0)
      ∧ r.2.mem ((c.tc : Thread Cert.COutHRefIdeal.nD Cert.COutHRefIdeal.τ).loc Cert.COutHRefIdeal.main_arg1) = m ((c.tc : Thread Cert.COutHRefIdeal.nD Cert.COutHRefIdeal.τ).loc Cert.COutHRefIdeal.main_arg1))
      ∧ r.2.sem = fun _ => 0)

def quiescent_AbOutW [hAbOutW : Cert.AbOutW.Facts] : Prop :=
  ∀ (m : (ℓ : Loc Cert.AbOutW.nD Cert.AbOutW.τ Cert.AbOutW.sig) → Buf (Elt Bits) ℓ) (g : Dev Cert.AbOutW.nD → PrngReg), Pre_AbOutW m →
    θ_run (Cert.AbOutW.defs (F := Bits)) (onTc (τ := Cert.AbOutW.τ) (Cert.AbOutW.main (F := Bits))) ⟨m, fun _ => 0, g⟩ (fun r => (∀ c : Dev Cert.AbOutW.nD,
      r.2.mem ((c.tc : Thread Cert.AbOutW.nD Cert.AbOutW.τ).loc Cert.AbOutW.main_arg0) = m ((c.tc : Thread Cert.AbOutW.nD Cert.AbOutW.τ).loc Cert.AbOutW.main_arg0)
      ∧ r.2.mem ((c.tc : Thread Cert.AbOutW.nD Cert.AbOutW.τ).loc Cert.AbOutW.main_arg1) = m ((c.tc : Thread Cert.AbOutW.nD Cert.AbOutW.τ).loc Cert.AbOutW.main_arg1)
      ∧ r.2.mem ((c.tc : Thread Cert.AbOutW.nD Cert.AbOutW.τ).loc Cert.AbOutW.main_arg2) = m ((c.tc : Thread Cert.AbOutW.nD Cert.AbOutW.τ).loc Cert.AbOutW.main_arg2))
      ∧ r.2.sem = fun _ => 0)

def quiescent_AbOutWIdeal [hAbOutWIdeal : Cert.AbOutWIdeal.Facts] : Prop :=
  ∀ (m : (ℓ : Loc Cert.AbOutWIdeal.nD Cert.AbOutWIdeal.τ Cert.AbOutWIdeal.sig) → Buf (Elt Ideal) ℓ) (g : Dev Cert.AbOutWIdeal.nD → PrngReg), Pre_AbOutWIdeal m →
    θ_run (Cert.AbOutWIdeal.defs (F := Ideal)) (onTc (τ := Cert.AbOutWIdeal.τ) (Cert.AbOutWIdeal.main (F := Ideal))) ⟨m, fun _ => 0, g⟩ (fun r => (∀ c : Dev Cert.AbOutWIdeal.nD,
      r.2.mem ((c.tc : Thread Cert.AbOutWIdeal.nD Cert.AbOutWIdeal.τ).loc Cert.AbOutWIdeal.main_arg0) = m ((c.tc : Thread Cert.AbOutWIdeal.nD Cert.AbOutWIdeal.τ).loc Cert.AbOutWIdeal.main_arg0)
      ∧ r.2.mem ((c.tc : Thread Cert.AbOutWIdeal.nD Cert.AbOutWIdeal.τ).loc Cert.AbOutWIdeal.main_arg1) = m ((c.tc : Thread Cert.AbOutWIdeal.nD Cert.AbOutWIdeal.τ).loc Cert.AbOutWIdeal.main_arg1)
      ∧ r.2.mem ((c.tc : Thread Cert.AbOutWIdeal.nD Cert.AbOutWIdeal.τ).loc Cert.AbOutWIdeal.main_arg2) = m ((c.tc : Thread Cert.AbOutWIdeal.nD Cert.AbOutWIdeal.τ).loc Cert.AbOutWIdeal.main_arg2))
      ∧ r.2.sem = fun _ => 0)

def quiescent_AbOutWRefIdeal [hAbOutWRefIdeal : Cert.AbOutWRefIdeal.Facts] : Prop :=
  ∀ (m : (ℓ : Loc Cert.AbOutWRefIdeal.nD Cert.AbOutWRefIdeal.τ Cert.AbOutWRefIdeal.sig) → Buf (Elt Ideal) ℓ) (g : Dev Cert.AbOutWRefIdeal.nD → PrngReg), Pre_AbOutWRefIdeal m →
    θ_run (Cert.AbOutWRefIdeal.defs (F := Ideal)) (onTc (τ := Cert.AbOutWRefIdeal.τ) (Cert.AbOutWRefIdeal.main (F := Ideal))) ⟨m, fun _ => 0, g⟩ (fun r => (∀ c : Dev Cert.AbOutWRefIdeal.nD,
      r.2.mem ((c.tc : Thread Cert.AbOutWRefIdeal.nD Cert.AbOutWRefIdeal.τ).loc Cert.AbOutWRefIdeal.main_arg0) = m ((c.tc : Thread Cert.AbOutWRefIdeal.nD Cert.AbOutWRefIdeal.τ).loc Cert.AbOutWRefIdeal.main_arg0)
      ∧ r.2.mem ((c.tc : Thread Cert.AbOutWRefIdeal.nD Cert.AbOutWRefIdeal.τ).loc Cert.AbOutWRefIdeal.main_arg1) = m ((c.tc : Thread Cert.AbOutWRefIdeal.nD Cert.AbOutWRefIdeal.τ).loc Cert.AbOutWRefIdeal.main_arg1)
      ∧ r.2.mem ((c.tc : Thread Cert.AbOutWRefIdeal.nD Cert.AbOutWRefIdeal.τ).loc Cert.AbOutWRefIdeal.main_arg2) = m ((c.tc : Thread Cert.AbOutWRefIdeal.nD Cert.AbOutWRefIdeal.τ).loc Cert.AbOutWRefIdeal.main_arg2))
      ∧ r.2.sem = fun _ => 0)

def quiescent_AbOutH [hAbOutH : Cert.AbOutH.Facts] : Prop :=
  ∀ (m : (ℓ : Loc Cert.AbOutH.nD Cert.AbOutH.τ Cert.AbOutH.sig) → Buf (Elt Bits) ℓ) (g : Dev Cert.AbOutH.nD → PrngReg), Pre_AbOutH m →
    θ_run (Cert.AbOutH.defs (F := Bits)) (onTc (τ := Cert.AbOutH.τ) (Cert.AbOutH.main (F := Bits))) ⟨m, fun _ => 0, g⟩ (fun r => (∀ c : Dev Cert.AbOutH.nD,
      r.2.mem ((c.tc : Thread Cert.AbOutH.nD Cert.AbOutH.τ).loc Cert.AbOutH.main_arg0) = m ((c.tc : Thread Cert.AbOutH.nD Cert.AbOutH.τ).loc Cert.AbOutH.main_arg0)
      ∧ r.2.mem ((c.tc : Thread Cert.AbOutH.nD Cert.AbOutH.τ).loc Cert.AbOutH.main_arg1) = m ((c.tc : Thread Cert.AbOutH.nD Cert.AbOutH.τ).loc Cert.AbOutH.main_arg1))
      ∧ r.2.sem = fun _ => 0)

def quiescent_AbOutHIdeal [hAbOutHIdeal : Cert.AbOutHIdeal.Facts] : Prop :=
  ∀ (m : (ℓ : Loc Cert.AbOutHIdeal.nD Cert.AbOutHIdeal.τ Cert.AbOutHIdeal.sig) → Buf (Elt Ideal) ℓ) (g : Dev Cert.AbOutHIdeal.nD → PrngReg), Pre_AbOutHIdeal m →
    θ_run (Cert.AbOutHIdeal.defs (F := Ideal)) (onTc (τ := Cert.AbOutHIdeal.τ) (Cert.AbOutHIdeal.main (F := Ideal))) ⟨m, fun _ => 0, g⟩ (fun r => (∀ c : Dev Cert.AbOutHIdeal.nD,
      r.2.mem ((c.tc : Thread Cert.AbOutHIdeal.nD Cert.AbOutHIdeal.τ).loc Cert.AbOutHIdeal.main_arg0) = m ((c.tc : Thread Cert.AbOutHIdeal.nD Cert.AbOutHIdeal.τ).loc Cert.AbOutHIdeal.main_arg0)
      ∧ r.2.mem ((c.tc : Thread Cert.AbOutHIdeal.nD Cert.AbOutHIdeal.τ).loc Cert.AbOutHIdeal.main_arg1) = m ((c.tc : Thread Cert.AbOutHIdeal.nD Cert.AbOutHIdeal.τ).loc Cert.AbOutHIdeal.main_arg1))
      ∧ r.2.sem = fun _ => 0)

def quiescent_AbOutHRefIdeal [hAbOutHRefIdeal : Cert.AbOutHRefIdeal.Facts] : Prop :=
  ∀ (m : (ℓ : Loc Cert.AbOutHRefIdeal.nD Cert.AbOutHRefIdeal.τ Cert.AbOutHRefIdeal.sig) → Buf (Elt Ideal) ℓ) (g : Dev Cert.AbOutHRefIdeal.nD → PrngReg), Pre_AbOutHRefIdeal m →
    θ_run (Cert.AbOutHRefIdeal.defs (F := Ideal)) (onTc (τ := Cert.AbOutHRefIdeal.τ) (Cert.AbOutHRefIdeal.main (F := Ideal))) ⟨m, fun _ => 0, g⟩ (fun r => (∀ c : Dev Cert.AbOutHRefIdeal.nD,
      r.2.mem ((c.tc : Thread Cert.AbOutHRefIdeal.nD Cert.AbOutHRefIdeal.τ).loc Cert.AbOutHRefIdeal.main_arg0) = m ((c.tc : Thread Cert.AbOutHRefIdeal.nD Cert.AbOutHRefIdeal.τ).loc Cert.AbOutHRefIdeal.main_arg0)
      ∧ r.2.mem ((c.tc : Thread Cert.AbOutHRefIdeal.nD Cert.AbOutHRefIdeal.τ).loc Cert.AbOutHRefIdeal.main_arg1) = m ((c.tc : Thread Cert.AbOutHRefIdeal.nD Cert.AbOutHRefIdeal.τ).loc Cert.AbOutHRefIdeal.main_arg1))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1))
      ∧ r.2.sem = fun _ => 0)

def quiescent_CIn [hCIn : Cert.CIn.Facts] : Prop :=
  ∀ (m : (ℓ : Loc Cert.CIn.nD Cert.CIn.τ Cert.CIn.sig) → Buf (Elt Bits) ℓ) (g : Dev Cert.CIn.nD → PrngReg), Pre_CIn m →
    θ_run (Cert.CIn.defs (F := Bits)) (onTc (τ := Cert.CIn.τ) (Cert.CIn.main (F := Bits))) ⟨m, fun _ => 0, g⟩ (fun r => (∀ c : Dev Cert.CIn.nD,
      r.2.mem ((c.tc : Thread Cert.CIn.nD Cert.CIn.τ).loc Cert.CIn.main_arg0) = m ((c.tc : Thread Cert.CIn.nD Cert.CIn.τ).loc Cert.CIn.main_arg0)
      ∧ r.2.mem ((c.tc : Thread Cert.CIn.nD Cert.CIn.τ).loc Cert.CIn.main_arg1) = m ((c.tc : Thread Cert.CIn.nD Cert.CIn.τ).loc Cert.CIn.main_arg1))
      ∧ r.2.sem = fun _ => 0)

def quiescent_CInIdeal [hCInIdeal : Cert.CInIdeal.Facts] : Prop :=
  ∀ (m : (ℓ : Loc Cert.CInIdeal.nD Cert.CInIdeal.τ Cert.CInIdeal.sig) → Buf (Elt Ideal) ℓ) (g : Dev Cert.CInIdeal.nD → PrngReg), Pre_CInIdeal m →
    θ_run (Cert.CInIdeal.defs (F := Ideal)) (onTc (τ := Cert.CInIdeal.τ) (Cert.CInIdeal.main (F := Ideal))) ⟨m, fun _ => 0, g⟩ (fun r => (∀ c : Dev Cert.CInIdeal.nD,
      r.2.mem ((c.tc : Thread Cert.CInIdeal.nD Cert.CInIdeal.τ).loc Cert.CInIdeal.main_arg0) = m ((c.tc : Thread Cert.CInIdeal.nD Cert.CInIdeal.τ).loc Cert.CInIdeal.main_arg0)
      ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ r.2.sem = fun _ => 0)

def quiescent_CInRefIdeal [hCInRefIdeal : Cert.CInRefIdeal.Facts] : Prop :=
  ∀ (m : (ℓ : Loc Cert.CInRefIdeal.nD Cert.CInRefIdeal.τ Cert.CInRefIdeal.sig) → Buf (Elt Ideal) ℓ) (g : Dev Cert.CInRefIdeal.nD → PrngReg), Pre_CInRefIdeal m →
    θ_run (Cert.CInRefIdeal.defs (F := Ideal)) (onTc (τ := Cert.CInRefIdeal.τ) (Cert.CInRefIdeal.main (F := Ideal))) ⟨m, fun _ => 0, g⟩ (fun r => (∀ c : Dev Cert.CInRefIdeal.nD,
      r.2.mem ((c.tc : Thread Cert.CInRefIdeal.nD Cert.CInRefIdeal.τ).loc Cert.CInRefIdeal.main_arg0) = m ((c.tc : Thread Cert.CInRefIdeal.nD Cert.CInRefIdeal.τ).loc Cert.CInRefIdeal.main_arg0)
      ∧ r.2.mem ((c.tc : Thread Cert.CInRefIdeal.nD Cert.CInRefIdeal.τ).loc Cert.CInRefIdeal.main_arg1) = m ((c.tc : Thread Cert.CInRefIdeal.nD Cert.CInRefIdeal.τ).loc Cert.CInRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4))
      ∧ r.2.sem = fun _ => 0)

def quiescent_COut [hCOut : Cert.COut.Facts] : Prop :=
  ∀ (m : (ℓ : Loc Cert.COut.nD Cert.COut.τ Cert.COut.sig) → Buf (Elt Bits) ℓ) (g : Dev Cert.COut.nD → PrngReg), Pre_COut m →
    θ_run (Cert.COut.defs (F := Bits)) (onTc (τ := Cert.COut.τ) (Cert.COut.main (F := Bits))) ⟨m, fun _ => 0, g⟩ (fun r => (∀ c : Dev Cert.COut.nD,
      r.2.mem ((c.tc : Thread Cert.COut.nD Cert.COut.τ).loc Cert.COut.main_arg0) = m ((c.tc : Thread Cert.COut.nD Cert.COut.τ).loc Cert.COut.main_arg0)
      ∧ r.2.mem ((c.tc : Thread Cert.COut.nD Cert.COut.τ).loc Cert.COut.main_arg1) = m ((c.tc : Thread Cert.COut.nD Cert.COut.τ).loc Cert.COut.main_arg1)
      ∧ r.2.mem ((c.tc : Thread Cert.COut.nD Cert.COut.τ).loc Cert.COut.main_arg2) = m ((c.tc : Thread Cert.COut.nD Cert.COut.τ).loc Cert.COut.main_arg2)
      ∧ r.2.mem ((c.tc : Thread Cert.COut.nD Cert.COut.τ).loc Cert.COut.main_arg3) = m ((c.tc : Thread Cert.COut.nD Cert.COut.τ).loc Cert.COut.main_arg3))
      ∧ r.2.sem = fun _ => 0)

def quiescent_COutIdeal [hCOutIdeal : Cert.COutIdeal.Facts] : Prop :=
  ∀ (m : (ℓ : Loc Cert.COutIdeal.nD Cert.COutIdeal.τ Cert.COutIdeal.sig) → Buf (Elt Ideal) ℓ) (g : Dev Cert.COutIdeal.nD → PrngReg), Pre_COutIdeal m →
    θ_run (Cert.COutIdeal.defs (F := Ideal)) (onTc (τ := Cert.COutIdeal.τ) (Cert.COutIdeal.main (F := Ideal))) ⟨m, fun _ => 0, g⟩ (fun r => (∀ c : Dev Cert.COutIdeal.nD,
      r.2.mem ((c.tc : Thread Cert.COutIdeal.nD Cert.COutIdeal.τ).loc Cert.COutIdeal.main_arg0) = m ((c.tc : Thread Cert.COutIdeal.nD Cert.COutIdeal.τ).loc Cert.COutIdeal.main_arg0)
      ∧ r.2.mem ((c.tc : Thread Cert.COutIdeal.nD Cert.COutIdeal.τ).loc Cert.COutIdeal.main_arg1) = m ((c.tc : Thread Cert.COutIdeal.nD Cert.COutIdeal.τ).loc Cert.COutIdeal.main_arg1)
      ∧ r.2.mem ((c.tc : Thread Cert.COutIdeal.nD Cert.COutIdeal.τ).loc Cert.COutIdeal.main_arg2) = m ((c.tc : Thread Cert.COutIdeal.nD Cert.COutIdeal.τ).loc Cert.COutIdeal.main_arg2)
      ∧ r.2.mem ((c.tc : Thread Cert.COutIdeal.nD Cert.COutIdeal.τ).loc Cert.COutIdeal.main_arg3) = m ((c.tc : Thread Cert.COutIdeal.nD Cert.COutIdeal.τ).loc Cert.COutIdeal.main_arg3))
      ∧ r.2.sem = fun _ => 0)

def quiescent_COutRefIdeal [hCOutRefIdeal : Cert.COutRefIdeal.Facts] : Prop :=
  ∀ (m : (ℓ : Loc Cert.COutRefIdeal.nD Cert.COutRefIdeal.τ Cert.COutRefIdeal.sig) → Buf (Elt Ideal) ℓ) (g : Dev Cert.COutRefIdeal.nD → PrngReg), Pre_COutRefIdeal m →
    θ_run (Cert.COutRefIdeal.defs (F := Ideal)) (onTc (τ := Cert.COutRefIdeal.τ) (Cert.COutRefIdeal.main (F := Ideal))) ⟨m, fun _ => 0, g⟩ (fun r => (∀ c : Dev Cert.COutRefIdeal.nD,
      r.2.mem ((c.tc : Thread Cert.COutRefIdeal.nD Cert.COutRefIdeal.τ).loc Cert.COutRefIdeal.main_arg0) = m ((c.tc : Thread Cert.COutRefIdeal.nD Cert.COutRefIdeal.τ).loc Cert.COutRefIdeal.main_arg0)
      ∧ r.2.mem ((c.tc : Thread Cert.COutRefIdeal.nD Cert.COutRefIdeal.τ).loc Cert.COutRefIdeal.main_arg1) = m ((c.tc : Thread Cert.COutRefIdeal.nD Cert.COutRefIdeal.τ).loc Cert.COutRefIdeal.main_arg1)
      ∧ r.2.mem ((c.tc : Thread Cert.COutRefIdeal.nD Cert.COutRefIdeal.τ).loc Cert.COutRefIdeal.main_arg2) = m ((c.tc : Thread Cert.COutRefIdeal.nD Cert.COutRefIdeal.τ).loc Cert.COutRefIdeal.main_arg2)
      ∧ r.2.mem ((c.tc : Thread Cert.COutRefIdeal.nD Cert.COutRefIdeal.τ).loc Cert.COutRefIdeal.main_arg3) = m ((c.tc : Thread Cert.COutRefIdeal.nD Cert.COutRefIdeal.τ).loc Cert.COutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_ConvGlu [hConvGlu : Cert.ConvGlu.Facts] : Prop :=
  ∀ (m : (ℓ : Loc Cert.ConvGlu.nD Cert.ConvGlu.τ Cert.ConvGlu.sig) → Buf (Elt Bits) ℓ) (g : Dev Cert.ConvGlu.nD → PrngReg), Pre_ConvGlu m →
    θ_run (Cert.ConvGlu.defs (F := Bits)) (onTc (τ := Cert.ConvGlu.τ) (Cert.ConvGlu.main (F := Bits))) ⟨m, fun _ => 0, g⟩ (fun r => (∀ c : Dev Cert.ConvGlu.nD,
      r.2.mem ((c.tc : Thread Cert.ConvGlu.nD Cert.ConvGlu.τ).loc Cert.ConvGlu.main_arg0) = m ((c.tc : Thread Cert.ConvGlu.nD Cert.ConvGlu.τ).loc Cert.ConvGlu.main_arg0)
      ∧ r.2.mem ((c.tc : Thread Cert.ConvGlu.nD Cert.ConvGlu.τ).loc Cert.ConvGlu.main_arg1) = m ((c.tc : Thread Cert.ConvGlu.nD Cert.ConvGlu.τ).loc Cert.ConvGlu.main_arg1)
      ∧ r.2.mem ((c.tc : Thread Cert.ConvGlu.nD Cert.ConvGlu.τ).loc Cert.ConvGlu.main_arg2) = m ((c.tc : Thread Cert.ConvGlu.nD Cert.ConvGlu.τ).loc Cert.ConvGlu.main_arg2)
      ∧ r.2.mem ((c.tc : Thread Cert.ConvGlu.nD Cert.ConvGlu.τ).loc Cert.ConvGlu.main_arg3) = m ((c.tc : Thread Cert.ConvGlu.nD Cert.ConvGlu.τ).loc Cert.ConvGlu.main_arg3)
      ∧ r.2.mem ((c.tc : Thread Cert.ConvGlu.nD Cert.ConvGlu.τ).loc Cert.ConvGlu.main_arg4) = m ((c.tc : Thread Cert.ConvGlu.nD Cert.ConvGlu.τ).loc Cert.ConvGlu.main_arg4))
      ∧ r.2.sem = fun _ => 0)

def quiescent_ConvGluIdeal [hConvGluIdeal : Cert.ConvGluIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
      ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
      ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3)
      ∧ r.2.mem ((c.tc : Thread Cert.ConvGluIdeal.nD Cert.ConvGluIdeal.τ).loc Cert.ConvGluIdeal.main_arg4) = m ((c.tc : Thread Cert.ConvGluIdeal.nD Cert.ConvGluIdeal.τ).loc Cert.ConvGluIdeal.main_arg4))
      ∧ r.2.sem = fun _ => 0)

def quiescent_ConvGluIdeal_pre_finite_gate [hConvGluIdeal : Cert.ConvGluIdeal.Facts] [hPre_finite_gate : Cert.Pre_finite_gate.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal_finite_gate m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
      ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
      ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3)
      ∧ r.2.mem ((c.tc : Thread Cert.ConvGluIdeal.nD Cert.ConvGluIdeal.τ).loc Cert.ConvGluIdeal.main_arg4) = m ((c.tc : Thread Cert.ConvGluIdeal.nD Cert.ConvGluIdeal.τ).loc Cert.ConvGluIdeal.main_arg4))
      ∧ r.2.sem = fun _ => 0)

def quiescent_ConvGluRefIdeal [hConvGluRefIdeal : Cert.ConvGluRefIdeal.Facts] : Prop :=
  ∀ (m : (ℓ : Loc Cert.ConvGluRefIdeal.nD Cert.ConvGluRefIdeal.τ Cert.ConvGluRefIdeal.sig) → Buf (Elt Ideal) ℓ) (g : Dev Cert.ConvGluRefIdeal.nD → PrngReg), Pre_ConvGluRefIdeal m →
    θ_run (Cert.ConvGluRefIdeal.defs (F := Ideal)) (onTc (τ := Cert.ConvGluRefIdeal.τ) (Cert.ConvGluRefIdeal.main (F := Ideal))) ⟨m, fun _ => 0, g⟩ (fun r => (∀ c : Dev Cert.ConvGluRefIdeal.nD,
      r.2.mem ((c.tc : Thread Cert.ConvGluRefIdeal.nD Cert.ConvGluRefIdeal.τ).loc Cert.ConvGluRefIdeal.main_arg0) = m ((c.tc : Thread Cert.ConvGluRefIdeal.nD Cert.ConvGluRefIdeal.τ).loc Cert.ConvGluRefIdeal.main_arg0)
      ∧ r.2.mem ((c.tc : Thread Cert.ConvGluRefIdeal.nD Cert.ConvGluRefIdeal.τ).loc Cert.ConvGluRefIdeal.main_arg1) = m ((c.tc : Thread Cert.ConvGluRefIdeal.nD Cert.ConvGluRefIdeal.τ).loc Cert.ConvGluRefIdeal.main_arg1)
      ∧ r.2.mem ((c.tc : Thread Cert.ConvGluRefIdeal.nD Cert.ConvGluRefIdeal.τ).loc Cert.ConvGluRefIdeal.main_arg2) = m ((c.tc : Thread Cert.ConvGluRefIdeal.nD Cert.ConvGluRefIdeal.τ).loc Cert.ConvGluRefIdeal.main_arg2)
      ∧ r.2.mem ((c.tc : Thread Cert.ConvGluRefIdeal.nD Cert.ConvGluRefIdeal.τ).loc Cert.ConvGluRefIdeal.main_arg3) = m ((c.tc : Thread Cert.ConvGluRefIdeal.nD Cert.ConvGluRefIdeal.τ).loc Cert.ConvGluRefIdeal.main_arg3)
      ∧ r.2.mem ((c.tc : Thread Cert.ConvGluRefIdeal.nD Cert.ConvGluRefIdeal.τ).loc Cert.ConvGluRefIdeal.main_arg4) = m ((c.tc : Thread Cert.ConvGluRefIdeal.nD Cert.ConvGluRefIdeal.τ).loc Cert.ConvGluRefIdeal.main_arg4))
      ∧ r.2.sem = fun _ => 0)

def quiescent_ConvGluRefIdeal_pre_finite_gate [hConvGluRefIdeal : Cert.ConvGluRefIdeal.Facts] [hPre_finite_gate : Cert.Pre_finite_gate.Facts] : Prop :=
  ∀ (m : (ℓ : Loc Cert.ConvGluRefIdeal.nD Cert.ConvGluRefIdeal.τ Cert.ConvGluRefIdeal.sig) → Buf (Elt Ideal) ℓ) (g : Dev Cert.ConvGluRefIdeal.nD → PrngReg), Pre_ConvGluRefIdeal_finite_gate m →
    θ_run (Cert.ConvGluRefIdeal.defs (F := Ideal)) (onTc (τ := Cert.ConvGluRefIdeal.τ) (Cert.ConvGluRefIdeal.main (F := Ideal))) ⟨m, fun _ => 0, g⟩ (fun r => (∀ c : Dev Cert.ConvGluRefIdeal.nD,
      r.2.mem ((c.tc : Thread Cert.ConvGluRefIdeal.nD Cert.ConvGluRefIdeal.τ).loc Cert.ConvGluRefIdeal.main_arg0) = m ((c.tc : Thread Cert.ConvGluRefIdeal.nD Cert.ConvGluRefIdeal.τ).loc Cert.ConvGluRefIdeal.main_arg0)
      ∧ r.2.mem ((c.tc : Thread Cert.ConvGluRefIdeal.nD Cert.ConvGluRefIdeal.τ).loc Cert.ConvGluRefIdeal.main_arg1) = m ((c.tc : Thread Cert.ConvGluRefIdeal.nD Cert.ConvGluRefIdeal.τ).loc Cert.ConvGluRefIdeal.main_arg1)
      ∧ r.2.mem ((c.tc : Thread Cert.ConvGluRefIdeal.nD Cert.ConvGluRefIdeal.τ).loc Cert.ConvGluRefIdeal.main_arg2) = m ((c.tc : Thread Cert.ConvGluRefIdeal.nD Cert.ConvGluRefIdeal.τ).loc Cert.ConvGluRefIdeal.main_arg2)
      ∧ r.2.mem ((c.tc : Thread Cert.ConvGluRefIdeal.nD Cert.ConvGluRefIdeal.τ).loc Cert.ConvGluRefIdeal.main_arg3) = m ((c.tc : Thread Cert.ConvGluRefIdeal.nD Cert.ConvGluRefIdeal.τ).loc Cert.ConvGluRefIdeal.main_arg3)
      ∧ r.2.mem ((c.tc : Thread Cert.ConvGluRefIdeal.nD Cert.ConvGluRefIdeal.τ).loc Cert.ConvGluRefIdeal.main_arg4) = m ((c.tc : Thread Cert.ConvGluRefIdeal.nD Cert.ConvGluRefIdeal.τ).loc Cert.ConvGluRefIdeal.main_arg4))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v7) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_UpH_UpHIdeal : Prop :=
  True

def algebraic_UpHIdeal_UpHRefIdeal [hUpHIdeal : Cert.UpHIdeal.Facts] [hUpHRefIdeal : Cert.UpHRefIdeal.Facts] : Prop :=
  ∀ (m : (ℓ : Loc Cert.UpHIdeal.nD Cert.UpHIdeal.τ Cert.UpHIdeal.sig) → Buf (Elt Ideal) ℓ) (g : Dev Cert.UpHIdeal.nD → PrngReg)
    (m' : (ℓ : Loc Cert.UpHRefIdeal.nD Cert.UpHRefIdeal.τ Cert.UpHRefIdeal.sig) → Buf (Elt Ideal) ℓ) (g' : Dev Cert.UpHRefIdeal.nD → PrngReg), Pre_UpHIdeal m →
    (∀ c : Dev Cert.UpHIdeal.nD,
      m' ((c.tc : Thread Cert.UpHRefIdeal.nD Cert.UpHRefIdeal.τ).loc Cert.UpHRefIdeal.main_arg0) = m ((c.tc : Thread Cert.UpHIdeal.nD Cert.UpHIdeal.τ).loc Cert.UpHIdeal.main_arg0)
      ∧ m' ((c.tc : Thread Cert.UpHRefIdeal.nD Cert.UpHRefIdeal.τ).loc Cert.UpHRefIdeal.main_arg1) = m ((c.tc : Thread Cert.UpHIdeal.nD Cert.UpHIdeal.τ).loc Cert.UpHIdeal.main_arg1)
      ∧ m' ((c.tc : Thread Cert.UpHRefIdeal.nD Cert.UpHRefIdeal.τ).loc Cert.UpHRefIdeal.main_arg2) = m ((c.tc : Thread Cert.UpHIdeal.nD Cert.UpHIdeal.τ).loc Cert.UpHIdeal.main_arg2)) →
    ∃ (v0 : (c : Dev Cert.UpHIdeal.nD) → Buf (Elt Ideal) ((c.tc : Thread Cert.UpHIdeal.nD Cert.UpHIdeal.τ).loc Cert.UpHIdeal.main_v3)),
      θ_run (Cert.UpHIdeal.defs (F := Ideal)) (onTc (τ := Cert.UpHIdeal.τ) (Cert.UpHIdeal.main (F := Ideal))) ⟨m, fun _ => 0, g⟩ (fun r => ∀ c : Dev Cert.UpHIdeal.nD,
          r.2.mem ((c.tc : Thread Cert.UpHIdeal.nD Cert.UpHIdeal.τ).loc Cert.UpHIdeal.main_v3) = v0 c
          ∧ r.2.mem ((c.tc : Thread Cert.UpHIdeal.nD Cert.UpHIdeal.τ).loc Cert.UpHIdeal.main_arg0) = m ((c.tc : Thread Cert.UpHIdeal.nD Cert.UpHIdeal.τ).loc Cert.UpHIdeal.main_arg0)
          ∧ r.2.mem ((c.tc : Thread Cert.UpHIdeal.nD Cert.UpHIdeal.τ).loc Cert.UpHIdeal.main_arg1) = m ((c.tc : Thread Cert.UpHIdeal.nD Cert.UpHIdeal.τ).loc Cert.UpHIdeal.main_arg1)
          ∧ r.2.mem ((c.tc : Thread Cert.UpHIdeal.nD Cert.UpHIdeal.τ).loc Cert.UpHIdeal.main_arg2) = m ((c.tc : Thread Cert.UpHIdeal.nD Cert.UpHIdeal.τ).loc Cert.UpHIdeal.main_arg2))
      ∧ θ_run (Cert.UpHRefIdeal.defs (F := Ideal)) (onTc (τ := Cert.UpHRefIdeal.τ) (Cert.UpHRefIdeal.main (F := Ideal))) ⟨m', fun _ => 0, g'⟩ (fun r => ∀ c : Dev Cert.UpHRefIdeal.nD,
          r.2.mem ((c.tc : Thread Cert.UpHRefIdeal.nD Cert.UpHRefIdeal.τ).loc Cert.UpHRefIdeal.main_v7) = v0 c
          ∧ r.2.mem ((c.tc : Thread Cert.UpHRefIdeal.nD Cert.UpHRefIdeal.τ).loc Cert.UpHRefIdeal.main_arg0) = m' ((c.tc : Thread Cert.UpHRefIdeal.nD Cert.UpHRefIdeal.τ).loc Cert.UpHRefIdeal.main_arg0)
          ∧ r.2.mem ((c.tc : Thread Cert.UpHRefIdeal.nD Cert.UpHRefIdeal.τ).loc Cert.UpHRefIdeal.main_arg1) = m' ((c.tc : Thread Cert.UpHRefIdeal.nD Cert.UpHRefIdeal.τ).loc Cert.UpHRefIdeal.main_arg1)
          ∧ r.2.mem ((c.tc : Thread Cert.UpHRefIdeal.nD Cert.UpHRefIdeal.τ).loc Cert.UpHRefIdeal.main_arg2) = m' ((c.tc : Thread Cert.UpHRefIdeal.nD Cert.UpHRefIdeal.τ).loc Cert.UpHRefIdeal.main_arg2))

def preserves_UpH1_UpH1Ideal : Prop :=
  True

def algebraic_UpH1Ideal_UpH1RefIdeal [hUpH1Ideal : Cert.UpH1Ideal.Facts] [hUpH1RefIdeal : Cert.UpH1RefIdeal.Facts] : Prop :=
  ∀ (m : (ℓ : Loc Cert.UpH1Ideal.nD Cert.UpH1Ideal.τ Cert.UpH1Ideal.sig) → Buf (Elt Ideal) ℓ) (g : Dev Cert.UpH1Ideal.nD → PrngReg)
    (m' : (ℓ : Loc Cert.UpH1RefIdeal.nD Cert.UpH1RefIdeal.τ Cert.UpH1RefIdeal.sig) → Buf (Elt Ideal) ℓ) (g' : Dev Cert.UpH1RefIdeal.nD → PrngReg), Pre_UpH1Ideal m →
    (∀ c : Dev Cert.UpH1Ideal.nD,
      m' ((c.tc : Thread Cert.UpH1RefIdeal.nD Cert.UpH1RefIdeal.τ).loc Cert.UpH1RefIdeal.main_arg0) = m ((c.tc : Thread Cert.UpH1Ideal.nD Cert.UpH1Ideal.τ).loc Cert.UpH1Ideal.main_arg0)
      ∧ m' ((c.tc : Thread Cert.UpH1RefIdeal.nD Cert.UpH1RefIdeal.τ).loc Cert.UpH1RefIdeal.main_arg1) = m ((c.tc : Thread Cert.UpH1Ideal.nD Cert.UpH1Ideal.τ).loc Cert.UpH1Ideal.main_arg1)
      ∧ m' ((c.tc : Thread Cert.UpH1RefIdeal.nD Cert.UpH1RefIdeal.τ).loc Cert.UpH1RefIdeal.main_arg2) = m ((c.tc : Thread Cert.UpH1Ideal.nD Cert.UpH1Ideal.τ).loc Cert.UpH1Ideal.main_arg2)) →
    ∃ (v0 : (c : Dev Cert.UpH1Ideal.nD) → Buf (Elt Ideal) ((c.tc : Thread Cert.UpH1Ideal.nD Cert.UpH1Ideal.τ).loc Cert.UpH1Ideal.main_v3)),
      θ_run (Cert.UpH1Ideal.defs (F := Ideal)) (onTc (τ := Cert.UpH1Ideal.τ) (Cert.UpH1Ideal.main (F := Ideal))) ⟨m, fun _ => 0, g⟩ (fun r => ∀ c : Dev Cert.UpH1Ideal.nD,
          r.2.mem ((c.tc : Thread Cert.UpH1Ideal.nD Cert.UpH1Ideal.τ).loc Cert.UpH1Ideal.main_v3) = v0 c
          ∧ r.2.mem ((c.tc : Thread Cert.UpH1Ideal.nD Cert.UpH1Ideal.τ).loc Cert.UpH1Ideal.main_arg0) = m ((c.tc : Thread Cert.UpH1Ideal.nD Cert.UpH1Ideal.τ).loc Cert.UpH1Ideal.main_arg0)
          ∧ r.2.mem ((c.tc : Thread Cert.UpH1Ideal.nD Cert.UpH1Ideal.τ).loc Cert.UpH1Ideal.main_arg1) = m ((c.tc : Thread Cert.UpH1Ideal.nD Cert.UpH1Ideal.τ).loc Cert.UpH1Ideal.main_arg1)
          ∧ r.2.mem ((c.tc : Thread Cert.UpH1Ideal.nD Cert.UpH1Ideal.τ).loc Cert.UpH1Ideal.main_arg2) = m ((c.tc : Thread Cert.UpH1Ideal.nD Cert.UpH1Ideal.τ).loc Cert.UpH1Ideal.main_arg2))
      ∧ θ_run (Cert.UpH1RefIdeal.defs (F := Ideal)) (onTc (τ := Cert.UpH1RefIdeal.τ) (Cert.UpH1RefIdeal.main (F := Ideal))) ⟨m', fun _ => 0, g'⟩ (fun r => ∀ c : Dev Cert.UpH1RefIdeal.nD,
          r.2.mem ((c.tc : Thread Cert.UpH1RefIdeal.nD Cert.UpH1RefIdeal.τ).loc Cert.UpH1RefIdeal.main_v7) = v0 c
          ∧ r.2.mem ((c.tc : Thread Cert.UpH1RefIdeal.nD Cert.UpH1RefIdeal.τ).loc Cert.UpH1RefIdeal.main_arg0) = m' ((c.tc : Thread Cert.UpH1RefIdeal.nD Cert.UpH1RefIdeal.τ).loc Cert.UpH1RefIdeal.main_arg0)
          ∧ r.2.mem ((c.tc : Thread Cert.UpH1RefIdeal.nD Cert.UpH1RefIdeal.τ).loc Cert.UpH1RefIdeal.main_arg1) = m' ((c.tc : Thread Cert.UpH1RefIdeal.nD Cert.UpH1RefIdeal.τ).loc Cert.UpH1RefIdeal.main_arg1)
          ∧ r.2.mem ((c.tc : Thread Cert.UpH1RefIdeal.nD Cert.UpH1RefIdeal.τ).loc Cert.UpH1RefIdeal.main_arg2) = m' ((c.tc : Thread Cert.UpH1RefIdeal.nD Cert.UpH1RefIdeal.τ).loc Cert.UpH1RefIdeal.main_arg2))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v6) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_DownH_DownHIdeal : Prop :=
  True

def algebraic_DownHIdeal_DownHRefIdeal [hDownHIdeal : Cert.DownHIdeal.Facts] [hDownHRefIdeal : Cert.DownHRefIdeal.Facts] : Prop :=
  ∀ (m : (ℓ : Loc Cert.DownHIdeal.nD Cert.DownHIdeal.τ Cert.DownHIdeal.sig) → Buf (Elt Ideal) ℓ) (g : Dev Cert.DownHIdeal.nD → PrngReg)
    (m' : (ℓ : Loc Cert.DownHRefIdeal.nD Cert.DownHRefIdeal.τ Cert.DownHRefIdeal.sig) → Buf (Elt Ideal) ℓ) (g' : Dev Cert.DownHRefIdeal.nD → PrngReg), Pre_DownHIdeal m →
    (∀ c : Dev Cert.DownHIdeal.nD,
      m' ((c.tc : Thread Cert.DownHRefIdeal.nD Cert.DownHRefIdeal.τ).loc Cert.DownHRefIdeal.main_arg0) = m ((c.tc : Thread Cert.DownHIdeal.nD Cert.DownHIdeal.τ).loc Cert.DownHIdeal.main_arg0)
      ∧ m' ((c.tc : Thread Cert.DownHRefIdeal.nD Cert.DownHRefIdeal.τ).loc Cert.DownHRefIdeal.main_arg1) = m ((c.tc : Thread Cert.DownHIdeal.nD Cert.DownHIdeal.τ).loc Cert.DownHIdeal.main_arg1)) →
    ∃ (v0 : (c : Dev Cert.DownHIdeal.nD) → Buf (Elt Ideal) ((c.tc : Thread Cert.DownHIdeal.nD Cert.DownHIdeal.τ).loc Cert.DownHIdeal.main_v1)),
      θ_run (Cert.DownHIdeal.defs (F := Ideal)) (onTc (τ := Cert.DownHIdeal.τ) (Cert.DownHIdeal.main (F := Ideal))) ⟨m, fun _ => 0, g⟩ (fun r => ∀ c : Dev Cert.DownHIdeal.nD,
          r.2.mem ((c.tc : Thread Cert.DownHIdeal.nD Cert.DownHIdeal.τ).loc Cert.DownHIdeal.main_v1) = v0 c
          ∧ r.2.mem ((c.tc : Thread Cert.DownHIdeal.nD Cert.DownHIdeal.τ).loc Cert.DownHIdeal.main_arg0) = m ((c.tc : Thread Cert.DownHIdeal.nD Cert.DownHIdeal.τ).loc Cert.DownHIdeal.main_arg0)
          ∧ r.2.mem ((c.tc : Thread Cert.DownHIdeal.nD Cert.DownHIdeal.τ).loc Cert.DownHIdeal.main_arg1) = m ((c.tc : Thread Cert.DownHIdeal.nD Cert.DownHIdeal.τ).loc Cert.DownHIdeal.main_arg1))
      ∧ θ_run (Cert.DownHRefIdeal.defs (F := Ideal)) (onTc (τ := Cert.DownHRefIdeal.τ) (Cert.DownHRefIdeal.main (F := Ideal))) ⟨m', fun _ => 0, g'⟩ (fun r => ∀ c : Dev Cert.DownHRefIdeal.nD,
          r.2.mem ((c.tc : Thread Cert.DownHRefIdeal.nD Cert.DownHRefIdeal.τ).loc Cert.DownHRefIdeal.main_v3) = v0 c
          ∧ r.2.mem ((c.tc : Thread Cert.DownHRefIdeal.nD Cert.DownHRefIdeal.τ).loc Cert.DownHRefIdeal.main_arg0) = m' ((c.tc : Thread Cert.DownHRefIdeal.nD Cert.DownHRefIdeal.τ).loc Cert.DownHRefIdeal.main_arg0)
          ∧ r.2.mem ((c.tc : Thread Cert.DownHRefIdeal.nD Cert.DownHRefIdeal.τ).loc Cert.DownHRefIdeal.main_arg1) = m' ((c.tc : Thread Cert.DownHRefIdeal.nD Cert.DownHRefIdeal.τ).loc Cert.DownHRefIdeal.main_arg1))

def preserves_CInW_CInWIdeal : Prop :=
  True

def algebraic_CInWIdeal_CInWRefIdeal [hCInWIdeal : Cert.CInWIdeal.Facts] [hCInWRefIdeal : Cert.CInWRefIdeal.Facts] : Prop :=
  ∀ (m : (ℓ : Loc Cert.CInWIdeal.nD Cert.CInWIdeal.τ Cert.CInWIdeal.sig) → Buf (Elt Ideal) ℓ) (g : Dev Cert.CInWIdeal.nD → PrngReg)
    (m' : (ℓ : Loc Cert.CInWRefIdeal.nD Cert.CInWRefIdeal.τ Cert.CInWRefIdeal.sig) → Buf (Elt Ideal) ℓ) (g' : Dev Cert.CInWRefIdeal.nD → PrngReg), Pre_CInWIdeal m →
    (∀ c : Dev Cert.CInWIdeal.nD,
      m' ((c.tc : Thread Cert.CInWRefIdeal.nD Cert.CInWRefIdeal.τ).loc Cert.CInWRefIdeal.main_arg0) = m ((c.tc : Thread Cert.CInWIdeal.nD Cert.CInWIdeal.τ).loc Cert.CInWIdeal.main_arg0)
      ∧ m' ((c.tc : Thread Cert.CInWRefIdeal.nD Cert.CInWRefIdeal.τ).loc Cert.CInWRefIdeal.main_arg1) = m ((c.tc : Thread Cert.CInWIdeal.nD Cert.CInWIdeal.τ).loc Cert.CInWIdeal.main_arg1)) →
    ∃ (v0 : (c : Dev Cert.CInWIdeal.nD) → Buf (Elt Ideal) ((c.tc : Thread Cert.CInWIdeal.nD Cert.CInWIdeal.τ).loc Cert.CInWIdeal.main_v0)),
      θ_run (Cert.CInWIdeal.defs (F := Ideal)) (onTc (τ := Cert.CInWIdeal.τ) (Cert.CInWIdeal.main (F := Ideal))) ⟨m, fun _ => 0, g⟩ (fun r => ∀ c : Dev Cert.CInWIdeal.nD,
          r.2.mem ((c.tc : Thread Cert.CInWIdeal.nD Cert.CInWIdeal.τ).loc Cert.CInWIdeal.main_v0) = v0 c
          ∧ r.2.mem ((c.tc : Thread Cert.CInWIdeal.nD Cert.CInWIdeal.τ).loc Cert.CInWIdeal.main_arg0) = m ((c.tc : Thread Cert.CInWIdeal.nD Cert.CInWIdeal.τ).loc Cert.CInWIdeal.main_arg0)
          ∧ r.2.mem ((c.tc : Thread Cert.CInWIdeal.nD Cert.CInWIdeal.τ).loc Cert.CInWIdeal.main_arg1) = m ((c.tc : Thread Cert.CInWIdeal.nD Cert.CInWIdeal.τ).loc Cert.CInWIdeal.main_arg1))
      ∧ θ_run (Cert.CInWRefIdeal.defs (F := Ideal)) (onTc (τ := Cert.CInWRefIdeal.τ) (Cert.CInWRefIdeal.main (F := Ideal))) ⟨m', fun _ => 0, g'⟩ (fun r => ∀ c : Dev Cert.CInWRefIdeal.nD,
          r.2.mem ((c.tc : Thread Cert.CInWRefIdeal.nD Cert.CInWRefIdeal.τ).loc Cert.CInWRefIdeal.main_v6) = v0 c
          ∧ r.2.mem ((c.tc : Thread Cert.CInWRefIdeal.nD Cert.CInWRefIdeal.τ).loc Cert.CInWRefIdeal.main_arg0) = m' ((c.tc : Thread Cert.CInWRefIdeal.nD Cert.CInWRefIdeal.τ).loc Cert.CInWRefIdeal.main_arg0)
          ∧ r.2.mem ((c.tc : Thread Cert.CInWRefIdeal.nD Cert.CInWRefIdeal.τ).loc Cert.CInWRefIdeal.main_arg1) = m' ((c.tc : Thread Cert.CInWRefIdeal.nD Cert.CInWRefIdeal.τ).loc Cert.CInWRefIdeal.main_arg1))

def preserves_CInH_CInHIdeal : Prop :=
  True

def algebraic_CInHIdeal_CInHRefIdeal [hCInHIdeal : Cert.CInHIdeal.Facts] [hCInHRefIdeal : Cert.CInHRefIdeal.Facts] : Prop :=
  ∀ (m : (ℓ : Loc Cert.CInHIdeal.nD Cert.CInHIdeal.τ Cert.CInHIdeal.sig) → Buf (Elt Ideal) ℓ) (g : Dev Cert.CInHIdeal.nD → PrngReg)
    (m' : (ℓ : Loc Cert.CInHRefIdeal.nD Cert.CInHRefIdeal.τ Cert.CInHRefIdeal.sig) → Buf (Elt Ideal) ℓ) (g' : Dev Cert.CInHRefIdeal.nD → PrngReg), Pre_CInHIdeal m →
    (∀ c : Dev Cert.CInHIdeal.nD,
      m' ((c.tc : Thread Cert.CInHRefIdeal.nD Cert.CInHRefIdeal.τ).loc Cert.CInHRefIdeal.main_arg0) = m ((c.tc : Thread Cert.CInHIdeal.nD Cert.CInHIdeal.τ).loc Cert.CInHIdeal.main_arg0)
      ∧ m' ((c.tc : Thread Cert.CInHRefIdeal.nD Cert.CInHRefIdeal.τ).loc Cert.CInHRefIdeal.main_arg1) = m ((c.tc : Thread Cert.CInHIdeal.nD Cert.CInHIdeal.τ).loc Cert.CInHIdeal.main_arg1)) →
    ∃ (v0 : (c : Dev Cert.CInHIdeal.nD) → Buf (Elt Ideal) ((c.tc : Thread Cert.CInHIdeal.nD Cert.CInHIdeal.τ).loc Cert.CInHIdeal.main_v3)),
      θ_run (Cert.CInHIdeal.defs (F := Ideal)) (onTc (τ := Cert.CInHIdeal.τ) (Cert.CInHIdeal.main (F := Ideal))) ⟨m, fun _ => 0, g⟩ (fun r => ∀ c : Dev Cert.CInHIdeal.nD,
          r.2.mem ((c.tc : Thread Cert.CInHIdeal.nD Cert.CInHIdeal.τ).loc Cert.CInHIdeal.main_v3) = v0 c
          ∧ r.2.mem ((c.tc : Thread Cert.CInHIdeal.nD Cert.CInHIdeal.τ).loc Cert.CInHIdeal.main_arg0) = m ((c.tc : Thread Cert.CInHIdeal.nD Cert.CInHIdeal.τ).loc Cert.CInHIdeal.main_arg0)
          ∧ r.2.mem ((c.tc : Thread Cert.CInHIdeal.nD Cert.CInHIdeal.τ).loc Cert.CInHIdeal.main_arg1) = m ((c.tc : Thread Cert.CInHIdeal.nD Cert.CInHIdeal.τ).loc Cert.CInHIdeal.main_arg1))
      ∧ θ_run (Cert.CInHRefIdeal.defs (F := Ideal)) (onTc (τ := Cert.CInHRefIdeal.τ) (Cert.CInHRefIdeal.main (F := Ideal))) ⟨m', fun _ => 0, g'⟩ (fun r => ∀ c : Dev Cert.CInHRefIdeal.nD,
          r.2.mem ((c.tc : Thread Cert.CInHRefIdeal.nD Cert.CInHRefIdeal.τ).loc Cert.CInHRefIdeal.main_v5) = v0 c
          ∧ r.2.mem ((c.tc : Thread Cert.CInHRefIdeal.nD Cert.CInHRefIdeal.τ).loc Cert.CInHRefIdeal.main_arg0) = m' ((c.tc : Thread Cert.CInHRefIdeal.nD Cert.CInHRefIdeal.τ).loc Cert.CInHRefIdeal.main_arg0)
          ∧ r.2.mem ((c.tc : Thread Cert.CInHRefIdeal.nD Cert.CInHRefIdeal.τ).loc Cert.CInHRefIdeal.main_arg1) = m' ((c.tc : Thread Cert.CInHRefIdeal.nD Cert.CInHRefIdeal.τ).loc Cert.CInHRefIdeal.main_arg1))

def preserves_COutW_COutWIdeal : Prop :=
  True

def algebraic_COutWIdeal_COutWRefIdeal [hCOutWIdeal : Cert.COutWIdeal.Facts] [hCOutWRefIdeal : Cert.COutWRefIdeal.Facts] : Prop :=
  ∀ (m : (ℓ : Loc Cert.COutWIdeal.nD Cert.COutWIdeal.τ Cert.COutWIdeal.sig) → Buf (Elt Ideal) ℓ) (g : Dev Cert.COutWIdeal.nD → PrngReg)
    (m' : (ℓ : Loc Cert.COutWRefIdeal.nD Cert.COutWRefIdeal.τ Cert.COutWRefIdeal.sig) → Buf (Elt Ideal) ℓ) (g' : Dev Cert.COutWRefIdeal.nD → PrngReg), Pre_COutWIdeal m →
    (∀ c : Dev Cert.COutWIdeal.nD,
      m' ((c.tc : Thread Cert.COutWRefIdeal.nD Cert.COutWRefIdeal.τ).loc Cert.COutWRefIdeal.main_arg0) = m ((c.tc : Thread Cert.COutWIdeal.nD Cert.COutWIdeal.τ).loc Cert.COutWIdeal.main_arg0)
      ∧ m' ((c.tc : Thread Cert.COutWRefIdeal.nD Cert.COutWRefIdeal.τ).loc Cert.COutWRefIdeal.main_arg1) = m ((c.tc : Thread Cert.COutWIdeal.nD Cert.COutWIdeal.τ).loc Cert.COutWIdeal.main_arg1)) →
    ∃ (v0 : (c : Dev Cert.COutWIdeal.nD) → Buf (Elt Ideal) ((c.tc : Thread Cert.COutWIdeal.nD Cert.COutWIdeal.τ).loc Cert.COutWIdeal.main_v0)),
      θ_run (Cert.COutWIdeal.defs (F := Ideal)) (onTc (τ := Cert.COutWIdeal.τ) (Cert.COutWIdeal.main (F := Ideal))) ⟨m, fun _ => 0, g⟩ (fun r => ∀ c : Dev Cert.COutWIdeal.nD,
          r.2.mem ((c.tc : Thread Cert.COutWIdeal.nD Cert.COutWIdeal.τ).loc Cert.COutWIdeal.main_v0) = v0 c
          ∧ r.2.mem ((c.tc : Thread Cert.COutWIdeal.nD Cert.COutWIdeal.τ).loc Cert.COutWIdeal.main_arg0) = m ((c.tc : Thread Cert.COutWIdeal.nD Cert.COutWIdeal.τ).loc Cert.COutWIdeal.main_arg0)
          ∧ r.2.mem ((c.tc : Thread Cert.COutWIdeal.nD Cert.COutWIdeal.τ).loc Cert.COutWIdeal.main_arg1) = m ((c.tc : Thread Cert.COutWIdeal.nD Cert.COutWIdeal.τ).loc Cert.COutWIdeal.main_arg1))
      ∧ θ_run (Cert.COutWRefIdeal.defs (F := Ideal)) (onTc (τ := Cert.COutWRefIdeal.τ) (Cert.COutWRefIdeal.main (F := Ideal))) ⟨m', fun _ => 0, g'⟩ (fun r => ∀ c : Dev Cert.COutWRefIdeal.nD,
          r.2.mem ((c.tc : Thread Cert.COutWRefIdeal.nD Cert.COutWRefIdeal.τ).loc Cert.COutWRefIdeal.main_v6) = v0 c
          ∧ r.2.mem ((c.tc : Thread Cert.COutWRefIdeal.nD Cert.COutWRefIdeal.τ).loc Cert.COutWRefIdeal.main_arg0) = m' ((c.tc : Thread Cert.COutWRefIdeal.nD Cert.COutWRefIdeal.τ).loc Cert.COutWRefIdeal.main_arg0)
          ∧ r.2.mem ((c.tc : Thread Cert.COutWRefIdeal.nD Cert.COutWRefIdeal.τ).loc Cert.COutWRefIdeal.main_arg1) = m' ((c.tc : Thread Cert.COutWRefIdeal.nD Cert.COutWRefIdeal.τ).loc Cert.COutWRefIdeal.main_arg1))

def preserves_COutH_COutHIdeal : Prop :=
  True

def algebraic_COutHIdeal_COutHRefIdeal [hCOutHIdeal : Cert.COutHIdeal.Facts] [hCOutHRefIdeal : Cert.COutHRefIdeal.Facts] : Prop :=
  ∀ (m : (ℓ : Loc Cert.COutHIdeal.nD Cert.COutHIdeal.τ Cert.COutHIdeal.sig) → Buf (Elt Ideal) ℓ) (g : Dev Cert.COutHIdeal.nD → PrngReg)
    (m' : (ℓ : Loc Cert.COutHRefIdeal.nD Cert.COutHRefIdeal.τ Cert.COutHRefIdeal.sig) → Buf (Elt Ideal) ℓ) (g' : Dev Cert.COutHRefIdeal.nD → PrngReg), Pre_COutHIdeal m →
    (∀ c : Dev Cert.COutHIdeal.nD,
      m' ((c.tc : Thread Cert.COutHRefIdeal.nD Cert.COutHRefIdeal.τ).loc Cert.COutHRefIdeal.main_arg0) = m ((c.tc : Thread Cert.COutHIdeal.nD Cert.COutHIdeal.τ).loc Cert.COutHIdeal.main_arg0)
      ∧ m' ((c.tc : Thread Cert.COutHRefIdeal.nD Cert.COutHRefIdeal.τ).loc Cert.COutHRefIdeal.main_arg1) = m ((c.tc : Thread Cert.COutHIdeal.nD Cert.COutHIdeal.τ).loc Cert.COutHIdeal.main_arg1)) →
    ∃ (v0 : (c : Dev Cert.COutHIdeal.nD) → Buf (Elt Ideal) ((c.tc : Thread Cert.COutHIdeal.nD Cert.COutHIdeal.τ).loc Cert.COutHIdeal.main_v1)),
      θ_run (Cert.COutHIdeal.defs (F := Ideal)) (onTc (τ := Cert.COutHIdeal.τ) (Cert.COutHIdeal.main (F := Ideal))) ⟨m, fun _ => 0, g⟩ (fun r => ∀ c : Dev Cert.COutHIdeal.nD,
          r.2.mem ((c.tc : Thread Cert.COutHIdeal.nD Cert.COutHIdeal.τ).loc Cert.COutHIdeal.main_v1) = v0 c
          ∧ r.2.mem ((c.tc : Thread Cert.COutHIdeal.nD Cert.COutHIdeal.τ).loc Cert.COutHIdeal.main_arg0) = m ((c.tc : Thread Cert.COutHIdeal.nD Cert.COutHIdeal.τ).loc Cert.COutHIdeal.main_arg0)
          ∧ r.2.mem ((c.tc : Thread Cert.COutHIdeal.nD Cert.COutHIdeal.τ).loc Cert.COutHIdeal.main_arg1) = m ((c.tc : Thread Cert.COutHIdeal.nD Cert.COutHIdeal.τ).loc Cert.COutHIdeal.main_arg1))
      ∧ θ_run (Cert.COutHRefIdeal.defs (F := Ideal)) (onTc (τ := Cert.COutHRefIdeal.τ) (Cert.COutHRefIdeal.main (F := Ideal))) ⟨m', fun _ => 0, g'⟩ (fun r => ∀ c : Dev Cert.COutHRefIdeal.nD,
          r.2.mem ((c.tc : Thread Cert.COutHRefIdeal.nD Cert.COutHRefIdeal.τ).loc Cert.COutHRefIdeal.main_v3) = v0 c
          ∧ r.2.mem ((c.tc : Thread Cert.COutHRefIdeal.nD Cert.COutHRefIdeal.τ).loc Cert.COutHRefIdeal.main_arg0) = m' ((c.tc : Thread Cert.COutHRefIdeal.nD Cert.COutHRefIdeal.τ).loc Cert.COutHRefIdeal.main_arg0)
          ∧ r.2.mem ((c.tc : Thread Cert.COutHRefIdeal.nD Cert.COutHRefIdeal.τ).loc Cert.COutHRefIdeal.main_arg1) = m' ((c.tc : Thread Cert.COutHRefIdeal.nD Cert.COutHRefIdeal.τ).loc Cert.COutHRefIdeal.main_arg1))

def preserves_AbOutW_AbOutWIdeal : Prop :=
  True

def algebraic_AbOutWIdeal_AbOutWRefIdeal [hAbOutWIdeal : Cert.AbOutWIdeal.Facts] [hAbOutWRefIdeal : Cert.AbOutWRefIdeal.Facts] : Prop :=
  ∀ (m : (ℓ : Loc Cert.AbOutWIdeal.nD Cert.AbOutWIdeal.τ Cert.AbOutWIdeal.sig) → Buf (Elt Ideal) ℓ) (g : Dev Cert.AbOutWIdeal.nD → PrngReg)
    (m' : (ℓ : Loc Cert.AbOutWRefIdeal.nD Cert.AbOutWRefIdeal.τ Cert.AbOutWRefIdeal.sig) → Buf (Elt Ideal) ℓ) (g' : Dev Cert.AbOutWRefIdeal.nD → PrngReg), Pre_AbOutWIdeal m →
    (∀ c : Dev Cert.AbOutWIdeal.nD,
      m' ((c.tc : Thread Cert.AbOutWRefIdeal.nD Cert.AbOutWRefIdeal.τ).loc Cert.AbOutWRefIdeal.main_arg0) = m ((c.tc : Thread Cert.AbOutWIdeal.nD Cert.AbOutWIdeal.τ).loc Cert.AbOutWIdeal.main_arg0)
      ∧ m' ((c.tc : Thread Cert.AbOutWRefIdeal.nD Cert.AbOutWRefIdeal.τ).loc Cert.AbOutWRefIdeal.main_arg1) = m ((c.tc : Thread Cert.AbOutWIdeal.nD Cert.AbOutWIdeal.τ).loc Cert.AbOutWIdeal.main_arg1)
      ∧ m' ((c.tc : Thread Cert.AbOutWRefIdeal.nD Cert.AbOutWRefIdeal.τ).loc Cert.AbOutWRefIdeal.main_arg2) = m ((c.tc : Thread Cert.AbOutWIdeal.nD Cert.AbOutWIdeal.τ).loc Cert.AbOutWIdeal.main_arg2)) →
    ∃ (v0 : (c : Dev Cert.AbOutWIdeal.nD) → Buf (Elt Ideal) ((c.tc : Thread Cert.AbOutWIdeal.nD Cert.AbOutWIdeal.τ).loc Cert.AbOutWIdeal.main_v0)),
      θ_run (Cert.AbOutWIdeal.defs (F := Ideal)) (onTc (τ := Cert.AbOutWIdeal.τ) (Cert.AbOutWIdeal.main (F := Ideal))) ⟨m, fun _ => 0, g⟩ (fun r => ∀ c : Dev Cert.AbOutWIdeal.nD,
          r.2.mem ((c.tc : Thread Cert.AbOutWIdeal.nD Cert.AbOutWIdeal.τ).loc Cert.AbOutWIdeal.main_v0) = v0 c
          ∧ r.2.mem ((c.tc : Thread Cert.AbOutWIdeal.nD Cert.AbOutWIdeal.τ).loc Cert.AbOutWIdeal.main_arg0) = m ((c.tc : Thread Cert.AbOutWIdeal.nD Cert.AbOutWIdeal.τ).loc Cert.AbOutWIdeal.main_arg0)
          ∧ r.2.mem ((c.tc : Thread Cert.AbOutWIdeal.nD Cert.AbOutWIdeal.τ).loc Cert.AbOutWIdeal.main_arg1) = m ((c.tc : Thread Cert.AbOutWIdeal.nD Cert.AbOutWIdeal.τ).loc Cert.AbOutWIdeal.main_arg1)
          ∧ r.2.mem ((c.tc : Thread Cert.AbOutWIdeal.nD Cert.AbOutWIdeal.τ).loc Cert.AbOutWIdeal.main_arg2) = m ((c.tc : Thread Cert.AbOutWIdeal.nD Cert.AbOutWIdeal.τ).loc Cert.AbOutWIdeal.main_arg2))
      ∧ θ_run (Cert.AbOutWRefIdeal.defs (F := Ideal)) (onTc (τ := Cert.AbOutWRefIdeal.τ) (Cert.AbOutWRefIdeal.main (F := Ideal))) ⟨m', fun _ => 0, g'⟩ (fun r => ∀ c : Dev Cert.AbOutWRefIdeal.nD,
          r.2.mem ((c.tc : Thread Cert.AbOutWRefIdeal.nD Cert.AbOutWRefIdeal.τ).loc Cert.AbOutWRefIdeal.main_v7) = v0 c
          ∧ r.2.mem ((c.tc : Thread Cert.AbOutWRefIdeal.nD Cert.AbOutWRefIdeal.τ).loc Cert.AbOutWRefIdeal.main_arg0) = m' ((c.tc : Thread Cert.AbOutWRefIdeal.nD Cert.AbOutWRefIdeal.τ).loc Cert.AbOutWRefIdeal.main_arg0)
          ∧ r.2.mem ((c.tc : Thread Cert.AbOutWRefIdeal.nD Cert.AbOutWRefIdeal.τ).loc Cert.AbOutWRefIdeal.main_arg1) = m' ((c.tc : Thread Cert.AbOutWRefIdeal.nD Cert.AbOutWRefIdeal.τ).loc Cert.AbOutWRefIdeal.main_arg1)
          ∧ r.2.mem ((c.tc : Thread Cert.AbOutWRefIdeal.nD Cert.AbOutWRefIdeal.τ).loc Cert.AbOutWRefIdeal.main_arg2) = m' ((c.tc : Thread Cert.AbOutWRefIdeal.nD Cert.AbOutWRefIdeal.τ).loc Cert.AbOutWRefIdeal.main_arg2))

def preserves_AbOutH_AbOutHIdeal : Prop :=
  True

def algebraic_AbOutHIdeal_AbOutHRefIdeal [hAbOutHIdeal : Cert.AbOutHIdeal.Facts] [hAbOutHRefIdeal : Cert.AbOutHRefIdeal.Facts] : Prop :=
  ∀ (m : (ℓ : Loc Cert.AbOutHIdeal.nD Cert.AbOutHIdeal.τ Cert.AbOutHIdeal.sig) → Buf (Elt Ideal) ℓ) (g : Dev Cert.AbOutHIdeal.nD → PrngReg)
    (m' : (ℓ : Loc Cert.AbOutHRefIdeal.nD Cert.AbOutHRefIdeal.τ Cert.AbOutHRefIdeal.sig) → Buf (Elt Ideal) ℓ) (g' : Dev Cert.AbOutHRefIdeal.nD → PrngReg), Pre_AbOutHIdeal m →
    (∀ c : Dev Cert.AbOutHIdeal.nD,
      m' ((c.tc : Thread Cert.AbOutHRefIdeal.nD Cert.AbOutHRefIdeal.τ).loc Cert.AbOutHRefIdeal.main_arg0) = m ((c.tc : Thread Cert.AbOutHIdeal.nD Cert.AbOutHIdeal.τ).loc Cert.AbOutHIdeal.main_arg0)
      ∧ m' ((c.tc : Thread Cert.AbOutHRefIdeal.nD Cert.AbOutHRefIdeal.τ).loc Cert.AbOutHRefIdeal.main_arg1) = m ((c.tc : Thread Cert.AbOutHIdeal.nD Cert.AbOutHIdeal.τ).loc Cert.AbOutHIdeal.main_arg1)) →
    ∃ (v0 : (c : Dev Cert.AbOutHIdeal.nD) → Buf (Elt Ideal) ((c.tc : Thread Cert.AbOutHIdeal.nD Cert.AbOutHIdeal.τ).loc Cert.AbOutHIdeal.main_v1)),
      θ_run (Cert.AbOutHIdeal.defs (F := Ideal)) (onTc (τ := Cert.AbOutHIdeal.τ) (Cert.AbOutHIdeal.main (F := Ideal))) ⟨m, fun _ => 0, g⟩ (fun r => ∀ c : Dev Cert.AbOutHIdeal.nD,
          r.2.mem ((c.tc : Thread Cert.AbOutHIdeal.nD Cert.AbOutHIdeal.τ).loc Cert.AbOutHIdeal.main_v1) = v0 c
          ∧ r.2.mem ((c.tc : Thread Cert.AbOutHIdeal.nD Cert.AbOutHIdeal.τ).loc Cert.AbOutHIdeal.main_arg0) = m ((c.tc : Thread Cert.AbOutHIdeal.nD Cert.AbOutHIdeal.τ).loc Cert.AbOutHIdeal.main_arg0)
          ∧ r.2.mem ((c.tc : Thread Cert.AbOutHIdeal.nD Cert.AbOutHIdeal.τ).loc Cert.AbOutHIdeal.main_arg1) = m ((c.tc : Thread Cert.AbOutHIdeal.nD Cert.AbOutHIdeal.τ).loc Cert.AbOutHIdeal.main_arg1))
      ∧ θ_run (Cert.AbOutHRefIdeal.defs (F := Ideal)) (onTc (τ := Cert.AbOutHRefIdeal.τ) (Cert.AbOutHRefIdeal.main (F := Ideal))) ⟨m', fun _ => 0, g'⟩ (fun r => ∀ c : Dev Cert.AbOutHRefIdeal.nD,
          r.2.mem ((c.tc : Thread Cert.AbOutHRefIdeal.nD Cert.AbOutHRefIdeal.τ).loc Cert.AbOutHRefIdeal.main_v3) = v0 c
          ∧ r.2.mem ((c.tc : Thread Cert.AbOutHRefIdeal.nD Cert.AbOutHRefIdeal.τ).loc Cert.AbOutHRefIdeal.main_arg0) = m' ((c.tc : Thread Cert.AbOutHRefIdeal.nD Cert.AbOutHRefIdeal.τ).loc Cert.AbOutHRefIdeal.main_arg0)
          ∧ r.2.mem ((c.tc : Thread Cert.AbOutHRefIdeal.nD Cert.AbOutHRefIdeal.τ).loc Cert.AbOutHRefIdeal.main_arg1) = m' ((c.tc : Thread Cert.AbOutHRefIdeal.nD Cert.AbOutHRefIdeal.τ).loc Cert.AbOutHRefIdeal.main_arg1))

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)) →
    ∃ (v0 : (c : Dev Cert.Up0Ideal.nD) → Buf (Elt Ideal) ((c.tc : Thread Cert.Up0Ideal.nD Cert.Up0Ideal.τ).loc Cert.Up0Ideal.main_v3)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v3) = v0 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v4) = v0 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)) →
    ∃ (v0 : (c : Dev Cert.Up1Ideal.nD) → Buf (Elt Ideal) ((c.tc : Thread Cert.Up1Ideal.nD Cert.Up1Ideal.τ).loc Cert.Up1Ideal.main_v3)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v3) = v0 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v4) = v0 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1))

def preserves_CIn_CInIdeal : Prop :=
  True

def algebraic_CInIdeal_CInRefIdeal [hCInIdeal : Cert.CInIdeal.Facts] [hCInRefIdeal : Cert.CInRefIdeal.Facts] : Prop :=
  ∀ (m : (ℓ : Loc Cert.CInIdeal.nD Cert.CInIdeal.τ Cert.CInIdeal.sig) → Buf (Elt Ideal) ℓ) (g : Dev Cert.CInIdeal.nD → PrngReg)
    (m' : (ℓ : Loc Cert.CInRefIdeal.nD Cert.CInRefIdeal.τ Cert.CInRefIdeal.sig) → Buf (Elt Ideal) ℓ) (g' : Dev Cert.CInRefIdeal.nD → PrngReg), Pre_CInIdeal m →
    (∀ c : Dev Cert.CInIdeal.nD,
      m' ((c.tc : Thread Cert.CInRefIdeal.nD Cert.CInRefIdeal.τ).loc Cert.CInRefIdeal.main_arg0) = m ((c.tc : Thread Cert.CInIdeal.nD Cert.CInIdeal.τ).loc Cert.CInIdeal.main_arg0)
      ∧ m' ((c.tc : Thread Cert.CInRefIdeal.nD Cert.CInRefIdeal.τ).loc Cert.CInRefIdeal.main_arg1) = m ((c.tc : Thread Cert.CInIdeal.nD Cert.CInIdeal.τ).loc Cert.CInIdeal.main_arg1)) →
    ∃ (v0 : (c : Dev Cert.CInIdeal.nD) → Buf (Elt Ideal) ((c.tc : Thread Cert.CInIdeal.nD Cert.CInIdeal.τ).loc Cert.CInIdeal.main_v3)),
      θ_run (Cert.CInIdeal.defs (F := Ideal)) (onTc (τ := Cert.CInIdeal.τ) (Cert.CInIdeal.main (F := Ideal))) ⟨m, fun _ => 0, g⟩ (fun r => ∀ c : Dev Cert.CInIdeal.nD,
          r.2.mem ((c.tc : Thread Cert.CInIdeal.nD Cert.CInIdeal.τ).loc Cert.CInIdeal.main_v3) = v0 c
          ∧ r.2.mem ((c.tc : Thread Cert.CInIdeal.nD Cert.CInIdeal.τ).loc Cert.CInIdeal.main_arg0) = m ((c.tc : Thread Cert.CInIdeal.nD Cert.CInIdeal.τ).loc Cert.CInIdeal.main_arg0)
          ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ θ_run (Cert.CInRefIdeal.defs (F := Ideal)) (onTc (τ := Cert.CInRefIdeal.τ) (Cert.CInRefIdeal.main (F := Ideal))) ⟨m', fun _ => 0, g'⟩ (fun r => ∀ c : Dev Cert.CInRefIdeal.nD,
          r.2.mem ((c.tc : Thread Cert.CInRefIdeal.nD Cert.CInRefIdeal.τ).loc Cert.CInRefIdeal.main_v3) = v0 c
          ∧ r.2.mem ((c.tc : Thread Cert.CInRefIdeal.nD Cert.CInRefIdeal.τ).loc Cert.CInRefIdeal.main_arg0) = m' ((c.tc : Thread Cert.CInRefIdeal.nD Cert.CInRefIdeal.τ).loc Cert.CInRefIdeal.main_arg0)
          ∧ r.2.mem ((c.tc : Thread Cert.CInRefIdeal.nD Cert.CInRefIdeal.τ).loc Cert.CInRefIdeal.main_arg1) = m' ((c.tc : Thread Cert.CInRefIdeal.nD Cert.CInRefIdeal.τ).loc Cert.CInRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v3)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v3) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v3) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)) →
    ∃ (v0 : (c : Dev Cert.AbOutIdeal.nD) → Buf (Elt Ideal) ((c.tc : Thread Cert.AbOutIdeal.nD Cert.AbOutIdeal.τ).loc Cert.AbOutIdeal.main_v4_0)) (v1 : (c : Dev Cert.AbOutIdeal.nD) → Buf (Elt Ideal) ((c.tc : Thread Cert.AbOutIdeal.nD Cert.AbOutIdeal.τ).loc Cert.AbOutIdeal.main_v4_1)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v4_0) = v0 c
          ∧ r.2.mem ((c.tc : Thread Cert.AbOutIdeal.nD Cert.AbOutIdeal.τ).loc Cert.AbOutIdeal.main_v4_1) = v1 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v3) = v0 c
          ∧ r.2.mem ((c.tc : Thread Cert.AbOutRefIdeal.nD Cert.AbOutRefIdeal.τ).loc Cert.AbOutRefIdeal.main_v19) = v1 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4))

def preserves_COut_COutIdeal : Prop :=
  True

def algebraic_COutIdeal_COutRefIdeal [hCOutIdeal : Cert.COutIdeal.Facts] [hCOutRefIdeal : Cert.COutRefIdeal.Facts] : Prop :=
  ∀ (m : (ℓ : Loc Cert.COutIdeal.nD Cert.COutIdeal.τ Cert.COutIdeal.sig) → Buf (Elt Ideal) ℓ) (g : Dev Cert.COutIdeal.nD → PrngReg)
    (m' : (ℓ : Loc Cert.COutRefIdeal.nD Cert.COutRefIdeal.τ Cert.COutRefIdeal.sig) → Buf (Elt Ideal) ℓ) (g' : Dev Cert.COutRefIdeal.nD → PrngReg), Pre_COutIdeal m →
    (∀ c : Dev Cert.COutIdeal.nD,
      m' ((c.tc : Thread Cert.COutRefIdeal.nD Cert.COutRefIdeal.τ).loc Cert.COutRefIdeal.main_arg0) = m ((c.tc : Thread Cert.COutIdeal.nD Cert.COutIdeal.τ).loc Cert.COutIdeal.main_arg0)
      ∧ m' ((c.tc : Thread Cert.COutRefIdeal.nD Cert.COutRefIdeal.τ).loc Cert.COutRefIdeal.main_arg1) = m ((c.tc : Thread Cert.COutIdeal.nD Cert.COutIdeal.τ).loc Cert.COutIdeal.main_arg1)
      ∧ m' ((c.tc : Thread Cert.COutRefIdeal.nD Cert.COutRefIdeal.τ).loc Cert.COutRefIdeal.main_arg2) = m ((c.tc : Thread Cert.COutIdeal.nD Cert.COutIdeal.τ).loc Cert.COutIdeal.main_arg2)
      ∧ m' ((c.tc : Thread Cert.COutRefIdeal.nD Cert.COutRefIdeal.τ).loc Cert.COutRefIdeal.main_arg3) = m ((c.tc : Thread Cert.COutIdeal.nD Cert.COutIdeal.τ).loc Cert.COutIdeal.main_arg3)) →
    ∃ (v0 : (c : Dev Cert.COutIdeal.nD) → Buf (Elt Ideal) ((c.tc : Thread Cert.COutIdeal.nD Cert.COutIdeal.τ).loc Cert.COutIdeal.main_v4_0)) (v1 : (c : Dev Cert.COutIdeal.nD) → Buf (Elt Ideal) ((c.tc : Thread Cert.COutIdeal.nD Cert.COutIdeal.τ).loc Cert.COutIdeal.main_v4_1)),
      θ_run (Cert.COutIdeal.defs (F := Ideal)) (onTc (τ := Cert.COutIdeal.τ) (Cert.COutIdeal.main (F := Ideal))) ⟨m, fun _ => 0, g⟩ (fun r => ∀ c : Dev Cert.COutIdeal.nD,
          r.2.mem ((c.tc : Thread Cert.COutIdeal.nD Cert.COutIdeal.τ).loc Cert.COutIdeal.main_v4_0) = v0 c
          ∧ r.2.mem ((c.tc : Thread Cert.COutIdeal.nD Cert.COutIdeal.τ).loc Cert.COutIdeal.main_v4_1) = v1 c
          ∧ r.2.mem ((c.tc : Thread Cert.COutIdeal.nD Cert.COutIdeal.τ).loc Cert.COutIdeal.main_arg0) = m ((c.tc : Thread Cert.COutIdeal.nD Cert.COutIdeal.τ).loc Cert.COutIdeal.main_arg0)
          ∧ r.2.mem ((c.tc : Thread Cert.COutIdeal.nD Cert.COutIdeal.τ).loc Cert.COutIdeal.main_arg1) = m ((c.tc : Thread Cert.COutIdeal.nD Cert.COutIdeal.τ).loc Cert.COutIdeal.main_arg1)
          ∧ r.2.mem ((c.tc : Thread Cert.COutIdeal.nD Cert.COutIdeal.τ).loc Cert.COutIdeal.main_arg2) = m ((c.tc : Thread Cert.COutIdeal.nD Cert.COutIdeal.τ).loc Cert.COutIdeal.main_arg2)
          ∧ r.2.mem ((c.tc : Thread Cert.COutIdeal.nD Cert.COutIdeal.τ).loc Cert.COutIdeal.main_arg3) = m ((c.tc : Thread Cert.COutIdeal.nD Cert.COutIdeal.τ).loc Cert.COutIdeal.main_arg3))
      ∧ θ_run (Cert.COutRefIdeal.defs (F := Ideal)) (onTc (τ := Cert.COutRefIdeal.τ) (Cert.COutRefIdeal.main (F := Ideal))) ⟨m', fun _ => 0, g'⟩ (fun r => ∀ c : Dev Cert.COutRefIdeal.nD,
          r.2.mem ((c.tc : Thread Cert.COutRefIdeal.nD Cert.COutRefIdeal.τ).loc Cert.COutRefIdeal.main_v2) = v0 c
          ∧ r.2.mem ((c.tc : Thread Cert.COutRefIdeal.nD Cert.COutRefIdeal.τ).loc Cert.COutRefIdeal.main_v18) = v1 c
          ∧ r.2.mem ((c.tc : Thread Cert.COutRefIdeal.nD Cert.COutRefIdeal.τ).loc Cert.COutRefIdeal.main_arg0) = m' ((c.tc : Thread Cert.COutRefIdeal.nD Cert.COutRefIdeal.τ).loc Cert.COutRefIdeal.main_arg0)
          ∧ r.2.mem ((c.tc : Thread Cert.COutRefIdeal.nD Cert.COutRefIdeal.τ).loc Cert.COutRefIdeal.main_arg1) = m' ((c.tc : Thread Cert.COutRefIdeal.nD Cert.COutRefIdeal.τ).loc Cert.COutRefIdeal.main_arg1)
          ∧ r.2.mem ((c.tc : Thread Cert.COutRefIdeal.nD Cert.COutRefIdeal.τ).loc Cert.COutRefIdeal.main_arg2) = m' ((c.tc : Thread Cert.COutRefIdeal.nD Cert.COutRefIdeal.τ).loc Cert.COutRefIdeal.main_arg2)
          ∧ r.2.mem ((c.tc : Thread Cert.COutRefIdeal.nD Cert.COutRefIdeal.τ).loc Cert.COutRefIdeal.main_arg3) = m' ((c.tc : Thread Cert.COutRefIdeal.nD Cert.COutRefIdeal.τ).loc Cert.COutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v37) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_v40) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_ConvGlu_ConvGluIdeal : Prop :=
  IdealRules.named_const.Statement Cert.ConvGluIdeal.κ "cubic" .f32 0x3D372713#32 ((8943 / 200000 : ℝ) : EReal)
  ∧ IdealRules.named_const.Statement Cert.ConvGluIdeal.κ "cubic3" .f32 0x3E095D4F#32 ((26829 / 200000 : ℝ) : EReal)

def algebraic_ConvGluIdeal_ConvGluRefIdeal_pre_finite_gate [hConvGluIdeal : Cert.ConvGluIdeal.Facts] [hConvGluRefIdeal : Cert.ConvGluRefIdeal.Facts] [hPre_finite_gate : Cert.Pre_finite_gate.Facts] : Prop :=
  ∀ (m : (ℓ : Loc Cert.ConvGluIdeal.nD Cert.ConvGluIdeal.τ Cert.ConvGluIdeal.sig) → Buf (Elt Ideal) ℓ) (g : Dev Cert.ConvGluIdeal.nD → PrngReg)
    (m' : (ℓ : Loc Cert.ConvGluRefIdeal.nD Cert.ConvGluRefIdeal.τ Cert.ConvGluRefIdeal.sig) → Buf (Elt Ideal) ℓ) (g' : Dev Cert.ConvGluRefIdeal.nD → PrngReg), Pre_ConvGluIdeal_finite_gate m →
    (∀ c : Dev Cert.ConvGluIdeal.nD,
      m' ((c.tc : Thread Cert.ConvGluRefIdeal.nD Cert.ConvGluRefIdeal.τ).loc Cert.ConvGluRefIdeal.main_arg0) = m ((c.tc : Thread Cert.ConvGluIdeal.nD Cert.ConvGluIdeal.τ).loc Cert.ConvGluIdeal.main_arg0)
      ∧ m' ((c.tc : Thread Cert.ConvGluRefIdeal.nD Cert.ConvGluRefIdeal.τ).loc Cert.ConvGluRefIdeal.main_arg1) = m ((c.tc : Thread Cert.ConvGluIdeal.nD Cert.ConvGluIdeal.τ).loc Cert.ConvGluIdeal.main_arg1)
      ∧ m' ((c.tc : Thread Cert.ConvGluRefIdeal.nD Cert.ConvGluRefIdeal.τ).loc Cert.ConvGluRefIdeal.main_arg2) = m ((c.tc : Thread Cert.ConvGluIdeal.nD Cert.ConvGluIdeal.τ).loc Cert.ConvGluIdeal.main_arg2)
      ∧ m' ((c.tc : Thread Cert.ConvGluRefIdeal.nD Cert.ConvGluRefIdeal.τ).loc Cert.ConvGluRefIdeal.main_arg3) = m ((c.tc : Thread Cert.ConvGluIdeal.nD Cert.ConvGluIdeal.τ).loc Cert.ConvGluIdeal.main_arg3)
      ∧ m' ((c.tc : Thread Cert.ConvGluRefIdeal.nD Cert.ConvGluRefIdeal.τ).loc Cert.ConvGluRefIdeal.main_arg4) = m ((c.tc : Thread Cert.ConvGluIdeal.nD Cert.ConvGluIdeal.τ).loc Cert.ConvGluIdeal.main_arg4)) →
    ∃ (v0 : (c : Dev Cert.ConvGluIdeal.nD) → Buf (Elt Ideal) ((c.tc : Thread Cert.ConvGluIdeal.nD Cert.ConvGluIdeal.τ).loc Cert.ConvGluIdeal.main_v0_0)) (v1 : (c : Dev Cert.ConvGluIdeal.nD) → Buf (Elt Ideal) ((c.tc : Thread Cert.ConvGluIdeal.nD Cert.ConvGluIdeal.τ).loc Cert.ConvGluIdeal.main_v0_1)) (v2 : (c : Dev Cert.ConvGluIdeal.nD) → Buf (Elt Ideal) ((c.tc : Thread Cert.ConvGluIdeal.nD Cert.ConvGluIdeal.τ).loc Cert.ConvGluIdeal.main_v0_2)) (v3 : (c : Dev Cert.ConvGluIdeal.nD) → Buf (Elt Ideal) ((c.tc : Thread Cert.ConvGluIdeal.nD Cert.ConvGluIdeal.τ).loc Cert.ConvGluIdeal.main_v0_3)) (v4 : (c : Dev Cert.ConvGluIdeal.nD) → Buf (Elt Ideal) ((c.tc : Thread Cert.ConvGluIdeal.nD Cert.ConvGluIdeal.τ).loc Cert.ConvGluIdeal.main_v0_4)) (v5 : (c : Dev Cert.ConvGluIdeal.nD) → Buf (Elt Ideal) ((c.tc : Thread Cert.ConvGluIdeal.nD Cert.ConvGluIdeal.τ).loc Cert.ConvGluIdeal.main_v0_5)),
      θ_run (Cert.ConvGluIdeal.defs (F := Ideal)) (onTc (τ := Cert.ConvGluIdeal.τ) (Cert.ConvGluIdeal.main (F := Ideal))) ⟨m, fun _ => 0, g⟩ (fun r => ∀ c : Dev Cert.ConvGluIdeal.nD,
          r.2.mem ((c.tc : Thread Cert.ConvGluIdeal.nD Cert.ConvGluIdeal.τ).loc Cert.ConvGluIdeal.main_v0_0) = v0 c
          ∧ r.2.mem ((c.tc : Thread Cert.ConvGluIdeal.nD Cert.ConvGluIdeal.τ).loc Cert.ConvGluIdeal.main_v0_1) = v1 c
          ∧ r.2.mem ((c.tc : Thread Cert.ConvGluIdeal.nD Cert.ConvGluIdeal.τ).loc Cert.ConvGluIdeal.main_v0_2) = v2 c
          ∧ r.2.mem ((c.tc : Thread Cert.ConvGluIdeal.nD Cert.ConvGluIdeal.τ).loc Cert.ConvGluIdeal.main_v0_3) = v3 c
          ∧ r.2.mem ((c.tc : Thread Cert.ConvGluIdeal.nD Cert.ConvGluIdeal.τ).loc Cert.ConvGluIdeal.main_v0_4) = v4 c
          ∧ r.2.mem ((c.tc : Thread Cert.ConvGluIdeal.nD Cert.ConvGluIdeal.τ).loc Cert.ConvGluIdeal.main_v0_5) = v5 c
          ∧ r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
          ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
          ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
          ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3)
          ∧ r.2.mem ((c.tc : Thread Cert.ConvGluIdeal.nD Cert.ConvGluIdeal.τ).loc Cert.ConvGluIdeal.main_arg4) = m ((c.tc : Thread Cert.ConvGluIdeal.nD Cert.ConvGluIdeal.τ).loc Cert.ConvGluIdeal.main_arg4))
      ∧ θ_run (Cert.ConvGluRefIdeal.defs (F := Ideal)) (onTc (τ := Cert.ConvGluRefIdeal.τ) (Cert.ConvGluRefIdeal.main (F := Ideal))) ⟨m', fun _ => 0, g'⟩ (fun r => ∀ c : Dev Cert.ConvGluRefIdeal.nD,
          r.2.mem ((c.tc : Thread Cert.ConvGluRefIdeal.nD Cert.ConvGluRefIdeal.τ).loc Cert.ConvGluRefIdeal.main_v108) = v0 c
          ∧ r.2.mem ((c.tc : Thread Cert.ConvGluRefIdeal.nD Cert.ConvGluRefIdeal.τ).loc Cert.ConvGluRefIdeal.main_v109) = v1 c
          ∧ r.2.mem ((c.tc : Thread Cert.ConvGluRefIdeal.nD Cert.ConvGluRefIdeal.τ).loc Cert.ConvGluRefIdeal.main_v110) = v2 c
          ∧ r.2.mem ((c.tc : Thread Cert.ConvGluRefIdeal.nD Cert.ConvGluRefIdeal.τ).loc Cert.ConvGluRefIdeal.main_v111) = v3 c
          ∧ r.2.mem ((c.tc : Thread Cert.ConvGluRefIdeal.nD Cert.ConvGluRefIdeal.τ).loc Cert.ConvGluRefIdeal.main_v113) = v4 c
          ∧ r.2.mem ((c.tc : Thread Cert.ConvGluRefIdeal.nD Cert.ConvGluRefIdeal.τ).loc Cert.ConvGluRefIdeal.main_v115) = v5 c
          ∧ r.2.mem ((c.tc : Thread Cert.ConvGluRefIdeal.nD Cert.ConvGluRefIdeal.τ).loc Cert.ConvGluRefIdeal.main_arg0) = m' ((c.tc : Thread Cert.ConvGluRefIdeal.nD Cert.ConvGluRefIdeal.τ).loc Cert.ConvGluRefIdeal.main_arg0)
          ∧ r.2.mem ((c.tc : Thread Cert.ConvGluRefIdeal.nD Cert.ConvGluRefIdeal.τ).loc Cert.ConvGluRefIdeal.main_arg1) = m' ((c.tc : Thread Cert.ConvGluRefIdeal.nD Cert.ConvGluRefIdeal.τ).loc Cert.ConvGluRefIdeal.main_arg1)
          ∧ r.2.mem ((c.tc : Thread Cert.ConvGluRefIdeal.nD Cert.ConvGluRefIdeal.τ).loc Cert.ConvGluRefIdeal.main_arg2) = m' ((c.tc : Thread Cert.ConvGluRefIdeal.nD Cert.ConvGluRefIdeal.τ).loc Cert.ConvGluRefIdeal.main_arg2)
          ∧ r.2.mem ((c.tc : Thread Cert.ConvGluRefIdeal.nD Cert.ConvGluRefIdeal.τ).loc Cert.ConvGluRefIdeal.main_arg3) = m' ((c.tc : Thread Cert.ConvGluRefIdeal.nD Cert.ConvGluRefIdeal.τ).loc Cert.ConvGluRefIdeal.main_arg3)
          ∧ r.2.mem ((c.tc : Thread Cert.ConvGluRefIdeal.nD Cert.ConvGluRefIdeal.τ).loc Cert.ConvGluRefIdeal.main_arg4) = m' ((c.tc : Thread Cert.ConvGluRefIdeal.nD Cert.ConvGluRefIdeal.τ).loc Cert.ConvGluRefIdeal.main_arg4))

def Claim : Prop :=
  ∃ (hKernel : Cert.Kernel.Facts) (hKernelIdeal : Cert.KernelIdeal.Facts) (hReferenceIdeal : Cert.ReferenceIdeal.Facts) (hUpW : Cert.UpW.Facts) (hUpWIdeal : Cert.UpWIdeal.Facts) (hUpWRefIdeal : Cert.UpWRefIdeal.Facts) (hUpH : Cert.UpH.Facts) (hUpHIdeal : Cert.UpHIdeal.Facts) (hUpHRefIdeal : Cert.UpHRefIdeal.Facts) (hUpH1 : Cert.UpH1.Facts) (hUpH1Ideal : Cert.UpH1Ideal.Facts) (hUpH1RefIdeal : Cert.UpH1RefIdeal.Facts) (hDownW : Cert.DownW.Facts) (hDownWIdeal : Cert.DownWIdeal.Facts) (hDownWRefIdeal : Cert.DownWRefIdeal.Facts) (hDownH : Cert.DownH.Facts) (hDownHIdeal : Cert.DownHIdeal.Facts) (hDownHRefIdeal : Cert.DownHRefIdeal.Facts) (hCInW : Cert.CInW.Facts) (hCInWIdeal : Cert.CInWIdeal.Facts) (hCInWRefIdeal : Cert.CInWRefIdeal.Facts) (hCInH : Cert.CInH.Facts) (hCInHIdeal : Cert.CInHIdeal.Facts) (hCInHRefIdeal : Cert.CInHRefIdeal.Facts) (hCOutW : Cert.COutW.Facts) (hCOutWIdeal : Cert.COutWIdeal.Facts) (hCOutWRefIdeal : Cert.COutWRefIdeal.Facts) (hCOutH : Cert.COutH.Facts) (hCOutHIdeal : Cert.COutHIdeal.Facts) (hCOutHRefIdeal : Cert.COutHRefIdeal.Facts) (hAbOutW : Cert.AbOutW.Facts) (hAbOutWIdeal : Cert.AbOutWIdeal.Facts) (hAbOutWRefIdeal : Cert.AbOutWRefIdeal.Facts) (hAbOutH : Cert.AbOutH.Facts) (hAbOutHIdeal : Cert.AbOutHIdeal.Facts) (hAbOutHRefIdeal : Cert.AbOutHRefIdeal.Facts) (hUp0 : Cert.Up0.Facts) (hUp0Ideal : Cert.Up0Ideal.Facts) (hUp0RefIdeal : Cert.Up0RefIdeal.Facts) (hUp1 : Cert.Up1.Facts) (hUp1Ideal : Cert.Up1Ideal.Facts) (hUp1RefIdeal : Cert.Up1RefIdeal.Facts) (hCIn : Cert.CIn.Facts) (hCInIdeal : Cert.CInIdeal.Facts) (hCInRefIdeal : Cert.CInRefIdeal.Facts) (hAbIn : Cert.AbIn.Facts) (hAbInIdeal : Cert.AbInIdeal.Facts) (hAbInRefIdeal : Cert.AbInRefIdeal.Facts) (hAbOut : Cert.AbOut.Facts) (hAbOutIdeal : Cert.AbOutIdeal.Facts) (hAbOutRefIdeal : Cert.AbOutRefIdeal.Facts) (hCOut : Cert.COut.Facts) (hCOutIdeal : Cert.COutIdeal.Facts) (hCOutRefIdeal : Cert.COutRefIdeal.Facts) (hNorm : Cert.Norm.Facts) (hNormIdeal : Cert.NormIdeal.Facts) (hNormRefIdeal : Cert.NormRefIdeal.Facts) (hConvGlu : Cert.ConvGlu.Facts) (hConvGluIdeal : Cert.ConvGluIdeal.Facts) (hConvGluRefIdeal : Cert.ConvGluRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpW (hUpW := hUpW)
    ∧ quiescent_UpWIdeal (hUpWIdeal := hUpWIdeal)
    ∧ quiescent_UpWRefIdeal (hUpWRefIdeal := hUpWRefIdeal)
    ∧ quiescent_UpH (hUpH := hUpH)
    ∧ quiescent_UpHIdeal (hUpHIdeal := hUpHIdeal)
    ∧ quiescent_UpHRefIdeal (hUpHRefIdeal := hUpHRefIdeal)
    ∧ quiescent_UpH1 (hUpH1 := hUpH1)
    ∧ quiescent_UpH1Ideal (hUpH1Ideal := hUpH1Ideal)
    ∧ quiescent_UpH1RefIdeal (hUpH1RefIdeal := hUpH1RefIdeal)
    ∧ quiescent_DownW (hDownW := hDownW)
    ∧ quiescent_DownWIdeal (hDownWIdeal := hDownWIdeal)
    ∧ quiescent_DownWRefIdeal (hDownWRefIdeal := hDownWRefIdeal)
    ∧ quiescent_DownH (hDownH := hDownH)
    ∧ quiescent_DownHIdeal (hDownHIdeal := hDownHIdeal)
    ∧ quiescent_DownHRefIdeal (hDownHRefIdeal := hDownHRefIdeal)
    ∧ quiescent_CInW (hCInW := hCInW)
    ∧ quiescent_CInWIdeal (hCInWIdeal := hCInWIdeal)
    ∧ quiescent_CInWRefIdeal (hCInWRefIdeal := hCInWRefIdeal)
    ∧ quiescent_CInH (hCInH := hCInH)
    ∧ quiescent_CInHIdeal (hCInHIdeal := hCInHIdeal)
    ∧ quiescent_CInHRefIdeal (hCInHRefIdeal := hCInHRefIdeal)
    ∧ quiescent_COutW (hCOutW := hCOutW)
    ∧ quiescent_COutWIdeal (hCOutWIdeal := hCOutWIdeal)
    ∧ quiescent_COutWRefIdeal (hCOutWRefIdeal := hCOutWRefIdeal)
    ∧ quiescent_COutH (hCOutH := hCOutH)
    ∧ quiescent_COutHIdeal (hCOutHIdeal := hCOutHIdeal)
    ∧ quiescent_COutHRefIdeal (hCOutHRefIdeal := hCOutHRefIdeal)
    ∧ quiescent_AbOutW (hAbOutW := hAbOutW)
    ∧ quiescent_AbOutWIdeal (hAbOutWIdeal := hAbOutWIdeal)
    ∧ quiescent_AbOutWRefIdeal (hAbOutWRefIdeal := hAbOutWRefIdeal)
    ∧ quiescent_AbOutH (hAbOutH := hAbOutH)
    ∧ quiescent_AbOutHIdeal (hAbOutHIdeal := hAbOutHIdeal)
    ∧ quiescent_AbOutHRefIdeal (hAbOutHRefIdeal := hAbOutHRefIdeal)
    ∧ quiescent_Up0 (hUp0 := hUp0)
    ∧ quiescent_Up0Ideal (hUp0Ideal := hUp0Ideal)
    ∧ quiescent_Up0RefIdeal (hUp0RefIdeal := hUp0RefIdeal)
    ∧ quiescent_Up1 (hUp1 := hUp1)
    ∧ quiescent_Up1Ideal (hUp1Ideal := hUp1Ideal)
    ∧ quiescent_Up1RefIdeal (hUp1RefIdeal := hUp1RefIdeal)
    ∧ quiescent_CIn (hCIn := hCIn)
    ∧ quiescent_CInIdeal (hCInIdeal := hCInIdeal)
    ∧ quiescent_CInRefIdeal (hCInRefIdeal := hCInRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_COut (hCOut := hCOut)
    ∧ quiescent_COutIdeal (hCOutIdeal := hCOutIdeal)
    ∧ quiescent_COutRefIdeal (hCOutRefIdeal := hCOutRefIdeal)
    ∧ quiescent_Norm (hNorm := hNorm)
    ∧ quiescent_NormIdeal (hNormIdeal := hNormIdeal)
    ∧ quiescent_NormRefIdeal (hNormRefIdeal := hNormRefIdeal)
    ∧ quiescent_ConvGlu (hConvGlu := hConvGlu)
    ∧ quiescent_ConvGluIdeal (hConvGluIdeal := hConvGluIdeal)
    ∧ quiescent_ConvGluIdeal_pre_finite_gate (hConvGluIdeal := hConvGluIdeal) (hPre_finite_gate := hPre_finite_gate)
    ∧ quiescent_ConvGluRefIdeal (hConvGluRefIdeal := hConvGluRefIdeal)
    ∧ quiescent_ConvGluRefIdeal_pre_finite_gate (hConvGluRefIdeal := hConvGluRefIdeal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_UpW_UpWIdeal
    ∧ algebraic_UpWIdeal_UpWRefIdeal (hUpWIdeal := hUpWIdeal) (hUpWRefIdeal := hUpWRefIdeal)
    ∧ preserves_UpH_UpHIdeal
    ∧ algebraic_UpHIdeal_UpHRefIdeal (hUpHIdeal := hUpHIdeal) (hUpHRefIdeal := hUpHRefIdeal)
    ∧ preserves_UpH1_UpH1Ideal
    ∧ algebraic_UpH1Ideal_UpH1RefIdeal (hUpH1Ideal := hUpH1Ideal) (hUpH1RefIdeal := hUpH1RefIdeal)
    ∧ preserves_DownW_DownWIdeal
    ∧ algebraic_DownWIdeal_DownWRefIdeal (hDownWIdeal := hDownWIdeal) (hDownWRefIdeal := hDownWRefIdeal)
    ∧ preserves_DownH_DownHIdeal
    ∧ algebraic_DownHIdeal_DownHRefIdeal (hDownHIdeal := hDownHIdeal) (hDownHRefIdeal := hDownHRefIdeal)
    ∧ preserves_CInW_CInWIdeal
    ∧ algebraic_CInWIdeal_CInWRefIdeal (hCInWIdeal := hCInWIdeal) (hCInWRefIdeal := hCInWRefIdeal)
    ∧ preserves_CInH_CInHIdeal
    ∧ algebraic_CInHIdeal_CInHRefIdeal (hCInHIdeal := hCInHIdeal) (hCInHRefIdeal := hCInHRefIdeal)
    ∧ preserves_COutW_COutWIdeal
    ∧ algebraic_COutWIdeal_COutWRefIdeal (hCOutWIdeal := hCOutWIdeal) (hCOutWRefIdeal := hCOutWRefIdeal)
    ∧ preserves_COutH_COutHIdeal
    ∧ algebraic_COutHIdeal_COutHRefIdeal (hCOutHIdeal := hCOutHIdeal) (hCOutHRefIdeal := hCOutHRefIdeal)
    ∧ preserves_AbOutW_AbOutWIdeal
    ∧ algebraic_AbOutWIdeal_AbOutWRefIdeal (hAbOutWIdeal := hAbOutWIdeal) (hAbOutWRefIdeal := hAbOutWRefIdeal)
    ∧ preserves_AbOutH_AbOutHIdeal
    ∧ algebraic_AbOutHIdeal_AbOutHRefIdeal (hAbOutHIdeal := hAbOutHIdeal) (hAbOutHRefIdeal := hAbOutHRefIdeal)
    ∧ preserves_Up0_Up0Ideal
    ∧ algebraic_Up0Ideal_Up0RefIdeal (hUp0Ideal := hUp0Ideal) (hUp0RefIdeal := hUp0RefIdeal)
    ∧ preserves_Up1_Up1Ideal
    ∧ algebraic_Up1Ideal_Up1RefIdeal (hUp1Ideal := hUp1Ideal) (hUp1RefIdeal := hUp1RefIdeal)
    ∧ preserves_CIn_CInIdeal
    ∧ algebraic_CInIdeal_CInRefIdeal (hCInIdeal := hCInIdeal) (hCInRefIdeal := hCInRefIdeal)
    ∧ preserves_AbIn_AbInIdeal
    ∧ algebraic_AbInIdeal_AbInRefIdeal (hAbInIdeal := hAbInIdeal) (hAbInRefIdeal := hAbInRefIdeal)
    ∧ preserves_AbOut_AbOutIdeal
    ∧ algebraic_AbOutIdeal_AbOutRefIdeal (hAbOutIdeal := hAbOutIdeal) (hAbOutRefIdeal := hAbOutRefIdeal)
    ∧ preserves_COut_COutIdeal
    ∧ algebraic_COutIdeal_COutRefIdeal (hCOutIdeal := hCOutIdeal) (hCOutRefIdeal := hCOutRefIdeal)
    ∧ preserves_Norm_NormIdeal
    ∧ algebraic_NormIdeal_NormRefIdeal (hNormIdeal := hNormIdeal) (hNormRefIdeal := hNormRefIdeal)
    ∧ preserves_ConvGlu_ConvGluIdeal
    ∧ algebraic_ConvGluIdeal_ConvGluRefIdeal_pre_finite_gate (hConvGluIdeal := hConvGluIdeal) (hConvGluRefIdeal := hConvGluRefIdeal) (hPre_finite_gate := hPre_finite_gate)
-- ==== Pre_finite.lean ====
abbrev S16384x4096 : Shape := ⟨2, ![16384, 4096]⟩
abbrev S16384x2048 : Shape := ⟨2, ![16384, 2048]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S16384x4096 : S_.BroadcastsInDim S16384x4096 (![] : Fin 0 → Fin S16384x4096.rank)
  bcast_S_S16384x2048 : S_.BroadcastsInDim S16384x2048 (![] : Fin 0 → Fin S16384x2048.rank)
  bcast_S_S1x2048 : S_.BroadcastsInDim S1x2048 (![] : Fin 0 → Fin S1x2048.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S16384x4096 .bf16) (main_arg1 : FVec F S16384x2048 .f32) (main_arg2 : FVec F S1x2048 .f32) (main_arg3 : FVec F S1x2048 .f32) (main_arg4 : FVec F S1x8x128x128 .f32) (main_arg5 : FVec F S1x8x128 .f32) : IVec S16384x4096 1 × IVec S16384x2048 1 × IVec S1x2048 1 × IVec S1x2048 1 × IVec S1x8x128x128 1 × IVec S1x8x128 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_v3 : FVec F S16384x2048 .f32 := Host.absf main_arg1
  let main_cst_0 : FVec F S_ .f32 := constant S_ .f32 0x7F800000#32
  let main_v4 : FVec F S16384x2048 .f32 := broadcastInDim S16384x2048 ![] bcast_S_S16384x2048 main_cst_0
  let main_v5 : IVec S16384x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Pre_finite_gate.lean ====
abbrev S16384x5632 : Shape := ⟨2, ![16384, 5632]⟩
abbrev S16384x2816 : Shape := ⟨2, ![16384, 2816]⟩
abbrev S3x5632 : Shape := ⟨2, ![3, 5632]⟩
abbrev S_ : Shape := ⟨0, ![]⟩

class Facts : Prop where
  bcast_S_S16384x2816 : S_.BroadcastsInDim S16384x2816 (![] : Fin 0 → Fin S16384x2816.rank)

variable [Facts]

def fn {F : FTy → Type} [FloatOps F] (main_arg0 : FVec F S16384x5632 .bf16) (main_arg1 : FVec F S16384x2816 .bf16) (main_arg2 : FVec F S16384x2816 .bf16) (main_arg3 : FVec F S16384x2816 .f32) (main_arg4 : FVec F S3x5632 .f32) : IVec S16384x2816 1 × IVec S16384x2816 1 :=
  let main_v0 : FVec F S16384x2816 .bf16 := Host.absf main_arg2
  let main_cst : FVec F S_ .bf16 := constant S_ .bf16 0x7F80#16
  let main_v1 : FVec F S16384x2816 .bf16 := broadcastInDim S16384x2816 ![] bcast_S_S16384x2816 main_cst
  let main_v2 : IVec S16384x2816 1 := cmpf .olt main_v0 main_v1
  let main_v3 : FVec F S16384x2816 .f32 := Host.absf main_arg3
  let main_cst_0 : FVec F S_ .f32 := constant S_ .f32 0x7F800000#32
  let main_v4 : FVec F S16384x2816 .f32 := broadcastInDim S16384x2816 ![] bcast_S_S16384x2816 main_cst_0
  let main_v5 : IVec S16384x2816 1 := cmpf .olt main_v3 main_v4
  (main_v2, main_v5)
-- ==== Kernel.lean ====
abbrev S16384x4096 : Shape := ⟨2, ![16384, 4096]⟩
abbrev S16384x2048 : Shape := ⟨2, ![16384, 2048]⟩
abbrev S1x2048 : Shape := ⟨2, ![1, 2048]⟩
abbrev S1x8x128x128 : Shape := ⟨4, ![1, 8, 128, 128]⟩
abbrev S1x8x128 : Shape := ⟨3, ![1, 8, 128]⟩
abbrev S2048 : Shape := ⟨1, ![2048]⟩
abbrev S8x128 : Shape := ⟨2, ![8, 128]⟩
abbrev S128x8 : Shape := ⟨2, ![128, 8]⟩
abbrev S8x128x128 : Shape := ⟨3, ![8, 128, 128]⟩
abbrev S256x4096 : Shape := ⟨2, ![256, 4096]⟩
abbrev S256x2048 : Shape := ⟨2, ![256, 2048]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S128x256 : Shape := ⟨2, ![128, 256]⟩
abbrev S128x1 : Shape := ⟨2, ![128, 1]⟩
abbrev S128 : Shape := ⟨1, ![128]⟩

abbrev nBuf : Space → Nat
  | .hbm => 18
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S1x8x128x128, .f32⟩
  | .hbm, ⟨5, _⟩ => ⟨S1x8x128, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8x128, .f32⟩
  | .hbm, ⟨11, _⟩ => ⟨S128x8, .f32⟩
  | .hbm, ⟨12, _⟩ => ⟨S8x128x128, .f32⟩
  | .hbm, ⟨13, _⟩ => ⟨S16384x4096, .bf16⟩
  | .hbm, ⟨14, _⟩ => ⟨S8x128x128, .f32⟩
  | .hbm, ⟨15, _⟩ => ⟨S128x8, .f32⟩
  | .hbm, ⟨16, _⟩ => ⟨S1x2048, .f32⟩
  | .hbm, ⟨17, _⟩ => ⟨S1x2048, .f32⟩
  | .local _ .vmem, ⟨0, _⟩ => ⟨S256x4096, .bf16⟩
  | .local _ .vmem, ⟨1, _⟩ => ⟨S256x4096, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S256x4096, .bf16⟩
  | .local _ .vmem, ⟨9, _⟩ => ⟨S256x4096, .bf16⟩
  | .local _ .vmem, ⟨10, _⟩ => ⟨S8x128x128, .f32⟩
  | .local _ .vmem, ⟨11, _⟩ => ⟨S128x8, .f32⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S16384x4096 : Shape := ⟨2, ![16384, 4096]⟩
abbrev S16384x2048 : Shape := ⟨2, ![16384, 2048]⟩
abbrev S1x2048 : Shape := ⟨2, ![1, 2048]⟩
abbrev S1x8x128x128 : Shape := ⟨4, ![1, 8, 128, 128]⟩
abbrev S1x8x128 : Shape := ⟨3, ![1, 8, 128]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S16384 : Shape := ⟨1, ![16384]⟩
abbrev S16384x1 : Shape := ⟨2, ![16384, 1]⟩
abbrev S128x128x8x256 : Shape := ⟨4, ![128, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x256x128 : Shape := ⟨4, ![8, 128, 256, 128]⟩
abbrev S128x8 : Shape := ⟨2, ![128, 8]⟩
abbrev S1x128x8x1 : Shape := ⟨4, ![1, 128, 8, 1]⟩

abbrev nBuf : Space → Nat
  | .hbm => 222
  | .vmem => 0
  | .smem => 0
  | _ => 0

abbrev hbmTy0_0 (i : Nat) : BufTy := match i % 128 with
  | 0 => ⟨S16384x4096, .bf16⟩
  | 1 => ⟨S16384x2048, .f32⟩
  | 2 => ⟨S1x2048, .f32⟩
  | 3 => ⟨S1x2048, .f32⟩
  | 4 => ⟨S1x8x128x128, .f32⟩
  | 5 => ⟨S1x8x128, .f32⟩
  | 6 => ⟨S16384x4096, .f32⟩
  | 7 => ⟨S2048, .f32⟩
  | 8 => ⟨S2048, .f32⟩
  | 9 => ⟨S8x128x128, .f32⟩
  | 10 => ⟨S8x128, .f32⟩
  | 11 => ⟨S16384x4096, .f32⟩
  | 12 => ⟨S16384x4096, .f32⟩
  | 13 => ⟨S16384x4096, .f32⟩
  | 14 => ⟨S_, .f32⟩
  | 15 => ⟨S16384x4096, .f32⟩
  | 16 => ⟨S16384x4096, .f32⟩
  | 17 => ⟨S_, .f32⟩
  | 18 => ⟨S16384x4096, .f32⟩
  | 19 => ⟨S16384x4096, .f32⟩
  | 20 => ⟨S_, .f32⟩
  | 21 => ⟨S16384x4096, .f32⟩
  | 22 => ⟨S16384x4096, .f32⟩
  | 23 => ⟨S16384x4096, .f32⟩
  | 24 => ⟨S_, .f32⟩
  | 25 => ⟨S16384x4096, .f32⟩
  | 26 => ⟨S16384x4096, .f32⟩
  | 27 => ⟨S16384x4096, .f32⟩
  | 28 => ⟨S_, .f32⟩
  | 29 => ⟨S16384x4096, .f32⟩
  | 30 => ⟨S16384x4096, .f32⟩
  | 31 => ⟨S_, .f32⟩
  | 32 => ⟨S16384x4096, .f32⟩
  | 33 => ⟨S16384x4096, .f32⟩
  | 34 => ⟨S16384x4096, .f32⟩
  | 35 => ⟨S_, .f32⟩
  | 36 => ⟨S16384x4096, .f32⟩
  | 37 => ⟨S16384x4096, .f32⟩
  | 38 => ⟨S_, .f32⟩
  | 39 => ⟨S16384x4096, .f32⟩
  | 40 => ⟨S16384x4096, .f32⟩
  | 41 => ⟨S16384x4096, .f32⟩
  | 42 => ⟨S16384x2048, .f32⟩
  | 43 => ⟨S16384x2048, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S16384x2048, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x2048, .f32⟩
  | 63 => ⟨S16384x2048, .f32⟩
  | 64 => ⟨S_, .f32⟩
  | 65 => ⟨S16384x1, .f32⟩
  | 66 => ⟨S16384x1, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x2048, .f32⟩
  | 73 => ⟨S16384x2048, .f32⟩
  | 74 => ⟨S1x2048, .f32⟩
  | 75 => ⟨S16384x2048, .f32⟩
  | 76 => ⟨S16384x2048, .f32⟩
  | 77 => ⟨S1x2048, .f32⟩
  | 78 => ⟨S16384x2048, .f32⟩
  | 79 => ⟨S16384x2048, .f32⟩
  | 80 => ⟨S128x128x8x256, .f32⟩
  | 81 => ⟨S128, .i32⟩
  | 82 => ⟨S1x128, .i32⟩
  | 83 => ⟨S_, .i32⟩
  | 84 => ⟨S_, .i32⟩
  | 85 => ⟨S1x128, .i32⟩
  | 86 => ⟨S1x128, .i32⟩
  | 87 => ⟨S1x128, .i32⟩
  | 88 => ⟨S_, .i32⟩
  | 89 => ⟨S1x128, .i32⟩
  | 90 => ⟨S1x128, .i1⟩
  | 91 => ⟨S1x128, .i32⟩
  | 92 => ⟨S1x128, .i32⟩
  | 93 => ⟨S_, .i32⟩
  | 94 => ⟨S1x128, .i32⟩
  | 95 => ⟨S1x128, .i1⟩
  | 96 => ⟨S1x128, .i1⟩
  | 97 => ⟨S_, .i32⟩
  | 98 => ⟨S1x128, .i32⟩
  | 99 => ⟨S1x128, .i32⟩
  | 100 => ⟨S1x128, .i32⟩
  | 101 => ⟨S128x1, .i32⟩
  | 102 => ⟨S_, .i32⟩
  | 103 => ⟨S_, .i32⟩
  | 104 => ⟨S128x1, .i32⟩
  | 105 => ⟨S128x1, .i32⟩
  | 106 => ⟨S128x1, .i32⟩
  | 107 => ⟨S_, .i32⟩
  | 108 => ⟨S128x1, .i32⟩
  | 109 => ⟨S128x1, .i1⟩
  | 110 => ⟨S128x1, .i32⟩
  | 111 => ⟨S128x1, .i32⟩
  | 112 => ⟨S_, .i32⟩
  | 113 => ⟨S128x1, .i32⟩
  | 114 => ⟨S128x1, .i1⟩
  | 115 => ⟨S128x1, .i1⟩
  | 116 => ⟨S_, .i32⟩
  | 117 => ⟨S128x1, .i32⟩
  | 118 => ⟨S128x1, .i32⟩
  | 119 => ⟨S128x1, .i32⟩
  | 120 => ⟨S128x128, .i32⟩
  | 121 => ⟨S128x128, .i32⟩
  | 122 => ⟨S128x128, .i1⟩
  | 123 => ⟨S1x128x128, .i1⟩
  | 124 => ⟨S_, .f32⟩
  | 125 => ⟨S8x128x128, .f32⟩
  | 126 => ⟨S8x128x128, .i1⟩
  | 127 => ⟨S8x128x128, .f32⟩
  | _ => ⟨S16384x4096, .bf16⟩

abbrev hbmTy0_1 (i : Nat) : BufTy := match i % 128 with
  | 0 => ⟨S_, .f32⟩
  | 1 => ⟨S8x128x128, .f32⟩
  | 2 => ⟨S8x128x256x128, .f32⟩
  | 3 => ⟨S128x128x8x256, .f32⟩
  | 4 => ⟨S128x8, .f32⟩
  | 5 => ⟨S1x128x8x1, .f32⟩
  | 6 => ⟨S128x128x8x256, .f32⟩
  | 7 => ⟨S128x128x8x256, .f32⟩
  | 8 => ⟨S16384x2048, .f32⟩
  | 9 => ⟨S16384x2048, .f32⟩
  | 10 => ⟨S16384x2048, .f32⟩
  | 11 => ⟨S16384x2048, .f32⟩
  | 12 => ⟨S128x128x8x256, .f32⟩
  | 13 => ⟨S_, .f32⟩
  | 14 => ⟨S128x8, .f32⟩
  | 15 => ⟨S1x128x8x1, .f32⟩
  | 16 => ⟨S_, .f32⟩
  | 17 => ⟨S128x8, .f32⟩
  | 18 => ⟨S8x128, .f32⟩
  | 19 => ⟨S8x128x256x128, .f32⟩
  | 20 => ⟨S8x128x128, .f32⟩
  | 21 => ⟨S8x128x256x128, .f32⟩
  | 22 => ⟨S128x128x8x256, .f32⟩
  | 23 => ⟨S_, .f32⟩
  | 24 => ⟨S8x128x128, .f32⟩
  | 25 => ⟨S8x128x128, .f32⟩
  | 26 => ⟨S16384x2048, .f32⟩
  | 27 => ⟨S_, .f32⟩
  | 28 => ⟨S2048, .f32⟩
  | 29 => ⟨S1x2048, .f32⟩
  | 30 => ⟨S_, .f32⟩
  | 31 => ⟨S2048, .f32⟩
  | 32 => ⟨S16384x2048, .f32⟩
  | 33 => ⟨S_, .f32⟩
  | 34 => ⟨S2048, .f32⟩
  | 35 => ⟨S1x2048, .f32⟩
  | 36 => ⟨S16384x2048, .f32⟩
  | 37 => ⟨S16384x2048, .f32⟩
  | 38 => ⟨S_, .f32⟩
  | 39 => ⟨S2048, .f32⟩
  | 40 => ⟨S16384x2048, .f32⟩
  | 41 => ⟨S_, .f32⟩
  | 42 => ⟨S16384, .f32⟩
  | 43 => ⟨S16384x1, .f32⟩
  | 44 => ⟨S16384x2048, .f32⟩
  | 45 => ⟨S16384x2048, .f32⟩
  | 46 => ⟨S16384x1, .f32⟩
  | 47 => ⟨S16384x2048, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S_, .f32⟩
  | 55 => ⟨S16384, .f32⟩
  | 56 => ⟨S16384x2048, .f32⟩
  | 57 => ⟨S16384x2048, .f32⟩
  | 58 => ⟨S16384x2048, .f32⟩
  | 59 => ⟨S_, .f32⟩
  | 60 => ⟨S16384, .f32⟩
  | 61 => ⟨S16384x1, .f32⟩
  | 62 => ⟨S16384x2048, .f32⟩
  | 63 => ⟨S16384x1, .f32⟩
  | 64 => ⟨S_, .f32⟩
  | 65 => ⟨S16384x1, .f32⟩
  | 66 => ⟨S16384x1, .f32⟩
  | 67 => ⟨S_, .f32⟩
  | 68 => ⟨S16384, .f32⟩
  | 69 => ⟨S16384x2048, .f32⟩
  | 70 => ⟨S16384x2048, .f32⟩
  | 71 => ⟨S16384x4096, .f32⟩
  | 72 => ⟨S16384x4096, .f32⟩
  | 73 => ⟨S16384x4096, .f32⟩
  | 74 => ⟨S_, .f32⟩
  | 75 => ⟨S16384x4096, .f32⟩
  | 76 => ⟨S16384x4096, .f32⟩
  | 77 => ⟨S16384x4096, .f32⟩
  | 78 => ⟨S_, .f32⟩
  | 79 => ⟨S16384x4096, .f32⟩
  | 80 => ⟨S16384x4096, .f32⟩
  | 81 => ⟨S16384x4096, .f32⟩
  | 82 => ⟨S_, .f32⟩
  | 83 => ⟨S16384x4096, .f32⟩
  | 84 => ⟨S16384x4096, .f32⟩
  | 85 => ⟨S_, .f32⟩
  | 86 => ⟨S16384x4096, .f32⟩
  | 87 => ⟨S16384x4096, .f32⟩
  | 88 => ⟨S16384x4096, .f32⟩
  | 89 => ⟨S16384x4096, .f32⟩
  | 90 => ⟨S16384x4096, .bf16⟩
  | 91 => ⟨S128x8, .f32⟩
  | 92 => ⟨S1x2048, .f32⟩
  | 93 => ⟨S1x2048, .f32⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_c : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_c_0 : Ref sig .tc := ⟨.hbm, 97, rfl⟩
abbrev main_call0_v12 : Ref sig .tc := ⟨.hbm, 98, rfl⟩
abbrev main_call0_v13 : Ref sig .tc := ⟨.hbm, 99, rfl⟩
abbrev main_v62 : Ref sig .tc := ⟨.hbm, 100, rfl⟩
abbrev main_v63 : Ref sig .tc := ⟨.hbm, 101, rfl⟩
abbrev main_c_14 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_c : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_c_0 : Ref sig .tc := ⟨.hbm, 116, rfl⟩
abbrev main_call1_v12 : Ref sig .tc := ⟨.hbm, 117, rfl⟩
abbrev main_call1_v13 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_15 : Ref sig .tc := ⟨.hbm, 124, rfl⟩
abbrev main_v69 : Ref sig .tc := ⟨.hbm, 125, rfl⟩
abbrev main_v70_1 : Ref sig .tc := ⟨.hbm, 126, rfl⟩
abbrev main_v70_0 : Ref sig .tc := ⟨.hbm, 127, rfl⟩
abbrev main_call2_cst : Ref sig .tc := ⟨.hbm, 128, rfl⟩
abbrev main_v70_2 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_16 : Ref sig .tc := ⟨.hbm, 141, rfl⟩
abbrev main_v82 : Ref sig .tc := ⟨.hbm, 142, rfl⟩
abbrev main_v83 : Ref sig .tc := ⟨.hbm, 143, rfl⟩
abbrev main_cst_17 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_call3_cst : Ref sig .tc := ⟨.hbm, 151, rfl⟩
abbrev main_call3_v0 : Ref sig .tc := ⟨.hbm, 152, rfl⟩
abbrev main_v90 : Ref sig .tc := ⟨.hbm, 153, rfl⟩
abbrev main_v91 : Ref sig .tc := ⟨.hbm, 154, rfl⟩
abbrev main_cst_18 : Ref sig .tc := ⟨.hbm, 155, rfl⟩
abbrev main_v92 : Ref sig .tc := ⟨.hbm, 156, rfl⟩
abbrev main_v93 : Ref sig .tc := ⟨.hbm, 157, rfl⟩
abbrev main_cst_19 : Ref sig .tc := ⟨.hbm, 158, rfl⟩
abbrev main_v94 : Ref sig .tc := ⟨.hbm, 159, rfl⟩
abbrev main_v95 : Ref sig .tc := ⟨.hbm, 160, rfl⟩
abbrev main_cst_20 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_21 : Ref sig .tc := ⟨.hbm, 166, rfl⟩
abbrev main_v100 : Ref sig .tc := ⟨.hbm, 167, rfl⟩
abbrev main_v101 : Ref sig .tc := ⟨.hbm, 168, rfl⟩
abbrev main_cst_22 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_cst_23 : Ref sig .tc := ⟨.hbm, 176, rfl⟩
abbrev main_v108 : Ref sig .tc := ⟨.hbm, 177, rfl⟩
abbrev main_v109 : Ref sig .tc := ⟨.hbm, 178, rfl⟩
abbrev main_cst_24 : Ref sig .tc := ⟨.hbm, 179, rfl⟩
abbrev main_v110 : Ref sig .tc := ⟨.hbm, 180, rfl⟩
abbrev main_v111 : Ref sig .tc := ⟨.hbm, 181, rfl⟩
abbrev main_cst_25 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_26 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_27 : Ref sig .tc := ⟨.hbm, 192, rfl⟩
abbrev main_v120 : Ref sig .tc := ⟨.hbm, 193, rfl⟩
abbrev main_v121 : Ref sig .tc := ⟨.hbm, 194, rfl⟩
abbrev main_cst_28 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_cst_29 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_30 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_cst_31 : Ref sig .tc := ⟨.hbm, 210, rfl⟩
abbrev main_v134 : Ref sig .tc := ⟨.hbm, 211, rfl⟩
abbrev main_v135 : Ref sig .tc := ⟨.hbm, 212, rfl⟩
abbrev main_cst_32 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== UpW.lean ====
abbrev S16384x1024 : Shape := ⟨2, ![16384, 1024]⟩
abbrev S16384x2816 : Shape := ⟨2, ![16384, 2816]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x2816, .bf16⟩
  | .hbm, ⟨3, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond4 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c4_i32 : BitVec 32 := 4#32
  let v1 : BitVec 1 := Scalar.cmpi .slt arg1 c4_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg1 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpWRefIdeal.lean ====
abbrev S16384x1024 : Shape := ⟨2, ![16384, 1024]⟩
abbrev S16384x2816 : Shape := ⟨2, ![16384, 2816]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x2816, .bf16⟩
  | .hbm, ⟨3, _⟩ => ⟨S16384x1024, .f32⟩
  | .hbm, ⟨4, _⟩ => ⟨S16384x5632, .bf16⟩
  | .hbm, ⟨5, _⟩ => ⟨S16384x5632, .f32⟩
  | .hbm, ⟨6, _⟩ => ⟨S_, .f32⟩
  | .hbm, ⟨7, _⟩ => ⟨S1024x5632, .f32⟩
  | .hbm, ⟨8, _⟩ => ⟨S16384x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== UpH.lean ====
abbrev S16384x2816 : Shape := ⟨2, ![16384, 2816]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S16384x1024 : Shape := ⟨2, ![16384, 1024]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 7
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2x1024x5632, .f32⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S16384x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg2.toNat, v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpHRefIdeal.lean ====
abbrev S16384x2816 : Shape := ⟨2, ![16384, 2816]⟩
abbrev S2x1024x5632 : Shape := ⟨3, ![2, 1024, 5632]⟩
abbrev S16384x5632 : Shape := ⟨2, ![16384, 5632]⟩
abbrev S_ : Shape := ⟨0, ![]⟩
abbrev S16384x1024 : Shape := ⟨2, ![16384, 1024]⟩
abbrev S1x1024x5632 : Shape := ⟨3, ![1, 1024, 5632]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2x1024x5632, .f32⟩
  | .hbm, ⟨3, _⟩ => ⟨S16384x5632, .bf16⟩
  | .hbm, ⟨4, _⟩ => ⟨S16384x5632, .f32⟩
  | .hbm, ⟨5, _⟩ => ⟨S_, .f32⟩
  | .hbm, ⟨6, _⟩ => ⟨S16384x1024, .f32⟩
  | .hbm, ⟨7, _⟩ => ⟨S1x1024x5632, .f32⟩
  | .hbm, ⟨8, _⟩ => ⟨S1024x5632, .f32⟩
  | .hbm, ⟨9, _⟩ => ⟨S16384x5632, .f32⟩
  | .hbm, ⟨10, _⟩ => ⟨S16384x1024, .f32⟩
  | .hbm, ⟨11, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== UpH1.lean ====
abbrev S16384x2816 : Shape := ⟨2, ![16384, 2816]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S16384x1024 : Shape := ⟨2, ![16384, 1024]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 7
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2x1024x5632, .f32⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S16384x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![arg2.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpH1RefIdeal.lean ====
abbrev S16384x2816 : Shape := ⟨2, ![16384, 2816]⟩
abbrev S2x1024x5632 : Shape := ⟨3, ![2, 1024, 5632]⟩
abbrev S16384x5632 : Shape := ⟨2, ![16384, 5632]⟩
abbrev S_ : Shape := ⟨0, ![]⟩
abbrev S16384x1024 : Shape := ⟨2, ![16384, 1024]⟩
abbrev S1x1024x5632 : Shape := ⟨3, ![1, 1024, 5632]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2x1024x5632, .f32⟩
  | .hbm, ⟨3, _⟩ => ⟨S16384x5632, .bf16⟩
  | .hbm, ⟨4, _⟩ => ⟨S16384x5632, .f32⟩
  | .hbm, ⟨5, _⟩ => ⟨S_, .f32⟩
  | .hbm, ⟨6, _⟩ => ⟨S16384x1024, .f32⟩
  | .hbm, ⟨7, _⟩ => ⟨S1x1024x5632, .f32⟩
  | .hbm, ⟨8, _⟩ => ⟨S1024x5632, .f32⟩
  | .hbm, ⟨9, _⟩ => ⟨S16384x5632, .f32⟩
  | .hbm, ⟨10, _⟩ => ⟨S16384x1024, .f32⟩
  | .hbm, ⟨11, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownW.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownH.lean ====
abbrev S16384x1024 : Shape := ⟨2, ![16384, 1024]⟩
abbrev S2816x1024 : Shape := ⟨2, ![2816, 1024]⟩
abbrev S16384x2816 : Shape := ⟨2, ![16384, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .f32⟩
  | .hbm, ⟨2, _⟩ => ⟨S2816x1024, .bf16⟩
  | .hbm, ⟨3, _⟩ => ⟨S16384x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownHRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .f32⟩
  | .hbm, ⟨2, _⟩ => ⟨S_, .f32⟩
  | .hbm, ⟨3, _⟩ => ⟨S16384x2816, .f32⟩
  | .hbm, ⟨4, _⟩ => ⟨S16384x1024, .f32⟩
  | .hbm, ⟨5, _⟩ => ⟨S16384x1024, .f32⟩
  | .hbm, ⟨6, _⟩ => ⟨S16384x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CInW.lean ====
abbrev S16384x1024 : Shape := ⟨2, ![16384, 1024]⟩
abbrev S16384x4096 : Shape := ⟨2, ![16384, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInWRefIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S16384x1024, .f32⟩
  | .hbm, ⟨3, _⟩ => ⟨S16384x4096, .f32⟩
  | .hbm, ⟨4, _⟩ => ⟨S_, .f32⟩
  | .hbm, ⟨5, _⟩ => ⟨S1024x4096, .f32⟩
  | .hbm, ⟨6, _⟩ => ⟨S16384x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CInH.lean ====
abbrev S16384x4096 : Shape := ⟨2, ![16384, 4096]⟩
abbrev S1x1024x4096 : Shape := ⟨3, ![1, 1024, 4096]⟩
abbrev S1024x4x1024 : Shape := ⟨3, ![1024, 4, 1024]⟩
abbrev S4x1024x1024 : Shape := ⟨3, ![4, 1024, 1024]⟩
abbrev S16384x1024 : Shape := ⟨2, ![16384, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1x1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInHRefIdeal.lean ====
abbrev S16384x4096 : Shape := ⟨2, ![16384, 4096]⟩
abbrev S1x1024x4096 : Shape := ⟨3, ![1, 1024, 4096]⟩
abbrev S_ : Shape := ⟨0, ![]⟩
abbrev S16384x1024 : Shape := ⟨2, ![16384, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x1024x4096, .f32⟩
  | .hbm, ⟨2, _⟩ => ⟨S_, .f32⟩
  | .hbm, ⟨3, _⟩ => ⟨S16384x1024, .f32⟩
  | .hbm, ⟨4, _⟩ => ⟨S1024x4096, .f32⟩
  | .hbm, ⟨5, _⟩ => ⟨S16384x4096, .f32⟩
  | .hbm, ⟨6, _⟩ => ⟨S16384x4096, .f32⟩
  | .hbm, ⟨7, _⟩ => ⟨S16384x1024, .f32⟩
  | .hbm, ⟨8, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== COutW.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== COutWRefIdeal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .f32⟩
  | .hbm, ⟨3, _⟩ => ⟨S16384x1024, .f32⟩
  | .hbm, ⟨4, _⟩ => ⟨S_, .f32⟩
  | .hbm, ⟨5, _⟩ => ⟨S2048x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== COutH.lean ====
abbrev S16384x1024 : Shape := ⟨2, ![16384, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .f32⟩
  | .hbm, ⟨2, _⟩ => ⟨S2048x1024, .bf16⟩
  | .hbm, ⟨3, _⟩ => ⟨S16384x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== COutHRefIdeal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .f32⟩
  | .hbm, ⟨2, _⟩ => ⟨S_, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AbOutW.lean ====
abbrev S16384x1024 : Shape := ⟨2, ![16384, 1024]⟩
abbrev S16384x512 : Shape := ⟨2, ![16384, 512]⟩
abbrev S1536x1024 : Shape := ⟨2, ![1536, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x1024, .bf16⟩
  | .hbm, ⟨3, _⟩ => ⟨S1536x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 8], ![false, false, false]⟩

def k0_cond4 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg0 c2_i32
  let c3_i32 : BitVec 32 := 3#32
  let v1 : BitVec 1 := Scalar.cmpi .slt arg0 c3_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg0 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AbOutWRefIdeal.lean ====
abbrev S16384x1024 : Shape := ⟨2, ![16384, 1024]⟩
abbrev S16384x512 : Shape := ⟨2, ![16384, 512]⟩
abbrev S16384x1536 : Shape := ⟨2, ![16384, 1536]⟩
abbrev S_ : Shape := ⟨0, ![]⟩
abbrev S1536x1024 : Shape := ⟨2, ![1536, 1024]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x1024, .bf16⟩
  | .hbm, ⟨3, _⟩ => ⟨S16384x1536, .bf16⟩
  | .hbm, ⟨4, _⟩ => ⟨S16384x1536, .f32⟩
  | .hbm, ⟨5, _⟩ => ⟨S16384x1024, .f32⟩
  | .hbm, ⟨6, _⟩ => ⟨S_, .f32⟩
  | .hbm, ⟨7, _⟩ => ⟨S1536x1024, .f32⟩
  | .hbm, ⟨8, _⟩ => ⟨S16384x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AbOutH.lean ====
abbrev S16384x1024 : Shape := ⟨2, ![16384, 1024]⟩
abbrev S1536x1024 : Shape := ⟨2, ![1536, 1024]⟩
abbrev S16384x1536 : Shape := ⟨2, ![16384, 1536]⟩
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1536x1024, .f32⟩
  | .hbm, ⟨2, _⟩ => ⟨S1536x1024, .bf16⟩
  | .hbm, ⟨3, _⟩ => ⟨S16384x1536, .f32⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x768, .f32⟩
  | .local _ .vmem, ⟨5, _⟩ => ⟨S2048x768, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutHRefIdeal.lean ====
abbrev S16384x1024 : Shape := ⟨2, ![16384, 1024]⟩
abbrev S1536x1024 : Shape := ⟨2, ![1536, 1024]⟩
abbrev S_ : Shape := ⟨0, ![]⟩
abbrev S16384x1536 : Shape := ⟨2, ![16384, 1536]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1536x1024, .f32⟩
  | .hbm, ⟨2, _⟩ => ⟨S_, .f32⟩
  | .hbm, ⟨3, _⟩ => ⟨S16384x1536, .f32⟩
  | .hbm, ⟨4, _⟩ => ⟨S16384x1024, .f32⟩
  | .hbm, ⟨5, _⟩ => ⟨S16384x1024, .f32⟩
  | .hbm, ⟨6, _⟩ => ⟨S16384x1536, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up0.lean ====
abbrev S16384x1024 : Shape := ⟨2, ![16384, 1024]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S16384x5632 : Shape := ⟨2, ![16384, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2x1024x5632, .f32⟩
  | .hbm, ⟨2, _⟩ => ⟨S2048x4x1408, .f32⟩
  | .hbm, ⟨3, _⟩ => ⟨S4x2048x1408, .f32⟩
  | .hbm, ⟨4, _⟩ => ⟨S4x2048x1408, .bf16⟩
  | .hbm, ⟨5, _⟩ => ⟨S16384x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up0RefIdeal.lean ====
abbrev S16384x1024 : Shape := ⟨2, ![16384, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S16384x5632 : Shape := ⟨2, ![16384, 5632]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x5632, .f32⟩
  | .hbm, ⟨2, _⟩ => ⟨S16384x1024, .f32⟩
  | .hbm, ⟨3, _⟩ => ⟨S1x1024x5632, .f32⟩
  | .hbm, ⟨4, _⟩ => ⟨S1024x5632, .f32⟩
  | .hbm, ⟨5, _⟩ => ⟨S16384x5632, .f32⟩
  | .hbm, ⟨6, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up1.lean ====
abbrev S16384x1024 : Shape := ⟨2, ![16384, 1024]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S16384x5632 : Shape := ⟨2, ![16384, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2x1024x5632, .f32⟩
  | .hbm, ⟨2, _⟩ => ⟨S2048x4x1408, .f32⟩
  | .hbm, ⟨3, _⟩ => ⟨S4x2048x1408, .f32⟩
  | .hbm, ⟨4, _⟩ => ⟨S4x2048x1408, .bf16⟩
  | .hbm, ⟨5, _⟩ => ⟨S16384x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up1RefIdeal.lean ====
abbrev S16384x1024 : Shape := ⟨2, ![16384, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S16384x5632 : Shape := ⟨2, ![16384, 5632]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x5632, .f32⟩
  | .hbm, ⟨2, _⟩ => ⟨S16384x1024, .f32⟩
  | .hbm, ⟨3, _⟩ => ⟨S1x1024x5632, .f32⟩
  | .hbm, ⟨4, _⟩ => ⟨S1024x5632, .f32⟩
  | .hbm, ⟨5, _⟩ => ⟨S16384x5632, .f32⟩
  | .hbm, ⟨6, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CIn.lean ====
abbrev S16384x1024 : Shape := ⟨2, ![16384, 1024]⟩
abbrev S1x1024x4096 : Shape := ⟨3, ![1, 1024, 4096]⟩
abbrev S1024x4x1024 : Shape := ⟨3, ![1024, 4, 1024]⟩
abbrev S4x1024x1024 : Shape := ⟨3, ![4, 1024, 1024]⟩
abbrev S16384x4096 : Shape := ⟨2, ![16384, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1x1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInRefIdeal.lean ====
abbrev S16384x1024 : Shape := ⟨2, ![16384, 1024]⟩
abbrev S1x1024x4096 : Shape := ⟨3, ![1, 1024, 4096]⟩
abbrev S1024x4096 : Shape := ⟨2, ![1024, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x4096, .f32⟩
  | .hbm, ⟨2, _⟩ => ⟨S16384x1024, .f32⟩
  | .hbm, ⟨3, _⟩ => ⟨S1024x4096, .f32⟩
  | .hbm, ⟨4, _⟩ => ⟨S16384x4096, .f32⟩
  | .hbm, ⟨5, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AbIn.lean ====
abbrev S16384x1024 : Shape := ⟨2, ![16384, 1024]⟩
abbrev S1x1024x4608 : Shape := ⟨3, ![1, 1024, 4608]⟩
abbrev S1024x4x1152 : Shape := ⟨3, ![1024, 4, 1152]⟩
abbrev S4x1024x1152 : Shape := ⟨3, ![4, 1024, 1152]⟩
abbrev S16384x4608 : Shape := ⟨2, ![16384, 4608]⟩
abbrev S2048x1024 : Shape := ⟨2, ![2048, 1024]⟩
abbrev S1x1024x1152 : Shape := ⟨3, ![1, 1024, 1152]⟩
abbrev S2048x1152 : Shape := ⟨2, ![2048, 1152]⟩
abbrev S1024x1152 : Shape := ⟨2, ![1024, 1152]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1x1024x4608, .f32⟩
  | .hbm, ⟨2, _⟩ => ⟨S1024x4x1152, .f32⟩
  | .hbm, ⟨3, _⟩ => ⟨S4x1024x1152, .f32⟩
  | .hbm, ⟨4, _⟩ => ⟨S4x1024x1152, .bf16⟩
  | .hbm, ⟨5, _⟩ => ⟨S16384x4608, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S2048x1152, .bf16⟩
  | .local _ .vmem, ⟨5, _⟩ => ⟨S2048x1152, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S16384x1024 : Shape := ⟨2, ![16384, 1024]⟩
abbrev S1x1024x4608 : Shape := ⟨3, ![1, 1024, 4608]⟩
abbrev S1024x4608 : Shape := ⟨2, ![1024, 4608]⟩
abbrev S16384x4608 : Shape := ⟨2, ![16384, 4608]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x4608, .f32⟩
  | .hbm, ⟨2, _⟩ => ⟨S16384x1024, .f32⟩
  | .hbm, ⟨3, _⟩ => ⟨S1024x4608, .f32⟩
  | .hbm, ⟨4, _⟩ => ⟨S16384x4608, .f32⟩
  | .hbm, ⟨5, _⟩ => ⟨S16384x4608, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AbOut.lean ====
abbrev S16384x1024 : Shape := ⟨2, ![16384, 1024]⟩
abbrev S16384x512 : Shape := ⟨2, ![16384, 512]⟩
abbrev S1536x1024 : Shape := ⟨2, ![1536, 1024]⟩
abbrev S2x1024 : Shape := ⟨2, ![2, 1024]⟩
abbrev S1x1024 : Shape := ⟨2, ![1, 1024]⟩
abbrev S1024 : Shape := ⟨1, ![1024]⟩
abbrev S1024x512 : Shape := ⟨2, ![1024, 512]⟩
abbrev S512x1024 : Shape := ⟨2, ![512, 1024]⟩
abbrev S1024x1024 : Shape := ⟨2, ![1024, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1536x1024, .f32⟩
  | .hbm, ⟨3, _⟩ => ⟨S16384x1024, .f32⟩
  | .hbm, ⟨4, _⟩ => ⟨S2x1024, .f32⟩
  | .hbm, ⟨5, _⟩ => ⟨S1536x1024, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S16384x1024, .f32⟩
  | .hbm, ⟨10, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 1, 3], ![false, false, false]⟩

def k0_cond4 (i : grid0.Coords) : BitVec 1 :=
  let arg2 : BitVec 32 := BitVec.ofNat 32 (i 2).val
  let c2_i32_5 : BitVec 32 := 2#32
  let v13 : BitVec 1 := Scalar.cmpi .eq arg2 c2_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AbOutRefIdeal.lean ====
abbrev S16384x1024 : Shape := ⟨2, ![16384, 1024]⟩
abbrev S16384x512 : Shape := ⟨2, ![16384, 512]⟩
abbrev S1536x1024 : Shape := ⟨2, ![1536, 1024]⟩
abbrev S2x1024 : Shape := ⟨2, ![2, 1024]⟩
abbrev S16384x1536 : Shape := ⟨2, ![16384, 1536]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1536x1024, .f32⟩
  | .hbm, ⟨3, _⟩ => ⟨S16384x1024, .f32⟩
  | .hbm, ⟨4, _⟩ => ⟨S2x1024, .f32⟩
  | .hbm, ⟨5, _⟩ => ⟨S16384x1536, .bf16⟩
  | .hbm, ⟨6, _⟩ => ⟨S16384x1536, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== COut.lean ====
abbrev S16384x2048 : Shape := ⟨2, ![16384, 2048]⟩
abbrev S2048x1024 : Shape := ⟨2, ![2048, 1024]⟩
abbrev S16384x1024 : Shape := ⟨2, ![16384, 1024]⟩
abbrev S2x1024 : Shape := ⟨2, ![2, 1024]⟩
abbrev S1x1024 : Shape := ⟨2, ![1, 1024]⟩
abbrev S1024 : Shape := ⟨1, ![1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S2x1024, .f32⟩
  | .hbm, ⟨4, _⟩ => ⟨S2048x1024, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .hbm, ⟨9, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== COutRefIdeal.lean ====
abbrev S16384x2048 : Shape := ⟨2, ![16384, 2048]⟩
abbrev S2048x1024 : Shape := ⟨2, ![2048, 1024]⟩
abbrev S16384x1024 : Shape := ⟨2, ![16384, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S2x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .bf16⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== ConvGlu.lean ====
abbrev S16384x5632 : Shape := ⟨2, ![16384, 5632]⟩
abbrev S16384x2816 : Shape := ⟨2, ![16384, 2816]⟩
abbrev S3x5632 : Shape := ⟨2, ![3, 5632]⟩
abbrev S3x2816 : Shape := ⟨2, ![3, 2816]⟩
abbrev S1x2816 : Shape := ⟨2, ![1, 2816]⟩
abbrev S1024x256 : Shape := ⟨2, ![1024, 256]⟩
abbrev S16x256 : Shape := ⟨2, ![16, 256]⟩
abbrev S8x256 : Shape := ⟨2, ![8, 256]⟩
abbrev S3x256 : Shape := ⟨2, ![3, 256]⟩
abbrev S1x256 : Shape := ⟨2, ![1, 256]⟩
abbrev S1032x256 : Shape := ⟨2, ![1032, 256]⟩
abbrev S256 : Shape := ⟨1, ![256]⟩

abbrev nBuf : Space → Nat
  | .hbm => 11
  | .vmem => 32
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x2816, .bf16⟩
  | .hbm, ⟨3, _⟩ => ⟨S16384x2816, .f32⟩
  | .hbm, ⟨4, _⟩ => ⟨S3x5632, .f32⟩
  | .hbm, ⟨5, _⟩ => ⟨S16384x2816, .bf16⟩
  | .hbm, ⟨6, _⟩ => ⟨S16384x2816, .bf16⟩
  | .hbm, ⟨7, _⟩ => ⟨S3x2816, .f32⟩
  | .hbm, ⟨8, _⟩ => ⟨S3x2816, .f32⟩
  | .hbm, ⟨9, _⟩ => ⟨S1x2816, .f32⟩
  | .hbm, ⟨10, _⟩ => ⟨S1x2816, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S16x256, .bf16⟩
  | .local _ .vmem, ⟨7, _⟩ => ⟨S16x256, .bf16⟩
  | .local _ .vmem, ⟨8, _⟩ => ⟨S1024x256, .bf16⟩
  | .local _ .vmem, ⟨9, _⟩ => ⟨S1024x256, .bf16⟩
  | .local _ .vmem, ⟨10, _⟩ => ⟨S16x256, .bf16⟩
  | .local _ .vmem, ⟨11, _⟩ => ⟨S16x256, .bf16⟩
  | .local _ .vmem, ⟨12, _⟩ => ⟨S1024x256, .f32⟩
  | .local _ .vmem, ⟨13, _⟩ => ⟨S1024x256, .f32⟩
  | .local _ .vmem, ⟨14, _⟩ => ⟨S8x256, .f32⟩
  | .local _ .vmem, ⟨15, _⟩ => ⟨S8x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S3x256, .f32⟩
  | .local _ .vmem, ⟨25, _⟩ => ⟨S3x256, .f32⟩
  | .local _ .vmem, ⟨26, _⟩ => ⟨S3x256, .f32⟩
  | .local _ .vmem, ⟨27, _⟩ => ⟨S3x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ConvGluIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ConvGluRefIdeal.lean ====
abbrev S16384x5632 : Shape := ⟨2, ![16384, 5632]⟩
abbrev S16384x2816 : Shape := ⟨2, ![16384, 2816]⟩
abbrev S3x5632 : Shape := ⟨2, ![3, 5632]⟩
abbrev S_ : Shape := ⟨0, ![]⟩
abbrev S5632 : Shape := ⟨1, ![5632]⟩
abbrev S2x5632 : Shape := ⟨2, ![2, 5632]⟩
abbrev S16386x5632 : Shape := ⟨2, ![16386, 5632]⟩
abbrev S1x5632 : Shape := ⟨2, ![1, 5632]⟩
abbrev S3x2816 : Shape := ⟨2, ![3, 2816]⟩
abbrev S2816 : Shape := ⟨1, ![2816]⟩
abbrev S1x2816 : Shape := ⟨2, ![1, 2816]⟩

abbrev nBuf : Space → Nat
  | .hbm => 150
  | .vmem => 0
  | .smem => 0
  | _ => 0

abbrev hbmTy0_0 (i : Nat) : BufTy := match i % 128 with
  | 0 => ⟨S16384x5632, .bf16⟩
  | 1 => ⟨S16384x2816, .bf16⟩
  | 2 => ⟨S16384x2816, .bf16⟩
  | 3 => ⟨S16384x2816, .f32⟩
  | 4 => ⟨S3x5632, .f32⟩
  | 5 => ⟨S16384x2816, .f32⟩
  | 6 => ⟨S16384x2816, .f32⟩
  | 7 => ⟨S16384x2816, .f32⟩
  | 8 => ⟨S16384x2816, .f32⟩
  | 9 => ⟨S16384x2816, .f32⟩
  | 10 => ⟨S_, .f32⟩
  | 11 => ⟨S16384x2816, .f32⟩
  | 12 => ⟨S16384x2816, .f32⟩
  | 13 => ⟨S_, .f32⟩
  | 14 => ⟨S16384x2816, .f32⟩
  | 15 => ⟨S16384x2816, .f32⟩
  | 16 => ⟨S_, .f32⟩
  | 17 => ⟨S16384x2816, .f32⟩
  | 18 => ⟨S16384x2816, .f32⟩
  | 19 => ⟨S16384x2816, .f32⟩
  | 20 => ⟨S_, .f32⟩
  | 21 => ⟨S16384x2816, .f32⟩
  | 22 => ⟨S16384x2816, .f32⟩
  | 23 => ⟨S16384x2816, .f32⟩
  | 24 => ⟨S_, .f32⟩
  | 25 => ⟨S16384x2816, .f32⟩
  | 26 => ⟨S16384x2816, .f32⟩
  | 27 => ⟨S_, .f32⟩
  | 28 => ⟨S16384x2816, .f32⟩
  | 29 => ⟨S16384x2816, .f32⟩
  | 30 => ⟨S16384x2816, .f32⟩
  | 31 => ⟨S_, .f32⟩
  | 32 => ⟨S16384x2816, .f32⟩
  | 33 => ⟨S16384x2816, .f32⟩
  | 34 => ⟨S_, .f32⟩
  | 35 => ⟨S16384x2816, .f32⟩
  | 36 => ⟨S16384x2816, .f32⟩
  | 37 => ⟨S16384x2816, .f32⟩
  | 38 => ⟨S16384x2816, .f32⟩
  | 39 => ⟨S16384x2816, .f32⟩
  | 40 => ⟨S16384x2816, .f32⟩
  | 41 => ⟨S16384x2816, .f32⟩
  | 42 => ⟨S16384x2816, .f32⟩
  | 43 => ⟨S_, .f32⟩
  | 44 => ⟨S16384x2816, .f32⟩
  | 45 => ⟨S16384x2816, .f32⟩
  | 46 => ⟨S16384x2816, .f32⟩
  | 47 => ⟨S_, .f32⟩
  | 48 => ⟨S16384x2816, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S16384x2816, .f32⟩
  | 58 => ⟨S16384x2816, .f32⟩
  | 59 => ⟨S16384x5632, .f32⟩
  | 60 => ⟨S_, .f32⟩
  | 61 => ⟨S5632, .f32⟩
  | 62 => ⟨S_, .f32⟩
  | 63 => ⟨S2x5632, .f32⟩
  | 64 => ⟨S16386x5632, .f32⟩
  | 65 => ⟨S_, .f32⟩
  | 66 => ⟨S2x5632, .f32⟩
  | 67 => ⟨S1x5632, .f32⟩
  | 68 => ⟨S5632, .f32⟩
  | 69 => ⟨S16384x5632, .f32⟩
  | 70 => ⟨S1x5632, .f32⟩
  | 71 => ⟨S16384x5632, .f32⟩
  | 72 => ⟨S16384x5632, .f32⟩
  | 73 => ⟨S1x5632, .f32⟩
  | 74 => ⟨S5632, .f32⟩
  | 75 => ⟨S16384x5632, .f32⟩
  | 76 => ⟨S1x5632, .f32⟩
  | 77 => ⟨S16384x5632, .f32⟩
  | 78 => ⟨S16384x5632, .f32⟩
  | 79 => ⟨S16384x5632, .f32⟩
  | 80 => ⟨S1x5632, .f32⟩
  | 81 => ⟨S5632, .f32⟩
  | 82 => ⟨S16384x5632, .f32⟩
  | 83 => ⟨S1x5632, .f32⟩
  | 84 => ⟨S16384x5632, .f32⟩
  | 85 => ⟨S16384x5632, .f32⟩
  | 86 => ⟨S16384x5632, .f32⟩
  | 87 => ⟨S1x5632, .f32⟩
  | 88 => ⟨S16384x5632, .f32⟩
  | 89 => ⟨S16384x5632, .f32⟩
  | 90 => ⟨S16384x5632, .f32⟩
  | 91 => ⟨S_, .f32⟩
  | 92 => ⟨S5632, .f32⟩
  | 93 => ⟨S1x5632, .f32⟩
  | 94 => ⟨S_, .f32⟩
  | 95 => ⟨S5632, .f32⟩
  | 96 => ⟨S16384x5632, .f32⟩
  | 97 => ⟨S16384x5632, .f32⟩
  | 98 => ⟨S16384x5632, .f32⟩
  | 99 => ⟨S_, .f32⟩
  | 100 => ⟨S5632, .f32⟩
  | 101 => ⟨S1x5632, .f32⟩
  | 102 => ⟨S_, .f32⟩
  | 103 => ⟨S5632, .f32⟩
  | 104 => ⟨S_, .f32⟩
  | 105 => ⟨S16386x5632, .f32⟩
  | 106 => ⟨S1x5632, .f32⟩
  | 107 => ⟨S_, .f32⟩
  | 108 => ⟨S3x5632, .f32⟩
  | 109 => ⟨S16384x5632, .f32⟩
  | 110 => ⟨S16384x5632, .f32⟩
  | 111 => ⟨S16384x5632, .f32⟩
  | 112 => ⟨S_, .f32⟩
  | 113 => ⟨S5632, .f32⟩
  | 114 => ⟨S1x5632, .f32⟩
  | 115 => ⟨S_, .f32⟩
  | 116 => ⟨S5632, .f32⟩
  | 117 => ⟨S_, .f32⟩
  | 118 => ⟨S16386x5632, .f32⟩
  | 119 => ⟨S16386x5632, .f32⟩
  | 120 => ⟨S1x5632, .f32⟩
  | 121 => ⟨S_, .f32⟩
  | 122 => ⟨S3x5632, .f32⟩
  | 123 => ⟨S3x5632, .f32⟩
  | 124 => ⟨S16384x5632, .f32⟩
  | 125 => ⟨S16384x5632, .f32⟩
  | 126 => ⟨S16384x5632, .f32⟩
  | 127 => ⟨S_, .f32⟩
  | _ => ⟨S16384x5632, .bf16⟩

abbrev hbmTy0_1 (i : Nat) : BufTy := match i % 128 with
  | 0 => ⟨S5632, .f32⟩
  | 1 => ⟨S1x5632, .f32⟩
  | 2 => ⟨S_, .f32⟩
  | 3 => ⟨S5632, .f32⟩
  | 4 => ⟨S_, .f32⟩
  | 5 => ⟨S16386x5632, .f32⟩
  | 6 => ⟨S16386x5632, .f32⟩
  | 7 => ⟨S1x5632, .f32⟩
  | 8 => ⟨S_, .f32⟩
  | 9 => ⟨S3x5632, .f32⟩
  | 10 => ⟨S3x5632, .f32⟩
  | 11 => ⟨S2x5632, .f32⟩
  | 12 => ⟨S16384x5632, .f32⟩
  | 13 => ⟨S16384x5632, .bf16⟩
  | 14 => ⟨S16384x2816, .bf16⟩
  | 15 => ⟨S16384x2816, .bf16⟩
  | 16 => ⟨S3x2816, .f32⟩
  | 17 => ⟨S3x2816, .f32⟩
  | 18 => ⟨S2816, .f32⟩
  | 19 => ⟨S1x2816, .f32⟩
  | 20 => ⟨S2816, .f32⟩
  | 21 => ⟨S1x2816, .f32⟩
  | _ => ⟨S16384x5632, .bf16⟩

abbrev hbmTy (i : Nat) : BufTy := match i / 128 with
  | 0 => hbmTy0_0 i
  | 1 => hbmTy0_1 i
  | _ => ⟨S16384x5632, .bf16⟩

abbrev bufTy : (tb : Table) → Fin (tcTables nBuf tb) → BufTy
  | .hbm, ⟨i, _⟩ => hbmTy i
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_cst_19 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_20 : Ref sig .tc := ⟨.hbm, 112, rfl⟩
abbrev main_v86 : Ref sig .tc := ⟨.hbm, 113, rfl⟩
abbrev main_v87 : Ref sig .tc := ⟨.hbm, 114, rfl⟩
abbrev main_cst_21 : Ref sig .tc := ⟨.hbm, 115, rfl⟩
abbrev main_v88 : Ref sig .tc := ⟨.hbm, 116, rfl⟩
abbrev main_cst_22 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_23 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_24 : Ref sig .tc := ⟨.hbm, 127, rfl⟩
abbrev main_v97 : Ref sig .tc := ⟨.hbm, 128, rfl⟩
abbrev main_v98 : Ref sig .tc := ⟨.hbm, 129, rfl⟩
abbrev main_cst_25 : Ref sig .tc := ⟨.hbm, 130, rfl⟩
abbrev main_v99 : Ref sig .tc := ⟨.hbm, 131, rfl⟩
abbrev main_cst_26 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_27 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩

abbrev nD : Nat := 1
abbrev τ : Topo := Topo.v7x

variable {F : FTy → Type} [FloatOps F]
-- ==== Proof.Body.lean ====
module

public import proofs.«01_k».proof.Proof.Gen.KernelIdeal.Value

@[expose] public section

/-! The kernel's work on one block of 256 token rows, written once for a chunk `b` (128 rows) and a group `g` (256 columns)
    instead of sixteen times over, and the proof that what the program stores at a grid point is this. -/

set_option maxRecDepth 16384

noncomputable section

namespace Cert.KernelIdeal.Sgu

open Cert.KernelIdeal Cert.KernelIdeal.Gen Idealize.ShloMosaic Idealize.ShloMosaic.TcCoe Idealize.ShloMosaic.Tactic Idealize.SL.Sem

variable {F : FTy → Type} [FloatOps F] [Named F]

/-! ## Where a chunk and a group lie -/

theorem inbTile (b : Fin 2) (g : Fin 8) : ∀ a, (![128 * b.val, 256 * g.val] : Fin 2 → Nat) a + S128x256.size a ≤ S256x2048.size a := by
  intro a; match a with
  | ⟨0, _⟩ => show 128 * b.val + 128 ≤ 256; omega
  | ⟨1, _⟩ => show 256 * g.val + 256 ≤ 2048; omega

theorem inbTileZ (b : Fin 2) (g : Fin 8) : ∀ a, (![128 * b.val, 256 * g.val] : Fin 2 → Nat) a + S128x256.size a ≤ S256x4096.size a := by
  intro a; match a with
  | ⟨0, _⟩ => show 128 * b.val + 128 ≤ 256; omega
  | ⟨1, _⟩ => show 256 * g.val + 256 ≤ 4096; omega

theorem inbPlane (g : Fin 8) : ∀ a, (![g.val, 0, 0] : Fin 3 → Nat) a + S1x128x128.size a ≤ S8x128x128.size a := by
  intro a; match a with
  | ⟨0, _⟩ => show g.val + 1 ≤ 8; omega
  | ⟨1, _⟩ => exact Nat.le_refl 128
  | ⟨2, _⟩ => exact Nat.le_refl 128

theorem inbCol (g : Fin 8) : ∀ a, (![0, g.val] : Fin 2 → Nat) a + S128x1.size a ≤ S128x8.size a := by
  intro a; match a with
  | ⟨0, _⟩ => exact Nat.le_refl 128
  | ⟨1, _⟩ => show g.val + 1 ≤ 8; omega

theorem slicesTile (b : Fin 2) (g : Fin 8) : S256x2048.Slices ![128 * b.val, 256 * g.val] S128x256 := ⟨rfl, inbTile b g⟩

/-- The tile of chunk `b`, group `g` in a block of 256 × 2048. -/
abbrev tile (b : Fin 2) (g : Fin 8) : Rect S256x2048 := Rect.unit ![128 * b.val, 256 * g.val] S128x256.size (inbTile b g)
/-- The same tile in the left half of a block of 256 × 4096. -/
abbrev tileZ (b : Fin 2) (g : Fin 8) : Rect S256x4096 := Rect.unit ![128 * b.val, 256 * g.val] S128x256.size (inbTileZ b g)
/-- Group `g`'s plane of the eight 128 × 128 spatial matrices. -/
abbrev plane (g : Fin 8) : Rect S8x128x128 := Rect.unit ![g.val, 0, 0] S1x128x128.size (inbPlane g)
/-- Group `g`'s column of the transposed spatial bias. -/
abbrev biasCol (g : Fin 8) : Rect S128x8 := Rect.unit ![0, g.val] S128x1.size (inbCol g)

/-- A step: a chunk and a group. -/
abbrev Step : Type := Fin 2 × Fin 8

/-- The steps of the first chunk, latest first. -/
def steps0 : List Step := [(0, 7), (0, 6), (0, 5), (0, 4), (0, 3), (0, 2), (0, 1), (0, 0)]
/-- The steps of the second chunk, latest first. -/
def steps1 : List Step := [(1, 7), (1, 6), (1, 5), (1, 4), (1, 3), (1, 2), (1, 1), (1, 0)]
/-- All sixteen, latest first. -/
def steps : List Step := steps1 ++ steps0

/-! ## What a step computes -/

/-- A tile of a block. -/
def cut {φ : FTy} (x : FVec F S256x2048 φ) (q : Step) : FVec F S128x256 φ :=
  extractStridedSlice S128x256 ![128 * q.1.val, 256 * q.2.val] x (slicesTile q.1 q.2)

/-- The gate: the masked spatial matrix times the tile of the normalised values, plus the bias column. -/
def gate (w : Vec F S1x128x128 .f32) (vn : FVec F S256x2048 .bf16) (col : Vec F S128x1 .f32) (q : Step) : FVec F S128x256 .f32 :=
  addf (matmul dot_S128x128_S128x256_S128x256_1_0_0_1_n_n none (k0_pay6 w) (cut vn q) (constant S128x256 .f32 0x00000000#32))
    (broadcastTo S128x256 (shapeCast S128x1 col shapeCasts_S128x1_S128x1) broadcasts_S128x1_S128x256)

/-- The gradient towards the left half before the activation, one tile. -/
def duTile (w : Vec F S1x128x128 .f32) (ud : FVec F S256x2048 .f32) (vn : FVec F S256x2048 .bf16) (col : Vec F S128x1 .f32)
    (dy : Vec F S128x256 .f32) (q : Step) : FVec F S128x256 .bf16 :=
  truncf .bf16 (mulf (mulf dy (gate w vn col q)) (cut ud q)) bitsLt_bf16_f32

/-- The gradient towards the gate, one tile. -/
def dmTile (u : FVec F S256x2048 .f32) (dy : Vec F S128x256 .f32) (q : Step) : FVec F S128x256 .f32 := mulf dy (cut u q)

/-- The gradient towards the normalised values, one tile. -/
def dvnTile (w : Vec F S1x128x128 .f32) (u : FVec F S256x2048 .f32) (dy : Vec F S128x256 .f32) (q : Step) : FVec F S128x256 .f32 :=
  shapeCast S128x256 (matmul dot_S128x128_S128x256_S128x256_0_0_1_1_n_n none (k0_pay6 w)
    (truncf .bf16 (dmTile u dy q) bitsLt_bf16_f32) (constant S128x256 .f32 0x00000000#32)) shapeCasts_S128x256_S128x256

/-- The spatial matrix's gradient after one more step: what was there plus the masked product. -/
def dwsTile (u : FVec F S256x2048 .f32) (vn : FVec F S256x2048 .bf16) (dy : Vec F S128x256 .f32) (q : Step) (old : Vec F S1x128x128 .f32) :
    FVec F S1x128x128 .f32 :=
  shapeCast S1x128x128 (addf (shapeCast S128x128 old shapeCasts_S1x128x128_S128x128)
    (select k0_pay5 (matmul dot_S128x256_S128x256_S128x128_1_1_0_0_n_n none (truncf .bf16 (dmTile u dy q) bitsLt_bf16_f32) (cut vn q)
      (constant S128x128 .f32 0x00000000#32)) (broadcast S128x128 (Scalar.ofBits .f32 0x00000000#32)))) shapeCasts_S128x128_S1x128x128

/-- The bias gradient of the block after one more step: the row sums of the tile put in the group's column. -/
def dbsStep (u : FVec F S256x2048 .f32) (dy : Vec F S128x256 .f32) (q : Step) (acc : FVec F S128x8 .f32) : FVec F S128x8 .f32 :=
  addf acc (select (cmpi .eq (iota Kind.tc S128x8 32 [1] iota_S128x8_d1_w32) (broadcast S128x8 (BitVec.ofNat 32 q.2.val)))
    (broadcastTo S128x8 (shapeCast S128x1 (shapeCast S128x1 (multiReduction .add [1] S128 (dmTile u dy q) 0x00000000#32 reduces_S128x256_S128 (.inl rfl) rfl)
      shapeCasts_S128_S128x1) shapeCasts_S128x1_S128x1) broadcasts_S128x1_S128x8)
    (broadcast S128x8 (Scalar.ofBits .f32 0x00000000#32)))

/-! ## What a block's steps leave, over the loaded data: `w g` the spatial matrices, `col g` the bias columns, `dy b g` the tiles of
    the incoming gradient, `u` and `ud` the left half's activation and its derivative, `vn` the normalised values -/

variable (w : Fin 8 → Vec F S1x128x128 .f32) (col : Fin 8 → Vec F S128x1 .f32) (dy : Step → Vec F S128x256 .f32)
  (u ud : FVec F S256x2048 .f32) (vn : FVec F S256x2048 .bf16)

def duPieces : List (View.Piece (Elt F) S256x4096 .bf16) :=
  steps.map fun q => ⟨tileZ q.1 q.2, duTile (w q.2) ud vn (col q.2) (dy q) q⟩

def dvnPieces : List (View.Piece (Elt F) S256x2048 .f32) :=
  steps.map fun q => ⟨tile q.1 q.2, dvnTile (w q.2) u (dy q) q⟩

/-- The spatial gradient's stores of the steps `qs` on top of the stores `base`: each step reads its plane back. -/
def dwsPieces (v : Memref sig .tc .vmem S8x128x128 .f32) (base : List (View.Piece (Elt F) S8x128x128 .f32)) :
    List Step → List (View.Piece (Elt F) S8x128x128 .f32)
  | [] => base
  | q :: qs => ⟨plane q.2, dwsTile u vn (dy q) q (v.view.readCov (dwsPieces v base qs) (plane q.2).toLoadRect)⟩ :: dwsPieces v base qs

/-- The spatial gradient's stores of the first chunk where the planes still hold what the point before left. -/
def dwsFirst (old : Fin 8 → Vec F S1x128x128 .f32) : List (View.Piece (Elt F) S8x128x128 .f32) :=
  steps0.map fun q => ⟨plane q.2, dwsTile u vn (dy q) q (old q.2)⟩

/-- The block's bias gradient after the steps `qs`. -/
def dbsAcc : List Step → FVec F S128x8 .f32
  | [] => k0_pay32
  | q :: qs => dbsStep u (dy q) q (dbsAcc qs)

/-! ## The program's stores are these -/

/-- The left half's activation, -/
def uOf (z : Vec F S256x2048 .bf16) : FVec F S256x2048 .f32 := k0_pay18 z
/-- its derivative, -/
def udOf (z : Vec F S256x2048 .bf16) : FVec F S256x2048 .f32 :=
  k0_pay22 (k0_pay16 z) (k0_pay19 z) (k0_pay20 z) (k0_pay21 z) (Scalar.ofBits .f32 0x3F800000#32)
/-- and the right half's normalised values. -/
def vnOf (z : Vec F S256x2048 .bf16) (lng lnb : Vec F S1x2048 .f32) : FVec F S256x2048 .bf16 := k0_pay31 (k0_pay26 z) lng lnb
/-- The right half's gradient. -/
def dvOf (z : Vec F S256x2048 .bf16) (dvn : Vec F S256x2048 .f32) (lng : Vec F S1x2048 .f32) : FVec F S256x2048 .bf16 :=
  k0_pay158 (k0_pay27 z) (k0_pay29 (k0_pay26 z)) (k0_pay30 (k0_pay26 z)) dvn lng
/-- What a point loads: the halves of its block, the gradient's tiles, the gain, the bias row, the matrices, the bias columns. -/
def zl (arg1 : Memref sig .tc .vmem S256x4096 .bf16) (harg1 : arg1.IsWhole) (x0 : Vec F S256x4096 .bf16) : Vec F S256x2048 .bf16 :=
  View.readAt (Elt F) arg1.view (Rect.unit (s := S256x4096) ![0, 0] S256x2048.size inb_S256x4096_S256x2048_0_0).toLoadRect (harg1.unread x0)
def zr (arg1 : Memref sig .tc .vmem S256x4096 .bf16) (harg1 : arg1.IsWhole) (x0 : Vec F S256x4096 .bf16) : Vec F S256x2048 .bf16 :=
  View.readAt (Elt F) arg1.view (Rect.unit (s := S256x4096) ![0, 2048] S256x2048.size inb_S256x4096_S256x2048_0_2048).toLoadRect (harg1.unread x0)
def ld1 (arg2 : Memref sig .tc .vmem S256x2048 .f32) (harg2 : arg2.IsWhole) (x1 : Vec F S256x2048 .f32) (q : Step) : Vec F S128x256 .f32 :=
  View.readAt (Elt F) arg2.view (tile q.1 q.2).toLoadRect (harg2.unread x1)
def ldRow (arg : Memref sig .tc .vmem S1x2048 .f32) (harg : arg.IsWhole) (x : Vec F S1x2048 .f32) : Vec F S1x2048 .f32 :=
  View.readAt (Elt F) arg.view (Rect.unit ![0, 0] S1x2048.size inb_S1x2048_S1x2048_0_0).toLoadRect (harg.unread x)
def ldPlane (arg : Memref sig .tc .vmem S8x128x128 .f32) (harg : arg.IsWhole) (x : Vec F S8x128x128 .f32) (g : Fin 8) : Vec F S1x128x128 .f32 :=
  View.readAt (Elt F) arg.view (plane g).toLoadRect (harg.unread x)
def ldCol (arg6 : Memref sig .tc .vmem S128x8 .f32) (harg6 : arg6.IsWhole) (x5 : Vec F S128x8 .f32) (g : Fin 8) : Vec F S128x1 .f32 :=
  View.readAt (Elt F) arg6.view (biasCol g).toLoadRect (harg6.unread x5)

section

variable (c : Dev nD) (i : grid0.Coords)
  (arg1 : Memref sig .tc .vmem S256x4096 .bf16) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S8x128x128 .f32) (harg5 : arg5.IsWhole)
  (arg6 : Memref sig .tc .vmem S128x8 .f32) (harg6 : arg6.IsWhole)
  (arg7 : Memref sig .tc .vmem S256x4096 .bf16) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S1x2048 .f32) (harg10 : arg10.IsWhole)
  (arg11 : Memref sig .tc .vmem S1x2048 .f32) (harg11 : arg11.IsWhole)
  (arg12 : Memref sig .tc .vmem S256x2048 .f32) (harg12 : arg12.IsWhole)
  (x0 : Vec F S256x4096 .bf16) (x1 : Vec F S256x2048 .f32) (x2 x3 : Vec F S1x2048 .f32) (x4 : Vec F S8x128x128 .f32) (x5 : Vec F S128x8 .f32)
  (xo7 : Vec F S8x128x128 .f32) (xo8 : Vec F S128x8 .f32) (xo9 xo10 : Vec F S1x2048 .f32)

theorem out_A_6 (hc0 : cond0_0 i) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5
      = View.canon (⟨Rect.unit (s := S256x4096) ![0, 2048] S256x2048.size inb_S256x4096_S256x2048_0_2048, dvOf (zr arg1 harg1 x0) (arg12.view.readCov (dvnPieces (ldPlane arg5 harg5 x4) (ld1 arg2 harg2 x1) (uOf (zl arg1 harg1 x0))) (Rect.unit ![0, 0] S256x2048.size inb_S256x2048_S256x2048_0_0).toLoadRect) (ldRow arg3 harg3 x2)⟩ :: duPieces (ldPlane arg5 harg5 x4) (ldCol arg6 harg6 x5) (ld1 arg2 harg2 x1) (udOf (zl arg1 harg1 x0)) (vnOf (zr arg1 harg1 x0) (ldRow arg3 harg3 x2) (ldRow arg4 harg4 x3))) := by
  unfold out0_A_6
  rw [View.read_writes_junk_eq_canon]
  unfold kernelRun0_A
  dsimp only
  sl_unfold_words
  rfl

theorem out_A_7 (hc0 : cond0_0 i) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5
      = View.canon (dwsPieces (ld1 arg2 harg2 x1) (uOf (zl arg1 harg1 x0)) (vnOf (zr arg1 harg1 x0) (ldRow arg3 harg3 x2) (ldRow arg4 harg4 x3)) arg8 [⟨Rect.unit ![0, 0, 0] S8x128x128.size inb_S8x128x128_S8x128x128_0_0_0, k0_pay1⟩] steps) := by
  unfold out0_A_7
  rw [View.read_writes_junk_eq_canon]
  unfold kernelRun0_A
  dsimp only
  sl_unfold_words
  rfl

theorem out_A_8 (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5
      = View.canon ([⟨(Rect.unit ![0, 0] S128x8.size inb_S128x8_S128x8_0_0), addf (shapeCast S128x8 ((arg9.view.readCov (Val := Elt F) [⟨(Rect.unit ![0, 0] S128x8.size inb_S128x8_S128x8_0_0), k0_pay2⟩] (Rect.unit ![0, 0] S128x8.size inb_S128x8_S128x8_0_0).toLoadRect) : Vec F S128x8 .f32) shapeCasts_S128x8_S128x8) (dbsAcc (ld1 arg2 harg2 x1) (uOf (zl arg1 harg1 x0)) steps)⟩, ⟨(Rect.unit ![0, 0] S128x8.size inb_S128x8_S128x8_0_0), k0_pay2⟩]) := by
  unfold out0_A_8
  rw [View.read_writes_junk_eq_canon]
  unfold kernelRun0_A
  dsimp only
  sl_unfold_words
  rfl

theorem out_A_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5
      = View.canon ([⟨(Rect.unit ![0, 0] S1x2048.size inb_S1x2048_S1x2048_0_0), k0_pay156 (k0_pay30 (k0_pay26 (zr arg1 harg1 x0))) (arg12.view.readCov (dvnPieces (ldPlane arg5 harg5 x4) (ld1 arg2 harg2 x1) (uOf (zl arg1 harg1 x0))) (Rect.unit ![0, 0] S256x2048.size inb_S256x2048_S256x2048_0_0).toLoadRect) (arg10.view.readCov [⟨(Rect.unit ![0, 0] S1x2048.size inb_S1x2048_S1x2048_0_0), k0_pay3⟩] (Rect.unit ![0, 0] S1x2048.size inb_S1x2048_S1x2048_0_0).toLoadRect)⟩, ⟨(Rect.unit ![0, 0] S1x2048.size inb_S1x2048_S1x2048_0_0), k0_pay3⟩]) := by
  unfold out0_A_9
  rw [View.read_writes_junk_eq_canon]
  unfold kernelRun0_A
  dsimp only
  sl_unfold_words
  rfl

theorem out_A_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5
      = View.canon ([⟨(Rect.unit ![0, 0] S1x2048.size inb_S1x2048_S1x2048_0_0), k0_pay157 (arg12.view.readCov (dvnPieces (ldPlane arg5 harg5 x4) (ld1 arg2 harg2 x1) (uOf (zl arg1 harg1 x0))) (Rect.unit ![0, 0] S256x2048.size inb_S256x2048_S256x2048_0_0).toLoadRect) (arg11.view.readCov [⟨(Rect.unit ![0, 0] S1x2048.size inb_S1x2048_S1x2048_0_0), k0_pay4⟩] (Rect.unit ![0, 0] S1x2048.size inb_S1x2048_S1x2048_0_0).toLoadRect)⟩, ⟨(Rect.unit ![0, 0] S1x2048.size inb_S1x2048_S1x2048_0_0), k0_pay4⟩]) := by
  unfold out0_A_10
  rw [View.read_writes_junk_eq_canon]
  unfold kernelRun0_A
  dsimp only
  sl_unfold_words
  rfl

theorem out_B_6 (hc0 : ¬cond0_0 i) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = View.canon (⟨Rect.unit (s := S256x4096) ![0, 2048] S256x2048.size inb_S256x4096_S256x2048_0_2048, dvOf (zr arg1 harg1 x0) (arg12.view.readCov (dvnPieces (ldPlane arg5 harg5 x4) (ld1 arg2 harg2 x1) (uOf (zl arg1 harg1 x0))) (Rect.unit ![0, 0] S256x2048.size inb_S256x2048_S256x2048_0_0).toLoadRect) (ldRow arg3 harg3 x2)⟩ :: duPieces (ldPlane arg5 harg5 x4) (ldCol arg6 harg6 x5) (ld1 arg2 harg2 x1) (udOf (zl arg1 harg1 x0)) (vnOf (zr arg1 harg1 x0) (ldRow arg3 harg3 x2) (ldRow arg4 harg4 x3))) := by
  unfold out0_B_6
  rw [View.read_writes_junk_eq_canon]
  unfold kernelRun0_B
  dsimp only
  sl_unfold_words
  rfl

theorem out_B_7 (hc0 : ¬cond0_0 i) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = View.canon (dwsPieces (ld1 arg2 harg2 x1) (uOf (zl arg1 harg1 x0)) (vnOf (zr arg1 harg1 x0) (ldRow arg3 harg3 x2) (ldRow arg4 harg4 x3)) arg8 (dwsFirst (ld1 arg2 harg2 x1) (uOf (zl arg1 harg1 x0)) (vnOf (zr arg1 harg1 x0) (ldRow arg3 harg3 x2) (ldRow arg4 harg4 x3)) (ldPlane arg8 harg8 xo7)) steps1) := by
  unfold out0_B_7
  rw [View.read_writes_junk_eq_canon]
  unfold kernelRun0_B
  dsimp only
  sl_unfold_words
  rfl

theorem out_B_8 (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = View.canon ([⟨(Rect.unit ![0, 0] S128x8.size inb_S128x8_S128x8_0_0), addf (shapeCast S128x8 ((View.readAt (Elt F) arg9.view (Rect.unit ![0, 0] S128x8.size inb_S128x8_S128x8_0_0).toLoadRect (harg9.unread xo8)) : Vec F S128x8 .f32) shapeCasts_S128x8_S128x8) (dbsAcc (ld1 arg2 harg2 x1) (uOf (zl arg1 harg1 x0)) steps)⟩]) := by
  unfold out0_B_8
  rw [View.read_writes_junk_eq_canon]
  unfold kernelRun0_B
  dsimp only
  sl_unfold_words
  rfl

theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = View.canon ([⟨(Rect.unit ![0, 0] S1x2048.size inb_S1x2048_S1x2048_0_0), k0_pay156 (k0_pay30 (k0_pay26 (zr arg1 harg1 x0))) (arg12.view.readCov (dvnPieces (ldPlane arg5 harg5 x4) (ld1 arg2 harg2 x1) (uOf (zl arg1 harg1 x0))) (Rect.unit ![0, 0] S256x2048.size inb_S256x2048_S256x2048_0_0).toLoadRect) (ldRow arg10 harg10 xo9)⟩]) := by
  unfold out0_B_9
  rw [View.read_writes_junk_eq_canon]
  unfold kernelRun0_B
  dsimp only
  sl_unfold_words
  rfl

theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10
      = View.canon ([⟨(Rect.unit ![0, 0] S1x2048.size inb_S1x2048_S1x2048_0_0), k0_pay157 (arg12.view.readCov (dvnPieces (ldPlane arg5 harg5 x4) (ld1 arg2 harg2 x1) (uOf (zl arg1 harg1 x0))) (Rect.unit ![0, 0] S256x2048.size inb_S256x2048_S256x2048_0_0).toLoadRect) (ldRow arg11 harg11 xo10)⟩]) := by
  unfold out0_B_10
  rw [View.read_writes_junk_eq_canon]
  unfold kernelRun0_B
  dsimp only
  sl_unfold_words
  rfl

end

end Cert.KernelIdeal.Sgu
-- ==== Proof.Lift.lean ====
module

public import Idealize.ShloMosaic.PureOps.Ideal.Laws
public import Idealize.ShloMosaic.Lib.Pipeline.Value
public import Idealize.ShloMosaic.Lib.ValueIdxCore
public import Idealize.ShloMosaic.Lib.IdealHost

@[expose] public section

/-! Arrays of real numbers as arrays of the ideal values, and the vector operations on them: every operation of a real
    array is the array of the real operation. The index functions are over `ℕ` so that a slice or a block is a shift. -/

noncomputable section

namespace Cert.Lift

open Idealize.ShloMosaic Idealize.ShloMosaic.ValueIdx
open scoped BigOperators

/-- A real vector, matrix, stack of matrices as ideal values. -/
def L1 {n : ℕ} (f : ℕ → ℝ) : (⟨1, ![n]⟩ : Shape).Idx → EReal := fun i => ((f (i 0).val : ℝ) : EReal)
def L2 {m n : ℕ} (f : ℕ → ℕ → ℝ) : (⟨2, ![m, n]⟩ : Shape).Idx → EReal := fun i => ((f (i 0).val (i 1).val : ℝ) : EReal)
def L3 {l m n : ℕ} (f : ℕ → ℕ → ℕ → ℝ) : (⟨3, ![l, m, n]⟩ : Shape).Idx → EReal :=
  fun i => ((f (i 0).val (i 1).val (i 2).val : ℝ) : EReal)
def L4 {k l m n : ℕ} (f : ℕ → ℕ → ℕ → ℕ → ℝ) : (⟨4, ![k, l, m, n]⟩ : Shape).Idx → EReal :=
  fun i => ((f (i 0).val (i 1).val (i 2).val (i 3).val : ℝ) : EReal)

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_sum_fin (n : ℕ) (f : ℕ → ℝ) : (∑ i : Fin n, ((f i.val : ℝ) : EReal)) = ((∑ i ∈ Finset.range n, f i : ℝ) : EReal) := by
  rw [coe_sum, Finset.sum_range]

theorem coe_dot_fin (n : ℕ) (f g : ℕ → ℝ) :
    (∑ i : Fin n, ((f i.val : ℝ) : EReal) * ((g i.val : ℝ) : EReal)) = ((∑ i ∈ Finset.range n, f i * g i : ℝ) : EReal) := by
  rw [← coe_sum_fin n fun i => f i * g i]
  exact Finset.sum_congr rfl fun i _ => (EReal.coe_mul _ _).symm

theorem L1_congr {n : ℕ} {f g : ℕ → ℝ} (h : ∀ i, i < n → f i = g i) : (L1 f : (⟨1, ![n]⟩ : Shape).Idx → EReal) = L1 g := by
  funext i; exact congrArg _ (h _ (i 0).isLt)
theorem L2_congr {m n : ℕ} {f g : ℕ → ℕ → ℝ} (h : ∀ i j, i < m → j < n → f i j = g i j) :
    (L2 f : (⟨2, ![m, n]⟩ : Shape).Idx → EReal) = L2 g := by
  funext i; exact congrArg _ (h _ _ (i 0).isLt (i 1).isLt)
theorem L3_congr {l m n : ℕ} {f g : ℕ → ℕ → ℕ → ℝ} (h : ∀ i j k, i < l → j < m → k < n → f i j k = g i j k) :
    (L3 f : (⟨3, ![l, m, n]⟩ : Shape).Idx → EReal) = L3 g := by
  funext i; exact congrArg _ (h _ _ _ (i 0).isLt (i 1).isLt (i 2).isLt)

/-! ## Entry by entry -/

section
variable {m n : ℕ} {φ ψ : FTy} (f g : ℕ → ℕ → ℝ)

theorem mulf_L2 : mulf (F := Ideal) (φ := φ) (s := ⟨2, ![m, n]⟩) (L2 f) (L2 g) = L2 fun i j => f i j * g i j :=
  funext fun _ => (EReal.coe_mul _ _).symm
theorem addf_L2 : addf (F := Ideal) (φ := φ) (s := ⟨2, ![m, n]⟩) (L2 f) (L2 g) = L2 fun i j => f i j + g i j :=
  funext fun _ => (EReal.coe_add _ _).symm
theorem subf_L2 : subf (F := Ideal) (φ := φ) (s := ⟨2, ![m, n]⟩) (L2 f) (L2 g) = L2 fun i j => f i j - g i j :=
  funext fun _ => (EReal.coe_sub _ _).symm
theorem divf_L2 (h : ∀ i j, g i j ≠ 0) : divf (F := Ideal) (φ := φ) (s := ⟨2, ![m, n]⟩) (L2 f) (L2 g) = L2 fun i j => f i j / g i j := by
  funext i
  show Ideal.div ((f _ _ : ℝ) : EReal) ((g _ _ : ℝ) : EReal) = ((f _ _ / g _ _ : ℝ) : EReal)
  rw [Ideal.div_coe (h _ _), ← EReal.coe_mul, mul_one_div]
theorem tanh_L2 : tanh (F := Ideal) (φ := φ) (s := ⟨2, ![m, n]⟩) (L2 f) = L2 fun i j => Real.tanh (f i j) := rfl
theorem rsqrt_L2 (h : ∀ i j, 0 < f i j) : rsqrt (F := Ideal) (φ := φ) (s := ⟨2, ![m, n]⟩) (L2 f) = L2 fun i j => (Real.sqrt (f i j))⁻¹ := by
  funext i
  show Ideal.rsqrt ((f _ _ : ℝ) : EReal) = _
  rw [Ideal.rsqrt_coe, if_neg (not_lt.2 (h _ _).le), if_neg (h _ _).ne']; rfl
theorem truncf_L2 (h : ψ.bits < φ.bits) : truncf (F := Ideal) (φ := φ) (s := ⟨2, ![m, n]⟩) ψ (L2 f) h = L2 f := rfl
theorem extf_L2 (h : φ.bits < ψ.bits) : extf (F := Ideal) (φ := φ) (s := ⟨2, ![m, n]⟩) ψ (L2 f) h = L2 f := rfl
end

/-! ## Literals -/

/-- √(2/π) as the program holds it, and the variance's floor. -/
def cC : ℝ := 13386282 / 16777216
def cEps : ℝ := 8796093 / 8796093022208

theorem cEps_pos : 0 < cEps := by unfold cEps; norm_num

theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by simp [Ideal.ofBits, Ideal.ieee]
theorem bits_C : Ideal.ofBits .f32 0x3F4C422A#32 = ((cC : ℝ) : EReal) := by
  unfold cC; simp [Ideal.ofBits, Ideal.ieee, -EReal.coe_mul]; norm_num
theorem bits_eps : Ideal.ofBits .f32 0x358637BD#32 = ((cEps : ℝ) : EReal) := by
  unfold cEps; simp [Ideal.ofBits, Ideal.ieee, -EReal.coe_mul]; norm_num
theorem bits_2048 : Ideal.ofBits .f32 0x45000000#32 = ((2048 : ℝ) : EReal) := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num

section
variable {m n : ℕ}
theorem splat_L2 {φ : FTy} (x : Ideal φ) (r : ℝ) (h : x = ((r : ℝ) : EReal)) :
    (broadcast (⟨2, ![m, n]⟩ : Shape) x : FVec Ideal _ φ) = L2 fun _ _ => r := by subst h; rfl
theorem splat_half : (broadcast (⟨2, ![m, n]⟩ : Shape) (Scalar.ofBits (F := Ideal) .f32 0x3F000000#32) : FVec Ideal _ .f32) = L2 fun _ _ => 1 / 2 := splat_L2 _ _ bits_half
theorem splat_one : (broadcast (⟨2, ![m, n]⟩ : Shape) (Scalar.ofBits (F := Ideal) .f32 0x3F800000#32) : FVec Ideal _ .f32) = L2 fun _ _ => 1 := splat_L2 _ _ bits_one
theorem splat_zero : (broadcast (⟨2, ![m, n]⟩ : Shape) (Scalar.ofBits (F := Ideal) .f32 0x00000000#32) : FVec Ideal _ .f32) = L2 fun _ _ => 0 := splat_L2 _ _ bits_zero
theorem splat_C : (broadcast (⟨2, ![m, n]⟩ : Shape) (Scalar.ofBits (F := Ideal) .f32 0x3F4C422A#32) : FVec Ideal _ .f32) = L2 fun _ _ => cC := splat_L2 _ _ bits_C
theorem splat_eps : (broadcast (⟨2, ![m, n]⟩ : Shape) (Scalar.ofBits (F := Ideal) .f32 0x358637BD#32) : FVec Ideal _ .f32) = L2 fun _ _ => cEps := splat_L2 _ _ bits_eps
theorem splat_2048 : (broadcast (⟨2, ![m, n]⟩ : Shape) (Scalar.ofBits (F := Ideal) .f32 0x45000000#32) : FVec Ideal _ .f32) = L2 fun _ _ => 2048 := splat_L2 _ _ bits_2048
end

/-! ## Layout and sums -/

section
variable {m n m' n' : ℕ} {φ : FTy} (f : ℕ → ℕ → ℝ)

theorem slice_L2 (off : Fin 2 → ℕ) (h : (⟨2, ![m, n]⟩ : Shape).Slices off ⟨2, ![m', n']⟩) :
    extractStridedSlice ⟨2, ![m', n']⟩ off (L2 f : (⟨2, ![m, n]⟩ : Shape).Idx → EReal) h = L2 fun i j => f (off 0 + i) (off 1 + j) := rfl

theorem rowBcast_L2 (h : (⟨2, ![1, n]⟩ : Shape).Broadcasts ⟨2, ![m, n]⟩) :
    broadcastTo ⟨2, ![m, n]⟩ (L2 f : (⟨2, ![1, n]⟩ : Shape).Idx → EReal) h = L2 fun _ j => f 0 j := by
  funext i
  rw [broadcastTo_apply _ h i (ix2 0 (i 1))]
  · rfl
  · intro a; match a with
    | ⟨0, _⟩ => rfl
    | ⟨1, _⟩ =>
      show (i 1).val = if n = 1 then 0 else (i 1).val
      have := (i 1).isLt; have h' : (i 1).val < n := this
      split <;> omega

theorem colBcast_L2 (h : (⟨2, ![m, 1]⟩ : Shape).Broadcasts ⟨2, ![m, n]⟩) :
    broadcastTo ⟨2, ![m, n]⟩ (L2 f : (⟨2, ![m, 1]⟩ : Shape).Idx → EReal) h = L2 fun i _ => f i 0 := by
  funext i
  rw [broadcastTo_apply _ h i (ix2 (i 0) 0)]
  · rfl
  · intro a; match a with
    | ⟨0, _⟩ =>
      show (i 0).val = if m = 1 then 0 else (i 0).val
      have := (i 0).isLt; have h' : (i 0).val < m := this
      split <;> omega
    | ⟨1, _⟩ => rfl

theorem shapeCast_same {α : Type} {s : Shape} (x : s.Idx → α) (h : s.ShapeCasts s) : shapeCast s x h = x := by
  funext i; exact shapeCast_apply x h i i rfl

theorem castCol_L1 (f : ℕ → ℝ) (h : (⟨1, ![m]⟩ : Shape).ShapeCasts ⟨2, ![m, 1]⟩) :
    shapeCast ⟨2, ![m, 1]⟩ (L1 f : (⟨1, ![m]⟩ : Shape).Idx → EReal) h = L2 fun i _ => f i := by
  funext i
  rw [shapeCast_apply _ h i (ix1 (i 0))]
  · rfl
  · rw [Shape.rowMajor_val_one, Shape.rowMajor_val_two]
    have : (i 1).val < 1 := (i 1).isLt
    show (i 0).val = (i 0).val * 1 + (i 1).val
    omega

theorem castRow_L1 (f : ℕ → ℝ) (h : (⟨1, ![n]⟩ : Shape).ShapeCasts ⟨2, ![1, n]⟩) :
    shapeCast ⟨2, ![1, n]⟩ (L1 f : (⟨1, ![n]⟩ : Shape).Idx → EReal) h = L2 fun _ j => f j := by
  funext i
  rw [shapeCast_apply _ h i (ix1 (i 1))]
  · rfl
  · rw [Shape.rowMajor_val_one, Shape.rowMajor_val_two]
    have : (i 0).val < 1 := (i 0).isLt
    have e : (i 0).val = 0 := by omega
    show (i 1).val = (i 0).val * n + (i 1).val
    rw [e]; omega

theorem dropPlane_L3 (f : ℕ → ℕ → ℕ → ℝ) (h : (⟨3, ![1, m, n]⟩ : Shape).ShapeCasts ⟨2, ![m, n]⟩) :
    shapeCast ⟨2, ![m, n]⟩ (L3 f : (⟨3, ![1, m, n]⟩ : Shape).Idx → EReal) h = L2 (f 0) := by
  funext i
  rw [shapeCast_apply _ h i (ix3 0 (i 0) (i 1))]
  · rfl
  · rw [Shape.rowMajor_val_two, Shape.rowMajor_val_three]
    show (0 * m + (i 0).val) * n + (i 1).val = (i 0).val * n + (i 1).val
    rw [Nat.zero_mul, Nat.zero_add]

theorem addPlane_L2 (h : (⟨2, ![m, n]⟩ : Shape).ShapeCasts ⟨3, ![1, m, n]⟩) :
    shapeCast ⟨3, ![1, m, n]⟩ (L2 f : (⟨2, ![m, n]⟩ : Shape).Idx → EReal) h = L3 fun _ i j => f i j := by
  funext i
  rw [shapeCast_apply _ h i (ix2 (i 1) (i 2))]
  · rfl
  · rw [Shape.rowMajor_val_two, Shape.rowMajor_val_three]
    have : (i 0).val < 1 := (i 0).isLt
    have e : (i 0).val = 0 := by omega
    show (i 1).val * n + (i 2).val = ((i 0).val * m + (i 1).val) * n + (i 2).val
    rw [e, Nat.zero_mul, Nat.zero_add]

theorem sumCols_L2 (h : (⟨2, ![m, n]⟩ : Shape).Reduces [1] ⟨1, ![m]⟩) :
    multiReduction (F := Ideal) .add [1] ⟨1, ![m]⟩ (L2 f : FVec Ideal ⟨2, ![m, n]⟩ .f32) 0x00000000#32 h (.inl rfl) rfl
      = L1 fun i => ∑ k ∈ Finset.range n, f i k := by
  funext j
  refine (Ideal.multiReduction_add_single _ _ _ _ _ j).trans ?_
  exact coe_sum_fin n fun k => f (j 0).val k

theorem sumRows_L2 (h : (⟨2, ![m, n]⟩ : Shape).Reduces [0] ⟨1, ![n]⟩) :
    multiReduction (F := Ideal) .add [0] ⟨1, ![n]⟩ (L2 f : FVec Ideal ⟨2, ![m, n]⟩ .f32) 0x00000000#32 h (.inl rfl) rfl
      = L1 fun j => ∑ k ∈ Finset.range m, f k j := by
  funext j
  refine (Ideal.multiReduction_add_single _ _ _ _ _ j).trans ?_
  exact coe_sum_fin m fun k => f k (j 0).val

/-- A choice between real matrices by a mask known entry by entry. -/
theorem select_L2 (c : IVec (⟨2, ![m, n]⟩ : Shape) 1) (p : ℕ → ℕ → Prop) [∀ i j, Decidable (p i j)]
    (hc : ∀ i : (⟨2, ![m, n]⟩ : Shape).Idx, c i = if p (i 0).val (i 1).val then 1#1 else 0#1) (f g : ℕ → ℕ → ℝ) :
    select c (L2 f) (L2 g) = (L2 fun i j => if p i j then f i j else g i j : (⟨2, ![m, n]⟩ : Shape).Idx → EReal) := by
  funext i
  rw [select_apply, hc i]
  unfold L2
  by_cases h : p (i 0).val (i 1).val
  · simp only [if_pos h]; rfl
  · simp only [if_neg h]; rfl

end

end Cert.Lift
-- ==== Proof.Spec.lean ====
module

public import proofs.«01_k».proof.Proof.Lift

@[expose] public section

/-! The gradient of the gating unit over the real numbers, entry by entry. `z t j` is the unit's input before the activation
    (columns below 2048 the left half, the rest the right half), `d t j` the incoming gradient, `a` and `b` the norm's gain and
    bias, `w g i k` the spatial matrices, `s i g` the spatial bias. A chunk is 128 rows, a group 256 columns. -/

noncomputable section

namespace Cert.Spec

open Cert.Lift
open scoped BigOperators

/-- The activation's inner hyperbolic tangent, the activation and its derivative. -/
def th (x : ℝ) : ℝ := Real.tanh (cC * (x + 8943 / 200000 * (x * x) * x))
def gelu (x : ℝ) : ℝ := 1 / 2 * x * (1 + th x)
def geluD (x : ℝ) : ℝ := 1 / 2 * (1 + th x) + 1 / 2 * x * (1 - th x * th x) * (cC * (1 + 26829 / 200000 * (x * x)))

/-- A row's mean. -/
def mean (f : ℕ → ℝ) : ℝ := (∑ k ∈ Finset.range 2048, f k) / 2048

/-- A spatial matrix with the entries of later rows' halves masked away. -/
def wm (w : ℕ → ℕ → ℕ → ℝ) (g i k : ℕ) : ℝ := if k < 64 ∨ 64 ≤ i then w g i k else 0

section
variable (w : ℕ → ℕ → ℕ → ℝ) (s : ℕ → ℕ → ℝ) (a b : ℕ → ℝ) (z d : ℕ → ℕ → ℝ)

/-- The left half's activation; the right half's, centred; its reciprocal deviation; normalised; with gain and bias. -/
def u (t j : ℕ) : ℝ := gelu (z t j)
def vc (t j : ℕ) : ℝ := gelu (z t (2048 + j)) - mean fun k => gelu (z t (2048 + k))
def var (t : ℕ) : ℝ := mean (fun k => vc z t k * vc z t k) + cEps
def rs (t : ℕ) : ℝ := (Real.sqrt (var z t))⁻¹
def vh (t j : ℕ) : ℝ := vc z t j * rs z t
def vn (t j : ℕ) : ℝ := vh z t j * a j + b j

/-- The gate, and the gradient towards the left half's input. -/
def gate (t j : ℕ) : ℝ :=
  (∑ k ∈ Finset.range 128, wm w (j / 256) (t % 128) k * vn a b z (t / 128 * 128 + k) j) + s (t % 128) (j / 256)
def du (t j : ℕ) : ℝ := d t j * gate w s a b z t j * geluD (z t j)

/-- The gradient towards the gate; towards the normalised values, without and with the gain; towards the right half's input. -/
def dm (t j : ℕ) : ℝ := d t j * u z t j
def dvn (t j : ℕ) : ℝ := ∑ k ∈ Finset.range 128, wm w (j / 256) k (t % 128) * dm z d (t / 128 * 128 + k) j
def dvh (t j : ℕ) : ℝ := dvn w z d t j * a j
def dv (t j : ℕ) : ℝ :=
  rs z t * (dvh w a z d t j - mean (dvh w a z d t) - vh z t j * mean fun k => dvh w a z d t k * vh z t k) * geluD (z t (2048 + j))

/-- The gradient of the unit's input. -/
def dz (t j : ℕ) : ℝ := if j < 2048 then du w s a b z d t j else dv w a z d t (j - 2048)

/-- Chunk `n`'s part of the spatial matrices' and of the spatial bias's gradient. -/
def cw (n g i k : ℕ) : ℝ :=
  if k < 64 ∨ 64 ≤ i then ∑ c ∈ Finset.range 256, dm z d (128 * n + i) (256 * g + c) * vn a b z (128 * n + k) (256 * g + c) else 0
def cb (n i g : ℕ) : ℝ := ∑ c ∈ Finset.range 256, dm z d (128 * n + i) (256 * g + c)

/-- The gradients over the first `n` chunks or rows. -/
def dws (n g i k : ℕ) : ℝ := ∑ m ∈ Finset.range n, cw a b z d m g i k
def dbs (n i g : ℕ) : ℝ := ∑ m ∈ Finset.range n, cb z d m i g
def dlng (n j : ℕ) : ℝ := ∑ t ∈ Finset.range n, dvn w z d t j * vh z t j
def dlnb (n j : ℕ) : ℝ := ∑ t ∈ Finset.range n, dvn w z d t j
end

theorem var_pos (z : ℕ → ℕ → ℝ) (t : ℕ) : 0 < var z t := by
  unfold var mean
  have h : 0 ≤ ∑ k ∈ Finset.range 2048, vc z t k * vc z t k := Finset.sum_nonneg fun k _ => mul_self_nonneg _
  have := cEps_pos
  positivity

/-! ## A block of 256 rows: the same gradient of the rows from `256 p` on -/

/-- The rows from `256 p` on. -/
def sh (p : ℕ) (f : ℕ → ℕ → ℝ) (t j : ℕ) : ℝ := f (256 * p + t) j

section
variable (w : ℕ → ℕ → ℕ → ℝ) (s : ℕ → ℕ → ℝ) (a b : ℕ → ℝ) (z d : ℕ → ℕ → ℝ) (p : ℕ)

theorem vn_sh (t j : ℕ) : vn a b (sh p z) t j = vn a b z (256 * p + t) j := rfl
theorem vh_sh (t j : ℕ) : vh (sh p z) t j = vh z (256 * p + t) j := rfl
theorem dm_sh (t j : ℕ) : dm (sh p z) (sh p d) t j = dm z d (256 * p + t) j := rfl

theorem chunk_row (t : ℕ) : (256 * p + t) % 128 = t % 128 ∧ (256 * p + t) / 128 * 128 = 256 * p + t / 128 * 128 := by omega

theorem gate_sh (t j : ℕ) : gate w s a b (sh p z) t j = gate w s a b z (256 * p + t) j := by
  unfold gate
  rw [(chunk_row p t).1, (chunk_row p t).2]
  simp only [vn_sh, Nat.add_assoc]

theorem dvn_sh (t j : ℕ) : dvn w (sh p z) (sh p d) t j = dvn w z d (256 * p + t) j := by
  unfold dvn
  rw [(chunk_row p t).1, (chunk_row p t).2]
  simp only [dm_sh, Nat.add_assoc]

theorem dz_sh (t j : ℕ) : dz w s a b (sh p z) (sh p d) t j = dz w s a b z d (256 * p + t) j := by
  unfold dz du dv
  have e : dvh w a (sh p z) (sh p d) t = dvh w a z d (256 * p + t) := by
    funext j; unfold dvh; rw [dvn_sh]
  rw [gate_sh, e]
  rfl

theorem dws_sh (g i k : ℕ) : dws a b (sh p z) (sh p d) 2 g i k + dws a b z d (2 * p) g i k = dws a b z d (2 * (p + 1)) g i k := by
  have e (n : ℕ) : cw a b (sh p z) (sh p d) n g i k = cw a b z d (2 * p + n) g i k := by
    unfold cw
    simp only [dm_sh, vn_sh]
    have h (x : ℕ) : 256 * p + (128 * n + x) = 128 * (2 * p + n) + x := by omega
    simp only [h]
  unfold dws
  simp only [e]
  rw [show 2 * (p + 1) = 2 * p + 2 from rfl, Finset.sum_range_add, add_comm]

theorem dbs_sh (i g : ℕ) : dbs (sh p z) (sh p d) 2 i g + dbs z d (2 * p) i g = dbs z d (2 * (p + 1)) i g := by
  have e (n : ℕ) : cb (sh p z) (sh p d) n i g = cb z d (2 * p + n) i g := by
    unfold cb
    simp only [dm_sh]
    have h (x : ℕ) : 256 * p + (128 * n + x) = 128 * (2 * p + n) + x := by omega
    simp only [h]
  unfold dbs
  simp only [e]
  rw [show 2 * (p + 1) = 2 * p + 2 from rfl, Finset.sum_range_add, add_comm]

theorem dlng_sh (j : ℕ) : dlng w (sh p z) (sh p d) 256 j + dlng w z d (256 * p) j = dlng w z d (256 * (p + 1)) j := by
  unfold dlng
  simp only [dvn_sh, vh_sh]
  rw [show 256 * (p + 1) = 256 * p + 256 from rfl, Finset.sum_range_add _ (256 * p), add_comm]

theorem dlnb_sh (j : ℕ) : dlnb w (sh p z) (sh p d) 256 j + dlnb w z d (256 * p) j = dlnb w z d (256 * (p + 1)) j := by
  unfold dlnb
  simp only [dvn_sh]
  rw [show 256 * (p + 1) = 256 * p + 256 from rfl, Finset.sum_range_add _ (256 * p), add_comm]

end

end Cert.Spec
-- ==== Proof.Tiles.lean ====
module

public import proofs.«01_k».proof.Proof.Body
public import proofs.«01_k».proof.Proof.Spec

@[expose] public section

/-! A block's steps at the ideal values: over real data every step's tile is the real tile of the gradient. -/

noncomputable section

namespace Cert.KernelIdeal.Sgu

open Cert.KernelIdeal Cert.KernelIdeal.Gen Idealize.ShloMosaic Idealize.ShloMosaic.TcCoe Idealize.ShloMosaic.ValueIdx Idealize.SL.Sem
open Cert.Lift Cert.Spec
open scoped BigOperators

/-! ## The three products -/

theorem matmul_rows (f g : ℕ → ℕ → ℝ) :
    matmul (F := Ideal) (φ₁ := .bf16) (φ₂ := .bf16) dot_S128x128_S128x256_S128x256_1_0_0_1_n_n none (L2 f) (L2 g) (constant S128x256 .f32 0x00000000#32)
      = L2 fun i j => ∑ k ∈ Finset.range 128, f i k * g k j := by
  funext j
  simp only [matmul]
  rw [Ideal.matmul_constant_zero_apply, ← Equiv.sum_comp (contrEquiv1 dot_S128x128_S128x256_S128x256_1_0_0_1_n_n 128 rfl rfl).symm]
  refine Eq.trans (Finset.sum_congr rfl fun k _ => ?_) (coe_dot_fin 128 (fun k => f (j 0).val k) fun k => g k (j 1).val)
  have hk := contrEquiv1_symm_val dot_S128x128_S128x256_S128x256_1_0_0_1_n_n 128 rfl rfl k
  show (L2 f : S128x128.Idx → EReal) _ * (L2 g : S128x256.Idx → EReal) _ = _
  unfold L2
  refine congrArg₂ (· * ·) (congrArg _ (congrArg₂ f rfl ?_)) (congrArg _ (congrArg₂ g ?_ rfl))
  · exact hk
  · exact hk

theorem matmul_cols (f g : ℕ → ℕ → ℝ) :
    matmul (F := Ideal) (φ₁ := .bf16) (φ₂ := .bf16) dot_S128x128_S128x256_S128x256_0_0_1_1_n_n none (L2 f) (L2 g) (constant S128x256 .f32 0x00000000#32)
      = L2 fun i j => ∑ k ∈ Finset.range 128, f k i * g k j := by
  funext j
  simp only [matmul]
  rw [Ideal.matmul_constant_zero_apply, ← Equiv.sum_comp (contrEquiv1 dot_S128x128_S128x256_S128x256_0_0_1_1_n_n 128 rfl rfl).symm]
  refine Eq.trans (Finset.sum_congr rfl fun k _ => ?_) (coe_dot_fin 128 (fun k => f k (j 0).val) fun k => g k (j 1).val)
  have hk := contrEquiv1_symm_val dot_S128x128_S128x256_S128x256_0_0_1_1_n_n 128 rfl rfl k
  show (L2 f : S128x128.Idx → EReal) _ * (L2 g : S128x256.Idx → EReal) _ = _
  unfold L2
  refine congrArg₂ (· * ·) (congrArg _ (congrArg₂ f ?_ rfl)) (congrArg _ (congrArg₂ g ?_ rfl))
  · exact hk
  · exact hk

theorem matmul_outer (f g : ℕ → ℕ → ℝ) :
    matmul (F := Ideal) (φ₁ := .bf16) (φ₂ := .bf16) dot_S128x256_S128x256_S128x128_1_1_0_0_n_n none (L2 f) (L2 g) (constant S128x128 .f32 0x00000000#32)
      = L2 fun i j => ∑ k ∈ Finset.range 256, f i k * g j k := by
  funext j
  simp only [matmul]
  rw [Ideal.matmul_constant_zero_apply, ← Equiv.sum_comp (contrEquiv1 dot_S128x256_S128x256_S128x128_1_1_0_0_n_n 256 rfl rfl).symm]
  refine Eq.trans (Finset.sum_congr rfl fun k _ => ?_) (coe_dot_fin 256 (fun k => f (j 0).val k) fun k => g (j 1).val k)
  have hk := contrEquiv1_symm_val dot_S128x256_S128x256_S128x128_1_1_0_0_n_n 256 rfl rfl k
  show (L2 f : S128x256.Idx → EReal) _ * (L2 g : S128x256.Idx → EReal) _ = _
  unfold L2
  refine congrArg₂ (· * ·) (congrArg _ (congrArg₂ f rfl ?_)) (congrArg _ (congrArg₂ g rfl ?_))
  · exact hk
  · exact hk

/-! ## The masks -/

theorem mask_apply (i : S128x128.Idx) : k0_pay5 i = if (i 1).val < 64 ∨ 64 ≤ (i 0).val then 1#1 else 0#1 := by
  have h0 : (i 0).val < 128 := (i 0).isLt
  have h1 : (i 1).val < 128 := (i 1).isLt
  have key : ∀ x y : Fin 128, IntOp.ori (IntOp.cmpi .slt (BitVec.ofNat 32 y.val) 64#32) (IntOp.cmpi .sge (BitVec.ofNat 32 x.val) 64#32)
      = if y.val < 64 ∨ 64 ≤ x.val then 1#1 else 0#1 := by decide +kernel
  unfold k0_pay5
  show IntOp.ori (IntOp.cmpi .slt (iota .tc S128x128 32 [1] iota_S128x128_d1_w32 i) 64#32)
    (IntOp.cmpi .sge (iota .tc S128x128 32 [0] iota_S128x128_d0_w32 i) 64#32) = _
  rw [iota_single_apply, iota_single_apply]
  exact key ⟨_, h0⟩ ⟨_, h1⟩

theorem lane_apply (g : Fin 8) (i : S128x8.Idx) :
    cmpi .eq (iota Kind.tc S128x8 32 [1] iota_S128x8_d1_w32) (broadcast S128x8 (BitVec.ofNat 32 g.val)) i
      = if (i 1).val = g.val then 1#1 else 0#1 := by
  have h1 : (i 1).val < 8 := (i 1).isLt
  have key : ∀ x y : Fin 8, IntOp.cmpi .eq (BitVec.ofNat 32 y.val) (BitVec.ofNat 32 x.val) = if y.val = x.val then 1#1 else 0#1 := by decide +kernel
  show IntOp.cmpi .eq (iota Kind.tc S128x8 32 [1] iota_S128x8_d1_w32 i) (BitVec.ofNat 32 g.val) = _
  rw [iota_single_apply]
  exact key g ⟨_, h1⟩

theorem wm_L2 (w : ℕ → ℕ → ℕ → ℝ) (g : ℕ) :
    k0_pay6 (F := Ideal) (L3 fun _ => w g) = L2 (wm w g) := by
  unfold k0_pay6
  simp only [dropPlane_L3, splat_zero, select_L2 _ (fun i k => k < 64 ∨ 64 ≤ i) mask_apply, truncf_L2]
  rfl

/-! ## The halves -/

theorem named_cubic : Named.named (F := Ideal) (φ := .f32) Cert.KernelIdeal.κ "cubic" 0x3D372713#32 = ((8943 / 200000 : ℝ) : EReal) :=
  IdealRules.named_const.ideal_named_scalar _ _ _ _ rfl
theorem named_cubic3 : Named.named (F := Ideal) (φ := .f32) Cert.KernelIdeal.κ "cubic3" 0x3E095D4F#32 = ((26829 / 200000 : ℝ) : EReal) :=
  IdealRules.named_const.ideal_named_scalar _ _ _ _ rfl

theorem splat_cubic {m n : ℕ} : (broadcast (⟨2, ![m, n]⟩ : Shape) (Named.named (F := Ideal) (φ := .f32) Cert.KernelIdeal.κ "cubic" 0x3D372713#32) : FVec Ideal _ .f32)
    = L2 fun _ _ => 8943 / 200000 := splat_L2 _ _ named_cubic
theorem splat_cubic3 {m n : ℕ} : (broadcast (⟨2, ![m, n]⟩ : Shape) (Named.named (F := Ideal) (φ := .f32) Cert.KernelIdeal.κ "cubic3" 0x3E095D4F#32) : FVec Ideal _ .f32)
    = L2 fun _ _ => 26829 / 200000 := splat_L2 _ _ named_cubic3

theorem uOf_L2 (f : ℕ → ℕ → ℝ) : uOf (F := Ideal) (L2 f) = L2 fun i j => gelu (f i j) := by
  unfold uOf k0_pay18 k0_pay17 k0_pay16 k0_pay15
  simp only [extf_L2, splat_cubic, splat_C, splat_half, splat_one, mulf_L2, addf_L2, tanh_L2]
  rfl

theorem udOf_L2 (f : ℕ → ℕ → ℝ) : udOf (F := Ideal) (L2 f) = L2 fun i j => geluD (f i j) := by
  unfold udOf k0_pay22 k0_pay21 k0_pay20 k0_pay19 k0_pay17 k0_pay16 k0_pay15
  simp only [extf_L2, splat_cubic, splat_cubic3, splat_C, splat_half, splat_one, mulf_L2, addf_L2, subf_L2, tanh_L2]
  rfl

theorem pay26_L2 (f : ℕ → ℕ → ℝ) : k0_pay26 (F := Ideal) (L2 f) = L2 fun i j => gelu (f i j) := by
  unfold k0_pay26 k0_pay25 k0_pay24 k0_pay23
  simp only [extf_L2, splat_cubic, splat_C, splat_half, splat_one, mulf_L2, addf_L2, tanh_L2]
  rfl

theorem pay27_L2 (f : ℕ → ℕ → ℝ) : k0_pay27 (F := Ideal) (L2 f) = L2 fun i j => geluD (f i j) := by
  unfold k0_pay27 k0_pay25 k0_pay24 k0_pay23
  simp only [extf_L2, splat_cubic, splat_cubic3, splat_C, splat_half, splat_one, mulf_L2, addf_L2, subf_L2, tanh_L2]
  rfl

/-! ## The sums -/

theorem rowSums (f : ℕ → ℕ → ℝ) : multiReduction (F := Ideal) .add [1] S256 (L2 f : FVec Ideal S256x2048 .f32) 0x00000000#32
    reduces_S256x2048_S256 (.inl rfl) rfl = L1 fun i => ∑ k ∈ Finset.range 2048, f i k := sumCols_L2 f _
theorem colSums (f : ℕ → ℕ → ℝ) : multiReduction (F := Ideal) .add [0] S2048 (L2 f : FVec Ideal S256x2048 .f32) 0x00000000#32
    reduces_S256x2048_S2048 (.inl rfl) rfl = L1 fun j => ∑ k ∈ Finset.range 256, f k j := sumRows_L2 f _
theorem tileSums (f : ℕ → ℕ → ℝ) : multiReduction (F := Ideal) .add [1] S128 (L2 f : FVec Ideal S128x256 .f32) 0x00000000#32
    reduces_S128x256_S128 (.inl rfl) rfl = L1 fun i => ∑ k ∈ Finset.range 256, f i k := sumCols_L2 f _

section
variable (z : ℕ → ℕ → ℝ)

/-- The right half of `z`. -/
abbrev right (i j : ℕ) : ℝ := z i (2048 + j)

theorem pay28_L2 : k0_pay28 (F := Ideal) (k0_pay26 (L2 (right z))) = L2 (vc z) := by
  rw [pay26_L2]
  unfold k0_pay28
  rw [rowSums]
  simp only [castCol_L1, splat_2048, divf_L2 _ (fun _ _ => (2048 : ℝ)) (fun _ _ => by norm_num), colBcast_L2, subf_L2]
  rfl

theorem pay29_L2 : k0_pay29 (F := Ideal) (k0_pay26 (L2 (right z))) = L2 fun i _ => rs z i := by
  unfold k0_pay29
  simp only [pay28_L2, mulf_L2]
  rw [rowSums]
  simp only [castCol_L1, splat_2048, splat_eps, divf_L2 _ (fun _ _ => (2048 : ℝ)) (fun _ _ => by norm_num), addf_L2]
  exact rsqrt_L2 (fun i _ => var z i) fun i _ => var_pos z i

theorem pay30_L2 : k0_pay30 (F := Ideal) (k0_pay26 (L2 (right z))) = L2 (vh z) := by
  unfold k0_pay30
  simp only [pay28_L2, pay29_L2, colBcast_L2, mulf_L2]
  rfl

theorem vnOf_L2 (a b : ℕ → ℝ) : vnOf (F := Ideal) (L2 (right z)) (L2 fun _ => a) (L2 fun _ => b) = L2 (vn a b z) := by
  unfold vnOf k0_pay31
  simp only [pay30_L2, shapeCast_same, rowBcast_L2, mulf_L2, addf_L2, truncf_L2]
  rfl

theorem dvOf_L2 (w : ℕ → ℕ → ℕ → ℝ) (a : ℕ → ℝ) (d : ℕ → ℕ → ℝ) :
    dvOf (F := Ideal) (L2 (right z)) (L2 (dvn w z d)) (L2 fun _ => a) = L2 (dv w a z d) := by
  unfold dvOf k0_pay158
  simp only [pay27_L2, pay29_L2, pay30_L2, shapeCast_same, rowBcast_L2, colBcast_L2, mulf_L2, subf_L2]
  rw [rowSums, rowSums]
  simp only [castCol_L1, splat_2048, divf_L2 _ (fun _ _ => (2048 : ℝ)) (fun _ _ => by norm_num),
    colBcast_L2, mulf_L2, subf_L2, truncf_L2]
  rfl
end

/-! ## A step -/

section
variable (w : ℕ → ℕ → ℕ → ℝ) (s : ℕ → ℕ → ℝ) (a b : ℕ → ℝ) (z d : ℕ → ℕ → ℝ) (q : Step)

/-- The loaded tile of the incoming gradient, a step's matrix and bias column. -/
abbrev dTile : Vec Ideal S128x256 .f32 := L2 fun i j => d (128 * q.1.val + i) (256 * q.2.val + j)
abbrev wPlane : Vec Ideal S1x128x128 .f32 := L3 fun _ => w q.2.val
abbrev sCol : Vec Ideal S128x1 .f32 := L2 fun i _ => s i q.2.val

theorem cut_L2 {φ : FTy} (f : ℕ → ℕ → ℝ) :
    cut (F := Ideal) (φ := φ) (L2 f) q = L2 fun i j => f (128 * q.1.val + i) (256 * q.2.val + j) := rfl

theorem tile_arith {b g i j : ℕ} (hi : i < 128) (hj : j < 256) :
    (256 * g + j) / 256 = g ∧ (128 * b + i) % 128 = i ∧ (128 * b + i) / 128 * 128 = 128 * b := by omega

theorem duTile_L2 : duTile (wPlane w q) (L2 fun i j => geluD (z i j)) (L2 (vn a b z)) (sCol s q) (dTile d q) q
    = L2 fun i j => du w s a b z d (128 * q.1.val + i) (256 * q.2.val + j) := by
  unfold duTile gate
  simp only [wm_L2, cut_L2, matmul_rows, shapeCast_same, colBcast_L2, addf_L2, mulf_L2, truncf_L2]
  refine L2_congr fun i j hi hj => ?_
  obtain ⟨e1, e2, e3⟩ := tile_arith (b := q.1.val) (g := q.2.val) hi hj
  unfold du Spec.gate
  rw [e1, e2, e3]

theorem dmTile_L2 : dmTile (F := Ideal) (L2 fun i j => gelu (z i j)) (dTile d q) q
    = L2 fun i j => dm z d (128 * q.1.val + i) (256 * q.2.val + j) := by
  unfold dmTile
  simp only [cut_L2, mulf_L2]
  rfl

theorem dvnTile_L2 : dvnTile (wPlane w q) (L2 fun i j => gelu (z i j)) (dTile d q) q
    = L2 fun i j => dvn w z d (128 * q.1.val + i) (256 * q.2.val + j) := by
  unfold dvnTile
  simp only [wm_L2, dmTile_L2, truncf_L2, matmul_cols, shapeCast_same]
  refine L2_congr fun i j hi hj => ?_
  obtain ⟨e1, e2, e3⟩ := tile_arith (b := q.1.val) (g := q.2.val) hi hj
  unfold dvn
  rw [e1, e2, e3]

theorem dwsTile_L2 (o : ℕ → ℕ → ℝ) : dwsTile (F := Ideal) (L2 fun i j => gelu (z i j)) (L2 (vn a b z)) (dTile d q) q (L3 fun _ => o)
    = L3 fun _ i k => o i k + cw a b z d q.1.val q.2.val i k := by
  unfold dwsTile
  simp only [dmTile_L2, truncf_L2, cut_L2, matmul_outer, dropPlane_L3, splat_zero, select_L2 _ (fun i k => k < 64 ∨ 64 ≤ i) mask_apply, addf_L2, addPlane_L2]
  rfl

theorem dbsStep_L2 (o : ℕ → ℕ → ℝ) : dbsStep (F := Ideal) (L2 fun i j => gelu (z i j)) (dTile d q) q (L2 o)
    = L2 fun i g => o i g + if g = q.2.val then cb z d q.1.val i q.2.val else 0 := by
  unfold dbsStep
  simp only [dmTile_L2]
  rw [tileSums]
  simp only [castCol_L1, shapeCast_same, colBcast_L2, splat_zero, select_L2 _ (fun _ g => g = q.2.val) (lane_apply q.2), addf_L2]
  rfl

theorem dbsAcc_L2 (qs : List Step) : dbsAcc (F := Ideal) (dTile d) (L2 fun i j => gelu (z i j)) qs
    = L2 fun i g => (qs.map fun q => if g = q.2.val then cb z d q.1.val i q.2.val else 0).sum := by
  induction qs with
  | nil => exact splat_zero
  | cons q qs ih =>
    show dbsStep _ _ q (dbsAcc _ _ qs) = _
    rw [ih, dbsStep_L2]
    refine L2_congr fun i g _ _ => ?_
    rw [List.map_cons, List.sum_cons, add_comm]
end

/-- A sum over all steps, of which only group `g`'s count, is the sum over the chunks. -/
theorem steps_sum (f : ℕ → ℕ → ℝ) (g : ℕ) (hg : g < 8) :
    (steps.map fun q => if g = q.2.val then f q.1.val q.2.val else 0).sum = ∑ n ∈ Finset.range 2, f n g := by
  have e : ∀ g : Fin 8, (steps.map fun q => if g.val = q.2.val then f q.1.val q.2.val else 0).sum = ∑ n ∈ Finset.range 2, f n g.val := by
    intro g
    fin_cases g <;> simp [steps, steps0, steps1, Finset.sum_range_succ, add_comm]
  exact e ⟨g, hg⟩

theorem dbsAll_L2 (z d : ℕ → ℕ → ℝ) : dbsAcc (F := Ideal) (dTile d) (L2 fun i j => gelu (z i j)) steps = L2 (dbs z d 2) := by
  rw [dbsAcc_L2]
  exact L2_congr fun i g _ hg => steps_sum (fun n g => cb z d n i g) g hg

end Cert.KernelIdeal.Sgu
-- ==== Proof.Block.lean ====
module

public import proofs.«01_k».proof.Proof.Tiles
public import Idealize.ShloMosaic.Lib.Pipeline.ValueKit.Tiles

@[expose] public section

/-! What one block of 256 rows leaves in the five outputs when its inputs hold real numbers: the gradient's entries, and what the
    block adds to the four running sums. -/

set_option maxRecDepth 16384

noncomputable section

namespace Cert.KernelIdeal.Sgu

open Cert.KernelIdeal Cert.KernelIdeal.Gen Cert.Lift Cert.Spec Idealize.ShloMosaic Idealize.ShloMosaic.TcCoe Idealize.ShloMosaic.ValueIdx
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## The loads -/

section
variable (w : ℕ → ℕ → ℕ → ℝ) (s z d : ℕ → ℕ → ℝ) (a : ℕ → ℝ)

theorem zl_L2 (arg1 : Memref sig .tc .vmem S256x4096 .bf16) (harg1 : arg1.IsWhole) : zl (F := Ideal) arg1 harg1 (L2 z) = L2 z := by
  unfold zl
  rw [View.readAt_eq_ld, harg1.read_unread, View.ld_unit]
  refine (slice_L2 z _ _).trans (L2_congr fun i j _ _ => ?_)
  show z (0 + i) (0 + j) = z i j
  rw [Nat.zero_add, Nat.zero_add]

theorem zr_L2 (arg1 : Memref sig .tc .vmem S256x4096 .bf16) (harg1 : arg1.IsWhole) : zr (F := Ideal) arg1 harg1 (L2 z) = L2 (right z) := by
  unfold zr
  rw [View.readAt_eq_ld, harg1.read_unread, View.ld_unit]
  refine (slice_L2 z _ _).trans (L2_congr fun i j _ _ => ?_)
  show z (0 + i) (2048 + j) = z i (2048 + j)
  rw [Nat.zero_add]

theorem ld1_L2 (arg2 : Memref sig .tc .vmem S256x2048 .f32) (harg2 : arg2.IsWhole) : ld1 (F := Ideal) arg2 harg2 (L2 d) = dTile d := by
  funext q
  unfold ld1
  rw [View.readAt_eq_ld, harg2.read_unread, View.ld_unit]
  rfl

theorem ldRow_L2 (arg : Memref sig .tc .vmem S1x2048 .f32) (harg : arg.IsWhole) : ldRow (F := Ideal) arg harg (L2 fun _ => a) = L2 fun _ => a := by
  unfold ldRow
  rw [View.readAt_eq_ld, harg.read_unread, View.ld_unit_zero (S := S1x2048) hz2]

theorem ldPlane_L3 (arg : Memref sig .tc .vmem S8x128x128 .f32) (harg : arg.IsWhole) :
    ldPlane (F := Ideal) arg harg (L3 w) = fun g => L3 fun _ => w g.val := by
  funext g
  unfold ldPlane
  rw [View.readAt_eq_ld, harg.read_unread]
  funext x
  have h0 : (x 0).val < 1 := (x 0).isLt
  refine (View.ld_unit_apply_of _ _ _ _ x (ix3 g (x 1) (x 2)) fun a => ?_)
  match a with
  | ⟨0, _⟩ => show g.val = g.val + (x 0).val; omega
  | ⟨1, _⟩ => exact (Nat.zero_add _).symm
  | ⟨2, _⟩ => exact (Nat.zero_add _).symm

theorem ldCol_L2 (arg : Memref sig .tc .vmem S128x8 .f32) (harg : arg.IsWhole) :
    ldCol (F := Ideal) arg harg (L2 s) = fun g => L2 fun i _ => s i g.val := by
  funext g
  unfold ldCol
  rw [View.readAt_eq_ld, harg.read_unread]
  funext x
  have h1 : (x 1).val < 1 := (x 1).isLt
  refine (View.ld_unit_apply_of _ _ _ _ x (ix2 (x 0) g) fun a => ?_)
  match a with
  | ⟨0, _⟩ => exact (Nat.zero_add _).symm
  | ⟨1, _⟩ => show g.val = g.val + (x 1).val; omega
end

/-! ## Every entry lies in some step's tile -/

theorem mem_steps (b : Fin 2) (g : Fin 8) : (b, g) ∈ steps := by fin_cases b <;> fin_cases g <;> simp [steps, steps0, steps1]
theorem mem_steps0 (g : Fin 8) : ((0 : Fin 2), g) ∈ steps0 := by fin_cases g <;> simp [steps0]

theorem mem_tile (y : S256x2048.Idx) : ∃ q ∈ steps, y ∈ (tile q.1 q.2).set := by
  have h0 : (y 0).val < 256 := (y 0).isLt
  have h1 : (y 1).val < 2048 := (y 1).isLt
  refine ⟨(⟨(y 0).val / 128, by omega⟩, ⟨(y 1).val / 256, by omega⟩), mem_steps _ _, ?_⟩
  rw [Rect.mem_set_unit]
  intro a
  match a with
  | ⟨0, _⟩ => show 128 * ((y 0).val / 128) ≤ (y 0).val ∧ (y 0).val < 128 * ((y 0).val / 128) + 128; omega
  | ⟨1, _⟩ => show 256 * ((y 1).val / 256) ≤ (y 1).val ∧ (y 1).val < 256 * ((y 1).val / 256) + 256; omega

theorem mem_tileZ (y : S256x4096.Idx) (h1 : (y 1).val < 2048) : ∃ q ∈ steps, y ∈ (tileZ q.1 q.2).set := by
  have h0 : (y 0).val < 256 := (y 0).isLt
  refine ⟨(⟨(y 0).val / 128, by omega⟩, ⟨(y 1).val / 256, by omega⟩), mem_steps _ _, ?_⟩
  rw [Rect.mem_set_unit]
  intro a
  match a with
  | ⟨0, _⟩ => show 128 * ((y 0).val / 128) ≤ (y 0).val ∧ (y 0).val < 128 * ((y 0).val / 128) + 128; omega
  | ⟨1, _⟩ => show 256 * ((y 1).val / 256) ≤ (y 1).val ∧ (y 1).val < 256 * ((y 1).val / 256) + 256; omega

theorem mem_plane (g : Fin 8) (y : S8x128x128.Idx) : y ∈ (plane g).set ↔ (y 0).val = g.val := by
  have h1 : (y 1).val < 128 := (y 1).isLt
  have h2 : (y 2).val < 128 := (y 2).isLt
  rw [Rect.mem_set_unit]
  constructor
  · intro h
    have h0 : g.val ≤ (y 0).val ∧ (y 0).val < g.val + 1 := h 0
    omega
  · intro h a
    match a with
    | ⟨0, _⟩ => show g.val ≤ (y 0).val ∧ (y 0).val < g.val + 1; omega
    | ⟨1, _⟩ => show 0 ≤ (y 1).val ∧ (y 1).val < 0 + 128; omega
    | ⟨2, _⟩ => show 0 ≤ (y 2).val ∧ (y 2).val < 0 + 128; omega

/-! ## The outputs written tile by tile -/

section
variable (w : ℕ → ℕ → ℕ → ℝ) (s : ℕ → ℕ → ℝ) (a b : ℕ → ℝ) (z d : ℕ → ℕ → ℝ)

theorem dvn_read (arg12 : Memref sig .tc .vmem S256x2048 .f32) :
    (arg12.view.readCov (Val := Elt Ideal) (dvnPieces (F := Ideal) (fun g => L3 fun _ => w g.val) (dTile d) (L2 fun i j => gelu (z i j)))
      (Rect.unit (s := S256x2048) ![0, 0] S256x2048.size inb_S256x2048_S256x2048_0_0).toLoadRect) = (L2 (dvn w z d) : Vec Ideal S256x2048 .f32) := by
  rw [View.readCov_eq_canon']
  refine (View.ld_unit_zero (S := S256x2048) hz2 _ _).trans ?_
  funext y
  refine View.canon_apply_of_pieces (Val := Elt Ideal) (e := .f32) (L2 (dvn w z d) : Vec Ideal S256x2048 .f32) _ ?_ y ?_
  · intro p hp
    obtain ⟨q, _, rfl⟩ := List.mem_map.mp hp
    intro x
    refine (congrFun (dvnTile_L2 w z d q) x).trans ?_
    show ((dvn w z d (128 * q.1.val + (x 0).val) (256 * q.2.val + (x 1).val) : ℝ) : EReal)
      = ((dvn w z d (128 * q.1.val + 1 * (x 0).val) (256 * q.2.val + 1 * (x 1).val) : ℝ) : EReal)
    rw [Nat.one_mul, Nat.one_mul]
  · obtain ⟨q, hq, hy⟩ := mem_tile y
    exact ⟨_, List.mem_map.mpr ⟨q, hq, rfl⟩, hy⟩

theorem dz_canon :
    View.canon (Val := Elt Ideal) (e := .bf16) (⟨Rect.unit (s := S256x4096) ![0, 2048] S256x2048.size inb_S256x4096_S256x2048_0_2048, L2 (dv w a z d)⟩
      :: duPieces (F := Ideal) (fun g => L3 fun _ => w g.val) (fun g => L2 fun i _ => s i g.val) (dTile d) (L2 fun i j => geluD (z i j)) (L2 (vn a b z)))
      = (L2 (dz w s a b z d) : Vec Ideal S256x4096 .bf16) := by
  funext y
  refine View.canon_apply_of_pieces (Val := Elt Ideal) (e := .bf16) (L2 (dz w s a b z d) : Vec Ideal S256x4096 .bf16) _ ?_ y ?_
  · intro p hp
    rcases List.mem_cons.mp hp with rfl | hp
    · intro x
      show ((dv w a z d (x 0).val (x 1).val : ℝ) : EReal) = ((dz w s a b z d (0 + 1 * (x 0).val) (2048 + 1 * (x 1).val) : ℝ) : EReal)
      unfold dz
      rw [if_neg (by omega), Nat.one_mul, Nat.one_mul, Nat.zero_add, Nat.add_sub_cancel_left]
    · obtain ⟨q, _, rfl⟩ := List.mem_map.mp hp
      intro x
      refine (congrFun (duTile_L2 w s a b z d q) x).trans ?_
      have h1 : (x 1).val < 256 := (x 1).isLt
      have hq := q.2.isLt
      show ((du w s a b z d (128 * q.1.val + (x 0).val) (256 * q.2.val + (x 1).val) : ℝ) : EReal)
        = ((dz w s a b z d (128 * q.1.val + 1 * (x 0).val) (256 * q.2.val + 1 * (x 1).val) : ℝ) : EReal)
      unfold dz
      rw [if_pos (by omega), Nat.one_mul, Nat.one_mul]
  · by_cases h1 : (y 1).val < 2048
    · obtain ⟨q, hq, hy⟩ := mem_tileZ y h1
      exact ⟨_, List.mem_cons_of_mem _ (List.mem_map.mpr ⟨q, hq, rfl⟩), hy⟩
    · have h0 : (y 0).val < 256 := (y 0).isLt
      have h2 : (y 1).val < 4096 := (y 1).isLt
      refine ⟨_, List.mem_cons_self, ?_⟩
      rw [Rect.mem_set_unit]
      intro a
      match a with
      | ⟨0, _⟩ => show 0 ≤ (y 0).val ∧ (y 0).val < 0 + 256; omega
      | ⟨1, _⟩ => show 2048 ≤ (y 1).val ∧ (y 1).val < 2048 + 2048; omega

/-- A store of one plane over the earlier stores. -/
theorem canon_plane (g : Fin 8) (P : ℕ → ℕ → ℝ) (o : ℕ → ℕ → ℕ → ℝ) (L : List (View.Piece (Elt Ideal) S8x128x128 .f32))
    (h : View.canon L = (L3 o : Vec Ideal S8x128x128 .f32)) :
    View.canon (Val := Elt Ideal) (e := .f32) (⟨plane g, (L3 fun _ => P : Vec Ideal S1x128x128 .f32)⟩ :: L)
      = (L3 fun g' i k => if g' = g.val then P i k else o g' i k : Vec Ideal S8x128x128 .f32) := by
  funext y
  by_cases hy : (y 0).val = g.val
  · obtain ⟨x, rfl⟩ : ∃ x, (plane g).emb x = y := (plane g).toLoadRect.exists_idx_of_mem ((mem_plane g y).mpr hy)
    refine (View.canon_cons_emb (Val := Elt Ideal) (e := .f32) (plane g) _ L x).trans ?_
    show ((P (x 1).val (x 2).val : ℝ) : EReal) = (((if g.val + 1 * (x 0).val = g.val then P (0 + 1 * (x 1).val) (0 + 1 * (x 2).val)
      else o (g.val + 1 * (x 0).val) (0 + 1 * (x 1).val) (0 + 1 * (x 2).val) : ℝ)) : EReal)
    have h0 : (x 0).val < 1 := (x 0).isLt
    rw [if_pos (by omega), show 0 + 1 * (x 1).val = (x 1).val by omega, show 0 + 1 * (x 2).val = (x 2).val by omega]
  · have hn : y ∉ (plane g).set := fun h => hy ((mem_plane g y).mp h)
    refine (View.canon_cons_of_not_mem (Val := Elt Ideal) (⟨plane g, (L3 fun _ => P : Vec Ideal S1x128x128 .f32)⟩ : View.Piece (Elt Ideal) S8x128x128 .f32) L (y := y) hn).trans ?_
    rw [h]
    show ((o (y 0).val (y 1).val (y 2).val : ℝ) : EReal)
      = (((if (y 0).val = g.val then P (y 1).val (y 2).val else o (y 0).val (y 1).val (y 2).val : ℝ)) : EReal)
    rw [if_neg hy]

/-- A plane of the matrices. -/
theorem plane_read (g : Fin 8) (f : ℕ → ℕ → ℕ → ℝ) :
    (fun x => (L3 f : Vec Ideal S8x128x128 .f32) ((plane g).toLoadRect.idx x)) = (L3 fun _ => f g.val : Vec Ideal S1x128x128 .f32) := by
  funext x
  have h0 : (x 0).val < 1 := (x 0).isLt
  show ((f (g.val + 1 * (x 0).val) (0 + 1 * (x 1).val) (0 + 1 * (x 2).val) : ℝ) : EReal) = ((f g.val (x 1).val (x 2).val : ℝ) : EReal)
  rw [show g.val + 1 * (x 0).val = g.val by omega, show 0 + 1 * (x 1).val = (x 1).val by omega, show 0 + 1 * (x 2).val = (x 2).val by omega]

theorem dws_canon (v : Memref sig .tc .vmem S8x128x128 .f32) (o : ℕ → ℕ → ℕ → ℝ) (base : List (View.Piece (Elt Ideal) S8x128x128 .f32))
    (h : View.canon base = (L3 o : Vec Ideal S8x128x128 .f32)) (qs : List Step) :
    View.canon (dwsPieces (F := Ideal) (dTile d) (L2 fun i j => gelu (z i j)) (L2 (vn a b z)) v base qs)
      = (L3 fun g i k => (qs.map fun q => if g = q.2.val then cw a b z d q.1.val q.2.val i k else 0).sum + o g i k : Vec Ideal S8x128x128 .f32) := by
  induction qs with
  | nil =>
    refine h.trans (L3_congr fun g i k _ _ _ => ?_)
    rw [List.map_nil, List.sum_nil, zero_add]
  | cons q qs ih =>
    unfold dwsPieces
    have e : v.view.readCov (Val := Elt Ideal) (dwsPieces (F := Ideal) (dTile d) (L2 fun i j => gelu (z i j)) (L2 (vn a b z)) v base qs) (plane q.2).toLoadRect
        = (L3 fun _ i k => (qs.map fun r => if q.2.val = r.2.val then cw a b z d r.1.val r.2.val i k else 0).sum + o q.2.val i k : Vec Ideal S1x128x128 .f32) := by
      rw [View.readCov_eq_canon', ih]
      exact plane_read q.2 fun g i k => (qs.map fun r => if g = r.2.val then cw a b z d r.1.val r.2.val i k else 0).sum + o g i k
    rw [e, dwsTile_L2]
    refine (canon_plane q.2 _ _ _ ih).trans (L3_congr fun g i k _ _ _ => ?_)
    rw [List.map_cons, List.sum_cons]
    by_cases hg : g = q.2.val
    · subst hg; rw [if_pos rfl, if_pos rfl]; ring
    · rw [if_neg hg, if_neg hg, zero_add]

theorem dwsFirst_canon (o : ℕ → ℕ → ℕ → ℝ) :
    View.canon (dwsFirst (F := Ideal) (dTile d) (L2 fun i j => gelu (z i j)) (L2 (vn a b z)) fun g => L3 fun _ => o g.val)
      = (L3 fun g i k => o g i k + cw a b z d 0 g i k : Vec Ideal S8x128x128 .f32) := by
  funext y
  refine View.canon_apply_of_pieces (Val := Elt Ideal) (e := .f32) (L3 fun g i k => o g i k + cw a b z d 0 g i k : Vec Ideal S8x128x128 .f32) _ ?_ y ?_
  · intro p hp
    obtain ⟨q, hq, rfl⟩ := List.mem_map.mp hp
    intro x
    have hq0 : q.1 = 0 := by
      simp only [steps0, List.mem_cons, List.not_mem_nil, or_false] at hq
      rcases hq with h | h | h | h | h | h | h | h <;> rw [h]
    refine (congrFun (dwsTile_L2 a b z d q (o q.2.val)) x).trans ?_
    have h0 : (x 0).val < 1 := (x 0).isLt
    rw [hq0]
    show ((o q.2.val (x 1).val (x 2).val + cw a b z d 0 q.2.val (x 1).val (x 2).val : ℝ) : EReal)
      = ((o (q.2.val + 1 * (x 0).val) (0 + 1 * (x 1).val) (0 + 1 * (x 2).val)
          + cw a b z d 0 (q.2.val + 1 * (x 0).val) (0 + 1 * (x 1).val) (0 + 1 * (x 2).val) : ℝ) : EReal)
    rw [show q.2.val + 1 * (x 0).val = q.2.val by omega, show 0 + 1 * (x 1).val = (x 1).val by omega, show 0 + 1 * (x 2).val = (x 2).val by omega]
  · exact ⟨_, List.mem_map.mpr ⟨(0, ⟨(y 0).val, (y 0).isLt⟩), mem_steps0 _, rfl⟩, (mem_plane _ y).mpr rfl⟩

theorem steps1_sum (f : ℕ → ℕ → ℝ) (g : ℕ) (hg : g < 8) :
    (steps1.map fun q => if g = q.2.val then f q.1.val q.2.val else 0).sum = f 1 g := by
  have e : ∀ g : Fin 8, (steps1.map fun q => if g.val = q.2.val then f q.1.val q.2.val else 0).sum = f 1 g.val := by
    intro g
    fin_cases g <;> simp [steps1]
  exact e ⟨g, hg⟩

/-! ## The running sums of the norm's gain and bias -/

theorem pay156_L2 (f g : ℕ → ℕ → ℝ) (o : ℕ → ℝ) :
    k0_pay156 (F := Ideal) (L2 f) (L2 g) (L2 fun _ => o) = L2 fun _ j => (∑ k ∈ Finset.range 256, g k j * f k j) + o j := by
  unfold k0_pay156
  simp only [mulf_L2]
  rw [colSums]
  simp only [castRow_L1, shapeCast_same, addf_L2]
  exact L2_congr fun _ j _ _ => add_comm _ _

theorem pay157_L2 (g : ℕ → ℕ → ℝ) (o : ℕ → ℝ) :
    k0_pay157 (F := Ideal) (L2 g) (L2 fun _ => o) = L2 fun _ j => (∑ k ∈ Finset.range 256, g k j) + o j := by
  unfold k0_pay157
  dsimp only
  rw [colSums]
  simp only [castRow_L1, shapeCast_same, addf_L2]
  exact L2_congr fun _ j _ _ => add_comm _ _

end

/-! ## One block -/

section

variable (c : Dev nD) (i : grid0.Coords)
  (arg1 : Memref sig .tc .vmem S256x4096 .bf16) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S8x128x128 .f32) (harg5 : arg5.IsWhole)
  (arg6 : Memref sig .tc .vmem S128x8 .f32) (harg6 : arg6.IsWhole)
  (arg7 : Memref sig .tc .vmem S256x4096 .bf16) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S1x2048 .f32) (harg10 : arg10.IsWhole)
  (arg11 : Memref sig .tc .vmem S1x2048 .f32) (harg11 : arg11.IsWhole)
  (arg12 : Memref sig .tc .vmem S256x2048 .f32) (harg12 : arg12.IsWhole)
  (w : ℕ → ℕ → ℕ → ℝ) (s : ℕ → ℕ → ℝ) (a b : ℕ → ℝ) (z d : ℕ → ℕ → ℝ)
  (o7 : ℕ → ℕ → ℕ → ℝ) (o8 : ℕ → ℕ → ℝ) (o9 o10 : ℕ → ℝ)

theorem fill7 : View.canon (Val := Elt Ideal) (e := .f32) [⟨Rect.unit (s := S8x128x128) ![0, 0, 0] S8x128x128.size inb_S8x128x128_S8x128x128_0_0_0, k0_pay1 (F := Ideal)⟩]
    = (L3 fun _ _ _ => 0 : Vec Ideal S8x128x128 .f32) := by
  refine (View.canon_unit_zero (S := S8x128x128) hz3 _ _).trans ?_
  funext y
  exact bits_zero

theorem add8 (o f : ℕ → ℕ → ℝ) : addf (F := Ideal) (φ := .f32) (shapeCast S128x8 (L2 o) shapeCasts_S128x8_S128x8) (L2 f) = L2 fun i g => f i g + o i g := by
  rw [shapeCast_same (s := S128x8), addf_L2]
  exact L2_congr fun _ _ _ _ => add_comm _ _

theorem pay2_L2 : k0_pay2 (F := Ideal) = L2 fun _ _ => 0 := splat_zero
theorem pay3_L2 : k0_pay3 (F := Ideal) = L2 fun _ _ => 0 := splat_zero
theorem pay4_L2 : k0_pay4 (F := Ideal) = L2 fun _ _ => 0 := splat_zero

theorem block_A_6 (hc0 : cond0_0 i) :
    out0_A_6 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s)
      = L2 (dz w s a b z d) := by
  rw [out_A_6]
  rw [zr_L2, zl_L2, ld1_L2, ldPlane_L3, ldCol_L2, ldRow_L2 a, ldRow_L2 b, uOf_L2, udOf_L2, vnOf_L2, dvn_read, dvOf_L2]
  exact dz_canon w s a b z d

theorem block_B_6 (hc0 : ¬cond0_0 i) :
    out0_B_6 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s) (L3 o7) (L2 o8) (L2 fun _ => o9) (L2 fun _ => o10)
      = L2 (dz w s a b z d) := by
  rw [out_B_6]
  rw [zr_L2, zl_L2, ld1_L2, ldPlane_L3, ldCol_L2, ldRow_L2 a, ldRow_L2 b, uOf_L2, udOf_L2, vnOf_L2, dvn_read, dvOf_L2]
  exact dz_canon w s a b z d

theorem block_A_7 (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s)
      = L3 (dws a b z d 2) := by
  rw [out_A_7]
  simp only [zl_L2, zr_L2, ld1_L2, ldRow_L2, ldPlane_L3, ldCol_L2, uOf_L2, udOf_L2, vnOf_L2]
  refine (dws_canon a b z d arg8 _ _ fill7 steps).trans (L3_congr fun g i k hg _ _ => ?_)
  rw [steps_sum (fun n g => cw a b z d n g i k) g hg, add_zero]
  rfl

theorem block_B_7 (hc0 : ¬cond0_0 i) :
    out0_B_7 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s) (L3 o7) (L2 o8) (L2 fun _ => o9) (L2 fun _ => o10)
      = L3 fun g i k => dws a b z d 2 g i k + o7 g i k := by
  rw [out_B_7]
  simp only [zl_L2, zr_L2, ld1_L2, ldRow_L2, ldPlane_L3, ldCol_L2, uOf_L2, udOf_L2, vnOf_L2]
  refine (dws_canon a b z d arg8 _ _ (dwsFirst_canon a b z d o7) steps1).trans (L3_congr fun g i k hg _ _ => ?_)
  rw [steps1_sum (fun n g => cw a b z d n g i k) g hg]
  unfold dws
  rw [Finset.sum_range_succ, Finset.sum_range_one]
  ring

theorem block_A_8 (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s)
      = L2 (dbs z d 2) := by
  rw [out_A_8]
  rw [View.canon_cons_unit_zero (S := S128x8) hz2, View.readCov_unit_zero (S := S128x8) _ hz2]
  simp only [zl_L2, zr_L2, ld1_L2, ldRow_L2, ldPlane_L3, ldCol_L2, uOf_L2, udOf_L2, vnOf_L2, dbsAll_L2, pay2_L2]
  exact (add8 _ _).trans (L2_congr fun _ _ _ _ => add_zero _)

theorem block_B_8 (hc0 : ¬cond0_0 i) :
    out0_B_8 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s) (L3 o7) (L2 o8) (L2 fun _ => o9) (L2 fun _ => o10)
      = L2 fun i g => dbs z d 2 i g + o8 i g := by
  rw [out_B_8]
  rw [View.canon_cons_unit_zero (S := S128x8) hz2, View.readAt_eq_ld, harg9.read_unread, View.ld_unit_zero (S := S128x8) hz2]
  simp only [zl_L2, zr_L2, ld1_L2, ldRow_L2, ldPlane_L3, ldCol_L2, uOf_L2, udOf_L2, vnOf_L2, dbsAll_L2]
  exact add8 _ _

theorem block_A_9 (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s)
      = L2 fun _ => dlng w z d 256 := by
  rw [out_A_9]
  rw [View.canon_cons_unit_zero (S := S1x2048) hz2, View.readCov_unit_zero (S := S1x2048) _ hz2]
  rw [zr_L2, zl_L2, ld1_L2, ldPlane_L3, uOf_L2, dvn_read, pay30_L2, pay3_L2, pay156_L2]
  simp only [add_zero]
  rfl

theorem block_B_9 (hc0 : ¬cond0_0 i) :
    out0_B_9 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s) (L3 o7) (L2 o8) (L2 fun _ => o9) (L2 fun _ => o10)
      = L2 fun _ j => dlng w z d 256 j + o9 j := by
  rw [out_B_9]
  rw [View.canon_cons_unit_zero (S := S1x2048) hz2]
  rw [zr_L2, zl_L2, ld1_L2, ldPlane_L3, ldRow_L2, uOf_L2, dvn_read, pay30_L2, pay156_L2]
  rfl

theorem block_A_10 (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s)
      = L2 fun _ => dlnb w z d 256 := by
  rw [out_A_10]
  rw [View.canon_cons_unit_zero (S := S1x2048) hz2, View.readCov_unit_zero (S := S1x2048) _ hz2]
  rw [zl_L2, ld1_L2, ldPlane_L3, uOf_L2, dvn_read, pay4_L2, pay157_L2]
  simp only [add_zero]
  rfl

theorem block_B_10 (hc0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 hc0 (L2 z) (L2 d) (L2 fun _ => a) (L2 fun _ => b) (L3 w) (L2 s) (L3 o7) (L2 o8) (L2 fun _ => o9) (L2 fun _ => o10)
      = L2 fun _ j => dlnb w z d 256 j + o10 j := by
  rw [out_B_10]
  rw [View.canon_cons_unit_zero (S := S1x2048) hz2]
  rw [zl_L2, ld1_L2, ldPlane_L3, ldRow_L2, uOf_L2, dvn_read, pay157_L2]
  rfl

end

end Cert.KernelIdeal.Sgu
-- ==== Proof.HostLift.lean ====
module

public import proofs.«01_k».proof.Proof.Spec
public import Idealize.ShloMosaic.Lib.TwoAxisContraction

@[expose] public section

/-! The host's operations on arrays of real numbers, and reshapes between a matrix of rows and columns and its split into
    chunks of rows and groups of columns. -/

noncomputable section

namespace Cert.Lift

open Idealize.ShloMosaic Idealize.ShloMosaic.ValueIdx
open scoped BigOperators

theorem L4_congr {k l m n : ℕ} {f g : ℕ → ℕ → ℕ → ℕ → ℝ} (h : ∀ a b c d, a < k → b < l → c < m → d < n → f a b c d = g a b c d) :
    (L4 f : (⟨4, ![k, l, m, n]⟩ : Shape).Idx → EReal) = L4 g := by
  funext i; exact congrArg _ (h _ _ _ _ (i 0).isLt (i 1).isLt (i 2).isLt (i 3).isLt)

section
variable {m n : ℕ} {φ : FTy} (f g : ℕ → ℕ → ℝ)

theorem hostDivf_L2 (h : ∀ i j, g i j ≠ 0) : Host.divf (F := Ideal) (φ := φ) (s := ⟨2, ![m, n]⟩) (L2 f) (L2 g) = L2 fun i j => f i j / g i j :=
  divf_L2 (φ := φ) f g h
theorem hostTanh_L2 : Host.tanh (F := Ideal) (φ := φ) (s := ⟨2, ![m, n]⟩) (L2 f) = L2 fun i j => Real.tanh (f i j) := rfl
theorem hostRsqrt_L2 (h : ∀ i j, 0 < f i j) : Host.rsqrt (F := Ideal) (φ := φ) (s := ⟨2, ![m, n]⟩) (L2 f) = L2 fun i j => (Real.sqrt (f i j))⁻¹ :=
  rsqrt_L2 (φ := φ) f h
theorem hostNegf_L2 : Host.negf (F := Ideal) (φ := φ) (s := ⟨2, ![m, n]⟩) (L2 f) = L2 fun i j => -f i j :=
  funext fun _ => (EReal.coe_neg _).symm
end

theorem addf_L4 {k l m n : ℕ} {φ : FTy} (f g : ℕ → ℕ → ℕ → ℕ → ℝ) :
    addf (F := Ideal) (φ := φ) (s := ⟨4, ![k, l, m, n]⟩) (L4 f) (L4 g) = L4 fun a b c d => f a b c d + g a b c d :=
  funext fun _ => (EReal.coe_add _ _).symm

/-- A sum of real numbers from an initial zero. -/
theorem zero_sum_fin (n : ℕ) (f : ℕ → ℝ) (x : EReal) (hx : x = ((0 : ℝ) : EReal)) :
    x + ∑ i : Fin n, ((f i.val : ℝ) : EReal) = ((∑ i ∈ Finset.range n, f i : ℝ) : EReal) := by
  rw [hx, EReal.coe_zero, zero_add, coe_sum_fin]

/-! ## Rows and columns split -/

theorem split_L2 (f : ℕ → ℕ → ℝ) (h : (⟨2, ![16384, 2048]⟩ : Shape).ShapeCasts ⟨4, ![128, 128, 8, 256]⟩) :
    shapeCast ⟨4, ![128, 128, 8, 256]⟩ (L2 f : (⟨2, ![16384, 2048]⟩ : Shape).Idx → EReal) h
      = L4 fun n k g c => f (128 * n + k) (256 * g + c) := by
  funext i
  have h0 : (i 0).val < 128 := (i 0).isLt
  have h1 : (i 1).val < 128 := (i 1).isLt
  have h2 : (i 2).val < 8 := (i 2).isLt
  have h3 : (i 3).val < 256 := (i 3).isLt
  rw [shapeCast_apply _ h i (ix2 ⟨128 * (i 0).val + (i 1).val, by omega⟩ ⟨256 * (i 2).val + (i 3).val, by omega⟩)]
  · rfl
  · rw [Shape.rowMajor_val_two, Shape.rowMajor_val_four]
    show (128 * (i 0).val + (i 1).val) * 2048 + (256 * (i 2).val + (i 3).val) = (((i 0).val * 128 + (i 1).val) * 8 + (i 2).val) * 256 + (i 3).val
    omega

theorem join_L4 (f : ℕ → ℕ → ℕ → ℕ → ℝ) (h : (⟨4, ![128, 128, 8, 256]⟩ : Shape).ShapeCasts ⟨2, ![16384, 2048]⟩) :
    shapeCast ⟨2, ![16384, 2048]⟩ (L4 f : (⟨4, ![128, 128, 8, 256]⟩ : Shape).Idx → EReal) h
      = L2 fun t j => f (t / 128) (t % 128) (j / 256) (j % 256) := by
  funext i
  have h0 : (i 0).val < 16384 := (i 0).isLt
  have h1 : (i 1).val < 2048 := (i 1).isLt
  rw [shapeCast_apply _ h i (ix4 ⟨(i 0).val / 128, by omega⟩ ⟨(i 0).val % 128, by omega⟩ ⟨(i 1).val / 256, by omega⟩ ⟨(i 1).val % 256, by omega⟩)]
  · rfl
  · rw [Shape.rowMajor_val_two, Shape.rowMajor_val_four]
    show (((i 0).val / 128 * 128 + (i 0).val % 128) * 8 + (i 1).val / 256) * 256 + (i 1).val % 256 = (i 0).val * 2048 + (i 1).val
    omega

theorem dropRow_L2 {n : ℕ} (f : ℕ → ℕ → ℝ) (h : (⟨2, ![1, n]⟩ : Shape).ShapeCasts ⟨1, ![n]⟩) :
    shapeCast ⟨1, ![n]⟩ (L2 f : (⟨2, ![1, n]⟩ : Shape).Idx → EReal) h = L1 (f 0) := by
  funext i
  rw [shapeCast_apply _ h i (ix2 0 (i 0))]
  · rfl
  · rw [Shape.rowMajor_val_one, Shape.rowMajor_val_two]
    show 0 * n + (i 0).val = (i 0).val
    rw [Nat.zero_mul, Nat.zero_add]

theorem dropFirst_L4 {l k n : ℕ} (f : ℕ → ℕ → ℕ → ℕ → ℝ) (h : (⟨4, ![1, l, k, n]⟩ : Shape).ShapeCasts ⟨3, ![l, k, n]⟩) :
    shapeCast ⟨3, ![l, k, n]⟩ (L4 f : (⟨4, ![1, l, k, n]⟩ : Shape).Idx → EReal) h = L3 (f 0) := by
  funext i
  rw [shapeCast_apply _ h i (ix4 0 (i 0) (i 1) (i 2))]
  · rfl
  · rw [Shape.rowMajor_val_three, Shape.rowMajor_val_four]
    show ((0 * l + (i 0).val) * k + (i 1).val) * n + (i 2).val = ((i 0).val * k + (i 1).val) * n + (i 2).val
    rw [Nat.zero_mul, Nat.zero_add]

theorem transpose_L2 {k n : ℕ} (f : ℕ → ℕ → ℝ) (h : (⟨2, ![k, n]⟩ : Shape).Transposes [1, 0] ⟨2, ![n, k]⟩) :
    transpose ⟨2, ![n, k]⟩ [1, 0] (L2 f : (⟨2, ![k, n]⟩ : Shape).Idx → EReal) h = L2 fun i j => f j i := by
  funext i
  rw [transpose_apply _ _ h i (ix2 (i 1) (i 0))]
  · rfl
  · intro a; match a with
    | ⟨0, _⟩ => rfl
    | ⟨1, _⟩ => rfl

/-- (chunk, row, group, column) to (group, chunk, column, row), and back from it. -/
theorem transpose_2031 {k l m n : ℕ} (f : ℕ → ℕ → ℕ → ℕ → ℝ) (h : (⟨4, ![k, l, m, n]⟩ : Shape).Transposes [2, 0, 3, 1] ⟨4, ![m, k, n, l]⟩) :
    transpose ⟨4, ![m, k, n, l]⟩ [2, 0, 3, 1] (L4 f : (⟨4, ![k, l, m, n]⟩ : Shape).Idx → EReal) h = L4 fun a b c d => f b d a c := by
  funext i
  rw [transpose_apply _ _ h i (ix4 (i 1) (i 3) (i 0) (i 2))]
  · rfl
  · intro a; match a with
    | ⟨0, _⟩ => rfl
    | ⟨1, _⟩ => rfl
    | ⟨2, _⟩ => rfl
    | ⟨3, _⟩ => rfl

theorem transpose_1302 {k l m n : ℕ} (f : ℕ → ℕ → ℕ → ℕ → ℝ) (h : (⟨4, ![k, l, m, n]⟩ : Shape).Transposes [1, 3, 0, 2] ⟨4, ![l, n, k, m]⟩) :
    transpose ⟨4, ![l, n, k, m]⟩ [1, 3, 0, 2] (L4 f : (⟨4, ![k, l, m, n]⟩ : Shape).Idx → EReal) h = L4 fun a b c d => f c a d b := by
  funext i
  rw [transpose_apply _ _ h i (ix4 (i 2) (i 0) (i 3) (i 1))]
  · rfl
  · intro a; match a with
    | ⟨0, _⟩ => rfl
    | ⟨1, _⟩ => rfl
    | ⟨2, _⟩ => rfl
    | ⟨3, _⟩ => rfl

end Cert.Lift
-- ==== Proof.Points.lean ====
module

public import proofs.«01_k».proof.Proof.Block
public import proofs.«01_k».proof.Proof.HostLift

@[expose] public section

/-! The kernel's five result arrays over its 64 points, when its arguments hold real numbers: the gradient itself, block by block,
    and the four sums after the last block. -/

set_option maxRecDepth 16384

noncomputable section

namespace Cert.KernelIdeal.Sgu

open Cert.KernelIdeal Cert.KernelIdeal.Gen Cert.KernelIdeal.Value Cert.Lift Cert.Spec Idealize.ShloMosaic Idealize.ShloMosaic.TcCoe
  Idealize.ShloMosaic.ValueIdx Idealize.SL.Sem
open Idealize.ShloMosaic.Pipeline (Dat)
open scoped BigOperators

/-! ## The arguments as the grid finds them -/

section
variable (m : (ℓ : Loc nD τ sig) → Buf (Elt Ideal) ℓ) (c : Dev nD)
  (w : ℕ → ℕ → ℕ → ℝ) (s : ℕ → ℕ → ℝ) (a b : ℕ → ℝ) (z d : ℕ → ℕ → ℝ)

/-- The arguments hold these real numbers. -/
structure Holds : Prop where
  arg0 : (m ((c : Thread nD τ).loc main_arg0) : Vec Ideal S16384x4096 .bf16) = L2 z
  arg1 : (m ((c : Thread nD τ).loc main_arg1) : Vec Ideal S16384x2048 .f32) = L2 d
  arg2 : (m ((c : Thread nD τ).loc main_arg2) : Vec Ideal S1x2048 .f32) = L2 fun _ => a
  arg3 : (m ((c : Thread nD τ).loc main_arg3) : Vec Ideal S1x2048 .f32) = L2 fun _ => b
  arg4 : (m ((c : Thread nD τ).loc main_arg4) : Vec Ideal S1x8x128x128 .f32) = L4 fun _ => w
  arg5 : (m ((c : Thread nD τ).loc main_arg5) : Vec Ideal S1x8x128 .f32) = L3 fun _ g i => s i g

theorem V_v1 : (V m c main_v1 : Vec Ideal S1x2048 .f32)
    = shapeCast S1x2048 (shapeCast S2048 (m ((c : Thread nD τ).loc main_arg2) : Vec Ideal S1x2048 .f32) shapeCasts_S1x2048_S2048) shapeCasts_S2048_S1x2048 := rfl
theorem V_v3 : (V m c main_v3 : Vec Ideal S1x2048 .f32)
    = shapeCast S1x2048 (shapeCast S2048 (m ((c : Thread nD τ).loc main_arg3) : Vec Ideal S1x2048 .f32) shapeCasts_S1x2048_S2048) shapeCasts_S2048_S1x2048 := rfl
theorem V_v5 : (V m c main_v5 : Vec Ideal S128x8 .f32)
    = transpose S128x8 [1, 0] (shapeCast S8x128 (m ((c : Thread nD τ).loc main_arg5) : Vec Ideal S1x8x128 .f32) shapeCasts_S1x8x128_S8x128) transposes_S8x128_S128x8_1_0 := rfl
theorem V_v6 : (V m c main_v6 : Vec Ideal S8x128x128 .f32)
    = shapeCast S8x128x128 (m ((c : Thread nD τ).loc main_arg4) : Vec Ideal S1x8x128x128 .f32) shapeCasts_S1x8x128x128_S8x128x128 := rfl

variable {m c w s a b z d}

theorem V_lng (h : Holds m c w s a b z d) : (V m c main_v1 : Vec Ideal S1x2048 .f32) = L2 fun _ => a := by
  rw [V_v1, h.arg2]
  exact (congrArg (shapeCast S1x2048 · shapeCasts_S2048_S1x2048) (dropRow_L2 _ _)).trans (castRow_L1 _ _)
theorem V_lnb (h : Holds m c w s a b z d) : (V m c main_v3 : Vec Ideal S1x2048 .f32) = L2 fun _ => b := by
  rw [V_v3, h.arg3]
  exact (congrArg (shapeCast S1x2048 · shapeCasts_S2048_S1x2048) (dropRow_L2 _ _)).trans (castRow_L1 _ _)
theorem V_bst (h : Holds m c w s a b z d) : (V m c main_v5 : Vec Ideal S128x8 .f32) = L2 s := by
  rw [V_v5, h.arg5]
  exact (congrArg (transpose S128x8 [1, 0] · transposes_S8x128_S128x8_1_0) (dropPlane_L3 _ _)).trans (transpose_L2 _ _)
theorem V_ws (h : Holds m c w s a b z d) : (V m c main_v6 : Vec Ideal S8x128x128 .f32) = L3 w := by
  rw [V_v6, h.arg4]
  exact dropFirst_L4 _ _
theorem V_z (h : Holds m c w s a b z d) : (V m c main_arg0 : Vec Ideal S16384x4096 .bf16) = L2 z := (V_main_arg0 m c).trans h.arg0
theorem V_d (h : Holds m c w s a b z d) : (V m c main_arg1 : Vec Ideal S16384x2048 .f32) = L2 d := (V_main_arg1 m c).trans h.arg1

/-! ## A point's blocks -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)

theorem blk_rows (k t x y : ℕ) {i j : ℕ} (hi : i = t) (hj : j = 0) : i * 256 + 1 * x = 256 * t + x ∧ j * k + 1 * y = y := by
  subst hi hj; omega

theorem iblk_0 (h : Holds m c w s a b z d) (t : Fin cfg0.N) : (iblk m c 0 t : Vec Ideal S256x4096 .bf16) = L2 (sh t.val z) := by
  show ((cfg0.win 0).blk t).view.read (Elt Ideal) (V m c main_arg0 : Vec Ideal S16384x4096 .bf16) = _
  rw [V_z h]
  funext x
  show ((z (win0_0.index t 0 * 256 + 1 * (x 0).val) (win0_0.index t 1 * 4096 + 1 * (x 1).val) : ℝ) : EReal) = ((z (256 * t.val + (x 0).val) (x 1).val : ℝ) : EReal)
  obtain ⟨e0, e1⟩ := blk_rows 4096 t.val (x 0).val (x 1).val (index0 t).1 (index0 t).2
  rw [e0, e1]

theorem iblk_1 (h : Holds m c w s a b z d) (t : Fin cfg0.N) : (iblk m c 1 t : Vec Ideal S256x2048 .f32) = L2 (sh t.val d) := by
  show ((cfg0.win 1).blk t).view.read (Elt Ideal) (V m c main_arg1 : Vec Ideal S16384x2048 .f32) = _
  rw [V_d h]
  funext x
  show ((d (win0_1.index t 0 * 256 + 1 * (x 0).val) (win0_1.index t 1 * 2048 + 1 * (x 1).val) : ℝ) : EReal) = ((d (256 * t.val + (x 0).val) (x 1).val : ℝ) : EReal)
  obtain ⟨e0, e1⟩ := blk_rows 2048 t.val (x 0).val (x 1).val (index1 t).1 (index1 t).2
  rw [e0, e1]

theorem iblk_2 (h : Holds m c w s a b z d) (t : Fin cfg0.N) : (iblk m c 2 t : Vec Ideal S1x2048 .f32) = L2 fun _ => a := by
  refine Eq.trans ?_ (V_lng h)
  exact Memref.read_access_unit_zero (Elt Ideal) main_v1 (funext fun a => by fin_cases a <;> rfl) (fun a => by fin_cases a <;> exact Nat.le_refl _) _

theorem iblk_3 (h : Holds m c w s a b z d) (t : Fin cfg0.N) : (iblk m c 3 t : Vec Ideal S1x2048 .f32) = L2 fun _ => b := by
  refine Eq.trans ?_ (V_lnb h)
  exact Memref.read_access_unit_zero (Elt Ideal) main_v3 (funext fun a => by fin_cases a <;> rfl) (fun a => by fin_cases a <;> exact Nat.le_refl _) _

theorem iblk_4 (h : Holds m c w s a b z d) (t : Fin cfg0.N) : (iblk m c 4 t : Vec Ideal S8x128x128 .f32) = L3 w := by
  refine Eq.trans ?_ (V_ws h)
  exact Memref.read_access_unit_zero (Elt Ideal) main_v6 (funext fun a => by fin_cases a <;> rfl) (fun a => by fin_cases a <;> exact Nat.le_refl _) _

theorem iblk_5 (h : Holds m c w s a b z d) (t : Fin cfg0.N) : (iblk m c 5 t : Vec Ideal S128x8 .f32) = L2 s := by
  refine Eq.trans ?_ (V_bst h)
  exact Memref.read_access_unit_zero (Elt Ideal) main_v5 (funext fun a => by fin_cases a <;> rfl) (fun a => by fin_cases a <;> exact Nat.le_refl _) _

/-! ## After each point -/

theorem tuple5 {α β γ δ ε : Type} {a a' : α} {b b' : β} {c c' : γ} {d d' : δ} {e e' : ε} (ha : a = a') (hb : b = b') (hc : c = c') (hd : d = d')
    (he : e = e') : (a, b, c, d, e) = (a', b', c', d', e') := by
  subst ha hb hc hd he; rfl

theorem outs (h : Holds m c w s a b z d) : ∀ (n : ℕ) (hn : n < cfg0.N), outsAt0 m c n hn
    = ((L2 (dz w s a b (sh n z) (sh n d)) : Vec Ideal S256x4096 .bf16), (L3 (dws a b z d (2 * (n + 1))) : Vec Ideal S8x128x128 .f32),
      (L2 (dbs z d (2 * (n + 1))) : Vec Ideal S128x8 .f32), (L2 (fun _ => dlng w z d (256 * (n + 1))) : Vec Ideal S1x2048 .f32),
      (L2 (fun _ => dlnb w z d (256 * (n + 1))) : Vec Ideal S1x2048 .f32))
  | 0, hn => by
    refine (outsAt0_A m c ⟨0, hn⟩ rfl).trans ?_
    rw [iblk_0 h, iblk_1 h, iblk_2 h, iblk_3 h, iblk_4 h, iblk_5 h]
    refine tuple5 ?_ ?_ ?_ ?_ ?_
    · rw [block_A_6]
    · rw [block_A_7]
      refine L3_congr fun g i k _ _ _ => ?_
      exact (add_zero _).symm.trans (dws_sh a b z d 0 g i k)
    · rw [block_A_8]
      refine L2_congr fun i g _ _ => ?_
      exact (add_zero _).symm.trans (dbs_sh z d 0 i g)
    · rw [block_A_9]
      refine L2_congr fun _ j _ _ => ?_
      exact (add_zero _).symm.trans (dlng_sh w z d 0 j)
    · rw [block_A_10]
      refine L2_congr fun _ j _ _ => ?_
      exact (add_zero _).symm.trans (dlnb_sh w z d 0 j)
  | n + 1, hn => by
    have hN : cfg0.N = 64 := N_0
    have hB : ¬(⟨n + 1, hn⟩ : Fin cfg0.N).val % 64 = 0 := by dsimp only; omega
    refine (outsAt0_B m c ⟨n + 1, hn⟩ hB).trans ?_
    have e : outsAt0 m c ((⟨n + 1, hn⟩ : Fin cfg0.N).val - 1) (Nat.lt_of_le_of_lt (Nat.sub_le _ _) hn) = _ := outs h n (Nat.lt_of_succ_lt hn)
    rw [e, iblk_0 h, iblk_1 h, iblk_2 h, iblk_3 h, iblk_4 h, iblk_5 h]
    refine tuple5 ?_ ?_ ?_ ?_ ?_
    · rw [block_B_6]
    · rw [block_B_7]
      refine L3_congr fun g i k _ _ _ => ?_
      exact dws_sh a b z d (n + 1) g i k
    · rw [block_B_8]
      refine L2_congr fun i g _ _ => ?_
      exact dbs_sh z d (n + 1) i g
    · rw [block_B_9]
      refine L2_congr fun _ j _ _ => ?_
      exact dlng_sh w z d (n + 1) j
    · rw [block_B_10]
      refine L2_congr fun _ j _ _ => ?_
      exact dlnb_sh w z d (n + 1) j

/-! ## The result arrays -/

theorem arr6 (h : Holds m c w s a b z d) : ((dats m 0 c).arrAt 6 cfg0.N : Vec Ideal S16384x4096 .bf16) = L2 (dz w s a b z d) :=
  (dats m 0 c).arrAt_eq_of_cover 6 (L2 (dz w s a b z d) : Vec Ideal S16384x4096 .bf16) (fun t _ => by
      rw [flushed6, outs h]
      show (L2 (dz w s a b (sh t.val z) (sh t.val d)) : Vec Ideal S256x4096 .bf16) = _
      funext x
      show ((dz w s a b (sh t.val z) (sh t.val d) (x 0).val (x 1).val : ℝ) : EReal)
        = ((dz w s a b z d (win0_6.index t 0 * 256 + 1 * (x 0).val) (win0_6.index t 1 * 4096 + 1 * (x 1).val) : ℝ) : EReal)
      obtain ⟨e0, e1⟩ := blk_rows 4096 t.val (x 0).val (x 1).val (index6 t).1 (index6 t).2
      rw [e0, e1, dz_sh]) fun i => by
    have hN : cfg0.N = 64 := N_0
    have h0 : (i 0 : Nat) < 16384 := (i 0).isLt
    have h1 : (i 1 : Nat) < 4096 := (i 1).isLt
    let t : Fin cfg0.N := ⟨(i 0).val / 256, by omega⟩
    refine ⟨t, flush0_6 t, ?_⟩
    show i ∈ ((View.whole main_v7_0).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [(index6 t).1]; show (i 0).val / 256 * 256 ≤ (i 0 : Nat) ∧ (i 0 : Nat) < (i 0).val / 256 * 256 + 256; omega
    | ⟨1, _⟩ =>
      show win0_6.index t 1 * 4096 ≤ (i 1 : Nat) ∧ (i 1 : Nat) < win0_6.index t 1 * 4096 + 4096
      rw [(index6 t).2]; omega

theorem last (t : Fin cfg0.N) (h : t.val % 64 = 63) : t.val + 1 = 64 := by
  have hN : cfg0.N = 64 := N_0
  have := t.isLt
  omega

def tLast : Fin cfg0.N := ⟨63, by rw [show cfg0.N = 64 from N_0]; decide⟩

theorem arr7 (h : Holds m c w s a b z d) : ((dats m 0 c).arrAt 7 cfg0.N : Vec Ideal S8x128x128 .f32) = L3 (dws a b z d 128) :=
  (dats m 0 c).arrAt_eq_of_cover 7 (L3 (dws a b z d 128) : Vec Ideal S8x128x128 .f32) (fun t hf => by
      have ht := last t ((flush0_7 t).mp hf)
      rw [flushed7, outs h, ht]
      exact (Memref.read_access_unit_zero (Elt Ideal) main_v7_1 (funext fun a => by fin_cases a <;> rfl) (fun a => by fin_cases a <;> exact Nat.le_refl _) (L3 (dws a b z d 128) : Vec Ideal S8x128x128 .f32)).symm) fun i => by
    refine ⟨tLast, (flush0_7 tLast).mpr rfl, ?_⟩
    show i ∈ ((View.whole main_v7_1).slice (win0_7.rect tLast)).set
    rw [View.set_slice_whole, Rect.mem_set_unit]
    intro a
    match a with
    | ⟨0, _⟩ => show 0 * 8 ≤ (i 0 : Nat) ∧ (i 0 : Nat) < 0 * 8 + 8; have h0 : (i 0 : Nat) < 8 := (i 0).isLt; omega
    | ⟨1, _⟩ => show 0 * 128 ≤ (i 1 : Nat) ∧ (i 1 : Nat) < 0 * 128 + 128; have h1 : (i 1 : Nat) < 128 := (i 1).isLt; omega
    | ⟨2, _⟩ => show 0 * 128 ≤ (i 2 : Nat) ∧ (i 2 : Nat) < 0 * 128 + 128; have h2 : (i 2 : Nat) < 128 := (i 2).isLt; omega

theorem arr8 (h : Holds m c w s a b z d) : ((dats m 0 c).arrAt 8 cfg0.N : Vec Ideal S128x8 .f32) = L2 (dbs z d 128) :=
  (dats m 0 c).arrAt_eq_of_cover 8 (L2 (dbs z d 128) : Vec Ideal S128x8 .f32) (fun t hf => by
      have ht := last t ((flush0_8 t).mp hf)
      rw [flushed8, outs h, ht]
      exact (Memref.read_access_unit_zero (Elt Ideal) main_v7_2 (funext fun a => by fin_cases a <;> rfl) (fun a => by fin_cases a <;> exact Nat.le_refl _) (L2 (dbs z d 128) : Vec Ideal S128x8 .f32)).symm) fun i => by
    refine ⟨tLast, (flush0_8 tLast).mpr rfl, ?_⟩
    show i ∈ ((View.whole main_v7_2).slice (win0_8.rect tLast)).set
    rw [View.set_slice_whole, Rect.mem_set_unit]
    intro a
    match a with
    | ⟨0, _⟩ => show 0 * 128 ≤ (i 0 : Nat) ∧ (i 0 : Nat) < 0 * 128 + 128; have h0 : (i 0 : Nat) < 128 := (i 0).isLt; omega
    | ⟨1, _⟩ => show 0 * 8 ≤ (i 1 : Nat) ∧ (i 1 : Nat) < 0 * 8 + 8; have h1 : (i 1 : Nat) < 8 := (i 1).isLt; omega

theorem arr9 (h : Holds m c w s a b z d) : ((dats m 0 c).arrAt 9 cfg0.N : Vec Ideal S1x2048 .f32) = L2 fun _ => dlng w z d 16384 :=
  (dats m 0 c).arrAt_eq_of_cover 9 (L2 fun _ => dlng w z d 16384 : Vec Ideal S1x2048 .f32) (fun t hf => by
      have ht := last t ((flush0_9 t).mp hf)
      rw [flushed9, outs h, ht]
      exact (Memref.read_access_unit_zero (Elt Ideal) main_v7_3 (funext fun a => by fin_cases a <;> rfl) (fun a => by fin_cases a <;> exact Nat.le_refl _) (L2 fun _ => dlng w z d 16384 : Vec Ideal S1x2048 .f32)).symm) fun i => by
    refine ⟨tLast, (flush0_9 tLast).mpr rfl, ?_⟩
    show i ∈ ((View.whole main_v7_3).slice (win0_9.rect tLast)).set
    rw [View.set_slice_whole, Rect.mem_set_unit]
    intro a
    match a with
    | ⟨0, _⟩ => show 0 * 1 ≤ (i 0 : Nat) ∧ (i 0 : Nat) < 0 * 1 + 1; have h0 : (i 0 : Nat) < 1 := (i 0).isLt; omega
    | ⟨1, _⟩ => show 0 * 2048 ≤ (i 1 : Nat) ∧ (i 1 : Nat) < 0 * 2048 + 2048; have h1 : (i 1 : Nat) < 2048 := (i 1).isLt; omega

theorem arr10 (h : Holds m c w s a b z d) : ((dats m 0 c).arrAt 10 cfg0.N : Vec Ideal S1x2048 .f32) = L2 fun _ => dlnb w z d 16384 :=
  (dats m 0 c).arrAt_eq_of_cover 10 (L2 fun _ => dlnb w z d 16384 : Vec Ideal S1x2048 .f32) (fun t hf => by
      have ht := last t ((flush0_10 t).mp hf)
      rw [flushed10, outs h, ht]
      exact (Memref.read_access_unit_zero (Elt Ideal) main_v7_4 (funext fun a => by fin_cases a <;> rfl) (fun a => by fin_cases a <;> exact Nat.le_refl _) (L2 fun _ => dlnb w z d 16384 : Vec Ideal S1x2048 .f32)).symm) fun i => by
    refine ⟨tLast, (flush0_10 tLast).mpr rfl, ?_⟩
    show i ∈ ((View.whole main_v7_4).slice (win0_10.rect tLast)).set
    rw [View.set_slice_whole, Rect.mem_set_unit]
    intro a
    match a with
    | ⟨0, _⟩ => show 0 * 1 ≤ (i 0 : Nat) ∧ (i 0 : Nat) < 0 * 1 + 1; have h0 : (i 0 : Nat) < 1 := (i 0).isLt; omega
    | ⟨1, _⟩ => show 0 * 2048 ≤ (i 1 : Nat) ∧ (i 1 : Nat) < 0 * 2048 + 2048; have h1 : (i 1 : Nat) < 2048 := (i 1).isLt; omega

end

end Cert.KernelIdeal.Sgu
-- ==== Proof.Finite.lean ====
module

public import proofs.«01_k».proof.Defs
public import proofs.«01_k».proof.Proof.Points

@[expose] public section

/-! The precondition read: where every element of the arguments is smaller in size than infinity, the arguments hold real
    numbers. -/

noncomputable section

namespace Cert.Finite

open Cert.Lift Idealize.ShloMosaic Idealize.ShloMosaic.ValueIdx

/-- The shape facts the precondition states. -/
instance facts : Cert.Pre_finite.Facts where
  bcast_S_S16384x4096 := by decide
  bcast_S_S16384x2048 := by decide
  bcast_S_S1x2048 := by decide
  bcast_S_S1x8x128x128 := by decide
  bcast_S_S1x8x128 := by decide

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- A value whose size is below infinity is a real number. -/
theorem real_of_mask {x t : EReal} (ht : t = ⊤) (h : Ideal.cmp .olt (max x (-x)) t = 1#1) : x = ((x.toReal : ℝ) : EReal) := by
  subst ht
  have hlt : max x (-x) < ⊤ := by
    by_contra hn
    simp [Ideal.cmp, hn] at h
  refine (EReal.coe_toReal (fun e => ?_) (fun e => ?_)).symm
  · rw [e] at hlt
    exact absurd (le_max_left _ _) (not_le.mpr hlt)
  · rw [e] at hlt
    simp at hlt

section
variable {k l m n : ℕ}

theorem exists_L2 (x : (⟨2, ![m, n]⟩ : Shape).Idx → EReal) (h : ∀ i, x i = (((x i).toReal : ℝ) : EReal)) :
    ∃ f : ℕ → ℕ → ℝ, x = L2 f := by
  classical
  refine ⟨fun i j => if e : i < m ∧ j < n then (x (ix2 ⟨i, e.1⟩ ⟨j, e.2⟩)).toReal else 0, funext fun i => ?_⟩
  refine (h i).trans (congrArg _ ?_)
  beta_reduce
  rw [dif_pos ⟨(i 0).isLt, (i 1).isLt⟩]
  exact congrArg (fun q => (x q).toReal) (eq_ix2 i)

theorem exists_row (x : (⟨2, ![1, n]⟩ : Shape).Idx → EReal) (h : ∀ i, x i = (((x i).toReal : ℝ) : EReal)) :
    ∃ f : ℕ → ℝ, x = L2 fun _ => f := by
  obtain ⟨f, hf⟩ := exists_L2 x h
  refine ⟨f 0, hf.trans (L2_congr fun i j hi _ => ?_)⟩
  rw [Nat.lt_one_iff.mp hi]

theorem exists_plane (x : (⟨3, ![1, m, n]⟩ : Shape).Idx → EReal) (h : ∀ i, x i = (((x i).toReal : ℝ) : EReal)) :
    ∃ f : ℕ → ℕ → ℝ, x = L3 fun _ i j => f i j := by
  classical
  refine ⟨fun i j => if e : i < m ∧ j < n then (x (ix3 0 ⟨i, e.1⟩ ⟨j, e.2⟩)).toReal else 0, funext fun i => ?_⟩
  refine (h i).trans (congrArg _ ?_)
  beta_reduce
  rw [dif_pos ⟨(i 1).isLt, (i 2).isLt⟩]
  refine congrArg (fun q => (x q).toReal) ((eq_ix3 i).trans ?_)
  exact congrArg (fun q => ix3 q (i 1) (i 2)) (Subsingleton.elim (α := Fin 1) _ _)

theorem exists_stack (x : (⟨4, ![1, l, m, n]⟩ : Shape).Idx → EReal) (h : ∀ i, x i = (((x i).toReal : ℝ) : EReal)) :
    ∃ f : ℕ → ℕ → ℕ → ℝ, x = L4 fun _ => f := by
  classical
  refine ⟨fun g i j => if e : g < l ∧ i < m ∧ j < n then (x (ix4 0 ⟨g, e.1⟩ ⟨i, e.2.1⟩ ⟨j, e.2.2⟩)).toReal else 0,
    funext fun i => ?_⟩
  refine (h i).trans (congrArg _ ?_)
  beta_reduce
  rw [dif_pos ⟨(i 1).isLt, (i 2).isLt, (i 3).isLt⟩]
  refine congrArg (fun q => (x q).toReal) ((eq_ix4 i).trans ?_)
  exact congrArg (fun q => ix4 q (i 1) (i 2) (i 3)) (Subsingleton.elim (α := Fin 1) _ _)

end

open Cert.KernelIdeal Cert.KernelIdeal.Sgu in
/-- Under the precondition every device's arguments hold real numbers. -/
theorem holds_of_pre (m : (ℓ : Loc nD τ sig) → Buf (Elt Ideal) ℓ) (h : Cert.Pre_KernelIdeal_finite m) (c : Dev nD) :
    ∃ (w : ℕ → ℕ → ℕ → ℝ) (s : ℕ → ℕ → ℝ) (a b : ℕ → ℝ) (z d : ℕ → ℕ → ℝ), Holds m c w s a b z d := by
  obtain ⟨h0, h1, h2, h3, h4, h5⟩ := h c
  obtain ⟨z, hz⟩ := exists_L2 (m := 16384) (n := 4096) _ fun i => real_of_mask inf_bf16 (congrFun h0 i)
  obtain ⟨d, hd⟩ := exists_L2 (m := 16384) (n := 2048) _ fun i => real_of_mask inf_f32 (congrFun h1 i)
  obtain ⟨a, ha⟩ := exists_row (n := 2048) _ fun i => real_of_mask inf_f32 (congrFun h2 i)
  obtain ⟨b, hb⟩ := exists_row (n := 2048) _ fun i => real_of_mask inf_f32 (congrFun h3 i)
  obtain ⟨w, hw⟩ := exists_stack (l := 8) (m := 128) (n := 128) _ fun i => real_of_mask inf_f32 (congrFun h4 i)
  obtain ⟨s, hs⟩ := exists_plane (m := 8) (n := 128) _ fun i => real_of_mask inf_f32 (congrFun h5 i)
  exact ⟨w, fun i g => s g i, a, b, z, d, hz, hd, ha, hb, hw, hs⟩

end Cert.Finite

end
-- ==== Proof.RefForward.lean ====
module

public import proofs.«01_k».proof.Proof.HostLift
public import proofs.«01_k».proof.Proof.Gen.ReferenceIdeal.Read

@[expose] public section

/-! The reference's forward values up to the normalised right half, each an array of the real function that Spec.lean names. -/

noncomputable section

namespace Cert.ReferenceIdeal.Sgu

open Cert.ReferenceIdeal Cert.ReferenceIdeal.Gen Cert.ReferenceIdeal.Read Cert.Lift Cert.Spec Idealize.ShloMosaic Idealize.ShloMosaic.ValueIdx
open scoped BigOperators

/-- The six arguments holding real numbers. -/
abbrev inZ (z : ℕ → ℕ → ℝ) : (⟨S16384x4096, .bf16⟩ : BufTy).Contents (Elt Ideal) := (L2 z : Vec Ideal S16384x4096 .bf16)
abbrev inD (d : ℕ → ℕ → ℝ) : (⟨S16384x2048, .f32⟩ : BufTy).Contents (Elt Ideal) := (L2 d : Vec Ideal S16384x2048 .f32)
abbrev inR (a : ℕ → ℝ) : (⟨S1x2048, .f32⟩ : BufTy).Contents (Elt Ideal) := (L2 (fun _ => a) : Vec Ideal S1x2048 .f32)
abbrev inW (w : ℕ → ℕ → ℕ → ℝ) : (⟨S1x8x128x128, .f32⟩ : BufTy).Contents (Elt Ideal) := (L4 (fun _ => w) : Vec Ideal S1x8x128x128 .f32)
abbrev inS (s : ℕ → ℕ → ℝ) : (⟨S1x8x128, .f32⟩ : BufTy).Contents (Elt Ideal) := (L3 (fun _ g i => s i g) : Vec Ideal S1x8x128 .f32)

section
variable (z : ℕ → ℕ → ℝ) (a b : ℕ → ℝ)

theorem v0_eq : val_main_v0 (F := Ideal) (inZ z) = (L2 z : Vec Ideal S16384x4096 .f32) := rfl

theorem v5_eq : val_main_v5 (F := Ideal) (inZ z) = (L2 fun t j => z t j * z t j : Vec Ideal S16384x4096 .f32) := by
  unfold val_main_v5
  rw [v0_eq]
  exact (mulf_L2 (m := 16384) (n := 4096) _ _)

theorem v6_eq : val_main_v6 (F := Ideal) (inZ z) = (L2 fun t j => z t j * z t j * z t j : Vec Ideal S16384x4096 .f32) := by
  unfold val_main_v6
  rw [v5_eq, v0_eq]
  exact (mulf_L2 (m := 16384) (n := 4096) _ _)

theorem v7_eq : val_main_v7 (F := Ideal) (inZ z) = (L2 fun t j => z t j * z t j : Vec Ideal S16384x4096 .f32) := by
  unfold val_main_v7
  rw [v0_eq]
  exact (mulf_L2 (m := 16384) (n := 4096) _ _)

theorem v8_eq : val_main_v8 (F := Ideal) = (L2 fun _ _ => 3 : Vec Ideal S16384x4096 .f32) := by
  funext i
  rw [val_main_v8_apply]
  exact bits_3

theorem v9_eq : val_main_v9 (F := Ideal) (inZ z) = (L2 fun t j => 3 * (z t j * z t j) : Vec Ideal S16384x4096 .f32) := by
  unfold val_main_v9
  rw [v8_eq, v7_eq]
  exact (mulf_L2 (m := 16384) (n := 4096) _ _)

theorem v10_eq : val_main_v10 (F := Ideal) = (L2 fun _ _ => 44715 : Vec Ideal S16384x4096 .f32) := by
  funext i
  rw [val_main_v10_apply]
  exact bits_44715

theorem v11_eq : val_main_v11 (F := Ideal) (inZ z) = (L2 fun t j => z t j * z t j * z t j * 44715 : Vec Ideal S16384x4096 .f32) := by
  unfold val_main_v11
  rw [v6_eq, v10_eq]
  exact (mulf_L2 (m := 16384) (n := 4096) _ _)

theorem v12_eq : val_main_v12 (F := Ideal) = (L2 fun _ _ => 1000000 : Vec Ideal S16384x4096 .f32) := by
  funext i
  rw [val_main_v12_apply]
  exact bits_million

theorem v13_eq : val_main_v13 (F := Ideal) (inZ z) = (L2 fun t j => z t j * z t j * z t j * 44715 / 1000000 : Vec Ideal S16384x4096 .f32) := by
  unfold val_main_v13
  rw [v11_eq, v12_eq]
  exact (hostDivf_L2 (m := 16384) (n := 4096) _ _ fun _ _ => by norm_num)

theorem v14_eq : val_main_v14 (F := Ideal) (inZ z) = (L2 fun t j => z t j + z t j * z t j * z t j * 44715 / 1000000 : Vec Ideal S16384x4096 .f32) := by
  unfold val_main_v14
  rw [v0_eq, v13_eq]
  exact (addf_L2 (m := 16384) (n := 4096) _ _)

theorem v15_eq : val_main_v15 (F := Ideal) = (L2 fun _ _ => cC : Vec Ideal S16384x4096 .f32) := by
  funext i
  rw [val_main_v15_apply]
  exact bits_C

theorem v16_eq : val_main_v16 (F := Ideal) (inZ z) = (L2 fun t j => cC * (z t j + z t j * z t j * z t j * 44715 / 1000000) : Vec Ideal S16384x4096 .f32) := by
  unfold val_main_v16
  rw [v15_eq, v14_eq]
  exact (mulf_L2 (m := 16384) (n := 4096) _ _)

theorem v17_eq : val_main_v17 (F := Ideal) (inZ z) = (L2 fun t j => th (z t j) : Vec Ideal S16384x4096 .f32) := by
  unfold val_main_v17
  rw [v16_eq]
  exact (hostTanh_L2 (m := 16384) (n := 4096) _).trans (L2_congr fun t j _ _ => congrArg Real.tanh (by ring))

theorem v18_eq : val_main_v18 (F := Ideal) = (L2 fun _ _ => 1 : Vec Ideal S16384x4096 .f32) := by
  funext i
  rw [val_main_v18_apply]
  exact bits_one

theorem v19_eq : val_main_v19 (F := Ideal) (inZ z) = (L2 fun t j => 1 + th (z t j) : Vec Ideal S16384x4096 .f32) := by
  unfold val_main_v19
  rw [v18_eq, v17_eq]
  exact (addf_L2 (m := 16384) (n := 4096) _ _)

theorem v23_eq : val_main_v23 (F := Ideal) = (L2 fun _ _ => 1 : Vec Ideal S16384x4096 .f32) := by
  funext i
  rw [val_main_v23_apply]
  exact bits_one

theorem v24_eq : val_main_v24 (F := Ideal) (inZ z) = (L2 fun t j => 1 + th (z t j) : Vec Ideal S16384x4096 .f32) := by
  unfold val_main_v24
  rw [v23_eq, v17_eq]
  exact (addf_L2 (m := 16384) (n := 4096) _ _)

theorem v20_eq : val_main_v20 (F := Ideal) = (L2 fun _ _ => 1 : Vec Ideal S16384x4096 .f32) := by
  funext i
  rw [val_main_v20_apply]
  exact bits_one

theorem v21_eq : val_main_v21 (F := Ideal) (inZ z) = (L2 fun t j => 1 - th (z t j) : Vec Ideal S16384x4096 .f32) := by
  unfold val_main_v21
  rw [v20_eq, v17_eq]
  exact (subf_L2 (m := 16384) (n := 4096) _ _)

theorem v22_eq : val_main_v22 (F := Ideal) (inZ z) = (L2 fun t j => (1 + th (z t j)) * (1 - th (z t j)) : Vec Ideal S16384x4096 .f32) := by
  unfold val_main_v22
  rw [v19_eq, v21_eq]
  exact (mulf_L2 (m := 16384) (n := 4096) _ _)

theorem v25_eq : val_main_v25 (F := Ideal) = (L2 fun _ _ => 1 / 2 : Vec Ideal S16384x4096 .f32) := by
  funext i
  rw [val_main_v25_apply]
  exact bits_half

theorem v26_eq : val_main_v26 (F := Ideal) (inZ z) = (L2 fun t j => 1 / 2 * (1 + th (z t j)) : Vec Ideal S16384x4096 .f32) := by
  unfold val_main_v26
  rw [v25_eq, v24_eq]
  exact (mulf_L2 (m := 16384) (n := 4096) _ _)

theorem v27_eq : val_main_v27 (F := Ideal) (inZ z) = (L2 fun t j => gelu (z t j) : Vec Ideal S16384x4096 .f32) := by
  unfold val_main_v27
  rw [v0_eq, v26_eq]
  exact (mulf_L2 (m := 16384) (n := 4096) _ _).trans (L2_congr fun t j _ _ => by unfold gelu; ring)

theorem v28_eq : val_main_v28 (F := Ideal) (inZ z) = (L2 fun t j => u z t j : Vec Ideal S16384x2048 .f32) := by
  funext i
  rw [val_main_v28_apply, v27_eq]
  rfl

theorem v29_eq : val_main_v29 (F := Ideal) (inZ z) = (L2 fun t j => gelu (z t (2048 + j)) : Vec Ideal S16384x2048 .f32) := by
  funext i
  rw [val_main_v29_apply, v27_eq]
  rfl

theorem v30_eq : val_main_v30 (F := Ideal) (inZ z) = (L1 fun t => ∑ j ∈ Finset.range 2048, gelu (z t (2048 + j)) : Vec Ideal S16384 .f32) := by
  funext i
  rw [val_main_v30_apply, v29_eq]
  exact zero_sum_fin 2048 (fun j => gelu (z (i 0).val (2048 + j))) _ bits_zero

theorem v31_eq : val_main_v31 (F := Ideal) (inZ z) = (L2 fun t _ => ∑ j ∈ Finset.range 2048, gelu (z t (2048 + j)) : Vec Ideal S16384x1 .f32) := by
  funext i
  rw [val_main_v31_apply, v30_eq]
  rfl

theorem v32_eq : val_main_v32 (F := Ideal) = (L2 fun _ _ => 2048 : Vec Ideal S16384x1 .f32) := by
  funext i
  rw [val_main_v32_apply]
  exact bits_2048

theorem v33_eq : val_main_v33 (F := Ideal) (inZ z) = (L2 fun t _ => mean fun j => gelu (z t (2048 + j)) : Vec Ideal S16384x1 .f32) := by
  unfold val_main_v33
  rw [v31_eq, v32_eq]
  exact (hostDivf_L2 (m := 16384) (n := 1) _ _ fun _ _ => by norm_num)

theorem v34_eq : val_main_v34 (F := Ideal) (inZ z) = (L2 fun t _ => mean fun j => gelu (z t (2048 + j)) : Vec Ideal S16384x2048 .f32) := by
  funext i
  rw [val_main_v34_apply, v33_eq]
  rfl

theorem v35_eq : val_main_v35 (F := Ideal) (inZ z) = (L2 fun t j => vc z t j : Vec Ideal S16384x2048 .f32) := by
  unfold val_main_v35
  rw [v29_eq, v34_eq]
  exact (subf_L2 (m := 16384) (n := 2048) _ _)

theorem v43_eq : val_main_v43 (F := Ideal) (inZ z) = (L2 fun t _ => mean fun j => gelu (z t (2048 + j)) : Vec Ideal S16384x2048 .f32) := by
  funext i
  rw [val_main_v43_apply, v33_eq]
  rfl

theorem v44_eq : val_main_v44 (F := Ideal) (inZ z) = (L2 fun t j => vc z t j : Vec Ideal S16384x2048 .f32) := by
  unfold val_main_v44
  rw [v29_eq, v43_eq]
  exact (subf_L2 (m := 16384) (n := 2048) _ _)

theorem v36_eq : val_main_v36 (F := Ideal) (inZ z) = (L2 fun t j => vc z t j * vc z t j : Vec Ideal S16384x2048 .f32) := by
  unfold val_main_v36
  rw [v35_eq]
  exact (mulf_L2 (m := 16384) (n := 2048) _ _)

theorem v37_eq : val_main_v37 (F := Ideal) = (L2 fun _ _ => 2 : Vec Ideal S16384x2048 .f32) := by
  funext i
  rw [val_main_v37_apply]
  exact bits_2

theorem v38_eq : val_main_v38 (F := Ideal) (inZ z) = (L2 fun t j => 2 * vc z t j : Vec Ideal S16384x2048 .f32) := by
  unfold val_main_v38
  rw [v37_eq, v35_eq]
  exact (mulf_L2 (m := 16384) (n := 2048) _ _)

theorem v39_eq : val_main_v39 (F := Ideal) (inZ z) = (L1 fun t => ∑ j ∈ Finset.range 2048, vc z t j * vc z t j : Vec Ideal S16384 .f32) := by
  funext i
  rw [val_main_v39_apply, v36_eq]
  exact zero_sum_fin 2048 (fun j => vc z (i 0).val j * vc z (i 0).val j) _ bits_zero

theorem v40_eq : val_main_v40 (F := Ideal) (inZ z) = (L2 fun t _ => ∑ j ∈ Finset.range 2048, vc z t j * vc z t j : Vec Ideal S16384x1 .f32) := by
  funext i
  rw [val_main_v40_apply, v39_eq]
  rfl

theorem v41_eq : val_main_v41 (F := Ideal) = (L2 fun _ _ => 2048 : Vec Ideal S16384x1 .f32) := by
  funext i
  rw [val_main_v41_apply]
  exact bits_2048

theorem v42_eq : val_main_v42 (F := Ideal) (inZ z) = (L2 fun t _ => mean fun j => vc z t j * vc z t j : Vec Ideal S16384x1 .f32) := by
  unfold val_main_v42
  rw [v40_eq, v41_eq]
  exact (hostDivf_L2 (m := 16384) (n := 1) _ _ fun _ _ => by norm_num)

theorem v45_eq : val_main_v45 (F := Ideal) = (L2 fun _ _ => cEps : Vec Ideal S16384x1 .f32) := by
  funext i
  rw [val_main_v45_apply]
  exact bits_eps

theorem v46_eq : val_main_v46 (F := Ideal) (inZ z) = (L2 fun t j => var z t : Vec Ideal S16384x1 .f32) := by
  unfold val_main_v46
  rw [v42_eq, v45_eq]
  exact (addf_L2 (m := 16384) (n := 1) _ _)

theorem v47_eq : val_main_v47 (F := Ideal) (inZ z) = (L2 fun t _ => rs z t : Vec Ideal S16384x1 .f32) := by
  unfold val_main_v47
  rw [v46_eq]
  exact hostRsqrt_L2 (m := 16384) (n := 1) _ fun t _ => var_pos z t

theorem v48_eq : val_main_v48 (F := Ideal) (inZ z) = (L2 fun t _ => rs z t / var z t : Vec Ideal S16384x1 .f32) := by
  unfold val_main_v48
  rw [v47_eq, v46_eq]
  exact hostDivf_L2 (m := 16384) (n := 1) _ _ fun t _ => (var_pos z t).ne'

theorem v49_eq : val_main_v49 (F := Ideal) = (L2 fun _ _ => -(1 / 2) : Vec Ideal S16384x1 .f32) := by
  funext i
  rw [val_main_v49_apply]
  exact bits_neg_half

theorem v50_eq : val_main_v50 (F := Ideal) (inZ z) = (L2 fun t _ => -(1 / 2) * (rs z t / var z t) : Vec Ideal S16384x1 .f32) := by
  unfold val_main_v50
  rw [v49_eq, v48_eq]
  exact (mulf_L2 (m := 16384) (n := 1) _ _)

theorem v51_eq : val_main_v51 (F := Ideal) (inZ z) = (L2 fun t _ => rs z t : Vec Ideal S16384x2048 .f32) := by
  funext i
  rw [val_main_v51_apply, v47_eq]
  rfl

theorem v104_eq : val_main_v104 (F := Ideal) (inZ z) = (L2 fun t _ => rs z t : Vec Ideal S16384x2048 .f32) := by
  funext i
  rw [val_main_v104_apply, v47_eq]
  rfl

theorem v52_eq : val_main_v52 (F := Ideal) (inZ z) = (L2 fun t j => vh z t j : Vec Ideal S16384x2048 .f32) := by
  unfold val_main_v52
  rw [v44_eq, v51_eq]
  exact (mulf_L2 (m := 16384) (n := 2048) _ _)

theorem v1_eq : val_main_v1 (F := Ideal) (inR a) = (L1 a : Vec Ideal S2048 .f32) := by
  unfold val_main_v1
  exact dropRow_L2 (n := 2048) (fun _ => a) _

theorem v53_eq : val_main_v53 (F := Ideal) (inR a) = (L2 fun _ => a : Vec Ideal S1x2048 .f32) := by
  funext i
  rw [val_main_v53_apply, v1_eq]
  rfl

theorem v54_eq : val_main_v54 (F := Ideal) (inR a) = (L2 fun _ => a : Vec Ideal S16384x2048 .f32) := by
  funext i
  rw [val_main_v54_apply, v53_eq]
  rfl

theorem v2_eq : val_main_v2 (F := Ideal) (inR b) = (L1 b : Vec Ideal S2048 .f32) := by
  unfold val_main_v2
  exact dropRow_L2 (n := 2048) (fun _ => b) _

theorem v56_eq : val_main_v56 (F := Ideal) (inR b) = (L2 fun _ => b : Vec Ideal S1x2048 .f32) := by
  funext i
  rw [val_main_v56_apply, v2_eq]
  rfl

theorem v57_eq : val_main_v57 (F := Ideal) (inR b) = (L2 fun _ => b : Vec Ideal S16384x2048 .f32) := by
  funext i
  rw [val_main_v57_apply, v56_eq]
  rfl

theorem v98_eq : val_main_v98 (F := Ideal) (inR a) = (L2 fun _ => a : Vec Ideal S16384x2048 .f32) := by
  funext i
  rw [val_main_v98_apply, v53_eq]
  rfl

theorem v55_eq : val_main_v55 (F := Ideal) (inZ z) (inR a) = (L2 fun t j => vh z t j * a j : Vec Ideal S16384x2048 .f32) := by
  unfold val_main_v55
  rw [v52_eq, v54_eq]
  exact (mulf_L2 (m := 16384) (n := 2048) _ _)

theorem v58_eq : val_main_v58 (F := Ideal) (inZ z) (inR a) (inR b) = (L2 fun t j => vn a b z t j : Vec Ideal S16384x2048 .f32) := by
  unfold val_main_v58
  rw [v55_eq, v57_eq]
  exact (addf_L2 (m := 16384) (n := 2048) _ _)

end

end Cert.ReferenceIdeal.Sgu
-- ==== Proof.RefSpatial.lean ====
module

public import proofs.«01_k».proof.Proof.RefForward

@[expose] public section

/-! The reference's masked spatial matrices, its gate, and the gradients of the spatial matrices, of the spatial bias and of the
    normalised right half. -/

noncomputable section

namespace Cert.Lift

open Idealize.ShloMosaic Idealize.ShloMosaic.ValueIdx
open scoped BigOperators

/-- A choice between real stacks of matrices by a mask known entry by entry. -/
theorem select_L3 {l m n : ℕ} (c : IVec (⟨3, ![l, m, n]⟩ : Shape) 1) (p : ℕ → ℕ → Prop) [∀ i j, Decidable (p i j)]
    (hc : ∀ i : (⟨3, ![l, m, n]⟩ : Shape).Idx, c i = if p (i 1).val (i 2).val then 1#1 else 0#1) (f g : ℕ → ℕ → ℕ → ℝ) :
    select c (L3 f) (L3 g) = (L3 fun a i j => if p i j then f a i j else g a i j : (⟨3, ![l, m, n]⟩ : Shape).Idx → EReal) := by
  funext i
  rw [select_apply, hc i]
  unfold L3
  by_cases h : p (i 1).val (i 2).val
  · simp only [if_pos h]; rfl
  · simp only [if_neg h]; rfl

/-- A sum over the first and the last of four axes. -/
theorem sumOuter_L4 {k l m n : ℕ} (f : ℕ → ℕ → ℕ → ℕ → ℝ) (h : (⟨4, ![k, l, m, n]⟩ : Shape).ReducesTo [0, 3] ⟨2, ![l, m]⟩) (x : EReal)
    (hx : x = ((0 : ℝ) : EReal)) :
    Ideal.hostReduceAdd h (L4 f) x = L2 fun i g => ∑ a ∈ Finset.range k, ∑ c ∈ Finset.range n, f a i g c := by
  funext j
  have hd (i : (⟨4, ![k, l, m, n]⟩ : Shape).Idx) : h.drop i = ix2 (i 1) (i 2) := funext fun b => match b with
    | ⟨0, _⟩ => rfl
    | ⟨1, _⟩ => rfl
  unfold Ideal.hostReduceAdd
  rw [hx, EReal.coe_zero, zero_add]
  have e : ∑ i ∈ Finset.univ.filter (fun i => h.drop i = j), (L4 f : (⟨4, ![k, l, m, n]⟩ : Shape).Idx → EReal) i
      = ∑ p : Fin k × Fin n, ((f p.1.val (j 0).val (j 1).val p.2.val : ℝ) : EReal) := by
    refine Finset.sum_nbij' (fun i => (i 0, i 3)) (fun p => ix4 p.1 (j 0) (j 1) p.2) (fun _ _ => Finset.mem_univ _) (fun p _ => ?_)
      (fun i hi => ?_) (fun p _ => rfl) (fun i hi => ?_)
    · rw [Finset.mem_filter]
      exact ⟨Finset.mem_univ _, (hd _).trans (funext fun b => match b with
        | ⟨0, _⟩ => rfl
        | ⟨1, _⟩ => rfl)⟩
    · have hj := (hd i).symm.trans (Finset.mem_filter.mp hi).2
      subst hj
      exact funext fun b => match b with
        | ⟨0, _⟩ => rfl
        | ⟨1, _⟩ => rfl
        | ⟨2, _⟩ => rfl
        | ⟨3, _⟩ => rfl
    · have hj := (hd i).symm.trans (Finset.mem_filter.mp hi).2
      subst hj
      rfl
  rw [e, Fintype.sum_prod_type]
  show _ = ((∑ a ∈ Finset.range k, ∑ c ∈ Finset.range n, f a (j 0).val (j 1).val c : ℝ) : EReal)
  rw [← coe_sum_fin k fun a => ∑ c ∈ Finset.range n, f a (j 0).val (j 1).val c]
  exact Finset.sum_congr rfl fun a _ => coe_sum_fin n fun c => f a.val (j 0).val (j 1).val c

theorem wrap_L2 {m n : ℕ} (f : ℕ → ℕ → ℝ) (h : (⟨2, ![m, n]⟩ : Shape).ShapeCasts ⟨4, ![1, m, n, 1]⟩) :
    shapeCast ⟨4, ![1, m, n, 1]⟩ (L2 f : (⟨2, ![m, n]⟩ : Shape).Idx → EReal) h = L4 fun _ i j _ => f i j := by
  funext i
  rw [shapeCast_apply _ h i (ix2 (i 1) (i 2))]
  · rfl
  · rw [Shape.rowMajor_val_two, Shape.rowMajor_val_four]
    have h0 : (i 0).val < 1 := (i 0).isLt
    have h3 : (i 3).val < 1 := (i 3).isLt
    show (i 1).val * n + (i 2).val = (((i 0).val * m + (i 1).val) * n + (i 2).val) * 1 + (i 3).val
    rw [Nat.lt_one_iff.mp h0, Nat.lt_one_iff.mp h3, Nat.zero_mul, Nat.zero_add, Nat.mul_one, Nat.add_zero]

end Cert.Lift

namespace Cert.ReferenceIdeal.Sgu

open Cert.ReferenceIdeal Cert.ReferenceIdeal.Gen Cert.ReferenceIdeal.Read Cert.Lift Cert.Spec Idealize.ShloMosaic Idealize.ShloMosaic.ValueIdx
open scoped BigOperators

/-! ## The mask -/

/-- A row's or a column's half of the chunk. -/
theorem v62_eq (i : S1x128.Idx) : val_main_v62 (F := Ideal) i = BitVec.ofNat 32 ((i 1).val / 64) := by
  have key : ∀ k : Fin 128, val_main_v62 (F := Ideal) (ix2 0 k) = BitVec.ofNat 32 (k.val / 64) := by decide +kernel
  have e : i = ix2 0 (i 1) := funext fun b => match b with
    | ⟨0, _⟩ => Fin.ext (by have h : (i 0).val < 1 := (i 0).isLt; show (i 0).val = 0; omega)
    | ⟨1, _⟩ => rfl
  rw [e]; exact key (i 1)

theorem v64_eq (i : S128x1.Idx) : val_main_v64 (F := Ideal) i = BitVec.ofNat 32 ((i 0).val / 64) := by
  have key : ∀ k : Fin 128, val_main_v64 (F := Ideal) (ix2 k 0) = BitVec.ofNat 32 (k.val / 64) := by decide +kernel
  have e : i = ix2 (i 0) 0 := funext fun b => match b with
    | ⟨0, _⟩ => rfl
    | ⟨1, _⟩ => Fin.ext (by have h : (i 1).val < 1 := (i 1).isLt; show (i 1).val = 0; omega)
  rw [e]; exact key (i 0)

theorem mask_bit (x y : ℕ) (hx : x < 128) (hy : y < 128) :
    IntOp.cmpi .sle (BitVec.ofNat 32 (y / 64)) (BitVec.ofNat 32 (x / 64)) = if y < 64 ∨ 64 ≤ x then 1#1 else 0#1 := by
  have key : ∀ p q : Fin 2, IntOp.cmpi .sle (BitVec.ofNat 32 q.val) (BitVec.ofNat 32 p.val) = if q.val = 0 ∨ p.val = 1 then 1#1 else 0#1 := by decide
  refine (key ⟨x / 64, by omega⟩ ⟨y / 64, by omega⟩).trans ?_
  refine if_congr ?_ rfl rfl
  show y / 64 = 0 ∨ x / 64 = 1 ↔ _
  omega

theorem v70_1_eq (i : S8x128x128.Idx) : val_main_v70_1 (F := Ideal) i = if (i 2).val < 64 ∨ 64 ≤ (i 1).val then 1#1 else 0#1 := by
  rw [val_main_v70_1_apply, val_main_v68_apply, val_main_v67_apply, val_main_v65_apply, val_main_v66_apply, v62_eq, v64_eq]
  exact mask_bit _ _ (i 1).isLt (i 2).isLt

section
variable (z d : ℕ → ℕ → ℝ) (a b : ℕ → ℝ) (w : ℕ → ℕ → ℕ → ℝ) (s : ℕ → ℕ → ℝ)

theorem v3_eq : val_main_v3 (F := Ideal) (inW w) = (L3 w : Vec Ideal S8x128x128 .f32) := by
  unfold val_main_v3
  exact dropFirst_L4 (l := 8) (k := 128) (n := 128) (fun _ => w) _

theorem v69_eq : val_main_v69 (F := Ideal) = (L3 (fun _ _ _ => 0) : Vec Ideal S8x128x128 .f32) := by
  funext i
  rw [val_main_v69_apply]
  exact bits_zero

theorem v70_0_eq : val_main_v70_0 (F := Ideal) (inW w) = (L3 (wm w) : Vec Ideal S8x128x128 .f32) := by
  unfold val_main_v70_0
  rw [v3_eq, v69_eq]
  exact select_L3 (l := 8) (m := 128) (n := 128) _ (fun i k => k < 64 ∨ 64 ≤ i) v70_1_eq w fun _ _ _ => 0

/-! ## The gate -/

theorem v59_eq : val_main_v59 (F := Ideal) (inZ z) (inR a) (inR b)
    = (L4 (fun n k g c => vn a b z (128 * n + k) (256 * g + c)) : Vec Ideal S128x128x8x256 .f32) := by
  unfold val_main_v59
  rw [v58_eq]
  exact split_L2 _ _

theorem v71_eq : val_main_v71 (F := Ideal) (inZ z) (inR a) (inR b) (inW w)
    = (L4 (fun g n c i => ∑ k ∈ Finset.range 128, vn a b z (128 * n + k) (256 * g + c) * wm w g i k) : Vec Ideal S8x128x256x128 .f32) := by
  funext i
  rw [val_main_v71_apply, v59_eq, v70_0_eq]
  exact coe_dot_fin 128 (fun k => vn a b z (128 * (i 1).val + k) (256 * (i 0).val + (i 2).val)) fun k => wm w (i 0).val (i 3).val k

theorem v72_eq : val_main_v72 (F := Ideal) (inZ z) (inR a) (inR b) (inW w)
    = (L4 (fun n i g c => ∑ k ∈ Finset.range 128, vn a b z (128 * n + k) (256 * g + c) * wm w g i k) : Vec Ideal S128x128x8x256 .f32) := by
  unfold val_main_v72
  rw [v71_eq]
  exact transpose_1302 (k := 8) (l := 128) (m := 256) (n := 128) _ _

theorem v73_eq : val_main_v73 (F := Ideal) (inS s) = (L2 s : Vec Ideal S128x8 .f32) := by
  unfold val_main_v73 val_main_v4
  exact (congrArg (transpose S128x8 [1, 0] · transposes_S8x128_S128x8_1_0) (dropPlane_L3 (m := 8) (n := 128) _ _)).trans (transpose_L2 (k := 8) (n := 128) _ _)

theorem v75_eq : val_main_v75 (F := Ideal) (inS s) = (L4 (fun _ i g _ => s i g) : Vec Ideal S128x128x8x256 .f32) := by
  funext i
  rw [val_main_v75_apply, val_main_v74_apply, v73_eq]
  rfl

theorem v77_eq : val_main_v77 (F := Ideal) (inZ z) (inR a) (inR b) (inW w) (inS s) = (L2 (gate w s a b z) : Vec Ideal S16384x2048 .f32) := by
  unfold val_main_v77 val_main_v76
  rw [v72_eq, v75_eq]
  refine (congrArg (shapeCast S16384x2048 · shapeCasts_S128x128x8x256_S16384x2048) (addf_L4 (k := 128) (l := 128) (m := 8) (n := 256) (φ := .f32) _ _)).trans ?_
  refine (join_L4 _ _).trans (L2_congr fun t j _ _ => ?_)
  unfold gate
  refine congrArg (· + s (t % 128) (j / 256)) (Finset.sum_congr rfl fun k _ => ?_)
  rw [Nat.div_add_mod, Nat.mul_comm 128, mul_comm]

/-! ## The gradients towards the gate -/

theorem v79_eq : val_main_v79 (F := Ideal) (inZ z) (inD d) = (L2 (dm z d) : Vec Ideal S16384x2048 .f32) := by
  unfold val_main_v79
  rw [v28_eq]
  exact (mulf_L2 (m := 16384) (n := 2048) _ _).trans (L2_congr fun t j _ _ => mul_comm _ _)

theorem v80_eq : val_main_v80 (F := Ideal) (inZ z) (inD d) (inR a) (inR b) (inW w) (inS s)
    = (L2 (fun t j => d t j * gate w s a b z t j) : Vec Ideal S16384x2048 .f32) := by
  unfold val_main_v80
  rw [v77_eq]
  exact mulf_L2 (m := 16384) (n := 2048) _ _

theorem v81_eq : val_main_v81 (F := Ideal) (inZ z) (inD d)
    = (L4 (fun n k g c => dm z d (128 * n + k) (256 * g + c)) : Vec Ideal S128x128x8x256 .f32) := by
  unfold val_main_v81
  rw [v79_eq]
  exact split_L2 _ _

theorem v82_eq : val_main_v82 (F := Ideal) (inZ z) (inD d) = (L2 (dbs z d 128) : Vec Ideal S128x8 .f32) := by
  unfold val_main_v82
  rw [v81_eq]
  exact sumOuter_L4 (k := 128) (l := 128) (m := 8) (n := 256) _ _ _ bits_zero

theorem v83_eq : val_main_v83 (F := Ideal) (inZ z) (inD d) = (L4 (fun _ i g _ => dbs z d 128 i g) : Vec Ideal S1x128x8x1 .f32) := by
  unfold val_main_v83
  rw [v82_eq]
  exact wrap_L2 (m := 128) (n := 8) _ _

theorem v84_eq : val_main_v84 (F := Ideal) (inZ z) (inD d) = (L2 (dbs z d 128) : Vec Ideal S128x8 .f32) := by
  unfold val_main_v84
  rw [v83_eq]
  refine (sumOuter_L4 (k := 1) (l := 128) (m := 8) (n := 1) (fun _ i g _ => dbs z d 128 i g) reducesTo_S1x128x8x1_S128x8_d0_3 _ bits_zero).trans (L2_congr fun i g _ _ => ?_)
  rw [Finset.sum_range_one, Finset.sum_range_one]

theorem v141_eq : val_main_v141 (F := Ideal) (inZ z) (inD d) = (L2 (dbs z d 128) : Vec Ideal S128x8 .f32) := by
  unfold val_main_v141 val_main_v85
  rw [v84_eq]
  exact (congrArg (transpose S128x8 [1, 0] · transposes_S8x128_S128x8_1_0) (transpose_L2 (k := 128) (n := 8) (dbs z d 128) transposes_S128x8_S8x128_1_0)).trans (transpose_L2 (k := 8) (n := 128) _ _)

theorem v86_eq : val_main_v86 (F := Ideal) (inZ z) (inD d)
    = (L4 (fun g n c i => dm z d (128 * n + i) (256 * g + c)) : Vec Ideal S8x128x256x128 .f32) := by
  unfold val_main_v86
  rw [v81_eq]
  exact transpose_2031 (k := 128) (l := 128) (m := 8) (n := 256) _ _

theorem v88_eq : val_main_v88 (F := Ideal) (inZ z) (inD d) (inW w)
    = (L4 (fun g n c k => ∑ i ∈ Finset.range 128, dm z d (128 * n + i) (256 * g + c) * wm w g i k) : Vec Ideal S8x128x256x128 .f32) := by
  funext i
  rw [val_main_v88_apply, v86_eq, v70_0_eq]
  exact coe_dot_fin 128 (fun k => dm z d (128 * (i 1).val + k) (256 * (i 0).val + (i 2).val)) fun k => wm w (i 0).val k (i 3).val

theorem v89_eq : val_main_v89 (F := Ideal) (inZ z) (inD d) (inW w)
    = (L4 (fun n k g c => ∑ i ∈ Finset.range 128, dm z d (128 * n + i) (256 * g + c) * wm w g i k) : Vec Ideal S128x128x8x256 .f32) := by
  unfold val_main_v89
  rw [v88_eq]
  exact transpose_1302 (k := 8) (l := 128) (m := 256) (n := 128) _ _

theorem v91_eq : val_main_v91 (F := Ideal) (inZ z) (inD d) (inW w) = (L2 (dvn w z d) : Vec Ideal S16384x2048 .f32) := by
  unfold val_main_v91
  rw [v89_eq]
  refine (join_L4 _ _).trans (L2_congr fun t j _ _ => ?_)
  unfold dvn
  refine Finset.sum_congr rfl fun k _ => ?_
  rw [Nat.div_add_mod, Nat.mul_comm 128, mul_comm]

/-! ## The spatial matrices' gradient -/

theorem v87_apply (x0 : (⟨S16384x4096, .bf16⟩ : BufTy).Contents (Elt Ideal)) (x1 : (⟨S16384x2048, .f32⟩ : BufTy).Contents (Elt Ideal))
    (x2 x3 : (⟨S1x2048, .f32⟩ : BufTy).Contents (Elt Ideal)) (i : S8x128x128.Idx) :
    val_main_v87 (F := Ideal) x0 x1 x2 x3 i
      = ∑ n : Fin 128, ∑ c : Fin 256, val_main_v86 (F := Ideal) x0 x1 (ix4 (i 0) n c (i 1)) * val_main_v59 (F := Ideal) x0 x2 x3 (ix4 n (i 2) (i 0) c) := by
  unfold val_main_v87
  generalize val_main_v86 (F := Ideal) x0 x1 = y0
  generalize val_main_v59 (F := Ideal) x0 x2 x3 = y1
  simp only [Host.dotGeneral]
  rw [Ideal.dotGeneral_apply, sum_contr2 dot_S8x128x256x128_S128x128x8x256_S8x128x128_12_03_3_1_0_2 128 256 rfl rfl rfl]
  refine Finset.sum_congr rfl fun n _ => Finset.sum_congr rfl fun c _ => ?_
  have hn := contrEquiv2_symm_val0 dot_S8x128x256x128_S128x128x8x256_S8x128x128_12_03_3_1_0_2 128 256 rfl rfl rfl (n, c)
  have hc := contrEquiv2_symm_val1 dot_S8x128x256x128_S128x128x8x256_S8x128x128_12_03_3_1_0_2 128 256 rfl rfl rfl (n, c)
  generalize (contrEquiv2 dot_S8x128x256x128_S128x128x8x256_S8x128x128_12_03_3_1_0_2 128 256 rfl rfl rfl).symm (n, c) = q at hn hc
  have el : dot_S8x128x256x128_S128x128x8x256_S8x128x128_12_03_3_1_0_2.lhsIdx i q = ix4 (i 0) n c (i 1) := funext fun b => Fin.ext (by
    match b with
    | ⟨0, _⟩ => rfl
    | ⟨1, _⟩ => exact hn
    | ⟨2, _⟩ => exact hc
    | ⟨3, _⟩ => rfl)
  have er : dot_S8x128x256x128_S128x128x8x256_S8x128x128_12_03_3_1_0_2.rhsIdx i q = ix4 n (i 2) (i 0) c := funext fun b => Fin.ext (by
    match b with
    | ⟨0, _⟩ => exact hn
    | ⟨1, _⟩ => rfl
    | ⟨2, _⟩ => rfl
    | ⟨3, _⟩ => exact hc)
  rw [el, er]
  rfl

theorem v87_eq : val_main_v87 (F := Ideal) (inZ z) (inD d) (inR a) (inR b)
    = (L3 (fun g i k => ∑ n ∈ Finset.range 128, ∑ c ∈ Finset.range 256, dm z d (128 * n + i) (256 * g + c) * vn a b z (128 * n + k) (256 * g + c)) :
      Vec Ideal S8x128x128 .f32) := by
  funext i
  rw [v87_apply, v86_eq, v59_eq]
  show _ = ((∑ n ∈ Finset.range 128, ∑ c ∈ Finset.range 256,
    dm z d (128 * n + (i 1).val) (256 * (i 0).val + c) * vn a b z (128 * n + (i 2).val) (256 * (i 0).val + c) : ℝ) : EReal)
  rw [← coe_sum_fin 128 fun n => ∑ c ∈ Finset.range 256,
    dm z d (128 * n + (i 1).val) (256 * (i 0).val + c) * vn a b z (128 * n + (i 2).val) (256 * (i 0).val + c)]
  exact Finset.sum_congr rfl fun n _ => coe_dot_fin 256 (fun c => dm z d (128 * n.val + (i 1).val) (256 * (i 0).val + c))
    fun c => vn a b z (128 * n.val + (i 2).val) (256 * (i 0).val + c)

theorem call3_eq : val_main_call3_v0 (F := Ideal) = (L3 (fun _ _ _ => 0) : Vec Ideal S8x128x128 .f32) := by
  funext i
  rw [val_main_call3_v0_apply]
  exact bits_zero

theorem v90_eq : val_main_v90 (F := Ideal) (inZ z) (inD d) (inR a) (inR b) = (L3 (dws a b z d 128) : Vec Ideal S8x128x128 .f32) := by
  unfold val_main_v90
  rw [v87_eq, call3_eq]
  refine (select_L3 (l := 8) (m := 128) (n := 128) _ (fun i k => k < 64 ∨ 64 ≤ i) v70_1_eq _ fun _ _ _ => 0).trans (L3_congr fun g i k _ _ _ => ?_)
  unfold dws cw
  by_cases h : k < 64 ∨ 64 ≤ i
  · simp only [if_pos h]
  · simp only [if_neg h, Finset.sum_const_zero]

end

end Cert.ReferenceIdeal.Sgu
-- ==== Proof.RefBackward.lean ====
module

public import proofs.«01_k».proof.Proof.RefSpatial

@[expose] public section

/-! The reference's gradients of the norm's gain and bias and of the unit's input. -/

noncomputable section

namespace Cert.Spec

open Cert.Lift
open scoped BigOperators

section
variable (w : ℕ → ℕ → ℕ → ℝ) (s : ℕ → ℕ → ℝ) (a b : ℕ → ℝ) (z d : ℕ → ℕ → ℝ)

/-- The norm's gradient as a chain of its own steps: through the variance, through the mean, and altogether. -/
def cv (t : ℕ) : ℝ := (∑ j ∈ Finset.range 2048, vc z t j * dvh w a z d t j) * (-(1 / 2) * (rs z t / var z t)) / 2048
def cm (t : ℕ) : ℝ :=
  ((∑ j ∈ Finset.range 2048, -(dvh w a z d t j * rs z t)) + ∑ j ∈ Finset.range 2048, -(cv w a z d t * (2 * vc z t j))) / 2048
def back (t j : ℕ) : ℝ :=
  rs z t * (dvh w a z d t j - mean (dvh w a z d t) - vh z t j * mean fun k => dvh w a z d t k * vh z t k)

/-- The gradient of the activation's value. -/
def up (t j : ℕ) : ℝ := if j < 2048 then d t j * gate w s a b z t j else back w a z d t (j - 2048)

theorem sum_vc (t : ℕ) : ∑ j ∈ Finset.range 2048, vc z t j = 0 := by
  unfold vc mean
  rw [Finset.sum_sub_distrib, Finset.sum_const, Finset.card_range, nsmul_eq_mul]
  push_cast
  ring

theorem rs_div_var (t : ℕ) : rs z t / var z t = rs z t * rs z t * rs z t := by
  have hv := var_pos z t
  have hs := Real.mul_self_sqrt hv.le
  have hp := Real.sqrt_pos.mpr hv
  unfold rs
  rw [← hs, Real.sqrt_mul_self hp.le]
  field_simp

theorem back_eq (t j : ℕ) : dvh w a z d t j * rs z t + cv w a z d t * (2 * vc z t j) + cm w a z d t = back w a z d t j := by
  have e1 : ∑ j ∈ Finset.range 2048, -(cv w a z d t * (2 * vc z t j)) = 0 := by
    have h (j : ℕ) : -(cv w a z d t * (2 * vc z t j)) = (-2 * cv w a z d t) * vc z t j := by ring
    rw [Finset.sum_congr rfl fun j _ => h j, ← Finset.mul_sum, sum_vc, mul_zero]
  have e2 : ∑ j ∈ Finset.range 2048, -(dvh w a z d t j * rs z t) = -rs z t * ∑ j ∈ Finset.range 2048, dvh w a z d t j := by
    rw [Finset.mul_sum]
    exact Finset.sum_congr rfl fun j _ => by ring
  have e3 : ∑ k ∈ Finset.range 2048, dvh w a z d t k * vh z t k = rs z t * ∑ j ∈ Finset.range 2048, vc z t j * dvh w a z d t j := by
    rw [Finset.mul_sum]
    exact Finset.sum_congr rfl fun j _ => by unfold vh; ring
  unfold back cm mean
  rw [e1, e2, e3]
  unfold cv
  rw [rs_div_var]
  unfold vh
  ring

theorem up_geluD (t j : ℕ) : up w s a b z d t j * geluD (z t j) = dz w s a b z d t j := by
  unfold up dz
  by_cases h : j < 2048
  · rw [if_pos h, if_pos h]; rfl
  · rw [if_neg h, if_neg h]
    have e : 2048 + (j - 2048) = j := by omega
    unfold dv back
    rw [e]

end

end Cert.Spec

namespace Cert.ReferenceIdeal.Sgu

open Cert.ReferenceIdeal Cert.ReferenceIdeal.Gen Cert.ReferenceIdeal.Read Cert.Lift Cert.Spec Idealize.ShloMosaic Idealize.ShloMosaic.ValueIdx
open scoped BigOperators

/-- Two matrices side by side. -/
theorem concat_L2 (f g : ℕ → ℕ → ℝ) (h : Shape.Concatenates [S16384x2048, S16384x2048] S16384x4096 1) :
    concatenate S16384x4096 1 [⟨S16384x2048, (L2 f : Vec Ideal S16384x2048 .f32)⟩, ⟨S16384x2048, (L2 g : Vec Ideal S16384x2048 .f32)⟩] h
      = (L2 (fun t j => if j < 2048 then f t j else g t (j - 2048)) : Vec Ideal S16384x4096 .f32) := by
  funext i
  have h1 : (i 1).val < 4096 := (i 1).isLt
  by_cases hj : (i 1).val < 2048
  · refine (concatenate_pair_apply_left 1 _ _ h i rfl (ix2 (i 0) ⟨(i 1).val, hj⟩) fun b => ?_).trans ?_
    · match b with
      | ⟨0, _⟩ => rfl
      | ⟨1, _⟩ => rfl
    · show ((f (i 0).val (i 1).val : ℝ) : EReal) = ((if (i 1).val < 2048 then f (i 0).val (i 1).val else g (i 0).val ((i 1).val - 2048) : ℝ) : EReal)
      rw [if_pos hj]
  · have hj' : (i 1).val - 2048 < 2048 := by omega
    refine (concatenate_pair_apply_right 1 _ _ h i rfl rfl (ix2 (i 0) ⟨(i 1).val - 2048, hj'⟩) (fun b hb => ?_) ?_).trans ?_
    · revert hb
      refine Fin.cases (fun _ => rfl) (fun q => Fin.cases (fun hb => ?_) (fun r => r.elim0) q) b
      exact absurd (Fin.ext rfl) hb
    · exact Nat.sub_add_cancel (Nat.le_of_not_lt hj)
    · show ((g (i 0).val ((i 1).val - 2048) : ℝ) : EReal) = ((if (i 1).val < 2048 then f (i 0).val (i 1).val else g (i 0).val ((i 1).val - 2048) : ℝ) : EReal)
      rw [if_neg hj]

section
variable (z d : ℕ → ℕ → ℝ) (a b : ℕ → ℝ) (w : ℕ → ℕ → ℕ → ℝ) (s : ℕ → ℕ → ℝ)

theorem v92_eq : val_main_v92 (F := Ideal) (inZ z) (inD d) (inW w) = (L1 (dlnb w z d 16384) : Vec Ideal S2048 .f32) := by
  funext i
  rw [val_main_v92_apply, v91_eq]
  exact zero_sum_fin 16384 (fun t => dvn w z d t (i 0).val) _ bits_zero

theorem v93_eq : val_main_v93 (F := Ideal) (inZ z) (inD d) (inW w) = (L2 fun _ => dlnb w z d 16384 : Vec Ideal S1x2048 .f32) := by
  unfold val_main_v93
  rw [v92_eq]
  exact castRow_L1 (n := 2048) _ _

theorem v94_eq : val_main_v94 (F := Ideal) (inZ z) (inD d) (inW w) = (L1 (dlnb w z d 16384) : Vec Ideal S2048 .f32) := by
  funext i
  rw [val_main_v94_apply, v93_eq]
  exact (zero_sum_fin 1 (fun _ => dlnb w z d 16384 (i 0).val) _ bits_zero).trans (congrArg _ (Finset.sum_range_one _))

theorem v143_eq : val_main_v143 (F := Ideal) (inZ z) (inD d) (inW w) = (L2 fun _ => dlnb w z d 16384 : Vec Ideal S1x2048 .f32) := by
  funext i
  rw [val_main_v143_apply, v94_eq]
  rfl

theorem v95_eq : val_main_v95 (F := Ideal) (inZ z) (inD d) (inW w) = (L2 (fun t j => dvn w z d t j * vh z t j) : Vec Ideal S16384x2048 .f32) := by
  unfold val_main_v95
  rw [v52_eq, v91_eq]
  exact (mulf_L2 (m := 16384) (n := 2048) _ _).trans (L2_congr fun t j _ _ => mul_comm _ _)

theorem v96_eq : val_main_v96 (F := Ideal) (inZ z) (inD d) (inW w) = (L1 (dlng w z d 16384) : Vec Ideal S2048 .f32) := by
  funext i
  rw [val_main_v96_apply, v95_eq]
  exact zero_sum_fin 16384 (fun t => dvn w z d t (i 0).val * vh z t (i 0).val) _ bits_zero

theorem v97_eq : val_main_v97 (F := Ideal) (inZ z) (inD d) (inW w) = (L2 fun _ => dlng w z d 16384 : Vec Ideal S1x2048 .f32) := by
  unfold val_main_v97
  rw [v96_eq]
  exact castRow_L1 (n := 2048) _ _

theorem v100_eq : val_main_v100 (F := Ideal) (inZ z) (inD d) (inW w) = (L1 (dlng w z d 16384) : Vec Ideal S2048 .f32) := by
  funext i
  rw [val_main_v100_apply, v97_eq]
  exact (zero_sum_fin 1 (fun _ => dlng w z d 16384 (i 0).val) _ bits_zero).trans (congrArg _ (Finset.sum_range_one _))

theorem v142_eq : val_main_v142 (F := Ideal) (inZ z) (inD d) (inW w) = (L2 fun _ => dlng w z d 16384 : Vec Ideal S1x2048 .f32) := by
  funext i
  rw [val_main_v142_apply, v100_eq]
  rfl

theorem v99_eq : val_main_v99 (F := Ideal) (inZ z) (inD d) (inR a) (inW w) = (L2 (dvh w a z d) : Vec Ideal S16384x2048 .f32) := by
  unfold val_main_v99
  rw [v91_eq, v98_eq]
  exact (mulf_L2 (m := 16384) (n := 2048) _ _)

theorem v101_eq : val_main_v101 (F := Ideal) (inZ z) (inD d) (inR a) (inW w) = (L2 (fun t j => vc z t j * dvh w a z d t j) : Vec Ideal S16384x2048 .f32) := by
  unfold val_main_v101
  rw [v44_eq, v99_eq]
  exact (mulf_L2 (m := 16384) (n := 2048) _ _)

theorem v102_eq : val_main_v102 (F := Ideal) (inZ z) (inD d) (inR a) (inW w) = (L1 (fun t => ∑ j ∈ Finset.range 2048, vc z t j * dvh w a z d t j) : Vec Ideal S16384 .f32) := by
  funext i
  rw [val_main_v102_apply, v101_eq]
  exact zero_sum_fin 2048 (fun j => vc z (i 0).val j * dvh w a z d (i 0).val j) _ bits_zero

theorem v103_eq : val_main_v103 (F := Ideal) (inZ z) (inD d) (inR a) (inW w) = (L2 (fun t _ => ∑ j ∈ Finset.range 2048, vc z t j * dvh w a z d t j) : Vec Ideal S16384x1 .f32) := by
  unfold val_main_v103
  rw [v102_eq]
  exact castCol_L1 (m := 16384) _ _

theorem v105_eq : val_main_v105 (F := Ideal) (inZ z) (inD d) (inR a) (inW w) = (L2 (fun t j => dvh w a z d t j * rs z t) : Vec Ideal S16384x2048 .f32) := by
  unfold val_main_v105
  rw [v99_eq, v104_eq]
  exact (mulf_L2 (m := 16384) (n := 2048) _ _)

theorem v106_eq : val_main_v106 (F := Ideal) (inZ z) (inD d) (inR a) (inW w) = (L2 (fun t _ => (∑ j ∈ Finset.range 2048, vc z t j * dvh w a z d t j) * (-(1 / 2) * (rs z t / var z t))) : Vec Ideal S16384x1 .f32) := by
  unfold val_main_v106
  rw [v103_eq, v50_eq]
  exact (mulf_L2 (m := 16384) (n := 1) _ _)

theorem v107_eq : val_main_v107 (F := Ideal) (inZ z) (inD d) (inR a) (inW w) = (L2 (fun t j => -(dvh w a z d t j * rs z t)) : Vec Ideal S16384x2048 .f32) := by
  unfold val_main_v107
  rw [v105_eq]
  exact hostNegf_L2 (m := 16384) (n := 2048) _

theorem v108_eq : val_main_v108 (F := Ideal) (inZ z) (inD d) (inR a) (inW w) = (L1 (fun t => ∑ j ∈ Finset.range 2048, -(dvh w a z d t j * rs z t)) : Vec Ideal S16384 .f32) := by
  funext i
  rw [val_main_v108_apply, v107_eq]
  exact zero_sum_fin 2048 (fun j => -(dvh w a z d (i 0).val j * rs z (i 0).val)) _ bits_zero

theorem v109_eq : val_main_v109 (F := Ideal) (inZ z) (inD d) (inR a) (inW w) = (L2 (fun t _ => ∑ j ∈ Finset.range 2048, -(dvh w a z d t j * rs z t)) : Vec Ideal S16384x1 .f32) := by
  unfold val_main_v109
  rw [v108_eq]
  exact castCol_L1 (m := 16384) _ _

theorem v110_eq : val_main_v110 (F := Ideal) = (L2 fun _ _ => 2048 : Vec Ideal S16384x1 .f32) := by
  funext i
  rw [val_main_v110_apply]
  exact bits_2048

theorem v111_eq : val_main_v111 (F := Ideal) (inZ z) (inD d) (inR a) (inW w) = (L2 (fun t _ => cv w a z d t) : Vec Ideal S16384x1 .f32) := by
  unfold val_main_v111
  rw [v106_eq, v110_eq]
  exact (hostDivf_L2 (m := 16384) (n := 1) _ _ fun _ _ => by norm_num)

theorem v112_eq : val_main_v112 (F := Ideal) (inZ z) (inD d) (inR a) (inW w) = (L1 (cv w a z d) : Vec Ideal S16384 .f32) := by
  funext i
  rw [val_main_v112_apply, v111_eq]
  exact (zero_sum_fin 1 (fun _ => cv w a z d (i 0).val) _ bits_zero).trans (congrArg _ (Finset.sum_range_one _))

theorem v113_eq : val_main_v113 (F := Ideal) (inZ z) (inD d) (inR a) (inW w) = (L2 (fun t _ => cv w a z d t) : Vec Ideal S16384x2048 .f32) := by
  funext i
  rw [val_main_v113_apply, v112_eq]
  rfl

theorem v114_eq : val_main_v114 (F := Ideal) (inZ z) (inD d) (inR a) (inW w) = (L2 (fun t j => cv w a z d t * (2 * vc z t j)) : Vec Ideal S16384x2048 .f32) := by
  unfold val_main_v114
  rw [v113_eq, v38_eq]
  exact (mulf_L2 (m := 16384) (n := 2048) _ _)

theorem v115_eq : val_main_v115 (F := Ideal) (inZ z) (inD d) (inR a) (inW w) = (L2 (fun t j => -(cv w a z d t * (2 * vc z t j))) : Vec Ideal S16384x2048 .f32) := by
  unfold val_main_v115
  rw [v114_eq]
  exact hostNegf_L2 (m := 16384) (n := 2048) _

theorem v116_eq : val_main_v116 (F := Ideal) (inZ z) (inD d) (inR a) (inW w) = (L1 (fun t => ∑ j ∈ Finset.range 2048, -(cv w a z d t * (2 * vc z t j))) : Vec Ideal S16384 .f32) := by
  funext i
  rw [val_main_v116_apply, v115_eq]
  exact zero_sum_fin 2048 (fun j => -(cv w a z d (i 0).val * (2 * vc z (i 0).val j))) _ bits_zero

theorem v117_eq : val_main_v117 (F := Ideal) (inZ z) (inD d) (inR a) (inW w) = (L2 (fun t _ => ∑ j ∈ Finset.range 2048, -(cv w a z d t * (2 * vc z t j))) : Vec Ideal S16384x1 .f32) := by
  unfold val_main_v117
  rw [v116_eq]
  exact castCol_L1 (m := 16384) _ _

theorem v118_eq : val_main_v118 (F := Ideal) (inZ z) (inD d) (inR a) (inW w) = (L2 (fun t j => dvh w a z d t j * rs z t + cv w a z d t * (2 * vc z t j)) : Vec Ideal S16384x2048 .f32) := by
  unfold val_main_v118
  rw [v105_eq, v114_eq]
  exact (addf_L2 (m := 16384) (n := 2048) _ _)

theorem v119_eq : val_main_v119 (F := Ideal) (inZ z) (inD d) (inR a) (inW w) = (L2 (fun t _ => (∑ j ∈ Finset.range 2048, -(dvh w a z d t j * rs z t)) + ∑ j ∈ Finset.range 2048, -(cv w a z d t * (2 * vc z t j))) : Vec Ideal S16384x1 .f32) := by
  unfold val_main_v119
  rw [v109_eq, v117_eq]
  exact (addf_L2 (m := 16384) (n := 1) _ _)

theorem v120_eq : val_main_v120 (F := Ideal) = (L2 fun _ _ => 2048 : Vec Ideal S16384x1 .f32) := by
  funext i
  rw [val_main_v120_apply]
  exact bits_2048

theorem v121_eq : val_main_v121 (F := Ideal) (inZ z) (inD d) (inR a) (inW w) = (L2 (fun t _ => cm w a z d t) : Vec Ideal S16384x1 .f32) := by
  unfold val_main_v121
  rw [v119_eq, v120_eq]
  exact (hostDivf_L2 (m := 16384) (n := 1) _ _ fun _ _ => by norm_num)

theorem v122_eq : val_main_v122 (F := Ideal) (inZ z) (inD d) (inR a) (inW w) = (L1 (cm w a z d) : Vec Ideal S16384 .f32) := by
  funext i
  rw [val_main_v122_apply, v121_eq]
  exact (zero_sum_fin 1 (fun _ => cm w a z d (i 0).val) _ bits_zero).trans (congrArg _ (Finset.sum_range_one _))

theorem v123_eq : val_main_v123 (F := Ideal) (inZ z) (inD d) (inR a) (inW w) = (L2 (fun t _ => cm w a z d t) : Vec Ideal S16384x2048 .f32) := by
  funext i
  rw [val_main_v123_apply, v122_eq]
  rfl

theorem v124_eq : val_main_v124 (F := Ideal) (inZ z) (inD d) (inR a) (inW w) = (L2 (back w a z d) : Vec Ideal S16384x2048 .f32) := by
  unfold val_main_v124
  rw [v118_eq, v123_eq]
  exact (addf_L2 (m := 16384) (n := 2048) _ _).trans (L2_congr fun t j _ _ => back_eq w a z d t j)

theorem v125_eq : val_main_v125 (F := Ideal) (inZ z) (inD d) (inR a) (inR b) (inW w) (inS s) = (L2 (up w s a b z d) : Vec Ideal S16384x4096 .f32) := by
  unfold val_main_v125
  rw [v80_eq, v124_eq]
  exact concat_L2 _ _ _

theorem v126_eq : val_main_v126 (F := Ideal) (inZ z) (inD d) (inR a) (inR b) (inW w) (inS s) = (L2 (fun t j => z t j * up w s a b z d t j) : Vec Ideal S16384x4096 .f32) := by
  unfold val_main_v126
  rw [v0_eq, v125_eq]
  exact (mulf_L2 (m := 16384) (n := 4096) _ _)

theorem v127_eq : val_main_v127 (F := Ideal) (inZ z) (inD d) (inR a) (inR b) (inW w) (inS s) = (L2 (fun t j => up w s a b z d t j * (1 / 2 * (1 + th (z t j)))) : Vec Ideal S16384x4096 .f32) := by
  unfold val_main_v127
  rw [v125_eq, v26_eq]
  exact (mulf_L2 (m := 16384) (n := 4096) _ _)

theorem v128_eq : val_main_v128 (F := Ideal) = (L2 fun _ _ => 1 / 2 : Vec Ideal S16384x4096 .f32) := by
  funext i
  rw [val_main_v128_apply]
  exact bits_half

theorem v129_eq : val_main_v129 (F := Ideal) (inZ z) (inD d) (inR a) (inR b) (inW w) (inS s) = (L2 (fun t j => 1 / 2 * (z t j * up w s a b z d t j)) : Vec Ideal S16384x4096 .f32) := by
  unfold val_main_v129
  rw [v128_eq, v126_eq]
  exact (mulf_L2 (m := 16384) (n := 4096) _ _)

theorem v130_eq : val_main_v130 (F := Ideal) (inZ z) (inD d) (inR a) (inR b) (inW w) (inS s) = (L2 (fun t j => 1 / 2 * (z t j * up w s a b z d t j) * ((1 + th (z t j)) * (1 - th (z t j)))) : Vec Ideal S16384x4096 .f32) := by
  unfold val_main_v130
  rw [v129_eq, v22_eq]
  exact (mulf_L2 (m := 16384) (n := 4096) _ _)

theorem v131_eq : val_main_v131 (F := Ideal) = (L2 fun _ _ => cC : Vec Ideal S16384x4096 .f32) := by
  funext i
  rw [val_main_v131_apply]
  exact bits_C

theorem v132_eq : val_main_v132 (F := Ideal) (inZ z) (inD d) (inR a) (inR b) (inW w) (inS s) = (L2 (fun t j => cC * (1 / 2 * (z t j * up w s a b z d t j) * ((1 + th (z t j)) * (1 - th (z t j))))) : Vec Ideal S16384x4096 .f32) := by
  unfold val_main_v132
  rw [v131_eq, v130_eq]
  exact (mulf_L2 (m := 16384) (n := 4096) _ _)

theorem v133_eq : val_main_v133 (F := Ideal) (inZ z) (inD d) (inR a) (inR b) (inW w) (inS s) = (L2 (fun t j => up w s a b z d t j * (1 / 2 * (1 + th (z t j))) + cC * (1 / 2 * (z t j * up w s a b z d t j) * ((1 + th (z t j)) * (1 - th (z t j))))) : Vec Ideal S16384x4096 .f32) := by
  unfold val_main_v133
  rw [v127_eq, v132_eq]
  exact (addf_L2 (m := 16384) (n := 4096) _ _)

theorem v134_eq : val_main_v134 (F := Ideal) = (L2 fun _ _ => 1000000 : Vec Ideal S16384x4096 .f32) := by
  funext i
  rw [val_main_v134_apply]
  exact bits_million

theorem v135_eq : val_main_v135 (F := Ideal) (inZ z) (inD d) (inR a) (inR b) (inW w) (inS s) = (L2 (fun t j => cC * (1 / 2 * (z t j * up w s a b z d t j) * ((1 + th (z t j)) * (1 - th (z t j)))) / 1000000) : Vec Ideal S16384x4096 .f32) := by
  unfold val_main_v135
  rw [v132_eq, v134_eq]
  exact (hostDivf_L2 (m := 16384) (n := 4096) _ _ fun _ _ => by norm_num)

theorem v136_eq : val_main_v136 (F := Ideal) = (L2 fun _ _ => 44715 : Vec Ideal S16384x4096 .f32) := by
  funext i
  rw [val_main_v136_apply]
  exact bits_44715

theorem v137_eq : val_main_v137 (F := Ideal) (inZ z) (inD d) (inR a) (inR b) (inW w) (inS s) = (L2 (fun t j => cC * (1 / 2 * (z t j * up w s a b z d t j) * ((1 + th (z t j)) * (1 - th (z t j)))) / 1000000 * 44715) : Vec Ideal S16384x4096 .f32) := by
  unfold val_main_v137
  rw [v135_eq, v136_eq]
  exact (mulf_L2 (m := 16384) (n := 4096) _ _)

theorem v138_eq : val_main_v138 (F := Ideal) (inZ z) (inD d) (inR a) (inR b) (inW w) (inS s) = (L2 (fun t j => cC * (1 / 2 * (z t j * up w s a b z d t j) * ((1 + th (z t j)) * (1 - th (z t j)))) / 1000000 * 44715 * (3 * (z t j * z t j))) : Vec Ideal S16384x4096 .f32) := by
  unfold val_main_v138
  rw [v137_eq, v9_eq]
  exact (mulf_L2 (m := 16384) (n := 4096) _ _)

theorem v139_eq : val_main_v139 (F := Ideal) (inZ z) (inD d) (inR a) (inR b) (inW w) (inS s) = (L2 (dz w s a b z d) : Vec Ideal S16384x4096 .f32) := by
  unfold val_main_v139
  rw [v133_eq, v138_eq]
  exact (addf_L2 (m := 16384) (n := 4096) _ _).trans (L2_congr fun t j _ _ => (by unfold geluD; ring : _ = up w s a b z d t j * geluD (z t j)).trans (up_geluD w s a b z d t j))

theorem v140_eq : val_main_v140 (F := Ideal) (inZ z) (inD d) (inR a) (inR b) (inW w) (inS s) = (L2 (dz w s a b z d) : Vec Ideal S16384x4096 .bf16) := by
  unfold val_main_v140
  rw [v139_eq]
  rfl

end

end Cert.ReferenceIdeal.Sgu
-- ==== Proof.Products.lean ====
module

public import Idealize.ShloMosaic.PureOps.Ideal.Laws
public import Idealize.ShloMosaic.Lib.Pipeline.Value
public import Idealize.ShloMosaic.Lib.ValueIdxCore
public import Idealize.ShloMosaic.Lib.IdealHost

@[expose] public section

/-! Products of matrices of ideal values. The entries of a matrix are read at pairs of naturals, so that a block of a matrix is a
    shift and a product over blocks of the contracted axis is one sum over an initial segment. Nothing here asks the entries to
    be finite: the ideal addition is associative and commutative and zero is neutral for it at every value. -/

noncomputable section

namespace Cert.Products

open Idealize.ShloMosaic Idealize.ShloMosaic.ValueIdx
open scoped BigOperators

/-- The entry of a matrix at row `i`, column `j`; zero outside of the matrix. -/
def ent {m n : ℕ} (x : (⟨2, ![m, n]⟩ : Shape).Idx → EReal) (i j : ℕ) : EReal :=
  if h : i < m ∧ j < n then x (ix2 ⟨i, h.1⟩ ⟨j, h.2⟩) else 0

theorem ent_eq {m n : ℕ} (x : (⟨2, ![m, n]⟩ : Shape).Idx → EReal) (q : (⟨2, ![m, n]⟩ : Shape).Idx) {i j : ℕ}
    (hi : (q 0).val = i) (hj : (q 1).val = j) : x q = ent x i j := by
  subst hi hj
  have h : (q 0).val < m ∧ (q 1).val < n := ⟨(q 0).isLt, (q 1).isLt⟩
  unfold ent
  rw [dif_pos h]
  exact congrArg x (eq_ix2 q)

/-- The entry of a stack of matrices, likewise. -/
def ent3 {a m n : ℕ} (x : (⟨3, ![a, m, n]⟩ : Shape).Idx → EReal) (l i j : ℕ) : EReal :=
  if h : l < a ∧ i < m ∧ j < n then x (fun b => match b with | ⟨0, _⟩ => ⟨l, h.1⟩ | ⟨1, _⟩ => ⟨i, h.2.1⟩ | ⟨2, _⟩ => ⟨j, h.2.2⟩) else 0

theorem ent3_eq {a m n : ℕ} (x : (⟨3, ![a, m, n]⟩ : Shape).Idx → EReal) (q : (⟨3, ![a, m, n]⟩ : Shape).Idx) {l i j : ℕ}
    (hl : (q 0).val = l) (hi : (q 1).val = i) (hj : (q 2).val = j) : x q = ent3 x l i j := by
  subst hl hi hj
  have h : (q 0).val < a ∧ (q 1).val < m ∧ (q 2).val < n := ⟨(q 0).isLt, (q 1).isLt, (q 2).isLt⟩
  unfold ent3
  rw [dif_pos h]
  refine congrArg x (funext fun b => ?_)
  match b with
  | ⟨0, _⟩ => rfl
  | ⟨1, _⟩ => rfl
  | ⟨2, _⟩ => rfl

theorem ofBits_zero : Ideal.ofBits .f32 0x00000000#32 = (0 : EReal) := by simp [Ideal.ofBits, Ideal.ieee]

/-- A product of two matrices with one contracted axis of length `K`, into zeros, at one entry. -/
theorem matmul_sum {sl sr so : Shape} (d : DotDims sl sr so) (K : ℕ) (hr : d.contr.rank = 1) (hs : d.contr.size ⟨0, by omega⟩ = K)
    {φ₁ φ₂ : FTy} (x : FVec Ideal sl φ₁) (y : FVec Ideal sr φ₂) (q : so.Idx) (f g : ℕ → EReal)
    (hf : ∀ k : d.contr.Idx, x (d.lhsIdx q k) = f (k ⟨0, by omega⟩).val) (hg : ∀ k : d.contr.Idx, y (d.rhsIdx q k) = g (k ⟨0, by omega⟩).val) :
    matmul (F := Ideal) d none x y (constant so .f32 0x00000000#32) q = ∑ k ∈ Finset.range K, f k * g k := by
  simp only [matmul]
  rw [Ideal.matmul_constant_zero_apply, ← Equiv.sum_comp (contrEquiv1 d K hr hs).symm, Finset.sum_range]
  refine Finset.sum_congr rfl fun k _ => ?_
  have hk := contrEquiv1_symm_val d K hr hs k
  rw [hf, hg, hk]

/-- An accumulator over blocks of `B` terms: one block more is one longer initial segment. -/
theorem acc_succ (f : ℕ → EReal) (B k : ℕ) {a b : EReal} (ha : a = ∑ x ∈ Finset.range (B * k), f x)
    (hb : b = ∑ x ∈ Finset.range B, f (B * k + x)) : a + b = ∑ x ∈ Finset.range (B * (k + 1)), f x := by
  rw [ha, hb, Nat.mul_succ, Finset.sum_range_add]

theorem acc_zero (f : ℕ → EReal) (B : ℕ) {b : EReal} (hb : b = ∑ x ∈ Finset.range B, f x) :
    0 + b = ∑ x ∈ Finset.range (B * (0 + 1)), f x := by
  rw [hb, zero_add, Nat.zero_add, Nat.mul_one]

/-- A matrix read out of a stack of one. -/
theorem dropPlane_apply {m n : ℕ} (x : (⟨3, ![1, m, n]⟩ : Shape).Idx → EReal) (h : Shape.ShapeCasts (⟨3, ![1, m, n]⟩ : Shape) ⟨2, ![m, n]⟩)
    (i : (⟨2, ![m, n]⟩ : Shape).Idx) :
    shapeCast (⟨2, ![m, n]⟩ : Shape) x h i = x (fun b => match b with | ⟨0, _⟩ => ⟨0, Nat.one_pos⟩ | ⟨1, _⟩ => ⟨(i 0).val, (i 0).isLt⟩ | ⟨2, _⟩ => ⟨(i 1).val, (i 1).isLt⟩) := by
  refine shapeCast_apply x h i _ ?_
  rewrite [Shape.rowMajor_val_three, Shape.rowMajor_val_two]
  show (0 * m + (i 0).val) * n + (i 1).val = (i 0).val * n + (i 1).val
  rw [Nat.zero_mul, Nat.zero_add]

/-- A stack of matrices whose columns the host laid out as `n` shares of `c` columns, the stack's rows one below the other. -/
theorem shares_apply {L a n c R N : ℕ} (w : (⟨3, ![L, a, N]⟩ : Shape).Idx → EReal) (h : Shape.ShapeCasts (⟨3, ![L, a, N]⟩ : Shape) ⟨3, ![R, n, c]⟩)
    (ht : Shape.Transposes (⟨3, ![R, n, c]⟩ : Shape) [1, 0, 2] ⟨3, ![n, R, c]⟩) (hR : R = a * L) (hN : N = n * c) (q : (⟨3, ![n, R, c]⟩ : Shape).Idx) :
    transpose (⟨3, ![n, R, c]⟩ : Shape) [1, 0, 2] (shapeCast (⟨3, ![R, n, c]⟩ : Shape) w h) ht q
      = ent3 w ((q 1).val / a) ((q 1).val % a) (c * (q 0).val + (q 2).val) := by
  have h0 : (q 0).val < n := (q 0).isLt
  have h1 : (q 1).val < R := (q 1).isLt
  have h2 : (q 2).val < c := (q 2).isLt
  have h1' : (q 1).val < a * L := lt_of_lt_of_eq h1 hR
  have hd : (q 1).val / a < L := Nat.div_lt_of_lt_mul h1'
  have hm : (q 1).val % a < a := Nat.mod_lt _ (Nat.pos_of_ne_zero fun e => by rw [e, Nat.zero_mul] at h1'; exact absurd h1' (Nat.not_lt_zero _))
  have hc : c * (q 0).val + (q 2).val < N := by rw [hN]; nlinarith
  let u : (⟨3, ![R, n, c]⟩ : Shape).Idx := fun b => match b with
    | ⟨0, _⟩ => ⟨(q 1).val, h1⟩
    | ⟨1, _⟩ => ⟨(q 0).val, h0⟩
    | ⟨2, _⟩ => ⟨(q 2).val, h2⟩
  let v : (⟨3, ![L, a, N]⟩ : Shape).Idx := fun b => match b with
    | ⟨0, _⟩ => ⟨(q 1).val / a, hd⟩
    | ⟨1, _⟩ => ⟨(q 1).val % a, hm⟩
    | ⟨2, _⟩ => ⟨c * (q 0).val + (q 2).val, hc⟩
  refine (transpose_apply [1, 0, 2] _ ht q u (fun b => match b with
    | ⟨0, _⟩ => rfl
    | ⟨1, _⟩ => rfl
    | ⟨2, _⟩ => rfl)).trans ?_
  refine (shapeCast_apply w h u v ?_).trans (ent3_eq w v rfl rfl rfl)
  rewrite [Shape.rowMajor_val_three, Shape.rowMajor_val_three]
  show ((q 1).val / a * a + (q 1).val % a) * N + (c * (q 0).val + (q 2).val) = ((q 1).val * n + (q 0).val) * c + (q 2).val
  rw [Nat.div_add_mod', hN]
  ring

/-- Two matrices side by side, `w` columns in the first. -/
def beside (w : ℕ) (f g : ℕ → ℕ → EReal) (i j : ℕ) : EReal := if j < w then f i j else g i (j - w)

theorem concat_ent {m n₁ n₂ n : ℕ} (x : (⟨2, ![m, n₁]⟩ : Shape).Idx → EReal) (y : (⟨2, ![m, n₂]⟩ : Shape).Idx → EReal)
    (h : Shape.Concatenates [(⟨2, ![m, n₁]⟩ : Shape), ⟨2, ![m, n₂]⟩] ⟨2, ![m, n]⟩ 1) (hn : n = n₁ + n₂) (i : (⟨2, ![m, n]⟩ : Shape).Idx) :
    concatenate (⟨2, ![m, n]⟩ : Shape) 1 [⟨⟨2, ![m, n₁]⟩, x⟩, ⟨⟨2, ![m, n₂]⟩, y⟩] h i = beside n₁ (ent x) (ent y) (i 0).val (i 1).val := by
  have h1 : (i 1).val < n := (i 1).isLt
  unfold beside
  by_cases hj : (i 1).val < n₁
  · rw [if_pos hj]
    refine (concatenate_pair_apply_left 1 _ _ h i rfl (ix2 (i 0) ⟨(i 1).val, hj⟩) fun b => ?_).trans (ent_eq x _ rfl rfl)
    match b with
    | ⟨0, _⟩ => rfl
    | ⟨1, _⟩ => rfl
  · rw [if_neg hj]
    have hj' : (i 1).val - n₁ < n₂ := by omega
    refine (concatenate_pair_apply_right 1 _ _ h i rfl rfl (ix2 (i 0) ⟨(i 1).val - n₁, hj'⟩) (fun b hb => ?_) ?_).trans (ent_eq y _ rfl rfl)
    · revert hb
      refine Fin.cases (fun _ => rfl) (fun q => Fin.cases (fun hb => ?_) (fun r => r.elim0) q) b
      exact absurd (Fin.ext rfl) hb
    · exact Nat.sub_add_cancel (Nat.le_of_not_lt hj)

end Cert.Products

end
-- ==== Proof.UpWValue.lean ====
module

public import proofs.«01_k».proof.Proof.Products
public import proofs.«01_k».proof.Proof.Gen.UpWIdeal.Value
public import proofs.«01_k».proof.Proof.Gen.UpWRefIdeal.Run
public import proofs.«01_k».proof.Proof.Gen.UpWRefIdeal.Read

@[expose] public section

/-! The gradient of the feed-forward block's first weight: the columns come from two arrays, the gate's half and the value's half, and
    each column block's product over all rows is accumulated over eight blocks of 2048 rows. It is the reference's one product with the
    two arrays side by side. -/

set_option maxRecDepth 16384

noncomputable section

namespace Cert.UpWIdeal.Product

open Cert.UpWIdeal Cert.UpWIdeal.Gen Cert.UpWIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-! ## One block -/

/-- The product of two blocks of rows, contracted over the rows. -/
abbrev blockProduct (x : Vec Ideal S2048x1024 .bf16) (y : Vec Ideal S2048x1408 .bf16) : FVec Ideal S1024x1408 .f32 :=
  matmul (F := Ideal) (φ₁ := .bf16) (φ₂ := .bf16) dot_S2048x1024_S2048x1408_S1024x1408_0_0_1_1_n_n none x y (constant S1024x1408 .f32 0x00000000#32)

abbrev zeros : FVec Ideal S1024x1408 .f32 := broadcast S1024x1408 (Scalar.ofBits (F := Ideal) .f32 0x00000000#32)

section
variable (c : Dev nD) (i : grid0.Coords) (a3 : Memref sig .tc .vmem S2048x1024 .bf16) (h3 : a3.IsWhole)
  (a4 : Memref sig .tc .vmem S2048x1408 .bf16) (h4 : a4.IsWhole) (a5 : Memref sig .tc .vmem S2048x1408 .bf16) (h5 : a5.IsWhole)
  (a6 : Memref sig .tc .vmem S1024x1408 .bf16) (h6 : a6.IsWhole)
  (a7 : Memref sig .tc .vmem S1024x1408 .f32) (h7 : a7.IsWhole)
  (x : Vec Ideal S2048x1024 .bf16) (y z : Vec Ideal S2048x1408 .bf16) (acc : Vec Ideal S1024x1408 .f32)

/-- The first block of a run starts the accumulator from zeros. -/
theorem first_left (hc0 : cond0_0 i) (hc1 : cond0_1 i) (hc2 : ¬cond0_2 i) (hc3 : ¬cond0_3 i) :
    sout0_A_0 (F := Ideal) c i a3 h3 a4 h4 a5 h5 a6 h6 a7 h7 hc0 hc1 hc2 hc3 x y z = addf (F := Ideal) (φ := .f32) zeros (blockProduct x y) := by
  unfold sout0_A_0
  rw [View.read_writes_eq_canon _ _ _ (scover0_A_0 c i a3 h3 a4 h4 a5 h5 a6 h6 a7 h7 hc0 hc1 hc2 hc3 x y z)]
  unfold kernelRun0_A
  dsimp only
  sl_unfold_words
  rw [View.canon_cons_unit_zero (S := S1024x1408) hz, View.readCov_unit_zero (S := S1024x1408) _ hz]
  unfold k0_pay2 k0_pay1
  simp only [View.readAt_eq_ld, h3.read_unread, h4.read_unread, h5.read_unread, View.ld_unit_zero (S := S2048x1024) hz, View.ld_unit_zero (S := S2048x1408) hz, shapeCast_self]

/-- A later block adds its product. -/
theorem later_left (hc0 : ¬cond0_0 i) (hc1 : cond0_1 i) (hc2 : ¬cond0_2 i) (hc3 : ¬cond0_3 i) :
    sout0_B_0 (F := Ideal) c i a3 h3 a4 h4 a5 h5 a6 h6 a7 h7 hc0 hc1 hc2 hc3 x y z acc = addf (F := Ideal) (φ := .f32) acc (blockProduct x y) := by
  unfold sout0_B_0
  rw [View.read_writes_eq_canon _ _ _ (scover0_B_0 c i a3 h3 a4 h4 a5 h5 a6 h6 a7 h7 hc0 hc1 hc2 hc3 x y z acc)]
  unfold kernelRun0_B
  dsimp only
  rw [View.canon_unit_zero (S := S1024x1408) hz]
  unfold k0_pay2
  simp only [View.readAt_eq_ld, h3.read_unread, h4.read_unread, h5.read_unread, h7.read_unread, View.ld_unit_zero (S := S2048x1024) hz, View.ld_unit_zero (S := S2048x1408) hz, View.ld_unit_zero (S := S1024x1408) hz, shapeCast_self]

/-- The last block adds its product and writes the sum out. -/
theorem last_left (hc0 : ¬cond0_0 i) (hc1 : cond0_1 i) (hc2 : ¬cond0_2 i) (hc3 : cond0_3 i) :
    out0_C_3 (F := Ideal) c i a3 h3 a4 h4 a5 h5 a6 h6 a7 h7 hc0 hc1 hc2 hc3 x y z acc = addf (F := Ideal) (φ := .f32) acc (blockProduct x y) := by
  unfold out0_C_3
  rw [View.read_writes_eq_canon _ _ _ (cover0_C_3 c i a3 h3 a4 h4 a5 h5 a6 h6 a7 h7 hc0 hc1 hc2 hc3 x y z acc)]
  unfold kernelRun0_C
  dsimp only
  sl_unfold_words
  rw [View.canon_unit_zero (S := S1024x1408) hz, View.readCov_unit_zero (S := S1024x1408) _ hz]
  unfold k0_pay4 k0_pay2
  simp only [View.readAt_eq_ld, h3.read_unread, h4.read_unread, h5.read_unread, h7.read_unread, View.ld_unit_zero (S := S2048x1024) hz, View.ld_unit_zero (S := S2048x1408) hz, View.ld_unit_zero (S := S1024x1408) hz, shapeCast_self]
  rfl
theorem first_right (hc0 : cond0_0 i) (hc1 : ¬cond0_1 i) (hc2 : cond0_2 i) (hc3 : ¬cond0_3 i) :
    sout0_D_0 (F := Ideal) c i a3 h3 a4 h4 a5 h5 a6 h6 a7 h7 hc0 hc1 hc2 hc3 x y z = addf (F := Ideal) (φ := .f32) zeros (blockProduct x z) := by
  unfold sout0_D_0
  rw [View.read_writes_eq_canon _ _ _ (scover0_D_0 c i a3 h3 a4 h4 a5 h5 a6 h6 a7 h7 hc0 hc1 hc2 hc3 x y z)]
  unfold kernelRun0_D
  dsimp only
  sl_unfold_words
  rw [View.canon_cons_unit_zero (S := S1024x1408) hz, View.readCov_unit_zero (S := S1024x1408) _ hz]
  unfold k0_pay3 k0_pay1
  simp only [View.readAt_eq_ld, h3.read_unread, h4.read_unread, h5.read_unread, View.ld_unit_zero (S := S2048x1024) hz, View.ld_unit_zero (S := S2048x1408) hz, shapeCast_self]

theorem later_right (hc0 : ¬cond0_0 i) (hc1 : ¬cond0_1 i) (hc2 : cond0_2 i) (hc3 : ¬cond0_3 i) :
    sout0_E_0 (F := Ideal) c i a3 h3 a4 h4 a5 h5 a6 h6 a7 h7 hc0 hc1 hc2 hc3 x y z acc = addf (F := Ideal) (φ := .f32) acc (blockProduct x z) := by
  unfold sout0_E_0
  rw [View.read_writes_eq_canon _ _ _ (scover0_E_0 c i a3 h3 a4 h4 a5 h5 a6 h6 a7 h7 hc0 hc1 hc2 hc3 x y z acc)]
  unfold kernelRun0_E
  dsimp only
  rw [View.canon_unit_zero (S := S1024x1408) hz]
  unfold k0_pay3
  simp only [View.readAt_eq_ld, h3.read_unread, h4.read_unread, h5.read_unread, h7.read_unread, View.ld_unit_zero (S := S2048x1024) hz, View.ld_unit_zero (S := S2048x1408) hz, View.ld_unit_zero (S := S1024x1408) hz, shapeCast_self]

theorem last_right (hc0 : ¬cond0_0 i) (hc1 : ¬cond0_1 i) (hc2 : cond0_2 i) (hc3 : cond0_3 i) :
    out0_F_3 (F := Ideal) c i a3 h3 a4 h4 a5 h5 a6 h6 a7 h7 hc0 hc1 hc2 hc3 x y z acc = addf (F := Ideal) (φ := .f32) acc (blockProduct x z) := by
  unfold out0_F_3
  rw [View.read_writes_eq_canon _ _ _ (cover0_F_3 c i a3 h3 a4 h4 a5 h5 a6 h6 a7 h7 hc0 hc1 hc2 hc3 x y z acc)]
  unfold kernelRun0_F
  dsimp only
  sl_unfold_words
  rw [View.canon_unit_zero (S := S1024x1408) hz, View.readCov_unit_zero (S := S1024x1408) _ hz]
  unfold k0_pay4 k0_pay3
  simp only [View.readAt_eq_ld, h3.read_unread, h4.read_unread, h5.read_unread, h7.read_unread, View.ld_unit_zero (S := S2048x1024) hz, View.ld_unit_zero (S := S2048x1408) hz, View.ld_unit_zero (S := S1024x1408) hz, shapeCast_self]
  rfl
end

theorem blockProduct_sum (x : Vec Ideal S2048x1024 .bf16) (y : Vec Ideal S2048x1408 .bf16) (q : S1024x1408.Idx) (f g : ℕ → EReal)
    (hf : ∀ p : S2048x1024.Idx, (p 1).val = (q 0).val → x p = f (p 0).val) (hg : ∀ p : S2048x1408.Idx, (p 1).val = (q 1).val → y p = g (p 0).val) :
    blockProduct x y q = ∑ k ∈ Finset.range 2048, f k * g k :=
  matmul_sum dot_S2048x1024_S2048x1408_S1024x1408_0_0_1_1_n_n 2048 rfl rfl x y q f g
    (fun k => (hf _ rfl).trans rfl) (fun k => (hg _ rfl).trans rfl)

/-! ## A point's blocks -/

variable (m : (ℓ : Loc nD τ sig) → Buf (Elt Ideal) ℓ) (c : Dev nD)

abbrev lhs : Vec Ideal S16384x1024 .bf16 := m ((c : Thread nD τ).loc main_arg0)
abbrev gate : Vec Ideal S16384x2816 .bf16 := m ((c : Thread nD τ).loc main_arg1)
abbrev value : Vec Ideal S16384x2816 .bf16 := m ((c : Thread nD τ).loc main_arg2)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, t.val < 16 → win0_1.index t 0 = t.val % 8 ∧ win0_1.index t 1 = t.val / 8 :=
  (by decide +kernel : ∀ t : Fin grid0.N, t.val < 16 → win0_1.index t 0 = t.val % 8 ∧ win0_1.index t 1 = t.val / 8)
theorem index2 : ∀ t : Fin cfg0.N, 16 ≤ t.val → win0_2.index t 0 = t.val % 8 ∧ win0_2.index t 1 = t.val / 8 - 2 :=
  (by decide +kernel : ∀ t : Fin grid0.N, 16 ≤ t.val → win0_2.index t 0 = t.val % 8 ∧ win0_2.index t 1 = t.val / 8 - 2)

theorem iblk_0 (t : Fin cfg0.N) (p : S2048x1024.Idx) :
    (iblk m c 0 t : Vec Ideal S2048x1024 .bf16) p = ent (lhs m c) (2048 * (t.val % 8) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

theorem iblk_1 (t : Fin cfg0.N) (ht : t.val < 16) (p : S2048x1408.Idx) :
    (iblk m c 1 t : Vec Ideal S2048x1408 .bf16) p = ent (gate m c) (2048 * (t.val % 8) + (p 0).val) (1408 * (t.val / 8) + (p 1).val) := by
  obtain ⟨e0, e1⟩ := index1 t ht
  refine Eq.trans ?_ (ent_eq (gate m c) (((cfg0.win 1).blk t).view.emb p) ?_ ?_)
  · show V m c main_arg1 _ = _
    rw [V_main_arg1 m c]
  · show win0_1.index t 0 * 2048 + 1 * (p 0).val = _
    rw [e0]; omega
  · show win0_1.index t 1 * 1408 + 1 * (p 1).val = _
    rw [e1]; omega

theorem iblk_2 (t : Fin cfg0.N) (ht : 16 ≤ t.val) (p : S2048x1408.Idx) :
    (iblk m c 2 t : Vec Ideal S2048x1408 .bf16) p = ent (value m c) (2048 * (t.val % 8) + (p 0).val) (1408 * (t.val / 8) + (p 1).val - 2816) := by
  obtain ⟨e0, e1⟩ := index2 t ht
  refine Eq.trans ?_ (ent_eq (value m c) (((cfg0.win 2).blk t).view.emb p) ?_ ?_)
  · show V m c main_arg2 _ = _
    rw [V_main_arg2 m c]
  · show win0_2.index t 0 * 2048 + 1 * (p 0).val = _
    rw [e0]; omega
  · show win0_2.index t 1 * 1408 + 1 * (p 1).val = _
    rw [e1]; omega

/-! ## The accumulator -/

/-- The terms of the product's entry at row `i`, column `j`. -/
def term (i j k : ℕ) : EReal := ent (lhs m c) k i * beside 2816 (ent (gate m c)) (ent (value m c)) k j

/-- The block of columns a point reads. -/
abbrev side (t : Fin cfg0.N) : Vec Ideal S2048x1408 .bf16 := if t.val < 16 then iblk m c 1 t else iblk m c 2 t

theorem side_eq (t : Fin cfg0.N) (p : S2048x1408.Idx) :
    side m c t p = beside 2816 (ent (gate m c)) (ent (value m c)) (2048 * (t.val % 8) + (p 0).val) (1408 * (t.val / 8) + (p 1).val) := by
  have hp : (p 1).val < 1408 := (p 1).isLt
  unfold side beside
  by_cases ht : t.val < 16
  · rw [if_pos ht, if_pos (by omega), iblk_1 m c t ht]
  · rw [if_neg ht, if_neg (by omega), iblk_2 m c t (Nat.le_of_not_lt ht)]

theorem block_eq (t : Fin cfg0.N) (q : S1024x1408.Idx) (r k : ℕ) (hr : t.val / 8 = r) (hk : t.val % 8 = k) :
    blockProduct (iblk m c 0 t) (side m c t) q = ∑ x ∈ Finset.range 2048, term m c (q 0).val (1408 * r + (q 1).val) (2048 * k + x) := by
  subst hr hk
  refine blockProduct_sum _ _ q (fun x => ent (lhs m c) (2048 * (t.val % 8) + x) (q 0).val)
    (fun x => beside 2816 (ent (gate m c)) (ent (value m c)) (2048 * (t.val % 8) + x) (1408 * (t.val / 8) + (q 1).val)) (fun p hp => ?_) (fun p hp => ?_)
  · rw [iblk_0, hp]
  · rw [side_eq, hp]

/-- A run's first point. -/
theorem first_eq (t : Fin cfg0.N) (h0 : t.val % 8 = 0) :
    (outsAt0 m c t.val t.isLt).2 = addf (F := Ideal) (φ := .f32) zeros (blockProduct (iblk m c 0 t) (side m c t)) := by
  unfold side
  by_cases ht : t.val < 16
  · rw [if_pos ht, outsAt0_A m c t h0 ht (by omega) (by omega)]
    dsimp only
    rw [first_left]
  · rw [if_neg ht, outsAt0_D m c t h0 ht (by omega) (by omega)]
    dsimp only
    rw [first_right]

/-- A run's middle points. -/
theorem later_eq (t : Fin cfg0.N) (h0 : ¬t.val % 8 = 0) (h7 : ¬t.val % 8 = 7) :
    (outsAt0 m c t.val t.isLt).2 = addf (F := Ideal) (φ := .f32) (outsAt0 m c (t.val - 1) (by omega)).2 (blockProduct (iblk m c 0 t) (side m c t)) := by
  unfold side
  by_cases ht : t.val < 16
  · rw [if_pos ht, outsAt0_B m c t h0 ht (by omega) h7]
    dsimp only
    rw [later_left]
  · rw [if_neg ht, outsAt0_E m c t h0 ht (by omega) h7]
    dsimp only
    rw [later_right]

/-- A run's last point. -/
theorem last_eq (t : Fin cfg0.N) (h7 : t.val % 8 = 7) :
    (outsAt0 m c t.val t.isLt).1 = addf (F := Ideal) (φ := .f32) (outsAt0 m c (t.val - 1) (by omega)).2 (blockProduct (iblk m c 0 t) (side m c t)) := by
  unfold side
  by_cases ht : t.val < 16
  · rw [if_pos ht, outsAt0_C m c t (by omega) ht (by omega) h7]
    dsimp only
    rw [last_left]
  · rw [if_neg ht, outsAt0_F m c t (by omega) ht (by omega) h7]
    dsimp only
    rw [last_right]

/-- After `k + 1` blocks of a run the accumulator holds the sum over their rows. -/
theorem acc_eq (q : S1024x1408.Idx) (r : ℕ) : ∀ (k : ℕ) (hk : k < 7) (h : 8 * r + k < cfg0.N),
    (outsAt0 m c (8 * r + k) h).2 q = ∑ x ∈ Finset.range (2048 * (k + 1)), term m c (q 0).val (1408 * r + (q 1).val) x
  | 0, _, h => by
    rw [first_eq m c ⟨8 * r + 0, h⟩ (by show (8 * r + 0) % 8 = 0; omega)]
    show Ideal.ofBits .f32 0x00000000#32 + blockProduct _ _ q = _
    rw [ofBits_zero]
    refine acc_zero _ 2048 ((block_eq m c ⟨8 * r + 0, h⟩ q r 0 (by show (8 * r + 0) / 8 = r; omega) (by show (8 * r + 0) % 8 = 0; omega)).trans ?_)
    simp only [Nat.mul_zero, Nat.zero_add]
  | k + 1, hk, h => by
    have ih := acc_eq q r k (by omega) (by omega)
    rw [later_eq m c ⟨8 * r + (k + 1), h⟩ (by show ¬(8 * r + (k + 1)) % 8 = 0; omega) (by show ¬(8 * r + (k + 1)) % 8 = 7; omega)]
    exact acc_succ _ 2048 (k + 1) ih
      (block_eq m c ⟨8 * r + (k + 1), h⟩ q r (k + 1) (by show (8 * r + (k + 1)) / 8 = r; omega) (by show (8 * r + (k + 1)) % 8 = k + 1; omega))

/-- What a run's last point writes out: the sum over all rows. -/
theorem out_eq (q : S1024x1408.Idx) (r : ℕ) (h : 8 * r + 7 < cfg0.N) :
    (outsAt0 m c (8 * r + 7) h).1 q = ∑ x ∈ Finset.range 16384, term m c (q 0).val (1408 * r + (q 1).val) x := by
  rw [last_eq m c ⟨8 * r + 7, h⟩ (by show (8 * r + 7) % 8 = 7; omega)]
  exact acc_succ _ 2048 7 (acc_eq m c q r 6 (by decide) (by omega))
    (block_eq m c ⟨8 * r + 7, h⟩ q r 7 (by show (8 * r + 7) / 8 = r; omega) (by show (8 * r + 7) % 8 = 7; omega))

/-- The result array, entry by entry. -/
theorem G3_eq (i : S1024x5632.Idx) : G3 m c i = ∑ x ∈ Finset.range 16384, term m c (i 0).val (i 1).val x := by
  have h0 : (i 0).val < 1024 := (i 0).isLt
  have h1 : (i 1).val < 5632 := (i 1).isLt
  have hN : cfg0.N = 32 := N_0
  have hp : pt3Of i < cfg0.N := by
    rw [hN]
    show 8 * (4 * ((i 0).val / 1024 - 0) + 1 * ((i 1).val / 1408 - 0)) + 7 < 32
    omega
  unfold G3
  rw [dif_pos hp, ← outsAt0_sweep m c (pt3Of i) hp, out_eq]
  have e1 : 1408 * run3Of i + (loc3Of i 1).val = (i 1).val := by
    show 1408 * (4 * ((i 0).val / 1024 - 0) + 1 * ((i 1).val / 1408 - 0)) + (i 1).val % 1408 = _
    omega
  have e0 : (loc3Of i 0).val = (i 0).val := Nat.mod_eq_of_lt h0
  rw [e0, e1]

end Cert.UpWIdeal.Product

/-! ## The reference -/

namespace Cert.UpWRefIdeal.Product

open Cert.UpWRefIdeal Cert.UpWRefIdeal.Gen Cert.UpWRefIdeal.Read Cert.Products
open Idealize.ShloMosaic Idealize.ShloMosaic.TcCoe Idealize.ShloMosaic.ValueIdx
open scoped BigOperators

theorem sides (y z : (⟨S16384x2816, .bf16⟩ : BufTy).Contents (Elt Ideal)) (i : S16384x5632.Idx) :
    val_main_v2 (F := Ideal) y z i = beside 2816 (ent y) (ent z) (i 0).val (i 1).val :=
  concat_ent y z concatenates_S16384x2816_S16384x2816_S16384x5632_d1 rfl i

theorem result_eq (x : (⟨S16384x1024, .bf16⟩ : BufTy).Contents (Elt Ideal)) (y z : (⟨S16384x2816, .bf16⟩ : BufTy).Contents (Elt Ideal)) (i : S1024x5632.Idx) :
    val_main_v7 (F := Ideal) x y z i = ∑ k ∈ Finset.range 16384, ent x k (i 0).val * beside 2816 (ent y) (ent z) k (i 1).val := by
  rw [val_main_v7_apply]
  show val_main_v6 (F := Ideal) x y z i = _
  rw [val_main_v6_apply, val_main_v5_apply, Finset.sum_range]
  refine Finset.sum_congr rfl fun k _ => (mul_comm _ _).trans ?_
  exact congrArg₂ (· * ·) (ent_eq x _ rfl rfl) (sides y z _)

end Cert.UpWRefIdeal.Product

end
-- ==== Proof.UpHValue.lean ====
module

public import proofs.«01_k».proof.Proof.Products
public import proofs.«01_k».proof.Proof.Gen.UpHIdeal.Value
public import proofs.«01_k».proof.Proof.Gen.UpHRefIdeal.Run
public import proofs.«01_k».proof.Proof.Gen.UpHRefIdeal.Read

@[expose] public section

/-! The gradient that goes back through the feed-forward block's first product (first layer): the left operand's columns come from
    two arrays, the gate's half and the value's half, the weight comes as four shares of 1408 columns, and the product is accumulated over
    the four shares. It is the reference's one product with the two arrays side by side. -/

set_option maxRecDepth 16384

noncomputable section

namespace Cert.UpHIdeal.Product

open Cert.UpHIdeal Cert.UpHIdeal.Gen Cert.UpHIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-! ## One block -/

/-- The product of a block of rows with one share of the weight. -/
abbrev blockProduct (x : Vec Ideal S2048x1408 .bf16) (w : Vec Ideal S1x1024x1408 .bf16) : FVec Ideal S2048x1024 .f32 :=
  matmul (F := Ideal) (φ₁ := .bf16) (φ₂ := .bf16) dot_S2048x1408_S1024x1408_S2048x1024_1_1_0_0_n_n none x
    (shapeCast S1024x1408 w shapeCasts_S1x1024x1408_S1024x1408) (constant S2048x1024 .f32 0x00000000#32)

section
variable (c : Dev nD) (i : grid0.Coords) (a3 : Memref sig .tc .vmem S2048x1408 .bf16) (h3 : a3.IsWhole)
  (a4 : Memref sig .tc .vmem S2048x1408 .bf16) (h4 : a4.IsWhole) (a5 : Memref sig .tc .vmem S1x1024x1408 .bf16) (h5 : a5.IsWhole)
  (a6 : Memref sig .tc .vmem S2048x1024 .bf16) (h6 : a6.IsWhole) (a7 : Memref sig .tc .vmem S2048x1024 .f32) (h7 : a7.IsWhole)
  (x y : Vec Ideal S2048x1408 .bf16) (w : Vec Ideal S1x1024x1408 .bf16) (acc : Vec Ideal S2048x1024 .f32)

/-- The first share's product starts the accumulator. -/
theorem first (hc0 : cond0_0 i) (hc1 : ¬cond0_1 i) (hc2 : ¬cond0_2 i) (hc3 : ¬cond0_3 i) :
    sout0_A_0 (F := Ideal) c i a3 h3 a4 h4 a5 h5 a6 h6 a7 h7 hc0 hc1 hc2 hc3 x y w = blockProduct x w := by
  unfold sout0_A_0
  rw [View.read_writes_eq_canon _ _ _ (scover0_A_0 c i a3 h3 a4 h4 a5 h5 a6 h6 a7 h7 hc0 hc1 hc2 hc3 x y w)]
  unfold kernelRun0_A
  dsimp only
  rw [View.canon_unit_zero (S := S2048x1024) hz]
  unfold k0_pay1
  simp only [View.readAt_eq_ld, h3.read_unread, h5.read_unread, View.ld_unit_zero (S := S2048x1408) hz, View.ld_unit_zero (S := S1x1024x1408) hz3, shapeCast_self]

/-- The second share, still over the gate's half. -/
theorem later_left (hc0 : ¬cond0_0 i) (hc1 : cond0_1 i) (hc2 : ¬cond0_2 i) (hc3 : ¬cond0_3 i) :
    sout0_B_0 (F := Ideal) c i a3 h3 a4 h4 a5 h5 a6 h6 a7 h7 hc0 hc1 hc2 hc3 x y w acc = addf (F := Ideal) (φ := .f32) acc (blockProduct x w) := by
  unfold sout0_B_0
  rw [View.read_writes_eq_canon _ _ _ (scover0_B_0 c i a3 h3 a4 h4 a5 h5 a6 h6 a7 h7 hc0 hc1 hc2 hc3 x y w acc)]
  unfold kernelRun0_B
  dsimp only
  rw [View.canon_unit_zero (S := S2048x1024) hz]
  unfold k0_pay2
  simp only [View.readAt_eq_ld, h3.read_unread, h5.read_unread, h7.read_unread, View.ld_unit_zero (S := S2048x1408) hz, View.ld_unit_zero (S := S1x1024x1408) hz3, View.ld_unit_zero (S := S2048x1024) hz, shapeCast_self]

/-- The third share, over the value's half. -/
theorem later_right (hc0 : ¬cond0_0 i) (hc1 : ¬cond0_1 i) (hc2 : cond0_2 i) (hc3 : ¬cond0_3 i) :
    sout0_C_0 (F := Ideal) c i a3 h3 a4 h4 a5 h5 a6 h6 a7 h7 hc0 hc1 hc2 hc3 x y w acc = addf (F := Ideal) (φ := .f32) acc (blockProduct y w) := by
  unfold sout0_C_0
  rw [View.read_writes_eq_canon _ _ _ (scover0_C_0 c i a3 h3 a4 h4 a5 h5 a6 h6 a7 h7 hc0 hc1 hc2 hc3 x y w acc)]
  unfold kernelRun0_C
  dsimp only
  rw [View.canon_unit_zero (S := S2048x1024) hz]
  unfold k0_pay3
  simp only [View.readAt_eq_ld, h4.read_unread, h5.read_unread, h7.read_unread, View.ld_unit_zero (S := S2048x1408) hz, View.ld_unit_zero (S := S1x1024x1408) hz3, View.ld_unit_zero (S := S2048x1024) hz, shapeCast_self]

/-- The last share adds its product and the sum is written out. -/
theorem last (hc0 : ¬cond0_0 i) (hc1 : ¬cond0_1 i) (hc2 : cond0_2 i) (hc3 : cond0_3 i) :
    out0_D_3 (F := Ideal) c i a3 h3 a4 h4 a5 h5 a6 h6 a7 h7 hc0 hc1 hc2 hc3 x y w acc = addf (F := Ideal) (φ := .f32) acc (blockProduct y w) := by
  unfold out0_D_3
  rw [View.read_writes_eq_canon _ _ _ (cover0_D_3 c i a3 h3 a4 h4 a5 h5 a6 h6 a7 h7 hc0 hc1 hc2 hc3 x y w acc)]
  unfold kernelRun0_D
  dsimp only
  sl_unfold_words
  rw [View.canon_unit_zero (S := S2048x1024) hz, View.readCov_unit_zero (S := S2048x1024) _ hz]
  unfold k0_pay4 k0_pay3
  simp only [View.readAt_eq_ld, h4.read_unread, h5.read_unread, h7.read_unread, View.ld_unit_zero (S := S2048x1408) hz, View.ld_unit_zero (S := S1x1024x1408) hz3, View.ld_unit_zero (S := S2048x1024) hz, shapeCast_self]
  rfl
end

theorem blockProduct_sum (x : Vec Ideal S2048x1408 .bf16) (w : Vec Ideal S1x1024x1408 .bf16) (q : S2048x1024.Idx) (f g : ℕ → EReal)
    (hf : ∀ p : S2048x1408.Idx, (p 0).val = (q 0).val → x p = f (p 1).val)
    (hg : ∀ p : S1x1024x1408.Idx, (p 1).val = (q 1).val → w p = g (p 2).val) :
    blockProduct x w q = ∑ k ∈ Finset.range 1408, f k * g k := by
  refine matmul_sum dot_S2048x1408_S1024x1408_S2048x1024_1_1_0_0_n_n 1408 rfl rfl x _ q f g (fun k => (hf _ rfl).trans rfl) (fun k => ?_)
  refine (dropPlane_apply w shapeCasts_S1x1024x1408_S1024x1408 _).trans ((hg _ rfl).trans rfl)

/-! ## A point's blocks -/

variable (m : (ℓ : Loc nD τ sig) → Buf (Elt Ideal) ℓ) (c : Dev nD)

abbrev gate : Vec Ideal S16384x2816 .bf16 := m ((c : Thread nD τ).loc main_arg0)
abbrev value : Vec Ideal S16384x2816 .bf16 := m ((c : Thread nD τ).loc main_arg1)
abbrev weight : Vec Ideal S2x1024x5632 .f32 := m ((c : Thread nD τ).loc main_arg2)

theorem index0 : ∀ t : Fin cfg0.N, t.val % 4 < 2 → win0_0.index t 0 = t.val / 4 ∧ win0_0.index t 1 = t.val % 4 :=
  (by decide +kernel : ∀ t : Fin grid0.N, t.val % 4 < 2 → win0_0.index t 0 = t.val / 4 ∧ win0_0.index t 1 = t.val % 4)
theorem index1 : ∀ t : Fin cfg0.N, 2 ≤ t.val % 4 → win0_1.index t 0 = t.val / 4 ∧ win0_1.index t 1 = t.val % 4 - 2 :=
  (by decide +kernel : ∀ t : Fin grid0.N, 2 ≤ t.val % 4 → win0_1.index t 0 = t.val / 4 ∧ win0_1.index t 1 = t.val % 4 - 2)
theorem index2 : ∀ t : Fin cfg0.N, win0_2.index t 0 = t.val % 4 ∧ win0_2.index t 1 = 0 ∧ win0_2.index t 2 = 0 :=
  (by decide +kernel : ∀ t : Fin grid0.N, win0_2.index t 0 = t.val % 4 ∧ win0_2.index t 1 = 0 ∧ win0_2.index t 2 = 0)

theorem iblk_0 (t : Fin cfg0.N) (ht : t.val % 4 < 2) (p : S2048x1408.Idx) :
    (iblk m c 0 t : Vec Ideal S2048x1408 .bf16) p = ent (gate m c) (2048 * (t.val / 4) + (p 0).val) (1408 * (t.val % 4) + (p 1).val) := by
  obtain ⟨e0, e1⟩ := index0 t ht
  refine Eq.trans ?_ (ent_eq (gate m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1408 + 1 * (p 1).val = _
    rw [e1]; omega

theorem iblk_1 (t : Fin cfg0.N) (ht : 2 ≤ t.val % 4) (p : S2048x1408.Idx) :
    (iblk m c 1 t : Vec Ideal S2048x1408 .bf16) p = ent (value m c) (2048 * (t.val / 4) + (p 0).val) (1408 * (t.val % 4) + (p 1).val - 2816) := by
  obtain ⟨e0, e1⟩ := index1 t ht
  refine Eq.trans ?_ (ent_eq (value m c) (((cfg0.win 1).blk t).view.emb p) ?_ ?_)
  · show V m c main_arg1 _ = _
    rw [V_main_arg1 m c]
  · show win0_1.index t 0 * 2048 + 1 * (p 0).val = _
    rw [e0]; omega
  · show win0_1.index t 1 * 1408 + 1 * (p 1).val = _
    rw [e1]; omega

/-- The weight as the grid finds it: the host lays the columns out as four shares, and its narrowing is exact on ideal values. -/
theorem shares (q : S4x2048x1408.Idx) :
    (V m c main_v2 : Vec Ideal S4x2048x1408 .bf16) q = ent3 (weight m c) ((q 1).val / 1024) ((q 1).val % 1024) (1408 * (q 0).val + (q 2).val) :=
  shares_apply (weight m c) shapeCasts_S2x1024x5632_S2048x4x1408 transposes_S2048x4x1408_S4x2048x1408_1_0_2 rfl rfl q

theorem iblk_2 (t : Fin cfg0.N) (p : S1x1024x1408.Idx) :
    (iblk m c 2 t : Vec Ideal S1x1024x1408 .bf16) p = ent3 (weight m c) 0 (p 1).val (1408 * (t.val % 4) + (p 2).val) := by
  obtain ⟨e0, e1, e2⟩ := index2 t
  have hp : (p 0).val < 1 := (p 0).isLt
  have hp1 : (p 1).val < 1024 := (p 1).isLt
  refine (shares m c (((cfg0.win 2).blk t).view.emb p)).trans ?_
  show ent3 _ ((win0_2.index t 1 * 1024 + 1 * (p 1).val) / 1024) ((win0_2.index t 1 * 1024 + 1 * (p 1).val) % 1024)
    (1408 * (win0_2.index t 0 * 1 + 1 * (p 0).val) + (win0_2.index t 2 * 1408 + 1 * (p 2).val)) = _
  rw [e0, e1, e2, show (0 * 1024 + 1 * (p 1).val) / 1024 = 0 by omega, show (0 * 1024 + 1 * (p 1).val) % 1024 = (p 1).val by omega,
    show 1408 * (t.val % 4 * 1 + 1 * (p 0).val) + (0 * 1408 + 1 * (p 2).val) = 1408 * (t.val % 4) + (p 2).val by omega]

/-! ## The accumulator -/

/-- The terms of the product's entry at row `i`, column `j`. -/
def term (i j k : ℕ) : EReal := beside 2816 (ent (gate m c)) (ent (value m c)) i k * ent3 (weight m c) 0 j k

/-- The block of columns a point reads. -/
abbrev side (t : Fin cfg0.N) : Vec Ideal S2048x1408 .bf16 := if t.val % 4 < 2 then iblk m c 0 t else iblk m c 1 t

theorem side_eq (t : Fin cfg0.N) (p : S2048x1408.Idx) :
    side m c t p = beside 2816 (ent (gate m c)) (ent (value m c)) (2048 * (t.val / 4) + (p 0).val) (1408 * (t.val % 4) + (p 1).val) := by
  have hp : (p 1).val < 1408 := (p 1).isLt
  unfold side beside
  by_cases ht : t.val % 4 < 2
  · rw [if_pos ht, if_pos (by omega), iblk_0 m c t ht]
  · rw [if_neg ht, if_neg (by omega), iblk_1 m c t (Nat.le_of_not_lt ht)]

theorem block_eq (t : Fin cfg0.N) (q : S2048x1024.Idx) (r k : ℕ) (hr : t.val / 4 = r) (hk : t.val % 4 = k) :
    blockProduct (side m c t) (iblk m c 2 t) q = ∑ x ∈ Finset.range 1408, term m c (2048 * r + (q 0).val) (q 1).val (1408 * k + x) := by
  subst hr hk
  refine blockProduct_sum _ _ q (fun x => beside 2816 (ent (gate m c)) (ent (value m c)) (2048 * (t.val / 4) + (q 0).val) (1408 * (t.val % 4) + x))
    (fun x => ent3 (weight m c) 0 (q 1).val (1408 * (t.val % 4) + x)) (fun p hp => ?_) (fun p hp => ?_)
  · rw [side_eq, hp]
  · rw [iblk_2, hp]

/-- A run's first point. -/
theorem first_eq (t : Fin cfg0.N) (h0 : t.val % 4 = 0) :
    (outsAt0 m c t.val t.isLt).2 = blockProduct (side m c t) (iblk m c 2 t) := by
  unfold side
  rw [if_pos (by omega), outsAt0_A m c t h0 (by omega) (by omega) (by omega)]
  dsimp only
  rw [first]

/-- A run's middle points. -/
theorem later_eq (t : Fin cfg0.N) (h0 : ¬t.val % 4 = 0) (h3 : ¬t.val % 4 = 3) :
    (outsAt0 m c t.val t.isLt).2 = addf (F := Ideal) (φ := .f32) (outsAt0 m c (t.val - 1) (by omega)).2 (blockProduct (side m c t) (iblk m c 2 t)) := by
  unfold side
  by_cases ht : t.val % 4 < 2
  · rw [if_pos ht, outsAt0_B m c t h0 (by omega) (by omega) h3]
    dsimp only
    rw [later_left]
  · rw [if_neg ht, outsAt0_C m c t h0 (by omega) (by omega) h3]
    dsimp only
    rw [later_right]

/-- A run's last point. -/
theorem last_eq (t : Fin cfg0.N) (h3 : t.val % 4 = 3) :
    (outsAt0 m c t.val t.isLt).1 = addf (F := Ideal) (φ := .f32) (outsAt0 m c (t.val - 1) (by omega)).2 (blockProduct (side m c t) (iblk m c 2 t)) := by
  unfold side
  rw [if_neg (by omega), outsAt0_D m c t (by omega) (by omega) (by omega) h3]
  dsimp only
  rw [last]

/-- After `k + 1` shares of a run the accumulator holds the sum over their columns. -/
theorem acc_eq (q : S2048x1024.Idx) (r : ℕ) : ∀ (k : ℕ) (hk : k < 3) (h : 4 * r + k < cfg0.N),
    (outsAt0 m c (4 * r + k) h).2 q = ∑ x ∈ Finset.range (1408 * (k + 1)), term m c (2048 * r + (q 0).val) (q 1).val x
  | 0, _, h => by
    rw [first_eq m c ⟨4 * r + 0, h⟩ (by show (4 * r + 0) % 4 = 0; omega)]
    refine (block_eq m c ⟨4 * r + 0, h⟩ q r 0 (by show (4 * r + 0) / 4 = r; omega) (by show (4 * r + 0) % 4 = 0; omega)).trans ?_
    simp only [Nat.mul_zero, Nat.zero_add, Nat.mul_one]
  | k + 1, hk, h => by
    have ih := acc_eq q r k (by omega) (by omega)
    rw [later_eq m c ⟨4 * r + (k + 1), h⟩ (by show ¬(4 * r + (k + 1)) % 4 = 0; omega) (by show ¬(4 * r + (k + 1)) % 4 = 3; omega)]
    exact acc_succ _ 1408 (k + 1) ih
      (block_eq m c ⟨4 * r + (k + 1), h⟩ q r (k + 1) (by show (4 * r + (k + 1)) / 4 = r; omega) (by show (4 * r + (k + 1)) % 4 = k + 1; omega))

/-- What a run's last point writes out: the sum over all columns. -/
theorem out_eq (q : S2048x1024.Idx) (r : ℕ) (h : 4 * r + 3 < cfg0.N) :
    (outsAt0 m c (4 * r + 3) h).1 q = ∑ x ∈ Finset.range 5632, term m c (2048 * r + (q 0).val) (q 1).val x := by
  rw [last_eq m c ⟨4 * r + 3, h⟩ (by show (4 * r + 3) % 4 = 3; omega)]
  exact acc_succ _ 1408 3 (acc_eq m c q r 2 (by decide) (by omega))
    (block_eq m c ⟨4 * r + 3, h⟩ q r 3 (by show (4 * r + 3) / 4 = r; omega) (by show (4 * r + 3) % 4 = 3; omega))

/-- The result array, entry by entry. -/
theorem G3_eq (i : S16384x1024.Idx) : G3 m c i = ∑ x ∈ Finset.range 5632, term m c (i 0).val (i 1).val x := by
  have h0 : (i 0).val < 16384 := (i 0).isLt
  have h1 : (i 1).val < 1024 := (i 1).isLt
  have hN : cfg0.N = 32 := N_0
  have hp : pt3Of i < cfg0.N := by
    rw [hN]
    show 4 * (1 * ((i 0).val / 2048 - 0) + 1 * ((i 1).val / 1024 - 0)) + 3 < 32
    omega
  unfold G3
  rw [dif_pos hp, ← outsAt0_sweep m c (pt3Of i) hp, out_eq]
  have e0 : 2048 * run3Of i + (loc3Of i 0).val = (i 0).val := by
    show 2048 * (1 * ((i 0).val / 2048 - 0) + 1 * ((i 1).val / 1024 - 0)) + (i 0).val % 2048 = _
    omega
  have e1 : (loc3Of i 1).val = (i 1).val := Nat.mod_eq_of_lt h1
  rw [e0, e1]

end Cert.UpHIdeal.Product

/-! ## The reference -/

namespace Cert.UpHRefIdeal.Product

open Cert.UpHRefIdeal Cert.UpHRefIdeal.Gen Cert.UpHRefIdeal.Read Cert.Products
open Idealize.ShloMosaic Idealize.ShloMosaic.TcCoe Idealize.ShloMosaic.ValueIdx
open scoped BigOperators

theorem sides (x y : (⟨S16384x2816, .bf16⟩ : BufTy).Contents (Elt Ideal)) (i : S16384x5632.Idx) :
    val_main_v1 (F := Ideal) x y i = beside 2816 (ent x) (ent y) (i 0).val (i 1).val :=
  concat_ent x y concatenates_S16384x2816_S16384x2816_S16384x5632_d1 rfl i

theorem weight (w : (⟨S2x1024x5632, .f32⟩ : BufTy).Contents (Elt Ideal)) (i : S1024x5632.Idx) :
    val_main_v4 (F := Ideal) w i = ent3 w 0 (i 0).val (i 1).val := by
  have h0 : (i 0).val < 1024 := (i 0).isLt
  have h1 : (i 1).val < 5632 := (i 1).isLt
  rw [val_main_v4_apply, val_main_v3_apply]
  refine ent3_eq w _ rfl ?_ ?_
  · show ((i 0).val * 5632 + (i 1).val) / 5632 % 1024 = _
    omega
  · show ((i 0).val * 5632 + (i 1).val) % 5632 = _
    omega

theorem result_eq (x y : (⟨S16384x2816, .bf16⟩ : BufTy).Contents (Elt Ideal)) (w : (⟨S2x1024x5632, .f32⟩ : BufTy).Contents (Elt Ideal)) (i : S16384x1024.Idx) :
    val_main_v7 (F := Ideal) x y w i = ∑ k ∈ Finset.range 5632, beside 2816 (ent x) (ent y) (i 0).val k * ent3 w 0 (i 1).val k := by
  rw [val_main_v7_apply]
  show val_main_v6 (F := Ideal) x y w i = _
  rw [val_main_v6_apply, Finset.sum_range]
  exact Finset.sum_congr rfl fun k _ => congrArg₂ (· * ·) (sides x y _) (weight w _)

end Cert.UpHRefIdeal.Product

end
-- ==== Proof.UpH1Value.lean ====
module

public import proofs.«01_k».proof.Proof.Products
public import proofs.«01_k».proof.Proof.Gen.UpH1Ideal.Value
public import proofs.«01_k».proof.Proof.Gen.UpH1RefIdeal.Run
public import proofs.«01_k».proof.Proof.Gen.UpH1RefIdeal.Read

@[expose] public section

/-! The gradient that goes back through the feed-forward block's first product (second layer): the left operand's columns come from
    two arrays, the gate's half and the value's half, the weight comes as four shares of 1408 columns, and the product is accumulated over
    the four shares. It is the reference's one product with the two arrays side by side. -/

set_option maxRecDepth 16384

noncomputable section

namespace Cert.UpH1Ideal.Product

open Cert.UpH1Ideal Cert.UpH1Ideal.Gen Cert.UpH1Ideal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-! ## One block -/

/-- The product of a block of rows with one share of the weight. -/
abbrev blockProduct (x : Vec Ideal S2048x1408 .bf16) (w : Vec Ideal S1x1024x1408 .bf16) : FVec Ideal S2048x1024 .f32 :=
  matmul (F := Ideal) (φ₁ := .bf16) (φ₂ := .bf16) dot_S2048x1408_S1024x1408_S2048x1024_1_1_0_0_n_n none x
    (shapeCast S1024x1408 w shapeCasts_S1x1024x1408_S1024x1408) (constant S2048x1024 .f32 0x00000000#32)

section
variable (c : Dev nD) (i : grid0.Coords) (a3 : Memref sig .tc .vmem S2048x1408 .bf16) (h3 : a3.IsWhole)
  (a4 : Memref sig .tc .vmem S2048x1408 .bf16) (h4 : a4.IsWhole) (a5 : Memref sig .tc .vmem S1x1024x1408 .bf16) (h5 : a5.IsWhole)
  (a6 : Memref sig .tc .vmem S2048x1024 .bf16) (h6 : a6.IsWhole) (a7 : Memref sig .tc .vmem S2048x1024 .f32) (h7 : a7.IsWhole)
  (x y : Vec Ideal S2048x1408 .bf16) (w : Vec Ideal S1x1024x1408 .bf16) (acc : Vec Ideal S2048x1024 .f32)

/-- The first share's product starts the accumulator. -/
theorem first (hc0 : cond0_0 i) (hc1 : ¬cond0_1 i) (hc2 : ¬cond0_2 i) (hc3 : ¬cond0_3 i) :
    sout0_A_0 (F := Ideal) c i a3 h3 a4 h4 a5 h5 a6 h6 a7 h7 hc0 hc1 hc2 hc3 x y w = blockProduct x w := by
  unfold sout0_A_0
  rw [View.read_writes_eq_canon _ _ _ (scover0_A_0 c i a3 h3 a4 h4 a5 h5 a6 h6 a7 h7 hc0 hc1 hc2 hc3 x y w)]
  unfold kernelRun0_A
  dsimp only
  rw [View.canon_unit_zero (S := S2048x1024) hz]
  unfold k0_pay1
  simp only [View.readAt_eq_ld, h3.read_unread, h5.read_unread, View.ld_unit_zero (S := S2048x1408) hz, View.ld_unit_zero (S := S1x1024x1408) hz3, shapeCast_self]

/-- The second share, still over the gate's half. -/
theorem later_left (hc0 : ¬cond0_0 i) (hc1 : cond0_1 i) (hc2 : ¬cond0_2 i) (hc3 : ¬cond0_3 i) :
    sout0_B_0 (F := Ideal) c i a3 h3 a4 h4 a5 h5 a6 h6 a7 h7 hc0 hc1 hc2 hc3 x y w acc = addf (F := Ideal) (φ := .f32) acc (blockProduct x w) := by
  unfold sout0_B_0
  rw [View.read_writes_eq_canon _ _ _ (scover0_B_0 c i a3 h3 a4 h4 a5 h5 a6 h6 a7 h7 hc0 hc1 hc2 hc3 x y w acc)]
  unfold kernelRun0_B
  dsimp only
  rw [View.canon_unit_zero (S := S2048x1024) hz]
  unfold k0_pay2
  simp only [View.readAt_eq_ld, h3.read_unread, h5.read_unread, h7.read_unread, View.ld_unit_zero (S := S2048x1408) hz, View.ld_unit_zero (S := S1x1024x1408) hz3, View.ld_unit_zero (S := S2048x1024) hz, shapeCast_self]

/-- The third share, over the value's half. -/
theorem later_right (hc0 : ¬cond0_0 i) (hc1 : ¬cond0_1 i) (hc2 : cond0_2 i) (hc3 : ¬cond0_3 i) :
    sout0_C_0 (F := Ideal) c i a3 h3 a4 h4 a5 h5 a6 h6 a7 h7 hc0 hc1 hc2 hc3 x y w acc = addf (F := Ideal) (φ := .f32) acc (blockProduct y w) := by
  unfold sout0_C_0
  rw [View.read_writes_eq_canon _ _ _ (scover0_C_0 c i a3 h3 a4 h4 a5 h5 a6 h6 a7 h7 hc0 hc1 hc2 hc3 x y w acc)]
  unfold kernelRun0_C
  dsimp only
  rw [View.canon_unit_zero (S := S2048x1024) hz]
  unfold k0_pay3
  simp only [View.readAt_eq_ld, h4.read_unread, h5.read_unread, h7.read_unread, View.ld_unit_zero (S := S2048x1408) hz, View.ld_unit_zero (S := S1x1024x1408) hz3, View.ld_unit_zero (S := S2048x1024) hz, shapeCast_self]

/-- The last share adds its product and the sum is written out. -/
theorem last (hc0 : ¬cond0_0 i) (hc1 : ¬cond0_1 i) (hc2 : cond0_2 i) (hc3 : cond0_3 i) :
    out0_D_3 (F := Ideal) c i a3 h3 a4 h4 a5 h5 a6 h6 a7 h7 hc0 hc1 hc2 hc3 x y w acc = addf (F := Ideal) (φ := .f32) acc (blockProduct y w) := by
  unfold out0_D_3
  rw [View.read_writes_eq_canon _ _ _ (cover0_D_3 c i a3 h3 a4 h4 a5 h5 a6 h6 a7 h7 hc0 hc1 hc2 hc3 x y w acc)]
  unfold kernelRun0_D
  dsimp only
  sl_unfold_words
  rw [View.canon_unit_zero (S := S2048x1024) hz, View.readCov_unit_zero (S := S2048x1024) _ hz]
  unfold k0_pay4 k0_pay3
  simp only [View.readAt_eq_ld, h4.read_unread, h5.read_unread, h7.read_unread, View.ld_unit_zero (S := S2048x1408) hz, View.ld_unit_zero (S := S1x1024x1408) hz3, View.ld_unit_zero (S := S2048x1024) hz, shapeCast_self]
  rfl
end

theorem blockProduct_sum (x : Vec Ideal S2048x1408 .bf16) (w : Vec Ideal S1x1024x1408 .bf16) (q : S2048x1024.Idx) (f g : ℕ → EReal)
    (hf : ∀ p : S2048x1408.Idx, (p 0).val = (q 0).val → x p = f (p 1).val)
    (hg : ∀ p : S1x1024x1408.Idx, (p 1).val = (q 1).val → w p = g (p 2).val) :
    blockProduct x w q = ∑ k ∈ Finset.range 1408, f k * g k := by
  refine matmul_sum dot_S2048x1408_S1024x1408_S2048x1024_1_1_0_0_n_n 1408 rfl rfl x _ q f g (fun k => (hf _ rfl).trans rfl) (fun k => ?_)
  refine (dropPlane_apply w shapeCasts_S1x1024x1408_S1024x1408 _).trans ((hg _ rfl).trans rfl)

/-! ## A point's blocks -/

variable (m : (ℓ : Loc nD τ sig) → Buf (Elt Ideal) ℓ) (c : Dev nD)

abbrev gate : Vec Ideal S16384x2816 .bf16 := m ((c : Thread nD τ).loc main_arg0)
abbrev value : Vec Ideal S16384x2816 .bf16 := m ((c : Thread nD τ).loc main_arg1)
abbrev weight : Vec Ideal S2x1024x5632 .f32 := m ((c : Thread nD τ).loc main_arg2)

theorem index0 : ∀ t : Fin cfg0.N, t.val % 4 < 2 → win0_0.index t 0 = t.val / 4 ∧ win0_0.index t 1 = t.val % 4 :=
  (by decide +kernel : ∀ t : Fin grid0.N, t.val % 4 < 2 → win0_0.index t 0 = t.val / 4 ∧ win0_0.index t 1 = t.val % 4)
theorem index1 : ∀ t : Fin cfg0.N, 2 ≤ t.val % 4 → win0_1.index t 0 = t.val / 4 ∧ win0_1.index t 1 = t.val % 4 - 2 :=
  (by decide +kernel : ∀ t : Fin grid0.N, 2 ≤ t.val % 4 → win0_1.index t 0 = t.val / 4 ∧ win0_1.index t 1 = t.val % 4 - 2)
theorem index2 : ∀ t : Fin cfg0.N, win0_2.index t 0 = t.val % 4 ∧ win0_2.index t 1 = 1 ∧ win0_2.index t 2 = 0 :=
  (by decide +kernel : ∀ t : Fin grid0.N, win0_2.index t 0 = t.val % 4 ∧ win0_2.index t 1 = 1 ∧ win0_2.index t 2 = 0)

theorem iblk_0 (t : Fin cfg0.N) (ht : t.val % 4 < 2) (p : S2048x1408.Idx) :
    (iblk m c 0 t : Vec Ideal S2048x1408 .bf16) p = ent (gate m c) (2048 * (t.val / 4) + (p 0).val) (1408 * (t.val % 4) + (p 1).val) := by
  obtain ⟨e0, e1⟩ := index0 t ht
  refine Eq.trans ?_ (ent_eq (gate m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1408 + 1 * (p 1).val = _
    rw [e1]; omega

theorem iblk_1 (t : Fin cfg0.N) (ht : 2 ≤ t.val % 4) (p : S2048x1408.Idx) :
    (iblk m c 1 t : Vec Ideal S2048x1408 .bf16) p = ent (value m c) (2048 * (t.val / 4) + (p 0).val) (1408 * (t.val % 4) + (p 1).val - 2816) := by
  obtain ⟨e0, e1⟩ := index1 t ht
  refine Eq.trans ?_ (ent_eq (value m c) (((cfg0.win 1).blk t).view.emb p) ?_ ?_)
  · show V m c main_arg1 _ = _
    rw [V_main_arg1 m c]
  · show win0_1.index t 0 * 2048 + 1 * (p 0).val = _
    rw [e0]; omega
  · show win0_1.index t 1 * 1408 + 1 * (p 1).val = _
    rw [e1]; omega

/-- The weight as the grid finds it: the host lays the columns out as four shares, and its narrowing is exact on ideal values. -/
theorem shares (q : S4x2048x1408.Idx) :
    (V m c main_v2 : Vec Ideal S4x2048x1408 .bf16) q = ent3 (weight m c) ((q 1).val / 1024) ((q 1).val % 1024) (1408 * (q 0).val + (q 2).val) :=
  shares_apply (weight m c) shapeCasts_S2x1024x5632_S2048x4x1408 transposes_S2048x4x1408_S4x2048x1408_1_0_2 rfl rfl q

theorem iblk_2 (t : Fin cfg0.N) (p : S1x1024x1408.Idx) :
    (iblk m c 2 t : Vec Ideal S1x1024x1408 .bf16) p = ent3 (weight m c) 1 (p 1).val (1408 * (t.val % 4) + (p 2).val) := by
  obtain ⟨e0, e1, e2⟩ := index2 t
  have hp : (p 0).val < 1 := (p 0).isLt
  have hp1 : (p 1).val < 1024 := (p 1).isLt
  refine (shares m c (((cfg0.win 2).blk t).view.emb p)).trans ?_
  show ent3 _ ((win0_2.index t 1 * 1024 + 1 * (p 1).val) / 1024) ((win0_2.index t 1 * 1024 + 1 * (p 1).val) % 1024)
    (1408 * (win0_2.index t 0 * 1 + 1 * (p 0).val) + (win0_2.index t 2 * 1408 + 1 * (p 2).val)) = _
  rw [e0, e1, e2, show (1 * 1024 + 1 * (p 1).val) / 1024 = 1 by omega, show (1 * 1024 + 1 * (p 1).val) % 1024 = (p 1).val by omega,
    show 1408 * (t.val % 4 * 1 + 1 * (p 0).val) + (0 * 1408 + 1 * (p 2).val) = 1408 * (t.val % 4) + (p 2).val by omega]

/-! ## The accumulator -/

/-- The terms of the product's entry at row `i`, column `j`. -/
def term (i j k : ℕ) : EReal := beside 2816 (ent (gate m c)) (ent (value m c)) i k * ent3 (weight m c) 1 j k

/-- The block of columns a point reads. -/
abbrev side (t : Fin cfg0.N) : Vec Ideal S2048x1408 .bf16 := if t.val % 4 < 2 then iblk m c 0 t else iblk m c 1 t

theorem side_eq (t : Fin cfg0.N) (p : S2048x1408.Idx) :
    side m c t p = beside 2816 (ent (gate m c)) (ent (value m c)) (2048 * (t.val / 4) + (p 0).val) (1408 * (t.val % 4) + (p 1).val) := by
  have hp : (p 1).val < 1408 := (p 1).isLt
  unfold side beside
  by_cases ht : t.val % 4 < 2
  · rw [if_pos ht, if_pos (by omega), iblk_0 m c t ht]
  · rw [if_neg ht, if_neg (by omega), iblk_1 m c t (Nat.le_of_not_lt ht)]

theorem block_eq (t : Fin cfg0.N) (q : S2048x1024.Idx) (r k : ℕ) (hr : t.val / 4 = r) (hk : t.val % 4 = k) :
    blockProduct (side m c t) (iblk m c 2 t) q = ∑ x ∈ Finset.range 1408, term m c (2048 * r + (q 0).val) (q 1).val (1408 * k + x) := by
  subst hr hk
  refine blockProduct_sum _ _ q (fun x => beside 2816 (ent (gate m c)) (ent (value m c)) (2048 * (t.val / 4) + (q 0).val) (1408 * (t.val % 4) + x))
    (fun x => ent3 (weight m c) 1 (q 1).val (1408 * (t.val % 4) + x)) (fun p hp => ?_) (fun p hp => ?_)
  · rw [side_eq, hp]
  · rw [iblk_2, hp]

/-- A run's first point. -/
theorem first_eq (t : Fin cfg0.N) (h0 : t.val % 4 = 0) :
    (outsAt0 m c t.val t.isLt).2 = blockProduct (side m c t) (iblk m c 2 t) := by
  unfold side
  rw [if_pos (by omega), outsAt0_A m c t h0 (by omega) (by omega) (by omega)]
  dsimp only
  rw [first]

/-- A run's middle points. -/
theorem later_eq (t : Fin cfg0.N) (h0 : ¬t.val % 4 = 0) (h3 : ¬t.val % 4 = 3) :
    (outsAt0 m c t.val t.isLt).2 = addf (F := Ideal) (φ := .f32) (outsAt0 m c (t.val - 1) (by omega)).2 (blockProduct (side m c t) (iblk m c 2 t)) := by
  unfold side
  by_cases ht : t.val % 4 < 2
  · rw [if_pos ht, outsAt0_B m c t h0 (by omega) (by omega) h3]
    dsimp only
    rw [later_left]
  · rw [if_neg ht, outsAt0_C m c t h0 (by omega) (by omega) h3]
    dsimp only
    rw [later_right]

/-- A run's last point. -/
theorem last_eq (t : Fin cfg0.N) (h3 : t.val % 4 = 3) :
    (outsAt0 m c t.val t.isLt).1 = addf (F := Ideal) (φ := .f32) (outsAt0 m c (t.val - 1) (by omega)).2 (blockProduct (side m c t) (iblk m c 2 t)) := by
  unfold side
  rw [if_neg (by omega), outsAt0_D m c t (by omega) (by omega) (by omega) h3]
  dsimp only
  rw [last]

/-- After `k + 1` shares of a run the accumulator holds the sum over their columns. -/
theorem acc_eq (q : S2048x1024.Idx) (r : ℕ) : ∀ (k : ℕ) (hk : k < 3) (h : 4 * r + k < cfg0.N),
    (outsAt0 m c (4 * r + k) h).2 q = ∑ x ∈ Finset.range (1408 * (k + 1)), term m c (2048 * r + (q 0).val) (q 1).val x
  | 0, _, h => by
    rw [first_eq m c ⟨4 * r + 0, h⟩ (by show (4 * r + 0) % 4 = 0; omega)]
    refine (block_eq m c ⟨4 * r + 0, h⟩ q r 0 (by show (4 * r + 0) / 4 = r; omega) (by show (4 * r + 0) % 4 = 0; omega)).trans ?_
    simp only [Nat.mul_zero, Nat.zero_add, Nat.mul_one]
  | k + 1, hk, h => by
    have ih := acc_eq q r k (by omega) (by omega)
    rw [later_eq m c ⟨4 * r + (k + 1), h⟩ (by show ¬(4 * r + (k + 1)) % 4 = 0; omega) (by show ¬(4 * r + (k + 1)) % 4 = 3; omega)]
    exact acc_succ _ 1408 (k + 1) ih
      (block_eq m c ⟨4 * r + (k + 1), h⟩ q r (k + 1) (by show (4 * r + (k + 1)) / 4 = r; omega) (by show (4 * r + (k + 1)) % 4 = k + 1; omega))

/-- What a run's last point writes out: the sum over all columns. -/
theorem out_eq (q : S2048x1024.Idx) (r : ℕ) (h : 4 * r + 3 < cfg0.N) :
    (outsAt0 m c (4 * r + 3) h).1 q = ∑ x ∈ Finset.range 5632, term m c (2048 * r + (q 0).val) (q 1).val x := by
  rw [last_eq m c ⟨4 * r + 3, h⟩ (by show (4 * r + 3) % 4 = 3; omega)]
  exact acc_succ _ 1408 3 (acc_eq m c q r 2 (by decide) (by omega))
    (block_eq m c ⟨4 * r + 3, h⟩ q r 3 (by show (4 * r + 3) / 4 = r; omega) (by show (4 * r + 3) % 4 = 3; omega))

/-- The result array, entry by entry. -/
theorem G3_eq (i : S16384x1024.Idx) : G3 m c i = ∑ x ∈ Finset.range 5632, term m c (i 0).val (i 1).val x := by
  have h0 : (i 0).val < 16384 := (i 0).isLt
  have h1 : (i 1).val < 1024 := (i 1).isLt
  have hN : cfg0.N = 32 := N_0
  have hp : pt3Of i < cfg0.N := by
    rw [hN]
    show 4 * (1 * ((i 0).val / 2048 - 0) + 1 * ((i 1).val / 1024 - 0)) + 3 < 32
    omega
  unfold G3
  rw [dif_pos hp, ← outsAt0_sweep m c (pt3Of i) hp, out_eq]
  have e0 : 2048 * run3Of i + (loc3Of i 0).val = (i 0).val := by
    show 2048 * (1 * ((i 0).val / 2048 - 0) + 1 * ((i 1).val / 1024 - 0)) + (i 0).val % 2048 = _
    omega
  have e1 : (loc3Of i 1).val = (i 1).val := Nat.mod_eq_of_lt h1
  rw [e0, e1]

end Cert.UpH1Ideal.Product

/-! ## The reference -/

namespace Cert.UpH1RefIdeal.Product

open Cert.UpH1RefIdeal Cert.UpH1RefIdeal.Gen Cert.UpH1RefIdeal.Read Cert.Products
open Idealize.ShloMosaic Idealize.ShloMosaic.TcCoe Idealize.ShloMosaic.ValueIdx
open scoped BigOperators

theorem sides (x y : (⟨S16384x2816, .bf16⟩ : BufTy).Contents (Elt Ideal)) (i : S16384x5632.Idx) :
    val_main_v1 (F := Ideal) x y i = beside 2816 (ent x) (ent y) (i 0).val (i 1).val :=
  concat_ent x y concatenates_S16384x2816_S16384x2816_S16384x5632_d1 rfl i

theorem weight (w : (⟨S2x1024x5632, .f32⟩ : BufTy).Contents (Elt Ideal)) (i : S1024x5632.Idx) :
    val_main_v4 (F := Ideal) w i = ent3 w 1 (i 0).val (i 1).val := by
  have h0 : (i 0).val < 1024 := (i 0).isLt
  have h1 : (i 1).val < 5632 := (i 1).isLt
  rw [val_main_v4_apply, val_main_v3_apply]
  refine ent3_eq w _ rfl ?_ ?_
  · show ((i 0).val * 5632 + (i 1).val) / 5632 % 1024 = _
    omega
  · show ((i 0).val * 5632 + (i 1).val) % 5632 = _
    omega

theorem result_eq (x y : (⟨S16384x2816, .bf16⟩ : BufTy).Contents (Elt Ideal)) (w : (⟨S2x1024x5632, .f32⟩ : BufTy).Contents (Elt Ideal)) (i : S16384x1024.Idx) :
    val_main_v7 (F := Ideal) x y w i = ∑ k ∈ Finset.range 5632, beside 2816 (ent x) (ent y) (i 0).val k * ent3 w 1 (i 1).val k := by
  rw [val_main_v7_apply]
  show val_main_v6 (F := Ideal) x y w i = _
  rw [val_main_v6_apply, Finset.sum_range]
  exact Finset.sum_congr rfl fun k _ => congrArg₂ (· * ·) (sides x y _) (weight w _)

end Cert.UpH1RefIdeal.Product

end
-- ==== Proof.DownWValue.lean ====
module

public import proofs.«01_k».proof.Proof.Products
public import proofs.«01_k».proof.Proof.Gen.DownWIdeal.Value
public import proofs.«01_k».proof.Proof.Gen.DownWRefIdeal.Run
public import proofs.«01_k».proof.Proof.Gen.DownWRefIdeal.Read

@[expose] public section

/-! The gradient of the feed-forward block's second weight: the product over all rows, accumulated over eight blocks of 2048 rows,
    is the reference's one product. -/

set_option maxRecDepth 16384

noncomputable section

namespace Cert.DownWIdeal.Product

open Cert.DownWIdeal Cert.DownWIdeal.Gen Cert.DownWIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-! ## One block -/

/-- The product of two blocks of rows, contracted over the rows. -/
abbrev blockProduct (x : Vec Ideal S2048x1408 .bf16) (y : Vec Ideal S2048x1024 .bf16) : FVec Ideal S1408x1024 .f32 :=
  matmul (F := Ideal) (φ₁ := .bf16) (φ₂ := .bf16) dot_S2048x1408_S2048x1024_S1408x1024_0_0_1_1_n_n none x y (constant S1408x1024 .f32 0x00000000#32)

abbrev zeros : FVec Ideal S1408x1024 .f32 := broadcast S1408x1024 (Scalar.ofBits (F := Ideal) .f32 0x00000000#32)

section
variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .bf16) (h5 : a5.IsWhole)
  (a6 : Memref sig .tc .vmem S1408x1024 .f32) (h6 : a6.IsWhole)
  (x : Vec Ideal S2048x1408 .bf16) (y : Vec Ideal S2048x1024 .bf16) (acc : Vec Ideal S1408x1024 .f32)

/-- The first block of a run starts the accumulator from zeros. -/
theorem first (hc0 : cond0_0 i) (hc1 : ¬cond0_1 i) :
    sout0_A_0 (F := Ideal) c i a3 h3 a4 h4 a5 h5 a6 h6 hc0 hc1 x y = addf (F := Ideal) (φ := .f32) zeros (blockProduct x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  unfold k0_pay2 k0_pay1
  simp only [View.readAt_eq_ld, h3.read_unread, h4.read_unread, View.ld_unit_zero (S := S2048x1408) hz, View.ld_unit_zero (S := S2048x1024) hz, shapeCast_self]

/-- A later block adds its product. -/
theorem later (hc0 : ¬cond0_0 i) (hc1 : ¬cond0_1 i) :
    sout0_B_0 (F := Ideal) c i a3 h3 a4 h4 a5 h5 a6 h6 hc0 hc1 x y acc = addf (F := Ideal) (φ := .f32) acc (blockProduct x y) := by
  unfold sout0_B_0
  rw [View.read_writes_eq_canon _ _ _ (scover0_B_0 c i a3 h3 a4 h4 a5 h5 a6 h6 hc0 hc1 x y acc)]
  unfold kernelRun0_B
  dsimp only
  rw [View.canon_unit_zero (S := S1408x1024) hz]
  unfold k0_pay2
  simp only [View.readAt_eq_ld, h3.read_unread, h4.read_unread, h6.read_unread, View.ld_unit_zero (S := S2048x1408) hz, View.ld_unit_zero (S := S2048x1024) hz, View.ld_unit_zero (S := S1408x1024) hz, shapeCast_self]

/-- The last block adds its product and writes the sum out. -/
theorem last (hc0 : ¬cond0_0 i) (hc1 : cond0_1 i) :
    out0_C_2 (F := Ideal) c i a3 h3 a4 h4 a5 h5 a6 h6 hc0 hc1 x y acc = addf (F := Ideal) (φ := .f32) acc (blockProduct x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero (S := S1408x1024) hz, View.readCov_unit_zero (S := S1408x1024) _ hz]
  unfold k0_pay3 k0_pay2
  simp only [View.readAt_eq_ld, h3.read_unread, h4.read_unread, h6.read_unread, View.ld_unit_zero (S := S2048x1408) hz, View.ld_unit_zero (S := S2048x1024) hz, View.ld_unit_zero (S := S1408x1024) hz, shapeCast_self]
  rfl
end

theorem blockProduct_sum (x : Vec Ideal S2048x1408 .bf16) (y : Vec Ideal S2048x1024 .bf16) (q : S1408x1024.Idx) (f g : ℕ → EReal)
    (hf : ∀ p : S2048x1408.Idx, (p 1).val = (q 0).val → x p = f (p 0).val) (hg : ∀ p : S2048x1024.Idx, (p 1).val = (q 1).val → y p = g (p 0).val) :
    blockProduct x y q = ∑ k ∈ Finset.range 2048, f k * g k :=
  matmul_sum dot_S2048x1408_S2048x1024_S1408x1024_0_0_1_1_n_n 2048 rfl rfl x y q f g
    (fun k => (hf _ rfl).trans rfl) (fun k => (hg _ rfl).trans rfl)

/-! ## A point's blocks -/

variable (m : (ℓ : Loc nD τ sig) → Buf (Elt Ideal) ℓ) (c : Dev nD)

abbrev lhs : Vec Ideal S16384x2816 .bf16 := m ((c : Thread nD τ).loc main_arg0)
abbrev rhs : Vec Ideal S16384x1024 .bf16 := m ((c : Thread nD τ).loc main_arg1)

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)

theorem iblk_0 (t : Fin cfg0.N) (p : S2048x1408.Idx) :
    (iblk m c 0 t : Vec Ideal S2048x1408 .bf16) p = ent (lhs m c) (2048 * (t.val % 8) + (p 0).val) (1408 * (t.val / 8) + (p 1).val) := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1408 + 1 * (p 1).val = _
    rw [e1]; omega

theorem iblk_1 (t : Fin cfg0.N) (p : S2048x1024.Idx) :
    (iblk m c 1 t : Vec Ideal S2048x1024 .bf16) p = ent (rhs m c) (2048 * (t.val % 8) + (p 0).val) (p 1).val := by
  obtain ⟨e0, e1⟩ := index1 t
  refine Eq.trans ?_ (ent_eq (rhs m c) (((cfg0.win 1).blk t).view.emb p) ?_ ?_)
  · show V m c main_arg1 _ = _
    rw [V_main_arg1 m c]
  · show win0_1.index t 0 * 2048 + 1 * (p 0).val = _
    rw [e0]; omega
  · show win0_1.index t 1 * 1024 + 1 * (p 1).val = _
    rw [e1]; omega

/-! ## The accumulator -/

/-- The terms of the product's entry at row `i`, column `j`. -/
def term (i j k : ℕ) : EReal := ent (lhs m c) k i * ent (rhs m c) k j

theorem block_eq (t : Fin cfg0.N) (q : S1408x1024.Idx) (r k : ℕ) (hr : t.val / 8 = r) (hk : t.val % 8 = k) :
    blockProduct (iblk m c 0 t) (iblk m c 1 t) q = ∑ x ∈ Finset.range 2048, term m c (1408 * r + (q 0).val) (q 1).val (2048 * k + x) := by
  subst hr hk
  refine blockProduct_sum _ _ q (fun x => ent (lhs m c) (2048 * (t.val % 8) + x) (1408 * (t.val / 8) + (q 0).val))
    (fun x => ent (rhs m c) (2048 * (t.val % 8) + x) (q 1).val) (fun p hp => ?_) (fun p hp => ?_)
  · rw [iblk_0, hp]
  · rw [iblk_1, hp]

/-- After `k + 1` blocks of a run the accumulator holds the sum over their rows. -/
theorem acc_eq (q : S1408x1024.Idx) (r : ℕ) : ∀ (k : ℕ) (hk : k < 7) (h : 8 * r + k < cfg0.N),
    (outsAt0 m c (8 * r + k) h).2 q = ∑ x ∈ Finset.range (2048 * (k + 1)), term m c (1408 * r + (q 0).val) (q 1).val x
  | 0, _, h => by
    rw [outsAt0_A m c ⟨8 * r + 0, h⟩ (by show (8 * r + 0) % 8 = 0; omega) (by show ¬(8 * r + 0) % 8 = 7; omega)]
    dsimp only
    rw [first]
    show Ideal.ofBits .f32 0x00000000#32 + blockProduct _ _ q = _
    rw [ofBits_zero]
    refine acc_zero _ 2048 ((block_eq m c ⟨8 * r + 0, h⟩ q r 0 (by show (8 * r + 0) / 8 = r; omega) (by show (8 * r + 0) % 8 = 0; omega)).trans ?_)
    simp only [Nat.mul_zero, Nat.zero_add]
  | k + 1, hk, h => by
    have ih := acc_eq q r k (by omega) (by omega)
    rw [outsAt0_B m c ⟨8 * r + (k + 1), h⟩ (by show ¬(8 * r + (k + 1)) % 8 = 0; omega) (by show ¬(8 * r + (k + 1)) % 8 = 7; omega)]
    dsimp only
    rw [later]
    exact acc_succ _ 2048 (k + 1) ih
      (block_eq m c ⟨8 * r + (k + 1), h⟩ q r (k + 1) (by show (8 * r + (k + 1)) / 8 = r; omega) (by show (8 * r + (k + 1)) % 8 = k + 1; omega))

/-- What a run's last point writes out: the sum over all rows. -/
theorem out_eq (q : S1408x1024.Idx) (r : ℕ) (h : 8 * r + 7 < cfg0.N) :
    (outsAt0 m c (8 * r + 7) h).1 q = ∑ x ∈ Finset.range 16384, term m c (1408 * r + (q 0).val) (q 1).val x := by
  rw [outsAt0_C m c ⟨8 * r + 7, h⟩ (by show ¬(8 * r + 7) % 8 = 0; omega) (by show (8 * r + 7) % 8 = 7; omega)]
  dsimp only
  rw [last]
  exact acc_succ _ 2048 7 (acc_eq m c q r 6 (by decide) (by omega))
    (block_eq m c ⟨8 * r + 7, h⟩ q r 7 (by show (8 * r + 7) / 8 = r; omega) (by show (8 * r + 7) % 8 = 7; omega))

/-- The result array, entry by entry. -/
theorem G2_eq (i : S2816x1024.Idx) : G2 m c i = ∑ x ∈ Finset.range 16384, term m c (i 0).val (i 1).val x := by
  have h0 : (i 0).val < 2816 := (i 0).isLt
  have h1 : (i 1).val < 1024 := (i 1).isLt
  have hN : cfg0.N = 16 := N_0
  have hp : pt2Of i < cfg0.N := by
    rw [hN]
    show 8 * (1 * ((i 0).val / 1408 - 0) + 1 * ((i 1).val / 1024 - 0)) + 7 < 16
    omega
  unfold G2
  rw [dif_pos hp, ← outsAt0_sweep m c (pt2Of i) hp, out_eq]
  have e0 : 1408 * run2Of i + (loc2Of i 0).val = (i 0).val := by
    show 1408 * (1 * ((i 0).val / 1408 - 0) + 1 * ((i 1).val / 1024 - 0)) + (i 0).val % 1408 = _
    omega
  have e1 : (loc2Of i 1).val = (i 1).val := Nat.mod_eq_of_lt h1
  rw [e0, e1]

end Cert.DownWIdeal.Product

/-! ## The reference -/

namespace Cert.DownWRefIdeal.Product

open Cert.DownWRefIdeal Cert.DownWRefIdeal.Gen Cert.DownWRefIdeal.Read Cert.Products
open Idealize.ShloMosaic Idealize.ShloMosaic.TcCoe Idealize.ShloMosaic.ValueIdx
open scoped BigOperators

theorem result_eq (x : (⟨S16384x2816, .bf16⟩ : BufTy).Contents (Elt Ideal)) (y : (⟨S16384x1024, .bf16⟩ : BufTy).Contents (Elt Ideal)) (i : S2816x1024.Idx) :
    val_main_v6 (F := Ideal) x y i = ∑ k ∈ Finset.range 16384, ent x k (i 0).val * ent y k (i 1).val := by
  rw [val_main_v6_apply]
  show val_main_v5 (F := Ideal) x y i = _
  rw [val_main_v5_apply, val_main_v4_apply, Finset.sum_range]
  refine Finset.sum_congr rfl fun k _ => (mul_comm _ _).trans ?_
  exact congrArg₂ (· * ·) (ent_eq x _ rfl rfl) (ent_eq y _ rfl rfl)

end Cert.DownWRefIdeal.Product

end
-- ==== Proof.DownHValue.lean ====
module

public import proofs.«01_k».proof.Proof.Products
public import proofs.«01_k».proof.Proof.Gen.DownHIdeal.Value
public import proofs.«01_k».proof.Proof.Gen.DownHRefIdeal.Run
public import proofs.«01_k».proof.Proof.Gen.DownHRefIdeal.Read

@[expose] public section

/-! The gradient that goes back through the feed-forward block's second product: each point computes one block of rows and columns,
    and the blocks together are the reference's one product with the transposed weight. -/

set_option maxRecDepth 16384

noncomputable section

namespace Cert.DownHIdeal.Product

open Cert.DownHIdeal Cert.DownHIdeal.Gen Cert.DownHIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-- What a point leaves in the output, at one entry. -/
theorem out_sum (x : Vec Ideal S2048x1024 .bf16) (y : Vec Ideal S1408x1024 .bf16) (q : S2048x1408.Idx) (f g : ℕ → EReal)
    (hf : ∀ p : S2048x1024.Idx, (p 0).val = (q 0).val → x p = f (p 1).val) (hg : ∀ p : S1408x1024.Idx, (p 0).val = (q 1).val → y p = g (p 1).val) :
    out0_2 (F := Ideal) x y q = ∑ k ∈ Finset.range 1024, f k * g k := by
  unfold out0_2
  rw [View.canon_unit_zero (S := S2048x1408) hz]
  unfold k0_pay1
  simp only [View.ld_unit_zero (S := S2048x1024) hz, View.ld_unit_zero (S := S1408x1024) hz, shapeCast_self]
  exact matmul_sum dot_S2048x1024_S1408x1024_S2048x1408_1_1_0_0_n_n 1024 rfl rfl x y q f g
    (fun k => (hf _ rfl).trans rfl) (fun k => (hg _ rfl).trans rfl)

variable (m : (ℓ : Loc nD τ sig) → Buf (Elt Ideal) ℓ) (c : Dev nD)

abbrev lhs : Vec Ideal S16384x1024 .bf16 := m ((c : Thread nD τ).loc main_arg0)
abbrev rhs : Vec Ideal S2816x1024 .f32 := m ((c : Thread nD τ).loc main_arg1)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem iblk_0 (t : Fin cfg0.N) (p : S2048x1024.Idx) :
    (iblk m c 0 t : Vec Ideal S2048x1024 .bf16) p = ent (lhs m c) (2048 * (t.val / 2) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host's narrowing is exact on ideal values. -/
theorem V_v0 : (V m c main_v0 : Vec Ideal S2816x1024 .bf16) = (rhs m c : S2816x1024.Idx → EReal) := rfl

theorem iblk_1 (t : Fin cfg0.N) (p : S1408x1024.Idx) :
    (iblk m c 1 t : Vec Ideal S1408x1024 .bf16) p = ent (rhs m c) (1408 * (t.val % 2) + (p 0).val) (p 1).val := by
  obtain ⟨e0, e1⟩ := index1 t
  refine Eq.trans ?_ (ent_eq (rhs m c) (((cfg0.win 1).blk t).view.emb p) ?_ ?_)
  · show (V m c main_v0 : Vec Ideal S2816x1024 .bf16) _ = _
    rw [V_v0 m c]
  · show win0_1.index t 0 * 1408 + 1 * (p 0).val = _
    rw [e0]; omega
  · show win0_1.index t 1 * 1024 + 1 * (p 1).val = _
    rw [e1]; omega

/-- The product's entry at row `i`, column `j`. -/
def entry (i j : ℕ) : EReal := ∑ k ∈ Finset.range 1024, ent (lhs m c) i k * ent (rhs m c) j k

/-- The result array. -/
abbrev result : Vec Ideal S16384x2816 .f32 := fun i => entry m c (i 0).val (i 1).val

theorem final2 : ((dats m 0 c).arrAt 2 cfg0.N : Vec Ideal S16384x2816 .f32) = result m c :=
  (dats m 0 c).arrAt_eq_of_cover 2 (result m c) (fun t _ => by
      rw [flushed2]
      funext q
      show out0_2 (F := Ideal) (iblk m c 0 t) (iblk m c 1 t) q = entry m c (win0_2.index t 0 * 2048 + 1 * (q 0).val) (win0_2.index t 1 * 1408 + 1 * (q 1).val)
      obtain ⟨e0, e1⟩ := index2 t
      rw [e0, e1, Nat.one_mul, Nat.one_mul, Nat.mul_comm _ 2048, Nat.mul_comm _ 1408]
      refine out_sum _ _ q (fun k => ent (lhs m c) (2048 * (t.val / 2) + (q 0).val) k) (fun k => ent (rhs m c) (1408 * (t.val % 2) + (q 1).val) k)
        (fun p hp => ?_) (fun p hp => ?_)
      · rw [iblk_0, hp]
      · rw [iblk_1, hp]) fun i => by
    have hN : cfg0.N = 16 := N_0
    have h0 : (i 0 : Nat) < 16384 := (i 0).isLt
    have h1 : (i 1 : Nat) < 2816 := (i 1).isLt
    let t : Fin cfg0.N := ⟨2 * ((i 0).val / 2048) + (i 1).val / 1408, by omega⟩
    have ht : t.val = 2 * ((i 0).val / 2048) + (i 1).val / 1408 := rfl
    refine ⟨t, flush0_2 t, ?_⟩
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [(index2 t).1, ht]; omega
    | ⟨1, _⟩ =>
      show win0_2.index t 1 * 1408 ≤ (i 1 : Nat) ∧ (i 1 : Nat) < win0_2.index t 1 * 1408 + 1408
      rw [(index2 t).2, ht]; omega

end Cert.DownHIdeal.Product

/-! ## The reference -/

namespace Cert.DownHRefIdeal.Product

open Cert.DownHRefIdeal Cert.DownHRefIdeal.Gen Cert.DownHRefIdeal.Read Cert.Products
open Idealize.ShloMosaic Idealize.ShloMosaic.TcCoe Idealize.ShloMosaic.ValueIdx
open scoped BigOperators

theorem result_eq (x : (⟨S16384x1024, .bf16⟩ : BufTy).Contents (Elt Ideal)) (y : (⟨S2816x1024, .f32⟩ : BufTy).Contents (Elt Ideal)) (i : S16384x2816.Idx) :
    val_main_v3 (F := Ideal) x y i = ∑ k ∈ Finset.range 1024, ent x (i 0).val k * ent y (i 1).val k := by
  rw [val_main_v3_apply, Finset.sum_range]
  exact Finset.sum_congr rfl fun k _ => congrArg₂ (· * ·) (ent_eq x _ rfl rfl) (ent_eq y _ rfl rfl)

end Cert.DownHRefIdeal.Product

end
-- ==== Proof.CInWValue.lean ====
module

public import proofs.«01_k».proof.Proof.Products
public import proofs.«01_k».proof.Proof.Gen.CInWIdeal.Value
public import proofs.«01_k».proof.Proof.Gen.CInWRefIdeal.Run
public import proofs.«01_k».proof.Proof.Gen.CInWRefIdeal.Read

@[expose] public section

/-! The gradient of the second mixer's input weight: the product over all rows, accumulated over eight blocks of 2048 rows,
    is the reference's one product. -/

set_option maxRecDepth 16384

noncomputable section

namespace Cert.CInWIdeal.Product

open Cert.CInWIdeal Cert.CInWIdeal.Gen Cert.CInWIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-! ## One block -/

/-- The product of two blocks of rows, contracted over the rows. -/
abbrev blockProduct (x : Vec Ideal S2048x1024 .bf16) (y : Vec Ideal S2048x1024 .bf16) : FVec Ideal S1024x1024 .f32 :=
  matmul (F := Ideal) (φ₁ := .bf16) (φ₂ := .bf16) dot_S2048x1024_S2048x1024_S1024x1024_0_0_1_1_n_n none x y (constant S1024x1024 .f32 0x00000000#32)

abbrev zeros : FVec Ideal S1024x1024 .f32 := broadcast S1024x1024 (Scalar.ofBits (F := Ideal) .f32 0x00000000#32)

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .bf16) (acc : Vec Ideal S1024x1024 .f32)

/-- The first block of a run starts the accumulator from zeros. -/
theorem first (hc0 : cond0_0 i) (hc1 : ¬cond0_1 i) :
    sout0_A_0 (F := Ideal) c i a3 h3 a4 h4 a5 h5 a6 h6 hc0 hc1 x y = addf (F := Ideal) (φ := .f32) zeros (blockProduct x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  unfold k0_pay2 k0_pay1
  simp only [View.readAt_eq_ld, h3.read_unread, h4.read_unread, View.ld_unit_zero (S := S2048x1024) hz, shapeCast_self]

/-- A later block adds its product. -/
theorem later (hc0 : ¬cond0_0 i) (hc1 : ¬cond0_1 i) :
    sout0_B_0 (F := Ideal) c i a3 h3 a4 h4 a5 h5 a6 h6 hc0 hc1 x y acc = addf (F := Ideal) (φ := .f32) acc (blockProduct x y) := by
  unfold sout0_B_0
  rw [View.read_writes_eq_canon _ _ _ (scover0_B_0 c i a3 h3 a4 h4 a5 h5 a6 h6 hc0 hc1 x y acc)]
  unfold kernelRun0_B
  dsimp only
  rw [View.canon_unit_zero (S := S1024x1024) hz]
  unfold k0_pay2
  simp only [View.readAt_eq_ld, h3.read_unread, h4.read_unread, h6.read_unread, View.ld_unit_zero (S := S2048x1024) hz, View.ld_unit_zero (S := S1024x1024) hz, shapeCast_self]

/-- The last block adds its product and writes the sum out. -/
theorem last (hc0 : ¬cond0_0 i) (hc1 : cond0_1 i) :
    out0_C_2 (F := Ideal) c i a3 h3 a4 h4 a5 h5 a6 h6 hc0 hc1 x y acc = addf (F := Ideal) (φ := .f32) acc (blockProduct x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero (S := S1024x1024) hz, View.readCov_unit_zero (S := S1024x1024) _ hz]
  unfold k0_pay3 k0_pay2
  simp only [View.readAt_eq_ld, h3.read_unread, h4.read_unread, h6.read_unread, View.ld_unit_zero (S := S2048x1024) hz, View.ld_unit_zero (S := S1024x1024) hz, shapeCast_self]
  rfl
end

theorem blockProduct_sum (x : Vec Ideal S2048x1024 .bf16) (y : Vec Ideal S2048x1024 .bf16) (q : S1024x1024.Idx) (f g : ℕ → EReal)
    (hf : ∀ p : S2048x1024.Idx, (p 1).val = (q 0).val → x p = f (p 0).val) (hg : ∀ p : S2048x1024.Idx, (p 1).val = (q 1).val → y p = g (p 0).val) :
    blockProduct x y q = ∑ k ∈ Finset.range 2048, f k * g k :=
  matmul_sum dot_S2048x1024_S2048x1024_S1024x1024_0_0_1_1_n_n 2048 rfl rfl x y q f g
    (fun k => (hf _ rfl).trans rfl) (fun k => (hg _ rfl).trans rfl)

/-! ## A point's blocks -/

variable (m : (ℓ : Loc nD τ sig) → Buf (Elt Ideal) ℓ) (c : Dev nD)

abbrev lhs : Vec Ideal S16384x1024 .bf16 := m ((c : Thread nD τ).loc main_arg0)
abbrev rhs : Vec Ideal S16384x4096 .bf16 := m ((c : Thread nD τ).loc main_arg1)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

theorem iblk_0 (t : Fin cfg0.N) (p : S2048x1024.Idx) :
    (iblk m c 0 t : Vec Ideal S2048x1024 .bf16) p = ent (lhs m c) (2048 * (t.val % 8) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

theorem iblk_1 (t : Fin cfg0.N) (p : S2048x1024.Idx) :
    (iblk m c 1 t : Vec Ideal S2048x1024 .bf16) p = ent (rhs m c) (2048 * (t.val % 8) + (p 0).val) (1024 * (t.val / 8) + (p 1).val) := by
  obtain ⟨e0, e1⟩ := index1 t
  refine Eq.trans ?_ (ent_eq (rhs m c) (((cfg0.win 1).blk t).view.emb p) ?_ ?_)
  · show V m c main_arg1 _ = _
    rw [V_main_arg1 m c]
  · show win0_1.index t 0 * 2048 + 1 * (p 0).val = _
    rw [e0]; omega
  · show win0_1.index t 1 * 1024 + 1 * (p 1).val = _
    rw [e1]; omega

/-! ## The accumulator -/

/-- The terms of the product's entry at row `i`, column `j`. -/
def term (i j k : ℕ) : EReal := ent (lhs m c) k i * ent (rhs m c) k j

theorem block_eq (t : Fin cfg0.N) (q : S1024x1024.Idx) (r k : ℕ) (hr : t.val / 8 = r) (hk : t.val % 8 = k) :
    blockProduct (iblk m c 0 t) (iblk m c 1 t) q = ∑ x ∈ Finset.range 2048, term m c (q 0).val (1024 * r + (q 1).val) (2048 * k + x) := by
  subst hr hk
  refine blockProduct_sum _ _ q (fun x => ent (lhs m c) (2048 * (t.val % 8) + x) (q 0).val)
    (fun x => ent (rhs m c) (2048 * (t.val % 8) + x) (1024 * (t.val / 8) + (q 1).val)) (fun p hp => ?_) (fun p hp => ?_)
  · rw [iblk_0, hp]
  · rw [iblk_1, hp]

/-- After `k + 1` blocks of a run the accumulator holds the sum over their rows. -/
theorem acc_eq (q : S1024x1024.Idx) (r : ℕ) : ∀ (k : ℕ) (hk : k < 7) (h : 8 * r + k < cfg0.N),
    (outsAt0 m c (8 * r + k) h).2 q = ∑ x ∈ Finset.range (2048 * (k + 1)), term m c (q 0).val (1024 * r + (q 1).val) x
  | 0, _, h => by
    rw [outsAt0_A m c ⟨8 * r + 0, h⟩ (by show (8 * r + 0) % 8 = 0; omega) (by show ¬(8 * r + 0) % 8 = 7; omega)]
    dsimp only
    rw [first]
    show Ideal.ofBits .f32 0x00000000#32 + blockProduct _ _ q = _
    rw [ofBits_zero]
    refine acc_zero _ 2048 ((block_eq m c ⟨8 * r + 0, h⟩ q r 0 (by show (8 * r + 0) / 8 = r; omega) (by show (8 * r + 0) % 8 = 0; omega)).trans ?_)
    simp only [Nat.mul_zero, Nat.zero_add]
  | k + 1, hk, h => by
    have ih := acc_eq q r k (by omega) (by omega)
    rw [outsAt0_B m c ⟨8 * r + (k + 1), h⟩ (by show ¬(8 * r + (k + 1)) % 8 = 0; omega) (by show ¬(8 * r + (k + 1)) % 8 = 7; omega)]
    dsimp only
    rw [later]
    exact acc_succ _ 2048 (k + 1) ih
      (block_eq m c ⟨8 * r + (k + 1), h⟩ q r (k + 1) (by show (8 * r + (k + 1)) / 8 = r; omega) (by show (8 * r + (k + 1)) % 8 = k + 1; omega))

/-- What a run's last point writes out: the sum over all rows. -/
theorem out_eq (q : S1024x1024.Idx) (r : ℕ) (h : 8 * r + 7 < cfg0.N) :
    (outsAt0 m c (8 * r + 7) h).1 q = ∑ x ∈ Finset.range 16384, term m c (q 0).val (1024 * r + (q 1).val) x := by
  rw [outsAt0_C m c ⟨8 * r + 7, h⟩ (by show ¬(8 * r + 7) % 8 = 0; omega) (by show (8 * r + 7) % 8 = 7; omega)]
  dsimp only
  rw [last]
  exact acc_succ _ 2048 7 (acc_eq m c q r 6 (by decide) (by omega))
    (block_eq m c ⟨8 * r + 7, h⟩ q r 7 (by show (8 * r + 7) / 8 = r; omega) (by show (8 * r + 7) % 8 = 7; omega))

/-- The result array, entry by entry. -/
theorem G2_eq (i : S1024x4096.Idx) : G2 m c i = ∑ x ∈ Finset.range 16384, term m c (i 0).val (i 1).val x := by
  have h0 : (i 0).val < 1024 := (i 0).isLt
  have h1 : (i 1).val < 4096 := (i 1).isLt
  have hN : cfg0.N = 32 := N_0
  have hp : pt2Of i < cfg0.N := by
    rw [hN]
    show 8 * (4 * ((i 0).val / 1024 - 0) + 1 * ((i 1).val / 1024 - 0)) + 7 < 32
    omega
  unfold G2
  rw [dif_pos hp, ← outsAt0_sweep m c (pt2Of i) hp, out_eq]
  have e0 : (loc2Of i 0).val = (i 0).val := Nat.mod_eq_of_lt h0
  have e1 : 1024 * run2Of i + (loc2Of i 1).val = (i 1).val := by
    show 1024 * (4 * ((i 0).val / 1024 - 0) + 1 * ((i 1).val / 1024 - 0)) + (i 1).val % 1024 = _
    omega
  rw [e0, e1]

end Cert.CInWIdeal.Product

/-! ## The reference -/

namespace Cert.CInWRefIdeal.Product

open Cert.CInWRefIdeal Cert.CInWRefIdeal.Gen Cert.CInWRefIdeal.Read Cert.Products
open Idealize.ShloMosaic Idealize.ShloMosaic.TcCoe Idealize.ShloMosaic.ValueIdx
open scoped BigOperators

theorem result_eq (x : (⟨S16384x1024, .bf16⟩ : BufTy).Contents (Elt Ideal)) (y : (⟨S16384x4096, .bf16⟩ : BufTy).Contents (Elt Ideal)) (i : S1024x4096.Idx) :
    val_main_v6 (F := Ideal) x y i = ∑ k ∈ Finset.range 16384, ent x k (i 0).val * ent y k (i 1).val := by
  rw [val_main_v6_apply]
  show val_main_v5 (F := Ideal) x y i = _
  rw [val_main_v5_apply, val_main_v4_apply, Finset.sum_range]
  refine Finset.sum_congr rfl fun k _ => (mul_comm _ _).trans ?_
  exact congrArg₂ (· * ·) (ent_eq x _ rfl rfl) (ent_eq y _ rfl rfl)

end Cert.CInWRefIdeal.Product

end
-- ==== Proof.CInHValue.lean ====
module

public import proofs.«01_k».proof.Proof.Products
public import proofs.«01_k».proof.Proof.Gen.CInHIdeal.Value
public import proofs.«01_k».proof.Proof.Gen.CInHRefIdeal.Run
public import proofs.«01_k».proof.Proof.Gen.CInHRefIdeal.Read

@[expose] public section

/-! The gradient that goes back through the second mixer's input product: the weight comes as four shares of 1024 columns, and the
    product is accumulated over the four shares. It is the reference's one product with the transposed weight. -/

set_option maxRecDepth 16384

noncomputable section

namespace Cert.CInHIdeal.Product

open Cert.CInHIdeal Cert.CInHIdeal.Gen Cert.CInHIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-! ## One block -/

/-- The product of a block of rows with one share of the weight. -/
abbrev blockProduct (x : Vec Ideal S2048x1024 .bf16) (w : Vec Ideal S1x1024x1024 .bf16) : FVec Ideal S2048x1024 .f32 :=
  matmul (F := Ideal) (φ₁ := .bf16) (φ₂ := .bf16) dot_S2048x1024_S1024x1024_S2048x1024_1_1_0_0_n_n none x
    (shapeCast S1024x1024 w shapeCasts_S1x1024x1024_S1024x1024) (constant S2048x1024 .f32 0x00000000#32)

section
variable (c : Dev nD) (i : grid0.Coords) (a3 : Memref sig .tc .vmem S2048x1024 .bf16) (h3 : a3.IsWhole)
  (a4 : Memref sig .tc .vmem S1x1024x1024 .bf16) (h4 : a4.IsWhole)
  (a5 : Memref sig .tc .vmem S2048x1024 .bf16) (h5 : a5.IsWhole) (a6 : Memref sig .tc .vmem S2048x1024 .f32) (h6 : a6.IsWhole)
  (x : Vec Ideal S2048x1024 .bf16) (w : Vec Ideal S1x1024x1024 .bf16) (acc : Vec Ideal S2048x1024 .f32)

/-- The first share's product starts the accumulator. -/
theorem first (hc0 : cond0_0 i) (hc1 : ¬cond0_1 i) (hc2 : ¬cond0_2 i) :
    sout0_A_0 (F := Ideal) c i a3 h3 a4 h4 a5 h5 a6 h6 hc0 hc1 hc2 x w = blockProduct x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero (S := S2048x1024) hz]
  unfold k0_pay1
  simp only [View.readAt_eq_ld, h3.read_unread, h4.read_unread, View.ld_unit_zero (S := S2048x1024) hz, View.ld_unit_zero (S := S1x1024x1024) hz3, shapeCast_self]

/-- A later share adds its product. -/
theorem later (hc0 : ¬cond0_0 i) (hc1 : cond0_1 i) (hc2 : ¬cond0_2 i) :
    sout0_B_0 (F := Ideal) c i a3 h3 a4 h4 a5 h5 a6 h6 hc0 hc1 hc2 x w acc = addf (F := Ideal) (φ := .f32) acc (blockProduct x w) := by
  unfold sout0_B_0
  rw [View.read_writes_eq_canon _ _ _ (scover0_B_0 c i a3 h3 a4 h4 a5 h5 a6 h6 hc0 hc1 hc2 x w acc)]
  unfold kernelRun0_B
  dsimp only
  rw [View.canon_unit_zero (S := S2048x1024) hz]
  unfold k0_pay2
  simp only [View.readAt_eq_ld, h3.read_unread, h4.read_unread, h6.read_unread, View.ld_unit_zero (S := S2048x1024) hz, View.ld_unit_zero (S := S1x1024x1024) hz3, shapeCast_self]

/-- The last share adds its product and the sum is written out. -/
theorem last (hc0 : ¬cond0_0 i) (hc1 : cond0_1 i) (hc2 : cond0_2 i) :
    out0_C_2 (F := Ideal) c i a3 h3 a4 h4 a5 h5 a6 h6 hc0 hc1 hc2 x w acc = addf (F := Ideal) (φ := .f32) acc (blockProduct x w) := by
  unfold out0_C_2
  rw [View.read_writes_eq_canon _ _ _ (cover0_C_2 c i a3 h3 a4 h4 a5 h5 a6 h6 hc0 hc1 hc2 x w acc)]
  unfold kernelRun0_C
  dsimp only
  sl_unfold_words
  rw [View.canon_unit_zero (S := S2048x1024) hz, View.readCov_unit_zero (S := S2048x1024) _ hz]
  unfold k0_pay3 k0_pay2
  simp only [View.readAt_eq_ld, h3.read_unread, h4.read_unread, h6.read_unread, View.ld_unit_zero (S := S2048x1024) hz, View.ld_unit_zero (S := S1x1024x1024) hz3, shapeCast_self]
  rfl
end

theorem blockProduct_sum (x : Vec Ideal S2048x1024 .bf16) (w : Vec Ideal S1x1024x1024 .bf16) (q : S2048x1024.Idx) (f g : ℕ → EReal)
    (hf : ∀ p : S2048x1024.Idx, (p 0).val = (q 0).val → x p = f (p 1).val)
    (hg : ∀ p : S1x1024x1024.Idx, (p 1).val = (q 1).val → w p = g (p 2).val) :
    blockProduct x w q = ∑ k ∈ Finset.range 1024, f k * g k := by
  refine matmul_sum dot_S2048x1024_S1024x1024_S2048x1024_1_1_0_0_n_n 1024 rfl rfl x _ q f g (fun k => (hf (dot_S2048x1024_S1024x1024_S2048x1024_1_1_0_0_n_n.lhsIdx q k) rfl).trans rfl) (fun k => ?_)
  refine (dropPlane_apply w shapeCasts_S1x1024x1024_S1024x1024 _).trans ((hg _ rfl).trans rfl)

/-! ## A point's blocks -/

variable (m : (ℓ : Loc nD τ sig) → Buf (Elt Ideal) ℓ) (c : Dev nD)

abbrev lhs : Vec Ideal S16384x4096 .bf16 := m ((c : Thread nD τ).loc main_arg0)
abbrev weight : Vec Ideal S1x1024x4096 .f32 := m ((c : Thread nD τ).loc main_arg1)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)

theorem iblk_0 (t : Fin cfg0.N) (p : S2048x1024.Idx) :
    (iblk m c 0 t : Vec Ideal S2048x1024 .bf16) p = ent (lhs m c) (2048 * (t.val / 4) + (p 0).val) (1024 * (t.val % 4) + (p 1).val) := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host lays the columns out as four shares, and its narrowing is exact on ideal values. -/
theorem shares (q : S4x1024x1024.Idx) :
    (V m c main_v2 : Vec Ideal S4x1024x1024 .bf16) q = ent3 (weight m c) ((q 1).val / 1024) ((q 1).val % 1024) (1024 * (q 0).val + (q 2).val) :=
  shares_apply (weight m c) shapeCasts_S1x1024x4096_S1024x4x1024 transposes_S1024x4x1024_S4x1024x1024_1_0_2 rfl rfl q

theorem iblk_1 (t : Fin cfg0.N) (p : S1x1024x1024.Idx) :
    (iblk m c 1 t : Vec Ideal S1x1024x1024 .bf16) p = ent3 (weight m c) 0 (p 1).val (1024 * (t.val % 4) + (p 2).val) := by
  obtain ⟨e0, e1, e2⟩ := index1 t
  have hp : (p 0).val < 1 := (p 0).isLt
  have hp1 : (p 1).val < 1024 := (p 1).isLt
  refine (shares m c (((cfg0.win 1).blk t).view.emb p)).trans ?_
  show ent3 _ ((win0_1.index t 1 * 1024 + 1 * (p 1).val) / 1024) ((win0_1.index t 1 * 1024 + 1 * (p 1).val) % 1024)
    (1024 * (win0_1.index t 0 * 1 + 1 * (p 0).val) + (win0_1.index t 2 * 1024 + 1 * (p 2).val)) = _
  rw [e0, e1, e2, show (0 * 1024 + 1 * (p 1).val) / 1024 = 0 by omega, show (0 * 1024 + 1 * (p 1).val) % 1024 = (p 1).val by omega,
    show 1024 * (t.val % 4 * 1 + 1 * (p 0).val) + (0 * 1024 + 1 * (p 2).val) = 1024 * (t.val % 4) + (p 2).val by omega]

/-! ## The accumulator -/

/-- The terms of the product's entry at row `i`, column `j`. -/
def term (i j k : ℕ) : EReal := ent (lhs m c) i k * ent3 (weight m c) 0 j k

theorem block_eq (t : Fin cfg0.N) (q : S2048x1024.Idx) (r k : ℕ) (hr : t.val / 4 = r) (hk : t.val % 4 = k) :
    blockProduct (iblk m c 0 t) (iblk m c 1 t) q = ∑ x ∈ Finset.range 1024, term m c (2048 * r + (q 0).val) (q 1).val (1024 * k + x) := by
  subst hr hk
  refine blockProduct_sum _ _ q (fun x => ent (lhs m c) (2048 * (t.val / 4) + (q 0).val) (1024 * (t.val % 4) + x))
    (fun x => ent3 (weight m c) 0 (q 1).val (1024 * (t.val % 4) + x)) (fun p hp => ?_) (fun p hp => ?_)
  · rw [iblk_0, hp]
  · rw [iblk_1, hp]

/-- A run's first point. -/
theorem first_eq (t : Fin cfg0.N) (h0 : t.val % 4 = 0) :
    (outsAt0 m c t.val t.isLt).2 = blockProduct (iblk m c 0 t) (iblk m c 1 t) := by
  rw [outsAt0_A m c t h0 (by omega) (by omega)]
  dsimp only
  rw [first]

/-- A run's middle points. -/
theorem later_eq (t : Fin cfg0.N) (h0 : ¬t.val % 4 = 0) (h3 : ¬t.val % 4 = 3) :
    (outsAt0 m c t.val t.isLt).2 = addf (F := Ideal) (φ := .f32) (outsAt0 m c (t.val - 1) (by omega)).2 (blockProduct (iblk m c 0 t) (iblk m c 1 t)) := by
  rw [outsAt0_B m c t h0 (by omega) h3]
  dsimp only
  rw [later]

/-- A run's last point. -/
theorem last_eq (t : Fin cfg0.N) (h3 : t.val % 4 = 3) :
    (outsAt0 m c t.val t.isLt).1 = addf (F := Ideal) (φ := .f32) (outsAt0 m c (t.val - 1) (by omega)).2 (blockProduct (iblk m c 0 t) (iblk m c 1 t)) := by
  rw [outsAt0_C m c t (by omega) (by omega) h3]
  dsimp only
  rw [last]

/-- After `k + 1` shares of a run the accumulator holds the sum over their columns. -/
theorem acc_eq (q : S2048x1024.Idx) (r : ℕ) : ∀ (k : ℕ) (hk : k < 3) (h : 4 * r + k < cfg0.N),
    (outsAt0 m c (4 * r + k) h).2 q = ∑ x ∈ Finset.range (1024 * (k + 1)), term m c (2048 * r + (q 0).val) (q 1).val x
  | 0, _, h => by
    rw [first_eq m c ⟨4 * r + 0, h⟩ (by show (4 * r + 0) % 4 = 0; omega)]
    refine (block_eq m c ⟨4 * r + 0, h⟩ q r 0 (by show (4 * r + 0) / 4 = r; omega) (by show (4 * r + 0) % 4 = 0; omega)).trans ?_
    simp only [Nat.mul_zero, Nat.zero_add, Nat.mul_one]
  | k + 1, hk, h => by
    have ih := acc_eq q r k (by omega) (by omega)
    rw [later_eq m c ⟨4 * r + (k + 1), h⟩ (by show ¬(4 * r + (k + 1)) % 4 = 0; omega) (by show ¬(4 * r + (k + 1)) % 4 = 3; omega)]
    exact acc_succ _ 1024 (k + 1) ih
      (block_eq m c ⟨4 * r + (k + 1), h⟩ q r (k + 1) (by show (4 * r + (k + 1)) / 4 = r; omega) (by show (4 * r + (k + 1)) % 4 = k + 1; omega))

/-- What a run's last point writes out: the sum over all columns. -/
theorem out_eq (q : S2048x1024.Idx) (r : ℕ) (h : 4 * r + 3 < cfg0.N) :
    (outsAt0 m c (4 * r + 3) h).1 q = ∑ x ∈ Finset.range 4096, term m c (2048 * r + (q 0).val) (q 1).val x := by
  rw [last_eq m c ⟨4 * r + 3, h⟩ (by show (4 * r + 3) % 4 = 3; omega)]
  exact acc_succ _ 1024 3 (acc_eq m c q r 2 (by decide) (by omega))
    (block_eq m c ⟨4 * r + 3, h⟩ q r 3 (by show (4 * r + 3) / 4 = r; omega) (by show (4 * r + 3) % 4 = 3; omega))

/-- The result array, entry by entry. -/
theorem G2_eq (i : S16384x1024.Idx) : G2 m c i = ∑ x ∈ Finset.range 4096, term m c (i 0).val (i 1).val x := by
  have h0 : (i 0).val < 16384 := (i 0).isLt
  have h1 : (i 1).val < 1024 := (i 1).isLt
  have hN : cfg0.N = 32 := N_0
  have hp : pt2Of i < cfg0.N := by
    rw [hN]
    show 4 * (1 * ((i 0).val / 2048 - 0) + 1 * ((i 1).val / 1024 - 0)) + 3 < 32
    omega
  unfold G2
  rw [dif_pos hp, ← outsAt0_sweep m c (pt2Of i) hp, out_eq]
  have e0 : 2048 * run2Of i + (loc2Of i 0).val = (i 0).val := by
    show 2048 * (1 * ((i 0).val / 2048 - 0) + 1 * ((i 1).val / 1024 - 0)) + (i 0).val % 2048 = _
    omega
  have e1 : (loc2Of i 1).val = (i 1).val := Nat.mod_eq_of_lt h1
  rw [e0, e1]

end Cert.CInHIdeal.Product

/-! ## The reference -/

namespace Cert.CInHRefIdeal.Product

open Cert.CInHRefIdeal Cert.CInHRefIdeal.Gen Cert.CInHRefIdeal.Read Cert.Products
open Idealize.ShloMosaic Idealize.ShloMosaic.TcCoe Idealize.ShloMosaic.ValueIdx
open scoped BigOperators

theorem weight (w : (⟨S1x1024x4096, .f32⟩ : BufTy).Contents (Elt Ideal)) (i : S1024x4096.Idx) :
    val_main_v1 (F := Ideal) w i = ent3 w 0 (i 0).val (i 1).val := by
  have h0 : (i 0).val < 1024 := (i 0).isLt
  have h1 : (i 1).val < 4096 := (i 1).isLt
  rw [val_main_v1_apply]
  refine ent3_eq w _ rfl ?_ ?_
  · show ((i 0).val * 4096 + (i 1).val) / 4096 % 1024 = _
    omega
  · show ((i 0).val * 4096 + (i 1).val) % 4096 = _
    omega

theorem result_eq (x : (⟨S16384x4096, .bf16⟩ : BufTy).Contents (Elt Ideal)) (w : (⟨S1x1024x4096, .f32⟩ : BufTy).Contents (Elt Ideal)) (i : S16384x1024.Idx) :
    val_main_v5 (F := Ideal) x w i = ∑ k ∈ Finset.range 4096, ent x (i 0).val k * ent3 w 0 (i 1).val k := by
  rw [val_main_v5_apply]
  show val_main_v4 (F := Ideal) x w i = _
  rw [val_main_v4_apply, Finset.sum_range]
  exact Finset.sum_congr rfl fun k _ => congrArg₂ (· * ·) (ent_eq x _ rfl rfl) (weight w _)

end Cert.CInHRefIdeal.Product

end
-- ==== Proof.COutWValue.lean ====
module

public import proofs.«01_k».proof.Proof.Products
public import proofs.«01_k».proof.Proof.Gen.COutWIdeal.Value
public import proofs.«01_k».proof.Proof.Gen.COutWRefIdeal.Run
public import proofs.«01_k».proof.Proof.Gen.COutWRefIdeal.Read

@[expose] public section

/-! The gradient of the second mixer's output weight: the product over all rows, accumulated over eight blocks of 2048 rows,
    is the reference's one product. -/

set_option maxRecDepth 16384

noncomputable section

namespace Cert.COutWIdeal.Product

open Cert.COutWIdeal Cert.COutWIdeal.Gen Cert.COutWIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-! ## One block -/

/-- The product of two blocks of rows, contracted over the rows. -/
abbrev blockProduct (x : Vec Ideal S2048x1024 .bf16) (y : Vec Ideal S2048x1024 .bf16) : FVec Ideal S1024x1024 .f32 :=
  matmul (F := Ideal) (φ₁ := .bf16) (φ₂ := .bf16) dot_S2048x1024_S2048x1024_S1024x1024_0_0_1_1_n_n none x y (constant S1024x1024 .f32 0x00000000#32)

abbrev zeros : FVec Ideal S1024x1024 .f32 := broadcast S1024x1024 (Scalar.ofBits (F := Ideal) .f32 0x00000000#32)

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .bf16) (acc : Vec Ideal S1024x1024 .f32)

/-- The first block of a run starts the accumulator from zeros. -/
theorem first (hc0 : cond0_0 i) (hc1 : ¬cond0_1 i) :
    sout0_A_0 (F := Ideal) c i a3 h3 a4 h4 a5 h5 a6 h6 hc0 hc1 x y = addf (F := Ideal) (φ := .f32) zeros (blockProduct x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  unfold k0_pay2 k0_pay1
  simp only [View.readAt_eq_ld, h3.read_unread, h4.read_unread, View.ld_unit_zero (S := S2048x1024) hz, shapeCast_self]

/-- A later block adds its product. -/
theorem later (hc0 : ¬cond0_0 i) (hc1 : ¬cond0_1 i) :
    sout0_B_0 (F := Ideal) c i a3 h3 a4 h4 a5 h5 a6 h6 hc0 hc1 x y acc = addf (F := Ideal) (φ := .f32) acc (blockProduct x y) := by
  unfold sout0_B_0
  rw [View.read_writes_eq_canon _ _ _ (scover0_B_0 c i a3 h3 a4 h4 a5 h5 a6 h6 hc0 hc1 x y acc)]
  unfold kernelRun0_B
  dsimp only
  rw [View.canon_unit_zero (S := S1024x1024) hz]
  unfold k0_pay2
  simp only [View.readAt_eq_ld, h3.read_unread, h4.read_unread, h6.read_unread, View.ld_unit_zero (S := S2048x1024) hz, View.ld_unit_zero (S := S1024x1024) hz, shapeCast_self]

/-- The last block adds its product and writes the sum out. -/
theorem last (hc0 : ¬cond0_0 i) (hc1 : cond0_1 i) :
    out0_C_2 (F := Ideal) c i a3 h3 a4 h4 a5 h5 a6 h6 hc0 hc1 x y acc = addf (F := Ideal) (φ := .f32) acc (blockProduct x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero (S := S1024x1024) hz, View.readCov_unit_zero (S := S1024x1024) _ hz]
  unfold k0_pay3 k0_pay2
  simp only [View.readAt_eq_ld, h3.read_unread, h4.read_unread, h6.read_unread, View.ld_unit_zero (S := S2048x1024) hz, View.ld_unit_zero (S := S1024x1024) hz, shapeCast_self]
  rfl
end

theorem blockProduct_sum (x : Vec Ideal S2048x1024 .bf16) (y : Vec Ideal S2048x1024 .bf16) (q : S1024x1024.Idx) (f g : ℕ → EReal)
    (hf : ∀ p : S2048x1024.Idx, (p 1).val = (q 0).val → x p = f (p 0).val) (hg : ∀ p : S2048x1024.Idx, (p 1).val = (q 1).val → y p = g (p 0).val) :
    blockProduct x y q = ∑ k ∈ Finset.range 2048, f k * g k :=
  matmul_sum dot_S2048x1024_S2048x1024_S1024x1024_0_0_1_1_n_n 2048 rfl rfl x y q f g
    (fun k => (hf _ rfl).trans rfl) (fun k => (hg _ rfl).trans rfl)

/-! ## A point's blocks -/

variable (m : (ℓ : Loc nD τ sig) → Buf (Elt Ideal) ℓ) (c : Dev nD)

abbrev lhs : Vec Ideal S16384x2048 .bf16 := m ((c : Thread nD τ).loc main_arg0)
abbrev rhs : Vec Ideal S16384x1024 .bf16 := m ((c : Thread nD τ).loc main_arg1)

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)

theorem iblk_0 (t : Fin cfg0.N) (p : S2048x1024.Idx) :
    (iblk m c 0 t : Vec Ideal S2048x1024 .bf16) p = ent (lhs m c) (2048 * (t.val % 8) + (p 0).val) (1024 * (t.val / 8) + (p 1).val) := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

theorem iblk_1 (t : Fin cfg0.N) (p : S2048x1024.Idx) :
    (iblk m c 1 t : Vec Ideal S2048x1024 .bf16) p = ent (rhs m c) (2048 * (t.val % 8) + (p 0).val) (p 1).val := by
  obtain ⟨e0, e1⟩ := index1 t
  refine Eq.trans ?_ (ent_eq (rhs m c) (((cfg0.win 1).blk t).view.emb p) ?_ ?_)
  · show V m c main_arg1 _ = _
    rw [V_main_arg1 m c]
  · show win0_1.index t 0 * 2048 + 1 * (p 0).val = _
    rw [e0]; omega
  · show win0_1.index t 1 * 1024 + 1 * (p 1).val = _
    rw [e1]; omega

/-! ## The accumulator -/

/-- The terms of the product's entry at row `i`, column `j`. -/
def term (i j k : ℕ) : EReal := ent (lhs m c) k i * ent (rhs m c) k j

theorem block_eq (t : Fin cfg0.N) (q : S1024x1024.Idx) (r k : ℕ) (hr : t.val / 8 = r) (hk : t.val % 8 = k) :
    blockProduct (iblk m c 0 t) (iblk m c 1 t) q = ∑ x ∈ Finset.range 2048, term m c (1024 * r + (q 0).val) (q 1).val (2048 * k + x) := by
  subst hr hk
  refine blockProduct_sum _ _ q (fun x => ent (lhs m c) (2048 * (t.val % 8) + x) (1024 * (t.val / 8) + (q 0).val))
    (fun x => ent (rhs m c) (2048 * (t.val % 8) + x) (q 1).val) (fun p hp => ?_) (fun p hp => ?_)
  · rw [iblk_0, hp]
  · rw [iblk_1, hp]

/-- After `k + 1` blocks of a run the accumulator holds the sum over their rows. -/
theorem acc_eq (q : S1024x1024.Idx) (r : ℕ) : ∀ (k : ℕ) (hk : k < 7) (h : 8 * r + k < cfg0.N),
    (outsAt0 m c (8 * r + k) h).2 q = ∑ x ∈ Finset.range (2048 * (k + 1)), term m c (1024 * r + (q 0).val) (q 1).val x
  | 0, _, h => by
    rw [outsAt0_A m c ⟨8 * r + 0, h⟩ (by show (8 * r + 0) % 8 = 0; omega) (by show ¬(8 * r + 0) % 8 = 7; omega)]
    dsimp only
    rw [first]
    show Ideal.ofBits .f32 0x00000000#32 + blockProduct _ _ q = _
    rw [ofBits_zero]
    refine acc_zero _ 2048 ((block_eq m c ⟨8 * r + 0, h⟩ q r 0 (by show (8 * r + 0) / 8 = r; omega) (by show (8 * r + 0) % 8 = 0; omega)).trans ?_)
    simp only [Nat.mul_zero, Nat.zero_add]
  | k + 1, hk, h => by
    have ih := acc_eq q r k (by omega) (by omega)
    rw [outsAt0_B m c ⟨8 * r + (k + 1), h⟩ (by show ¬(8 * r + (k + 1)) % 8 = 0; omega) (by show ¬(8 * r + (k + 1)) % 8 = 7; omega)]
    dsimp only
    rw [later]
    exact acc_succ _ 2048 (k + 1) ih
      (block_eq m c ⟨8 * r + (k + 1), h⟩ q r (k + 1) (by show (8 * r + (k + 1)) / 8 = r; omega) (by show (8 * r + (k + 1)) % 8 = k + 1; omega))

/-- What a run's last point writes out: the sum over all rows. -/
theorem out_eq (q : S1024x1024.Idx) (r : ℕ) (h : 8 * r + 7 < cfg0.N) :
    (outsAt0 m c (8 * r + 7) h).1 q = ∑ x ∈ Finset.range 16384, term m c (1024 * r + (q 0).val) (q 1).val x := by
  rw [outsAt0_C m c ⟨8 * r + 7, h⟩ (by show ¬(8 * r + 7) % 8 = 0; omega) (by show (8 * r + 7) % 8 = 7; omega)]
  dsimp only
  rw [last]
  exact acc_succ _ 2048 7 (acc_eq m c q r 6 (by decide) (by omega))
    (block_eq m c ⟨8 * r + 7, h⟩ q r 7 (by show (8 * r + 7) / 8 = r; omega) (by show (8 * r + 7) % 8 = 7; omega))

/-- The result array, entry by entry. -/
theorem G2_eq (i : S2048x1024.Idx) : G2 m c i = ∑ x ∈ Finset.range 16384, term m c (i 0).val (i 1).val x := by
  have h0 : (i 0).val < 2048 := (i 0).isLt
  have h1 : (i 1).val < 1024 := (i 1).isLt
  have hN : cfg0.N = 16 := N_0
  have hp : pt2Of i < cfg0.N := by
    rw [hN]
    show 8 * (1 * ((i 0).val / 1024 - 0) + 1 * ((i 1).val / 1024 - 0)) + 7 < 16
    omega
  unfold G2
  rw [dif_pos hp, ← outsAt0_sweep m c (pt2Of i) hp, out_eq]
  have e0 : 1024 * run2Of i + (loc2Of i 0).val = (i 0).val := by
    show 1024 * (1 * ((i 0).val / 1024 - 0) + 1 * ((i 1).val / 1024 - 0)) + (i 0).val % 1024 = _
    omega
  have e1 : (loc2Of i 1).val = (i 1).val := Nat.mod_eq_of_lt h1
  rw [e0, e1]

end Cert.COutWIdeal.Product

/-! ## The reference -/

namespace Cert.COutWRefIdeal.Product

open Cert.COutWRefIdeal Cert.COutWRefIdeal.Gen Cert.COutWRefIdeal.Read Cert.Products
open Idealize.ShloMosaic Idealize.ShloMosaic.TcCoe Idealize.ShloMosaic.ValueIdx
open scoped BigOperators

theorem result_eq (x : (⟨S16384x2048, .bf16⟩ : BufTy).Contents (Elt Ideal)) (y : (⟨S16384x1024, .bf16⟩ : BufTy).Contents (Elt Ideal)) (i : S2048x1024.Idx) :
    val_main_v6 (F := Ideal) x y i = ∑ k ∈ Finset.range 16384, ent x k (i 0).val * ent y k (i 1).val := by
  rw [val_main_v6_apply]
  show val_main_v5 (F := Ideal) x y i = _
  rw [val_main_v5_apply, val_main_v4_apply, Finset.sum_range]
  refine Finset.sum_congr rfl fun k _ => (mul_comm _ _).trans ?_
  exact congrArg₂ (· * ·) (ent_eq x _ rfl rfl) (ent_eq y _ rfl rfl)

end Cert.COutWRefIdeal.Product

end
-- ==== Proof.COutHValue.lean ====
module

public import proofs.«01_k».proof.Proof.Products
public import proofs.«01_k».proof.Proof.Gen.COutHIdeal.Value
public import proofs.«01_k».proof.Proof.Gen.COutHRefIdeal.Run
public import proofs.«01_k».proof.Proof.Gen.COutHRefIdeal.Read

@[expose] public section

/-! The gradient that goes back through the second mixer's output product: each point computes one block of rows and columns,
    and the blocks together are the reference's one product with the transposed weight. -/

set_option maxRecDepth 16384

noncomputable section

namespace Cert.COutHIdeal.Product

open Cert.COutHIdeal Cert.COutHIdeal.Gen Cert.COutHIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-- What a point leaves in the output, at one entry. -/
theorem out_sum (x : Vec Ideal S2048x1024 .bf16) (y : Vec Ideal S1024x1024 .bf16) (q : S2048x1024.Idx) (f g : ℕ → EReal)
    (hf : ∀ p : S2048x1024.Idx, (p 0).val = (q 0).val → x p = f (p 1).val) (hg : ∀ p : S1024x1024.Idx, (p 0).val = (q 1).val → y p = g (p 1).val) :
    out0_2 (F := Ideal) x y q = ∑ k ∈ Finset.range 1024, f k * g k := by
  unfold out0_2
  rw [View.canon_unit_zero (S := S2048x1024) hz]
  unfold k0_pay1
  simp only [View.ld_unit_zero (S := S2048x1024) hz, View.ld_unit_zero (S := S1024x1024) hz, shapeCast_self]
  exact matmul_sum dot_S2048x1024_S1024x1024_S2048x1024_1_1_0_0_n_n 1024 rfl rfl x y q f g
    (fun k => (hf (dot_S2048x1024_S1024x1024_S2048x1024_1_1_0_0_n_n.lhsIdx q k) rfl).trans rfl) (fun k => (hg _ rfl).trans rfl)

variable (m : (ℓ : Loc nD τ sig) → Buf (Elt Ideal) ℓ) (c : Dev nD)

abbrev lhs : Vec Ideal S16384x1024 .bf16 := m ((c : Thread nD τ).loc main_arg0)
abbrev rhs : Vec Ideal S2048x1024 .f32 := m ((c : Thread nD τ).loc main_arg1)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem iblk_0 (t : Fin cfg0.N) (p : S2048x1024.Idx) :
    (iblk m c 0 t : Vec Ideal S2048x1024 .bf16) p = ent (lhs m c) (2048 * (t.val / 2) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host's narrowing is exact on ideal values. -/
theorem V_v0 : (V m c main_v0 : Vec Ideal S2048x1024 .bf16) = (rhs m c : S2048x1024.Idx → EReal) := rfl

theorem iblk_1 (t : Fin cfg0.N) (p : S1024x1024.Idx) :
    (iblk m c 1 t : Vec Ideal S1024x1024 .bf16) p = ent (rhs m c) (1024 * (t.val % 2) + (p 0).val) (p 1).val := by
  obtain ⟨e0, e1⟩ := index1 t
  refine Eq.trans ?_ (ent_eq (rhs m c) (((cfg0.win 1).blk t).view.emb p) ?_ ?_)
  · show (V m c main_v0 : Vec Ideal S2048x1024 .bf16) _ = _
    rw [V_v0 m c]
  · show win0_1.index t 0 * 1024 + 1 * (p 0).val = _
    rw [e0]; omega
  · show win0_1.index t 1 * 1024 + 1 * (p 1).val = _
    rw [e1]; omega

/-- The product's entry at row `i`, column `j`. -/
def entry (i j : ℕ) : EReal := ∑ k ∈ Finset.range 1024, ent (lhs m c) i k * ent (rhs m c) j k

/-- The result array. -/
abbrev result : Vec Ideal S16384x2048 .f32 := fun i => entry m c (i 0).val (i 1).val

theorem final2 : ((dats m 0 c).arrAt 2 cfg0.N : Vec Ideal S16384x2048 .f32) = result m c :=
  (dats m 0 c).arrAt_eq_of_cover 2 (result m c) (fun t _ => by
      rw [flushed2]
      funext q
      show out0_2 (F := Ideal) (iblk m c 0 t) (iblk m c 1 t) q = entry m c (win0_2.index t 0 * 2048 + 1 * (q 0).val) (win0_2.index t 1 * 1024 + 1 * (q 1).val)
      obtain ⟨e0, e1⟩ := index2 t
      rw [e0, e1, Nat.one_mul, Nat.one_mul, Nat.mul_comm _ 2048, Nat.mul_comm _ 1024]
      refine out_sum _ _ q (fun k => ent (lhs m c) (2048 * (t.val / 2) + (q 0).val) k) (fun k => ent (rhs m c) (1024 * (t.val % 2) + (q 1).val) k)
        (fun p hp => ?_) (fun p hp => ?_)
      · rw [iblk_0, hp]
      · rw [iblk_1, hp]) fun i => by
    have hN : cfg0.N = 16 := N_0
    have h0 : (i 0 : Nat) < 16384 := (i 0).isLt
    have h1 : (i 1 : Nat) < 2048 := (i 1).isLt
    let t : Fin cfg0.N := ⟨2 * ((i 0).val / 2048) + (i 1).val / 1024, by omega⟩
    have ht : t.val = 2 * ((i 0).val / 2048) + (i 1).val / 1024 := rfl
    refine ⟨t, flush0_2 t, ?_⟩
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [(index2 t).1, ht]; omega
    | ⟨1, _⟩ =>
      show win0_2.index t 1 * 1024 ≤ (i 1 : Nat) ∧ (i 1 : Nat) < win0_2.index t 1 * 1024 + 1024
      rw [(index2 t).2, ht]; omega

end Cert.COutHIdeal.Product

/-! ## The reference -/

namespace Cert.COutHRefIdeal.Product

open Cert.COutHRefIdeal Cert.COutHRefIdeal.Gen Cert.COutHRefIdeal.Read Cert.Products
open Idealize.ShloMosaic Idealize.ShloMosaic.TcCoe Idealize.ShloMosaic.ValueIdx
open scoped BigOperators

theorem result_eq (x : (⟨S16384x1024, .bf16⟩ : BufTy).Contents (Elt Ideal)) (y : (⟨S2048x1024, .f32⟩ : BufTy).Contents (Elt Ideal)) (i : S16384x2048.Idx) :
    val_main_v3 (F := Ideal) x y i = ∑ k ∈ Finset.range 1024, ent x (i 0).val k * ent y (i 1).val k := by
  rw [val_main_v3_apply, Finset.sum_range]
  exact Finset.sum_congr rfl fun k _ => congrArg₂ (· * ·) (ent_eq x _ rfl rfl) (ent_eq y _ rfl rfl)

end Cert.COutHRefIdeal.Product

end
-- ==== Proof.AbOutWValue.lean ====
module

public import proofs.«01_k».proof.Proof.Products
public import proofs.«01_k».proof.Proof.Gen.AbOutWIdeal.Value
public import proofs.«01_k».proof.Proof.Gen.AbOutWRefIdeal.Run
public import proofs.«01_k».proof.Proof.Gen.AbOutWRefIdeal.Read

@[expose] public section

/-! The gradient of the first mixer's output weight: the rows of the gradient come from two arrays, the outputs of the mixer's two
    branches, and each row block's product over all rows is accumulated over eight blocks of 2048 rows. It is the reference's one product with the
    two arrays side by side. -/

set_option maxRecDepth 16384

noncomputable section

namespace Cert.AbOutWIdeal.Product

open Cert.AbOutWIdeal Cert.AbOutWIdeal.Gen Cert.AbOutWIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-! ## One block -/

/-- The product of two blocks of rows, contracted over the rows. -/
abbrev blockProduct (x : Vec Ideal S2048x512 .bf16) (y : Vec Ideal S2048x1024 .bf16) : FVec Ideal S512x1024 .f32 :=
  matmul (F := Ideal) (φ₁ := .bf16) (φ₂ := .bf16) dot_S2048x512_S2048x1024_S512x1024_0_0_1_1_n_n none x y (constant S512x1024 .f32 0x00000000#32)

abbrev zeros : FVec Ideal S512x1024 .f32 := broadcast S512x1024 (Scalar.ofBits (F := Ideal) .f32 0x00000000#32)

section
variable (c : Dev nD) (i : grid0.Coords) (a3 : Memref sig .tc .vmem S2048x512 .bf16) (h3 : a3.IsWhole)
  (a4 : Memref sig .tc .vmem S2048x512 .bf16) (h4 : a4.IsWhole) (a5 : Memref sig .tc .vmem S2048x1024 .bf16) (h5 : a5.IsWhole)
  (a6 : Memref sig .tc .vmem S512x1024 .bf16) (h6 : a6.IsWhole)
  (a7 : Memref sig .tc .vmem S512x1024 .f32) (h7 : a7.IsWhole)
  (x y : Vec Ideal S2048x512 .bf16) (z : Vec Ideal S2048x1024 .bf16) (acc : Vec Ideal S512x1024 .f32)

/-- The first block of a run starts the accumulator from zeros. -/
theorem first_left (hc0 : cond0_0 i) (hc1 : cond0_1 i) (hc2 : ¬cond0_2 i) (hc3 : ¬cond0_3 i) :
    sout0_A_0 (F := Ideal) c i a3 h3 a4 h4 a5 h5 a6 h6 a7 h7 hc0 hc1 hc2 hc3 x y z = addf (F := Ideal) (φ := .f32) zeros (blockProduct x z) := by
  unfold sout0_A_0
  rw [View.read_writes_eq_canon _ _ _ (scover0_A_0 c i a3 h3 a4 h4 a5 h5 a6 h6 a7 h7 hc0 hc1 hc2 hc3 x y z)]
  unfold kernelRun0_A
  dsimp only
  sl_unfold_words
  rw [View.canon_cons_unit_zero (S := S512x1024) hz, View.readCov_unit_zero (S := S512x1024) _ hz]
  unfold k0_pay2 k0_pay1
  simp only [View.readAt_eq_ld, h3.read_unread, h4.read_unread, h5.read_unread, View.ld_unit_zero (S := S2048x512) hz, View.ld_unit_zero (S := S2048x1024) hz, shapeCast_self]

/-- A later block adds its product. -/
theorem later_left (hc0 : ¬cond0_0 i) (hc1 : cond0_1 i) (hc2 : ¬cond0_2 i) (hc3 : ¬cond0_3 i) :
    sout0_B_0 (F := Ideal) c i a3 h3 a4 h4 a5 h5 a6 h6 a7 h7 hc0 hc1 hc2 hc3 x y z acc = addf (F := Ideal) (φ := .f32) acc (blockProduct x z) := by
  unfold sout0_B_0
  rw [View.read_writes_eq_canon _ _ _ (scover0_B_0 c i a3 h3 a4 h4 a5 h5 a6 h6 a7 h7 hc0 hc1 hc2 hc3 x y z acc)]
  unfold kernelRun0_B
  dsimp only
  rw [View.canon_unit_zero (S := S512x1024) hz]
  unfold k0_pay2
  simp only [View.readAt_eq_ld, h3.read_unread, h4.read_unread, h5.read_unread, h7.read_unread, View.ld_unit_zero (S := S2048x512) hz, View.ld_unit_zero (S := S2048x1024) hz, View.ld_unit_zero (S := S512x1024) hz, shapeCast_self]

/-- The last block adds its product and writes the sum out. -/
theorem last_left (hc0 : ¬cond0_0 i) (hc1 : cond0_1 i) (hc2 : ¬cond0_2 i) (hc3 : cond0_3 i) :
    out0_C_3 (F := Ideal) c i a3 h3 a4 h4 a5 h5 a6 h6 a7 h7 hc0 hc1 hc2 hc3 x y z acc = addf (F := Ideal) (φ := .f32) acc (blockProduct x z) := by
  unfold out0_C_3
  rw [View.read_writes_eq_canon _ _ _ (cover0_C_3 c i a3 h3 a4 h4 a5 h5 a6 h6 a7 h7 hc0 hc1 hc2 hc3 x y z acc)]
  unfold kernelRun0_C
  dsimp only
  sl_unfold_words
  rw [View.canon_unit_zero (S := S512x1024) hz, View.readCov_unit_zero (S := S512x1024) _ hz]
  unfold k0_pay4 k0_pay2
  simp only [View.readAt_eq_ld, h3.read_unread, h4.read_unread, h5.read_unread, h7.read_unread, View.ld_unit_zero (S := S2048x512) hz, View.ld_unit_zero (S := S2048x1024) hz, View.ld_unit_zero (S := S512x1024) hz, shapeCast_self]
  rfl
theorem first_right (hc0 : cond0_0 i) (hc1 : ¬cond0_1 i) (hc2 : cond0_2 i) (hc3 : ¬cond0_3 i) :
    sout0_D_0 (F := Ideal) c i a3 h3 a4 h4 a5 h5 a6 h6 a7 h7 hc0 hc1 hc2 hc3 x y z = addf (F := Ideal) (φ := .f32) zeros (blockProduct y z) := by
  unfold sout0_D_0
  rw [View.read_writes_eq_canon _ _ _ (scover0_D_0 c i a3 h3 a4 h4 a5 h5 a6 h6 a7 h7 hc0 hc1 hc2 hc3 x y z)]
  unfold kernelRun0_D
  dsimp only
  sl_unfold_words
  rw [View.canon_cons_unit_zero (S := S512x1024) hz, View.readCov_unit_zero (S := S512x1024) _ hz]
  unfold k0_pay3 k0_pay1
  simp only [View.readAt_eq_ld, h3.read_unread, h4.read_unread, h5.read_unread, View.ld_unit_zero (S := S2048x512) hz, View.ld_unit_zero (S := S2048x1024) hz, shapeCast_self]

theorem later_right (hc0 : ¬cond0_0 i) (hc1 : ¬cond0_1 i) (hc2 : cond0_2 i) (hc3 : ¬cond0_3 i) :
    sout0_E_0 (F := Ideal) c i a3 h3 a4 h4 a5 h5 a6 h6 a7 h7 hc0 hc1 hc2 hc3 x y z acc = addf (F := Ideal) (φ := .f32) acc (blockProduct y z) := by
  unfold sout0_E_0
  rw [View.read_writes_eq_canon _ _ _ (scover0_E_0 c i a3 h3 a4 h4 a5 h5 a6 h6 a7 h7 hc0 hc1 hc2 hc3 x y z acc)]
  unfold kernelRun0_E
  dsimp only
  rw [View.canon_unit_zero (S := S512x1024) hz]
  unfold k0_pay3
  simp only [View.readAt_eq_ld, h3.read_unread, h4.read_unread, h5.read_unread, h7.read_unread, View.ld_unit_zero (S := S2048x512) hz, View.ld_unit_zero (S := S2048x1024) hz, View.ld_unit_zero (S := S512x1024) hz, shapeCast_self]

theorem last_right (hc0 : ¬cond0_0 i) (hc1 : ¬cond0_1 i) (hc2 : cond0_2 i) (hc3 : cond0_3 i) :
    out0_F_3 (F := Ideal) c i a3 h3 a4 h4 a5 h5 a6 h6 a7 h7 hc0 hc1 hc2 hc3 x y z acc = addf (F := Ideal) (φ := .f32) acc (blockProduct y z) := by
  unfold out0_F_3
  rw [View.read_writes_eq_canon _ _ _ (cover0_F_3 c i a3 h3 a4 h4 a5 h5 a6 h6 a7 h7 hc0 hc1 hc2 hc3 x y z acc)]
  unfold kernelRun0_F
  dsimp only
  sl_unfold_words
  rw [View.canon_unit_zero (S := S512x1024) hz, View.readCov_unit_zero (S := S512x1024) _ hz]
  unfold k0_pay4 k0_pay3
  simp only [View.readAt_eq_ld, h3.read_unread, h4.read_unread, h5.read_unread, h7.read_unread, View.ld_unit_zero (S := S2048x512) hz, View.ld_unit_zero (S := S2048x1024) hz, View.ld_unit_zero (S := S512x1024) hz, shapeCast_self]
  rfl
end

theorem blockProduct_sum (x : Vec Ideal S2048x512 .bf16) (y : Vec Ideal S2048x1024 .bf16) (q : S512x1024.Idx) (f g : ℕ → EReal)
    (hf : ∀ p : S2048x512.Idx, (p 1).val = (q 0).val → x p = f (p 0).val) (hg : ∀ p : S2048x1024.Idx, (p 1).val = (q 1).val → y p = g (p 0).val) :
    blockProduct x y q = ∑ k ∈ Finset.range 2048, f k * g k :=
  matmul_sum dot_S2048x512_S2048x1024_S512x1024_0_0_1_1_n_n 2048 rfl rfl x y q f g
    (fun k => (hf _ rfl).trans rfl) (fun k => (hg _ rfl).trans rfl)

/-! ## A point's blocks -/

variable (m : (ℓ : Loc nD τ sig) → Buf (Elt Ideal) ℓ) (c : Dev nD)

abbrev left : Vec Ideal S16384x1024 .bf16 := m ((c : Thread nD τ).loc main_arg0)
abbrev right : Vec Ideal S16384x512 .bf16 := m ((c : Thread nD τ).loc main_arg1)
abbrev rhs : Vec Ideal S16384x1024 .bf16 := m ((c : Thread nD τ).loc main_arg2)

theorem index0 : ∀ t : Fin cfg0.N, t.val < 16 → win0_0.index t 0 = t.val % 8 ∧ win0_0.index t 1 = t.val / 8 :=
  (by decide +kernel : ∀ t : Fin grid0.N, t.val < 16 → win0_0.index t 0 = t.val % 8 ∧ win0_0.index t 1 = t.val / 8)
theorem index1 : ∀ t : Fin cfg0.N, 16 ≤ t.val → win0_1.index t 0 = t.val % 8 ∧ win0_1.index t 1 = t.val / 8 - 2 :=
  (by decide +kernel : ∀ t : Fin grid0.N, 16 ≤ t.val → win0_1.index t 0 = t.val % 8 ∧ win0_1.index t 1 = t.val / 8 - 2)
theorem index2 : ∀ t : Fin cfg0.N, win0_2.index t 0 = t.val % 8 ∧ win0_2.index t 1 = 0 :=
  (by decide +kernel : ∀ t : Fin grid0.N, win0_2.index t 0 = t.val % 8 ∧ win0_2.index t 1 = 0)

theorem iblk_0 (t : Fin cfg0.N) (ht : t.val < 16) (p : S2048x512.Idx) :
    (iblk m c 0 t : Vec Ideal S2048x512 .bf16) p = ent (left m c) (2048 * (t.val % 8) + (p 0).val) (512 * (t.val / 8) + (p 1).val) := by
  obtain ⟨e0, e1⟩ := index0 t ht
  refine Eq.trans ?_ (ent_eq (left m c) (((cfg0.win 0).blk t).view.emb p) ?_ ?_)
  · show V m c main_arg0 _ = _
    rw [V_main_arg0 m c]
  · show win0_0.index t 0 * 2048 + 1 * (p 0).val = _
    rw [e0]; omega
  · show win0_0.index t 1 * 512 + 1 * (p 1).val = _
    rw [e1]; omega

theorem iblk_1 (t : Fin cfg0.N) (ht : 16 ≤ t.val) (p : S2048x512.Idx) :
    (iblk m c 1 t : Vec Ideal S2048x512 .bf16) p = ent (right m c) (2048 * (t.val % 8) + (p 0).val) (512 * (t.val / 8) + (p 1).val - 1024) := by
  obtain ⟨e0, e1⟩ := index1 t ht
  refine Eq.trans ?_ (ent_eq (right m c) (((cfg0.win 1).blk t).view.emb p) ?_ ?_)
  · show V m c main_arg1 _ = _
    rw [V_main_arg1 m c]
  · show win0_1.index t 0 * 2048 + 1 * (p 0).val = _
    rw [e0]; omega
  · show win0_1.index t 1 * 512 + 1 * (p 1).val = _
    rw [e1]; omega

theorem iblk_2 (t : Fin cfg0.N) (p : S2048x1024.Idx) :
    (iblk m c 2 t : Vec Ideal S2048x1024 .bf16) p = ent (rhs m c) (2048 * (t.val % 8) + (p 0).val) (p 1).val := by
  obtain ⟨e0, e1⟩ := index2 t
  refine Eq.trans ?_ (ent_eq (rhs m c) (((cfg0.win 2).blk t).view.emb p) ?_ ?_)
  · show V m c main_arg2 _ = _
    rw [V_main_arg2 m c]
  · show win0_2.index t 0 * 2048 + 1 * (p 0).val = _
    rw [e0]; omega
  · show win0_2.index t 1 * 1024 + 1 * (p 1).val = _
    rw [e1]; omega

/-! ## The accumulator -/

/-- The terms of the product's entry at row `i`, column `j`. -/
def term (i j k : ℕ) : EReal := beside 1024 (ent (left m c)) (ent (right m c)) k i * ent (rhs m c) k j

/-- The left operand's block of columns a point reads. -/
abbrev side (t : Fin cfg0.N) : Vec Ideal S2048x512 .bf16 := if t.val < 16 then iblk m c 0 t else iblk m c 1 t

theorem side_eq (t : Fin cfg0.N) (p : S2048x512.Idx) :
    side m c t p = beside 1024 (ent (left m c)) (ent (right m c)) (2048 * (t.val % 8) + (p 0).val) (512 * (t.val / 8) + (p 1).val) := by
  have hp : (p 1).val < 512 := (p 1).isLt
  unfold side beside
  by_cases ht : t.val < 16
  · rw [if_pos ht, if_pos (by omega), iblk_0 m c t ht]
  · rw [if_neg ht, if_neg (by omega), iblk_1 m c t (Nat.le_of_not_lt ht)]

theorem block_eq (t : Fin cfg0.N) (q : S512x1024.Idx) (r k : ℕ) (hr : t.val / 8 = r) (hk : t.val % 8 = k) :
    blockProduct (side m c t) (iblk m c 2 t) q = ∑ x ∈ Finset.range 2048, term m c (512 * r + (q 0).val) (q 1).val (2048 * k + x) := by
  subst hr hk
  refine blockProduct_sum _ _ q (fun x => beside 1024 (ent (left m c)) (ent (right m c)) (2048 * (t.val % 8) + x) (512 * (t.val / 8) + (q 0).val))
    (fun x => ent (rhs m c) (2048 * (t.val % 8) + x) (q 1).val) (fun p hp => ?_) (fun p hp => ?_)
  · rw [side_eq, hp]
  · rw [iblk_2, hp]

/-- A run's first point. -/
theorem first_eq (t : Fin cfg0.N) (h0 : t.val % 8 = 0) :
    (outsAt0 m c t.val t.isLt).2 = addf (F := Ideal) (φ := .f32) zeros (blockProduct (side m c t) (iblk m c 2 t)) := by
  unfold side
  by_cases ht : t.val < 16
  · rw [if_pos ht, outsAt0_A m c t h0 ht (by omega) (by omega)]
    dsimp only
    rw [first_left]
  · rw [if_neg ht, outsAt0_D m c t h0 ht (by omega) (by omega)]
    dsimp only
    rw [first_right]

/-- A run's middle points. -/
theorem later_eq (t : Fin cfg0.N) (h0 : ¬t.val % 8 = 0) (h7 : ¬t.val % 8 = 7) :
    (outsAt0 m c t.val t.isLt).2 = addf (F := Ideal) (φ := .f32) (outsAt0 m c (t.val - 1) (by omega)).2 (blockProduct (side m c t) (iblk m c 2 t)) := by
  unfold side
  by_cases ht : t.val < 16
  · rw [if_pos ht, outsAt0_B m c t h0 ht (by omega) h7]
    dsimp only
    rw [later_left]
  · rw [if_neg ht, outsAt0_E m c t h0 ht (by omega) h7]
    dsimp only
    rw [later_right]

/-- A run's last point. -/
theorem last_eq (t : Fin cfg0.N) (h7 : t.val % 8 = 7) :
    (outsAt0 m c t.val t.isLt).1 = addf (F := Ideal) (φ := .f32) (outsAt0 m c (t.val - 1) (by omega)).2 (blockProduct (side m c t) (iblk m c 2 t)) := by
  unfold side
  by_cases ht : t.val < 16
  · rw [if_pos ht, outsAt0_C m c t (by omega) ht (by omega) h7]
    dsimp only
    rw [last_left]
  · rw [if_neg ht, outsAt0_F m c t (by omega) ht (by omega) h7]
    dsimp only
    rw [last_right]

/-- After `k + 1` blocks of a run the accumulator holds the sum over their rows. -/
theorem acc_eq (q : S512x1024.Idx) (r : ℕ) : ∀ (k : ℕ) (hk : k < 7) (h : 8 * r + k < cfg0.N),
    (outsAt0 m c (8 * r + k) h).2 q = ∑ x ∈ Finset.range (2048 * (k + 1)), term m c (512 * r + (q 0).val) (q 1).val x
  | 0, _, h => by
    rw [first_eq m c ⟨8 * r + 0, h⟩ (by show (8 * r + 0) % 8 = 0; omega)]
    show Ideal.ofBits .f32 0x00000000#32 + blockProduct _ _ q = _
    rw [ofBits_zero]
    refine acc_zero _ 2048 ((block_eq m c ⟨8 * r + 0, h⟩ q r 0 (by show (8 * r + 0) / 8 = r; omega) (by show (8 * r + 0) % 8 = 0; omega)).trans ?_)
    simp only [Nat.mul_zero, Nat.zero_add]
  | k + 1, hk, h => by
    have ih := acc_eq q r k (by omega) (by omega)
    rw [later_eq m c ⟨8 * r + (k + 1), h⟩ (by show ¬(8 * r + (k + 1)) % 8 = 0; omega) (by show ¬(8 * r + (k + 1)) % 8 = 7; omega)]
    exact acc_succ _ 2048 (k + 1) ih
      (block_eq m c ⟨8 * r + (k + 1), h⟩ q r (k + 1) (by show (8 * r + (k + 1)) / 8 = r; omega) (by show (8 * r + (k + 1)) % 8 = k + 1; omega))

/-- What a run's last point writes out: the sum over all rows. -/
theorem out_eq (q : S512x1024.Idx) (r : ℕ) (h : 8 * r + 7 < cfg0.N) :
    (outsAt0 m c (8 * r + 7) h).1 q = ∑ x ∈ Finset.range 16384, term m c (512 * r + (q 0).val) (q 1).val x := by
  rw [last_eq m c ⟨8 * r + 7, h⟩ (by show (8 * r + 7) % 8 = 7; omega)]
  exact acc_succ _ 2048 7 (acc_eq m c q r 6 (by decide) (by omega))
    (block_eq m c ⟨8 * r + 7, h⟩ q r 7 (by show (8 * r + 7) / 8 = r; omega) (by show (8 * r + 7) % 8 = 7; omega))

/-- The result array, entry by entry. -/
theorem G3_eq (i : S1536x1024.Idx) : G3 m c i = ∑ x ∈ Finset.range 16384, term m c (i 0).val (i 1).val x := by
  have h0 : (i 0).val < 1536 := (i 0).isLt
  have h1 : (i 1).val < 1024 := (i 1).isLt
  have hN : cfg0.N = 24 := N_0
  have hp : pt3Of i < cfg0.N := by
    rw [hN]
    show 8 * (1 * ((i 0).val / 512 - 0) + 1 * ((i 1).val / 1024 - 0)) + 7 < 24
    omega
  unfold G3
  rw [dif_pos hp, ← outsAt0_sweep m c (pt3Of i) hp, out_eq]
  have e0 : 512 * run3Of i + (loc3Of i 0).val = (i 0).val := by
    show 512 * (1 * ((i 0).val / 512 - 0) + 1 * ((i 1).val / 1024 - 0)) + (i 0).val % 512 = _
    omega
  have e1 : (loc3Of i 1).val = (i 1).val := Nat.mod_eq_of_lt h1
  rw [e0, e1]

end Cert.AbOutWIdeal.Product

/-! ## The reference -/

namespace Cert.AbOutWRefIdeal.Product

open Cert.AbOutWRefIdeal Cert.AbOutWRefIdeal.Gen Cert.AbOutWRefIdeal.Read Cert.Products
open Idealize.ShloMosaic Idealize.ShloMosaic.TcCoe Idealize.ShloMosaic.ValueIdx
open scoped BigOperators

theorem sides (x : (⟨S16384x1024, .bf16⟩ : BufTy).Contents (Elt Ideal)) (y : (⟨S16384x512, .bf16⟩ : BufTy).Contents (Elt Ideal)) (i : S16384x1536.Idx) :
    val_main_v1 (F := Ideal) x y i = beside 1024 (ent x) (ent y) (i 0).val (i 1).val :=
  concat_ent x y concatenates_S16384x1024_S16384x512_S16384x1536_d1 rfl i

theorem result_eq (x : (⟨S16384x1024, .bf16⟩ : BufTy).Contents (Elt Ideal)) (y : (⟨S16384x512, .bf16⟩ : BufTy).Contents (Elt Ideal)) (z : (⟨S16384x1024, .bf16⟩ : BufTy).Contents (Elt Ideal)) (i : S1536x1024.Idx) :
    val_main_v7 (F := Ideal) x y z i = ∑ k ∈ Finset.range 16384, beside 1024 (ent x) (ent y) k (i 0).val * ent z k (i 1).val := by
  rw [val_main_v7_apply]
  show val_main_v6 (F := Ideal) x y z i = _
  rw [val_main_v6_apply, val_main_v5_apply, Finset.sum_range]
  refine Finset.sum_congr rfl fun k _ => (mul_comm _ _).trans ?_
  exact congrArg₂ (· * ·) (sides x y _) (ent_eq z _ rfl rfl)

end Cert.AbOutWRefIdeal.Product

end
-- ==== Proof.AbOutHValue.lean ====
module

public import proofs.«01_k».proof.Proof.Products
public import proofs.«01_k».proof.Proof.Gen.AbOutHIdeal.Value
public import proofs.«01_k».proof.Proof.Gen.AbOutHRefIdeal.Run
public import proofs.«01_k».proof.Proof.Gen.AbOutHRefIdeal.Read

@[expose] public section

/-! The gradient that goes back through the first mixer's output product: each point computes one block of rows and columns,
    and the blocks together are the reference's one product with the transposed weight. -/

set_option maxRecDepth 16384

noncomputable section

namespace Cert.AbOutHIdeal.Product

open Cert.AbOutHIdeal Cert.AbOutHIdeal.Gen Cert.AbOutHIdeal.Value Cert.Products
open Idealize.ShloMosaic Idealize.ShloMosaic.TcCoe Idealize.ShloMosaic.ValueIdx
open scoped BigOperators

theorem hz : (![0, 0] : Fin 2 → Nat) = fun _ => 0 := funext fun a => by fin_cases a <;> rfl

/-- What a point leaves in the output, at one entry. -/
theorem out_sum (x : Vec Ideal S2048x1024 .bf16) (y : Vec Ideal S768x1024 .bf16) (q : S2048x768.Idx) (f g : ℕ → EReal)
    (hf : ∀ p : S2048x1024.Idx, (p 0).val = (q 0).val → x p = f (p 1).val) (hg : ∀ p : S768x1024.Idx, (p 0).val = (q 1).val → y p = g (p 1).val) :
    out0_2 (F := Ideal) x y q = ∑ k ∈ Finset.range 1024, f k * g k := by
  unfold out0_2
  rw [View.canon_unit_zero (S := S2048x768) hz]
  unfold k0_pay1
  simp only [View.ld_unit_zero (S := S2048x1024) hz, View.ld_unit_zero (S := S768x1024) hz, shapeCast_self]
  exact matmul_sum dot_S2048x1024_S768x1024_S2048x768_1_1_0_0_n_n 1024 rfl rfl x y q f g
    (fun k => (hf _ rfl).trans rfl) (fun k => (hg _ rfl).trans rfl)

variable (m : (ℓ : Loc nD τ sig) → Buf (Elt Ideal) ℓ) (c : Dev nD)

abbrev lhs : Vec Ideal S16384x1024 .bf16 := m ((c : Thread nD τ).loc main_arg0)
abbrev rhs : Vec Ideal S1536x1024 .f32 := m ((c : Thread nD τ).loc main_arg1)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem iblk_0 (t : Fin cfg0.N) (p : S2048x1024.Idx) :
    (iblk m c 0 t : Vec Ideal S2048x1024 .bf16) p = ent (lhs m c) (2048 * (t.val / 2) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host's narrowing is exact on ideal values. -/
theorem V_v0 : (V m c main_v0 : Vec Ideal S1536x1024 .bf16) = (rhs m c : S1536x1024.Idx → EReal) := rfl

theorem iblk_1 (t : Fin cfg0.N) (p : S768x1024.Idx) :
    (iblk m c 1 t : Vec Ideal S768x1024 .bf16) p = ent (rhs m c) (768 * (t.val % 2) + (p 0).val) (p 1).val := by
  obtain ⟨e0, e1⟩ := index1 t
  refine Eq.trans ?_ (ent_eq (rhs m c) (((cfg0.win 1).blk t).view.emb p) ?_ ?_)
  · show (V m c main_v0 : Vec Ideal S1536x1024 .bf16) _ = _
    rw [V_v0 m c]
  · show win0_1.index t 0 * 768 + 1 * (p 0).val = _
    rw [e0]; omega
  · show win0_1.index t 1 * 1024 + 1 * (p 1).val = _
    rw [e1]; omega

/-- The product's entry at row `i`, column `j`. -/
def entry (i j : ℕ) : EReal := ∑ k ∈ Finset.range 1024, ent (lhs m c) i k * ent (rhs m c) j k

/-- The result array. -/
abbrev result : Vec Ideal S16384x1536 .f32 := fun i => entry m c (i 0).val (i 1).val

theorem final2 : ((dats m 0 c).arrAt 2 cfg0.N : Vec Ideal S16384x1536 .f32) = result m c :=
  (dats m 0 c).arrAt_eq_of_cover 2 (result m c) (fun t _ => by
      rw [flushed2]
      funext q
      show out0_2 (F := Ideal) (iblk m c 0 t) (iblk m c 1 t) q = entry m c (win0_2.index t 0 * 2048 + 1 * (q 0).val) (win0_2.index t 1 * 768 + 1 * (q 1).val)
      obtain ⟨e0, e1⟩ := index2 t
      rw [e0, e1, Nat.one_mul, Nat.one_mul, Nat.mul_comm _ 2048, Nat.mul_comm _ 768]
      refine out_sum _ _ q (fun k => ent (lhs m c) (2048 * (t.val / 2) + (q 0).val) k) (fun k => ent (rhs m c) (768 * (t.val % 2) + (q 1).val) k)
        (fun p hp => ?_) (fun p hp => ?_)
      · rw [iblk_0, hp]
      · rw [iblk_1, hp]) fun i => by
    have hN : cfg0.N = 16 := N_0
    have h0 : (i 0 : Nat) < 16384 := (i 0).isLt
    have h1 : (i 1 : Nat) < 1536 := (i 1).isLt
    let t : Fin cfg0.N := ⟨2 * ((i 0).val / 2048) + (i 1).val / 768, by omega⟩
    have ht : t.val = 2 * ((i 0).val / 2048) + (i 1).val / 768 := rfl
    refine ⟨t, flush0_2 t, ?_⟩
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [(index2 t).1, ht]; omega
    | ⟨1, _⟩ =>
      show win0_2.index t 1 * 768 ≤ (i 1 : Nat) ∧ (i 1 : Nat) < win0_2.index t 1 * 768 + 768
      rw [(index2 t).2, ht]; omega

end Cert.AbOutHIdeal.Product

/-! ## The reference -/

namespace Cert.AbOutHRefIdeal.Product

open Cert.AbOutHRefIdeal Cert.AbOutHRefIdeal.Gen Cert.AbOutHRefIdeal.Read Cert.Products
open Idealize.ShloMosaic Idealize.ShloMosaic.TcCoe Idealize.ShloMosaic.ValueIdx
open scoped BigOperators

theorem result_eq (x : (⟨S16384x1024, .bf16⟩ : BufTy).Contents (Elt Ideal)) (y : (⟨S1536x1024, .f32⟩ : BufTy).Contents (Elt Ideal)) (i : S16384x1536.Idx) :
    val_main_v3 (F := Ideal) x y i = ∑ k ∈ Finset.range 1024, ent x (i 0).val k * ent y (i 1).val k := by
  rw [val_main_v3_apply, Finset.sum_range]
  exact Finset.sum_congr rfl fun k _ => congrArg₂ (· * ·) (ent_eq x _ rfl rfl) (ent_eq y _ rfl rfl)

end Cert.AbOutHRefIdeal.Product

end
-- ==== Proof.Up0Value.lean ====
module

public import proofs.«01_k».proof.Proof.Products
public import proofs.«01_k».proof.Proof.Gen.Up0Ideal.Value
public import proofs.«01_k».proof.Proof.Gen.Up0RefIdeal.Run
public import proofs.«01_k».proof.Proof.Gen.Up0RefIdeal.Read

@[expose] public section

/-! The feed-forward block's first product in the first layer: the weight comes as four shares of 1408 columns, each point
    computes one block of rows against one share, and the blocks together are the reference's one product. -/

set_option maxRecDepth 16384

noncomputable section

namespace Cert.Up0Ideal.Product

open Cert.Up0Ideal Cert.Up0Ideal.Gen Cert.Up0Ideal.Value Cert.Products
open Idealize.ShloMosaic Idealize.ShloMosaic.TcCoe Idealize.ShloMosaic.ValueIdx
open scoped BigOperators

theorem hz3 : (![0, 0, 0] : Fin 3 → Nat) = fun _ => 0 := funext fun a => by fin_cases a <;> rfl
theorem hz : (![0, 0] : Fin 2 → Nat) = fun _ => 0 := funext fun a => by fin_cases a <;> rfl

/-- What a point leaves in the output, at one entry. -/
theorem out_sum (x : Vec Ideal S2048x1024 .bf16) (y : Vec Ideal S1x1024x1408 .bf16) (q : S2048x1408.Idx) (f g : ℕ → EReal)
    (hf : ∀ p : S2048x1024.Idx, (p 0).val = (q 0).val → x p = f (p 1).val) (hg : ∀ p : S1x1024x1408.Idx, (p 2).val = (q 1).val → y p = g (p 1).val) :
    out0_2 (F := Ideal) x y q = ∑ k ∈ Finset.range 1024, f k * g k := by
  unfold out0_2
  rw [View.canon_unit_zero (S := S2048x1408) hz]
  unfold k0_pay1
  simp only [View.ld_unit_zero (S := S2048x1024) hz, View.ld_unit_zero (S := S1x1024x1408) hz3, shapeCast_self]
  exact matmul_sum (φ₁ := .bf16) (φ₂ := .bf16) dot_S2048x1024_S1024x1408_S2048x1408_1_0_0_1_n_n 1024 rfl rfl x (shapeCast S1024x1408 y shapeCasts_S1x1024x1408_S1024x1408) q f g
    (fun k => (hf _ rfl).trans rfl) (fun k => (dropPlane_apply y shapeCasts_S1x1024x1408_S1024x1408 _).trans ((hg _ rfl).trans rfl))

variable (m : (ℓ : Loc nD τ sig) → Buf (Elt Ideal) ℓ) (c : Dev nD)

abbrev lhs : Vec Ideal S16384x1024 .bf16 := m ((c : Thread nD τ).loc main_arg0)
abbrev weight : Vec Ideal S2x1024x5632 .f32 := m ((c : Thread nD τ).loc main_arg1)

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem iblk_0 (t : Fin cfg0.N) (p : S2048x1024.Idx) :
    (iblk m c 0 t : Vec Ideal S2048x1024 .bf16) p = ent (lhs m c) (2048 * (t.val / 4) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host lays the columns out as four shares, and its narrowing is exact on ideal values. -/
theorem shares (q : S4x2048x1408.Idx) :
    (V m c main_v2 : Vec Ideal S4x2048x1408 .bf16) q = ent3 (weight m c) ((q 1).val / 1024) ((q 1).val % 1024) (1408 * (q 0).val + (q 2).val) :=
  shares_apply (weight m c) shapeCasts_S2x1024x5632_S2048x4x1408 transposes_S2048x4x1408_S4x2048x1408_1_0_2 rfl rfl q

theorem iblk_1 (t : Fin cfg0.N) (p : S1x1024x1408.Idx) :
    (iblk m c 1 t : Vec Ideal S1x1024x1408 .bf16) p = ent3 (weight m c) 0 (p 1).val (1408 * (t.val % 4) + (p 2).val) := by
  obtain ⟨e0, e1, e2⟩ := index1 t
  have hp : (p 0).val < 1 := (p 0).isLt
  have hp1 : (p 1).val < 1024 := (p 1).isLt
  refine (shares m c (((cfg0.win 1).blk t).view.emb p)).trans ?_
  show ent3 _ ((win0_1.index t 1 * 1024 + 1 * (p 1).val) / 1024) ((win0_1.index t 1 * 1024 + 1 * (p 1).val) % 1024)
    (1408 * (win0_1.index t 0 * 1 + 1 * (p 0).val) + (win0_1.index t 2 * 1408 + 1 * (p 2).val)) = _
  rw [e0, e1, e2, show (0 * 1024 + 1 * (p 1).val) / 1024 = 0 by omega, show (0 * 1024 + 1 * (p 1).val) % 1024 = (p 1).val by omega,
    show 1408 * (t.val % 4 * 1 + 1 * (p 0).val) + (0 * 1408 + 1 * (p 2).val) = 1408 * (t.val % 4) + (p 2).val by omega]

/-- The product's entry at row `i`, column `j`. -/
def entry (i j : ℕ) : EReal := ∑ k ∈ Finset.range 1024, ent (lhs m c) i k * ent3 (weight m c) 0 k j

/-- The result array. -/
abbrev result : Vec Ideal S16384x5632 .bf16 := fun i => entry m c (i 0).val (i 1).val

theorem final2 : ((dats m 0 c).arrAt 2 cfg0.N : Vec Ideal S16384x5632 .bf16) = result m c :=
  (dats m 0 c).arrAt_eq_of_cover 2 (result m c) (fun t _ => by
      rw [flushed2]
      funext q
      show out0_2 (F := Ideal) (iblk m c 0 t) (iblk m c 1 t) q = entry m c (win0_2.index t 0 * 2048 + 1 * (q 0).val) (win0_2.index t 1 * 1408 + 1 * (q 1).val)
      obtain ⟨e0, e1⟩ := index2 t
      rw [e0, e1, Nat.one_mul, Nat.one_mul, Nat.mul_comm _ 2048, Nat.mul_comm _ 1408]
      refine out_sum _ _ q (fun k => ent (lhs m c) (2048 * (t.val / 4) + (q 0).val) k) (fun k => ent3 (weight m c) 0 k (1408 * (t.val % 4) + (q 1).val))
        (fun p hp => ?_) (fun p hp => ?_)
      · rw [iblk_0, hp]
      · rw [iblk_1, hp]) fun i => by
    have hN : cfg0.N = 32 := N_0
    have h0 : (i 0 : Nat) < 16384 := (i 0).isLt
    have h1 : (i 1 : Nat) < 5632 := (i 1).isLt
    let t : Fin cfg0.N := ⟨4 * ((i 0).val / 2048) + (i 1).val / 1408, by omega⟩
    have ht : t.val = 4 * ((i 0).val / 2048) + (i 1).val / 1408 := rfl
    refine ⟨t, flush0_2 t, ?_⟩
    show i ∈ ((View.whole main_v3).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [(index2 t).1, ht]; omega
    | ⟨1, _⟩ =>
      show win0_2.index t 1 * 1408 ≤ (i 1 : Nat) ∧ (i 1 : Nat) < win0_2.index t 1 * 1408 + 1408
      rw [(index2 t).2, ht]; omega

end Cert.Up0Ideal.Product

/-! ## The reference -/

namespace Cert.Up0RefIdeal.Product

open Cert.Up0RefIdeal Cert.Up0RefIdeal.Gen Cert.Up0RefIdeal.Read Cert.Products
open Idealize.ShloMosaic Idealize.ShloMosaic.TcCoe Idealize.ShloMosaic.ValueIdx
open scoped BigOperators

theorem weight (w : (⟨S2x1024x5632, .f32⟩ : BufTy).Contents (Elt Ideal)) (i : S1024x5632.Idx) :
    val_main_v2 (F := Ideal) w i = ent3 w 0 (i 0).val (i 1).val := by
  have h0 : (i 0).val < 1024 := (i 0).isLt
  have h1 : (i 1).val < 5632 := (i 1).isLt
  rw [val_main_v2_apply, val_main_v1_apply]
  refine ent3_eq w _ rfl ?_ ?_
  · show ((i 0).val * 5632 + (i 1).val) / 5632 % 1024 = _
    omega
  · show ((i 0).val * 5632 + (i 1).val) % 5632 = _
    omega

theorem result_eq (x : (⟨S16384x1024, .bf16⟩ : BufTy).Contents (Elt Ideal)) (y : (⟨S2x1024x5632, .f32⟩ : BufTy).Contents (Elt Ideal)) (i : S16384x5632.Idx) :
    val_main_v4 (F := Ideal) x y i = ∑ k ∈ Finset.range 1024, ent x (i 0).val k * ent3 y 0 k (i 1).val := by
  rw [val_main_v4_apply]
  show val_main_v3 (F := Ideal) x y i = _
  rw [val_main_v3_apply, Finset.sum_range]
  exact Finset.sum_congr rfl fun k _ => congrArg₂ (· * ·) (ent_eq x _ rfl rfl) (weight y _)

end Cert.Up0RefIdeal.Product

end
-- ==== Proof.Up1Value.lean ====
module

public import proofs.«01_k».proof.Proof.Products
public import proofs.«01_k».proof.Proof.Gen.Up1Ideal.Value
public import proofs.«01_k».proof.Proof.Gen.Up1RefIdeal.Run
public import proofs.«01_k».proof.Proof.Gen.Up1RefIdeal.Read

@[expose] public section

/-! The feed-forward block's first product in the second layer: the weight comes as four shares of 1408 columns, each point
    computes one block of rows against one share, and the blocks together are the reference's one product. -/

set_option maxRecDepth 16384

noncomputable section

namespace Cert.Up1Ideal.Product

open Cert.Up1Ideal Cert.Up1Ideal.Gen Cert.Up1Ideal.Value Cert.Products
open Idealize.ShloMosaic Idealize.ShloMosaic.TcCoe Idealize.ShloMosaic.ValueIdx
open scoped BigOperators

theorem hz3 : (![0, 0, 0] : Fin 3 → Nat) = fun _ => 0 := funext fun a => by fin_cases a <;> rfl
theorem hz : (![0, 0] : Fin 2 → Nat) = fun _ => 0 := funext fun a => by fin_cases a <;> rfl

/-- What a point leaves in the output, at one entry. -/
theorem out_sum (x : Vec Ideal S2048x1024 .bf16) (y : Vec Ideal S1x1024x1408 .bf16) (q : S2048x1408.Idx) (f g : ℕ → EReal)
    (hf : ∀ p : S2048x1024.Idx, (p 0).val = (q 0).val → x p = f (p 1).val) (hg : ∀ p : S1x1024x1408.Idx, (p 2).val = (q 1).val → y p = g (p 1).val) :
    out0_2 (F := Ideal) x y q = ∑ k ∈ Finset.range 1024, f k * g k := by
  unfold out0_2
  rw [View.canon_unit_zero (S := S2048x1408) hz]
  unfold k0_pay1
  simp only [View.ld_unit_zero (S := S2048x1024) hz, View.ld_unit_zero (S := S1x1024x1408) hz3, shapeCast_self]
  exact matmul_sum (φ₁ := .bf16) (φ₂ := .bf16) dot_S2048x1024_S1024x1408_S2048x1408_1_0_0_1_n_n 1024 rfl rfl x (shapeCast S1024x1408 y shapeCasts_S1x1024x1408_S1024x1408) q f g
    (fun k => (hf _ rfl).trans rfl) (fun k => (dropPlane_apply y shapeCasts_S1x1024x1408_S1024x1408 _).trans ((hg _ rfl).trans rfl))

variable (m : (ℓ : Loc nD τ sig) → Buf (Elt Ideal) ℓ) (c : Dev nD)

abbrev lhs : Vec Ideal S16384x1024 .bf16 := m ((c : Thread nD τ).loc main_arg0)
abbrev weight : Vec Ideal S2x1024x5632 .f32 := m ((c : Thread nD τ).loc main_arg1)

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 1 ∧ win0_1.index t 2 = 0 :=
  (by decide +kernel : ∀ t : Fin grid0.N, win0_1.index t 0 = t.val % 4 ∧ win0_1.index t 1 = 1 ∧ win0_1.index t 2 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem iblk_0 (t : Fin cfg0.N) (p : S2048x1024.Idx) :
    (iblk m c 0 t : Vec Ideal S2048x1024 .bf16) p = ent (lhs m c) (2048 * (t.val / 4) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host lays the columns out as four shares, and its narrowing is exact on ideal values. -/
theorem shares (q : S4x2048x1408.Idx) :
    (V m c main_v2 : Vec Ideal S4x2048x1408 .bf16) q = ent3 (weight m c) ((q 1).val / 1024) ((q 1).val % 1024) (1408 * (q 0).val + (q 2).val) :=
  shares_apply (weight m c) shapeCasts_S2x1024x5632_S2048x4x1408 transposes_S2048x4x1408_S4x2048x1408_1_0_2 rfl rfl q

theorem iblk_1 (t : Fin cfg0.N) (p : S1x1024x1408.Idx) :
    (iblk m c 1 t : Vec Ideal S1x1024x1408 .bf16) p = ent3 (weight m c) 1 (p 1).val (1408 * (t.val % 4) + (p 2).val) := by
  obtain ⟨e0, e1, e2⟩ := index1 t
  have hp : (p 0).val < 1 := (p 0).isLt
  have hp1 : (p 1).val < 1024 := (p 1).isLt
  refine (shares m c (((cfg0.win 1).blk t).view.emb p)).trans ?_
  show ent3 _ ((win0_1.index t 1 * 1024 + 1 * (p 1).val) / 1024) ((win0_1.index t 1 * 1024 + 1 * (p 1).val) % 1024)
    (1408 * (win0_1.index t 0 * 1 + 1 * (p 0).val) + (win0_1.index t 2 * 1408 + 1 * (p 2).val)) = _
  rw [e0, e1, e2, show (1 * 1024 + 1 * (p 1).val) / 1024 = 1 by omega, show (1 * 1024 + 1 * (p 1).val) % 1024 = (p 1).val by omega,
    show 1408 * (t.val % 4 * 1 + 1 * (p 0).val) + (0 * 1408 + 1 * (p 2).val) = 1408 * (t.val % 4) + (p 2).val by omega]

/-- The product's entry at row `i`, column `j`. -/
def entry (i j : ℕ) : EReal := ∑ k ∈ Finset.range 1024, ent (lhs m c) i k * ent3 (weight m c) 1 k j

/-- The result array. -/
abbrev result : Vec Ideal S16384x5632 .bf16 := fun i => entry m c (i 0).val (i 1).val

theorem final2 : ((dats m 0 c).arrAt 2 cfg0.N : Vec Ideal S16384x5632 .bf16) = result m c :=
  (dats m 0 c).arrAt_eq_of_cover 2 (result m c) (fun t _ => by
      rw [flushed2]
      funext q
      show out0_2 (F := Ideal) (iblk m c 0 t) (iblk m c 1 t) q = entry m c (win0_2.index t 0 * 2048 + 1 * (q 0).val) (win0_2.index t 1 * 1408 + 1 * (q 1).val)
      obtain ⟨e0, e1⟩ := index2 t
      rw [e0, e1, Nat.one_mul, Nat.one_mul, Nat.mul_comm _ 2048, Nat.mul_comm _ 1408]
      refine out_sum _ _ q (fun k => ent (lhs m c) (2048 * (t.val / 4) + (q 0).val) k) (fun k => ent3 (weight m c) 1 k (1408 * (t.val % 4) + (q 1).val))
        (fun p hp => ?_) (fun p hp => ?_)
      · rw [iblk_0, hp]
      · rw [iblk_1, hp]) fun i => by
    have hN : cfg0.N = 32 := N_0
    have h0 : (i 0 : Nat) < 16384 := (i 0).isLt
    have h1 : (i 1 : Nat) < 5632 := (i 1).isLt
    let t : Fin cfg0.N := ⟨4 * ((i 0).val / 2048) + (i 1).val / 1408, by omega⟩
    have ht : t.val = 4 * ((i 0).val / 2048) + (i 1).val / 1408 := rfl
    refine ⟨t, flush0_2 t, ?_⟩
    show i ∈ ((View.whole main_v3).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [(index2 t).1, ht]; omega
    | ⟨1, _⟩ =>
      show win0_2.index t 1 * 1408 ≤ (i 1 : Nat) ∧ (i 1 : Nat) < win0_2.index t 1 * 1408 + 1408
      rw [(index2 t).2, ht]; omega

end Cert.Up1Ideal.Product

/-! ## The reference -/

namespace Cert.Up1RefIdeal.Product

open Cert.Up1RefIdeal Cert.Up1RefIdeal.Gen Cert.Up1RefIdeal.Read Cert.Products
open Idealize.ShloMosaic Idealize.ShloMosaic.TcCoe Idealize.ShloMosaic.ValueIdx
open scoped BigOperators

theorem weight (w : (⟨S2x1024x5632, .f32⟩ : BufTy).Contents (Elt Ideal)) (i : S1024x5632.Idx) :
    val_main_v2 (F := Ideal) w i = ent3 w 1 (i 0).val (i 1).val := by
  have h0 : (i 0).val < 1024 := (i 0).isLt
  have h1 : (i 1).val < 5632 := (i 1).isLt
  rw [val_main_v2_apply, val_main_v1_apply]
  refine ent3_eq w _ rfl ?_ ?_
  · show ((i 0).val * 5632 + (i 1).val) / 5632 % 1024 = _
    omega
  · show ((i 0).val * 5632 + (i 1).val) % 5632 = _
    omega

theorem result_eq (x : (⟨S16384x1024, .bf16⟩ : BufTy).Contents (Elt Ideal)) (y : (⟨S2x1024x5632, .f32⟩ : BufTy).Contents (Elt Ideal)) (i : S16384x5632.Idx) :
    val_main_v4 (F := Ideal) x y i = ∑ k ∈ Finset.range 1024, ent x (i 0).val k * ent3 y 1 k (i 1).val := by
  rw [val_main_v4_apply]
  show val_main_v3 (F := Ideal) x y i = _
  rw [val_main_v3_apply, Finset.sum_range]
  exact Finset.sum_congr rfl fun k _ => congrArg₂ (· * ·) (ent_eq x _ rfl rfl) (weight y _)

end Cert.Up1RefIdeal.Product

end
-- ==== Proof.CInValue.lean ====
module

public import proofs.«01_k».proof.Proof.Products
public import proofs.«01_k».proof.Proof.Gen.CInIdeal.Value
public import proofs.«01_k».proof.Proof.Gen.CInRefIdeal.Run
public import proofs.«01_k».proof.Proof.Gen.CInRefIdeal.Read

@[expose] public section

/-! The second mixer's input product: the weight comes as four shares of 1024 columns, each point
    computes one block of rows against one share, and the blocks together are the reference's one product. -/

set_option maxRecDepth 16384

noncomputable section

namespace Cert.CInIdeal.Product

open Cert.CInIdeal Cert.CInIdeal.Gen Cert.CInIdeal.Value Cert.Products
open Idealize.ShloMosaic Idealize.ShloMosaic.TcCoe Idealize.ShloMosaic.ValueIdx
open scoped BigOperators

theorem hz3 : (![0, 0, 0] : Fin 3 → Nat) = fun _ => 0 := funext fun a => by fin_cases a <;> rfl
theorem hz : (![0, 0] : Fin 2 → Nat) = fun _ => 0 := funext fun a => by fin_cases a <;> rfl

/-- What a point leaves in the output, at one entry. -/
theorem out_sum (x : Vec Ideal S2048x1024 .bf16) (y : Vec Ideal S1x1024x1024 .bf16) (q : S2048x1024.Idx) (f g : ℕ → EReal)
    (hf : ∀ p : S2048x1024.Idx, (p 0).val = (q 0).val → x p = f (p 1).val) (hg : ∀ p : S1x1024x1024.Idx, (p 2).val = (q 1).val → y p = g (p 1).val) :
    out0_2 (F := Ideal) x y q = ∑ k ∈ Finset.range 1024, f k * g k := by
  unfold out0_2
  rw [View.canon_unit_zero (S := S2048x1024) hz]
  unfold k0_pay1
  simp only [View.ld_unit_zero (S := S2048x1024) hz, View.ld_unit_zero (S := S1x1024x1024) hz3, shapeCast_self]
  exact matmul_sum (φ₁ := .bf16) (φ₂ := .bf16) dot_S2048x1024_S1024x1024_S2048x1024_1_0_0_1_n_n 1024 rfl rfl x (shapeCast S1024x1024 y shapeCasts_S1x1024x1024_S1024x1024) q f g
    (fun k => (hf (dot_S2048x1024_S1024x1024_S2048x1024_1_0_0_1_n_n.lhsIdx q k) rfl).trans rfl) (fun k => (dropPlane_apply y shapeCasts_S1x1024x1024_S1024x1024 _).trans ((hg _ rfl).trans rfl))

variable (m : (ℓ : Loc nD τ sig) → Buf (Elt Ideal) ℓ) (c : Dev nD)

abbrev lhs : Vec Ideal S16384x1024 .bf16 := m ((c : Thread nD τ).loc main_arg0)
abbrev weight : Vec Ideal S1x1024x4096 .f32 := m ((c : Thread nD τ).loc main_arg1)

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem iblk_0 (t : Fin cfg0.N) (p : S2048x1024.Idx) :
    (iblk m c 0 t : Vec Ideal S2048x1024 .bf16) p = ent (lhs m c) (2048 * (t.val / 4) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host lays the columns out as four shares, and its narrowing is exact on ideal values. -/
theorem shares (q : S4x1024x1024.Idx) :
    (V m c main_v2 : Vec Ideal S4x1024x1024 .bf16) q = ent3 (weight m c) ((q 1).val / 1024) ((q 1).val % 1024) (1024 * (q 0).val + (q 2).val) :=
  shares_apply (weight m c) shapeCasts_S1x1024x4096_S1024x4x1024 transposes_S1024x4x1024_S4x1024x1024_1_0_2 rfl rfl q

theorem iblk_1 (t : Fin cfg0.N) (p : S1x1024x1024.Idx) :
    (iblk m c 1 t : Vec Ideal S1x1024x1024 .bf16) p = ent3 (weight m c) 0 (p 1).val (1024 * (t.val % 4) + (p 2).val) := by
  obtain ⟨e0, e1, e2⟩ := index1 t
  have hp : (p 0).val < 1 := (p 0).isLt
  have hp1 : (p 1).val < 1024 := (p 1).isLt
  refine (shares m c (((cfg0.win 1).blk t).view.emb p)).trans ?_
  show ent3 _ ((win0_1.index t 1 * 1024 + 1 * (p 1).val) / 1024) ((win0_1.index t 1 * 1024 + 1 * (p 1).val) % 1024)
    (1024 * (win0_1.index t 0 * 1 + 1 * (p 0).val) + (win0_1.index t 2 * 1024 + 1 * (p 2).val)) = _
  rw [e0, e1, e2, show (0 * 1024 + 1 * (p 1).val) / 1024 = 0 by omega, show (0 * 1024 + 1 * (p 1).val) % 1024 = (p 1).val by omega,
    show 1024 * (t.val % 4 * 1 + 1 * (p 0).val) + (0 * 1024 + 1 * (p 2).val) = 1024 * (t.val % 4) + (p 2).val by omega]

/-- The product's entry at row `i`, column `j`. -/
def entry (i j : ℕ) : EReal := ∑ k ∈ Finset.range 1024, ent (lhs m c) i k * ent3 (weight m c) 0 k j

/-- The result array. -/
abbrev result : Vec Ideal S16384x4096 .bf16 := fun i => entry m c (i 0).val (i 1).val

theorem final2 : ((dats m 0 c).arrAt 2 cfg0.N : Vec Ideal S16384x4096 .bf16) = result m c :=
  (dats m 0 c).arrAt_eq_of_cover 2 (result m c) (fun t _ => by
      rw [flushed2]
      funext q
      show out0_2 (F := Ideal) (iblk m c 0 t) (iblk m c 1 t) q = entry m c (win0_2.index t 0 * 2048 + 1 * (q 0).val) (win0_2.index t 1 * 1024 + 1 * (q 1).val)
      obtain ⟨e0, e1⟩ := index2 t
      rw [e0, e1, Nat.one_mul, Nat.one_mul, Nat.mul_comm _ 2048, Nat.mul_comm _ 1024]
      refine out_sum _ _ q (fun k => ent (lhs m c) (2048 * (t.val / 4) + (q 0).val) k) (fun k => ent3 (weight m c) 0 k (1024 * (t.val % 4) + (q 1).val))
        (fun p hp => ?_) (fun p hp => ?_)
      · rw [iblk_0, hp]
      · rw [iblk_1, hp]) fun i => by
    have hN : cfg0.N = 32 := N_0
    have h0 : (i 0 : Nat) < 16384 := (i 0).isLt
    have h1 : (i 1 : Nat) < 4096 := (i 1).isLt
    let t : Fin cfg0.N := ⟨4 * ((i 0).val / 2048) + (i 1).val / 1024, by omega⟩
    have ht : t.val = 4 * ((i 0).val / 2048) + (i 1).val / 1024 := rfl
    refine ⟨t, flush0_2 t, ?_⟩
    show i ∈ ((View.whole main_v3).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [(index2 t).1, ht]; omega
    | ⟨1, _⟩ =>
      show win0_2.index t 1 * 1024 ≤ (i 1 : Nat) ∧ (i 1 : Nat) < win0_2.index t 1 * 1024 + 1024
      rw [(index2 t).2, ht]; omega

end Cert.CInIdeal.Product

/-! ## The reference -/

namespace Cert.CInRefIdeal.Product

open Cert.CInRefIdeal Cert.CInRefIdeal.Gen Cert.CInRefIdeal.Read Cert.Products
open Idealize.ShloMosaic Idealize.ShloMosaic.TcCoe Idealize.ShloMosaic.ValueIdx
open scoped BigOperators

theorem weight (w : (⟨S1x1024x4096, .f32⟩ : BufTy).Contents (Elt Ideal)) (i : S1024x4096.Idx) :
    val_main_v1 (F := Ideal) w i = ent3 w 0 (i 0).val (i 1).val := by
  have h0 : (i 0).val < 1024 := (i 0).isLt
  have h1 : (i 1).val < 4096 := (i 1).isLt
  rw [val_main_v1_apply]
  refine ent3_eq w _ rfl ?_ ?_
  · show ((i 0).val * 4096 + (i 1).val) / 4096 % 1024 = _
    omega
  · show ((i 0).val * 4096 + (i 1).val) % 4096 = _
    omega

theorem result_eq (x : (⟨S16384x1024, .bf16⟩ : BufTy).Contents (Elt Ideal)) (y : (⟨S1x1024x4096, .f32⟩ : BufTy).Contents (Elt Ideal)) (i : S16384x4096.Idx) :
    val_main_v3 (F := Ideal) x y i = ∑ k ∈ Finset.range 1024, ent x (i 0).val k * ent3 y 0 k (i 1).val := by
  rw [val_main_v3_apply]
  show val_main_v2 (F := Ideal) x y i = _
  rw [val_main_v2_apply, Finset.sum_range]
  exact Finset.sum_congr rfl fun k _ => congrArg₂ (· * ·) (ent_eq x _ rfl rfl) (weight y _)

end Cert.CInRefIdeal.Product

end
-- ==== Proof.AbInValue.lean ====
module

public import proofs.«01_k».proof.Proof.Products
public import proofs.«01_k».proof.Proof.Gen.AbInIdeal.Value
public import proofs.«01_k».proof.Proof.Gen.AbInRefIdeal.Run
public import proofs.«01_k».proof.Proof.Gen.AbInRefIdeal.Read

@[expose] public section

/-! The first mixer's input product: the weight comes as four shares of 1152 columns, each point
    computes one block of rows against one share, and the blocks together are the reference's one product. -/

set_option maxRecDepth 16384

noncomputable section

namespace Cert.AbInIdeal.Product

open Cert.AbInIdeal Cert.AbInIdeal.Gen Cert.AbInIdeal.Value Cert.Products
open Idealize.ShloMosaic Idealize.ShloMosaic.TcCoe Idealize.ShloMosaic.ValueIdx
open scoped BigOperators

theorem hz3 : (![0, 0, 0] : Fin 3 → Nat) = fun _ => 0 := funext fun a => by fin_cases a <;> rfl
theorem hz : (![0, 0] : Fin 2 → Nat) = fun _ => 0 := funext fun a => by fin_cases a <;> rfl

/-- What a point leaves in the output, at one entry. -/
theorem out_sum (x : Vec Ideal S2048x1024 .bf16) (y : Vec Ideal S1x1024x1152 .bf16) (q : S2048x1152.Idx) (f g : ℕ → EReal)
    (hf : ∀ p : S2048x1024.Idx, (p 0).val = (q 0).val → x p = f (p 1).val) (hg : ∀ p : S1x1024x1152.Idx, (p 2).val = (q 1).val → y p = g (p 1).val) :
    out0_2 (F := Ideal) x y q = ∑ k ∈ Finset.range 1024, f k * g k := by
  unfold out0_2
  rw [View.canon_unit_zero (S := S2048x1152) hz]
  unfold k0_pay1
  simp only [View.ld_unit_zero (S := S2048x1024) hz, View.ld_unit_zero (S := S1x1024x1152) hz3, shapeCast_self]
  exact matmul_sum (φ₁ := .bf16) (φ₂ := .bf16) dot_S2048x1024_S1024x1152_S2048x1152_1_0_0_1_n_n 1024 rfl rfl x (shapeCast S1024x1152 y shapeCasts_S1x1024x1152_S1024x1152) q f g
    (fun k => (hf _ rfl).trans rfl) (fun k => (dropPlane_apply y shapeCasts_S1x1024x1152_S1024x1152 _).trans ((hg _ rfl).trans rfl))

variable (m : (ℓ : Loc nD τ sig) → Buf (Elt Ideal) ℓ) (c : Dev nD)

abbrev lhs : Vec Ideal S16384x1024 .bf16 := m ((c : Thread nD τ).loc main_arg0)
abbrev weight : Vec Ideal S1x1024x4608 .f32 := m ((c : Thread nD τ).loc main_arg1)

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem iblk_0 (t : Fin cfg0.N) (p : S2048x1024.Idx) :
    (iblk m c 0 t : Vec Ideal S2048x1024 .bf16) p = ent (lhs m c) (2048 * (t.val / 4) + (p 0).val) (p 1).val := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 2048 + 1 * (p 0).val = _
    rw [e0]; omega
  · show win0_0.index t 1 * 1024 + 1 * (p 1).val = _
    rw [e1]; omega

/-- The weight as the grid finds it: the host lays the columns out as four shares, and its narrowing is exact on ideal values. -/
theorem shares (q : S4x1024x1152.Idx) :
    (V m c main_v2 : Vec Ideal S4x1024x1152 .bf16) q = ent3 (weight m c) ((q 1).val / 1024) ((q 1).val % 1024) (1152 * (q 0).val + (q 2).val) :=
  shares_apply (weight m c) shapeCasts_S1x1024x4608_S1024x4x1152 transposes_S1024x4x1152_S4x1024x1152_1_0_2 rfl rfl q

theorem iblk_1 (t : Fin cfg0.N) (p : S1x1024x1152.Idx) :
    (iblk m c 1 t : Vec Ideal S1x1024x1152 .bf16) p = ent3 (weight m c) 0 (p 1).val (1152 * (t.val % 4) + (p 2).val) := by
  obtain ⟨e0, e1, e2⟩ := index1 t
  have hp : (p 0).val < 1 := (p 0).isLt
  have hp1 : (p 1).val < 1024 := (p 1).isLt
  refine (shares m c (((cfg0.win 1).blk t).view.emb p)).trans ?_
  show ent3 _ ((win0_1.index t 1 * 1024 + 1 * (p 1).val) / 1024) ((win0_1.index t 1 * 1024 + 1 * (p 1).val) % 1024)
    (1152 * (win0_1.index t 0 * 1 + 1 * (p 0).val) + (win0_1.index t 2 * 1152 + 1 * (p 2).val)) = _
  rw [e0, e1, e2, show (0 * 1024 + 1 * (p 1).val) / 1024 = 0 by omega, show (0 * 1024 + 1 * (p 1).val) % 1024 = (p 1).val by omega,
    show 1152 * (t.val % 4 * 1 + 1 * (p 0).val) + (0 * 1152 + 1 * (p 2).val) = 1152 * (t.val % 4) + (p 2).val by omega]

/-- The product's entry at row `i`, column `j`. -/
def entry (i j : ℕ) : EReal := ∑ k ∈ Finset.range 1024, ent (lhs m c) i k * ent3 (weight m c) 0 k j

/-- The result array. -/
abbrev result : Vec Ideal S16384x4608 .bf16 := fun i => entry m c (i 0).val (i 1).val

theorem final2 : ((dats m 0 c).arrAt 2 cfg0.N : Vec Ideal S16384x4608 .bf16) = result m c :=
  (dats m 0 c).arrAt_eq_of_cover 2 (result m c) (fun t _ => by
      rw [flushed2]
      funext q
      show out0_2 (F := Ideal) (iblk m c 0 t) (iblk m c 1 t) q = entry m c (win0_2.index t 0 * 2048 + 1 * (q 0).val) (win0_2.index t 1 * 1152 + 1 * (q 1).val)
      obtain ⟨e0, e1⟩ := index2 t
      rw [e0, e1, Nat.one_mul, Nat.one_mul, Nat.mul_comm _ 2048, Nat.mul_comm _ 1152]
      refine out_sum _ _ q (fun k => ent (lhs m c) (2048 * (t.val / 4) + (q 0).val) k) (fun k => ent3 (weight m c) 0 k (1152 * (t.val % 4) + (q 1).val))
        (fun p hp => ?_) (fun p hp => ?_)
      · rw [iblk_0, hp]
      · rw [iblk_1, hp]) fun i => by
    have hN : cfg0.N = 32 := N_0
    have h0 : (i 0 : Nat) < 16384 := (i 0).isLt
    have h1 : (i 1 : Nat) < 4608 := (i 1).isLt
    let t : Fin cfg0.N := ⟨4 * ((i 0).val / 2048) + (i 1).val / 1152, by omega⟩
    have ht : t.val = 4 * ((i 0).val / 2048) + (i 1).val / 1152 := rfl
    refine ⟨t, flush0_2 t, ?_⟩
    show i ∈ ((View.whole main_v3).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [(index2 t).1, ht]; omega
    | ⟨1, _⟩ =>
      show win0_2.index t 1 * 1152 ≤ (i 1 : Nat) ∧ (i 1 : Nat) < win0_2.index t 1 * 1152 + 1152
      rw [(index2 t).2, ht]; omega

end Cert.AbInIdeal.Product

/-! ## The reference -/

namespace Cert.AbInRefIdeal.Product

open Cert.AbInRefIdeal Cert.AbInRefIdeal.Gen Cert.AbInRefIdeal.Read Cert.Products
open Idealize.ShloMosaic Idealize.ShloMosaic.TcCoe Idealize.ShloMosaic.ValueIdx
open scoped BigOperators

theorem weight (w : (⟨S1x1024x4608, .f32⟩ : BufTy).Contents (Elt Ideal)) (i : S1024x4608.Idx) :
    val_main_v1 (F := Ideal) w i = ent3 w 0 (i 0).val (i 1).val := by
  have h0 : (i 0).val < 1024 := (i 0).isLt
  have h1 : (i 1).val < 4608 := (i 1).isLt
  rw [val_main_v1_apply]
  refine ent3_eq w _ rfl ?_ ?_
  · show ((i 0).val * 4608 + (i 1).val) / 4608 % 1024 = _
    omega
  · show ((i 0).val * 4608 + (i 1).val) % 4608 = _
    omega

theorem result_eq (x : (⟨S16384x1024, .bf16⟩ : BufTy).Contents (Elt Ideal)) (y : (⟨S1x1024x4608, .f32⟩ : BufTy).Contents (Elt Ideal)) (i : S16384x4608.Idx) :
    val_main_v3 (F := Ideal) x y i = ∑ k ∈ Finset.range 1024, ent x (i 0).val k * ent3 y 0 k (i 1).val := by
  rw [val_main_v3_apply]
  show val_main_v2 (F := Ideal) x y i = _
  rw [val_main_v2_apply, Finset.sum_range]
  exact Finset.sum_congr rfl fun k _ => congrArg₂ (· * ·) (ent_eq x _ rfl rfl) (weight y _)

end Cert.AbInRefIdeal.Product

end
-- ==== Proof.Calls.lean ====
module

public import proofs.«01_k».proof.Defs
public import proofs.«01_k».proof.Proof.Gen.UpW
public import proofs.«01_k».proof.Proof.Gen.UpW.Frame
public import proofs.«01_k».proof.Proof.Gen.UpWIdeal
public import proofs.«01_k».proof.Proof.Gen.UpWIdeal.Frame
public import proofs.«01_k».proof.Proof.Gen.UpWRefIdeal
public import proofs.«01_k».proof.Proof.UpWValue
public import proofs.«01_k».proof.Proof.Gen.UpH
public import proofs.«01_k».proof.Proof.Gen.UpH.Frame
public import proofs.«01_k».proof.Proof.Gen.UpHIdeal
public import proofs.«01_k».proof.Proof.Gen.UpHIdeal.Frame
public import proofs.«01_k».proof.Proof.Gen.UpHRefIdeal
public import proofs.«01_k».proof.Proof.UpHValue
public import proofs.«01_k».proof.Proof.Gen.UpH1
public import proofs.«01_k».proof.Proof.Gen.UpH1.Frame
public import proofs.«01_k».proof.Proof.Gen.UpH1Ideal
public import proofs.«01_k».proof.Proof.Gen.UpH1Ideal.Frame
public import proofs.«01_k».proof.Proof.Gen.UpH1RefIdeal
public import proofs.«01_k».proof.Proof.UpH1Value
public import proofs.«01_k».proof.Proof.Gen.DownW
public import proofs.«01_k».proof.Proof.Gen.DownW.Frame
public import proofs.«01_k».proof.Proof.Gen.DownWIdeal
public import proofs.«01_k».proof.Proof.Gen.DownWIdeal.Frame
public import proofs.«01_k».proof.Proof.Gen.DownWRefIdeal
public import proofs.«01_k».proof.Proof.DownWValue
public import proofs.«01_k».proof.Proof.Gen.DownH
public import proofs.«01_k».proof.Proof.Gen.DownH.Frame
public import proofs.«01_k».proof.Proof.Gen.DownHIdeal
public import proofs.«01_k».proof.Proof.Gen.DownHIdeal.Frame
public import proofs.«01_k».proof.Proof.Gen.DownHRefIdeal
public import proofs.«01_k».proof.Proof.DownHValue
public import proofs.«01_k».proof.Proof.Gen.CInW
public import proofs.«01_k».proof.Proof.Gen.CInW.Frame
public import proofs.«01_k».proof.Proof.Gen.CInWIdeal
public import proofs.«01_k».proof.Proof.Gen.CInWIdeal.Frame
public import proofs.«01_k».proof.Proof.Gen.CInWRefIdeal
public import proofs.«01_k».proof.Proof.CInWValue
public import proofs.«01_k».proof.Proof.Gen.CInH
public import proofs.«01_k».proof.Proof.Gen.CInH.Frame
public import proofs.«01_k».proof.Proof.Gen.CInHIdeal
public import proofs.«01_k».proof.Proof.Gen.CInHIdeal.Frame
public import proofs.«01_k».proof.Proof.Gen.CInHRefIdeal
public import proofs.«01_k».proof.Proof.CInHValue
public import proofs.«01_k».proof.Proof.Gen.COutW
public import proofs.«01_k».proof.Proof.Gen.COutW.Frame
public import proofs.«01_k».proof.Proof.Gen.COutWIdeal
public import proofs.«01_k».proof.Proof.Gen.COutWIdeal.Frame
public import proofs.«01_k».proof.Proof.Gen.COutWRefIdeal
public import proofs.«01_k».proof.Proof.COutWValue
public import proofs.«01_k».proof.Proof.Gen.COutH
public import proofs.«01_k».proof.Proof.Gen.COutH.Frame
public import proofs.«01_k».proof.Proof.Gen.COutHIdeal
public import proofs.«01_k».proof.Proof.Gen.COutHIdeal.Frame
public import proofs.«01_k».proof.Proof.Gen.COutHRefIdeal
public import proofs.«01_k».proof.Proof.COutHValue
public import proofs.«01_k».proof.Proof.Gen.AbOutW
public import proofs.«01_k».proof.Proof.Gen.AbOutW.Frame
public import proofs.«01_k».proof.Proof.Gen.AbOutWIdeal
public import proofs.«01_k».proof.Proof.Gen.AbOutWIdeal.Frame
public import proofs.«01_k».proof.Proof.Gen.AbOutWRefIdeal
public import proofs.«01_k».proof.Proof.AbOutWValue
public import proofs.«01_k».proof.Proof.Gen.AbOutH
public import proofs.«01_k».proof.Proof.Gen.AbOutH.Frame
public import proofs.«01_k».proof.Proof.Gen.AbOutHIdeal
public import proofs.«01_k».proof.Proof.Gen.AbOutHIdeal.Frame
public import proofs.«01_k».proof.Proof.Gen.AbOutHRefIdeal
public import proofs.«01_k».proof.Proof.AbOutHValue
public import proofs.«01_k».proof.Proof.Gen.Up0
public import proofs.«01_k».proof.Proof.Gen.Up0.Frame
public import proofs.«01_k».proof.Proof.Gen.Up0Ideal
public import proofs.«01_k».proof.Proof.Gen.Up0Ideal.Frame
public import proofs.«01_k».proof.Proof.Gen.Up0RefIdeal
public import proofs.«01_k».proof.Proof.Up0Value
public import proofs.«01_k».proof.Proof.Gen.Up1
public import proofs.«01_k».proof.Proof.Gen.Up1.Frame
public import proofs.«01_k».proof.Proof.Gen.Up1Ideal
public import proofs.«01_k».proof.Proof.Gen.Up1Ideal.Frame
public import proofs.«01_k».proof.Proof.Gen.Up1RefIdeal
public import proofs.«01_k».proof.Proof.Up1Value
public import proofs.«01_k».proof.Proof.Gen.CIn
public import proofs.«01_k».proof.Proof.Gen.CIn.Frame
public import proofs.«01_k».proof.Proof.Gen.CInIdeal
public import proofs.«01_k».proof.Proof.Gen.CInIdeal.Frame
public import proofs.«01_k».proof.Proof.Gen.CInRefIdeal
public import proofs.«01_k».proof.Proof.CInValue
public import proofs.«01_k».proof.Proof.Gen.AbIn
public import proofs.«01_k».proof.Proof.Gen.AbIn.Frame
public import proofs.«01_k».proof.Proof.Gen.AbInIdeal
public import proofs.«01_k».proof.Proof.Gen.AbInIdeal.Frame
public import proofs.«01_k».proof.Proof.Gen.AbInRefIdeal
public import proofs.«01_k».proof.Proof.AbInValue
public import Idealize.ShloMosaic.Adequacy

@[expose] public section

/-! The claims of the matrix-product calls: the reference's frame is its run, and kernel and reference end with the same array because
    both hold, at every entry, the sum of the same terms (the `Value` modules). -/

set_option maxRecDepth 16384

noncomputable section

namespace Cert.Calls

open Cert.Products
open Idealize.ShloMosaic Idealize.ShloMosaic.TcCoe Idealize.SL.Sem Idealize.ShloMosaic.StableHlo
open scoped BigOperators

theorem frame_UpW : Cert.quiescent_UpWRefIdeal := fun m ρ _ =>
  (θ_run Cert.UpWRefIdeal.defs _ _).mono (fun r h => ⟨fun c => (h c).2, sem_eq_zero_of_no_sems (by decide) r.2⟩)
    (Cert.UpWRefIdeal.Value.run (F := Ideal) m ρ)

theorem algebraic_UpW : Cert.algebraic_UpWIdeal_UpWRefIdeal := by
  intro m g m' g' _ hagree
  refine ⟨fun c => Cert.UpWIdeal.Value.G3 m c, Cert.UpWIdeal.Value.run (F := Ideal) m g, ?_⟩
  refine (θ_run Cert.UpWRefIdeal.defs _ _).mono (fun r h c => ?_) (Cert.UpWRefIdeal.Value.run (F := Ideal) m' g')
  obtain ⟨a0, a1, a2⟩ := hagree c
  refine ⟨((h c).1.trans (Cert.UpWRefIdeal.Read.val_main_v7_eq _ _ _)).trans (funext fun i => ?_), (h c).2⟩
  rw [a0, a1, a2, Cert.UpWRefIdeal.Product.result_eq]
  exact (Cert.UpWIdeal.Product.G3_eq m c i).symm

theorem frame_UpH : Cert.quiescent_UpHRefIdeal := fun m ρ _ =>
  (θ_run Cert.UpHRefIdeal.defs _ _).mono (fun r h => ⟨fun c => (h c).2, sem_eq_zero_of_no_sems (by decide) r.2⟩)
    (Cert.UpHRefIdeal.Value.run (F := Ideal) m ρ)

theorem algebraic_UpH : Cert.algebraic_UpHIdeal_UpHRefIdeal := by
  intro m g m' g' _ hagree
  refine ⟨fun c => Cert.UpHIdeal.Value.G3 m c, Cert.UpHIdeal.Value.run (F := Ideal) m g, ?_⟩
  refine (θ_run Cert.UpHRefIdeal.defs _ _).mono (fun r h c => ?_) (Cert.UpHRefIdeal.Value.run (F := Ideal) m' g')
  obtain ⟨a0, a1, a2⟩ := hagree c
  refine ⟨((h c).1.trans (Cert.UpHRefIdeal.Read.val_main_v7_eq _ _ _)).trans (funext fun i => ?_), (h c).2⟩
  rw [a0, a1, a2, Cert.UpHRefIdeal.Product.result_eq]
  exact (Cert.UpHIdeal.Product.G3_eq m c i).symm

theorem frame_UpH1 : Cert.quiescent_UpH1RefIdeal := fun m ρ _ =>
  (θ_run Cert.UpH1RefIdeal.defs _ _).mono (fun r h => ⟨fun c => (h c).2, sem_eq_zero_of_no_sems (by decide) r.2⟩)
    (Cert.UpH1RefIdeal.Value.run (F := Ideal) m ρ)

theorem algebraic_UpH1 : Cert.algebraic_UpH1Ideal_UpH1RefIdeal := by
  intro m g m' g' _ hagree
  refine ⟨fun c => Cert.UpH1Ideal.Value.G3 m c, Cert.UpH1Ideal.Value.run (F := Ideal) m g, ?_⟩
  refine (θ_run Cert.UpH1RefIdeal.defs _ _).mono (fun r h c => ?_) (Cert.UpH1RefIdeal.Value.run (F := Ideal) m' g')
  obtain ⟨a0, a1, a2⟩ := hagree c
  refine ⟨((h c).1.trans (Cert.UpH1RefIdeal.Read.val_main_v7_eq _ _ _)).trans (funext fun i => ?_), (h c).2⟩
  rw [a0, a1, a2, Cert.UpH1RefIdeal.Product.result_eq]
  exact (Cert.UpH1Ideal.Product.G3_eq m c i).symm

theorem frame_DownW : Cert.quiescent_DownWRefIdeal := fun m ρ _ =>
  (θ_run Cert.DownWRefIdeal.defs _ _).mono (fun r h => ⟨fun c => (h c).2, sem_eq_zero_of_no_sems (by decide) r.2⟩)
    (Cert.DownWRefIdeal.Value.run (F := Ideal) m ρ)

theorem algebraic_DownW : Cert.algebraic_DownWIdeal_DownWRefIdeal := by
  intro m g m' g' _ hagree
  refine ⟨fun c => Cert.DownWIdeal.Value.G2 m c, Cert.DownWIdeal.Value.run (F := Ideal) m g, ?_⟩
  refine (θ_run Cert.DownWRefIdeal.defs _ _).mono (fun r h c => ?_) (Cert.DownWRefIdeal.Value.run (F := Ideal) m' g')
  obtain ⟨a0, a1⟩ := hagree c
  refine ⟨((h c).1.trans (Cert.DownWRefIdeal.Read.val_main_v6_eq _ _)).trans (funext fun i => ?_), (h c).2⟩
  rw [a0, a1, Cert.DownWRefIdeal.Product.result_eq]
  exact (Cert.DownWIdeal.Product.G2_eq m c i).symm

theorem frame_DownH : Cert.quiescent_DownHRefIdeal := fun m ρ _ =>
  (θ_run Cert.DownHRefIdeal.defs _ _).mono (fun r h => ⟨fun c => (h c).2, sem_eq_zero_of_no_sems (by decide) r.2⟩)
    (Cert.DownHRefIdeal.Value.run (F := Ideal) m ρ)

theorem algebraic_DownH : Cert.algebraic_DownHIdeal_DownHRefIdeal := by
  intro m g m' g' _ hagree
  refine ⟨fun c => Cert.DownHIdeal.Product.result m c, ?_, ?_⟩
  · exact (θ_run Cert.DownHIdeal.defs _ _).mono (fun r h c => ⟨(h c).1.trans (Cert.DownHIdeal.Product.final2 m c), (h c).2⟩)
      (Cert.DownHIdeal.Value.run_blocks (F := Ideal) m g)
  · refine (θ_run Cert.DownHRefIdeal.defs _ _).mono (fun r h c => ?_) (Cert.DownHRefIdeal.Value.run (F := Ideal) m' g')
    obtain ⟨a0, a1⟩ := hagree c
    refine ⟨((h c).1.trans (Cert.DownHRefIdeal.Read.val_main_v3_eq _ _)).trans (funext fun i => ?_), (h c).2⟩
    rw [a0, a1, Cert.DownHRefIdeal.Product.result_eq]
    exact rfl

theorem frame_CInW : Cert.quiescent_CInWRefIdeal := fun m ρ _ =>
  (θ_run Cert.CInWRefIdeal.defs _ _).mono (fun r h => ⟨fun c => (h c).2, sem_eq_zero_of_no_sems (by decide) r.2⟩)
    (Cert.CInWRefIdeal.Value.run (F := Ideal) m ρ)

theorem algebraic_CInW : Cert.algebraic_CInWIdeal_CInWRefIdeal := by
  intro m g m' g' _ hagree
  refine ⟨fun c => Cert.CInWIdeal.Value.G2 m c, Cert.CInWIdeal.Value.run (F := Ideal) m g, ?_⟩
  refine (θ_run Cert.CInWRefIdeal.defs _ _).mono (fun r h c => ?_) (Cert.CInWRefIdeal.Value.run (F := Ideal) m' g')
  obtain ⟨a0, a1⟩ := hagree c
  refine ⟨((h c).1.trans (Cert.CInWRefIdeal.Read.val_main_v6_eq _ _)).trans (funext fun i => ?_), (h c).2⟩
  rw [a0, a1, Cert.CInWRefIdeal.Product.result_eq]
  exact (Cert.CInWIdeal.Product.G2_eq m c i).symm

theorem frame_CInH : Cert.quiescent_CInHRefIdeal := fun m ρ _ =>
  (θ_run Cert.CInHRefIdeal.defs _ _).mono (fun r h => ⟨fun c => (h c).2, sem_eq_zero_of_no_sems (by decide) r.2⟩)
    (Cert.CInHRefIdeal.Value.run (F := Ideal) m ρ)

theorem algebraic_CInH : Cert.algebraic_CInHIdeal_CInHRefIdeal := by
  intro m g m' g' _ hagree
  refine ⟨fun c => Cert.CInHIdeal.Value.G2 m c, Cert.CInHIdeal.Value.run (F := Ideal) m g, ?_⟩
  refine (θ_run Cert.CInHRefIdeal.defs _ _).mono (fun r h c => ?_) (Cert.CInHRefIdeal.Value.run (F := Ideal) m' g')
  obtain ⟨a0, a1⟩ := hagree c
  refine ⟨((h c).1.trans (Cert.CInHRefIdeal.Read.val_main_v5_eq _ _)).trans (funext fun i => ?_), (h c).2⟩
  rw [a0, a1, Cert.CInHRefIdeal.Product.result_eq]
  exact (Cert.CInHIdeal.Product.G2_eq m c i).symm

theorem frame_COutW : Cert.quiescent_COutWRefIdeal := fun m ρ _ =>
  (θ_run Cert.COutWRefIdeal.defs _ _).mono (fun r h => ⟨fun c => (h c).2, sem_eq_zero_of_no_sems (by decide) r.2⟩)
    (Cert.COutWRefIdeal.Value.run (F := Ideal) m ρ)

theorem algebraic_COutW : Cert.algebraic_COutWIdeal_COutWRefIdeal := by
  intro m g m' g' _ hagree
  refine ⟨fun c => Cert.COutWIdeal.Value.G2 m c, Cert.COutWIdeal.Value.run (F := Ideal) m g, ?_⟩
  refine (θ_run Cert.COutWRefIdeal.defs _ _).mono (fun r h c => ?_) (Cert.COutWRefIdeal.Value.run (F := Ideal) m' g')
  obtain ⟨a0, a1⟩ := hagree c
  refine ⟨((h c).1.trans (Cert.COutWRefIdeal.Read.val_main_v6_eq _ _)).trans (funext fun i => ?_), (h c).2⟩
  rw [a0, a1, Cert.COutWRefIdeal.Product.result_eq]
  exact (Cert.COutWIdeal.Product.G2_eq m c i).symm

theorem frame_COutH : Cert.quiescent_COutHRefIdeal := fun m ρ _ =>
  (θ_run Cert.COutHRefIdeal.defs _ _).mono (fun r h => ⟨fun c => (h c).2, sem_eq_zero_of_no_sems (by decide) r.2⟩)
    (Cert.COutHRefIdeal.Value.run (F := Ideal) m ρ)

theorem algebraic_COutH : Cert.algebraic_COutHIdeal_COutHRefIdeal := by
  intro m g m' g' _ hagree
  refine ⟨fun c => Cert.COutHIdeal.Product.result m c, ?_, ?_⟩
  · exact (θ_run Cert.COutHIdeal.defs _ _).mono (fun r h c => ⟨(h c).1.trans (Cert.COutHIdeal.Product.final2 m c), (h c).2⟩)
      (Cert.COutHIdeal.Value.run_blocks (F := Ideal) m g)
  · refine (θ_run Cert.COutHRefIdeal.defs _ _).mono (fun r h c => ?_) (Cert.COutHRefIdeal.Value.run (F := Ideal) m' g')
    obtain ⟨a0, a1⟩ := hagree c
    refine ⟨((h c).1.trans (Cert.COutHRefIdeal.Read.val_main_v3_eq _ _)).trans (funext fun i => ?_), (h c).2⟩
    rw [a0, a1, Cert.COutHRefIdeal.Product.result_eq]
    exact rfl

theorem frame_AbOutW : Cert.quiescent_AbOutWRefIdeal := fun m ρ _ =>
  (θ_run Cert.AbOutWRefIdeal.defs _ _).mono (fun r h => ⟨fun c => (h c).2, sem_eq_zero_of_no_sems (by decide) r.2⟩)
    (Cert.AbOutWRefIdeal.Value.run (F := Ideal) m ρ)

theorem algebraic_AbOutW : Cert.algebraic_AbOutWIdeal_AbOutWRefIdeal := by
  intro m g m' g' _ hagree
  refine ⟨fun c => Cert.AbOutWIdeal.Value.G3 m c, Cert.AbOutWIdeal.Value.run (F := Ideal) m g, ?_⟩
  refine (θ_run Cert.AbOutWRefIdeal.defs _ _).mono (fun r h c => ?_) (Cert.AbOutWRefIdeal.Value.run (F := Ideal) m' g')
  obtain ⟨a0, a1, a2⟩ := hagree c
  refine ⟨((h c).1.trans (Cert.AbOutWRefIdeal.Read.val_main_v7_eq _ _ _)).trans (funext fun i => ?_), (h c).2⟩
  rw [a0, a1, a2, Cert.AbOutWRefIdeal.Product.result_eq]
  exact (Cert.AbOutWIdeal.Product.G3_eq m c i).symm

theorem frame_AbOutH : Cert.quiescent_AbOutHRefIdeal := fun m ρ _ =>
  (θ_run Cert.AbOutHRefIdeal.defs _ _).mono (fun r h => ⟨fun c => (h c).2, sem_eq_zero_of_no_sems (by decide) r.2⟩)
    (Cert.AbOutHRefIdeal.Value.run (F := Ideal) m ρ)

theorem algebraic_AbOutH : Cert.algebraic_AbOutHIdeal_AbOutHRefIdeal := by
  intro m g m' g' _ hagree
  refine ⟨fun c => Cert.AbOutHIdeal.Product.result m c, ?_, ?_⟩
  · exact (θ_run Cert.AbOutHIdeal.defs _ _).mono (fun r h c => ⟨(h c).1.trans (Cert.AbOutHIdeal.Product.final2 m c), (h c).2⟩)
      (Cert.AbOutHIdeal.Value.run_blocks (F := Ideal) m g)
  · refine (θ_run Cert.AbOutHRefIdeal.defs _ _).mono (fun r h c => ?_) (Cert.AbOutHRefIdeal.Value.run (F := Ideal) m' g')
    obtain ⟨a0, a1⟩ := hagree c
    refine ⟨((h c).1.trans (Cert.AbOutHRefIdeal.Read.val_main_v3_eq _ _)).trans (funext fun i => ?_), (h c).2⟩
    rw [a0, a1, Cert.AbOutHRefIdeal.Product.result_eq]
    exact rfl

theorem frame_Up0 : Cert.quiescent_Up0RefIdeal := fun m ρ _ =>
  (θ_run Cert.Up0RefIdeal.defs _ _).mono (fun r h => ⟨fun c => (h c).2, sem_eq_zero_of_no_sems (by decide) r.2⟩)
    (Cert.Up0RefIdeal.Value.run (F := Ideal) m ρ)

theorem algebraic_Up0 : Cert.algebraic_Up0Ideal_Up0RefIdeal := by
  intro m g m' g' _ hagree
  refine ⟨fun c => Cert.Up0Ideal.Product.result m c, ?_, ?_⟩
  · exact (θ_run Cert.Up0Ideal.defs _ _).mono (fun r h c => ⟨(h c).1.trans (Cert.Up0Ideal.Product.final2 m c), (h c).2⟩)
      (Cert.Up0Ideal.Value.run_blocks (F := Ideal) m g)
  · refine (θ_run Cert.Up0RefIdeal.defs _ _).mono (fun r h c => ?_) (Cert.Up0RefIdeal.Value.run (F := Ideal) m' g')
    obtain ⟨a0, a1⟩ := hagree c
    refine ⟨((h c).1.trans (Cert.Up0RefIdeal.Read.val_main_v4_eq _ _)).trans (funext fun i => ?_), (h c).2⟩
    rw [a0, a1, Cert.Up0RefIdeal.Product.result_eq]
    exact rfl

theorem frame_Up1 : Cert.quiescent_Up1RefIdeal := fun m ρ _ =>
  (θ_run Cert.Up1RefIdeal.defs _ _).mono (fun r h => ⟨fun c => (h c).2, sem_eq_zero_of_no_sems (by decide) r.2⟩)
    (Cert.Up1RefIdeal.Value.run (F := Ideal) m ρ)

theorem algebraic_Up1 : Cert.algebraic_Up1Ideal_Up1RefIdeal := by
  intro m g m' g' _ hagree
  refine ⟨fun c => Cert.Up1Ideal.Product.result m c, ?_, ?_⟩
  · exact (θ_run Cert.Up1Ideal.defs _ _).mono (fun r h c => ⟨(h c).1.trans (Cert.Up1Ideal.Product.final2 m c), (h c).2⟩)
      (Cert.Up1Ideal.Value.run_blocks (F := Ideal) m g)
  · refine (θ_run Cert.Up1RefIdeal.defs _ _).mono (fun r h c => ?_) (Cert.Up1RefIdeal.Value.run (F := Ideal) m' g')
    obtain ⟨a0, a1⟩ := hagree c
    refine ⟨((h c).1.trans (Cert.Up1RefIdeal.Read.val_main_v4_eq _ _)).trans (funext fun i => ?_), (h c).2⟩
    rw [a0, a1, Cert.Up1RefIdeal.Product.result_eq]
    exact rfl

theorem frame_CIn : Cert.quiescent_CInRefIdeal := fun m ρ _ =>
  (θ_run Cert.CInRefIdeal.defs _ _).mono (fun r h => ⟨fun c => (h c).2, sem_eq_zero_of_no_sems (by decide) r.2⟩)
    (Cert.CInRefIdeal.Value.run (F := Ideal) m ρ)

theorem algebraic_CIn : Cert.algebraic_CInIdeal_CInRefIdeal := by
  intro m g m' g' _ hagree
  refine ⟨fun c => Cert.CInIdeal.Product.result m c, ?_, ?_⟩
  · exact (θ_run Cert.CInIdeal.defs _ _).mono (fun r h c => ⟨(h c).1.trans (Cert.CInIdeal.Product.final2 m c), (h c).2⟩)
      (Cert.CInIdeal.Value.run_blocks (F := Ideal) m g)
  · refine (θ_run Cert.CInRefIdeal.defs _ _).mono (fun r h c => ?_) (Cert.CInRefIdeal.Value.run (F := Ideal) m' g')
    obtain ⟨a0, a1⟩ := hagree c
    refine ⟨((h c).1.trans (Cert.CInRefIdeal.Read.val_main_v3_eq _ _)).trans (funext fun i => ?_), (h c).2⟩
    rw [a0, a1, Cert.CInRefIdeal.Product.result_eq]
    exact rfl

theorem frame_AbIn : Cert.quiescent_AbInRefIdeal := fun m ρ _ =>
  (θ_run Cert.AbInRefIdeal.defs _ _).mono (fun r h => ⟨fun c => (h c).2, sem_eq_zero_of_no_sems (by decide) r.2⟩)
    (Cert.AbInRefIdeal.Value.run (F := Ideal) m ρ)

theorem algebraic_AbIn : Cert.algebraic_AbInIdeal_AbInRefIdeal := by
  intro m g m' g' _ hagree
  refine ⟨fun c => Cert.AbInIdeal.Product.result m c, ?_, ?_⟩
  · exact (θ_run Cert.AbInIdeal.defs _ _).mono (fun r h c => ⟨(h c).1.trans (Cert.AbInIdeal.Product.final2 m c), (h c).2⟩)
      (Cert.AbInIdeal.Value.run_blocks (F := Ideal) m g)
  · refine (θ_run Cert.AbInRefIdeal.defs _ _).mono (fun r h c => ?_) (Cert.AbInRefIdeal.Value.run (F := Ideal) m' g')
    obtain ⟨a0, a1⟩ := hagree c
    refine ⟨((h c).1.trans (Cert.AbInRefIdeal.Read.val_main_v3_eq _ _)).trans (funext fun i => ?_), (h c).2⟩
    rw [a0, a1, Cert.AbInRefIdeal.Product.result_eq]
    exact rfl

end Cert.Calls

end
-- ==== Proof.Norms.lean ====
module

public import proofs.«01_k».proof.Proof.Products

@[expose] public section

/-! The norm of a row of ideal values: each entry divided by the root of the mean square, times its gain. The kernel computes it
    on a block of rows, the reference on all rows; both are this one expression of the row, at every value. -/

noncomputable section

namespace Cert.Norms

open Cert.Products
open Idealize.ShloMosaic Idealize.ShloMosaic.ValueIdx
open scoped BigOperators

/-- The reciprocal root of a row's mean square. -/
def scale (f : ℕ → EReal) : EReal :=
  Ideal.rsqrt (Ideal.div (∑ k ∈ Finset.range 1024, f k * f k) (Ideal.ofBits .f32 0x44800000#32) + Ideal.ofBits .f32 0x358637BD#32)

/-- The normalised row's entry `j`. -/
def rms (f g : ℕ → EReal) (j : ℕ) : EReal := f j * scale f * g j

theorem scale_congr {f g : ℕ → EReal} (h : ∀ k, k < 1024 → f k = g k) : scale f = scale g := by
  unfold scale
  rw [Finset.sum_congr rfl fun k hk => by rw [h k (Finset.mem_range.1 hk)]]

theorem rms_congr {f f' g g' : ℕ → EReal} {j : ℕ} (hj : j < 1024) (h : ∀ k, k < 1024 → f k = f' k) (hg : g j = g' j) :
    rms f g j = rms f' g' j := by
  unfold rms
  rw [scale_congr h, h j hj, hg]

section
variable {m n : ℕ} {α : Type}

theorem rowBcast_apply (x : (⟨2, ![1, n]⟩ : Shape).Idx → α) (h : (⟨2, ![1, n]⟩ : Shape).Broadcasts ⟨2, ![m, n]⟩) (i : (⟨2, ![m, n]⟩ : Shape).Idx) :
    broadcastTo ⟨2, ![m, n]⟩ x h i = x (ix2 0 (i 1)) := by
  refine broadcastTo_apply _ h i (ix2 0 (i 1)) fun a => ?_
  match a with
  | ⟨0, _⟩ => rfl
  | ⟨1, _⟩ =>
    show (i 1).val = if n = 1 then 0 else (i 1).val
    have h' : (i 1).val < n := (i 1).isLt
    split <;> omega

theorem colBcast_apply (x : (⟨2, ![m, 1]⟩ : Shape).Idx → α) (h : (⟨2, ![m, 1]⟩ : Shape).Broadcasts ⟨2, ![m, n]⟩) (i : (⟨2, ![m, n]⟩ : Shape).Idx) :
    broadcastTo ⟨2, ![m, n]⟩ x h i = x (ix2 (i 0) 0) := by
  refine broadcastTo_apply _ h i (ix2 (i 0) 0) fun a => ?_
  match a with
  | ⟨0, _⟩ =>
    show (i 0).val = if m = 1 then 0 else (i 0).val
    have h' : (i 0).val < m := (i 0).isLt
    split <;> omega
  | ⟨1, _⟩ => rfl

theorem castCol_apply (x : (⟨1, ![m]⟩ : Shape).Idx → α) (h : (⟨1, ![m]⟩ : Shape).ShapeCasts ⟨2, ![m, 1]⟩) (i : (⟨2, ![m, 1]⟩ : Shape).Idx) :
    shapeCast ⟨2, ![m, 1]⟩ x h i = x (ix1 (i 0)) := by
  refine shapeCast_apply _ h i (ix1 (i 0)) ?_
  rw [Shape.rowMajor_val_one, Shape.rowMajor_val_two]
  have : (i 1).val < 1 := (i 1).isLt
  show (i 0).val = (i 0).val * 1 + (i 1).val
  omega
end

/-- The kernel's norm of a block of rows. -/
theorem rms_tile {m : ℕ} (x : FVec Ideal ⟨2, ![m, 1024]⟩ .f32) (g : FVec Ideal ⟨2, ![1, 1024]⟩ .f32)
    (hr : (⟨2, ![m, 1024]⟩ : Shape).Reduces [1] ⟨1, ![m]⟩) (hc : (⟨1, ![m]⟩ : Shape).ShapeCasts ⟨2, ![m, 1]⟩)
    (hb : (⟨2, ![m, 1]⟩ : Shape).Broadcasts ⟨2, ![m, 1024]⟩) (hg : (⟨2, ![1, 1024]⟩ : Shape).Broadcasts ⟨2, ![m, 1024]⟩) (q : (⟨2, ![m, 1024]⟩ : Shape).Idx) :
    mulf (F := Ideal) (φ := .f32) (mulf (F := Ideal) (φ := .f32) x (broadcastTo ⟨2, ![m, 1024]⟩
      (rsqrt (F := Ideal) (φ := .f32) (addf (F := Ideal) (φ := .f32) (divf (F := Ideal) (φ := .f32)
        (shapeCast ⟨2, ![m, 1]⟩ (multiReduction (F := Ideal) .add [1] ⟨1, ![m]⟩ (mulf (F := Ideal) (φ := .f32) x x) 0x00000000#32 hr (.inl rfl) rfl) hc)
        (broadcast ⟨2, ![m, 1]⟩ (Scalar.ofBits (F := Ideal) .f32 0x44800000#32))) (broadcast ⟨2, ![m, 1]⟩ (Scalar.ofBits (F := Ideal) .f32 0x358637BD#32)))) hb))
      (broadcastTo ⟨2, ![m, 1024]⟩ g hg) q
      = rms (ent x (q 0).val) (ent g 0) (q 1).val := by
  show x q * broadcastTo ⟨2, ![m, 1024]⟩ _ hb q * broadcastTo ⟨2, ![m, 1024]⟩ g hg q = _
  rw [colBcast_apply, rowBcast_apply]
  unfold rms scale
  refine congrArg₂ (· * ·) (congrArg₂ (· * ·) (ent_eq x q rfl rfl) ?_) (ent_eq g _ rfl rfl)
  show Ideal.rsqrt (Ideal.div (shapeCast ⟨2, ![m, 1]⟩ _ hc (ix2 (q 0) 0)) _ + _) = _
  rw [castCol_apply]
  refine congrArg (fun s => Ideal.rsqrt (Ideal.div s _ + _)) ?_
  refine (Ideal.multiReduction_add_single _ _ _ _ _ _).trans ?_
  rw [Finset.sum_range]
  exact Finset.sum_congr rfl fun k _ => congrArg₂ (· * ·) (ent_eq x _ rfl rfl) (ent_eq x _ rfl rfl)

/-- A narrow matrix read as a row: two casts through a vector give the row back. -/
theorem rowRow_apply {n : ℕ} {α : Type} (x : (⟨2, ![1, n]⟩ : Shape).Idx → α) (h : (⟨2, ![1, n]⟩ : Shape).ShapeCasts ⟨1, ![n]⟩)
    (h' : (⟨1, ![n]⟩ : Shape).ShapeCasts ⟨2, ![1, n]⟩) (i : (⟨2, ![1, n]⟩ : Shape).Idx) :
    shapeCast ⟨2, ![1, n]⟩ (shapeCast ⟨1, ![n]⟩ x h) h' i = x i := by
  have h0 : (i 0).val < 1 := (i 0).isLt
  have e : (i 0).val = 0 := by omega
  refine (shapeCast_apply _ h' i (ix1 (i 1)) ?_).trans (shapeCast_apply x h _ i ?_)
  · rw [Shape.rowMajor_val_one, Shape.rowMajor_val_two]
    show (i 1).val = (i 0).val * n + (i 1).val
    rw [e]; omega
  · rw [Shape.rowMajor_val_one, Shape.rowMajor_val_two]
    show (i 0).val * n + (i 1).val = (i 1).val
    rw [e]; omega

end Cert.Norms

end
-- ==== Proof.AbOutValue.lean ====
module

public import proofs.«01_k».proof.Proof.Norms
public import proofs.«01_k».proof.Proof.Gen.AbOutIdeal.Value
public import proofs.«01_k».proof.Proof.Gen.AbOutRefIdeal.Run
public import proofs.«01_k».proof.Proof.Gen.AbOutRefIdeal.Read

@[expose] public section

/-! The first mixer's output product: accumulated over three blocks of the contracted axis, two of the first operand's columns and
    one of the second's, with the residual added and the row normalised at the last one, it is the reference's product of the two
    operands side by side, residual and norm. -/

set_option maxRecDepth 16384

noncomputable section

namespace Cert.AbOutIdeal.Product

open Cert.AbOutIdeal Cert.AbOutIdeal.Gen Cert.AbOutIdeal.Value Cert.Products Cert.Norms
open Idealize.ShloMosaic Idealize.ShloMosaic.TcCoe Idealize.ShloMosaic.ValueIdx
open scoped BigOperators

theorem hz : (![0, 0] : Fin 2 → Nat) = fun _ => 0 := funext fun a => by fin_cases a <;> rfl

/-! ## One block -/

/-- The product of a block of rows and a block of the weight. -/
abbrev blockProduct (x : Vec Ideal S1024x512 .bf16) (w : Vec Ideal S512x1024 .bf16) : FVec Ideal S1024x1024 .f32 :=
  matmul (F := Ideal) (φ₁ := .bf16) (φ₂ := .bf16) dot_S1024x512_S512x1024_S1024x1024_1_0_0_1_n_n none x w (constant S1024x1024 .f32 0x00000000#32)

section
variable (c : Dev nD) (i : grid0.Coords) (a3 : Memref sig .tc .vmem S1024x512 .bf16) (h3 : a3.IsWhole)
  (a4 : Memref sig .tc .vmem S1024x512 .bf16) (h4 : a4.IsWhole) (a5 : Memref sig .tc .vmem S512x1024 .bf16) (h5 : a5.IsWhole)
  (a6 : Memref sig .tc .vmem S1024x1024 .f32) (h6 : a6.IsWhole)
  (a7 : Memref sig .tc .vmem S1x1024 .f32) (h7 : a7.IsWhole) (a8 : Memref sig .tc .vmem S1024x1024 .f32) (h8 : a8.IsWhole)
  (a9 : Memref sig .tc .vmem S1024x1024 .bf16) (h9 : a9.IsWhole) (a10 : Memref sig .tc .vmem S1024x1024 .f32) (h10 : a10.IsWhole)
  (x y : Vec Ideal S1024x512 .bf16) (w : Vec Ideal S512x1024 .bf16) (res : Vec Ideal S1024x1024 .f32) (gain : Vec Ideal S1x1024 .f32)
  (acc : Vec Ideal S1024x1024 .f32)

/-- The first block of a run starts the accumulator. -/
theorem first (hc0 : cond0_0 i) (hc1 : ¬cond0_1 i) (hc2 : ¬cond0_2 i) (hc3 : ¬cond0_3 i) :
    sout0_A_0 (F := Ideal) c i a3 h3 a4 h4 a5 h5 a6 h6 a7 h7 a8 h8 a9 h9 a10 h10 hc0 hc1 hc2 hc3 x y w res gain = blockProduct x w := by
  unfold sout0_A_0
  rw [View.read_writes_eq_canon _ _ _ (scover0_A_0 c i a3 h3 a4 h4 a5 h5 a6 h6 a7 h7 a8 h8 a9 h9 a10 h10 hc0 hc1 hc2 hc3 x y w res gain)]
  unfold kernelRun0_A
  dsimp only
  rw [View.canon_unit_zero (S := S1024x1024) hz]
  unfold k0_pay1
  simp only [View.readAt_eq_ld, h3.read_unread, h4.read_unread, h5.read_unread, h6.read_unread, h7.read_unread, h10.read_unread, View.ld_unit_zero (S := S1024x1024) hz,
    View.ld_unit_zero (S := S1024x512) hz, View.ld_unit_zero (S := S512x1024) hz, View.ld_unit_zero (S := S1x1024) hz, shapeCast_self]

/-- The second adds its product. -/
theorem later (hc0 : ¬cond0_0 i) (hc1 : cond0_1 i) (hc2 : ¬cond0_2 i) (hc3 : ¬cond0_3 i) :
    sout0_B_0 (F := Ideal) c i a3 h3 a4 h4 a5 h5 a6 h6 a7 h7 a8 h8 a9 h9 a10 h10 hc0 hc1 hc2 hc3 x y w res gain acc = addf (F := Ideal) (φ := .f32) acc (blockProduct x w) := by
  unfold sout0_B_0
  rw [View.read_writes_eq_canon _ _ _ (scover0_B_0 c i a3 h3 a4 h4 a5 h5 a6 h6 a7 h7 a8 h8 a9 h9 a10 h10 hc0 hc1 hc2 hc3 x y w res gain acc)]
  unfold kernelRun0_B
  dsimp only
  rw [View.canon_unit_zero (S := S1024x1024) hz]
  unfold k0_pay2
  simp only [View.readAt_eq_ld, h3.read_unread, h4.read_unread, h5.read_unread, h6.read_unread, h7.read_unread, h10.read_unread, View.ld_unit_zero (S := S1024x1024) hz,
    View.ld_unit_zero (S := S1024x512) hz, View.ld_unit_zero (S := S512x1024) hz, View.ld_unit_zero (S := S1x1024) hz, shapeCast_self]

/-- The last block adds its product and the residual … -/
theorem last (hc0 : ¬cond0_0 i) (hc1 : ¬cond0_1 i) (hc2 : cond0_2 i) (hc3 : cond0_3 i) :
    out0_C_5 (F := Ideal) c i a3 h3 a4 h4 a5 h5 a6 h6 a7 h7 a8 h8 a9 h9 a10 h10 hc0 hc1 hc2 hc3 x y w res gain acc
      = addf (F := Ideal) (φ := .f32) (addf (F := Ideal) (φ := .f32) acc (blockProduct y w)) res := by
  unfold out0_C_5
  rw [View.read_writes_eq_canon _ _ _ (cover0_C_5 c i a3 h3 a4 h4 a5 h5 a6 h6 a7 h7 a8 h8 a9 h9 a10 h10 hc0 hc1 hc2 hc3 x y w res gain acc)]
  unfold kernelRun0_C
  dsimp only
  sl_unfold_words
  rw [View.canon_unit_zero (S := S1024x1024) hz]
  simp only [View.readCov_unit_zero (S := S1024x1024) _ hz]
  unfold k0_pay4 k0_pay3
  simp only [View.readAt_eq_ld, h3.read_unread, h4.read_unread, h5.read_unread, h6.read_unread, h7.read_unread, h10.read_unread, View.ld_unit_zero (S := S1024x1024) hz,
    View.ld_unit_zero (S := S1024x512) hz, View.ld_unit_zero (S := S512x1024) hz, View.ld_unit_zero (S := S1x1024) hz, shapeCast_self]

/-- … and writes the normalised rows beside them. -/
theorem lastNorm (hc0 : ¬cond0_0 i) (hc1 : ¬cond0_1 i) (hc2 : cond0_2 i) (hc3 : cond0_3 i) (q : S1024x1024.Idx) :
    out0_C_6 (F := Ideal) c i a3 h3 a4 h4 a5 h5 a6 h6 a7 h7 a8 h8 a9 h9 a10 h10 hc0 hc1 hc2 hc3 x y w res gain acc q
      = rms (ent (addf (F := Ideal) (φ := .f32) (addf (F := Ideal) (φ := .f32) acc (blockProduct y w)) res) (q 0).val) (ent gain 0) (q 1).val := by
  unfold out0_C_6
  rw [View.read_writes_eq_canon _ _ _ (cover0_C_6 c i a3 h3 a4 h4 a5 h5 a6 h6 a7 h7 a8 h8 a9 h9 a10 h10 hc0 hc1 hc2 hc3 x y w res gain acc)]
  unfold kernelRun0_C
  dsimp only
  sl_unfold_words
  rw [View.canon_unit_zero (S := S1024x1024) hz]
  simp only [View.readCov_unit_zero (S := S1024x1024) _ hz]
  unfold k0_pay5 k0_pay4 k0_pay3
  simp only [View.readAt_eq_ld, h3.read_unread, h4.read_unread, h5.read_unread, h6.read_unread, h7.read_unread, h10.read_unread, View.ld_unit_zero (S := S1024x1024) hz,
    View.ld_unit_zero (S := S1024x512) hz, View.ld_unit_zero (S := S512x1024) hz, View.ld_unit_zero (S := S1x1024) hz, shapeCast_self]
  exact rms_tile _ gain _ _ _ _ q
end

theorem blockProduct_sum (x : Vec Ideal S1024x512 .bf16) (w : Vec Ideal S512x1024 .bf16) (q : S1024x1024.Idx) (f g : ℕ → EReal)
    (hf : ∀ p : S1024x512.Idx, (p 0).val = (q 0).val → x p = f (p 1).val) (hg : ∀ p : S512x1024.Idx, (p 1).val = (q 1).val → w p = g (p 0).val) :
    blockProduct x w q = ∑ k ∈ Finset.range 512, f k * g k :=
  matmul_sum dot_S1024x512_S512x1024_S1024x1024_1_0_0_1_n_n 512 rfl rfl x w q f g
    (fun k => (hf (dot_S1024x512_S512x1024_S1024x1024_1_0_0_1_n_n.lhsIdx q k) rfl).trans rfl)
    (fun k => (hg (dot_S1024x512_S512x1024_S1024x1024_1_0_0_1_n_n.rhsIdx q k) rfl).trans rfl)

/-! ## A point's blocks -/

variable (m : (ℓ : Loc nD τ sig) → Buf (Elt Ideal) ℓ) (c : Dev nD)

abbrev left : Vec Ideal S16384x1024 .bf16 := m ((c : Thread nD τ).loc main_arg0)
abbrev right : Vec Ideal S16384x512 .bf16 := m ((c : Thread nD τ).loc main_arg1)
abbrev weight : Vec Ideal S1536x1024 .f32 := m ((c : Thread nD τ).loc main_arg2)
abbrev residual : Vec Ideal S16384x1024 .f32 := m ((c : Thread nD τ).loc main_arg3)
abbrev gains : Vec Ideal S2x1024 .f32 := m ((c : Thread nD τ).loc main_arg4)

theorem index0 : ∀ t : Fin cfg0.N, win0_0.index t 0 = t.val / 3 ∧ win0_0.index t 1 = min (t.val % 3) 1 :=
  (by decide +kernel : ∀ t : Fin grid0.N, win0_0.index t 0 = t.val / 3 ∧ win0_0.index t 1 = min (t.val % 3) 1)
theorem index1 : ∀ t : Fin cfg0.N, win0_1.index t 0 = t.val / 3 ∧ win0_1.index t 1 = 0 :=
  (by decide +kernel : ∀ t : Fin grid0.N, win0_1.index t 0 = t.val / 3 ∧ win0_1.index t 1 = 0)
theorem index2 : ∀ t : Fin cfg0.N, win0_2.index t 0 = t.val % 3 ∧ win0_2.index t 1 = 0 :=
  (by decide +kernel : ∀ t : Fin grid0.N, win0_2.index t 0 = t.val % 3 ∧ win0_2.index t 1 = 0)
theorem index3 : ∀ t : Fin cfg0.N, win0_3.index t 0 = t.val / 3 ∧ win0_3.index t 1 = 0 :=
  (by decide +kernel : ∀ t : Fin grid0.N, win0_3.index t 0 = t.val / 3 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)

/-- The operands' columns side by side. -/
def sides (i k : ℕ) : EReal := beside 1024 (ent (left m c)) (ent (right m c)) i k

theorem iblk_0 (t : Fin cfg0.N) (ht : t.val % 3 < 2) (p : S1024x512.Idx) :
    (iblk m c 0 t : Vec Ideal S1024x512 .bf16) p = sides m c (1024 * (t.val / 3) + (p 0).val) (512 * (t.val % 3) + (p 1).val) := by
  obtain ⟨e0, e1⟩ := index0 t
  have hp : (p 1).val < 512 := (p 1).isLt
  unfold sides beside
  rw [if_pos (by omega)]
  refine Eq.trans ?_ (ent_eq (left m c) (((cfg0.win 0).blk t).view.emb p) ?_ ?_)
  · show V m c main_arg0 _ = _
    rw [V_main_arg0 m c]
  · show win0_0.index t 0 * 1024 + 1 * (p 0).val = _
    rw [e0]; omega
  · show win0_0.index t 1 * 512 + 1 * (p 1).val = _
    rw [e1]; omega

theorem iblk_1 (t : Fin cfg0.N) (ht : t.val % 3 = 2) (p : S1024x512.Idx) :
    (iblk m c 1 t : Vec Ideal S1024x512 .bf16) p = sides m c (1024 * (t.val / 3) + (p 0).val) (512 * (t.val % 3) + (p 1).val) := by
  obtain ⟨e0, e1⟩ := index1 t
  unfold sides beside
  rw [if_neg (by omega)]
  refine Eq.trans ?_ (ent_eq (right m c) (((cfg0.win 1).blk t).view.emb p) ?_ ?_)
  · show V m c main_arg1 _ = _
    rw [V_main_arg1 m c]
  · show win0_1.index t 0 * 1024 + 1 * (p 0).val = _
    rw [e0]; omega
  · show win0_1.index t 1 * 512 + 1 * (p 1).val = _
    rw [e1]; omega

/-- The weight the host narrows; on ideal values that is exact. -/
theorem iblk_2 (t : Fin cfg0.N) (p : S512x1024.Idx) :
    (iblk m c 2 t : Vec Ideal S512x1024 .bf16) p = ent (weight m c) (512 * (t.val % 3) + (p 0).val) (p 1).val := by
  obtain ⟨e0, e1⟩ := index2 t
  refine Eq.trans ?_ (ent_eq (weight m c) (((cfg0.win 2).blk t).view.emb p) ?_ ?_)
  · rfl
  · show win0_2.index t 0 * 512 + 1 * (p 0).val = _
    rw [e0]; omega
  · show win0_2.index t 1 * 1024 + 1 * (p 1).val = _
    rw [e1]; omega

theorem iblk_3 (t : Fin cfg0.N) (p : S1024x1024.Idx) :
    (iblk m c 3 t : Vec Ideal S1024x1024 .f32) p = ent (residual m c) (1024 * (t.val / 3) + (p 0).val) (p 1).val := by
  obtain ⟨e0, e1⟩ := index3 t
  refine Eq.trans ?_ (ent_eq (residual m c) (((cfg0.win 3).blk t).view.emb p) ?_ ?_)
  · show V m c main_arg3 _ = _
    rw [V_main_arg3 m c]
  · show win0_3.index t 0 * 1024 + 1 * (p 0).val = _
    rw [e0]; omega
  · show win0_3.index t 1 * 1024 + 1 * (p 1).val = _
    rw [e1]; omega

/-- The gain the host cuts out. -/
theorem iblk_4 (t : Fin cfg0.N) (p : S1x1024.Idx) :
    (iblk m c 4 t : Vec Ideal S1x1024 .f32) p = ent (gains m c) 0 (p 1).val := by
  obtain ⟨e0, e1⟩ := index4 t
  have hp : (p 0).val < 1 := (p 0).isLt
  refine (rowRow_apply (extractStridedSlice S1x1024 ![0, 0] (gains m c) slices_S2x1024_S1x1024_0_0) shapeCasts_S1x1024_S1024 shapeCasts_S1024_S1x1024
    (((cfg0.win 4).blk t).view.emb p)).trans ?_
  refine ent_eq (gains m c) _ ?_ ?_
  · show 0 + (win0_4.index t 0 * 1 + 1 * (p 0).val) = _
    rw [e0]; omega
  · show 0 + (win0_4.index t 1 * 1024 + 1 * (p 1).val) = _
    rw [e1]; omega

/-! ## The accumulator -/

/-- The terms of the product's entry at row `i`, column `j`. -/
def term (i j k : ℕ) : EReal := sides m c i k * ent (weight m c) k j

/-- The product with the residual. -/
def sum (i j : ℕ) : EReal := ent (residual m c) i j + ∑ k ∈ Finset.range 1536, term m c i j k

theorem left_eq (t : Fin cfg0.N) (q : S1024x1024.Idx) (r k : ℕ) (hr : t.val / 3 = r) (hk : t.val % 3 = k) (hk2 : k < 2) :
    blockProduct (iblk m c 0 t) (iblk m c 2 t) q = ∑ x ∈ Finset.range 512, term m c (1024 * r + (q 0).val) (q 1).val (512 * k + x) := by
  subst hr hk
  refine blockProduct_sum _ _ q (fun x => sides m c (1024 * (t.val / 3) + (q 0).val) (512 * (t.val % 3) + x))
    (fun x => ent (weight m c) (512 * (t.val % 3) + x) (q 1).val) (fun p hp => ?_) (fun p hp => ?_)
  · rw [iblk_0 m c t hk2, hp]
  · rw [iblk_2, hp]

theorem right_eq (t : Fin cfg0.N) (q : S1024x1024.Idx) (r : ℕ) (hr : t.val / 3 = r) (hk : t.val % 3 = 2) :
    blockProduct (iblk m c 1 t) (iblk m c 2 t) q = ∑ x ∈ Finset.range 512, term m c (1024 * r + (q 0).val) (q 1).val (512 * 2 + x) := by
  subst hr
  refine blockProduct_sum _ _ q (fun x => sides m c (1024 * (t.val / 3) + (q 0).val) (512 * 2 + x))
    (fun x => ent (weight m c) (512 * 2 + x) (q 1).val) (fun p hp => ?_) (fun p hp => ?_)
  · rw [iblk_1 m c t hk, hp, hk]
  · rw [iblk_2, hp, hk]

theorem acc0_eq (q : S1024x1024.Idx) (r : ℕ) (h : 3 * r < cfg0.N) :
    (outsAt0 m c (3 * r) h).2.2 q = ∑ x ∈ Finset.range (512 * (0 + 1)), term m c (1024 * r + (q 0).val) (q 1).val x := by
  rw [outsAt0_A m c ⟨3 * r, h⟩ (by show (3 * r) % 3 = 0; omega) (by show ¬(3 * r) % 3 = 1; omega) (by show ¬(3 * r) % 3 = 2; omega)
    (by show ¬(3 * r) % 3 = 2; omega)]
  dsimp only
  rw [first]
  refine (left_eq m c ⟨3 * r, h⟩ q r 0 (by show (3 * r) / 3 = r; omega) (by show (3 * r) % 3 = 0; omega) (by decide)).trans ?_
  simp only [Nat.mul_zero, Nat.zero_add, Nat.mul_one]

theorem acc1_eq (q : S1024x1024.Idx) (r : ℕ) (h : 3 * r + 1 < cfg0.N) :
    (outsAt0 m c (3 * r + 1) h).2.2 q = ∑ x ∈ Finset.range (512 * (1 + 1)), term m c (1024 * r + (q 0).val) (q 1).val x := by
  rw [outsAt0_B m c ⟨3 * r + 1, h⟩ (by show ¬(3 * r + 1) % 3 = 0; omega) (by show (3 * r + 1) % 3 = 1; omega) (by show ¬(3 * r + 1) % 3 = 2; omega)
    (by show ¬(3 * r + 1) % 3 = 2; omega)]
  dsimp only
  rw [later]
  exact acc_succ _ 512 1 (acc0_eq m c q r (by omega))
    (left_eq m c ⟨3 * r + 1, h⟩ q r 1 (by show (3 * r + 1) / 3 = r; omega) (by show (3 * r + 1) % 3 = 1; omega) (by decide))

/-- What a run's last point holds before the norm. -/
theorem out_tile (q : S1024x1024.Idx) (r : ℕ) (h : 3 * r + 2 < cfg0.N) :
    addf (F := Ideal) (φ := .f32) (addf (F := Ideal) (φ := .f32) (outsAt0 m c (3 * r + 1) (by omega)).2.2
      (blockProduct (iblk m c 1 ⟨3 * r + 2, h⟩) (iblk m c 2 ⟨3 * r + 2, h⟩))) (iblk m c 3 ⟨3 * r + 2, h⟩ : Vec Ideal S1024x1024 .f32) q
      = sum m c (1024 * r + (q 0).val) (q 1).val := by
  show ((outsAt0 m c (3 * r + 1) (by omega)).2.2 q + blockProduct (iblk m c 1 ⟨3 * r + 2, h⟩) (iblk m c 2 ⟨3 * r + 2, h⟩) q)
    + (iblk m c 3 ⟨3 * r + 2, h⟩ : Vec Ideal S1024x1024 .f32) q = _
  have e : (⟨3 * r + 2, h⟩ : Fin cfg0.N).val / 3 = r := by show (3 * r + 2) / 3 = r; omega
  rw [acc_succ _ 512 2 (acc1_eq m c q r (by omega)) (right_eq m c ⟨3 * r + 2, h⟩ q r e (by show (3 * r + 2) % 3 = 2; omega)), iblk_3, e,
    add_comm]
  rfl

theorem out_eq (q : S1024x1024.Idx) (r : ℕ) (h : 3 * r + 2 < cfg0.N) :
    (outsAt0 m c (3 * r + 2) h).1 q = sum m c (1024 * r + (q 0).val) (q 1).val := by
  rw [outsAt0_C m c ⟨3 * r + 2, h⟩ (by show ¬(3 * r + 2) % 3 = 0; omega) (by show ¬(3 * r + 2) % 3 = 1; omega) (by show (3 * r + 2) % 3 = 2; omega)
    (by show (3 * r + 2) % 3 = 2; omega)]
  dsimp only
  rw [last]
  exact out_tile m c q r h

theorem outNorm_eq (q : S1024x1024.Idx) (r : ℕ) (h : 3 * r + 2 < cfg0.N) :
    (outsAt0 m c (3 * r + 2) h).2.1 q = rms (sum m c (1024 * r + (q 0).val)) (ent (gains m c) 0) (q 1).val := by
  have h1 : (q 1).val < 1024 := (q 1).isLt
  have h0 : (q 0).val < 1024 := (q 0).isLt
  rw [outsAt0_C m c ⟨3 * r + 2, h⟩ (by show ¬(3 * r + 2) % 3 = 0; omega) (by show ¬(3 * r + 2) % 3 = 1; omega) (by show (3 * r + 2) % 3 = 2; omega)
    (by show (3 * r + 2) % 3 = 2; omega)]
  dsimp only
  rw [lastNorm]
  refine rms_congr h1 (fun k hk => ?_) ?_
  · exact (ent_eq _ (ix2 ⟨(q 0).val, h0⟩ ⟨k, hk⟩) rfl rfl).symm.trans (out_tile m c (ix2 ⟨(q 0).val, h0⟩ ⟨k, hk⟩) r h)
  · exact (ent_eq _ (ix2 0 ⟨(q 1).val, h1⟩) rfl rfl).symm.trans (iblk_4 m c _ (ix2 0 ⟨(q 1).val, h1⟩))

/-- The result arrays, entry by entry. -/
theorem G5_eq (i : S16384x1024.Idx) : G5 m c i = sum m c (i 0).val (i 1).val := by
  have h0 : (i 0).val < 16384 := (i 0).isLt
  have h1 : (i 1).val < 1024 := (i 1).isLt
  have hN : cfg0.N = 48 := N_0
  have hp : pt5Of i < cfg0.N := by
    rw [hN]
    show 3 * (1 * ((i 0).val / 1024 - 0) + 1 * ((i 1).val / 1024 - 0)) + 2 < 48
    omega
  unfold G5
  rw [dif_pos hp, ← outsAt0_sweep m c (pt5Of i) hp, out_eq]
  have e0 : 1024 * run5Of i + (loc5Of i 0).val = (i 0).val := by
    show 1024 * (1 * ((i 0).val / 1024 - 0) + 1 * ((i 1).val / 1024 - 0)) + (i 0).val % 1024 = _
    omega
  have e1 : (loc5Of i 1).val = (i 1).val := Nat.mod_eq_of_lt h1
  rw [e0, e1]

theorem G6_eq (i : S16384x1024.Idx) : G6 m c i = rms (sum m c (i 0).val) (ent (gains m c) 0) (i 1).val := by
  have h0 : (i 0).val < 16384 := (i 0).isLt
  have h1 : (i 1).val < 1024 := (i 1).isLt
  have hN : cfg0.N = 48 := N_0
  have hp : pt6Of i < cfg0.N := by
    rw [hN]
    show 3 * (1 * ((i 0).val / 1024 - 0) + 1 * ((i 1).val / 1024 - 0)) + 2 < 48
    omega
  unfold G6
  rw [dif_pos hp, ← outsAt0_sweep m c (pt6Of i) hp, outNorm_eq]
  have e0 : 1024 * run6Of i + (loc6Of i 0).val = (i 0).val := by
    show 1024 * (1 * ((i 0).val / 1024 - 0) + 1 * ((i 1).val / 1024 - 0)) + (i 0).val % 1024 = _
    omega
  have e1 : (loc6Of i 1).val = (i 1).val := Nat.mod_eq_of_lt h1
  rw [e0, e1]

end Cert.AbOutIdeal.Product

/-! ## The reference -/

namespace Cert.AbOutRefIdeal.Product

open Cert.AbOutRefIdeal Cert.AbOutRefIdeal.Gen Cert.AbOutRefIdeal.Read Cert.Products Cert.Norms
open Idealize.ShloMosaic Idealize.ShloMosaic.TcCoe Idealize.ShloMosaic.ValueIdx
open scoped BigOperators

variable (x : (⟨S16384x1024, .bf16⟩ : BufTy).Contents (Elt Ideal)) (y : (⟨S16384x512, .bf16⟩ : BufTy).Contents (Elt Ideal))
  (w : (⟨S1536x1024, .f32⟩ : BufTy).Contents (Elt Ideal))
  (r : (⟨S16384x1024, .f32⟩ : BufTy).Contents (Elt Ideal)) (g : (⟨S2x1024, .f32⟩ : BufTy).Contents (Elt Ideal))

/-- The product with the residual. -/
def sum (i j : ℕ) : EReal := ent r i j + ∑ k ∈ Finset.range 1536, beside 1024 (ent x) (ent y) i k * ent w k j

theorem sum_eq (i : S16384x1024.Idx) : val_main_v3 (F := Ideal) x y w r i = sum x y w r (i 0).val (i 1).val := by
  rw [val_main_v3_apply]
  refine congrArg₂ (· + ·) (ent_eq r i rfl rfl) ?_
  rw [val_main_v2_apply, Finset.sum_range]
  refine Finset.sum_congr rfl fun k _ => congrArg₂ (· * ·) ?_ (ent_eq w _ rfl rfl)
  rw [val_main_v1_apply]
  unfold val_main_v0
  exact concat_ent x y _ rfl _

theorem norm_eq (i : S16384x1024.Idx) : val_main_v19 (F := Ideal) x y w r g i = rms (sum x y w r (i 0).val) (ent g 0) (i 1).val := by
  have h1 : (i 1).val < 1024 := (i 1).isLt
  rw [val_main_v19_apply, val_main_v18_apply, val_main_v15_apply, val_main_v14_apply, val_main_v13_apply, val_main_v12_apply, val_main_v10_apply,
    val_main_v11_apply, val_main_v9_apply, val_main_v8_apply, val_main_v7_apply, val_main_v17_apply, val_main_v16_apply, val_main_v5_apply,
    val_main_v4_apply, sum_eq]
  unfold rms scale
  refine congrArg₂ (· * ·) (congrArg₂ (· * ·) rfl ?_) (ent_eq g _ rfl (Nat.mod_eq_of_lt h1))
  refine congrArg (fun s => Ideal.rsqrt (Ideal.div s _ + _)) ?_
  show Ideal.ofBits .f32 0x00000000#32 + _ = _
  rw [ofBits_zero, zero_add, Finset.sum_range]
  refine Finset.sum_congr rfl fun k _ => ?_
  rw [val_main_v6_apply, sum_eq]
  rfl

end Cert.AbOutRefIdeal.Product

end
-- ==== Proof.COutValue.lean ====
module

public import proofs.«01_k».proof.Proof.Norms
public import proofs.«01_k».proof.Proof.Gen.COutIdeal.Value
public import proofs.«01_k».proof.Proof.Gen.COutRefIdeal.Run
public import proofs.«01_k».proof.Proof.Gen.COutRefIdeal.Read

@[expose] public section

/-! The second mixer's output product: accumulated over two blocks of the contracted axis, with the residual added and the row
    normalised at the last one, it is the reference's product, residual and norm. -/

set_option maxRecDepth 16384

noncomputable section

namespace Cert.COutIdeal.Product

open Cert.COutIdeal Cert.COutIdeal.Gen Cert.COutIdeal.Value Cert.Products Cert.Norms
open Idealize.ShloMosaic Idealize.ShloMosaic.TcCoe Idealize.ShloMosaic.ValueIdx
open scoped BigOperators

theorem hz : (![0, 0] : Fin 2 → Nat) = fun _ => 0 := funext fun a => by fin_cases a <;> rfl

/-! ## One block -/

/-- The product of a block of rows and a block of the weight. -/
abbrev blockProduct (x : Vec Ideal S1024x1024 .bf16) (y : Vec Ideal S1024x1024 .bf16) : FVec Ideal S1024x1024 .f32 :=
  matmul (F := Ideal) (φ₁ := .bf16) (φ₂ := .bf16) dot_S1024x1024_S1024x1024_S1024x1024_1_0_0_1_n_n none x y (constant S1024x1024 .f32 0x00000000#32)

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x : Vec Ideal S1024x1024 .bf16) (y : Vec Ideal S1024x1024 .bf16) (res : Vec Ideal S1024x1024 .f32) (gain : Vec Ideal S1x1024 .f32)
  (acc : Vec Ideal S1024x1024 .f32)

/-- The first block of a run starts the accumulator. -/
theorem first (hc0 : cond0_0 i) (hc1 : ¬cond0_1 i) (hc2 : ¬cond0_2 i) :
    sout0_A_0 (F := Ideal) c i a3 h3 a4 h4 a5 h5 a6 h6 a7 h7 a8 h8 a9 h9 hc0 hc1 hc2 x y res gain = blockProduct x y := by
  unfold sout0_A_0
  rw [View.read_writes_eq_canon _ _ _ (scover0_A_0 c i a3 h3 a4 h4 a5 h5 a6 h6 a7 h7 a8 h8 a9 h9 hc0 hc1 hc2 x y res gain)]
  unfold kernelRun0_A
  dsimp only
  rw [View.canon_unit_zero (S := S1024x1024) hz]
  unfold k0_pay1
  simp only [View.readAt_eq_ld, h3.read_unread, h4.read_unread, View.ld_unit_zero (S := S1024x1024) hz, shapeCast_self]

/-- The last block adds its product and the residual … -/
theorem last (hc0 : ¬cond0_0 i) (hc1 : cond0_1 i) (hc2 : cond0_2 i) :
    out0_B_4 (F := Ideal) c i a3 h3 a4 h4 a5 h5 a6 h6 a7 h7 a8 h8 a9 h9 hc0 hc1 hc2 x y res gain acc
      = addf (F := Ideal) (φ := .f32) (addf (F := Ideal) (φ := .f32) acc (blockProduct x y)) res := by
  unfold out0_B_4
  rw [View.read_writes_eq_canon _ _ _ (cover0_B_4 c i a3 h3 a4 h4 a5 h5 a6 h6 a7 h7 a8 h8 a9 h9 hc0 hc1 hc2 x y res gain acc)]
  unfold kernelRun0_B
  dsimp only
  sl_unfold_words
  rw [View.canon_unit_zero (S := S1024x1024) hz]
  simp only [View.readCov_unit_zero (S := S1024x1024) _ hz]
  unfold k0_pay3 k0_pay2
  simp only [View.readAt_eq_ld, h3.read_unread, h4.read_unread, h5.read_unread, h9.read_unread, View.ld_unit_zero (S := S1024x1024) hz, shapeCast_self]

/-- … and writes the normalised rows beside them. -/
theorem lastNorm (hc0 : ¬cond0_0 i) (hc1 : cond0_1 i) (hc2 : cond0_2 i) (q : S1024x1024.Idx) :
    out0_B_5 (F := Ideal) c i a3 h3 a4 h4 a5 h5 a6 h6 a7 h7 a8 h8 a9 h9 hc0 hc1 hc2 x y res gain acc q
      = rms (ent (addf (F := Ideal) (φ := .f32) (addf (F := Ideal) (φ := .f32) acc (blockProduct x y)) res) (q 0).val) (ent gain 0) (q 1).val := by
  unfold out0_B_5
  rw [View.read_writes_eq_canon _ _ _ (cover0_B_5 c i a3 h3 a4 h4 a5 h5 a6 h6 a7 h7 a8 h8 a9 h9 hc0 hc1 hc2 x y res gain acc)]
  unfold kernelRun0_B
  dsimp only
  sl_unfold_words
  rw [View.canon_unit_zero (S := S1024x1024) hz]
  simp only [View.readCov_unit_zero (S := S1024x1024) _ hz]
  unfold k0_pay4 k0_pay3 k0_pay2
  simp only [View.readAt_eq_ld, h3.read_unread, h4.read_unread, h5.read_unread, h6.read_unread, h9.read_unread, View.ld_unit_zero (S := S1024x1024) hz,
    View.ld_unit_zero (S := S1x1024) hz, shapeCast_self]
  exact rms_tile _ gain _ _ _ _ q
end

theorem blockProduct_sum (x : Vec Ideal S1024x1024 .bf16) (y : Vec Ideal S1024x1024 .bf16) (q : S1024x1024.Idx) (f g : ℕ → EReal)
    (hf : ∀ p : S1024x1024.Idx, (p 0).val = (q 0).val → x p = f (p 1).val) (hg : ∀ p : S1024x1024.Idx, (p 1).val = (q 1).val → y p = g (p 0).val) :
    blockProduct x y q = ∑ k ∈ Finset.range 1024, f k * g k :=
  matmul_sum dot_S1024x1024_S1024x1024_S1024x1024_1_0_0_1_n_n 1024 rfl rfl x y q f g
    (fun k => (hf (dot_S1024x1024_S1024x1024_S1024x1024_1_0_0_1_n_n.lhsIdx q k) rfl).trans rfl)
    (fun k => (hg (dot_S1024x1024_S1024x1024_S1024x1024_1_0_0_1_n_n.rhsIdx q k) rfl).trans rfl)

/-! ## A point's blocks -/

variable (m : (ℓ : Loc nD τ sig) → Buf (Elt Ideal) ℓ) (c : Dev nD)

abbrev lhs : Vec Ideal S16384x2048 .bf16 := m ((c : Thread nD τ).loc main_arg0)
abbrev weight : Vec Ideal S2048x1024 .f32 := m ((c : Thread nD τ).loc main_arg1)
abbrev residual : Vec Ideal S16384x1024 .f32 := m ((c : Thread nD τ).loc main_arg2)
abbrev gains : Vec Ideal S2x1024 .f32 := m ((c : Thread nD τ).loc main_arg3)

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = 0 :=
  (by decide +kernel : ∀ t : Fin grid0.N, win0_2.index t 0 = t.val / 2 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

theorem iblk_0 (t : Fin cfg0.N) (p : S1024x1024.Idx) :
    (iblk m c 0 t : Vec Ideal S1024x1024 .bf16) p = ent (lhs m c) (1024 * (t.val / 2) + (p 0).val) (1024 * (t.val % 2) + (p 1).val) := by
  obtain ⟨e0, e1⟩ := index0 t
  refine Eq.trans ?_ (ent_eq (lhs m c) (((cfg0.win 0).blk t).view.emb p) ?_ ?_)
  · show V m c main_arg0 _ = _
    rw [V_main_arg0 m c]
  · show win0_0.index t 0 * 1024 + 1 * (p 0).val = _
    rw [e0]; omega
  · show win0_0.index t 1 * 1024 + 1 * (p 1).val = _
    rw [e1]; omega

/-- The weight the host narrows; on ideal values that is exact. -/
theorem iblk_1 (t : Fin cfg0.N) (p : S1024x1024.Idx) :
    (iblk m c 1 t : Vec Ideal S1024x1024 .bf16) p = ent (weight m c) (1024 * (t.val % 2) + (p 0).val) (p 1).val := by
  obtain ⟨e0, e1⟩ := index1 t
  refine Eq.trans ?_ (ent_eq (weight m c) (((cfg0.win 1).blk t).view.emb p) ?_ ?_)
  · rfl
  · show win0_1.index t 0 * 1024 + 1 * (p 0).val = _
    rw [e0]; omega
  · show win0_1.index t 1 * 1024 + 1 * (p 1).val = _
    rw [e1]; omega

theorem iblk_2 (t : Fin cfg0.N) (p : S1024x1024.Idx) :
    (iblk m c 2 t : Vec Ideal S1024x1024 .f32) p = ent (residual m c) (1024 * (t.val / 2) + (p 0).val) (p 1).val := by
  obtain ⟨e0, e1⟩ := index2 t
  refine Eq.trans ?_ (ent_eq (residual m c) (((cfg0.win 2).blk t).view.emb p) ?_ ?_)
  · show V m c main_arg2 _ = _
    rw [V_main_arg2 m c]
  · show win0_2.index t 0 * 1024 + 1 * (p 0).val = _
    rw [e0]; omega
  · show win0_2.index t 1 * 1024 + 1 * (p 1).val = _
    rw [e1]; omega

/-- The gain the host cuts out. -/
theorem iblk_3 (t : Fin cfg0.N) (p : S1x1024.Idx) :
    (iblk m c 3 t : Vec Ideal S1x1024 .f32) p = ent (gains m c) 1 (p 1).val := by
  obtain ⟨e0, e1⟩ := index3 t
  have hp : (p 0).val < 1 := (p 0).isLt
  refine (rowRow_apply (extractStridedSlice S1x1024 ![1, 0] (gains m c) slices_S2x1024_S1x1024_1_0) shapeCasts_S1x1024_S1024 shapeCasts_S1024_S1x1024
    (((cfg0.win 3).blk t).view.emb p)).trans ?_
  refine ent_eq (gains m c) _ ?_ ?_
  · show 1 + (win0_3.index t 0 * 1 + 1 * (p 0).val) = _
    rw [e0]; omega
  · show 0 + (win0_3.index t 1 * 1024 + 1 * (p 1).val) = _
    rw [e1]; omega

/-! ## The accumulator -/

/-- The terms of the product's entry at row `i`, column `j`. -/
def term (i j k : ℕ) : EReal := ent (lhs m c) i k * ent (weight m c) k j

/-- The product with the residual. -/
def sum (i j : ℕ) : EReal := ent (residual m c) i j + ∑ k ∈ Finset.range 2048, term m c i j k

theorem block_eq (t : Fin cfg0.N) (q : S1024x1024.Idx) (r k : ℕ) (hr : t.val / 2 = r) (hk : t.val % 2 = k) :
    blockProduct (iblk m c 0 t) (iblk m c 1 t) q = ∑ x ∈ Finset.range 1024, term m c (1024 * r + (q 0).val) (q 1).val (1024 * k + x) := by
  subst hr hk
  refine blockProduct_sum _ _ q (fun x => ent (lhs m c) (1024 * (t.val / 2) + (q 0).val) (1024 * (t.val % 2) + x))
    (fun x => ent (weight m c) (1024 * (t.val % 2) + x) (q 1).val) (fun p hp => ?_) (fun p hp => ?_)
  · rw [iblk_0, hp]
  · rw [iblk_1, hp]

theorem acc_eq (q : S1024x1024.Idx) (r : ℕ) (h : 2 * r < cfg0.N) :
    (outsAt0 m c (2 * r) h).2.2 q = ∑ x ∈ Finset.range (1024 * (0 + 1)), term m c (1024 * r + (q 0).val) (q 1).val x := by
  rw [outsAt0_A m c ⟨2 * r, h⟩ (by show (2 * r) % 2 = 0; omega) (by show ¬(2 * r) % 2 = 1; omega) (by show ¬(2 * r) % 2 = 1; omega)]
  dsimp only
  rw [first]
  refine (block_eq m c ⟨2 * r, h⟩ q r 0 (by show (2 * r) / 2 = r; omega) (by show (2 * r) % 2 = 0; omega)).trans ?_
  simp only [Nat.mul_zero, Nat.zero_add, Nat.mul_one]

/-- What a run's last point holds before the norm. -/
theorem out_tile (q : S1024x1024.Idx) (r : ℕ) (h : 2 * r + 1 < cfg0.N) :
    addf (F := Ideal) (φ := .f32) (addf (F := Ideal) (φ := .f32) (outsAt0 m c (2 * r) (by omega)).2.2
      (blockProduct (iblk m c 0 ⟨2 * r + 1, h⟩) (iblk m c 1 ⟨2 * r + 1, h⟩))) (iblk m c 2 ⟨2 * r + 1, h⟩ : Vec Ideal S1024x1024 .f32) q
      = sum m c (1024 * r + (q 0).val) (q 1).val := by
  show ((outsAt0 m c (2 * r) (by omega)).2.2 q + blockProduct (iblk m c 0 ⟨2 * r + 1, h⟩) (iblk m c 1 ⟨2 * r + 1, h⟩) q)
    + (iblk m c 2 ⟨2 * r + 1, h⟩ : Vec Ideal S1024x1024 .f32) q = _
  have e : (⟨2 * r + 1, h⟩ : Fin cfg0.N).val / 2 = r := by show (2 * r + 1) / 2 = r; omega
  rw [acc_succ _ 1024 1 (acc_eq m c q r (by omega)) (block_eq m c ⟨2 * r + 1, h⟩ q r 1 e (by show (2 * r + 1) % 2 = 1; omega)), iblk_2, e,
    add_comm]
  rfl

theorem out_eq (q : S1024x1024.Idx) (r : ℕ) (h : 2 * r + 1 < cfg0.N) :
    (outsAt0 m c (2 * r + 1) h).1 q = sum m c (1024 * r + (q 0).val) (q 1).val := by
  rw [outsAt0_B m c ⟨2 * r + 1, h⟩ (by show ¬(2 * r + 1) % 2 = 0; omega) (by show (2 * r + 1) % 2 = 1; omega) (by show (2 * r + 1) % 2 = 1; omega)]
  dsimp only
  rw [last]
  exact out_tile m c q r h

theorem outNorm_eq (q : S1024x1024.Idx) (r : ℕ) (h : 2 * r + 1 < cfg0.N) :
    (outsAt0 m c (2 * r + 1) h).2.1 q = rms (sum m c (1024 * r + (q 0).val)) (ent (gains m c) 1) (q 1).val := by
  have h1 : (q 1).val < 1024 := (q 1).isLt
  have h0 : (q 0).val < 1024 := (q 0).isLt
  rw [outsAt0_B m c ⟨2 * r + 1, h⟩ (by show ¬(2 * r + 1) % 2 = 0; omega) (by show (2 * r + 1) % 2 = 1; omega) (by show (2 * r + 1) % 2 = 1; omega)]
  dsimp only
  rw [lastNorm]
  refine rms_congr h1 (fun k hk => ?_) ?_
  · exact (ent_eq _ (ix2 ⟨(q 0).val, h0⟩ ⟨k, hk⟩) rfl rfl).symm.trans (out_tile m c (ix2 ⟨(q 0).val, h0⟩ ⟨k, hk⟩) r h)
  · exact (ent_eq _ (ix2 0 ⟨(q 1).val, h1⟩) rfl rfl).symm.trans (iblk_3 m c _ (ix2 0 ⟨(q 1).val, h1⟩))

/-- The result arrays, entry by entry. -/
theorem G4_eq (i : S16384x1024.Idx) : G4 m c i = sum m c (i 0).val (i 1).val := by
  have h0 : (i 0).val < 16384 := (i 0).isLt
  have h1 : (i 1).val < 1024 := (i 1).isLt
  have hN : cfg0.N = 32 := N_0
  have hp : pt4Of i < cfg0.N := by
    rw [hN]
    show 2 * (1 * ((i 0).val / 1024 - 0) + 1 * ((i 1).val / 1024 - 0)) + 1 < 32
    omega
  unfold G4
  rw [dif_pos hp, ← outsAt0_sweep m c (pt4Of i) hp, out_eq]
  have e0 : 1024 * run4Of i + (loc4Of i 0).val = (i 0).val := by
    show 1024 * (1 * ((i 0).val / 1024 - 0) + 1 * ((i 1).val / 1024 - 0)) + (i 0).val % 1024 = _
    omega
  have e1 : (loc4Of i 1).val = (i 1).val := Nat.mod_eq_of_lt h1
  rw [e0, e1]

theorem G5_eq (i : S16384x1024.Idx) : G5 m c i = rms (sum m c (i 0).val) (ent (gains m c) 1) (i 1).val := by
  have h0 : (i 0).val < 16384 := (i 0).isLt
  have h1 : (i 1).val < 1024 := (i 1).isLt
  have hN : cfg0.N = 32 := N_0
  have hp : pt5Of i < cfg0.N := by
    rw [hN]
    show 2 * (1 * ((i 0).val / 1024 - 0) + 1 * ((i 1).val / 1024 - 0)) + 1 < 32
    omega
  unfold G5
  rw [dif_pos hp, ← outsAt0_sweep m c (pt5Of i) hp, outNorm_eq]
  have e0 : 1024 * run5Of i + (loc5Of i 0).val = (i 0).val := by
    show 1024 * (1 * ((i 0).val / 1024 - 0) + 1 * ((i 1).val / 1024 - 0)) + (i 0).val % 1024 = _
    omega
  have e1 : (loc5Of i 1).val = (i 1).val := Nat.mod_eq_of_lt h1
  rw [e0, e1]

end Cert.COutIdeal.Product

/-! ## The reference -/

namespace Cert.COutRefIdeal.Product

open Cert.COutRefIdeal Cert.COutRefIdeal.Gen Cert.COutRefIdeal.Read Cert.Products Cert.Norms
open Idealize.ShloMosaic Idealize.ShloMosaic.TcCoe Idealize.ShloMosaic.ValueIdx
open scoped BigOperators

variable (x : (⟨S16384x2048, .bf16⟩ : BufTy).Contents (Elt Ideal)) (w : (⟨S2048x1024, .f32⟩ : BufTy).Contents (Elt Ideal))
  (r : (⟨S16384x1024, .f32⟩ : BufTy).Contents (Elt Ideal)) (g : (⟨S2x1024, .f32⟩ : BufTy).Contents (Elt Ideal))

/-- The product with the residual. -/
def sum (i j : ℕ) : EReal := ent r i j + ∑ k ∈ Finset.range 2048, ent x i k * ent w k j

theorem sum_eq (i : S16384x1024.Idx) : val_main_v2 (F := Ideal) x w r i = sum x w r (i 0).val (i 1).val := by
  rw [val_main_v2_apply]
  refine congrArg₂ (· + ·) (ent_eq r i rfl rfl) ?_
  rw [val_main_v1_apply, Finset.sum_range]
  exact Finset.sum_congr rfl fun k _ => congrArg₂ (· * ·) (ent_eq x _ rfl rfl) (ent_eq w _ rfl rfl)

theorem norm_eq (i : S16384x1024.Idx) : val_main_v18 (F := Ideal) x w r g i = rms (sum x w r (i 0).val) (ent g 1) (i 1).val := by
  have h1 : (i 1).val < 1024 := (i 1).isLt
  rw [val_main_v18_apply, val_main_v17_apply, val_main_v14_apply, val_main_v13_apply, val_main_v12_apply, val_main_v11_apply, val_main_v9_apply,
    val_main_v10_apply, val_main_v8_apply, val_main_v7_apply, val_main_v6_apply, val_main_v16_apply, val_main_v15_apply, val_main_v4_apply,
    val_main_v3_apply, sum_eq]
  unfold rms scale
  refine congrArg₂ (· * ·) (congrArg₂ (· * ·) rfl ?_) (ent_eq g _ rfl (Nat.mod_eq_of_lt h1))
  refine congrArg (fun s => Ideal.rsqrt (Ideal.div s _ + _)) ?_
  show Ideal.ofBits .f32 0x00000000#32 + _ = _
  rw [ofBits_zero, zero_add, Finset.sum_range]
  refine Finset.sum_congr rfl fun k _ => ?_
  rw [val_main_v5_apply, sum_eq]
  rfl

end Cert.COutRefIdeal.Product

end
-- ==== Proof.OutCalls.lean ====
module

public import proofs.«01_k».proof.Defs
public import proofs.«01_k».proof.Proof.Gen.AbOut
public import proofs.«01_k».proof.Proof.Gen.AbOut.Frame
public import proofs.«01_k».proof.Proof.Gen.AbOutIdeal
public import proofs.«01_k».proof.Proof.Gen.AbOutIdeal.Frame
public import proofs.«01_k».proof.Proof.Gen.AbOutRefIdeal
public import proofs.«01_k».proof.Proof.AbOutValue
public import proofs.«01_k».proof.Proof.Gen.COut
public import proofs.«01_k».proof.Proof.Gen.COut.Frame
public import proofs.«01_k».proof.Proof.Gen.COutIdeal
public import proofs.«01_k».proof.Proof.Gen.COutIdeal.Frame
public import proofs.«01_k».proof.Proof.Gen.COutRefIdeal
public import proofs.«01_k».proof.Proof.COutValue
public import Idealize.ShloMosaic.Adequacy

@[expose] public section

/-! The claims of the mixers' output products: kernel and reference end with the same two arrays, the product with the residual
    and its normalised rows. -/

set_option maxRecDepth 16384

noncomputable section

namespace Cert.Calls

open Cert.Products
open Idealize.ShloMosaic Idealize.ShloMosaic.TcCoe Idealize.SL.Sem Idealize.ShloMosaic.StableHlo
open scoped BigOperators

theorem frame_AbOut : Cert.quiescent_AbOutRefIdeal := fun m ρ _ =>
  (θ_run Cert.AbOutRefIdeal.defs _ _).mono (fun r h => ⟨fun c => (h c).2.2, sem_eq_zero_of_no_sems (by decide) r.2⟩)
    (Cert.AbOutRefIdeal.Value.run (F := Ideal) m ρ)

theorem algebraic_AbOut : Cert.algebraic_AbOutIdeal_AbOutRefIdeal := by
  intro m g m' g' _ hagree
  refine ⟨fun c => Cert.AbOutIdeal.Value.G5 m c, fun c => Cert.AbOutIdeal.Value.G6 m c, Cert.AbOutIdeal.Value.run (F := Ideal) m g, ?_⟩
  refine (θ_run Cert.AbOutRefIdeal.defs _ _).mono (fun r h c => ?_) (Cert.AbOutRefIdeal.Value.run (F := Ideal) m' g')
  obtain ⟨a0, a1, a2, a3, a4⟩ := hagree c
  refine ⟨((h c).1.trans (Cert.AbOutRefIdeal.Read.val_main_v3_eq _ _ _ _)).trans (funext fun i => ?_),
    ((h c).2.1.trans (Cert.AbOutRefIdeal.Read.val_main_v19_eq _ _ _ _ _)).trans (funext fun i => ?_), (h c).2.2⟩
  · rw [a0, a1, a2, a3, Cert.AbOutRefIdeal.Product.sum_eq]
    exact (Cert.AbOutIdeal.Product.G5_eq m c i).symm
  · rw [a0, a1, a2, a3, a4, Cert.AbOutRefIdeal.Product.norm_eq]
    exact (Cert.AbOutIdeal.Product.G6_eq m c i).symm

theorem frame_COut : Cert.quiescent_COutRefIdeal := fun m ρ _ =>
  (θ_run Cert.COutRefIdeal.defs _ _).mono (fun r h => ⟨fun c => (h c).2.2, sem_eq_zero_of_no_sems (by decide) r.2⟩)
    (Cert.COutRefIdeal.Value.run (F := Ideal) m ρ)

theorem algebraic_COut : Cert.algebraic_COutIdeal_COutRefIdeal := by
  intro m g m' g' _ hagree
  refine ⟨fun c => Cert.COutIdeal.Value.G4 m c, fun c => Cert.COutIdeal.Value.G5 m c, Cert.COutIdeal.Value.run (F := Ideal) m g, ?_⟩
  refine (θ_run Cert.COutRefIdeal.defs _ _).mono (fun r h c => ?_) (Cert.COutRefIdeal.Value.run (F := Ideal) m' g')
  obtain ⟨a0, a1, a2, a3⟩ := hagree c
  refine ⟨((h c).1.trans (Cert.COutRefIdeal.Read.val_main_v2_eq _ _ _)).trans (funext fun i => ?_),
    ((h c).2.1.trans (Cert.COutRefIdeal.Read.val_main_v18_eq _ _ _ _)).trans (funext fun i => ?_), (h c).2.2⟩
  · rw [a0, a1, a2, Cert.COutRefIdeal.Product.sum_eq]
    exact (Cert.COutIdeal.Product.G4_eq m c i).symm
  · rw [a0, a1, a2, a3, Cert.COutRefIdeal.Product.norm_eq]
    exact (Cert.COutIdeal.Product.G5_eq m c i).symm

end Cert.Calls

end
-- ==== Proof.NormScalar.lean ====
module

public import proofs.«01_k».proof.Proof.Norms
public import proofs.«01_k».proof.Proof.Lift

@[expose] public section

/-! The gradient of a norm of rows, infinities included. A row's mean square plus the floor is positive, so its reciprocal root is a
    real number that is not negative (zero where the row holds an infinity), and such a number distributes over every sum; the
    kernel's closed form and the reference's chain of steps differ by that alone. -/

noncomputable section

namespace Cert.Norms

open Cert.Products Cert.Lift
open Idealize.ShloMosaic Idealize.ShloMosaic.ValueIdx
open scoped BigOperators

theorem bits_1024 : Ideal.ofBits .f32 0x44800000#32 = ((1024 : ℝ) : EReal) := by
  simp [Ideal.ofBits, Ideal.ieee, -EReal.coe_mul]; norm_num

/-- The mean square with the floor. -/
def square (f : ℕ → EReal) : EReal :=
  Ideal.div (∑ k ∈ Finset.range 1024, f k * f k) (Ideal.ofBits .f32 0x44800000#32) + Ideal.ofBits .f32 0x358637BD#32

theorem scale_eq (f : ℕ → EReal) : scale f = Ideal.rsqrt (square f) := rfl

theorem square_self_nonneg (x : EReal) : 0 ≤ x * x := by
  induction x with
  | bot => simp
  | top => simp
  | coe x => exact_mod_cast mul_self_nonneg x

theorem square_pos (f : ℕ → EReal) : 0 < square f := by
  have h : (0 : EReal) ≤ ∑ k ∈ Finset.range 1024, f k * f k := Finset.sum_nonneg fun k _ => square_self_nonneg _
  have h2 : (0 : EReal) ≤ Ideal.div (∑ k ∈ Finset.range 1024, f k * f k) ((1024 : ℝ) : EReal) := by
    rw [Ideal.div_coe (by norm_num)]
    exact mul_nonneg h (by exact_mod_cast (by norm_num : (0 : ℝ) ≤ 1 / 1024))
  unfold square
  rw [bits_1024, bits_eps]
  exact lt_of_lt_of_le (EReal.coe_pos.2 cEps_pos) (le_add_of_nonneg_left h2)

/-- The reciprocal root is a real number, not negative, and its quotient by the mean square is its cube. -/
theorem scale_real (f : ℕ → EReal) :
    ∃ r : ℝ, 0 ≤ r ∧ scale f = ((r : ℝ) : EReal) ∧ Ideal.div (scale f) (square f) = ((r * r * r : ℝ) : EReal) := by
  have hp := square_pos f
  rw [scale_eq]
  induction h : square f with
  | bot => rw [h] at hp; simp at hp
  | top => exact ⟨0, le_rfl, by simp, by simp [Ideal.div]⟩
  | coe v =>
    rw [h] at hp
    have hv : 0 < v := by exact_mod_cast hp
    have hs := Real.sqrt_pos.mpr hv
    have e : Ideal.rsqrt ((v : ℝ) : EReal) = (((Real.sqrt v)⁻¹ : ℝ) : EReal) := by
      rw [Ideal.rsqrt_coe, if_neg (not_lt.2 hv.le), if_neg hv.ne']
    refine ⟨(Real.sqrt v)⁻¹, (inv_pos.2 hs).le, e, ?_⟩
    rw [e, Ideal.div_coe hv.ne', ← EReal.coe_mul]
    refine congrArg _ ?_
    have hm := Real.mul_self_sqrt hv.le
    rw [one_div]
    conv_lhs => rw [← hm]
    rw [mul_inv, mul_assoc, Real.sqrt_mul_self hs.le]

theorem sum_mul_real (s : Finset ℕ) (f : ℕ → EReal) {r : ℝ} (h : 0 ≤ r) : (∑ k ∈ s, f k * ((r : ℝ) : EReal)) = (∑ k ∈ s, f k) * ((r : ℝ) : EReal) := by
  classical
  induction s using Finset.induction_on with
  | empty => simp
  | insert a s ha ih =>
    rw [Finset.sum_insert ha, Finset.sum_insert ha, ih, EReal.right_distrib_of_nonneg_of_ne_top (EReal.coe_nonneg.2 h) (EReal.coe_ne_top r)]

theorem add_self (y : EReal) : y + y = y * ((2 : ℝ) : EReal) := by
  induction y with
  | bot => simp [EReal.bot_mul_coe_of_pos (show (0 : ℝ) < 2 by norm_num)]
  | top => simp [EReal.top_mul_coe_of_pos (show (0 : ℝ) < 2 by norm_num)]
  | coe y => rw [← EReal.coe_add, ← EReal.coe_mul]; exact congrArg _ (by ring)

/-- The gradient of a row's entry: the kernel's closed form, from the row, the gradient of the scaled row, and the entry. -/
def back (f t : ℕ → EReal) (j : ℕ) : EReal :=
  scale f * (t j - f j * scale f * Ideal.div (∑ k ∈ Finset.range 1024, t k * (f k * scale f)) (Ideal.ofBits .f32 0x44800000#32))

/-- What the reference multiplies a row's entry by, twice: the gradient through the mean square. -/
def through (f t : ℕ → EReal) : EReal :=
  Ideal.div ((∑ k ∈ Finset.range 1024, f k * t k) * (Ideal.ofBits .f32 0xBF000000#32 * Ideal.div (scale f) (square f)))
    (Ideal.ofBits .f32 0x44800000#32)

theorem back_eq (f t : ℕ → EReal) (j : ℕ) : t j * scale f + f j * through f t + through f t * f j = back f t j := by
  obtain ⟨r, hr, e, e3⟩ := scale_real f
  unfold back through
  have hS : ∑ k ∈ Finset.range 1024, t k * (f k * ((r : ℝ) : EReal)) = (∑ k ∈ Finset.range 1024, f k * t k) * ((r : ℝ) : EReal) := by
    rw [← sum_mul_real _ _ hr]
    exact Finset.sum_congr rfl fun k _ => by rw [← mul_assoc, mul_comm (t k)]
  rw [e3, e, bits_1024, bits_neg_half, hS, Ideal.div_coe (by norm_num), Ideal.div_coe (by norm_num)]
  generalize (∑ k ∈ Finset.range 1024, f k * t k) = S
  rw [EReal.mul_sub_of_nonneg_of_ne_top (EReal.coe_nonneg.2 hr) (EReal.coe_ne_top r), sub_eq_add_neg, add_assoc]
  refine congrArg₂ (· + ·) (mul_comm _ _) ?_
  have e1 : f j * (S * (((-(1 / 2) : ℝ) : EReal) * ((r * r * r : ℝ) : EReal)) * ((1 / 1024 : ℝ) : EReal))
      = f j * S * ((-(1 / 2) * (r * r * r) * (1 / 1024) : ℝ) : EReal) := by
    rw [← EReal.coe_mul, mul_assoc S, ← EReal.coe_mul, ← mul_assoc]
  rw [mul_comm _ (f j), e1, add_self, mul_assoc (f j * S), ← EReal.coe_mul]
  have e2 : ((r : ℝ) : EReal) * (f j * ((r : ℝ) : EReal) * (S * ((r : ℝ) : EReal) * ((1 / 1024 : ℝ) : EReal)))
      = f j * S * ((r * r * r * (1 / 1024) : ℝ) : EReal) := by
    rw [EReal.coe_mul, EReal.coe_mul, EReal.coe_mul]
    ac_rfl
  rw [e2, ← mul_neg, ← EReal.coe_neg]
  exact congrArg _ (congrArg _ (by ring))

end Cert.Norms

end
-- ==== Proof.NormValue.lean ====
module

public import proofs.«01_k».proof.Proof.NormScalar
public import proofs.«01_k».proof.Proof.Gen.NormIdeal.Value
public import proofs.«01_k».proof.Proof.Gen.NormRefIdeal.Run
public import proofs.«01_k».proof.Proof.Gen.NormRefIdeal.Read

@[expose] public section

/-! The backward call of a norm of the residual stream: 32 blocks of 512 rows, each writing its rows' gradient in two widths and
    adding its share of the gain's gradient to one row that every block shares. -/

set_option maxRecDepth 16384

noncomputable section

namespace Cert.Norms

open Cert.Products
open Idealize.ShloMosaic Idealize.ShloMosaic.ValueIdx
open scoped BigOperators

/-- A vector's entry. -/
def line {n : ℕ} (x : (⟨1, ![n]⟩ : Shape).Idx → EReal) (j : ℕ) : EReal := if h : j < n then x (ix1 ⟨j, h⟩) else 0

theorem line_eq {n : ℕ} (x : (⟨1, ![n]⟩ : Shape).Idx → EReal) (q : (⟨1, ![n]⟩ : Shape).Idx) {j : ℕ} (h : (q 0).val = j) : x q = line x j := by
  subst h
  unfold line
  have hq : (q 0).val < n := (q 0).isLt
  rw [dif_pos hq]
  exact congrArg x (eq_ix1 q)

theorem castRow_apply {n : ℕ} {α : Type} (x : (⟨1, ![n]⟩ : Shape).Idx → α) (h : (⟨1, ![n]⟩ : Shape).ShapeCasts ⟨2, ![1, n]⟩)
    (i : (⟨2, ![1, n]⟩ : Shape).Idx) : shapeCast ⟨2, ![1, n]⟩ x h i = x (ix1 (i 1)) := by
  refine shapeCast_apply _ h i (ix1 (i 1)) ?_
  rw [Shape.rowMajor_val_one, Shape.rowMajor_val_two]
  have h0 : (i 0).val < 1 := (i 0).isLt
  have e : (i 0).val = 0 := by omega
  show (i 1).val = (i 0).val * n + (i 1).val
  rw [e]; omega

/-- The entry of the stream's gradient: the gradient that came by the other path, and the norm's. -/
def dx (x dy : ℕ → ℕ → EReal) (g : ℕ → EReal) (dres : ℕ → ℕ → EReal) (i j : ℕ) : EReal :=
  dres i j + back (x i) (fun k => dy i k * g k) j

/-- A row's share of the gain's gradient. -/
def dgTerm (x dy : ℕ → ℕ → EReal) (j i : ℕ) : EReal := dy i j * (x i j * scale (x i))

theorem back_congr {f f' t t' : ℕ → EReal} {j : ℕ} (hj : j < 1024) (hf : ∀ k, k < 1024 → f k = f' k) (ht : ∀ k, k < 1024 → t k = t' k) :
    back f t j = back f' t' j := by
  unfold back
  rw [scale_congr hf, hf j hj, ht j hj,
    Finset.sum_congr rfl fun k hk => by rw [hf k (Finset.mem_range.1 hk), ht k (Finset.mem_range.1 hk)]]

end Cert.Norms

namespace Cert.NormIdeal.Rows

open Cert.NormIdeal Cert.NormIdeal.Gen Cert.NormIdeal.Value Cert.Products Cert.Norms
open Idealize.ShloMosaic Idealize.ShloMosaic.TcCoe Idealize.ShloMosaic.ValueIdx
open scoped BigOperators

theorem hz : (![0, 0] : Fin 2 → Nat) = fun _ => 0 := funext fun a => by fin_cases a <;> rfl

/-! ## What the kernel computes of a block -/

section
variable (x : Vec Ideal S512x1024 .f32) (dy : Vec Ideal S512x1024 .bf16) (g : Vec Ideal S1x1024 .f32) (dres : Vec Ideal S512x1024 .f32)
  (dg : Vec Ideal S1x1024 .f32)

theorem scale_tile (i : S512x1.Idx) : k0_pay4 (F := Ideal) x i = scale (ent x (i 0).val) := by
  unfold k0_pay4 scale
  show Ideal.rsqrt (Ideal.div (shapeCast S512x1 _ _ i) _ + _) = _
  rw [castCol_apply]
  refine congrArg (fun s => Ideal.rsqrt (Ideal.div s _ + _)) ?_
  refine (Ideal.multiReduction_add_single _ _ _ _ _ _).trans ?_
  rw [Finset.sum_range]
  exact Finset.sum_congr rfl fun k _ => congrArg₂ (· * ·) (ent_eq x _ rfl rfl) (ent_eq x _ rfl rfl)

theorem normed_tile (q : S512x1024.Idx) : k0_pay5 (F := Ideal) x q = ent x (q 0).val (q 1).val * scale (ent x (q 0).val) := by
  unfold k0_pay5
  show x q * broadcastTo S512x1024 (k0_pay4 (F := Ideal) x) _ q = _
  rw [colBcast_apply, scale_tile]
  exact congrArg₂ (· * ·) (ent_eq x q rfl rfl) rfl

theorem gain_tile (q : S1x1024.Idx) :
    k0_pay7 (F := Ideal) x dy dg q = dg q + ∑ s ∈ Finset.range 512, dgTerm (ent x) (ent dy) (q 1).val s := by
  unfold k0_pay7
  rw [shapeCast_self]
  show dg q + shapeCast S1x1024 _ _ q = _
  refine congrArg (dg q + ·) ?_
  rw [castRow_apply]
  refine (Ideal.multiReduction_add_single _ _ _ _ _ _).trans ?_
  rw [Finset.sum_range]
  refine Finset.sum_congr rfl fun k _ => ?_
  refine (congrArg₂ (· * ·) (ent_eq dy _ rfl rfl) (normed_tile x _)).trans ?_
  rfl

theorem back_tile (q : S512x1024.Idx) :
    k0_pay1 (F := Ideal) dres (k0_pay8 (F := Ideal) x dy g) (k0_pay9 (F := Ideal) x) q = dx (ent x) (ent dy) (ent g 0) (ent dres) (q 0).val (q 1).val := by
  have ht (p : S512x1024.Idx) : k0_pay6 (F := Ideal) dy p * broadcastTo S512x1024 g broadcasts_S1x1024_S512x1024 p
      = ent dy (p 0).val (p 1).val * ent g 0 (p 1).val := by
    rw [rowBcast_apply]
    exact congrArg₂ (· * ·) (ent_eq dy p rfl rfl) (ent_eq g _ rfl rfl)
  unfold k0_pay1 k0_pay8 k0_pay9
  rw [shapeCast_self]
  show dres q + broadcastTo S512x1024 (k0_pay4 (F := Ideal) x) _ q
    * (k0_pay6 (F := Ideal) dy q * broadcastTo S512x1024 g _ q - k0_pay5 (F := Ideal) x q * broadcastTo S512x1024 _ _ q) = _
  rw [ht, normed_tile, colBcast_apply, colBcast_apply, scale_tile]
  unfold dx back
  refine congrArg₂ (· + ·) (ent_eq dres q rfl rfl) (congrArg (fun z => scale (ent x (q 0).val) * (ent dy (q 0).val (q 1).val * ent g 0 (q 1).val - ent x (q 0).val (q 1).val * scale (ent x (q 0).val) * z)) ?_)
  show Ideal.div (shapeCast S512x1 _ _ (ix2 (q 0) 0)) _ = _
  rw [castCol_apply]
  refine congrArg (Ideal.div · _) ?_
  refine (Ideal.multiReduction_add_single _ _ _ _ _ _).trans ?_
  rw [Finset.sum_range]
  exact Finset.sum_congr rfl fun k _ => congrArg₂ (· * ·) (ht _) (normed_tile x _)
end

/-! ## What a point leaves -/

section
variable (c : Dev nD) (i : grid0.Coords) (a1 : Memref sig .tc .vmem S512x1024 .f32) (h1 : a1.IsWhole)
  (a2 : Memref sig .tc .vmem S512x1024 .bf16) (h2 : a2.IsWhole) (a3 : Memref sig .tc .vmem S1x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x : Vec Ideal S512x1024 .f32) (dy : Vec Ideal S512x1024 .bf16) (g : Vec Ideal S1x1024 .f32) (dres : Vec Ideal S512x1024 .f32)
  (dg : Vec Ideal S1x1024 .f32)

theorem left_A_4 (hc0 : cond0_0 i) : out0_A_4 (F := Ideal) c i a1 h1 a2 h2 a3 h3 a4 h4 a5 h5 a6 h6 a7 h7 hc0 x dy g dres
    = k0_pay1 (F := Ideal) dres (k0_pay8 (F := Ideal) x dy g) (k0_pay9 (F := Ideal) x) := by
  unfold out0_A_4
  rw [View.read_writes_eq_canon _ _ _ (cover0_A_4 c i a1 h1 a2 h2 a3 h3 a4 h4 a5 h5 a6 h6 a7 h7 hc0 x dy g dres)]
  unfold kernelRun0_A
  dsimp only
  sl_unfold_words
  rw [View.canon_unit_zero (S := S512x1024) hz]
  simp only [View.readAt_eq_ld, h1.read_unread, h2.read_unread, h3.read_unread, h4.read_unread, h7.read_unread, View.ld_unit_zero (S := S512x1024) hz,
    View.ld_unit_zero (S := S1x1024) hz, shapeCast_self]

theorem left_A_5 (hc0 : cond0_0 i) : out0_A_5 (F := Ideal) c i a1 h1 a2 h2 a3 h3 a4 h4 a5 h5 a6 h6 a7 h7 hc0 x dy g dres
    = k0_pay2 (F := Ideal) dres (k0_pay8 (F := Ideal) x dy g) (k0_pay9 (F := Ideal) x) := by
  unfold out0_A_5
  rw [View.read_writes_eq_canon _ _ _ (cover0_A_5 c i a1 h1 a2 h2 a3 h3 a4 h4 a5 h5 a6 h6 a7 h7 hc0 x dy g dres)]
  unfold kernelRun0_A
  dsimp only
  sl_unfold_words
  rw [View.canon_unit_zero (S := S512x1024) hz]
  simp only [View.readAt_eq_ld, h1.read_unread, h2.read_unread, h3.read_unread, h4.read_unread, h7.read_unread, View.ld_unit_zero (S := S512x1024) hz,
    View.ld_unit_zero (S := S1x1024) hz, shapeCast_self]

theorem left_A_6 (hc0 : cond0_0 i) : out0_A_6 (F := Ideal) c i a1 h1 a2 h2 a3 h3 a4 h4 a5 h5 a6 h6 a7 h7 hc0 x dy g dres
    = k0_pay7 (F := Ideal) x dy (k0_pay3 (F := Ideal)) := by
  unfold out0_A_6
  rw [View.read_writes_eq_canon _ _ _ (cover0_A_6 c i a1 h1 a2 h2 a3 h3 a4 h4 a5 h5 a6 h6 a7 h7 hc0 x dy g dres)]
  unfold kernelRun0_A
  dsimp only
  sl_unfold_words
  rw [View.canon_cons_unit_zero (S := S1x1024) hz]
  simp only [View.readCov_unit_zero (S := S1x1024) _ hz]
  simp only [View.readAt_eq_ld, h1.read_unread, h2.read_unread, h3.read_unread, h4.read_unread, h7.read_unread, View.ld_unit_zero (S := S512x1024) hz,
    View.ld_unit_zero (S := S1x1024) hz, shapeCast_self]

theorem left_B_4 (hc0 : ¬cond0_0 i) : out0_B_4 (F := Ideal) c i a1 h1 a2 h2 a3 h3 a4 h4 a5 h5 a6 h6 a7 h7 hc0 x dy g dres dg
    = k0_pay1 (F := Ideal) dres (k0_pay8 (F := Ideal) x dy g) (k0_pay9 (F := Ideal) x) := by
  unfold out0_B_4
  rw [View.read_writes_eq_canon _ _ _ (cover0_B_4 c i a1 h1 a2 h2 a3 h3 a4 h4 a5 h5 a6 h6 a7 h7 hc0 x dy g dres dg)]
  unfold kernelRun0_B
  dsimp only
  sl_unfold_words
  rw [View.canon_unit_zero (S := S512x1024) hz]
  simp only [View.readAt_eq_ld, h1.read_unread, h2.read_unread, h3.read_unread, h4.read_unread, h7.read_unread, View.ld_unit_zero (S := S512x1024) hz,
    View.ld_unit_zero (S := S1x1024) hz, shapeCast_self]

theorem left_B_5 (hc0 : ¬cond0_0 i) : out0_B_5 (F := Ideal) c i a1 h1 a2 h2 a3 h3 a4 h4 a5 h5 a6 h6 a7 h7 hc0 x dy g dres dg
    = k0_pay2 (F := Ideal) dres (k0_pay8 (F := Ideal) x dy g) (k0_pay9 (F := Ideal) x) := by
  unfold out0_B_5
  rw [View.read_writes_eq_canon _ _ _ (cover0_B_5 c i a1 h1 a2 h2 a3 h3 a4 h4 a5 h5 a6 h6 a7 h7 hc0 x dy g dres dg)]
  unfold kernelRun0_B
  dsimp only
  sl_unfold_words
  rw [View.canon_unit_zero (S := S512x1024) hz]
  simp only [View.readAt_eq_ld, h1.read_unread, h2.read_unread, h3.read_unread, h4.read_unread, h7.read_unread, View.ld_unit_zero (S := S512x1024) hz,
    View.ld_unit_zero (S := S1x1024) hz, shapeCast_self]

theorem left_B_6 (hc0 : ¬cond0_0 i) : out0_B_6 (F := Ideal) c i a1 h1 a2 h2 a3 h3 a4 h4 a5 h5 a6 h6 a7 h7 hc0 x dy g dres dg
    = k0_pay7 (F := Ideal) x dy dg := by
  unfold out0_B_6
  rw [View.read_writes_eq_canon _ _ _ (cover0_B_6 c i a1 h1 a2 h2 a3 h3 a4 h4 a5 h5 a6 h6 a7 h7 hc0 x dy g dres dg)]
  unfold kernelRun0_B
  dsimp only
  sl_unfold_words
  rw [View.canon_unit_zero (S := S1x1024) hz]
  simp only [View.readAt_eq_ld, h1.read_unread, h2.read_unread, h3.read_unread, h4.read_unread, h7.read_unread, View.ld_unit_zero (S := S512x1024) hz,
    View.ld_unit_zero (S := S1x1024) hz, shapeCast_self]

end

/-! ## The arguments' blocks -/

section
variable (m : (ℓ : Loc nD τ sig) → Buf (Elt Ideal) ℓ) (c : Dev nD)

abbrev inX : Vec Ideal S16384x1024 .f32 := m ((c : Thread nD τ).loc main_arg0)
abbrev inDy : Vec Ideal S16384x1024 .bf16 := m ((c : Thread nD τ).loc main_arg1)
abbrev inG : Vec Ideal S1024 .f32 := m ((c : Thread nD τ).loc main_arg2)
abbrev inRes : Vec Ideal S16384x1024 .f32 := m ((c : Thread nD τ).loc main_arg3)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

theorem blk_rows (t p q : ℕ) {i j : ℕ} (hi : i = t) (hj : j = 0) : i * 512 + 1 * p = 512 * t + p ∧ j * 1024 + 1 * q = q := by
  subst hi hj; omega

theorem iblk_0 (t : Fin cfg0.N) (p : S512x1024.Idx) :
    (iblk m c 0 t : Vec Ideal S512x1024 .f32) p = ent (inX m c) (512 * t.val + (p 0).val) (p 1).val := by
  obtain ⟨e0, e1⟩ := blk_rows t.val (p 0).val (p 1).val (index0 t).1 (index0 t).2
  refine Eq.trans ?_ (ent_eq (inX m c) (((cfg0.win 0).blk t).view.emb p) e0 e1)
  show V m c main_arg0 _ = _
  rw [V_main_arg0 m c]

theorem iblk_1 (t : Fin cfg0.N) (p : S512x1024.Idx) :
    (iblk m c 1 t : Vec Ideal S512x1024 .bf16) p = ent (inDy m c) (512 * t.val + (p 0).val) (p 1).val := by
  obtain ⟨e0, e1⟩ := blk_rows t.val (p 0).val (p 1).val (index1 t).1 (index1 t).2
  refine Eq.trans ?_ (ent_eq (inDy m c) (((cfg0.win 1).blk t).view.emb p) e0 e1)
  show V m c main_arg1 _ = _
  rw [V_main_arg1 m c]

theorem iblk_3 (t : Fin cfg0.N) (p : S512x1024.Idx) :
    (iblk m c 3 t : Vec Ideal S512x1024 .f32) p = ent (inRes m c) (512 * t.val + (p 0).val) (p 1).val := by
  obtain ⟨e0, e1⟩ := blk_rows t.val (p 0).val (p 1).val (index3 t).1 (index3 t).2
  refine Eq.trans ?_ (ent_eq (inRes m c) (((cfg0.win 3).blk t).view.emb p) e0 e1)
  show V m c main_arg3 _ = _
  rw [V_main_arg3 m c]

theorem iblk_2 (t : Fin cfg0.N) (p : S1x1024.Idx) : (iblk m c 2 t : Vec Ideal S1x1024 .f32) p = line (inG m c) (p 1).val := by
  refine (castRow_apply (inG m c) shapeCasts_S1024_S1x1024 (((cfg0.win 2).blk t).view.emb p)).trans (line_eq _ _ ?_)
  show win0_2.index t 1 * 1024 + 1 * (p 1).val = _
  rw [(index2 t).2]; omega

/-- A block's row of an argument is the argument's row. -/
theorem row_0 (t : Fin cfg0.N) (i k : ℕ) (hi : i < 512) (hk : k < 1024) : ent (iblk m c 0 t : Vec Ideal S512x1024 .f32) i k = ent (inX m c) (512 * t.val + i) k :=
  (ent_eq _ (ix2 ⟨i, hi⟩ ⟨k, hk⟩) rfl rfl).symm.trans (iblk_0 m c t _)
theorem row_1 (t : Fin cfg0.N) (i k : ℕ) (hi : i < 512) (hk : k < 1024) : ent (iblk m c 1 t : Vec Ideal S512x1024 .bf16) i k = ent (inDy m c) (512 * t.val + i) k :=
  (ent_eq _ (ix2 ⟨i, hi⟩ ⟨k, hk⟩) rfl rfl).symm.trans (iblk_1 m c t _)
theorem row_2 (t : Fin cfg0.N) (k : ℕ) (hk : k < 1024) : ent (iblk m c 2 t : Vec Ideal S1x1024 .f32) 0 k = line (inG m c) k :=
  (ent_eq _ (ix2 0 ⟨k, hk⟩) rfl rfl).symm.trans (iblk_2 m c t _)
theorem row_3 (t : Fin cfg0.N) (i k : ℕ) (hi : i < 512) (hk : k < 1024) : ent (iblk m c 3 t : Vec Ideal S512x1024 .f32) i k = ent (inRes m c) (512 * t.val + i) k :=
  (ent_eq _ (ix2 ⟨i, hi⟩ ⟨k, hk⟩) rfl rfl).symm.trans (iblk_3 m c t _)

/-! ## The results -/

/-- The stream's gradient. -/
def outX (i j : ℕ) : EReal := dx (ent (inX m c)) (ent (inDy m c)) (line (inG m c)) (ent (inRes m c)) i j

/-- The gain's gradient over the first `n` rows. -/
def outG (n j : ℕ) : EReal := ∑ i ∈ Finset.range n, dgTerm (ent (inX m c)) (ent (inDy m c)) j i

theorem point_x (t : Fin cfg0.N) (q : S512x1024.Idx) :
    k0_pay1 (F := Ideal) (iblk m c 3 t : Vec Ideal S512x1024 .f32) (k0_pay8 (F := Ideal) (iblk m c 0 t) (iblk m c 1 t) (iblk m c 2 t)) (k0_pay9 (F := Ideal) (iblk m c 0 t)) q
      = outX m c (512 * t.val + (q 0).val) (q 1).val := by
  have h0 : (q 0).val < 512 := (q 0).isLt
  have h1 : (q 1).val < 1024 := (q 1).isLt
  rw [back_tile]
  unfold outX dx
  refine congrArg₂ (· + ·) (row_3 m c t _ _ h0 h1) (back_congr h1 (fun k hk => row_0 m c t _ k h0 hk) fun k hk => ?_)
  beta_reduce
  rw [row_1 m c t _ k h0 hk, row_2 m c t k hk]

theorem point_g (t : Fin cfg0.N) (j : ℕ) (hj : j < 1024) :
    (∑ s ∈ Finset.range 512, dgTerm (ent (iblk m c 0 t : Vec Ideal S512x1024 .f32)) (ent (iblk m c 1 t : Vec Ideal S512x1024 .bf16)) j s)
      = ∑ s ∈ Finset.range 512, dgTerm (ent (inX m c)) (ent (inDy m c)) j (512 * t.val + s) := by
  refine Finset.sum_congr rfl fun s hs => ?_
  have hs' := Finset.mem_range.1 hs
  unfold dgTerm
  rw [row_1 m c t s j hs' hj, row_0 m c t s j hs' hj, scale_congr fun k hk => row_0 m c t s k hs' hk]

theorem outs_x (t : Fin cfg0.N) (q : S512x1024.Idx) : (outsAt0 m c t.val t.isLt).1 q = outX m c (512 * t.val + (q 0).val) (q 1).val := by
  by_cases h : t.val % 32 = 0
  · rw [outsAt0_A m c t h]
    dsimp only
    rw [left_A_4]
    exact point_x m c t q
  · rw [outsAt0_B m c t h]
    dsimp only
    rw [left_B_4]
    exact point_x m c t q

theorem outs_x' (t : Fin cfg0.N) (q : S512x1024.Idx) : (outsAt0 m c t.val t.isLt).2.1 q = outX m c (512 * t.val + (q 0).val) (q 1).val := by
  by_cases h : t.val % 32 = 0
  · rw [outsAt0_A m c t h]
    dsimp only
    rw [left_A_5]
    exact point_x m c t q
  · rw [outsAt0_B m c t h]
    dsimp only
    rw [left_B_5]
    exact point_x m c t q

theorem outs_g : ∀ (n : ℕ) (hn : n < cfg0.N) (q : S1x1024.Idx), (outsAt0 m c n hn).2.2 q = outG m c (512 * (n + 1)) (q 1).val
  | 0, hn, q => by
    have h1 : (q 1).val < 1024 := (q 1).isLt
    rw [outsAt0_A m c ⟨0, hn⟩ rfl]
    dsimp only
    rw [left_A_6, gain_tile, point_g m c _ _ h1, show k0_pay3 (F := Ideal) q = (0 : EReal) from ofBits_zero]
    refine acc_zero _ 512 ?_
    simp only [Nat.mul_zero, Nat.zero_add]
  | n + 1, hn, q => by
    have h1 : (q 1).val < 1024 := (q 1).isLt
    have hN : cfg0.N = 32 := N_0
    have hB : ¬(⟨n + 1, hn⟩ : Fin cfg0.N).val % 32 = 0 := by dsimp only; omega
    rw [outsAt0_B m c ⟨n + 1, hn⟩ hB]
    dsimp only
    rw [left_B_6, gain_tile, point_g m c _ _ h1]
    exact acc_succ _ 512 (n + 1) (outs_g n (Nat.lt_of_succ_lt hn) q) rfl

/-- The result arrays. -/
def resX : S16384x1024.Idx → EReal := fun i => outX m c (i 0).val (i 1).val
def resG : S1x1024.Idx → EReal := fun i => outG m c 16384 (i 1).val

theorem arr4 : ((dats m 0 c).arrAt 4 cfg0.N : Vec Ideal S16384x1024 .f32) = resX m c :=
  (dats m 0 c).arrAt_eq_of_cover 4 (resX m c : Vec Ideal S16384x1024 .f32) (fun t _ => by
      rw [flushed4]
      funext q
      refine (outs_x m c t q).trans ?_
      show outX m c _ _ = outX m c (win0_4.index t 0 * 512 + 1 * (q 0).val) (win0_4.index t 1 * 1024 + 1 * (q 1).val)
      obtain ⟨e0, e1⟩ := blk_rows t.val (q 0).val (q 1).val (index4 t).1 (index4 t).2
      rw [e0, e1]) fun i => by
    have hN : cfg0.N = 32 := N_0
    have h0 : (i 0 : Nat) < 16384 := (i 0).isLt
    have h1 : (i 1 : Nat) < 1024 := (i 1).isLt
    let t : Fin cfg0.N := ⟨(i 0).val / 512, by omega⟩
    refine ⟨t, flush0_4 t, ?_⟩
    show i ∈ ((View.whole main_v1_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; show (i 0).val / 512 * 512 ≤ (i 0 : Nat) ∧ (i 0 : Nat) < (i 0).val / 512 * 512 + 512; omega
    | ⟨1, _⟩ =>
      show win0_4.index t 1 * 1024 ≤ (i 1 : Nat) ∧ (i 1 : Nat) < win0_4.index t 1 * 1024 + 1024
      rw [(index4 t).2]; omega

theorem arr5 : ((dats m 0 c).arrAt 5 cfg0.N : Vec Ideal S16384x1024 .bf16) = resX m c :=
  (dats m 0 c).arrAt_eq_of_cover 5 (resX m c : Vec Ideal S16384x1024 .bf16) (fun t _ => by
      rw [flushed5]
      funext q
      refine (outs_x' m c t q).trans ?_
      show outX m c _ _ = outX m c (win0_5.index t 0 * 512 + 1 * (q 0).val) (win0_5.index t 1 * 1024 + 1 * (q 1).val)
      obtain ⟨e0, e1⟩ := blk_rows t.val (q 0).val (q 1).val (index5 t).1 (index5 t).2
      rw [e0, e1]) fun i => by
    have hN : cfg0.N = 32 := N_0
    have h0 : (i 0 : Nat) < 16384 := (i 0).isLt
    have h1 : (i 1 : Nat) < 1024 := (i 1).isLt
    let t : Fin cfg0.N := ⟨(i 0).val / 512, by omega⟩
    refine ⟨t, flush0_5 t, ?_⟩
    show i ∈ ((View.whole main_v1_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; show (i 0).val / 512 * 512 ≤ (i 0 : Nat) ∧ (i 0 : Nat) < (i 0).val / 512 * 512 + 512; omega
    | ⟨1, _⟩ =>
      show win0_5.index t 1 * 1024 ≤ (i 1 : Nat) ∧ (i 1 : Nat) < win0_5.index t 1 * 1024 + 1024
      rw [(index5 t).2]; omega

theorem arr6 : ((dats m 0 c).arrAt 6 cfg0.N : Vec Ideal S1x1024 .f32) = resG m c :=
  (dats m 0 c).arrAt_eq_of_cover 6 (resG m c : Vec Ideal S1x1024 .f32) (fun t hf => by
      have hN : cfg0.N = 32 := N_0
      have ht : 512 * (t.val + 1) = 16384 := by
        have := (flush0_6 t).mp hf
        have := t.isLt
        omega
      rw [flushed6]
      refine Eq.trans ?_ (Memref.read_access_unit_zero (Elt Ideal) main_v1_2 (funext fun a => by fin_cases a <;> rfl) (fun a => by fin_cases a <;> exact Nat.le_refl _) (resG m c : Vec Ideal S1x1024 .f32)).symm
      funext q
      refine (outs_g m c t.val t.isLt q).trans ?_
      rw [ht]
      rfl) fun i => by
    have hN : cfg0.N = 32 := N_0
    have hl : 31 < cfg0.N := by omega
    refine ⟨⟨31, hl⟩, (flush0_6 ⟨31, hl⟩).mpr rfl, ?_⟩
    show i ∈ ((View.whole main_v1_2).slice (win0_6.rect ⟨31, hl⟩)).set
    rw [View.set_slice_whole, Rect.mem_set_unit]
    intro a
    match a with
    | ⟨0, _⟩ => show 0 * 1 ≤ (i 0 : Nat) ∧ (i 0 : Nat) < 0 * 1 + 1; have h0 : (i 0 : Nat) < 1 := (i 0).isLt; omega
    | ⟨1, _⟩ => show 0 * 1024 ≤ (i 1 : Nat) ∧ (i 1 : Nat) < 0 * 1024 + 1024; have h1 : (i 1 : Nat) < 1024 := (i 1).isLt; omega

end

end Cert.NormIdeal.Rows

/-! ## The reference -/

namespace Cert.NormRefIdeal.Rows

open Cert.NormRefIdeal Cert.NormRefIdeal.Gen Cert.NormRefIdeal.Read Cert.Products Cert.Norms
open Idealize.ShloMosaic Idealize.ShloMosaic.TcCoe Idealize.ShloMosaic.ValueIdx
open scoped BigOperators

variable (x : (⟨S16384x1024, .f32⟩ : BufTy).Contents (Elt Ideal)) (dy : (⟨S16384x1024, .bf16⟩ : BufTy).Contents (Elt Ideal))
  (g : (⟨S1024, .f32⟩ : BufTy).Contents (Elt Ideal)) (r : (⟨S16384x1024, .f32⟩ : BufTy).Contents (Elt Ideal))

theorem square_eq (i : S16384x1.Idx) : val_main_v6 (F := Ideal) x i = square (ent x (i 0).val) := by
  rw [val_main_v6_apply, val_main_v4_apply, val_main_v5_apply, val_main_v3_apply, val_main_v2_apply, val_main_v1_apply]
  unfold square
  refine congrArg (fun s => Ideal.div s _ + _) ?_
  show Ideal.ofBits .f32 0x00000000#32 + _ = _
  rw [ofBits_zero, zero_add, Finset.sum_range]
  exact Finset.sum_congr rfl fun k _ => congrArg₂ (· * ·) (ent_eq x _ rfl rfl) (ent_eq x _ rfl rfl)

theorem scale_eq' (i : S16384x1.Idx) : val_main_v7 (F := Ideal) x i = scale (ent x (i 0).val) := by
  rw [val_main_v7_apply, square_eq]
  rfl

theorem grad_eq (i : S16384x1024.Idx) : val_main_v21 (F := Ideal) dy g i = ent dy (i 0).val (i 1).val * line g (i 1).val := by
  rw [val_main_v21_apply, val_main_v20_apply, val_main_v16_apply, val_main_v13_apply]
  exact congrArg₂ (· * ·) (ent_eq dy i rfl rfl) (line_eq g _ rfl)

theorem through_eq (i : S16384.Idx) :
    val_main_v31 (F := Ideal) x dy g i = through (ent x (i 0).val) (fun k => ent dy (i 0).val k * line g k) := by
  rw [val_main_v31_apply]
  show Ideal.ofBits .f32 0x00000000#32 + _ = _
  rw [ofBits_zero, zero_add, Fin.sum_univ_one, val_main_v30_apply, val_main_v28_apply, val_main_v29_apply, val_main_v10_apply, val_main_v9_apply,
    val_main_v8_apply, val_main_v25_apply, val_main_v24_apply, scale_eq', square_eq]
  unfold through
  refine congrArg (fun s => Ideal.div (s * _) _) ?_
  show Ideal.ofBits .f32 0x00000000#32 + _ = _
  rw [ofBits_zero, zero_add, Finset.sum_range]
  refine Finset.sum_congr rfl fun k _ => ?_
  have hi : idx_main_v25 (idx_main_v31 i 0) = i := funext fun a => match a with
    | ⟨0, _⟩ => Fin.ext (by show (i 0).val * 1 + 0 = (i 0).val; omega)
  rw [val_main_v23_apply, grad_eq, hi]
  exact congrArg₂ (· * ·) (ent_eq x _ rfl rfl) rfl

theorem back_eq' (i : S16384x1024.Idx) : val_main_v37 (F := Ideal) x dy g r i = dx (ent x) (ent dy) (line g) (ent r) (i 0).val (i 1).val := by
  rw [val_main_v37_apply, val_main_v36_apply, val_main_v34_apply, val_main_v35_apply, val_main_v33_apply, val_main_v27_apply, val_main_v32_apply,
    val_main_v26_apply, grad_eq, through_eq, scale_eq']
  unfold dx
  refine congrArg₂ (· + ·) (ent_eq r i rfl rfl) ?_
  rw [← back_eq, ent_eq x i rfl rfl]
  rfl

theorem backNarrow_eq (i : S16384x1024.Idx) : val_main_v39 (F := Ideal) x dy g r i = dx (ent x) (ent dy) (line g) (ent r) (i 0).val (i 1).val :=
  back_eq' x dy g r i

theorem gain_eq (i : S1x1024.Idx) : val_main_v40 (F := Ideal) x dy i = ∑ s ∈ Finset.range 16384, dgTerm (ent x) (ent dy) (i 1).val s := by
  rw [val_main_v40_apply, val_main_v22_apply]
  show Ideal.ofBits .f32 0x00000000#32 + _ = _
  rw [ofBits_zero, zero_add, Fin.sum_univ_one, val_main_v19_apply, val_main_v18_apply]
  show Ideal.ofBits .f32 0x00000000#32 + _ = _
  rw [ofBits_zero, zero_add, Finset.sum_range]
  refine Finset.sum_congr rfl fun k _ => ?_
  rw [val_main_v17_apply, val_main_v12_apply, val_main_v11_apply, val_main_v16_apply, scale_eq']
  unfold dgTerm
  refine (mul_comm _ _).trans (congrArg₂ (· * ·) (ent_eq dy _ rfl ?_) (congrArg₂ (· * ·) (ent_eq x _ rfl ?_) rfl))
  all_goals
    show 0 * 1024 + (i 1).val = (i 1).val
    omega

end Cert.NormRefIdeal.Rows

end
-- ==== Proof.NormCalls.lean ====
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.NormValue
public import Idealize.ShloMosaic.Adequacy

@[expose] public section

/-! The claims of the norms' backward calls: kernel and reference end with the same three arrays, the stream's gradient in its two
    widths and the gain's. -/

set_option maxRecDepth 16384

noncomputable section

namespace Cert.Calls

open Cert.Products Cert.Norms
open Idealize.ShloMosaic Idealize.ShloMosaic.TcCoe Idealize.SL.Sem Idealize.ShloMosaic.StableHlo
open scoped BigOperators

theorem frame_Norm : Cert.quiescent_NormRefIdeal := fun m ρ _ =>
  (θ_run Cert.NormRefIdeal.defs _ _).mono (fun r h => ⟨fun c => (h c).2.2.2, sem_eq_zero_of_no_sems (by decide) r.2⟩)
    (Cert.NormRefIdeal.Value.run (F := Ideal) m ρ)

theorem algebraic_Norm : Cert.algebraic_NormIdeal_NormRefIdeal := by
  intro m g m' g' _ hagree
  refine ⟨fun c => Cert.NormIdeal.Rows.resX m c, fun c => Cert.NormIdeal.Rows.resX m c, fun c => Cert.NormIdeal.Rows.resG m c, ?_, ?_⟩
  · refine (θ_run Cert.NormIdeal.defs _ _).mono (fun r h c => ?_) (Cert.NormIdeal.Value.run_blocks (F := Ideal) m g)
    exact ⟨(h c).1.trans (Cert.NormIdeal.Rows.arr4 m c), (h c).2.1.trans (Cert.NormIdeal.Rows.arr5 m c),
      (h c).2.2.1.trans (Cert.NormIdeal.Rows.arr6 m c), (h c).2.2.2⟩
  refine (θ_run Cert.NormRefIdeal.defs _ _).mono (fun r h c => ?_) (Cert.NormRefIdeal.Value.run (F := Ideal) m' g')
  obtain ⟨a0, a1, a2, a3⟩ := hagree c
  refine ⟨((h c).1.trans (Cert.NormRefIdeal.Read.val_main_v37_eq m' c)).trans (funext fun i => ?_),
    ((h c).2.1.trans (Cert.NormRefIdeal.Read.val_main_v39_eq m' c)).trans (funext fun i => ?_),
    ((h c).2.2.1.trans (Cert.NormRefIdeal.Read.val_main_v40_eq _ _)).trans (funext fun i => ?_), (h c).2.2.2⟩
  · rw [a0, a1, a2, a3]
    exact Cert.NormRefIdeal.Rows.back_eq' _ _ _ _ i
  · rw [a0, a1, a2, a3]
    exact Cert.NormRefIdeal.Rows.backNarrow_eq _ _ _ _ i
  · rw [a0, a1]
    exact Cert.NormRefIdeal.Rows.gain_eq _ _ i

end Cert.Calls

end
-- ==== Proof.ConvMath.lean ====
module

public import proofs.«01_k».proof.Proof.Norms
public import proofs.«01_k».proof.Proof.Spec
public import Idealize.ShloMosaic.Lib.KernelVsHost

@[expose] public section

/-! The feed-forward's gate and its causal convolution, backwards: the gate's gradient entry by entry, rows read ahead of a block,
    rows shifted by a pad, and the convolution's gradient as sums over the rows. The sums ask nothing of the entries; the gate's
    gradient asks that its three arguments are real numbers, since the reference and the kernel group its terms differently. -/

noncomputable section

namespace Cert.Conv

open Cert.Products Cert.Norms Cert.Lift
open Idealize.ShloMosaic Idealize.ShloMosaic.ValueIdx
open scoped BigOperators

/-! ## The gate's gradient at one entry -/

/-- The activation and its derivative as the kernel computes them. -/
def thE (x : EReal) : EReal := Ideal.tanh (Ideal.ofBits .f32 0x3F4C422A#32 * (x + ((8943 / 200000 : ℝ) : EReal) * (x * x) * x))
def geluE (x : EReal) : EReal := Ideal.ofBits .f32 0x3F000000#32 * x * (Ideal.ofBits .f32 0x3F800000#32 + thE x)
def geluDE (x : EReal) : EReal :=
  Ideal.ofBits .f32 0x3F000000#32 * (Ideal.ofBits .f32 0x3F800000#32 + thE x)
    + Ideal.ofBits .f32 0x3F000000#32 * x * (Ideal.ofBits .f32 0x3F800000#32 - thE x * thE x)
      * (Ideal.ofBits .f32 0x3F4C422A#32 * (Ideal.ofBits .f32 0x3F800000#32 + ((26829 / 200000 : ℝ) : EReal) * (x * x)))

/-- The gradient towards the gate's activated half and towards the other half. -/
def dG (g u d : EReal) : EReal := d * u * geluDE g
def dU (g d : EReal) : EReal := d * geluE g

theorem dG_zero (g u : EReal) : dG g u 0 = 0 := by unfold dG; rw [zero_mul, zero_mul]
theorem dU_zero (g : EReal) : dU g 0 = 0 := by unfold dU; rw [zero_mul]

/-- The same as the reference computes them. -/
def refT (x : EReal) : EReal :=
  Ideal.tanh (Ideal.ofBits .f32 0x3F4C422A#32 * (x + Ideal.div (x * x * x * Ideal.ofBits .f32 0x472EAB00#32) (Ideal.ofBits .f32 0x49742400#32)))
def refCdf (x : EReal) : EReal := Ideal.ofBits .f32 0x3F000000#32 * (Ideal.ofBits .f32 0x3F800000#32 + refT x)
def refIn (g u d : EReal) : EReal :=
  Ideal.ofBits .f32 0x3F4C422A#32 * (Ideal.ofBits .f32 0x3F000000#32 * (g * (d * u))
    * ((Ideal.ofBits .f32 0x3F800000#32 + refT g) * (Ideal.ofBits .f32 0x3F800000#32 - refT g)))
def refG (g u d : EReal) : EReal :=
  d * u * refCdf g + refIn g u d
    + Ideal.div (refIn g u d) (Ideal.ofBits .f32 0x49742400#32) * Ideal.ofBits .f32 0x472EAB00#32 * (Ideal.ofBits .f32 0x40400000#32 * (g * g))
def refU (g d : EReal) : EReal := g * refCdf g * d

theorem tanh_coe (x : ℝ) : Ideal.tanh ((x : ℝ) : EReal) = ((Real.tanh x : ℝ) : EReal) := rfl

theorem thE_real (x : ℝ) : thE x = ((Spec.th x : ℝ) : EReal) := by
  unfold thE Spec.th
  rw [bits_C]
  simp only [← EReal.coe_mul, ← EReal.coe_add, tanh_coe]

theorem refT_real (x : ℝ) : refT x = ((Spec.th x : ℝ) : EReal) := by
  unfold refT Spec.th
  rw [bits_C, bits_44715, bits_million]
  simp only [← EReal.coe_mul]
  rw [Ideal.div_coe (by norm_num)]
  simp only [← EReal.coe_mul, ← EReal.coe_add, tanh_coe]
  refine congrArg (fun y : ℝ => ((Real.tanh y : ℝ) : EReal)) ?_
  ring

theorem refG_real (g u d : ℝ) : refG g u d = dG g u d := by
  unfold refG dG refCdf refIn geluDE
  rw [refT_real, thE_real, bits_C, bits_44715, bits_million, bits_half, bits_one, bits_3]
  simp only [← EReal.coe_mul, ← EReal.coe_add, ← EReal.coe_sub]
  rw [Ideal.div_coe (by norm_num)]
  simp only [← EReal.coe_mul, ← EReal.coe_add]
  refine congrArg (fun y : ℝ => (y : EReal)) ?_
  ring

/-! An infinite gate asks nothing more: the hyperbolic tangent is then 1 or -1, and every further term of the derivative is zero. -/

theorem cC_pos : (0 : ℝ) < cC := by unfold cC; norm_num

theorem thE_top : thE ⊤ = 1 := by
  unfold thE
  rw [bits_C, EReal.top_mul_top, EReal.coe_mul_top_of_pos (by norm_num), EReal.top_mul_top, EReal.top_add_top, EReal.coe_mul_top_of_pos cC_pos]
  rfl

theorem thE_bot : thE ⊥ = -1 := by
  unfold thE
  rw [bits_C, EReal.bot_mul_bot, EReal.coe_mul_top_of_pos (by norm_num), EReal.top_mul_bot, EReal.bot_add, EReal.coe_mul_bot_of_pos cC_pos]
  rfl

theorem refT_top : refT ⊤ = 1 := by
  unfold refT
  rw [bits_C, bits_44715, bits_million, Ideal.div_coe (by norm_num), EReal.top_mul_top, EReal.top_mul_top, EReal.top_mul_coe_of_pos (by norm_num),
    EReal.top_mul_coe_of_pos (by norm_num), EReal.top_add_top, EReal.coe_mul_top_of_pos cC_pos]
  rfl

theorem refT_bot : refT ⊥ = -1 := by
  unfold refT
  rw [bits_C, bits_44715, bits_million, Ideal.div_coe (by norm_num), EReal.bot_mul_bot, EReal.top_mul_bot, EReal.bot_mul_coe_of_pos (by norm_num),
    EReal.bot_mul_coe_of_pos (by norm_num), EReal.bot_add, EReal.coe_mul_bot_of_pos cC_pos]
  rfl

theorem refT_eq (g : EReal) : refT g = thE g := by
  induction g using EReal.rec with
  | bot => rw [refT_bot, thE_bot]
  | top => rw [refT_top, thE_top]
  | coe g => rw [refT_real, thE_real]

theorem one_sub_one : (1 : EReal) - 1 = 0 := by
  rw [← EReal.coe_one, ← EReal.coe_sub, sub_self, EReal.coe_zero]

theorem one_add_neg_one : (1 : EReal) + -1 = 0 := one_sub_one

/-- Where the tangent is 1 or -1, both groupings leave its own term alone. -/
theorem refG_flat (g u d : EReal) (h : (1 + thE g) * (1 - thE g) = 0) (h' : 1 - thE g * thE g = 0) : refG g u d = dG g u d := by
  have one : Ideal.ofBits .f32 0x3F800000#32 = (1 : EReal) := bits_one
  have e : refIn g u d = 0 := by
    unfold refIn
    rw [refT_eq, one, h, mul_zero, mul_zero]
  unfold refG dG geluDE refCdf
  rw [e, one, h', refT_eq, bits_million, Ideal.div_coe (by norm_num), mul_zero, zero_mul, zero_mul, zero_mul, zero_mul, add_zero, add_zero, add_zero]

/-- The two groupings agree at any gate; the other half and the gradient are real numbers. -/
theorem refG_eq (g : EReal) (u d : ℝ) : refG g u d = dG g u d := by
  induction g using EReal.rec with
  | bot =>
    refine refG_flat _ _ _ ?_ ?_
    · rw [thE_bot, one_add_neg_one, zero_mul]
    · rw [thE_bot, neg_mul_neg, one_mul, one_sub_one]
  | top =>
    refine refG_flat _ _ _ ?_ ?_
    · rw [thE_top, one_sub_one, mul_zero]
    · rw [thE_top, one_mul, one_sub_one]
  | coe g => exact refG_real g u d

theorem refU_eq (g d : EReal) : refU g d = dU g d := by
  unfold refU dU refCdf geluE
  rw [refT_eq, mul_comm, mul_left_comm g, mul_assoc]

/-! ## Rows one below the other, rotated, padded -/

/-- Two matrices one below the other, `w` rows in the first. -/
def below (w : ℕ) (f g : ℕ → ℕ → EReal) (i j : ℕ) : EReal := if i < w then f i j else g (i - w) j

theorem concatRows {m₁ m₂ m n : ℕ} (x : (⟨2, ![m₁, n]⟩ : Shape).Idx → EReal) (y : (⟨2, ![m₂, n]⟩ : Shape).Idx → EReal)
    (h : Shape.Concatenates [(⟨2, ![m₁, n]⟩ : Shape), ⟨2, ![m₂, n]⟩] ⟨2, ![m, n]⟩ 0) (hm : m = m₁ + m₂) (i : (⟨2, ![m, n]⟩ : Shape).Idx) :
    concatenate (⟨2, ![m, n]⟩ : Shape) 0 [⟨⟨2, ![m₁, n]⟩, x⟩, ⟨⟨2, ![m₂, n]⟩, y⟩] h i = below m₁ (ent x) (ent y) (i 0).val (i 1).val := by
  have h0 : (i 0).val < m := (i 0).isLt
  unfold below
  by_cases hj : (i 0).val < m₁
  · rw [if_pos hj]
    refine (concatenate_pair_apply_left 0 _ _ h i rfl (ix2 ⟨(i 0).val, hj⟩ (i 1)) fun b => ?_).trans (ent_eq x _ rfl rfl)
    match b with
    | ⟨0, _⟩ => rfl
    | ⟨1, _⟩ => rfl
  · rw [if_neg hj]
    have hj' : (i 0).val - m₁ < m₂ := by omega
    refine (concatenate_pair_apply_right 0 _ _ h i rfl rfl (ix2 ⟨(i 0).val - m₁, hj'⟩ (i 1)) (fun b hb => ?_) ?_).trans (ent_eq y _ rfl rfl)
    · match b, hb with
      | ⟨0, _⟩, hb => exact absurd rfl hb
      | ⟨1, _⟩, _ => rfl
    · exact Nat.sub_add_cancel (Nat.le_of_not_lt hj)

/-- A rotation of `m` rows by `m - k`: the row `k` further down. -/
theorem rotRows {m n : ℕ} (k : ℕ) (sb : BitVec 32) (hsb : sb.toNat = m - k) (hk : 0 < k) (x : (⟨2, ![m, n]⟩ : Shape).Idx → EReal)
    (h : (⟨2, ![m, n]⟩ : Shape).Rotates 0 none) (j : (⟨2, ![m, n]⟩ : Shape).Idx) (hj : (j 0).val + k < m) :
    dynamicRotate 0 sb none x h j = ent x ((j 0).val + k) (j 1).val := by
  refine (dynamicRotate_apply 0 sb x h j (ix2 ⟨(j 0).val + k, hj⟩ (j 1)) fun b => ?_).trans (ent_eq x _ rfl rfl)
  match b with
  | ⟨0, _⟩ =>
    show (j 0).val + k = if (0 : Fin 2) = 0 then ((j 0).val + m - sb.toNat % m) % m else (j 0).val
    rw [if_pos rfl, hsb, Nat.mod_eq_of_lt (by omega : m - k < m), show (j 0).val + m - (m - k) = (j 0).val + k by omega, Nat.mod_eq_of_lt hj]
  | ⟨1, _⟩ => rfl

/-- Rows of zeros above and below a matrix. -/
theorem padRows {m n M : ℕ} (a b : ℕ) (x : (⟨2, ![m, n]⟩ : Shape).Idx → EReal) {u : Shape} (v : u.Idx → EReal) (hv : ∀ z, v z = 0)
    (h : (⟨2, ![m, n]⟩ : Shape).Pads ![a, 0] ![b, 0] ![0, 0] ⟨2, ![M, n]⟩) (hu : 0 < u.numel) (j : (⟨2, ![M, n]⟩ : Shape).Idx) :
    pad (⟨2, ![M, n]⟩ : Shape) ![a, 0] ![b, 0] ![0, 0] x v h hu j = if a ≤ (j 0).val then ent x ((j 0).val - a) (j 1).val else 0 := by
  have h1 : (j 1).val < n := (j 1).isLt
  by_cases ha : a ≤ (j 0).val
  · rw [if_pos ha]
    by_cases hm : (j 0).val - a < m
    · refine (pad_apply_of_inside _ _ _ x v h hu j (ix2 ⟨(j 0).val - a, hm⟩ (j 1)) fun c => ?_).trans (ent_eq x _ rfl rfl)
      match c with
      | ⟨0, _⟩ => show (j 0).val = a + ((j 0).val - a) * (0 + 1); omega
      | ⟨1, _⟩ => show (j 1).val = 0 + (j 1).val * (0 + 1); omega
    · refine (pad_apply_of_not_inside _ _ _ x v h hu j 0 fun hin => hm ?_).trans ?_
      · have := hin.2.2
        have e : ((j 0).val - a) / (0 + 1) < m := this
        rwa [Nat.zero_add, Nat.div_one] at e
      · rw [hv]
        unfold ent
        rw [dif_neg fun hc => hm hc.1]
  · rw [if_neg ha]
    exact (pad_apply_of_not_inside _ _ _ x v h hu j 0 fun hin => ha hin.1).trans (hv _)

/-- The sum of a block's columns, as a row. -/
theorem colSums {m n : ℕ} (x : FVec Ideal ⟨2, ![m, n]⟩ .f32) (hr : (⟨2, ![m, n]⟩ : Shape).Reduces [0] ⟨1, ![n]⟩)
    (hc : (⟨1, ![n]⟩ : Shape).ShapeCasts ⟨2, ![1, n]⟩) (q : (⟨2, ![1, n]⟩ : Shape).Idx) (f : ℕ → EReal)
    (hf : ∀ p : (⟨2, ![m, n]⟩ : Shape).Idx, (p 1).val = (q 1).val → x p = f (p 0).val) :
    shapeCast ⟨2, ![1, n]⟩ (multiReduction (F := Ideal) .add [0] ⟨1, ![n]⟩ x 0x00000000#32 hr (.inl rfl) rfl) hc q
      = ∑ s ∈ Finset.range m, f s := by
  have e0 : (q 0).val < 1 := (q 0).isLt
  refine (shapeCast_apply _ hc q (ix1 (q 1)) ?_).trans ?_
  · rw [Shape.rowMajor_val_one, Shape.rowMajor_val_two]
    show (q 1).val = (q 0).val * n + (q 1).val
    rw [show (q 0).val = 0 by omega]; omega
  refine (Ideal.multiReduction_add_single _ _ _ _ _ _).trans ?_
  rw [Finset.sum_range]
  exact Finset.sum_congr rfl fun k _ => hf _ rfl

/-! ## The convolution's gradient -/

/-- A matrix's rows, zero from row `T` on. -/
def cut (T : ℕ) (f : ℕ → ℕ → EReal) (i j : ℕ) : EReal := if i < T then f i j else 0

/-- The gradient towards the convolution's input: `D` the gradient of its output, `w` its three rows of weights. -/
def dz (w D : ℕ → ℕ → EReal) (i j : ℕ) : EReal := w 2 j * D i j + w 1 j * D (i + 1) j + w 0 j * D (i + 2) j

/-- A row's share of the weights' gradient. -/
def dwTerm (D z : ℕ → ℕ → EReal) (k j i : ℕ) : EReal := D (i + (2 - k)) j * z i j

/-- A sum of products with rows read `s` above is one with rows read `s` below. -/
theorem shift_sum (T s : ℕ) (f g : ℕ → EReal) (hs : s ≤ T) (hf : ∀ i, T ≤ i → f i = 0) :
    (∑ i ∈ Finset.range T, f i * (if s ≤ i then g (i - s) else 0)) = ∑ i ∈ Finset.range T, f (i + s) * g i := by
  obtain ⟨n, rfl⟩ : ∃ n, T = s + n := ⟨T - s, by omega⟩
  rw [Finset.sum_range_add]
  have h0 : (∑ i ∈ Finset.range s, f i * (if s ≤ i then g (i - s) else 0)) = 0 := by
    refine Finset.sum_eq_zero fun i hi => ?_
    have := Finset.mem_range.1 hi
    rw [if_neg (by omega), mul_zero]
  have h1 : (∑ i ∈ Finset.range n, f (s + i) * (if s ≤ s + i then g (s + i - s) else 0)) = ∑ i ∈ Finset.range n, f (i + s) * g i := by
    refine Finset.sum_congr rfl fun i _ => ?_
    rw [if_pos (Nat.le_add_right _ _), Nat.add_sub_cancel_left, Nat.add_comm]
  rw [h0, h1, zero_add, Nat.add_comm s n, Finset.sum_range_add]
  have h2 : (∑ i ∈ Finset.range s, f (n + i + s) * g (n + i)) = 0 := by
    refine Finset.sum_eq_zero fun i _ => ?_
    rw [hf _ (by omega), zero_mul]
  rw [h2, add_zero]

end Cert.Conv

end
-- ==== Proof.ConvGluTile.lean ====
module

public import proofs.«01_k».proof.Proof.ConvMath
public import proofs.«01_k».proof.Proof.Gen.ConvGluIdeal.Skeleton

@[expose] public section

/-! The gate and the convolution backwards, one block: what each stored value is, entry by entry, of the block read together with the
    eight rows below it. -/

set_option maxRecDepth 16384

noncomputable section

namespace Cert.ConvGluIdeal.Rows

open Cert.ConvGluIdeal Cert.ConvGluIdeal.Gen Cert.Products Cert.Norms Cert.Conv
open Idealize.ShloMosaic Idealize.ShloMosaic.TcCoe Idealize.ShloMosaic.ValueIdx
open scoped BigOperators

theorem cubic_eq : Named.named (F := Ideal) (φ := .f32) Cert.ConvGluIdeal.κ "cubic" 0x3D372713#32 = ((8943 / 200000 : ℝ) : EReal) :=
  IdealRules.named_const.ideal_named_scalar _ _ _ _ rfl
theorem cubic3_eq : Named.named (F := Ideal) (φ := .f32) Cert.ConvGluIdeal.κ "cubic3" 0x3E095D4F#32 = ((26829 / 200000 : ℝ) : EReal) :=
  IdealRules.named_const.ideal_named_scalar _ _ _ _ rfl

/-! ## The gradient towards the convolved halves -/

section
variable (i : grid0.Coords) (g : Vec Ideal S1024x256 .bf16) (gn : Vec Ideal S16x256 .bf16) (u : Vec Ideal S1024x256 .bf16)
  (un : Vec Ideal S16x256 .bf16) (d : Vec Ideal S1024x256 .f32) (dn : Vec Ideal S8x256 .f32)

/-- The gradient towards the activated half, over the block and the eight rows below it. -/
def tileG : FVec Ideal S1032x256 .f32 :=
  k0_pay13 (F := Ideal) (k0_pay6 (F := Ideal) g gn) (k0_pay7 (F := Ideal) u un) (k0_pay8 (F := Ideal) i d dn) (k0_pay9 (F := Ideal) g gn)
    (k0_pay10 (F := Ideal) g gn) (k0_pay12 (F := Ideal) g gn)

/-- The gradient towards the other half. -/
def tileU : FVec Ideal S1032x256 .f32 := k0_pay14 (F := Ideal) (k0_pay8 (F := Ideal) i d dn) (k0_pay11 (F := Ideal) g gn)

theorem top_eight (x : Vec Ideal S16x256 .bf16) (a b : ℕ) (ha : a < 8) (hb : b < 256) :
    ent (extractStridedSlice S8x256 ![0, 0] (extf .f32 x bitsLt_bf16_f32 : FVec Ideal S16x256 .f32) slices_S16x256_o0_0_S8x256) a b = ent x a b := by
  rw [← ent_eq _ (ix2 ⟨a, ha⟩ ⟨b, hb⟩ : S8x256.Idx) rfl rfl]
  exact ent_eq x _ (by show 0 + a = a; omega) (by show 0 + b = b; omega)

theorem ext_half (x : Vec Ideal S1024x256 .bf16) (xn : Vec Ideal S16x256 .bf16) (p : S1032x256.Idx) :
    k0_pay6 (F := Ideal) x xn p = below 1024 (ent x) (ent xn) (p 0).val (p 1).val := by
  have h0 : (p 0).val < 1032 := (p 0).isLt
  have h1 : (p 1).val < 256 := (p 1).isLt
  unfold k0_pay6
  refine (concatRows (m₁ := 1024) (m₂ := 8) (m := 1032) (n := 256) _ _ _ rfl p).trans ?_
  unfold below
  by_cases h : (p 0).val < 1024
  · rw [if_pos h, if_pos h]; rfl
  · rw [if_neg h, if_neg h]
    exact top_eight xn _ _ (by omega) h1

theorem ext_grad (p : S1032x256.Idx) :
    k0_pay8 (F := Ideal) i d dn p = below 1024 (ent d) (fun a b => if (i 1).val = 15 then 0 else ent dn a b) (p 0).val (p 1).val := by
  have h0 : (p 0).val < 1032 := (p 0).isLt
  have h1 : (p 1).val < 256 := (p 1).isLt
  have hi : (i 1).val < 16 := (i 1).isLt
  unfold k0_pay8
  refine (concatRows (m₁ := 1024) (m₂ := 8) (m := 1032) (n := 256) _ _ _ rfl p).trans ?_
  unfold below
  by_cases h : (p 0).val < 1024
  · rw [if_pos h, if_pos h]
  · rw [if_neg h, if_neg h]
    beta_reduce
    by_cases h15 : (i 1).val = 15
    · rw [if_pos h15, h15]
      refine (ent_eq _ (ix2 ⟨(p 0).val - 1024, by omega⟩ ⟨(p 1).val, h1⟩ : S8x256.Idx) rfl rfl).symm.trans ?_
      exact ofBits_zero
    · have hc : ¬(Scalar.cmpi .eq (BitVec.ofNat 32 (i 1).val) 15#32 = 1) := fun e => h15 (by
        have hb : BitVec.ofNat 32 (i 1).val = 15#32 := by
          by_contra hne
          have : Scalar.cmpi .eq (BitVec.ofNat 32 (i 1).val) 15#32 = 0#1 := by
            show BitVec.ofBool (BitVec.ofNat 32 (i 1).val == 15#32) = 0#1
            rw [beq_eq_false_iff_ne.mpr hne]
            rfl
          rw [this] at e
          exact absurd e (by decide)
        have := congrArg BitVec.toNat hb
        rw [BitVec.toNat_ofNat, Nat.mod_eq_of_lt (by omega)] at this
        exact this)
      rw [if_neg h15]
      dsimp only
      unfold Scalar.select
      rw [if_neg hc]

theorem tileG_eq (p : S1032x256.Idx) :
    tileG i g gn u un d dn p = dG (below 1024 (ent g) (ent gn) (p 0).val (p 1).val) (below 1024 (ent u) (ent un) (p 0).val (p 1).val)
      (below 1024 (ent d) (fun a b => if (i 1).val = 15 then 0 else ent dn a b) (p 0).val (p 1).val) := by
  rw [← ext_half g gn p, ← ext_half u un p, ← ext_grad i d dn p]
  unfold dG geluDE thE
  rw [← cubic_eq, ← cubic3_eq]
  rfl

theorem tileU_eq (p : S1032x256.Idx) :
    tileU i g gn d dn p = dU (below 1024 (ent g) (ent gn) (p 0).val (p 1).val)
      (below 1024 (ent d) (fun a b => if (i 1).val = 15 then 0 else ent dn a b) (p 0).val (p 1).val) := by
  rw [← ext_half g gn p, ← ext_grad i d dn p]
  unfold dU geluE thE
  rw [← cubic_eq]
  rfl
end

/-! ## The convolution's input, weights and bias, of either half -/

section
variable (D : FVec Ideal S1032x256 .f32) (z : Vec Ideal S1024x256 .bf16)

theorem rot1_ent (a b : ℕ) (ha : a < 1024) (hb : b < 256) : ent (k0_pay25 (F := Ideal) D) a b = ent D (a + 1) b := by
  rw [← ent_eq _ (ix2 ⟨a, by omega⟩ ⟨b, hb⟩ : S1032x256.Idx) rfl rfl]
  exact rotRows 1 1031#32 rfl (by omega) D rotates_S1032x256_d0 _ (by show a + 1 < 1032; omega)

theorem rot2_ent (a b : ℕ) (ha : a < 1024) (hb : b < 256) : ent (k0_pay26 (F := Ideal) D) a b = ent D (a + 2) b := by
  rw [← ent_eq _ (ix2 ⟨a, by omega⟩ ⟨b, hb⟩ : S1032x256.Idx) rfl rfl]
  exact rotRows 2 1030#32 rfl (by omega) D rotates_S1032x256_d0 _ (by show a + 2 < 1032; omega)

theorem head_ent (x : FVec Ideal S1032x256 .f32) (p : S1024x256.Idx) :
    extractStridedSlice S1024x256 ![0, 0] x slices_S1032x256_o0_0_S1024x256 p = ent x (p 0).val (p 1).val :=
  ent_eq x _ (by show 0 + (p 0).val = (p 0).val; omega) (by show 0 + (p 1).val = (p 1).val; omega)

/-- The block's three products, before the rows below it are dropped. -/
def mixed (r0 r1 r2 : Vec Ideal S1x256 .f32) : FVec Ideal S1032x256 .f32 :=
  addf (F := Ideal) (φ := .f32)
    (addf (F := Ideal) (φ := .f32) (k0_pay27 (F := Ideal) D r2) (mulf (F := Ideal) (φ := .f32) (broadcastTo S1032x256 r1 broadcasts_S1x256_S1032x256) (k0_pay25 (F := Ideal) D)))
    (mulf (F := Ideal) (φ := .f32) (broadcastTo S1032x256 r0 broadcasts_S1x256_S1032x256) (k0_pay26 (F := Ideal) D))

theorem mixed_eq (r0 r1 r2 : Vec Ideal S1x256 .f32) (p : S1032x256.Idx) :
    mixed D r0 r1 r2 p = ent r2 0 (p 1).val * D p + ent r1 0 (p 1).val * k0_pay25 (F := Ideal) D p + ent r0 0 (p 1).val * k0_pay26 (F := Ideal) D p := by
  have e (r : Vec Ideal S1x256 .f32) : broadcastTo S1032x256 r broadcasts_S1x256_S1032x256 p = ent r 0 (p 1).val :=
    (rowBcast_apply r _ p).trans (ent_eq r _ rfl rfl)
  rw [← e r0, ← e r1, ← e r2]
  rfl

/-- The gradient towards the convolution's input. -/
theorem input_tile (r0 r1 r2 : Vec Ideal S1x256 .f32) (q : S1024x256.Idx) :
    k0_pay28 (F := Ideal) (k0_pay25 (F := Ideal) D) (k0_pay26 (F := Ideal) D) (k0_pay27 (F := Ideal) D r2) r1 r0 q
      = ent r2 0 (q 1).val * ent D (q 0).val (q 1).val + ent r1 0 (q 1).val * ent D ((q 0).val + 1) (q 1).val
        + ent r0 0 (q 1).val * ent D ((q 0).val + 2) (q 1).val := by
  have h0 : (q 0).val < 1024 := (q 0).isLt
  have h1 : (q 1).val < 256 := (q 1).isLt
  refine (head_ent (mixed D r0 r1 r2) q).trans ?_
  refine (ent_eq (mixed D r0 r1 r2) (ix2 ⟨(q 0).val, by omega⟩ ⟨(q 1).val, h1⟩ : S1032x256.Idx) rfl rfl).symm.trans ?_
  refine (mixed_eq D r0 r1 r2 _).trans ?_
  rw [← rot1_ent D _ _ h0 h1, ← rot2_ent D _ _ h0 h1]
  exact congrArg₂ (· + ·) (congrArg₂ (· + ·) (congrArg₂ (· * ·) rfl (ent_eq D _ rfl rfl)) (congrArg₂ (· * ·) rfl (ent_eq _ _ rfl rfl)))
    (congrArg₂ (· * ·) rfl (ent_eq _ _ rfl rfl))

/-- The sum of the block's rows of `D`, onto what the row held. -/
theorem bias_tile (o : Vec Ideal S1x256 .f32) (q : S1x256.Idx) :
    k0_pay29 (F := Ideal) D o q = o q + ∑ s ∈ Finset.range 1024, ent D s (q 1).val := by
  unfold k0_pay29
  rw [shapeCast_self]
  show o q + shapeCast S1x256 _ _ q = _
  refine congrArg (o q + ·) ?_
  refine colSums _ _ _ q (fun s => ent D s (q 1).val) fun p hp => ?_
  rw [← hp]
  exact head_ent D p

/-- The sum of the block's rows of `x` times the input's, onto what the row held. -/
theorem weight_tile (x : FVec Ideal S1032x256 .f32) (o : Vec Ideal S1x256 .f32) (q : S1x256.Idx) :
    k0_pay22 (F := Ideal) x z o q = o q + ∑ s ∈ Finset.range 1024, ent x s (q 1).val * ent z s (q 1).val := by
  unfold k0_pay22
  rw [shapeCast_self]
  show o q + shapeCast S1x256 _ _ q = _
  refine congrArg (o q + ·) ?_
  refine colSums _ _ _ q (fun s => ent x s (q 1).val * ent z s (q 1).val) fun p hp => ?_
  rw [← hp]
  exact congrArg₂ (· * ·) (head_ent x p) (ent_eq z p rfl rfl)
end

/-! ## Rows stored one by one, and read back -/

theorem mem_row (k : ℕ) (inb : ∀ a, (![k, 0] : Fin 2 → ℕ) a + S1x256.size a ≤ S3x256.size a) (q : S3x256.Idx) :
    q ∈ (Rect.unit (s := S3x256) ![k, 0] S1x256.size inb).set ↔ (q 0).val = k := by
  have h1 : (q 1).val < 256 := (q 1).isLt
  rw [Rect.mem_set_unit]
  constructor
  · intro h
    have h0 : k ≤ (q 0).val ∧ (q 0).val < k + 1 := h 0
    omega
  · intro h a
    match a with
    | ⟨0, _⟩ => show k ≤ (q 0).val ∧ (q 0).val < k + 1; omega
    | ⟨1, _⟩ => show 0 ≤ (q 1).val ∧ (q 1).val < 0 + 256; omega

/-- A store of one row over the earlier stores. -/
theorem canon_row (k : ℕ) (inb : ∀ a, (![k, 0] : Fin 2 → ℕ) a + S1x256.size a ≤ S3x256.size a) (w : Vec Ideal S1x256 .f32)
    (L : List (View.Piece (Elt Ideal) S3x256 .f32)) (q : S3x256.Idx) :
    View.canon (Val := Elt Ideal) (e := .f32) (⟨Rect.unit (s := S3x256) ![k, 0] S1x256.size inb, w⟩ :: L) q
      = if (q 0).val = k then ent w 0 (q 1).val else View.canon (Val := Elt Ideal) (e := .f32) L q := by
  by_cases hq : (q 0).val = k
  · rw [if_pos hq]
    obtain ⟨x, rfl⟩ : ∃ x, (Rect.unit (s := S3x256) ![k, 0] S1x256.size inb).emb x = q :=
      (Rect.unit (s := S3x256) ![k, 0] S1x256.size inb).toLoadRect.exists_idx_of_mem ((mem_row k inb q).mpr hq)
    refine (View.canon_cons_emb (Val := Elt Ideal) (e := .f32) (Rect.unit (s := S3x256) ![k, 0] S1x256.size inb) w L x).trans ?_
    have h0 : (x 0).val < 1 := (x 0).isLt
    refine ent_eq w x (by omega) ?_
    show (x 1).val = 0 + 1 * (x 1).val
    omega
  · rw [if_neg hq]
    exact View.canon_cons_of_not_mem (Val := Elt Ideal) (⟨Rect.unit (s := S3x256) ![k, 0] S1x256.size inb, w⟩ : View.Piece (Elt Ideal) S3x256 .f32) L (y := q)
      fun h => hq ((mem_row k inb q).mp h)

/-- A row read. -/
theorem idx_row (k : ℕ) (inb : ∀ a, (![k, 0] : Fin 2 → ℕ) a + S1x256.size a ≤ S3x256.size a) (p : S1x256.Idx) :
    (((Rect.unit (s := S3x256) ![k, 0] S1x256.size inb).toLoadRect.idx p) 0).val = k
      ∧ (((Rect.unit (s := S3x256) ![k, 0] S1x256.size inb).toLoadRect.idx p) 1).val = (p 1).val := by
  have h0 : (p 0).val < 1 := (p 0).isLt
  constructor
  · show k + 1 * (p 0).val = k; omega
  · show 0 + 1 * (p 1).val = (p 1).val; omega

theorem ld_row (x : Vec Ideal S3x256 .f32) (k : ℕ) (inb : ∀ a, (![k, 0] : Fin 2 → ℕ) a + S1x256.size a ≤ S3x256.size a) (p : S1x256.Idx) :
    View.ld (Val := Elt Ideal) (e' := .f32) x (Rect.unit (s := S3x256) ![k, 0] S1x256.size inb) p = ent x k (p 1).val :=
  ent_eq x _ (idx_row k inb p).1 (idx_row k inb p).2

end Cert.ConvGluIdeal.Rows

end
-- ==== Proof.ConvGluLeft.lean ====
module

public import proofs.«01_k».proof.Proof.ConvGluTile
public import proofs.«01_k».proof.Proof.Gen.ConvGluIdeal.Value

@[expose] public section

/-! What the gate and the convolution backwards leave: 11 columns of 16 blocks of rows, each block writing its part of the input's
    gradient and adding its share of the gradients of the weights and the bias. -/

set_option maxRecDepth 16384

noncomputable section

namespace Cert.ConvGluIdeal.Rows

open Cert.ConvGluIdeal Cert.ConvGluIdeal.Gen Cert.ConvGluIdeal.Value Cert.Products Cert.Norms Cert.Conv
open Idealize.ShloMosaic Idealize.ShloMosaic.TcCoe Idealize.ShloMosaic.ValueIdx
open scoped BigOperators

theorem hz : (![0, 0] : Fin 2 → Nat) = fun _ => 0 := funext fun a => by fin_cases a <;> rfl

/-! ## Rows of the weights' gradient -/

theorem row_ent (x : Vec Ideal S3x256 .f32) (k b : ℕ) (hb : b < 256) (inb : ∀ a, (![k, 0] : Fin 2 → ℕ) a + S1x256.size a ≤ S3x256.size a) :
    ent (View.ld (Val := Elt Ideal) (e' := .f32) x (Rect.unit (s := S3x256) ![k, 0] S1x256.size inb) : Vec Ideal S1x256 .f32) 0 b = ent x k b :=
  (ent_eq _ (ix2 0 ⟨b, hb⟩ : S1x256.Idx) rfl rfl).symm.trans (ld_row x k inb _)

theorem input_left (D : FVec Ideal S1032x256 .f32) (w : Vec Ideal S3x256 .f32) (i0 i1 i2) (q : S1024x256.Idx) :
    k0_pay28 (F := Ideal) (k0_pay25 (F := Ideal) D) (k0_pay26 (F := Ideal) D)
      (k0_pay27 (F := Ideal) D (View.ld (Val := Elt Ideal) (e' := .f32) w (Rect.unit (s := S3x256) ![2, 0] S1x256.size i2)))
      (View.ld (Val := Elt Ideal) (e' := .f32) w (Rect.unit (s := S3x256) ![1, 0] S1x256.size i1))
      (View.ld (Val := Elt Ideal) (e' := .f32) w (Rect.unit (s := S3x256) ![0, 0] S1x256.size i0)) q
      = dz (ent w) (ent D) (q 0).val (q 1).val := by
  have h1 : (q 1).val < 256 := (q 1).isLt
  refine (input_tile D _ _ _ q).trans ?_
  rw [row_ent w 2 _ h1, row_ent w 1 _ h1, row_ent w 0 _ h1]
  rfl

/-- Three rows stored, each the row read and the sums over a block. -/
theorem three_rows (D : FVec Ideal S1032x256 .f32) (z : Vec Ideal S1024x256 .bf16) (base : ℕ → ℕ → EReal) (o2 o1 o0 : Vec Ideal S1x256 .f32)
    (h2 : ∀ p, o2 p = base 2 (p 1).val) (h1 : ∀ p, o1 p = base 1 (p 1).val) (h0 : ∀ p, o0 p = base 0 (p 1).val) (i0 i1 i2)
    (L : List (View.Piece (Elt Ideal) S3x256 .f32)) (q : S3x256.Idx) :
    View.canon (Val := Elt Ideal) (e := .f32) (⟨Rect.unit (s := S3x256) ![2, 0] S1x256.size i2, k0_pay22 (F := Ideal) D z o2⟩
      :: ⟨Rect.unit (s := S3x256) ![1, 0] S1x256.size i1, k0_pay22 (F := Ideal) (k0_pay25 (F := Ideal) D) z o1⟩
      :: ⟨Rect.unit (s := S3x256) ![0, 0] S1x256.size i0, k0_pay22 (F := Ideal) (k0_pay26 (F := Ideal) D) z o0⟩ :: L) q
      = base (q 0).val (q 1).val + ∑ s ∈ Finset.range 1024, dwTerm (ent D) (ent z) (q 0).val (q 1).val s := by
  have hq0 : (q 0).val < 3 := (q 0).isLt
  have hq1 : (q 1).val < 256 := (q 1).isLt
  have tile (x : FVec Ideal S1032x256 .f32) (o : Vec Ideal S1x256 .f32) :
      ent (k0_pay22 (F := Ideal) x z o : Vec Ideal S1x256 .f32) 0 (q 1).val
        = o (ix2 0 ⟨(q 1).val, hq1⟩) + ∑ s ∈ Finset.range 1024, ent x s (q 1).val * ent z s (q 1).val :=
    (ent_eq _ (ix2 0 ⟨(q 1).val, hq1⟩ : S1x256.Idx) rfl rfl).symm.trans (weight_tile z x o _)
  rw [canon_row, canon_row, canon_row]
  obtain h | h | h : (q 0).val = 0 ∨ (q 0).val = 1 ∨ (q 0).val = 2 := by omega
  · rw [h, if_neg (by omega), if_neg (by omega), if_pos rfl, tile, h0]
    exact congrArg (_ + ·) (Finset.sum_congr rfl fun s hs => congrArg₂ (· * ·) (rot2_ent D s _ (Finset.mem_range.1 hs) hq1) rfl)
  · rw [h, if_neg (by omega), if_pos rfl, tile, h1]
    exact congrArg (_ + ·) (Finset.sum_congr rfl fun s hs => congrArg₂ (· * ·) (rot1_ent D s _ (Finset.mem_range.1 hs) hq1) rfl)
  · rw [h, if_pos rfl, tile, h2]
    rfl

/-- A row read of what was stored, where that is zero. -/
theorem read_zero (a : Memref sig .tc .vmem S3x256 .f32) (k : ℕ) (inb : ∀ a, (![k, 0] : Fin 2 → ℕ) a + S1x256.size a ≤ S3x256.size a)
    (L : List (View.Piece (Elt Ideal) S3x256 .f32))
    (hL : ∀ q : S3x256.Idx, (q 0).val = k → View.canon (Val := Elt Ideal) (e := .f32) L q = (0 : EReal)) (p : S1x256.Idx) :
    a.view.readCov (Val := Elt Ideal) L (Rect.unit (s := S3x256) ![k, 0] S1x256.size inb).toLoadRect p = (0 : EReal) := by
  rw [View.readCov_eq_canon']
  exact hL _ (idx_row k inb p).1

theorem zeros_canon (w : Vec Ideal S3x256 .f32) (hw : ∀ q, w q = (0 : EReal)) (inb) (q : S3x256.Idx) :
    View.canon (Val := Elt Ideal) (e := .f32) [(⟨Rect.unit (s := S3x256) ![0, 0] S3x256.size inb, w⟩ : View.Piece (Elt Ideal) S3x256 .f32)] q = (0 : EReal) := by
  rw [View.canon_unit_zero (S := S3x256) hz]
  exact hw q

theorem skip_canon (k : ℕ) (inb : ∀ a, (![k, 0] : Fin 2 → ℕ) a + S1x256.size a ≤ S3x256.size a) (w : Vec Ideal S1x256 .f32)
    (L : List (View.Piece (Elt Ideal) S3x256 .f32)) (hL : ∀ q, View.canon (Val := Elt Ideal) (e := .f32) L q = (0 : EReal))
    (j : ℕ) (hj : j ≠ k) (q : S3x256.Idx) (hq : (q 0).val = j) :
    View.canon (Val := Elt Ideal) (e := .f32) (⟨Rect.unit (s := S3x256) ![k, 0] S1x256.size inb, w⟩ :: L) q = (0 : EReal) := by
  rw [canon_row, if_neg (by omega)]
  exact hL q

/-! ## What a point leaves -/

section
variable (c : Dev nD) (i : grid0.Coords) (a2 : Memref sig .tc .vmem S1024x256 .bf16) (h2 : a2.IsWhole)
  (a3 : Memref sig .tc .vmem S1024x256 .bf16) (h3 : a3.IsWhole) (a4 : Memref sig .tc .vmem S1024x256 .bf16) (h4 : a4.IsWhole)
  (a5 : Memref sig .tc .vmem S16x256 .bf16) (h5 : a5.IsWhole) (a6 : Memref sig .tc .vmem S1024x256 .bf16) (h6 : a6.IsWhole)
  (a7 : Memref sig .tc .vmem S16x256 .bf16) (h7 : a7.IsWhole) (a8 : Memref sig .tc .vmem S1024x256 .f32) (h8 : a8.IsWhole)
  (a9 : Memref sig .tc .vmem S8x256 .f32) (h9 : a9.IsWhole) (a10 : Memref sig .tc .vmem S3x256 .f32) (h10 : a10.IsWhole)
  (a11 : Memref sig .tc .vmem S3x256 .f32) (h11 : a11.IsWhole) (a12 : Memref sig .tc .vmem S1024x256 .bf16) (h12 : a12.IsWhole)
  (a13 : Memref sig .tc .vmem S1024x256 .bf16) (h13 : a13.IsWhole) (a14 : Memref sig .tc .vmem S3x256 .f32) (h14 : a14.IsWhole)
  (a15 : Memref sig .tc .vmem S3x256 .f32) (h15 : a15.IsWhole) (a16 : Memref sig .tc .vmem S1x256 .f32) (h16 : a16.IsWhole)
  (a17 : Memref sig .tc .vmem S1x256 .f32) (h17 : a17.IsWhole)
  (zg zu g : Vec Ideal S1024x256 .bf16) (gn : Vec Ideal S16x256 .bf16) (u : Vec Ideal S1024x256 .bf16) (un : Vec Ideal S16x256 .bf16)
  (d : Vec Ideal S1024x256 .f32) (dn : Vec Ideal S8x256 .f32) (wg wu : Vec Ideal S3x256 .f32)
  (og ou : Vec Ideal S3x256 .f32) (bg bu : Vec Ideal S1x256 .f32)

theorem left_A_10 (hc0 : cond0_0 i) (q : S1024x256.Idx) : out0_A_10 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu q
    = dz (ent wg) (ent (tileG i g gn u un d dn)) (q 0).val (q 1).val := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 hc0 zg zu g gn u un d dn wg wu)]
  unfold kernelRun0_A
  dsimp only
  sl_unfold_words
  simp only [View.readAt_eq_ld, h4.read_unread, h5.read_unread, h6.read_unread, h7.read_unread, h8.read_unread, h9.read_unread, h10.read_unread,
    View.ld_unit_zero (S := S1024x256) hz, View.ld_unit_zero (S := S16x256) hz, View.ld_unit_zero (S := S8x256) hz,
    View.ld_unit_zero (S := S1x256) hz, shapeCast_self]
  rw [View.canon_unit_zero (S := S1024x256) hz]
  exact input_left (tileG i g gn u un d dn) wg _ _ _ q

theorem left_A_11 (hc0 : cond0_0 i) (q : S1024x256.Idx) : out0_A_11 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu q
    = dz (ent wu) (ent (tileU i g gn d dn)) (q 0).val (q 1).val := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 hc0 zg zu g gn u un d dn wg wu)]
  unfold kernelRun0_A
  dsimp only
  sl_unfold_words
  simp only [View.readAt_eq_ld, h4.read_unread, h5.read_unread, h8.read_unread, h9.read_unread, h11.read_unread,
    View.ld_unit_zero (S := S1024x256) hz, View.ld_unit_zero (S := S16x256) hz, View.ld_unit_zero (S := S8x256) hz,
    View.ld_unit_zero (S := S1x256) hz, shapeCast_self]
  rw [View.canon_unit_zero (S := S1024x256) hz]
  exact input_left (tileU i g gn d dn) wu _ _ _ q

theorem left_A_12 (hc0 : cond0_0 i) (q : S3x256.Idx) : out0_A_12 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu q
    = 0 + ∑ s ∈ Finset.range 1024, dwTerm (ent (tileG i g gn u un d dn)) (ent zg) (q 0).val (q 1).val s := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 hc0 zg zu g gn u un d dn wg wu)]
  unfold kernelRun0_A
  dsimp only
  sl_unfold_words
  simp only [View.readAt_eq_ld, h2.read_unread, h4.read_unread, h5.read_unread, h6.read_unread, h7.read_unread, h8.read_unread, h9.read_unread,
    View.ld_unit_zero (S := S1024x256) hz, View.ld_unit_zero (S := S16x256) hz, View.ld_unit_zero (S := S8x256) hz,
    View.ld_unit_zero (S := S1x256) hz, shapeCast_self]
  exact three_rows (tileG i g gn u un d dn) zg (fun _ _ => 0) _ _ _
    (read_zero a14 2 _ _ (fun q hq => (canon_row 1 _ _ _ q).trans ((if_neg (by omega)).trans
      (skip_canon 0 _ _ _ (zeros_canon (k0_pay2 (F := Ideal)) (fun _ => ofBits_zero) _) 2 (by omega) q hq))))
    (read_zero a14 1 _ _ (skip_canon 0 _ _ _ (zeros_canon (k0_pay2 (F := Ideal)) (fun _ => ofBits_zero) _) 1 (by omega)))
    (read_zero a14 0 _ _ (fun q _ => zeros_canon (k0_pay2 (F := Ideal)) (fun _ => ofBits_zero) _ q)) _ _ _ _ q

theorem left_A_13 (hc0 : cond0_0 i) (q : S3x256.Idx) : out0_A_13 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu q
    = 0 + ∑ s ∈ Finset.range 1024, dwTerm (ent (tileU i g gn d dn)) (ent zu) (q 0).val (q 1).val s := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc0 zg zu g gn u un d dn wg wu)]
  unfold kernelRun0_A
  dsimp only
  sl_unfold_words
  simp only [View.readAt_eq_ld, h3.read_unread, h4.read_unread, h5.read_unread, h8.read_unread, h9.read_unread,
    View.ld_unit_zero (S := S1024x256) hz, View.ld_unit_zero (S := S16x256) hz, View.ld_unit_zero (S := S8x256) hz,
    View.ld_unit_zero (S := S1x256) hz, shapeCast_self]
  exact three_rows (tileU i g gn d dn) zu (fun _ _ => 0) _ _ _
    (read_zero a15 2 _ _ (fun q hq => (canon_row 1 _ _ _ q).trans ((if_neg (by omega)).trans
      (skip_canon 0 _ _ _ (zeros_canon (k0_pay3 (F := Ideal)) (fun _ => ofBits_zero) _) 2 (by omega) q hq))))
    (read_zero a15 1 _ _ (skip_canon 0 _ _ _ (zeros_canon (k0_pay3 (F := Ideal)) (fun _ => ofBits_zero) _) 1 (by omega)))
    (read_zero a15 0 _ _ (fun q _ => zeros_canon (k0_pay3 (F := Ideal)) (fun _ => ofBits_zero) _ q)) _ _ _ _ q

theorem left_A_14 (hc0 : cond0_0 i) (q : S1x256.Idx) : out0_A_14 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu q
    = 0 + ∑ s ∈ Finset.range 1024, ent (tileG i g gn u un d dn) s (q 1).val := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 hc0 zg zu g gn u un d dn wg wu)]
  unfold kernelRun0_A
  dsimp only
  sl_unfold_words
  simp only [View.readAt_eq_ld, h4.read_unread, h5.read_unread, h6.read_unread, h7.read_unread, h8.read_unread, h9.read_unread,
    View.ld_unit_zero (S := S1024x256) hz, View.ld_unit_zero (S := S16x256) hz, View.ld_unit_zero (S := S8x256) hz,
    View.ld_unit_zero (S := S1x256) hz, shapeCast_self]
  rw [View.canon_cons_unit_zero (S := S1x256) hz]
  simp only [View.readCov_unit_zero (S := S1x256) _ hz]
  exact (bias_tile (tileG i g gn u un d dn) (k0_pay4 (F := Ideal)) q).trans (congrArg (· + _) ofBits_zero)

theorem left_A_15 (hc0 : cond0_0 i) (q : S1x256.Idx) : out0_A_15 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu q
    = 0 + ∑ s ∈ Finset.range 1024, ent (tileU i g gn d dn) s (q 1).val := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 hc0 zg zu g gn u un d dn wg wu)]
  unfold kernelRun0_A
  dsimp only
  sl_unfold_words
  simp only [View.readAt_eq_ld, h4.read_unread, h5.read_unread, h8.read_unread, h9.read_unread,
    View.ld_unit_zero (S := S1024x256) hz, View.ld_unit_zero (S := S16x256) hz, View.ld_unit_zero (S := S8x256) hz,
    View.ld_unit_zero (S := S1x256) hz, shapeCast_self]
  rw [View.canon_cons_unit_zero (S := S1x256) hz]
  simp only [View.readCov_unit_zero (S := S1x256) _ hz]
  exact (bias_tile (tileU i g gn d dn) (k0_pay5 (F := Ideal)) q).trans (congrArg (· + _) ofBits_zero)

theorem left_B_10 (hc0 : ¬cond0_0 i) (q : S1024x256.Idx) : out0_B_10 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu q
    = dz (ent wg) (ent (tileG i g gn u un d dn)) (q 0).val (q 1).val := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu)]
  unfold kernelRun0_B
  dsimp only
  sl_unfold_words
  simp only [View.readAt_eq_ld, h4.read_unread, h5.read_unread, h6.read_unread, h7.read_unread, h8.read_unread, h9.read_unread, h10.read_unread,
    View.ld_unit_zero (S := S1024x256) hz, View.ld_unit_zero (S := S16x256) hz, View.ld_unit_zero (S := S8x256) hz,
    View.ld_unit_zero (S := S1x256) hz, shapeCast_self]
  rw [View.canon_unit_zero (S := S1024x256) hz]
  exact input_left (tileG i g gn u un d dn) wg _ _ _ q

theorem left_B_11 (hc0 : ¬cond0_0 i) (q : S1024x256.Idx) : out0_B_11 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu q
    = dz (ent wu) (ent (tileU i g gn d dn)) (q 0).val (q 1).val := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu)]
  unfold kernelRun0_B
  dsimp only
  sl_unfold_words
  simp only [View.readAt_eq_ld, h4.read_unread, h5.read_unread, h8.read_unread, h9.read_unread, h11.read_unread,
    View.ld_unit_zero (S := S1024x256) hz, View.ld_unit_zero (S := S16x256) hz, View.ld_unit_zero (S := S8x256) hz,
    View.ld_unit_zero (S := S1x256) hz, shapeCast_self]
  rw [View.canon_unit_zero (S := S1024x256) hz]
  exact input_left (tileU i g gn d dn) wu _ _ _ q

theorem left_B_12 (hc0 : ¬cond0_0 i) (q : S3x256.Idx) : out0_B_12 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu q
    = ent og (q 0).val (q 1).val + ∑ s ∈ Finset.range 1024, dwTerm (ent (tileG i g gn u un d dn)) (ent zg) (q 0).val (q 1).val s := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu)]
  unfold kernelRun0_B
  dsimp only
  sl_unfold_words
  simp only [View.readAt_eq_ld, h2.read_unread, h4.read_unread, h5.read_unread, h6.read_unread, h7.read_unread, h8.read_unread, h9.read_unread, h14.read_unread,
    View.ld_unit_zero (S := S1024x256) hz, View.ld_unit_zero (S := S16x256) hz, View.ld_unit_zero (S := S8x256) hz,
    View.ld_unit_zero (S := S1x256) hz, shapeCast_self]
  exact three_rows (tileG i g gn u un d dn) zg (ent og) _ _ _ (ld_row og 2 _) (ld_row og 1 _) (ld_row og 0 _) _ _ _ [] q

theorem left_B_13 (hc0 : ¬cond0_0 i) (q : S3x256.Idx) : out0_B_13 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu q
    = ent ou (q 0).val (q 1).val + ∑ s ∈ Finset.range 1024, dwTerm (ent (tileU i g gn d dn)) (ent zu) (q 0).val (q 1).val s := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu)]
  unfold kernelRun0_B
  dsimp only
  sl_unfold_words
  simp only [View.readAt_eq_ld, h3.read_unread, h4.read_unread, h5.read_unread, h8.read_unread, h9.read_unread, h15.read_unread,
    View.ld_unit_zero (S := S1024x256) hz, View.ld_unit_zero (S := S16x256) hz, View.ld_unit_zero (S := S8x256) hz,
    View.ld_unit_zero (S := S1x256) hz, shapeCast_self]
  exact three_rows (tileU i g gn d dn) zu (ent ou) _ _ _ (ld_row ou 2 _) (ld_row ou 1 _) (ld_row ou 0 _) _ _ _ [] q

theorem left_B_14 (hc0 : ¬cond0_0 i) (q : S1x256.Idx) : out0_B_14 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu q
    = bg q + ∑ s ∈ Finset.range 1024, ent (tileG i g gn u un d dn) s (q 1).val := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu)]
  unfold kernelRun0_B
  dsimp only
  sl_unfold_words
  simp only [View.readAt_eq_ld, h4.read_unread, h5.read_unread, h6.read_unread, h7.read_unread, h8.read_unread, h9.read_unread, h16.read_unread,
    View.ld_unit_zero (S := S1024x256) hz, View.ld_unit_zero (S := S16x256) hz, View.ld_unit_zero (S := S8x256) hz,
    View.ld_unit_zero (S := S1x256) hz, shapeCast_self]
  rw [View.canon_unit_zero (S := S1x256) hz]
  exact bias_tile (tileG i g gn u un d dn) bg q

theorem left_B_15 (hc0 : ¬cond0_0 i) (q : S1x256.Idx) : out0_B_15 (F := Ideal) c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu q
    = bu q + ∑ s ∈ Finset.range 1024, ent (tileU i g gn d dn) s (q 1).val := by
  unfold out0_B_15
  rw [View.read_writes_eq_canon _ _ _ (cover0_B_15 c i a2 h2 a3 h3 a4 h4 a5 h5 a6 h6 a7 h7 a8 h8 a9 h9 a10 h10 a11 h11 a12 h12 a13 h13 a14 h14 a15 h15 a16 h16 a17 h17 hc0 zg zu g gn u un d dn wg wu og ou bg bu)]
  unfold kernelRun0_B
  dsimp only
  sl_unfold_words
  simp only [View.readAt_eq_ld, h4.read_unread, h5.read_unread, h8.read_unread, h9.read_unread, h17.read_unread,
    View.ld_unit_zero (S := S1024x256) hz, View.ld_unit_zero (S := S16x256) hz, View.ld_unit_zero (S := S8x256) hz,
    View.ld_unit_zero (S := S1x256) hz, shapeCast_self]
  rw [View.canon_unit_zero (S := S1x256) hz]
  exact bias_tile (tileU i g gn d dn) bu q

end

end Cert.ConvGluIdeal.Rows

end
-- ==== Proof.ConvGluValue.lean ====
module

public import proofs.«01_k».proof.Proof.ConvGluLeft
public import proofs.«01_k».proof.Proof.Gen.ConvGluIdeal.Value

@[expose] public section

/-! The arrays the gate and the convolution backwards leave. -/

set_option maxRecDepth 16384

noncomputable section

namespace Cert.ConvGluIdeal.Rows

open Cert.ConvGluIdeal Cert.ConvGluIdeal.Gen Cert.ConvGluIdeal.Value Cert.Products Cert.Norms Cert.Conv
open Idealize.ShloMosaic Idealize.ShloMosaic.TcCoe Idealize.ShloMosaic.ValueIdx
open scoped BigOperators

variable (m : (ℓ : Loc nD τ sig) → Buf (Elt Ideal) ℓ) (c : Dev nD)

abbrev inZ : Vec Ideal S16384x5632 .bf16 := m ((c : Thread nD τ).loc main_arg0)
abbrev inG : Vec Ideal S16384x2816 .bf16 := m ((c : Thread nD τ).loc main_arg1)
abbrev inU : Vec Ideal S16384x2816 .bf16 := m ((c : Thread nD τ).loc main_arg2)
abbrev inD : Vec Ideal S16384x2816 .f32 := m ((c : Thread nD τ).loc main_arg3)
abbrev inW : Vec Ideal S3x5632 .f32 := m ((c : Thread nD τ).loc main_arg4)

/-! ## The arguments' blocks -/

theorem coord1 : ∀ t : Fin cfg0.N, ((grid0.coords t) 1).val = t.val % 16 :=
  (by decide +kernel : ∀ t : Fin grid0.N, ((grid0.coords t) 1).val = t.val % 16)
theorem index0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem index1 : ∀ t : Fin cfg0.N, win0_1.index t 0 = t.val % 16 ∧ win0_1.index t 1 = t.val / 16 + 11 :=
  (by decide +kernel : ∀ t : Fin grid0.N, win0_1.index t 0 = t.val % 16 ∧ win0_1.index t 1 = t.val / 16 + 11)
theorem index2 : ∀ t : Fin cfg0.N, win0_2.index t 0 = t.val % 16 ∧ win0_2.index t 1 = t.val / 16 :=
  (by decide +kernel : ∀ t : Fin grid0.N, win0_2.index t 0 = t.val % 16 ∧ win0_2.index t 1 = t.val / 16)
theorem index3 : ∀ t : Fin cfg0.N, win0_3.index t 0 = min (64 * (t.val % 16 + 1)) 1023 ∧ win0_3.index t 1 = t.val / 16 :=
  (by decide +kernel : ∀ t : Fin grid0.N, win0_3.index t 0 = min (64 * (t.val % 16 + 1)) 1023 ∧ win0_3.index t 1 = t.val / 16)
theorem index4 : ∀ t : Fin cfg0.N, win0_4.index t 0 = t.val % 16 ∧ win0_4.index t 1 = t.val / 16 :=
  (by decide +kernel : ∀ t : Fin grid0.N, win0_4.index t 0 = t.val % 16 ∧ win0_4.index t 1 = t.val / 16)
theorem index5 : ∀ t : Fin cfg0.N, win0_5.index t 0 = min (64 * (t.val % 16 + 1)) 1023 ∧ win0_5.index t 1 = t.val / 16 :=
  (by decide +kernel : ∀ t : Fin grid0.N, win0_5.index t 0 = min (64 * (t.val % 16 + 1)) 1023 ∧ win0_5.index t 1 = t.val / 16)
theorem index6 : ∀ t : Fin cfg0.N, win0_6.index t 0 = t.val % 16 ∧ win0_6.index t 1 = t.val / 16 :=
  (by decide +kernel : ∀ t : Fin grid0.N, win0_6.index t 0 = t.val % 16 ∧ win0_6.index t 1 = t.val / 16)
theorem index7 : ∀ t : Fin cfg0.N, win0_7.index t 0 = min (128 * (t.val % 16 + 1)) 2047 ∧ win0_7.index t 1 = t.val / 16 :=
  (by decide +kernel : ∀ t : Fin grid0.N, win0_7.index t 0 = min (128 * (t.val % 16 + 1)) 2047 ∧ win0_7.index t 1 = t.val / 16)
theorem index8 : ∀ t : Fin cfg0.N, win0_8.index t 0 = 0 ∧ win0_8.index t 1 = t.val / 16 :=
  (by decide +kernel : ∀ t : Fin grid0.N, win0_8.index t 0 = 0 ∧ win0_8.index t 1 = t.val / 16)
theorem index9 : ∀ t : Fin cfg0.N, win0_9.index t 0 = 0 ∧ win0_9.index t 1 = t.val / 16 + 11 :=
  (by decide +kernel : ∀ t : Fin grid0.N, win0_9.index t 0 = 0 ∧ win0_9.index t 1 = t.val / 16 + 11)
theorem index10 : ∀ t : Fin cfg0.N, win0_10.index t 0 = t.val % 16 ∧ win0_10.index t 1 = t.val / 16 :=
  (by decide +kernel : ∀ t : Fin grid0.N, win0_10.index t 0 = t.val % 16 ∧ win0_10.index t 1 = t.val / 16)
theorem index11 : ∀ t : Fin cfg0.N, win0_11.index t 0 = t.val % 16 ∧ win0_11.index t 1 = t.val / 16 :=
  (by decide +kernel : ∀ t : Fin grid0.N, win0_11.index t 0 = t.val % 16 ∧ win0_11.index t 1 = t.val / 16)
theorem index12 : ∀ t : Fin cfg0.N, win0_12.index t 0 = 0 ∧ win0_12.index t 1 = t.val / 16 :=
  (by decide +kernel : ∀ t : Fin grid0.N, win0_12.index t 0 = 0 ∧ win0_12.index t 1 = t.val / 16)
theorem index13 : ∀ t : Fin cfg0.N, win0_13.index t 0 = 0 ∧ win0_13.index t 1 = t.val / 16 :=
  (by decide +kernel : ∀ t : Fin grid0.N, win0_13.index t 0 = 0 ∧ win0_13.index t 1 = t.val / 16)
theorem index14 : ∀ t : Fin cfg0.N, win0_14.index t 0 = 0 ∧ win0_14.index t 1 = t.val / 16 :=
  (by decide +kernel : ∀ t : Fin grid0.N, win0_14.index t 0 = 0 ∧ win0_14.index t 1 = t.val / 16)
theorem index15 : ∀ t : Fin cfg0.N, win0_15.index t 0 = 0 ∧ win0_15.index t 1 = t.val / 16 :=
  (by decide +kernel : ∀ t : Fin grid0.N, win0_15.index t 0 = 0 ∧ win0_15.index t 1 = t.val / 16)

theorem blk_at (B i j p q : ℕ) {a b : ℕ} (ha : a = i) (hb : b = j) : a * B + 1 * p = B * i + p ∧ b * 256 + 1 * q = 256 * j + q := by
  subst ha hb
  exact ⟨by rw [Nat.one_mul, Nat.mul_comm], by omega⟩

theorem blk_0 (t : Fin cfg0.N) (a b : ℕ) (ha : a < 1024) (hb : b < 256) :
    ent (iblk m c 0 t : Vec Ideal S1024x256 .bf16) a b = ent (inZ m c) (1024 * (t.val % 16) + a) (256 * (t.val / 16) + b) := by
  let p : S1024x256.Idx := ix2 ⟨a, ha⟩ ⟨b, hb⟩
  obtain ⟨e0, e1⟩ := blk_at 1024 _ _ a b (index0 t).1 (index0 t).2
  refine (ent_eq _ p rfl rfl).symm.trans (Eq.trans ?_ (ent_eq (inZ m c) (((cfg0.win 0).blk t).view.emb p) e0 e1))
  show V m c main_arg0 _ = _
  rw [V_main_arg0 m c]

theorem blk_1 (t : Fin cfg0.N) (a b : ℕ) (ha : a < 1024) (hb : b < 256) :
    ent (iblk m c 1 t : Vec Ideal S1024x256 .bf16) a b = ent (inZ m c) (1024 * (t.val % 16) + a) (256 * (t.val / 16 + 11) + b) := by
  let p : S1024x256.Idx := ix2 ⟨a, ha⟩ ⟨b, hb⟩
  obtain ⟨e0, e1⟩ := blk_at 1024 _ _ a b (index1 t).1 (index1 t).2
  refine (ent_eq _ p rfl rfl).symm.trans (Eq.trans ?_ (ent_eq (inZ m c) (((cfg0.win 1).blk t).view.emb p) e0 e1))
  show V m c main_arg0 _ = _
  rw [V_main_arg0 m c]

theorem blk_2 (t : Fin cfg0.N) (a b : ℕ) (ha : a < 1024) (hb : b < 256) :
    ent (iblk m c 2 t : Vec Ideal S1024x256 .bf16) a b = ent (inG m c) (1024 * (t.val % 16) + a) (256 * (t.val / 16) + b) := by
  let p : S1024x256.Idx := ix2 ⟨a, ha⟩ ⟨b, hb⟩
  obtain ⟨e0, e1⟩ := blk_at 1024 _ _ a b (index2 t).1 (index2 t).2
  refine (ent_eq _ p rfl rfl).symm.trans (Eq.trans ?_ (ent_eq (inG m c) (((cfg0.win 2).blk t).view.emb p) e0 e1))
  show V m c main_arg1 _ = _
  rw [V_main_arg1 m c]

theorem blk_3 (t : Fin cfg0.N) (a b : ℕ) (ha : a < 16) (hb : b < 256) :
    ent (iblk m c 3 t : Vec Ideal S16x256 .bf16) a b = ent (inG m c) (16 * (min (64 * (t.val % 16 + 1)) 1023) + a) (256 * (t.val / 16) + b) := by
  let p : S16x256.Idx := ix2 ⟨a, ha⟩ ⟨b, hb⟩
  obtain ⟨e0, e1⟩ := blk_at 16 _ _ a b (index3 t).1 (index3 t).2
  refine (ent_eq _ p rfl rfl).symm.trans (Eq.trans ?_ (ent_eq (inG m c) (((cfg0.win 3).blk t).view.emb p) e0 e1))
  show V m c main_arg1 _ = _
  rw [V_main_arg1 m c]

theorem blk_4 (t : Fin cfg0.N) (a b : ℕ) (ha : a < 1024) (hb : b < 256) :
    ent (iblk m c 4 t : Vec Ideal S1024x256 .bf16) a b = ent (inU m c) (1024 * (t.val % 16) + a) (256 * (t.val / 16) + b) := by
  let p : S1024x256.Idx := ix2 ⟨a, ha⟩ ⟨b, hb⟩
  obtain ⟨e0, e1⟩ := blk_at 1024 _ _ a b (index4 t).1 (index4 t).2
  refine (ent_eq _ p rfl rfl).symm.trans (Eq.trans ?_ (ent_eq (inU m c) (((cfg0.win 4).blk t).view.emb p) e0 e1))
  show V m c main_arg2 _ = _
  rw [V_main_arg2 m c]

theorem blk_5 (t : Fin cfg0.N) (a b : ℕ) (ha : a < 16) (hb : b < 256) :
    ent (iblk m c 5 t : Vec Ideal S16x256 .bf16) a b = ent (inU m c) (16 * (min (64 * (t.val % 16 + 1)) 1023) + a) (256 * (t.val / 16) + b) := by
  let p : S16x256.Idx := ix2 ⟨a, ha⟩ ⟨b, hb⟩
  obtain ⟨e0, e1⟩ := blk_at 16 _ _ a b (index5 t).1 (index5 t).2
  refine (ent_eq _ p rfl rfl).symm.trans (Eq.trans ?_ (ent_eq (inU m c) (((cfg0.win 5).blk t).view.emb p) e0 e1))
  show V m c main_arg2 _ = _
  rw [V_main_arg2 m c]

theorem blk_6 (t : Fin cfg0.N) (a b : ℕ) (ha : a < 1024) (hb : b < 256) :
    ent (iblk m c 6 t : Vec Ideal S1024x256 .f32) a b = ent (inD m c) (1024 * (t.val % 16) + a) (256 * (t.val / 16) + b) := by
  let p : S1024x256.Idx := ix2 ⟨a, ha⟩ ⟨b, hb⟩
  obtain ⟨e0, e1⟩ := blk_at 1024 _ _ a b (index6 t).1 (index6 t).2
  refine (ent_eq _ p rfl rfl).symm.trans (Eq.trans ?_ (ent_eq (inD m c) (((cfg0.win 6).blk t).view.emb p) e0 e1))
  show V m c main_arg3 _ = _
  rw [V_main_arg3 m c]

theorem blk_7 (t : Fin cfg0.N) (a b : ℕ) (ha : a < 8) (hb : b < 256) :
    ent (iblk m c 7 t : Vec Ideal S8x256 .f32) a b = ent (inD m c) (8 * (min (128 * (t.val % 16 + 1)) 2047) + a) (256 * (t.val / 16) + b) := by
  let p : S8x256.Idx := ix2 ⟨a, ha⟩ ⟨b, hb⟩
  obtain ⟨e0, e1⟩ := blk_at 8 _ _ a b (index7 t).1 (index7 t).2
  refine (ent_eq _ p rfl rfl).symm.trans (Eq.trans ?_ (ent_eq (inD m c) (((cfg0.win 7).blk t).view.emb p) e0 e1))
  show V m c main_arg3 _ = _
  rw [V_main_arg3 m c]

theorem blk_8 (t : Fin cfg0.N) (a b : ℕ) (ha : a < 3) (hb : b < 256) :
    ent (iblk m c 8 t : Vec Ideal S3x256 .f32) a b = ent (inW m c) (3 * (0) + a) (256 * (t.val / 16) + b) := by
  let p : S3x256.Idx := ix2 ⟨a, ha⟩ ⟨b, hb⟩
  obtain ⟨e0, e1⟩ := blk_at 3 _ _ a b (index8 t).1 (index8 t).2
  refine (ent_eq _ p rfl rfl).symm.trans (Eq.trans ?_ (ent_eq (inW m c) (((cfg0.win 8).blk t).view.emb p) e0 e1))
  show V m c main_arg4 _ = _
  rw [V_main_arg4 m c]

theorem blk_9 (t : Fin cfg0.N) (a b : ℕ) (ha : a < 3) (hb : b < 256) :
    ent (iblk m c 9 t : Vec Ideal S3x256 .f32) a b = ent (inW m c) (3 * (0) + a) (256 * (t.val / 16 + 11) + b) := by
  let p : S3x256.Idx := ix2 ⟨a, ha⟩ ⟨b, hb⟩
  obtain ⟨e0, e1⟩ := blk_at 3 _ _ a b (index9 t).1 (index9 t).2
  refine (ent_eq _ p rfl rfl).symm.trans (Eq.trans ?_ (ent_eq (inW m c) (((cfg0.win 9).blk t).view.emb p) e0 e1))
  show V m c main_arg4 _ = _
  rw [V_main_arg4 m c]

/-! ## The gate's gradient -/

/-- The gate's gradient towards its two halves, over the rows there are. -/
def gradG : ℕ → ℕ → EReal := cut 16384 fun i j => dG (ent (inG m c) i j) (ent (inU m c) i j) (ent (inD m c) i j)
def gradU : ℕ → ℕ → EReal := cut 16384 fun i j => dU (ent (inG m c) i j) (ent (inD m c) i j)

abbrev blkG (t : Fin cfg0.N) : FVec Ideal S1032x256 .f32 :=
  tileG (grid0.coords t) (iblk m c 2 t) (iblk m c 3 t) (iblk m c 4 t) (iblk m c 5 t) (iblk m c 6 t) (iblk m c 7 t)
abbrev blkU (t : Fin cfg0.N) : FVec Ideal S1032x256 .f32 :=
  tileU (grid0.coords t) (iblk m c 2 t) (iblk m c 3 t) (iblk m c 6 t) (iblk m c 7 t)

theorem blkG_ent (t : Fin cfg0.N) (a b : ℕ) (ha : a < 1032) (hb : b < 256) :
    ent (blkG m c t) a b = gradG m c (1024 * (t.val % 16) + a) (256 * (t.val / 16) + b) := by
  have ht : t.val % 16 < 16 := Nat.mod_lt _ (by omega)
  refine (ent_eq (blkG m c t) (ix2 ⟨a, ha⟩ ⟨b, hb⟩ : S1032x256.Idx) rfl rfl).symm.trans ((tileG_eq _ _ _ _ _ _ _ _).trans ?_)
  show dG (below 1024 _ _ a b) (below 1024 _ _ a b) (below 1024 _ _ a b) = _
  unfold below gradG cut
  by_cases h : a < 1024
  · rw [if_pos h, if_pos h, if_pos h, if_pos (by omega), blk_2 m c t a b h hb, blk_4 m c t a b h hb, blk_6 m c t a b h hb]
  · rw [if_neg h, if_neg h, if_neg h, coord1]
    dsimp only
    by_cases h15 : t.val % 16 = 15
    · rw [if_pos h15, if_neg (by omega)]
      exact dG_zero _ _
    · rw [if_neg h15, if_pos (by omega), blk_3 m c t (a - 1024) b (by omega) hb, blk_5 m c t (a - 1024) b (by omega) hb,
        blk_7 m c t (a - 1024) b (by omega) hb,
        show 16 * min (64 * (t.val % 16 + 1)) 1023 + (a - 1024) = 1024 * (t.val % 16) + a by omega,
        show 8 * min (128 * (t.val % 16 + 1)) 2047 + (a - 1024) = 1024 * (t.val % 16) + a by omega]

theorem blkU_ent (t : Fin cfg0.N) (a b : ℕ) (ha : a < 1032) (hb : b < 256) :
    ent (blkU m c t) a b = gradU m c (1024 * (t.val % 16) + a) (256 * (t.val / 16) + b) := by
  have ht : t.val % 16 < 16 := Nat.mod_lt _ (by omega)
  refine (ent_eq (blkU m c t) (ix2 ⟨a, ha⟩ ⟨b, hb⟩ : S1032x256.Idx) rfl rfl).symm.trans ((tileU_eq _ _ _ _ _ _).trans ?_)
  show dU (below 1024 _ _ a b) (below 1024 _ _ a b) = _
  unfold below gradU cut
  by_cases h : a < 1024
  · rw [if_pos h, if_pos h, if_pos (by omega), blk_2 m c t a b h hb, blk_6 m c t a b h hb]
  · rw [if_neg h, if_neg h, coord1]
    dsimp only
    by_cases h15 : t.val % 16 = 15
    · rw [if_pos h15, if_neg (by omega)]
      exact dU_zero _
    · rw [if_neg h15, if_pos (by omega), blk_3 m c t (a - 1024) b (by omega) hb, blk_7 m c t (a - 1024) b (by omega) hb,
        show 16 * min (64 * (t.val % 16 + 1)) 1023 + (a - 1024) = 1024 * (t.val % 16) + a by omega,
        show 8 * min (128 * (t.val % 16 + 1)) 2047 + (a - 1024) = 1024 * (t.val % 16) + a by omega]

/-! ## The results -/

/-- The weights and the input of the two halves. -/
abbrev weightG : ℕ → ℕ → EReal := ent (inW m c)
abbrev weightU : ℕ → ℕ → EReal := fun k j => ent (inW m c) k (2816 + j)
abbrev rowG : ℕ → ℕ → EReal := ent (inZ m c)
abbrev rowU : ℕ → ℕ → EReal := fun i j => ent (inZ m c) i (2816 + j)

theorem past (t b : ℕ) : 256 * (t + 11) + b = 2816 + (256 * t + b) := by omega

theorem inputG (t : Fin cfg0.N) (q : S1024x256.Idx) :
    dz (ent (iblk m c 8 t : Vec Ideal S3x256 .f32)) (ent (blkG m c t)) (q 0).val (q 1).val
      = dz (weightG m c) (gradG m c) (1024 * (t.val % 16) + (q 0).val) (256 * (t.val / 16) + (q 1).val) := by
  have h0 : (q 0).val < 1024 := (q 0).isLt
  have h1 : (q 1).val < 256 := (q 1).isLt
  unfold dz
  rw [blkG_ent m c t _ _ (by omega) h1, blkG_ent m c t _ _ (by omega) h1, blkG_ent m c t _ _ (by omega) h1,
    blk_8 m c t 0 _ (by omega) h1, blk_8 m c t 1 _ (by omega) h1, blk_8 m c t 2 _ (by omega) h1]
  rfl

theorem weightsG (t : Fin cfg0.N) (k b : ℕ) (hb : b < 256) :
    (∑ s ∈ Finset.range 1024, dwTerm (ent (blkG m c t)) (ent (iblk m c 0 t : Vec Ideal S1024x256 .bf16)) k b s)
      = ∑ s ∈ Finset.range 1024, dwTerm (gradG m c) (rowG m c) k (256 * (t.val / 16) + b) (1024 * (t.val % 16) + s) := by
  refine Finset.sum_congr rfl fun s hs => ?_
  have hs' := Finset.mem_range.1 hs
  unfold dwTerm
  rw [blkG_ent m c t _ _ (by omega) hb, blk_0 m c t s b hs' hb, Nat.add_assoc]

theorem biasG (t : Fin cfg0.N) (b : ℕ) (hb : b < 256) :
    (∑ s ∈ Finset.range 1024, ent (blkG m c t) s b) = ∑ s ∈ Finset.range 1024, gradG m c (1024 * (t.val % 16) + s) (256 * (t.val / 16) + b) := by
  refine Finset.sum_congr rfl fun s hs => ?_
  have hs' := Finset.mem_range.1 hs
  exact blkG_ent m c t s b (by omega) hb

theorem inputU (t : Fin cfg0.N) (q : S1024x256.Idx) :
    dz (ent (iblk m c 9 t : Vec Ideal S3x256 .f32)) (ent (blkU m c t)) (q 0).val (q 1).val
      = dz (weightU m c) (gradU m c) (1024 * (t.val % 16) + (q 0).val) (256 * (t.val / 16) + (q 1).val) := by
  have h0 : (q 0).val < 1024 := (q 0).isLt
  have h1 : (q 1).val < 256 := (q 1).isLt
  unfold dz
  rw [blkU_ent m c t _ _ (by omega) h1, blkU_ent m c t _ _ (by omega) h1, blkU_ent m c t _ _ (by omega) h1,
    blk_9 m c t 0 _ (by omega) h1, blk_9 m c t 1 _ (by omega) h1, blk_9 m c t 2 _ (by omega) h1, past]
  rfl

theorem weightsU (t : Fin cfg0.N) (k b : ℕ) (hb : b < 256) :
    (∑ s ∈ Finset.range 1024, dwTerm (ent (blkU m c t)) (ent (iblk m c 1 t : Vec Ideal S1024x256 .bf16)) k b s)
      = ∑ s ∈ Finset.range 1024, dwTerm (gradU m c) (rowU m c) k (256 * (t.val / 16) + b) (1024 * (t.val % 16) + s) := by
  refine Finset.sum_congr rfl fun s hs => ?_
  have hs' := Finset.mem_range.1 hs
  unfold dwTerm
  rw [blkU_ent m c t _ _ (by omega) hb, blk_1 m c t s b hs' hb, past, Nat.add_assoc]

theorem biasU (t : Fin cfg0.N) (b : ℕ) (hb : b < 256) :
    (∑ s ∈ Finset.range 1024, ent (blkU m c t) s b) = ∑ s ∈ Finset.range 1024, gradU m c (1024 * (t.val % 16) + s) (256 * (t.val / 16) + b) := by
  refine Finset.sum_congr rfl fun s hs => ?_
  have hs' := Finset.mem_range.1 hs
  exact blkU_ent m c t s b (by omega) hb

theorem outs_10 (t : Fin cfg0.N) (q : S1024x256.Idx) : (outsAt0 m c t.val t.isLt).1 q
    = dz (weightG m c) (gradG m c) (1024 * (t.val % 16) + (q 0).val) (256 * (t.val / 16) + (q 1).val) := by
  by_cases h : t.val % 16 = 0
  · rw [outsAt0_A m c t h]
    dsimp only
    rw [left_A_10]
    exact inputG m c t q
  · rw [outsAt0_B m c t h]
    dsimp only
    rw [left_B_10]
    exact inputG m c t q

theorem outs_11 (t : Fin cfg0.N) (q : S1024x256.Idx) : (outsAt0 m c t.val t.isLt).2.1 q
    = dz (weightU m c) (gradU m c) (1024 * (t.val % 16) + (q 0).val) (256 * (t.val / 16) + (q 1).val) := by
  by_cases h : t.val % 16 = 0
  · rw [outsAt0_A m c t h]
    dsimp only
    rw [left_A_11]
    exact inputU m c t q
  · rw [outsAt0_B m c t h]
    dsimp only
    rw [left_B_11]
    exact inputU m c t q

theorem outs_12 : ∀ (t : ℕ) (ht : t < cfg0.N) (q : S3x256.Idx), (outsAt0 m c t ht).2.2.1 q
    = ∑ s ∈ Finset.range (1024 * (t % 16 + 1)), dwTerm (gradG m c) (rowG m c) (q 0).val (256 * (t / 16) + (q 1).val) s := by
  intro t
  induction t using Nat.strong_induction_on with
  | _ t ih =>
    intro ht q
    have h1 : (q 1).val < 256 := (q 1).isLt
    by_cases h : t % 16 = 0
    · rw [outsAt0_A m c ⟨t, ht⟩ h]
      dsimp only
      rw [left_A_12, weightsG m c ⟨t, ht⟩ (q 0).val _ h1, h]
      refine acc_zero (dwTerm (gradG m c) (rowG m c) (q 0).val (256 * (t / 16) + (q 1).val)) 1024 (Finset.sum_congr rfl fun s _ => ?_)
      dsimp only
      rw [Nat.mul_zero, Nat.zero_add]
    · rw [outsAt0_B m c ⟨t, ht⟩ h]
      dsimp only
      rw [left_B_12, weightsG m c ⟨t, ht⟩ (q 0).val _ h1]
      refine acc_succ (dwTerm (gradG m c) (rowG m c) (q 0).val (256 * (t / 16) + (q 1).val)) 1024 (t % 16) ?_ rfl
      refine (ent_eq _ q rfl rfl).symm.trans ?_
      refine (ih (t - 1) (by omega) (by omega) q).trans ?_
      rw [show (t - 1) % 16 + 1 = t % 16 by omega, show (t - 1) / 16 = t / 16 by omega]

theorem outs_13 : ∀ (t : ℕ) (ht : t < cfg0.N) (q : S3x256.Idx), (outsAt0 m c t ht).2.2.2.1 q
    = ∑ s ∈ Finset.range (1024 * (t % 16 + 1)), dwTerm (gradU m c) (rowU m c) (q 0).val (256 * (t / 16) + (q 1).val) s := by
  intro t
  induction t using Nat.strong_induction_on with
  | _ t ih =>
    intro ht q
    have h1 : (q 1).val < 256 := (q 1).isLt
    by_cases h : t % 16 = 0
    · rw [outsAt0_A m c ⟨t, ht⟩ h]
      dsimp only
      rw [left_A_13, weightsU m c ⟨t, ht⟩ (q 0).val _ h1, h]
      refine acc_zero (dwTerm (gradU m c) (rowU m c) (q 0).val (256 * (t / 16) + (q 1).val)) 1024 (Finset.sum_congr rfl fun s _ => ?_)
      dsimp only
      rw [Nat.mul_zero, Nat.zero_add]
    · rw [outsAt0_B m c ⟨t, ht⟩ h]
      dsimp only
      rw [left_B_13, weightsU m c ⟨t, ht⟩ (q 0).val _ h1]
      refine acc_succ (dwTerm (gradU m c) (rowU m c) (q 0).val (256 * (t / 16) + (q 1).val)) 1024 (t % 16) ?_ rfl
      refine (ent_eq _ q rfl rfl).symm.trans ?_
      refine (ih (t - 1) (by omega) (by omega) q).trans ?_
      rw [show (t - 1) % 16 + 1 = t % 16 by omega, show (t - 1) / 16 = t / 16 by omega]

theorem outs_14 : ∀ (t : ℕ) (ht : t < cfg0.N) (q : S1x256.Idx), (outsAt0 m c t ht).2.2.2.2.1 q
    = ∑ s ∈ Finset.range (1024 * (t % 16 + 1)), gradG m c s (256 * (t / 16) + (q 1).val) := by
  intro t
  induction t using Nat.strong_induction_on with
  | _ t ih =>
    intro ht q
    have h1 : (q 1).val < 256 := (q 1).isLt
    by_cases h : t % 16 = 0
    · rw [outsAt0_A m c ⟨t, ht⟩ h]
      dsimp only
      rw [left_A_14, biasG m c ⟨t, ht⟩ _ h1, h]
      refine acc_zero (fun s => gradG m c s (256 * (t / 16) + (q 1).val)) 1024 (Finset.sum_congr rfl fun s _ => ?_)
      dsimp only
      rw [Nat.mul_zero, Nat.zero_add]
    · rw [outsAt0_B m c ⟨t, ht⟩ h]
      dsimp only
      rw [left_B_14, biasG m c ⟨t, ht⟩ _ h1]
      refine acc_succ (fun s => gradG m c s (256 * (t / 16) + (q 1).val)) 1024 (t % 16) ?_ rfl
      show _ = _
      refine (ih (t - 1) (by omega) (by omega) q).trans ?_
      rw [show (t - 1) % 16 + 1 = t % 16 by omega, show (t - 1) / 16 = t / 16 by omega]

theorem outs_15 : ∀ (t : ℕ) (ht : t < cfg0.N) (q : S1x256.Idx), (outsAt0 m c t ht).2.2.2.2.2 q
    = ∑ s ∈ Finset.range (1024 * (t % 16 + 1)), gradU m c s (256 * (t / 16) + (q 1).val) := by
  intro t
  induction t using Nat.strong_induction_on with
  | _ t ih =>
    intro ht q
    have h1 : (q 1).val < 256 := (q 1).isLt
    by_cases h : t % 16 = 0
    · rw [outsAt0_A m c ⟨t, ht⟩ h]
      dsimp only
      rw [left_A_15, biasU m c ⟨t, ht⟩ _ h1, h]
      refine acc_zero (fun s => gradU m c s (256 * (t / 16) + (q 1).val)) 1024 (Finset.sum_congr rfl fun s _ => ?_)
      dsimp only
      rw [Nat.mul_zero, Nat.zero_add]
    · rw [outsAt0_B m c ⟨t, ht⟩ h]
      dsimp only
      rw [left_B_15, biasU m c ⟨t, ht⟩ _ h1]
      refine acc_succ (fun s => gradU m c s (256 * (t / 16) + (q 1).val)) 1024 (t % 16) ?_ rfl
      show _ = _
      refine (ih (t - 1) (by omega) (by omega) q).trans ?_
      rw [show (t - 1) % 16 + 1 = t % 16 by omega, show (t - 1) / 16 = t / 16 by omega]

/-- The input's gradient, first half. -/
def resInputG : S16384x2816.Idx → EReal := fun i => dz (weightG m c) (gradG m c) (i 0).val (i 1).val

theorem arr10 : ((dats m 0 c).arrAt 10 cfg0.N : Vec Ideal S16384x2816 .bf16) = resInputG m c :=
  (dats m 0 c).arrAt_eq_of_cover 10 (resInputG m c : Vec Ideal S16384x2816 .bf16) (fun t _ => by
      rw [flushed10]
      funext q
      refine (outs_10 m c t q).trans ?_
      show _ = dz (weightG m c) (gradG m c) (win0_10.index t 0 * 1024 + 1 * (q 0).val) (win0_10.index t 1 * 256 + 1 * (q 1).val)
      obtain ⟨e0, e1⟩ := blk_at 1024 _ _ (q 0).val (q 1).val (index10 t).1 (index10 t).2
      rw [e0, e1]) fun i => by
    have hN : cfg0.N = 176 := N_0
    have h0 : (i 0 : Nat) < 16384 := (i 0).isLt
    have h1 : (i 1 : Nat) < 2816 := (i 1).isLt
    let t : Fin cfg0.N := ⟨16 * ((i 1).val / 256) + (i 0).val / 1024, by omega⟩
    have e0 : t.val % 16 = (i 0).val / 1024 := by show (16 * ((i 1).val / 256) + (i 0).val / 1024) % 16 = _; omega
    have e1 : t.val / 16 = (i 1).val / 256 := by show (16 * ((i 1).val / 256) + (i 0).val / 1024) / 16 = _; omega
    refine ⟨t, flush0_10 t, ?_⟩
    show i ∈ ((View.whole main_v0_0).slice (win0_10.rect t)).set
    rw [View.set_slice_whole, Rect.mem_set_unit]
    intro a
    match a with
    | ⟨0, _⟩ =>
      show win0_10.index t 0 * 1024 ≤ (i 0 : Nat) ∧ (i 0 : Nat) < win0_10.index t 0 * 1024 + 1024
      rw [(index10 t).1, e0]; omega
    | ⟨1, _⟩ =>
      show win0_10.index t 1 * 256 ≤ (i 1 : Nat) ∧ (i 1 : Nat) < win0_10.index t 1 * 256 + 256
      rw [(index10 t).2, e1]; omega

/-- The input's gradient, second half. -/
def resInputU : S16384x2816.Idx → EReal := fun i => dz (weightU m c) (gradU m c) (i 0).val (i 1).val

theorem arr11 : ((dats m 0 c).arrAt 11 cfg0.N : Vec Ideal S16384x2816 .bf16) = resInputU m c :=
  (dats m 0 c).arrAt_eq_of_cover 11 (resInputU m c : Vec Ideal S16384x2816 .bf16) (fun t _ => by
      rw [flushed11]
      funext q
      refine (outs_11 m c t q).trans ?_
      show _ = dz (weightU m c) (gradU m c) (win0_11.index t 0 * 1024 + 1 * (q 0).val) (win0_11.index t 1 * 256 + 1 * (q 1).val)
      obtain ⟨e0, e1⟩ := blk_at 1024 _ _ (q 0).val (q 1).val (index11 t).1 (index11 t).2
      rw [e0, e1]) fun i => by
    have hN : cfg0.N = 176 := N_0
    have h0 : (i 0 : Nat) < 16384 := (i 0).isLt
    have h1 : (i 1 : Nat) < 2816 := (i 1).isLt
    let t : Fin cfg0.N := ⟨16 * ((i 1).val / 256) + (i 0).val / 1024, by omega⟩
    have e0 : t.val % 16 = (i 0).val / 1024 := by show (16 * ((i 1).val / 256) + (i 0).val / 1024) % 16 = _; omega
    have e1 : t.val / 16 = (i 1).val / 256 := by show (16 * ((i 1).val / 256) + (i 0).val / 1024) / 16 = _; omega
    refine ⟨t, flush0_11 t, ?_⟩
    show i ∈ ((View.whole main_v0_1).slice (win0_11.rect t)).set
    rw [View.set_slice_whole, Rect.mem_set_unit]
    intro a
    match a with
    | ⟨0, _⟩ =>
      show win0_11.index t 0 * 1024 ≤ (i 0 : Nat) ∧ (i 0 : Nat) < win0_11.index t 0 * 1024 + 1024
      rw [(index11 t).1, e0]; omega
    | ⟨1, _⟩ =>
      show win0_11.index t 1 * 256 ≤ (i 1 : Nat) ∧ (i 1 : Nat) < win0_11.index t 1 * 256 + 256
      rw [(index11 t).2, e1]; omega

def totWeightsG (n k j : ℕ) : EReal := ∑ s ∈ Finset.range n, dwTerm (gradG m c) (rowG m c) k j s

def resWeightsG : S3x2816.Idx → EReal := fun i => totWeightsG m c 16384 (i 0).val (i 1).val

theorem arr12_of (F : ℕ → ℕ → EReal)
    (hF : ∀ t : Fin cfg0.N, t.val % 16 = 15 → ∀ q, (outsAt0 m c t.val t.isLt).2.2.1 q = F (q 0).val (256 * (t.val / 16) + (q 1).val)) :
    ((dats m 0 c).arrAt 12 cfg0.N : Vec Ideal S3x2816 .f32) = (fun i => F (i 0).val (i 1).val : Vec Ideal S3x2816 .f32) :=
  (dats m 0 c).arrAt_eq_of_cover 12 (fun i => F (i 0).val (i 1).val : Vec Ideal S3x2816 .f32) (fun t hf => by
      rw [flushed12]
      funext q
      refine (hF t ((flush0_12 t).mp hf) q).trans ?_
      show _ = F (win0_12.index t 0 * 3 + 1 * (q 0).val) (win0_12.index t 1 * 256 + 1 * (q 1).val)
      obtain ⟨e0, e1⟩ := blk_at 3 _ _ (q 0).val (q 1).val (index12 t).1 (index12 t).2
      rw [e0, e1, Nat.mul_zero, Nat.zero_add]) fun i => by
    have hN : cfg0.N = 176 := N_0
    have h0 : (i 0 : Nat) < 3 := (i 0).isLt
    have h1 : (i 1 : Nat) < 2816 := (i 1).isLt
    let t : Fin cfg0.N := ⟨16 * ((i 1).val / 256) + 15, by omega⟩
    have e1 : t.val / 16 = (i 1).val / 256 := by show (16 * ((i 1).val / 256) + 15) / 16 = _; omega
    refine ⟨t, (flush0_12 t).mpr (by show (16 * ((i 1).val / 256) + 15) % 16 = 15; omega), ?_⟩
    show i ∈ ((View.whole main_v0_2).slice (win0_12.rect t)).set
    rw [View.set_slice_whole, Rect.mem_set_unit]
    intro a
    match a with
    | ⟨0, _⟩ =>
      show win0_12.index t 0 * 3 ≤ (i 0 : Nat) ∧ (i 0 : Nat) < win0_12.index t 0 * 3 + 3
      rw [(index12 t).1]; omega
    | ⟨1, _⟩ =>
      show win0_12.index t 1 * 256 ≤ (i 1 : Nat) ∧ (i 1 : Nat) < win0_12.index t 1 * 256 + 256
      rw [(index12 t).2, e1]; omega

theorem arr12 : ((dats m 0 c).arrAt 12 cfg0.N : Vec Ideal S3x2816 .f32) = resWeightsG m c :=
  arr12_of m c (totWeightsG m c 16384) fun t h15 q => by
    have e : (outsAt0 m c t.val t.isLt).2.2.1 q = totWeightsG m c (1024 * (t.val % 16 + 1)) (q 0).val (256 * (t.val / 16) + (q 1).val) :=
      outs_12 m c t.val t.isLt q
    rw [h15] at e
    exact e

def totWeightsU (n k j : ℕ) : EReal := ∑ s ∈ Finset.range n, dwTerm (gradU m c) (rowU m c) k j s

def resWeightsU : S3x2816.Idx → EReal := fun i => totWeightsU m c 16384 (i 0).val (i 1).val

theorem arr13_of (F : ℕ → ℕ → EReal)
    (hF : ∀ t : Fin cfg0.N, t.val % 16 = 15 → ∀ q, (outsAt0 m c t.val t.isLt).2.2.2.1 q = F (q 0).val (256 * (t.val / 16) + (q 1).val)) :
    ((dats m 0 c).arrAt 13 cfg0.N : Vec Ideal S3x2816 .f32) = (fun i => F (i 0).val (i 1).val : Vec Ideal S3x2816 .f32) :=
  (dats m 0 c).arrAt_eq_of_cover 13 (fun i => F (i 0).val (i 1).val : Vec Ideal S3x2816 .f32) (fun t hf => by
      rw [flushed13]
      funext q
      refine (hF t ((flush0_13 t).mp hf) q).trans ?_
      show _ = F (win0_13.index t 0 * 3 + 1 * (q 0).val) (win0_13.index t 1 * 256 + 1 * (q 1).val)
      obtain ⟨e0, e1⟩ := blk_at 3 _ _ (q 0).val (q 1).val (index13 t).1 (index13 t).2
      rw [e0, e1, Nat.mul_zero, Nat.zero_add]) fun i => by
    have hN : cfg0.N = 176 := N_0
    have h0 : (i 0 : Nat) < 3 := (i 0).isLt
    have h1 : (i 1 : Nat) < 2816 := (i 1).isLt
    let t : Fin cfg0.N := ⟨16 * ((i 1).val / 256) + 15, by omega⟩
    have e1 : t.val / 16 = (i 1).val / 256 := by show (16 * ((i 1).val / 256) + 15) / 16 = _; omega
    refine ⟨t, (flush0_13 t).mpr (by show (16 * ((i 1).val / 256) + 15) % 16 = 15; omega), ?_⟩
    show i ∈ ((View.whole main_v0_3).slice (win0_13.rect t)).set
    rw [View.set_slice_whole, Rect.mem_set_unit]
    intro a
    match a with
    | ⟨0, _⟩ =>
      show win0_13.index t 0 * 3 ≤ (i 0 : Nat) ∧ (i 0 : Nat) < win0_13.index t 0 * 3 + 3
      rw [(index13 t).1]; omega
    | ⟨1, _⟩ =>
      show win0_13.index t 1 * 256 ≤ (i 1 : Nat) ∧ (i 1 : Nat) < win0_13.index t 1 * 256 + 256
      rw [(index13 t).2, e1]; omega

theorem arr13 : ((dats m 0 c).arrAt 13 cfg0.N : Vec Ideal S3x2816 .f32) = resWeightsU m c :=
  arr13_of m c (totWeightsU m c 16384) fun t h15 q => by
    have e : (outsAt0 m c t.val t.isLt).2.2.2.1 q = totWeightsU m c (1024 * (t.val % 16 + 1)) (q 0).val (256 * (t.val / 16) + (q 1).val) :=
      outs_13 m c t.val t.isLt q
    rw [h15] at e
    exact e

def totBiasG (n j : ℕ) : EReal := ∑ s ∈ Finset.range n, gradG m c s j

def resBiasG : S1x2816.Idx → EReal := fun i => totBiasG m c 16384 (i 1).val

theorem arr14_of (F : ℕ → EReal)
    (hF : ∀ t : Fin cfg0.N, t.val % 16 = 15 → ∀ q, (outsAt0 m c t.val t.isLt).2.2.2.2.1 q = F (256 * (t.val / 16) + (q 1).val)) :
    ((dats m 0 c).arrAt 14 cfg0.N : Vec Ideal S1x2816 .f32) = (fun i => F (i 1).val : Vec Ideal S1x2816 .f32) :=
  (dats m 0 c).arrAt_eq_of_cover 14 (fun i => F (i 1).val : Vec Ideal S1x2816 .f32) (fun t hf => by
      rw [flushed14]
      funext q
      refine (hF t ((flush0_14 t).mp hf) q).trans ?_
      show _ = F (win0_14.index t 1 * 256 + 1 * (q 1).val)
      obtain ⟨e0, e1⟩ := blk_at 1 _ _ (q 0).val (q 1).val (index14 t).1 (index14 t).2
      rw [e1]) fun i => by
    have hN : cfg0.N = 176 := N_0
    have h0 : (i 0 : Nat) < 1 := (i 0).isLt
    have h1 : (i 1 : Nat) < 2816 := (i 1).isLt
    let t : Fin cfg0.N := ⟨16 * ((i 1).val / 256) + 15, by omega⟩
    have e1 : t.val / 16 = (i 1).val / 256 := by show (16 * ((i 1).val / 256) + 15) / 16 = _; omega
    refine ⟨t, (flush0_14 t).mpr (by show (16 * ((i 1).val / 256) + 15) % 16 = 15; omega), ?_⟩
    show i ∈ ((View.whole main_v0_4).slice (win0_14.rect t)).set
    rw [View.set_slice_whole, Rect.mem_set_unit]
    intro a
    match a with
    | ⟨0, _⟩ =>
      show win0_14.index t 0 * 1 ≤ (i 0 : Nat) ∧ (i 0 : Nat) < win0_14.index t 0 * 1 + 1
      rw [(index14 t).1]; omega
    | ⟨1, _⟩ =>
      show win0_14.index t 1 * 256 ≤ (i 1 : Nat) ∧ (i 1 : Nat) < win0_14.index t 1 * 256 + 256
      rw [(index14 t).2, e1]; omega

theorem arr14 : ((dats m 0 c).arrAt 14 cfg0.N : Vec Ideal S1x2816 .f32) = resBiasG m c :=
  arr14_of m c (totBiasG m c 16384) fun t h15 q => by
    have e : (outsAt0 m c t.val t.isLt).2.2.2.2.1 q = totBiasG m c (1024 * (t.val % 16 + 1)) (256 * (t.val / 16) + (q 1).val) :=
      outs_14 m c t.val t.isLt q
    rw [h15] at e
    exact e

def totBiasU (n j : ℕ) : EReal := ∑ s ∈ Finset.range n, gradU m c s j

def resBiasU : S1x2816.Idx → EReal := fun i => totBiasU m c 16384 (i 1).val

theorem arr15_of (F : ℕ → EReal)
    (hF : ∀ t : Fin cfg0.N, t.val % 16 = 15 → ∀ q, (outsAt0 m c t.val t.isLt).2.2.2.2.2 q = F (256 * (t.val / 16) + (q 1).val)) :
    ((dats m 0 c).arrAt 15 cfg0.N : Vec Ideal S1x2816 .f32) = (fun i => F (i 1).val : Vec Ideal S1x2816 .f32) :=
  (dats m 0 c).arrAt_eq_of_cover 15 (fun i => F (i 1).val : Vec Ideal S1x2816 .f32) (fun t hf => by
      rw [flushed15]
      funext q
      refine (hF t ((flush0_15 t).mp hf) q).trans ?_
      show _ = F (win0_15.index t 1 * 256 + 1 * (q 1).val)
      obtain ⟨e0, e1⟩ := blk_at 1 _ _ (q 0).val (q 1).val (index15 t).1 (index15 t).2
      rw [e1]) fun i => by
    have hN : cfg0.N = 176 := N_0
    have h0 : (i 0 : Nat) < 1 := (i 0).isLt
    have h1 : (i 1 : Nat) < 2816 := (i 1).isLt
    let t : Fin cfg0.N := ⟨16 * ((i 1).val / 256) + 15, by omega⟩
    have e1 : t.val / 16 = (i 1).val / 256 := by show (16 * ((i 1).val / 256) + 15) / 16 = _; omega
    refine ⟨t, (flush0_15 t).mpr (by show (16 * ((i 1).val / 256) + 15) % 16 = 15; omega), ?_⟩
    show i ∈ ((View.whole main_v0_5).slice (win0_15.rect t)).set
    rw [View.set_slice_whole, Rect.mem_set_unit]
    intro a
    match a with
    | ⟨0, _⟩ =>
      show win0_15.index t 0 * 1 ≤ (i 0 : Nat) ∧ (i 0 : Nat) < win0_15.index t 0 * 1 + 1
      rw [(index15 t).1]; omega
    | ⟨1, _⟩ =>
      show win0_15.index t 1 * 256 ≤ (i 1 : Nat) ∧ (i 1 : Nat) < win0_15.index t 1 * 256 + 256
      rw [(index15 t).2, e1]; omega

theorem arr15 : ((dats m 0 c).arrAt 15 cfg0.N : Vec Ideal S1x2816 .f32) = resBiasU m c :=
  arr15_of m c (totBiasU m c 16384) fun t h15 q => by
    have e : (outsAt0 m c t.val t.isLt).2.2.2.2.2 q = totBiasU m c (1024 * (t.val % 16 + 1)) (256 * (t.val / 16) + (q 1).val) :=
      outs_15 m c t.val t.isLt q
    rw [h15] at e
    exact e

end Cert.ConvGluIdeal.Rows

end
-- ==== Proof.ConvGluRef.lean ====
module

public import proofs.«01_k».proof.Proof.ConvMath
public import proofs.«01_k».proof.Proof.Gen.ConvGluRefIdeal.Run
public import proofs.«01_k».proof.Proof.Gen.ConvGluRefIdeal.Read

@[expose] public section

/-! The reference of the gate and the convolution backwards, entry by entry: the gate's gradient, the two halves side by side, and the
    convolution's gradients towards its input, weights and bias. -/

set_option maxRecDepth 16384

noncomputable section

namespace Cert.ConvGluRefIdeal.Rows

open Cert.ConvGluRefIdeal Cert.ConvGluRefIdeal.Gen Cert.ConvGluRefIdeal.Read Cert.Products Cert.Norms Cert.Conv
open Idealize.ShloMosaic Idealize.ShloMosaic.TcCoe Idealize.ShloMosaic.ValueIdx
open scoped BigOperators

variable (z : (⟨S16384x5632, .bf16⟩ : BufTy).Contents (Elt Ideal)) (g u : (⟨S16384x2816, .bf16⟩ : BufTy).Contents (Elt Ideal))
  (d : (⟨S16384x2816, .f32⟩ : BufTy).Contents (Elt Ideal)) (w : (⟨S3x5632, .f32⟩ : BufTy).Contents (Elt Ideal))

theorem gateG_eq (i : S16384x2816.Idx) : val_main_v41 (F := Ideal) g u d i = refG (g i) (u i) (d i) := rfl
theorem gateU_eq (i : S16384x2816.Idx) : val_main_v26 (F := Ideal) g d i = refU (g i) (d i) := rfl

/-- The gradient of the convolution's output. -/
abbrev grad : ℕ → ℕ → EReal := ent (val_main_v70 (F := Ideal) g u d)

/-- The gate's gradient towards its two halves, over the rows there are. -/
def gradG : ℕ → ℕ → EReal := cut 16384 fun i j => dG (ent g i j) (ent u i j) (ent d i j)
def gradU : ℕ → ℕ → EReal := cut 16384 fun i j => dU (ent g i j) (ent d i j)

theorem grad_low (hu : ∀ p, ∃ r : ℝ, (u p : EReal) = r) (hd : ∀ p, ∃ r : ℝ, (d p : EReal) = r) (i j : ℕ) (hj : j < 2816) :
    grad g u d i j = gradG g u d i j := by
  unfold gradG cut
  by_cases hi : i < 16384
  · rw [if_pos hi]
    refine (ent_eq _ (ix2 ⟨i, hi⟩ ⟨j, by omega⟩ : S16384x5632.Idx) rfl rfl).symm.trans ?_
    unfold val_main_v70
    refine (concat_ent (m := 16384) (n₁ := 2816) (n₂ := 2816) (n := 5632) _ _ _ rfl _).trans ?_
    unfold beside
    rw [if_pos (show ((ix2 (⟨i, hi⟩ : Fin 16384) (⟨j, by omega⟩ : Fin 5632)) 1).val < 2816 from hj)]
    refine (ent_eq _ (ix2 ⟨i, hi⟩ ⟨j, hj⟩ : S16384x2816.Idx) rfl rfl).symm.trans ?_
    rw [gateG_eq]
    obtain ⟨r, hr⟩ := hu (ix2 ⟨i, hi⟩ ⟨j, hj⟩)
    obtain ⟨s, hs⟩ := hd (ix2 ⟨i, hi⟩ ⟨j, hj⟩)
    refine Eq.trans ?_ ((refG_eq (g (ix2 ⟨i, hi⟩ ⟨j, hj⟩)) r s).trans ?_)
    · exact congrArg₂ (refG _) hr hs
    · refine (congrArg₂ (dG _) hr hs).symm.trans ?_
      show dG _ _ _ = dG _ _ _
      rw [ent_eq g (ix2 ⟨i, hi⟩ ⟨j, hj⟩ : S16384x2816.Idx) (i := i) (j := j) rfl rfl,
        ent_eq u (ix2 ⟨i, hi⟩ ⟨j, hj⟩ : S16384x2816.Idx) (i := i) (j := j) rfl rfl,
        ent_eq d (ix2 ⟨i, hi⟩ ⟨j, hj⟩ : S16384x2816.Idx) (i := i) (j := j) rfl rfl]
  · rw [if_neg hi]
    unfold grad ent
    rw [dif_neg fun h => hi h.1]

theorem grad_high (i j : ℕ) (hj : j < 2816) : grad g u d i (2816 + j) = gradU g d i j := by
  unfold gradU cut
  by_cases hi : i < 16384
  · rw [if_pos hi]
    refine (ent_eq _ (ix2 ⟨i, hi⟩ ⟨2816 + j, by omega⟩ : S16384x5632.Idx) rfl rfl).symm.trans ?_
    unfold val_main_v70
    refine (concat_ent (m := 16384) (n₁ := 2816) (n₂ := 2816) (n := 5632) _ _ _ rfl _).trans ?_
    unfold beside
    rw [if_neg (show ¬((ix2 (⟨i, hi⟩ : Fin 16384) (⟨2816 + j, by omega⟩ : Fin 5632)) 1).val < 2816 from by show ¬(2816 + j < 2816); omega)]
    refine (ent_eq _ (ix2 ⟨i, hi⟩ ⟨j, hj⟩ : S16384x2816.Idx) rfl (by show j = 2816 + j - 2816; omega)).symm.trans ?_
    rw [gateU_eq, refU_eq]
    exact congrArg₂ dU (ent_eq g _ rfl rfl) (ent_eq d _ rfl rfl)
  · rw [if_neg hi]
    unfold grad ent
    rw [dif_neg fun h => hi h.1]

theorem grad_far (i j : ℕ) (hi : 16384 ≤ i) : grad g u d i j = 0 := by
  unfold grad ent
  rw [dif_neg fun h => absurd h.1 (by omega)]

/-! ## The rows of the padded input -/

theorem padded_eq (p : S16386x5632.Idx) : val_main_v45 (F := Ideal) z p = if 2 ≤ (p 0).val then ent z ((p 0).val - 2) (p 1).val else 0 := by
  have h1 : (p 1).val < 5632 := (p 1).isLt
  unfold val_main_v45
  refine (concatRows (m₁ := 2) (m₂ := 16384) (m := 16386) (n := 5632) _ _ _ rfl p).trans ?_
  unfold below
  by_cases h : (p 0).val < 2
  · rw [if_pos h, if_neg (by omega), ← ent_eq _ (ix2 ⟨(p 0).val, h⟩ ⟨(p 1).val, h1⟩ : S2x5632.Idx) rfl rfl]
    exact ofBits_zero
  · rw [if_neg h, if_pos (by omega)]
    rfl

/-! ## The convolution's input -/

theorem w0_eq (i : S16384x5632.Idx) : val_main_v94 (F := Ideal) w i = ent w 0 (i 1).val := by
  have h1 : (i 1).val < 5632 := (i 1).isLt
  rw [val_main_v94_apply, val_main_v50_apply, val_main_v48_apply, val_main_v47_apply]
  exact ent_eq w _ rfl (Nat.mod_eq_of_lt h1)
theorem w1_eq (i : S16384x5632.Idx) : val_main_v83 (F := Ideal) w i = ent w 1 (i 1).val := by
  have h1 : (i 1).val < 5632 := (i 1).isLt
  rw [val_main_v83_apply, val_main_v56_apply, val_main_v54_apply, val_main_v53_apply]
  exact ent_eq w _ rfl (Nat.mod_eq_of_lt h1)
theorem w2_eq (i : S16384x5632.Idx) : val_main_v74 (F := Ideal) w i = ent w 2 (i 1).val := by
  have h1 : (i 1).val < 5632 := (i 1).isLt
  rw [val_main_v74_apply, val_main_v63_apply, val_main_v61_apply, val_main_v60_apply]
  exact ent_eq w _ rfl (Nat.mod_eq_of_lt h1)

/-- A row of weights times the gradient, over the rows there are. -/
theorem ent_times (x : FVec Ideal S16384x5632 .f32) (k : ℕ) (hx : ∀ i : S16384x5632.Idx, x i = ent w k (i 1).val * val_main_v70 (F := Ideal) g u d i)
    (a b : ℕ) (hb : b < 5632) : ent x a b = ent w k b * grad g u d a b := by
  by_cases ha : a < 16384
  · refine (ent_eq x (ix2 ⟨a, ha⟩ ⟨b, hb⟩ : S16384x5632.Idx) rfl rfl).symm.trans ((hx _).trans (congrArg₂ (· * ·) rfl (ent_eq _ _ rfl rfl)))
  · rw [grad_far g u d a b (by omega), mul_zero]
    unfold ent
    rw [dif_neg fun h => ha h.1]

theorem conv_eq (i : S16384x5632.Idx) :
    val_main_v106 (F := Ideal) g u d w i = dz (ent w) (grad g u d) (i 0).val (i 1).val := by
  have h0 : (i 0).val < 16384 := (i 0).isLt
  have h1 : (i 1).val < 5632 := (i 1).isLt
  rw [val_main_v106_apply, val_main_v101_apply, val_main_v90_apply]
  have e2 : val_main_v80 (F := Ideal) g u d w (idx_main_v106 i) = ent w 2 (i 1).val * grad g u d (i 0).val (i 1).val := by
    unfold val_main_v80
    refine (padRows (m := 16384) (n := 5632) (M := 16386) 2 0 _ _ (fun _ => ofBits_zero) _ _ _).trans ?_
    rw [if_pos (show 2 ≤ 2 + (i 0).val by omega)]
    refine Eq.trans ?_ (ent_times g u d w _ 2 (fun p => congrArg₂ (· * ·) (w2_eq w p) rfl) (i 0).val (i 1).val h1)
    exact congrArg (fun a => ent _ a (i 1).val) (show 2 + (i 0).val - 2 = (i 0).val by omega)
  have e1 : val_main_v89 (F := Ideal) g u d w (idx_main_v106 i) = ent w 1 (i 1).val * grad g u d ((i 0).val + 1) (i 1).val := by
    unfold val_main_v89
    refine (padRows (m := 16384) (n := 5632) (M := 16386) 1 1 _ _ (fun _ => ofBits_zero) _ _ _).trans ?_
    rw [if_pos (show 1 ≤ 2 + (i 0).val by omega)]
    refine Eq.trans ?_ (ent_times g u d w _ 1 (fun p => congrArg₂ (· * ·) (w1_eq w p) rfl) ((i 0).val + 1) (i 1).val h1)
    exact congrArg (fun a => ent _ a (i 1).val) (show 2 + (i 0).val - 1 = (i 0).val + 1 by omega)
  have e0 : val_main_v100 (F := Ideal) g u d w (idx_main_v106 i) = ent w 0 (i 1).val * grad g u d ((i 0).val + 2) (i 1).val := by
    unfold val_main_v100
    refine (padRows (m := 16384) (n := 5632) (M := 16386) 0 2 _ _ (fun _ => ofBits_zero) _ _ _).trans ?_
    rw [if_pos (show 0 ≤ 2 + (i 0).val by omega)]
    refine Eq.trans ?_ (ent_times g u d w _ 0 (fun p => congrArg₂ (· * ·) (w0_eq w p) rfl) ((i 0).val + 2) (i 1).val h1)
    exact congrArg (fun a => ent _ a (i 1).val) (show 2 + (i 0).val - 0 = (i 0).val + 2 by omega)
  rw [e0, e1, e2]
  rfl

/-! ## The convolution's weights and bias -/

theorem row2_eq (i : S1x5632.Idx) : val_main_v81 (F := Ideal) z g u d i = ∑ s ∈ Finset.range 16384, dwTerm (grad g u d) (ent z) 2 (i 1).val s := by
  have h1 : (i 1).val < 5632 := (i 1).isLt
  rw [val_main_v81_apply, val_main_v79_apply]
  show Ideal.ofBits .f32 0x00000000#32 + _ = _
  rw [ofBits_zero, zero_add, Fin.sum_univ_one, val_main_v78_apply, val_main_v77_apply]
  show Ideal.ofBits .f32 0x00000000#32 + _ = _
  rw [ofBits_zero, zero_add, Finset.sum_range]
  refine Finset.sum_congr rfl fun k _ => ?_
  rw [val_main_v76_apply, val_main_v62_apply, padded_eq]
  unfold dwTerm
  refine congrArg₂ (· * ·) (ent_eq _ _ rfl ?_) ?_
  · show 0 * 5632 + (i 1).val = (i 1).val; omega
  · rw [if_pos (show 2 ≤ 2 + k.val by omega)]
    exact congrArg₂ (ent z) (show 2 + k.val - 2 = k.val by omega) (show 0 * 5632 + (i 1).val = (i 1).val by omega)

theorem row1_eq (i : S1x5632.Idx) : val_main_v91 (F := Ideal) z g u d i = ∑ s ∈ Finset.range 16384, dwTerm (grad g u d) (ent z) 1 (i 1).val s := by
  have h1 : (i 1).val < 5632 := (i 1).isLt
  rw [val_main_v91_apply, val_main_v88_apply]
  show Ideal.ofBits .f32 0x00000000#32 + _ = _
  rw [ofBits_zero, zero_add, Fin.sum_univ_one, val_main_v87_apply, val_main_v86_apply]
  show Ideal.ofBits .f32 0x00000000#32 + _ = _
  rw [ofBits_zero, zero_add]
  refine Eq.trans ?_ (shift_sum 16384 1 (fun s => grad g u d s (i 1).val) (fun s => ent z s (i 1).val) (by omega) fun s hs => grad_far g u d s _ hs)
  rw [Finset.sum_range]
  refine Finset.sum_congr rfl fun k _ => ?_
  rw [val_main_v85_apply, val_main_v55_apply, padded_eq]
  refine congrArg₂ (· * ·) (ent_eq _ _ rfl ?_) ?_
  · show 0 * 5632 + (i 1).val = (i 1).val; omega
  · by_cases hk : 1 ≤ k.val
    · rw [if_pos hk, if_pos (show 2 ≤ 1 + k.val by omega)]
      exact congrArg₂ (ent z) (show 1 + k.val - 2 = k.val - 1 by omega) (show 0 * 5632 + (i 1).val = (i 1).val by omega)
    · rw [if_neg hk, if_neg (show ¬2 ≤ 1 + k.val by omega)]

theorem row0_eq (i : S1x5632.Idx) : val_main_v102 (F := Ideal) z g u d i = ∑ s ∈ Finset.range 16384, dwTerm (grad g u d) (ent z) 0 (i 1).val s := by
  have h1 : (i 1).val < 5632 := (i 1).isLt
  rw [val_main_v102_apply, val_main_v99_apply]
  show Ideal.ofBits .f32 0x00000000#32 + _ = _
  rw [ofBits_zero, zero_add, Fin.sum_univ_one, val_main_v98_apply, val_main_v97_apply]
  show Ideal.ofBits .f32 0x00000000#32 + _ = _
  rw [ofBits_zero, zero_add]
  refine Eq.trans ?_ (shift_sum 16384 2 (fun s => grad g u d s (i 1).val) (fun s => ent z s (i 1).val) (by omega) fun s hs => grad_far g u d s _ hs)
  rw [Finset.sum_range]
  refine Finset.sum_congr rfl fun k _ => ?_
  rw [val_main_v96_apply, val_main_v49_apply, padded_eq]
  refine congrArg₂ (· * ·) (ent_eq _ _ rfl ?_) ?_
  · show 0 * 5632 + (i 1).val = (i 1).val; omega
  · by_cases hk : 2 ≤ k.val
    · rw [if_pos hk, if_pos (show 2 ≤ k.val from hk)]
      exact congrArg₂ (ent z) rfl (show 0 * 5632 + (i 1).val = (i 1).val by omega)
    · rw [if_neg hk, if_neg (show ¬2 ≤ k.val from hk)]

/-- A row past the one there is. -/
theorem ent_past (x : FVec Ideal S1x5632 .f32) (a b : ℕ) (ha : 1 ≤ a) : ent x a b = 0 := by
  unfold ent
  rw [dif_neg fun h => absurd h.1 (by omega)]

theorem weights_eq (i : S3x5632.Idx) :
    val_main_v104 (F := Ideal) z g u d i = ∑ s ∈ Finset.range 16384, dwTerm (grad g u d) (ent z) (i 0).val (i 1).val s := by
  have h0 : (i 0).val < 3 := (i 0).isLt
  have h1 : (i 1).val < 5632 := (i 1).isLt
  have e2 : val_main_v82 (F := Ideal) z g u d i = if 2 ≤ (i 0).val then ent (val_main_v81 (F := Ideal) z g u d) ((i 0).val - 2) (i 1).val else 0 := by
    unfold val_main_v82
    exact padRows (m := 1) (n := 5632) (M := 3) 2 0 _ _ (fun _ => ofBits_zero) _ _ i
  have e1 : val_main_v92 (F := Ideal) z g u d i = if 1 ≤ (i 0).val then ent (val_main_v91 (F := Ideal) z g u d) ((i 0).val - 1) (i 1).val else 0 := by
    unfold val_main_v92
    exact padRows (m := 1) (n := 5632) (M := 3) 1 1 _ _ (fun _ => ofBits_zero) _ _ i
  have e0 : val_main_v103 (F := Ideal) z g u d i = if 0 ≤ (i 0).val then ent (val_main_v102 (F := Ideal) z g u d) ((i 0).val - 0) (i 1).val else 0 := by
    unfold val_main_v103
    exact padRows (m := 1) (n := 5632) (M := 3) 0 2 _ _ (fun _ => ofBits_zero) _ _ i
  rw [val_main_v104_apply, val_main_v93_apply, e2, e1, e0]
  show _ + _ + _ = _
  obtain h | h | h : (i 0).val = 0 ∨ (i 0).val = 1 ∨ (i 0).val = 2 := by omega
  · rw [h, if_neg (by omega), if_neg (by omega), if_pos (by omega), zero_add, zero_add]
    exact (ent_eq _ (ix2 0 ⟨(i 1).val, h1⟩ : S1x5632.Idx) rfl rfl).symm.trans (row0_eq z g u d _)
  · rw [h, if_neg (by omega), if_pos (by omega), if_pos (by omega), zero_add, ent_past (val_main_v102 (F := Ideal) z g u d) _ _ (by omega), add_zero]
    exact (ent_eq _ (ix2 0 ⟨(i 1).val, h1⟩ : S1x5632.Idx) rfl rfl).symm.trans (row1_eq z g u d _)
  · rw [h, if_pos (by omega), if_pos (by omega), if_pos (by omega), ent_past (val_main_v102 (F := Ideal) z g u d) _ _ (by omega),
      ent_past (val_main_v91 (F := Ideal) z g u d) _ _ (by omega), add_zero, add_zero]
    exact (ent_eq _ (ix2 0 ⟨(i 1).val, h1⟩ : S1x5632.Idx) rfl rfl).symm.trans (row2_eq z g u d _)

theorem bias_eq (i : S5632.Idx) : val_main_v73 (F := Ideal) g u d i = ∑ s ∈ Finset.range 16384, grad g u d s (i 0).val := by
  rw [val_main_v73_apply]
  show Ideal.ofBits .f32 0x00000000#32 + _ = _
  rw [ofBits_zero, zero_add, Fin.sum_univ_one, val_main_v72_apply, val_main_v71_apply]
  show Ideal.ofBits .f32 0x00000000#32 + _ = _
  rw [ofBits_zero, zero_add, Finset.sum_range]
  refine Finset.sum_congr rfl fun k _ => ?_
  refine ent_eq _ _ rfl ?_
  show 0 * 5632 + (i 0).val = (i 0).val
  omega

/-! ## The six results -/

theorem dz_congr (w w' D D' : ℕ → ℕ → EReal) (i j j' : ℕ) (hw : ∀ k, w k j = w' k j') (hD : ∀ k, D k j = D' k j') : dz w D i j = dz w' D' i j' := by
  unfold dz
  rw [hw, hw, hw, hD, hD, hD]

section
variable (hu : ∀ p, ∃ r : ℝ, (u p : EReal) = r) (hd : ∀ p, ∃ r : ℝ, (d p : EReal) = r)
include hu hd

theorem inputG_eq (i : S16384x2816.Idx) : val_main_v108 (F := Ideal) g u d w i = dz (ent w) (gradG g u d) (i 0).val (i 1).val := by
  have h1 : (i 1).val < 2816 := (i 1).isLt
  rw [val_main_v108_apply]
  exact (conv_eq g u d w _).trans (dz_congr _ _ _ _ _ _ _ (fun _ => rfl) fun k => grad_low g u d hu hd k _ h1)

theorem weightsG_eq (i : S3x2816.Idx) :
    val_main_v110 (F := Ideal) z g u d i = ∑ s ∈ Finset.range 16384, dwTerm (gradG g u d) (ent z) (i 0).val (i 1).val s := by
  have h1 : (i 1).val < 2816 := (i 1).isLt
  rw [val_main_v110_apply]
  refine (weights_eq z g u d _).trans (Finset.sum_congr rfl fun s _ => ?_)
  exact congrArg₂ (· * ·) (grad_low g u d hu hd _ _ h1) rfl

theorem biasG_eq (i : S1x2816.Idx) : val_main_v113 (F := Ideal) g u d i = ∑ s ∈ Finset.range 16384, gradG g u d s (i 1).val := by
  have h1 : (i 1).val < 2816 := (i 1).isLt
  rw [val_main_v113_apply, val_main_v112_apply]
  exact (bias_eq g u d _).trans (Finset.sum_congr rfl fun s _ => grad_low g u d hu hd _ _ h1)
end

theorem inputU_eq (i : S16384x2816.Idx) :
    val_main_v109 (F := Ideal) g u d w i = dz (fun k j => ent w k (2816 + j)) (gradU g d) (i 0).val (i 1).val := by
  have h1 : (i 1).val < 2816 := (i 1).isLt
  rw [val_main_v109_apply]
  exact (conv_eq g u d w _).trans (dz_congr _ _ _ _ _ _ _ (fun _ => rfl) fun k => grad_high g u d k _ h1)

theorem weightsU_eq (i : S3x2816.Idx) :
    val_main_v111 (F := Ideal) z g u d i = ∑ s ∈ Finset.range 16384, dwTerm (gradU g d) (fun a b => ent z a (2816 + b)) (i 0).val (i 1).val s := by
  have h1 : (i 1).val < 2816 := (i 1).isLt
  rw [val_main_v111_apply]
  refine (weights_eq z g u d _).trans (Finset.sum_congr rfl fun s _ => ?_)
  exact congrArg₂ (· * ·) (grad_high g u d _ _ h1) rfl

theorem biasU_eq (i : S1x2816.Idx) : val_main_v115 (F := Ideal) g u d i = ∑ s ∈ Finset.range 16384, gradU g d s (i 1).val := by
  have h1 : (i 1).val < 2816 := (i 1).isLt
  rw [val_main_v115_apply, val_main_v114_apply]
  exact (bias_eq g u d _).trans (Finset.sum_congr rfl fun s _ => grad_high g u d _ _ h1)

end Cert.ConvGluRefIdeal.Rows

end
-- ==== Proof.ConvGluCalls.lean ====
module

public import proofs.«01_k».proof.Defs
public import proofs.«01_k».proof.Proof.Gen.ConvGlu
public import proofs.«01_k».proof.Proof.Gen.ConvGlu.Frame
public import proofs.«01_k».proof.Proof.Gen.ConvGluIdeal
public import proofs.«01_k».proof.Proof.Gen.ConvGluIdeal.Frame
public import proofs.«01_k».proof.Proof.Gen.ConvGluRefIdeal
public import proofs.«01_k».proof.Proof.ConvGluValue
public import proofs.«01_k».proof.Proof.ConvGluRef
public import proofs.«01_k».proof.Proof.Finite
public import Idealize.ShloMosaic.Adequacy

@[expose] public section

/-! The claims of the gate and the convolution backwards: kernel and reference end with the same six arrays, the two halves of the
    gradients of the convolution's input, weights and bias. -/

set_option maxRecDepth 16384

noncomputable section

namespace Cert.Calls

open Cert.Products Cert.Norms Cert.Conv
open Idealize.ShloMosaic Idealize.ShloMosaic.TcCoe Idealize.SL.Sem Idealize.ShloMosaic.StableHlo
open scoped BigOperators

/-- The shape fact the precondition states. -/
instance gate_facts : Cert.Pre_finite_gate.Facts where
  bcast_S_S16384x2816 := by decide

theorem frame_ConvGlu : Cert.quiescent_ConvGluRefIdeal := fun m ρ _ =>
  (θ_run Cert.ConvGluRefIdeal.defs _ _).mono (fun r h => ⟨fun c => (h c).2.2.2.2.2.2, sem_eq_zero_of_no_sems (by decide) r.2⟩)
    (Cert.ConvGluRefIdeal.Value.run (F := Ideal) m ρ)

theorem preserves_ConvGlu : Cert.preserves_ConvGlu_ConvGluIdeal :=
  ⟨IdealRules.named_const.statement Cert.ConvGluIdeal.κ "cubic" .f32 0x3D372713#32 ((8943 / 200000 : ℝ) : EReal) rfl,
    IdealRules.named_const.statement Cert.ConvGluIdeal.κ "cubic3" .f32 0x3E095D4F#32 ((26829 / 200000 : ℝ) : EReal) rfl⟩

open Cert.ConvGluIdeal in
/-- Under the precondition the gate's other half and its incoming gradient hold real numbers. -/
theorem gate_real (m : (ℓ : Loc nD τ sig) → Buf (Elt Ideal) ℓ) (h : Cert.Pre_ConvGluIdeal_finite_gate m) (c : Dev nD) :
    (∀ p, ∃ r : ℝ, (Cert.ConvGluIdeal.Rows.inU m c p : EReal) = r) ∧ ∀ p, ∃ r : ℝ, (Cert.ConvGluIdeal.Rows.inD m c p : EReal) = r :=
  ⟨fun p => ⟨_, Cert.Finite.real_of_mask Cert.Finite.inf_bf16 (congrFun (h c).1 p)⟩,
    fun p => ⟨_, Cert.Finite.real_of_mask Cert.Finite.inf_f32 (congrFun (h c).2 p)⟩⟩

theorem algebraic_ConvGlu : Cert.algebraic_ConvGluIdeal_ConvGluRefIdeal_pre_finite_gate := by
  intro m g m' g' hpre hagree
  refine ⟨fun c => Cert.ConvGluIdeal.Rows.resInputG m c, fun c => Cert.ConvGluIdeal.Rows.resInputU m c,
    fun c => Cert.ConvGluIdeal.Rows.resWeightsG m c, fun c => Cert.ConvGluIdeal.Rows.resWeightsU m c,
    fun c => Cert.ConvGluIdeal.Rows.resBiasG m c, fun c => Cert.ConvGluIdeal.Rows.resBiasU m c, ?_, ?_⟩
  · refine (θ_run Cert.ConvGluIdeal.defs _ _).mono (fun r h c => ?_) (Cert.ConvGluIdeal.Value.run_blocks (F := Ideal) m g)
    obtain ⟨r0, r1, r2, r3, r4, r5, rest⟩ := h c
    exact ⟨r0.trans (Cert.ConvGluIdeal.Rows.arr10 m c), r1.trans (Cert.ConvGluIdeal.Rows.arr11 m c),
      r2.trans (Cert.ConvGluIdeal.Rows.arr12 m c), r3.trans (Cert.ConvGluIdeal.Rows.arr13 m c),
      r4.trans (Cert.ConvGluIdeal.Rows.arr14 m c), r5.trans (Cert.ConvGluIdeal.Rows.arr15 m c), rest⟩
  refine (θ_run Cert.ConvGluRefIdeal.defs _ _).mono (fun r h c => ?_) (Cert.ConvGluRefIdeal.Value.run (F := Ideal) m' g')
  obtain ⟨r0, r1, r2, r3, r4, r5, rest⟩ := h c
  obtain ⟨a0, a1, a2, a3, a4⟩ := hagree c
  obtain ⟨hu, hd⟩ := gate_real m hpre c
  refine ⟨(r0.trans (Cert.ConvGluRefIdeal.Read.val_main_v108_eq _ _)).trans (funext fun i => ?_),
    (r1.trans (Cert.ConvGluRefIdeal.Read.val_main_v109_eq _ _)).trans (funext fun i => ?_),
    (r2.trans (Cert.ConvGluRefIdeal.Read.val_main_v110_eq _ _)).trans (funext fun i => ?_),
    (r3.trans (Cert.ConvGluRefIdeal.Read.val_main_v111_eq _ _)).trans (funext fun i => ?_),
    (r4.trans (Cert.ConvGluRefIdeal.Read.val_main_v113_eq _ _)).trans (funext fun i => ?_),
    (r5.trans (Cert.ConvGluRefIdeal.Read.val_main_v115_eq _ _)).trans (funext fun i => ?_), rest⟩
  · rw [a1, a2, a3, a4]
    exact Cert.ConvGluRefIdeal.Rows.inputG_eq _ _ _ _ hu hd i
  · rw [a1, a2, a3, a4]
    exact Cert.ConvGluRefIdeal.Rows.inputU_eq _ _ _ _ i
  · rw [a0, a1, a2, a3]
    exact Cert.ConvGluRefIdeal.Rows.weightsG_eq _ _ _ _ hu hd i
  · rw [a0, a1, a2, a3]
    exact Cert.ConvGluRefIdeal.Rows.weightsU_eq _ _ _ _ i
  · rw [a1, a2, a3]
    exact Cert.ConvGluRefIdeal.Rows.biasG_eq _ _ _ hu hd i
  · rw [a1, a2, a3]
    exact Cert.ConvGluRefIdeal.Rows.biasU_eq _ _ _ i

end Cert.Calls

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.RefBackward
public import proofs.«01_k».proof.Proof.Calls
public import proofs.«01_k».proof.Proof.Gen.ConvGlu
public import proofs.«01_k».proof.Proof.Gen.ConvGlu.Frame
public import proofs.«01_k».proof.Proof.Gen.ConvGluIdeal
public import proofs.«01_k».proof.Proof.Gen.ConvGluIdeal.Frame
public import proofs.«01_k».proof.Proof.Gen.ConvGluIdeal.Value
public import proofs.«01_k».proof.Proof.Gen.ConvGluRefIdeal
public import proofs.«01_k».proof.Proof.Gen.ConvGluRefIdeal.Run
public import proofs.«01_k».proof.Proof.Gen.ConvGluRefIdeal.Read
public import proofs.«01_k».proof.Proof.OutCalls
public import proofs.«01_k».proof.Proof.NormCalls
public import proofs.«01_k».proof.Proof.ConvGluCalls
public import Idealize.ShloMosaic.Adequacy
public import Idealize.ShloMosaic.Init

@[expose] public section

noncomputable section

namespace Cert.Proof

open Cert.Lift Cert.Spec Idealize.ShloMosaic Idealize.SL.Sem

/-- The reference has no semaphore, so its run is its frame. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "cubic" .f32 0x3D372713#32 ((8943 / 200000 : ℝ) : EReal) rfl,
    IdealRules.named_const.statement Cert.KernelIdeal.κ "cubic3" .f32 0x3E095D4F#32 ((26829 / 200000 : ℝ) : EReal) rfl⟩

section
open Cert.ReferenceIdeal Cert.ReferenceIdeal.Sgu Cert.ReferenceIdeal.Read

/-- The reference's five results of arguments that hold real numbers. -/
theorem results (V0 : Valuation τ sig (Elt Ideal)) (w : ℕ → ℕ → ℕ → ℝ) (s : ℕ → ℕ → ℝ) (a b : ℕ → ℝ) (z d : ℕ → ℕ → ℝ)
    (h0 : V0 (Proc.devRef .tc main_arg0) = inZ z) (h1 : V0 (Proc.devRef .tc main_arg1) = inD d)
    (h2 : V0 (Proc.devRef .tc main_arg2) = inR a) (h3 : V0 (Proc.devRef .tc main_arg3) = inR b)
    (h4 : V0 (Proc.devRef .tc main_arg4) = inW w) (h5 : V0 (Proc.devRef .tc main_arg5) = inS s) :
    val_main_v140 (F := Ideal) (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        = (L2 (dz w s a b z d) : Vec Ideal S16384x4096 .bf16)
      ∧ val_main_v90 (F := Ideal) (V0 (Proc.devRef .tc main_arg0)) (V0 (Proc.devRef .tc main_arg1)) (V0 (Proc.devRef .tc main_arg2))
        (V0 (Proc.devRef .tc main_arg3)) = (L3 (dws a b z d 128) : Vec Ideal S8x128x128 .f32)
      ∧ val_main_v141 (F := Ideal) (V0 (Proc.devRef .tc main_arg0)) (V0 (Proc.devRef .tc main_arg1))
        = (L2 (dbs z d 128) : Vec Ideal S128x8 .f32)
      ∧ val_main_v142 (F := Ideal) (V0 (Proc.devRef .tc main_arg0)) (V0 (Proc.devRef .tc main_arg1)) (V0 (Proc.devRef .tc main_arg4))
        = (L2 (fun _ => dlng w z d 16384) : Vec Ideal S1x2048 .f32)
      ∧ val_main_v143 (F := Ideal) (V0 (Proc.devRef .tc main_arg0)) (V0 (Proc.devRef .tc main_arg1)) (V0 (Proc.devRef .tc main_arg4))
        = (L2 (fun _ => dlnb w z d 16384) : Vec Ideal S1x2048 .f32) := by
  rw [h0, h1, h2, h3, h4, h5]
  exact ⟨v140_eq .., v90_eq .., v141_eq .., v142_eq .., v143_eq ..⟩

end

theorem algebraic : Cert.algebraic_KernelIdeal_ReferenceIdeal_pre_finite := by
  intro m g m' g' hpre hagree
  choose w s a b z d hold using Cert.Finite.holds_of_pre m hpre
  refine ⟨fun c => (L2 (dz (w c) (s c) (a c) (b c) (z c) (d c)) : Vec Ideal Cert.KernelIdeal.S16384x4096 .bf16),
    fun c => (L3 (dws (a c) (b c) (z c) (d c) 128) : Vec Ideal Cert.KernelIdeal.S8x128x128 .f32),
    fun c => (L2 (dbs (z c) (d c) 128) : Vec Ideal Cert.KernelIdeal.S128x8 .f32),
    fun c => (L2 (fun _ => dlng (w c) (z c) (d c) 16384) : Vec Ideal Cert.KernelIdeal.S1x2048 .f32),
    fun c => (L2 (fun _ => dlnb (w c) (z c) (d c) 16384) : Vec Ideal Cert.KernelIdeal.S1x2048 .f32), ?_, ?_⟩
  · refine (θ_run Cert.KernelIdeal.defs _ _).mono (fun r h c => ?_) (Cert.KernelIdeal.Value.run_blocks (F := Ideal) m g)
    obtain ⟨r0, r1, r2, r3, r4, rest⟩ := h c
    exact ⟨r0.trans (Cert.KernelIdeal.Sgu.arr6 (hold c)), r1.trans (Cert.KernelIdeal.Sgu.arr7 (hold c)),
      r2.trans (Cert.KernelIdeal.Sgu.arr8 (hold c)), r3.trans (Cert.KernelIdeal.Sgu.arr9 (hold c)),
      r4.trans (Cert.KernelIdeal.Sgu.arr10 (hold c)), rest⟩
  · refine (θ_run Cert.ReferenceIdeal.defs _ _).mono (fun r h c => ?_) (Cert.ReferenceIdeal.Value.run (F := Ideal) m' g')
    obtain ⟨r0, r1, r2, r3, r4, rest⟩ := h c
    obtain ⟨a0, a1, a2, a3, a4, a5⟩ := hagree c
    obtain ⟨e0, e1, e2, e3, e4⟩ := results (StableHlo.launchContents m' c) (w c) (s c) (a c) (b c) (z c) (d c)
      (a0.trans (hold c).arg0) (a1.trans (hold c).arg1) (a2.trans (hold c).arg2) (a3.trans (hold c).arg3)
      (a4.trans (hold c).arg4) (a5.trans (hold c).arg5)
    exact ⟨r0.trans ((Cert.ReferenceIdeal.Read.val_main_v140_eq _).trans e0),
      r1.trans ((Cert.ReferenceIdeal.Read.val_main_v90_eq _).trans e1),
      r2.trans ((Cert.ReferenceIdeal.Read.val_main_v141_eq _).trans e2),
      r3.trans ((Cert.ReferenceIdeal.Read.val_main_v142_eq _).trans e3),
      r4.trans ((Cert.ReferenceIdeal.Read.val_main_v143_eq _).trans e4), rest⟩

theorem claim : Cert.Claim := ⟨Cert.Kernel.Gen.facts, Cert.KernelIdeal.Gen.facts, Cert.ReferenceIdeal.Gen.facts,
  Cert.UpW.Gen.facts, Cert.UpWIdeal.Gen.facts, Cert.UpWRefIdeal.Gen.facts,
  Cert.UpH.Gen.facts, Cert.UpHIdeal.Gen.facts, Cert.UpHRefIdeal.Gen.facts,
  Cert.UpH1.Gen.facts, Cert.UpH1Ideal.Gen.facts, Cert.UpH1RefIdeal.Gen.facts,
  Cert.DownW.Gen.facts, Cert.DownWIdeal.Gen.facts, Cert.DownWRefIdeal.Gen.facts,
  Cert.DownH.Gen.facts, Cert.DownHIdeal.Gen.facts, Cert.DownHRefIdeal.Gen.facts,
  Cert.CInW.Gen.facts, Cert.CInWIdeal.Gen.facts, Cert.CInWRefIdeal.Gen.facts,
  Cert.CInH.Gen.facts, Cert.CInHIdeal.Gen.facts, Cert.CInHRefIdeal.Gen.facts,
  Cert.COutW.Gen.facts, Cert.COutWIdeal.Gen.facts, Cert.COutWRefIdeal.Gen.facts,
  Cert.COutH.Gen.facts, Cert.COutHIdeal.Gen.facts, Cert.COutHRefIdeal.Gen.facts,
  Cert.AbOutW.Gen.facts, Cert.AbOutWIdeal.Gen.facts, Cert.AbOutWRefIdeal.Gen.facts,
  Cert.AbOutH.Gen.facts, Cert.AbOutHIdeal.Gen.facts, Cert.AbOutHRefIdeal.Gen.facts,
  Cert.Up0.Gen.facts, Cert.Up0Ideal.Gen.facts, Cert.Up0RefIdeal.Gen.facts,
  Cert.Up1.Gen.facts, Cert.Up1Ideal.Gen.facts, Cert.Up1RefIdeal.Gen.facts,
  Cert.CIn.Gen.facts, Cert.CInIdeal.Gen.facts, Cert.CInRefIdeal.Gen.facts,
  Cert.AbIn.Gen.facts, Cert.AbInIdeal.Gen.facts, Cert.AbInRefIdeal.Gen.facts,
  Cert.AbOut.Gen.facts, Cert.AbOutIdeal.Gen.facts, Cert.AbOutRefIdeal.Gen.facts,
  Cert.COut.Gen.facts, Cert.COutIdeal.Gen.facts, Cert.COutRefIdeal.Gen.facts,
  Cert.Norm.Gen.facts, Cert.NormIdeal.Gen.facts, Cert.NormRefIdeal.Gen.facts,
  Cert.ConvGlu.Gen.facts, Cert.ConvGluIdeal.Gen.facts, Cert.ConvGluRefIdeal.Gen.facts,
  Cert.Finite.facts, Cert.Calls.gate_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.UpW.Gen.frame m ρ, fun m ρ _ => Cert.UpWIdeal.Gen.frame m ρ, Cert.Calls.frame_UpW,
  fun m ρ _ => Cert.UpH.Gen.frame m ρ, fun m ρ _ => Cert.UpHIdeal.Gen.frame m ρ, Cert.Calls.frame_UpH,
  fun m ρ _ => Cert.UpH1.Gen.frame m ρ, fun m ρ _ => Cert.UpH1Ideal.Gen.frame m ρ, Cert.Calls.frame_UpH1,
  fun m ρ _ => Cert.DownW.Gen.frame m ρ, fun m ρ _ => Cert.DownWIdeal.Gen.frame m ρ, Cert.Calls.frame_DownW,
  fun m ρ _ => Cert.DownH.Gen.frame m ρ, fun m ρ _ => Cert.DownHIdeal.Gen.frame m ρ, Cert.Calls.frame_DownH,
  fun m ρ _ => Cert.CInW.Gen.frame m ρ, fun m ρ _ => Cert.CInWIdeal.Gen.frame m ρ, Cert.Calls.frame_CInW,
  fun m ρ _ => Cert.CInH.Gen.frame m ρ, fun m ρ _ => Cert.CInHIdeal.Gen.frame m ρ, Cert.Calls.frame_CInH,
  fun m ρ _ => Cert.COutW.Gen.frame m ρ, fun m ρ _ => Cert.COutWIdeal.Gen.frame m ρ, Cert.Calls.frame_COutW,
  fun m ρ _ => Cert.COutH.Gen.frame m ρ, fun m ρ _ => Cert.COutHIdeal.Gen.frame m ρ, Cert.Calls.frame_COutH,
  fun m ρ _ => Cert.AbOutW.Gen.frame m ρ, fun m ρ _ => Cert.AbOutWIdeal.Gen.frame m ρ, Cert.Calls.frame_AbOutW,
  fun m ρ _ => Cert.AbOutH.Gen.frame m ρ, fun m ρ _ => Cert.AbOutHIdeal.Gen.frame m ρ, Cert.Calls.frame_AbOutH,
  fun m ρ _ => Cert.Up0.Gen.frame m ρ, fun m ρ _ => Cert.Up0Ideal.Gen.frame m ρ, Cert.Calls.frame_Up0,
  fun m ρ _ => Cert.Up1.Gen.frame m ρ, fun m ρ _ => Cert.Up1Ideal.Gen.frame m ρ, Cert.Calls.frame_Up1,
  fun m ρ _ => Cert.CIn.Gen.frame m ρ, fun m ρ _ => Cert.CInIdeal.Gen.frame m ρ, Cert.Calls.frame_CIn,
  fun m ρ _ => Cert.AbIn.Gen.frame m ρ, fun m ρ _ => Cert.AbInIdeal.Gen.frame m ρ, Cert.Calls.frame_AbIn,
  fun m ρ _ => Cert.AbOut.Gen.frame m ρ, fun m ρ _ => Cert.AbOutIdeal.Gen.frame m ρ, Cert.Calls.frame_AbOut,
  fun m ρ _ => Cert.COut.Gen.frame m ρ, fun m ρ _ => Cert.COutIdeal.Gen.frame m ρ, Cert.Calls.frame_COut,
  fun m ρ _ => Cert.Norm.Gen.frame m ρ, fun m ρ _ => Cert.NormIdeal.Gen.frame m ρ, Cert.Calls.frame_Norm,
  fun m ρ _ => Cert.ConvGlu.Gen.frame m ρ, fun m ρ _ => Cert.ConvGluIdeal.Gen.frame m ρ, fun m ρ _ => Cert.ConvGluIdeal.Gen.frame m ρ,
  Cert.Calls.frame_ConvGlu, fun m ρ _ => Cert.Calls.frame_ConvGlu m ρ trivial,
  preserves, algebraic,
  trivial, Cert.Calls.algebraic_UpW,
  trivial, Cert.Calls.algebraic_UpH,
  trivial, Cert.Calls.algebraic_UpH1,
  trivial, Cert.Calls.algebraic_DownW,
  trivial, Cert.Calls.algebraic_DownH,
  trivial, Cert.Calls.algebraic_CInW,
  trivial, Cert.Calls.algebraic_CInH,
  trivial, Cert.Calls.algebraic_COutW,
  trivial, Cert.Calls.algebraic_COutH,
  trivial, Cert.Calls.algebraic_AbOutW,
  trivial, Cert.Calls.algebraic_AbOutH,
  trivial, Cert.Calls.algebraic_Up0,
  trivial, Cert.Calls.algebraic_Up1,
  trivial, Cert.Calls.algebraic_CIn,
  trivial, Cert.Calls.algebraic_AbIn,
  trivial, Cert.Calls.algebraic_AbOut,
  trivial, Cert.Calls.algebraic_COut,
  trivial, Cert.Calls.algebraic_Norm,
  Cert.Calls.preserves_ConvGlu, Cert.Calls.algebraic_ConvGlu⟩

end Cert.Proof

end
